-- ==== Defs.lean ====
def Pre_Mem (m : (ℓ : Loc Cert.Mem.nD Cert.Mem.τ Cert.Mem.sig) → Buf (Elt Bits) ℓ) : Prop :=
  True

def Pre_MemIdeal (m : (ℓ : Loc Cert.MemIdeal.nD Cert.MemIdeal.τ Cert.MemIdeal.sig) → Buf (Elt Ideal) ℓ) : Prop :=
  True

def Pre_MemIdeal_scores_finite [hPre_scores_finite : Cert.Pre_scores_finite.Facts] (m : (ℓ : Loc Cert.MemIdeal.nD Cert.MemIdeal.τ Cert.MemIdeal.sig) → Buf (Elt Ideal) ℓ) : Prop :=
  ∀ c : Dev Cert.MemIdeal.nD,
    (Cert.Pre_scores_finite.fn (F := Ideal) (m ((c.tc : Thread Cert.MemIdeal.nD Cert.MemIdeal.τ).loc Cert.MemIdeal.main_arg0)) (m ((c.tc : Thread Cert.MemIdeal.nD Cert.MemIdeal.τ).loc Cert.MemIdeal.main_arg1)) (m ((c.tc : Thread Cert.MemIdeal.nD Cert.MemIdeal.τ).loc Cert.MemIdeal.main_arg2))).1 = (fun _ => 1#1)
    ∧ (Cert.Pre_scores_finite.fn (F := Ideal) (m ((c.tc : Thread Cert.MemIdeal.nD Cert.MemIdeal.τ).loc Cert.MemIdeal.main_arg0)) (m ((c.tc : Thread Cert.MemIdeal.nD Cert.MemIdeal.τ).loc Cert.MemIdeal.main_arg1)) (m ((c.tc : Thread Cert.MemIdeal.nD Cert.MemIdeal.τ).loc Cert.MemIdeal.main_arg2))).2 = (fun _ => 1#1)

def Pre_RefMemIdeal (m : (ℓ : Loc Cert.RefMemIdeal.nD Cert.RefMemIdeal.τ Cert.RefMemIdeal.sig) → Buf (Elt Ideal) ℓ) : Prop :=
  True

def Pre_RefMemIdeal_scores_finite [hPre_scores_finite : Cert.Pre_scores_finite.Facts] (m : (ℓ : Loc Cert.RefMemIdeal.nD Cert.RefMemIdeal.τ Cert.RefMemIdeal.sig) → Buf (Elt Ideal) ℓ) : Prop :=
  ∀ c : Dev Cert.RefMemIdeal.nD,
    (Cert.Pre_scores_finite.fn (F := Ideal) (m ((c.tc : Thread Cert.RefMemIdeal.nD Cert.RefMemIdeal.τ).loc Cert.RefMemIdeal.main_arg0)) (m ((c.tc : Thread Cert.RefMemIdeal.nD Cert.RefMemIdeal.τ).loc Cert.RefMemIdeal.main_arg1)) (m ((c.tc : Thread Cert.RefMemIdeal.nD Cert.RefMemIdeal.τ).loc Cert.RefMemIdeal.main_arg2))).1 = (fun _ => 1#1)
    ∧ (Cert.Pre_scores_finite.fn (F := Ideal) (m ((c.tc : Thread Cert.RefMemIdeal.nD Cert.RefMemIdeal.τ).loc Cert.RefMemIdeal.main_arg0)) (m ((c.tc : Thread Cert.RefMemIdeal.nD Cert.RefMemIdeal.τ).loc Cert.RefMemIdeal.main_arg1)) (m ((c.tc : Thread Cert.RefMemIdeal.nD Cert.RefMemIdeal.τ).loc Cert.RefMemIdeal.main_arg2))).2 = (fun _ => 1#1)

def Pre_DwDown (m : (ℓ : Loc Cert.DwDown.nD Cert.DwDown.τ Cert.DwDown.sig) → Buf (Elt Bits) ℓ) : Prop :=
  True

def Pre_DwDownIdeal (m : (ℓ : Loc Cert.DwDownIdeal.nD Cert.DwDownIdeal.τ Cert.DwDownIdeal.sig) → Buf (Elt Ideal) ℓ) : Prop :=
  True

def Pre_RefDwDownIdeal (m : (ℓ : Loc Cert.RefDwDownIdeal.nD Cert.RefDwDownIdeal.τ Cert.RefDwDownIdeal.sig) → Buf (Elt Ideal) ℓ) : Prop :=
  True

def Pre_DwUp (m : (ℓ : Loc Cert.DwUp.nD Cert.DwUp.τ Cert.DwUp.sig) → Buf (Elt Bits) ℓ) : Prop :=
  True

def Pre_DwUpIdeal (m : (ℓ : Loc Cert.DwUpIdeal.nD Cert.DwUpIdeal.τ Cert.DwUpIdeal.sig) → Buf (Elt Ideal) ℓ) : Prop :=
  True

def Pre_RefDwUpIdeal (m : (ℓ : Loc Cert.RefDwUpIdeal.nD Cert.RefDwUpIdeal.τ Cert.RefDwUpIdeal.sig) → Buf (Elt Ideal) ℓ) : Prop :=
  True

def Pre_DwSq (m : (ℓ : Loc Cert.DwSq.nD Cert.DwSq.τ Cert.DwSq.sig) → Buf (Elt Bits) ℓ) : Prop :=
  True

def Pre_DwSqIdeal (m : (ℓ : Loc Cert.DwSqIdeal.nD Cert.DwSqIdeal.τ Cert.DwSqIdeal.sig) → Buf (Elt Ideal) ℓ) : Prop :=
  True

def Pre_RefDwSqIdeal (m : (ℓ : Loc Cert.RefDwSqIdeal.nD Cert.RefDwSqIdeal.τ Cert.RefDwSqIdeal.sig) → Buf (Elt Ideal) ℓ) : Prop :=
  True

def Pre_DwMkv (m : (ℓ : Loc Cert.DwMkv.nD Cert.DwMkv.τ Cert.DwMkv.sig) → Buf (Elt Bits) ℓ) : Prop :=
  True

def Pre_DwMkvIdeal (m : (ℓ : Loc Cert.DwMkvIdeal.nD Cert.DwMkvIdeal.τ Cert.DwMkvIdeal.sig) → Buf (Elt Ideal) ℓ) : Prop :=
  True

def Pre_RefDwMkvIdeal (m : (ℓ : Loc Cert.RefDwMkvIdeal.nD Cert.RefDwMkvIdeal.τ Cert.RefDwMkvIdeal.sig) → Buf (Elt Ideal) ℓ) : Prop :=
  True

def Pre_DwIn (m : (ℓ : Loc Cert.DwIn.nD Cert.DwIn.τ Cert.DwIn.sig) → Buf (Elt Bits) ℓ) : Prop :=
  True

def Pre_DwInIdeal (m : (ℓ : Loc Cert.DwInIdeal.nD Cert.DwInIdeal.τ Cert.DwInIdeal.sig) → Buf (Elt Ideal) ℓ) : Prop :=
  True

def Pre_RefDwInIdeal (m : (ℓ : Loc Cert.RefDwInIdeal.nD Cert.RefDwInIdeal.τ Cert.RefDwInIdeal.sig) → Buf (Elt Ideal) ℓ) : Prop :=
  True

def Pre_Du (m : (ℓ : Loc Cert.Du.nD Cert.Du.τ Cert.Du.sig) → Buf (Elt Bits) ℓ) : Prop :=
  True

def Pre_DuIdeal (m : (ℓ : Loc Cert.DuIdeal.nD Cert.DuIdeal.τ Cert.DuIdeal.sig) → Buf (Elt Ideal) ℓ) : Prop :=
  True

def Pre_RefDuIdeal (m : (ℓ : Loc Cert.RefDuIdeal.nD Cert.RefDuIdeal.τ Cert.RefDuIdeal.sig) → Buf (Elt Ideal) ℓ) : Prop :=
  True

def Pre_Do (m : (ℓ : Loc Cert.Do.nD Cert.Do.τ Cert.Do.sig) → Buf (Elt Bits) ℓ) : Prop :=
  True

def Pre_DoIdeal (m : (ℓ : Loc Cert.DoIdeal.nD Cert.DoIdeal.τ Cert.DoIdeal.sig) → Buf (Elt Ideal) ℓ) : Prop :=
  True

def Pre_RefDoIdeal (m : (ℓ : Loc Cert.RefDoIdeal.nD Cert.RefDoIdeal.τ Cert.RefDoIdeal.sig) → Buf (Elt Ideal) ℓ) : Prop :=
  True

def Pre_Dymix (m : (ℓ : Loc Cert.Dymix.nD Cert.Dymix.τ Cert.Dymix.sig) → Buf (Elt Bits) ℓ) : Prop :=
  True

def Pre_DymixIdeal (m : (ℓ : Loc Cert.DymixIdeal.nD Cert.DymixIdeal.τ Cert.DymixIdeal.sig) → Buf (Elt Ideal) ℓ) : Prop :=
  True

def Pre_RefDymixIdeal (m : (ℓ : Loc Cert.RefDymixIdeal.nD Cert.RefDymixIdeal.τ Cert.RefDymixIdeal.sig) → Buf (Elt Ideal) ℓ) : Prop :=
  True

def Pre_Dx1 (m : (ℓ : Loc Cert.Dx1.nD Cert.Dx1.τ Cert.Dx1.sig) → Buf (Elt Bits) ℓ) : Prop :=
  True

def Pre_Dx1Ideal (m : (ℓ : Loc Cert.Dx1Ideal.nD Cert.Dx1Ideal.τ Cert.Dx1Ideal.sig) → Buf (Elt Ideal) ℓ) : Prop :=
  True

def Pre_RefDx1Ideal (m : (ℓ : Loc Cert.RefDx1Ideal.nD Cert.RefDx1Ideal.τ Cert.RefDx1Ideal.sig) → Buf (Elt Ideal) ℓ) : Prop :=
  True

def Pre_Dx2 (m : (ℓ : Loc Cert.Dx2.nD Cert.Dx2.τ Cert.Dx2.sig) → Buf (Elt Bits) ℓ) : Prop :=
  True

def Pre_Dx2Ideal (m : (ℓ : Loc Cert.Dx2Ideal.nD Cert.Dx2Ideal.τ Cert.Dx2Ideal.sig) → Buf (Elt Ideal) ℓ) : Prop :=
  True

def Pre_RefDx2Ideal (m : (ℓ : Loc Cert.RefDx2Ideal.nD Cert.RefDx2Ideal.τ Cert.RefDx2Ideal.sig) → Buf (Elt Ideal) ℓ) : Prop :=
  True

def Pre_Dx0 (m : (ℓ : Loc Cert.Dx0.nD Cert.Dx0.τ Cert.Dx0.sig) → Buf (Elt Bits) ℓ) : Prop :=
  True

def Pre_Dx0Ideal (m : (ℓ : Loc Cert.Dx0Ideal.nD Cert.Dx0Ideal.τ Cert.Dx0Ideal.sig) → Buf (Elt Ideal) ℓ) : Prop :=
  True

def Pre_RefDx0Ideal (m : (ℓ : Loc Cert.RefDx0Ideal.nD Cert.RefDx0Ideal.τ Cert.RefDx0Ideal.sig) → Buf (Elt Ideal) ℓ) : Prop :=
  True

def Pre_Hin (m : (ℓ : Loc Cert.Hin.nD Cert.Hin.τ Cert.Hin.sig) → Buf (Elt Bits) ℓ) : Prop :=
  True

def Pre_HinIdeal (m : (ℓ : Loc Cert.HinIdeal.nD Cert.HinIdeal.τ Cert.HinIdeal.sig) → Buf (Elt Ideal) ℓ) : Prop :=
  True

def Pre_RefHinIdeal (m : (ℓ : Loc Cert.RefHinIdeal.nD Cert.RefHinIdeal.τ Cert.RefHinIdeal.sig) → Buf (Elt Ideal) ℓ) : Prop :=
  True

def Pre_Mq (m : (ℓ : Loc Cert.Mq.nD Cert.Mq.τ Cert.Mq.sig) → Buf (Elt Bits) ℓ) : Prop :=
  True

def Pre_MqIdeal (m : (ℓ : Loc Cert.MqIdeal.nD Cert.MqIdeal.τ Cert.MqIdeal.sig) → Buf (Elt Ideal) ℓ) : Prop :=
  True

def Pre_RefMqIdeal (m : (ℓ : Loc Cert.RefMqIdeal.nD Cert.RefMqIdeal.τ Cert.RefMqIdeal.sig) → Buf (Elt Ideal) ℓ) : Prop :=
  True

def Pre_Mkv (m : (ℓ : Loc Cert.Mkv.nD Cert.Mkv.τ Cert.Mkv.sig) → Buf (Elt Bits) ℓ) : Prop :=
  True

def Pre_MkvIdeal (m : (ℓ : Loc Cert.MkvIdeal.nD Cert.MkvIdeal.τ Cert.MkvIdeal.sig) → Buf (Elt Ideal) ℓ) : Prop :=
  True

def Pre_RefMkvIdeal (m : (ℓ : Loc Cert.RefMkvIdeal.nD Cert.RefMkvIdeal.τ Cert.RefMkvIdeal.sig) → Buf (Elt Ideal) ℓ) : Prop :=
  True

def Pre_Up (m : (ℓ : Loc Cert.Up.nD Cert.Up.τ Cert.Up.sig) → Buf (Elt Bits) ℓ) : Prop :=
  True

def Pre_UpIdeal (m : (ℓ : Loc Cert.UpIdeal.nD Cert.UpIdeal.τ Cert.UpIdeal.sig) → Buf (Elt Ideal) ℓ) : Prop :=
  True

def Pre_RefUpIdeal (m : (ℓ : Loc Cert.RefUpIdeal.nD Cert.RefUpIdeal.τ Cert.RefUpIdeal.sig) → Buf (Elt Ideal) ℓ) : Prop :=
  True

def Pre_OutLn (m : (ℓ : Loc Cert.OutLn.nD Cert.OutLn.τ Cert.OutLn.sig) → Buf (Elt Bits) ℓ) : Prop :=
  True

def Pre_OutLnIdeal (m : (ℓ : Loc Cert.OutLnIdeal.nD Cert.OutLnIdeal.τ Cert.OutLnIdeal.sig) → Buf (Elt Ideal) ℓ) : Prop :=
  True

def Pre_RefOutLnIdeal (m : (ℓ : Loc Cert.RefOutLnIdeal.nD Cert.RefOutLnIdeal.τ Cert.RefOutLnIdeal.sig) → Buf (Elt Ideal) ℓ) : Prop :=
  True

def Pre_DownLn (m : (ℓ : Loc Cert.DownLn.nD Cert.DownLn.τ Cert.DownLn.sig) → Buf (Elt Bits) ℓ) : Prop :=
  True

def Pre_DownLnIdeal (m : (ℓ : Loc Cert.DownLnIdeal.nD Cert.DownLnIdeal.τ Cert.DownLnIdeal.sig) → Buf (Elt Ideal) ℓ) : Prop :=
  True

def Pre_RefDownLnIdeal (m : (ℓ : Loc Cert.RefDownLnIdeal.nD Cert.RefDownLnIdeal.τ Cert.RefDownLnIdeal.sig) → Buf (Elt Ideal) ℓ) : Prop :=
  True

def Pre_MemFwd (m : (ℓ : Loc Cert.MemFwd.nD Cert.MemFwd.τ Cert.MemFwd.sig) → Buf (Elt Bits) ℓ) : Prop :=
  True

def Pre_MemFwdIdeal (m : (ℓ : Loc Cert.MemFwdIdeal.nD Cert.MemFwdIdeal.τ Cert.MemFwdIdeal.sig) → Buf (Elt Ideal) ℓ) : Prop :=
  True

def Pre_RefMemFwdIdeal (m : (ℓ : Loc Cert.RefMemFwdIdeal.nD Cert.RefMemFwdIdeal.τ Cert.RefMemFwdIdeal.sig) → Buf (Elt Ideal) ℓ) : Prop :=
  True

def Pre_Rms (m : (ℓ : Loc Cert.Rms.nD Cert.Rms.τ Cert.Rms.sig) → Buf (Elt Bits) ℓ) : Prop :=
  True

def Pre_RmsIdeal (m : (ℓ : Loc Cert.RmsIdeal.nD Cert.RmsIdeal.τ Cert.RmsIdeal.sig) → Buf (Elt Ideal) ℓ) : Prop :=
  True

def Pre_RefRmsIdeal (m : (ℓ : Loc Cert.RefRmsIdeal.nD Cert.RefRmsIdeal.τ Cert.RefRmsIdeal.sig) → Buf (Elt Ideal) ℓ) : Prop :=
  True

def Pre_LnGrad (m : (ℓ : Loc Cert.LnGrad.nD Cert.LnGrad.τ Cert.LnGrad.sig) → Buf (Elt Bits) ℓ) : Prop :=
  True

def Pre_LnGradIdeal (m : (ℓ : Loc Cert.LnGradIdeal.nD Cert.LnGradIdeal.τ Cert.LnGradIdeal.sig) → Buf (Elt Ideal) ℓ) : Prop :=
  True

def Pre_LnGradIdeal_products_finite [hPre_products_finite : Cert.Pre_products_finite.Facts] (m : (ℓ : Loc Cert.LnGradIdeal.nD Cert.LnGradIdeal.τ Cert.LnGradIdeal.sig) → Buf (Elt Ideal) ℓ) : Prop :=
  ∀ c : Dev Cert.LnGradIdeal.nD,
    (Cert.Pre_products_finite.fn (F := Ideal) (m ((c.tc : Thread Cert.LnGradIdeal.nD Cert.LnGradIdeal.τ).loc Cert.LnGradIdeal.main_arg0)) (m ((c.tc : Thread Cert.LnGradIdeal.nD Cert.LnGradIdeal.τ).loc Cert.LnGradIdeal.main_arg1)) (m ((c.tc : Thread Cert.LnGradIdeal.nD Cert.LnGradIdeal.τ).loc Cert.LnGradIdeal.main_arg2))) = (fun _ => 1#1)

def Pre_RefLnGradIdeal (m : (ℓ : Loc Cert.RefLnGradIdeal.nD Cert.RefLnGradIdeal.τ Cert.RefLnGradIdeal.sig) → Buf (Elt Ideal) ℓ) : Prop :=
  True

def Pre_RefLnGradIdeal_products_finite [hPre_products_finite : Cert.Pre_products_finite.Facts] (m : (ℓ : Loc Cert.RefLnGradIdeal.nD Cert.RefLnGradIdeal.τ Cert.RefLnGradIdeal.sig) → Buf (Elt Ideal) ℓ) : Prop :=
  ∀ c : Dev Cert.RefLnGradIdeal.nD,
    (Cert.Pre_products_finite.fn (F := Ideal) (m ((c.tc : Thread Cert.RefLnGradIdeal.nD Cert.RefLnGradIdeal.τ).loc Cert.RefLnGradIdeal.main_arg0)) (m ((c.tc : Thread Cert.RefLnGradIdeal.nD Cert.RefLnGradIdeal.τ).loc Cert.RefLnGradIdeal.main_arg1)) (m ((c.tc : Thread Cert.RefLnGradIdeal.nD Cert.RefLnGradIdeal.τ).loc Cert.RefLnGradIdeal.main_arg2))) = (fun _ => 1#1)

def Pre_RmsGrad (m : (ℓ : Loc Cert.RmsGrad.nD Cert.RmsGrad.τ Cert.RmsGrad.sig) → Buf (Elt Bits) ℓ) : Prop :=
  True

def Pre_RmsGradIdeal (m : (ℓ : Loc Cert.RmsGradIdeal.nD Cert.RmsGradIdeal.τ Cert.RmsGradIdeal.sig) → Buf (Elt Ideal) ℓ) : Prop :=
  True

def Pre_RefRmsGradIdeal (m : (ℓ : Loc Cert.RefRmsGradIdeal.nD Cert.RefRmsGradIdeal.τ Cert.RefRmsGradIdeal.sig) → Buf (Elt Ideal) ℓ) : Prop :=
  True

def Pre_Loss (m : (ℓ : Loc Cert.Loss.nD Cert.Loss.τ Cert.Loss.sig) → Buf (Elt Bits) ℓ) : Prop :=
  True

def Pre_LossIdeal (m : (ℓ : Loc Cert.LossIdeal.nD Cert.LossIdeal.τ Cert.LossIdeal.sig) → Buf (Elt Ideal) ℓ) : Prop :=
  True

def Pre_RefLossIdeal (m : (ℓ : Loc Cert.RefLossIdeal.nD Cert.RefLossIdeal.τ Cert.RefLossIdeal.sig) → Buf (Elt Ideal) ℓ) : Prop :=
  True

def Pre_AdamIn (m : (ℓ : Loc Cert.AdamIn.nD Cert.AdamIn.τ Cert.AdamIn.sig) → Buf (Elt Bits) ℓ) : Prop :=
  True

def Pre_AdamInIdeal (m : (ℓ : Loc Cert.AdamInIdeal.nD Cert.AdamInIdeal.τ Cert.AdamInIdeal.sig) → Buf (Elt Ideal) ℓ) : Prop :=
  True

def Pre_RefAdamInIdeal (m : (ℓ : Loc Cert.RefAdamInIdeal.nD Cert.RefAdamInIdeal.τ Cert.RefAdamInIdeal.sig) → Buf (Elt Ideal) ℓ) : Prop :=
  True

def Pre_AdamSq (m : (ℓ : Loc Cert.AdamSq.nD Cert.AdamSq.τ Cert.AdamSq.sig) → Buf (Elt Bits) ℓ) : Prop :=
  True

def Pre_AdamSqIdeal (m : (ℓ : Loc Cert.AdamSqIdeal.nD Cert.AdamSqIdeal.τ Cert.AdamSqIdeal.sig) → Buf (Elt Ideal) ℓ) : Prop :=
  True

def Pre_RefAdamSqIdeal (m : (ℓ : Loc Cert.RefAdamSqIdeal.nD Cert.RefAdamSqIdeal.τ Cert.RefAdamSqIdeal.sig) → Buf (Elt Ideal) ℓ) : Prop :=
  True

def Pre_AdamMkv (m : (ℓ : Loc Cert.AdamMkv.nD Cert.AdamMkv.τ Cert.AdamMkv.sig) → Buf (Elt Bits) ℓ) : Prop :=
  True

def Pre_AdamMkvIdeal (m : (ℓ : Loc Cert.AdamMkvIdeal.nD Cert.AdamMkvIdeal.τ Cert.AdamMkvIdeal.sig) → Buf (Elt Ideal) ℓ) : Prop :=
  True

def Pre_RefAdamMkvIdeal (m : (ℓ : Loc Cert.RefAdamMkvIdeal.nD Cert.RefAdamMkvIdeal.τ Cert.RefAdamMkvIdeal.sig) → Buf (Elt Ideal) ℓ) : Prop :=
  True

def Pre_AdamUp (m : (ℓ : Loc Cert.AdamUp.nD Cert.AdamUp.τ Cert.AdamUp.sig) → Buf (Elt Bits) ℓ) : Prop :=
  True

def Pre_AdamUpIdeal (m : (ℓ : Loc Cert.AdamUpIdeal.nD Cert.AdamUpIdeal.τ Cert.AdamUpIdeal.sig) → Buf (Elt Ideal) ℓ) : Prop :=
  True

def Pre_RefAdamUpIdeal (m : (ℓ : Loc Cert.RefAdamUpIdeal.nD Cert.RefAdamUpIdeal.τ Cert.RefAdamUpIdeal.sig) → Buf (Elt Ideal) ℓ) : Prop :=
  True

def Pre_AdamSmall (m : (ℓ : Loc Cert.AdamSmall.nD Cert.AdamSmall.τ Cert.AdamSmall.sig) → Buf (Elt Bits) ℓ) : Prop :=
  True

def Pre_AdamSmallIdeal (m : (ℓ : Loc Cert.AdamSmallIdeal.nD Cert.AdamSmallIdeal.τ Cert.AdamSmallIdeal.sig) → Buf (Elt Ideal) ℓ) : Prop :=
  True

def Pre_RefAdamSmallIdeal (m : (ℓ : Loc Cert.RefAdamSmallIdeal.nD Cert.RefAdamSmallIdeal.τ Cert.RefAdamSmallIdeal.sig) → Buf (Elt Ideal) ℓ) : Prop :=
  True

def Pre_Window (m : (ℓ : Loc Cert.Window.nD Cert.Window.τ Cert.Window.sig) → Buf (Elt Bits) ℓ) : Prop :=
  True

def Pre_WindowIdeal (m : (ℓ : Loc Cert.WindowIdeal.nD Cert.WindowIdeal.τ Cert.WindowIdeal.sig) → Buf (Elt Ideal) ℓ) : Prop :=
  True

def Pre_RefWindowIdeal (m : (ℓ : Loc Cert.RefWindowIdeal.nD Cert.RefWindowIdeal.τ Cert.RefWindowIdeal.sig) → Buf (Elt Ideal) ℓ) : Prop :=
  True

def Pre_LossSum (m : (ℓ : Loc Cert.LossSum.nD Cert.LossSum.τ Cert.LossSum.sig) → Buf (Elt Bits) ℓ) : Prop :=
  True

def Pre_LossSumIdeal (m : (ℓ : Loc Cert.LossSumIdeal.nD Cert.LossSumIdeal.τ Cert.LossSumIdeal.sig) → Buf (Elt Ideal) ℓ) : Prop :=
  True

def Pre_RefLossSumIdeal (m : (ℓ : Loc Cert.RefLossSumIdeal.nD Cert.RefLossSumIdeal.τ Cert.RefLossSumIdeal.sig) → Buf (Elt Ideal) ℓ) : Prop :=
  True

def Pre_LossAll (m : (ℓ : Loc Cert.LossAll.nD Cert.LossAll.τ Cert.LossAll.sig) → Buf (Elt Bits) ℓ) : Prop :=
  True

def Pre_LossAllIdeal (m : (ℓ : Loc Cert.LossAllIdeal.nD Cert.LossAllIdeal.τ Cert.LossAllIdeal.sig) → Buf (Elt Ideal) ℓ) : Prop :=
  True

def Pre_RefLossAllIdeal (m : (ℓ : Loc Cert.RefLossAllIdeal.nD Cert.RefLossAllIdeal.τ Cert.RefLossAllIdeal.sig) → Buf (Elt Ideal) ℓ) : Prop :=
  True

def Pre_LnGains (m : (ℓ : Loc Cert.LnGains.nD Cert.LnGains.τ Cert.LnGains.sig) → Buf (Elt Bits) ℓ) : Prop :=
  True

def Pre_LnGainsIdeal (m : (ℓ : Loc Cert.LnGainsIdeal.nD Cert.LnGainsIdeal.τ Cert.LnGainsIdeal.sig) → Buf (Elt Ideal) ℓ) : Prop :=
  True

def Pre_RefLnGainsIdeal (m : (ℓ : Loc Cert.RefLnGainsIdeal.nD Cert.RefLnGainsIdeal.τ Cert.RefLnGainsIdeal.sig) → Buf (Elt Ideal) ℓ) : Prop :=
  True

def Pre_RmsGains (m : (ℓ : Loc Cert.RmsGains.nD Cert.RmsGains.τ Cert.RmsGains.sig) → Buf (Elt Bits) ℓ) : Prop :=
  True

def Pre_RmsGainsIdeal (m : (ℓ : Loc Cert.RmsGainsIdeal.nD Cert.RmsGainsIdeal.τ Cert.RmsGainsIdeal.sig) → Buf (Elt Ideal) ℓ) : Prop :=
  True

def Pre_RefRmsGainsIdeal (m : (ℓ : Loc Cert.RefRmsGainsIdeal.nD Cert.RefRmsGainsIdeal.τ Cert.RefRmsGainsIdeal.sig) → Buf (Elt Ideal) ℓ) : Prop :=
  True

def quiescent_Mem [hMem : Cert.Mem.Facts] : Prop :=
  ∀ (m : (ℓ : Loc Cert.Mem.nD Cert.Mem.τ Cert.Mem.sig) → Buf (Elt Bits) ℓ) (g : Dev Cert.Mem.nD → PrngReg), Pre_Mem m →
    θ_run (Cert.Mem.defs (F := Bits)) (onTc (τ := Cert.Mem.τ) (Cert.Mem.main (F := Bits))) ⟨m, fun _ => 0, g⟩ (fun r => (∀ c : Dev Cert.Mem.nD,
      r.2.mem ((c.tc : Thread Cert.Mem.nD Cert.Mem.τ).loc Cert.Mem.main_arg0) = m ((c.tc : Thread Cert.Mem.nD Cert.Mem.τ).loc Cert.Mem.main_arg0)
      ∧ r.2.mem ((c.tc : Thread Cert.Mem.nD Cert.Mem.τ).loc Cert.Mem.main_arg1) = m ((c.tc : Thread Cert.Mem.nD Cert.Mem.τ).loc Cert.Mem.main_arg1)
      ∧ r.2.mem ((c.tc : Thread Cert.Mem.nD Cert.Mem.τ).loc Cert.Mem.main_arg2) = m ((c.tc : Thread Cert.Mem.nD Cert.Mem.τ).loc Cert.Mem.main_arg2))
      ∧ r.2.sem = fun _ => 0)

def quiescent_MemIdeal [hMemIdeal : Cert.MemIdeal.Facts] : Prop :=
  ∀ (m : (ℓ : Loc Cert.MemIdeal.nD Cert.MemIdeal.τ Cert.MemIdeal.sig) → Buf (Elt Ideal) ℓ) (g : Dev Cert.MemIdeal.nD → PrngReg), Pre_MemIdeal m →
    θ_run (Cert.MemIdeal.defs (F := Ideal)) (onTc (τ := Cert.MemIdeal.τ) (Cert.MemIdeal.main (F := Ideal))) ⟨m, fun _ => 0, g⟩ (fun r => (∀ c : Dev Cert.MemIdeal.nD,
      r.2.mem ((c.tc : Thread Cert.MemIdeal.nD Cert.MemIdeal.τ).loc Cert.MemIdeal.main_arg0) = m ((c.tc : Thread Cert.MemIdeal.nD Cert.MemIdeal.τ).loc Cert.MemIdeal.main_arg0)
      ∧ r.2.mem ((c.tc : Thread Cert.MemIdeal.nD Cert.MemIdeal.τ).loc Cert.MemIdeal.main_arg1) = m ((c.tc : Thread Cert.MemIdeal.nD Cert.MemIdeal.τ).loc Cert.MemIdeal.main_arg1)
      ∧ r.2.mem ((c.tc : Thread Cert.MemIdeal.nD Cert.MemIdeal.τ).loc Cert.MemIdeal.main_arg2) = m ((c.tc : Thread Cert.MemIdeal.nD Cert.MemIdeal.τ).loc Cert.MemIdeal.main_arg2))
      ∧ r.2.sem = fun _ => 0)

def quiescent_MemIdeal_pre_scores_finite [hMemIdeal : Cert.MemIdeal.Facts] [hPre_scores_finite : Cert.Pre_scores_finite.Facts] : Prop :=
  ∀ (m : (ℓ : Loc Cert.MemIdeal.nD Cert.MemIdeal.τ Cert.MemIdeal.sig) → Buf (Elt Ideal) ℓ) (g : Dev Cert.MemIdeal.nD → PrngReg), Pre_MemIdeal_scores_finite m →
    θ_run (Cert.MemIdeal.defs (F := Ideal)) (onTc (τ := Cert.MemIdeal.τ) (Cert.MemIdeal.main (F := Ideal))) ⟨m, fun _ => 0, g⟩ (fun r => (∀ c : Dev Cert.MemIdeal.nD,
      r.2.mem ((c.tc : Thread Cert.MemIdeal.nD Cert.MemIdeal.τ).loc Cert.MemIdeal.main_arg0) = m ((c.tc : Thread Cert.MemIdeal.nD Cert.MemIdeal.τ).loc Cert.MemIdeal.main_arg0)
      ∧ r.2.mem ((c.tc : Thread Cert.MemIdeal.nD Cert.MemIdeal.τ).loc Cert.MemIdeal.main_arg1) = m ((c.tc : Thread Cert.MemIdeal.nD Cert.MemIdeal.τ).loc Cert.MemIdeal.main_arg1)
      ∧ r.2.mem ((c.tc : Thread Cert.MemIdeal.nD Cert.MemIdeal.τ).loc Cert.MemIdeal.main_arg2) = m ((c.tc : Thread Cert.MemIdeal.nD Cert.MemIdeal.τ).loc Cert.MemIdeal.main_arg2))
      ∧ r.2.sem = fun _ => 0)

def quiescent_RefMemIdeal [hRefMemIdeal : Cert.RefMemIdeal.Facts] : Prop :=
  ∀ (m : (ℓ : Loc Cert.RefMemIdeal.nD Cert.RefMemIdeal.τ Cert.RefMemIdeal.sig) → Buf (Elt Ideal) ℓ) (g : Dev Cert.RefMemIdeal.nD → PrngReg), Pre_RefMemIdeal m →
    θ_run (Cert.RefMemIdeal.defs (F := Ideal)) (onTc (τ := Cert.RefMemIdeal.τ) (Cert.RefMemIdeal.main (F := Ideal))) ⟨m, fun _ => 0, g⟩ (fun r => (∀ c : Dev Cert.RefMemIdeal.nD,
      r.2.mem ((c.tc : Thread Cert.RefMemIdeal.nD Cert.RefMemIdeal.τ).loc Cert.RefMemIdeal.main_arg0) = m ((c.tc : Thread Cert.RefMemIdeal.nD Cert.RefMemIdeal.τ).loc Cert.RefMemIdeal.main_arg0)
      ∧ r.2.mem ((c.tc : Thread Cert.RefMemIdeal.nD Cert.RefMemIdeal.τ).loc Cert.RefMemIdeal.main_arg1) = m ((c.tc : Thread Cert.RefMemIdeal.nD Cert.RefMemIdeal.τ).loc Cert.RefMemIdeal.main_arg1)
      ∧ r.2.mem ((c.tc : Thread Cert.RefMemIdeal.nD Cert.RefMemIdeal.τ).loc Cert.RefMemIdeal.main_arg2) = m ((c.tc : Thread Cert.RefMemIdeal.nD Cert.RefMemIdeal.τ).loc Cert.RefMemIdeal.main_arg2))
      ∧ r.2.sem = fun _ => 0)

def quiescent_RefMemIdeal_pre_scores_finite [hRefMemIdeal : Cert.RefMemIdeal.Facts] [hPre_scores_finite : Cert.Pre_scores_finite.Facts] : Prop :=
  ∀ (m : (ℓ : Loc Cert.RefMemIdeal.nD Cert.RefMemIdeal.τ Cert.RefMemIdeal.sig) → Buf (Elt Ideal) ℓ) (g : Dev Cert.RefMemIdeal.nD → PrngReg), Pre_RefMemIdeal_scores_finite m →
    θ_run (Cert.RefMemIdeal.defs (F := Ideal)) (onTc (τ := Cert.RefMemIdeal.τ) (Cert.RefMemIdeal.main (F := Ideal))) ⟨m, fun _ => 0, g⟩ (fun r => (∀ c : Dev Cert.RefMemIdeal.nD,
      r.2.mem ((c.tc : Thread Cert.RefMemIdeal.nD Cert.RefMemIdeal.τ).loc Cert.RefMemIdeal.main_arg0) = m ((c.tc : Thread Cert.RefMemIdeal.nD Cert.RefMemIdeal.τ).loc Cert.RefMemIdeal.main_arg0)
      ∧ r.2.mem ((c.tc : Thread Cert.RefMemIdeal.nD Cert.RefMemIdeal.τ).loc Cert.RefMemIdeal.main_arg1) = m ((c.tc : Thread Cert.RefMemIdeal.nD Cert.RefMemIdeal.τ).loc Cert.RefMemIdeal.main_arg1)
      ∧ r.2.mem ((c.tc : Thread Cert.RefMemIdeal.nD Cert.RefMemIdeal.τ).loc Cert.RefMemIdeal.main_arg2) = m ((c.tc : Thread Cert.RefMemIdeal.nD Cert.RefMemIdeal.τ).loc Cert.RefMemIdeal.main_arg2))
      ∧ r.2.sem = fun _ => 0)

def quiescent_DwDown [hDwDown : Cert.DwDown.Facts] : Prop :=
  ∀ (m : (ℓ : Loc Cert.DwDown.nD Cert.DwDown.τ Cert.DwDown.sig) → Buf (Elt Bits) ℓ) (g : Dev Cert.DwDown.nD → PrngReg), Pre_DwDown m →
    θ_run (Cert.DwDown.defs (F := Bits)) (onTc (τ := Cert.DwDown.τ) (Cert.DwDown.main (F := Bits))) ⟨m, fun _ => 0, g⟩ (fun r => (∀ c : Dev Cert.DwDown.nD,
      r.2.mem ((c.tc : Thread Cert.DwDown.nD Cert.DwDown.τ).loc Cert.DwDown.main_arg0) = m ((c.tc : Thread Cert.DwDown.nD Cert.DwDown.τ).loc Cert.DwDown.main_arg0)
      ∧ r.2.mem ((c.tc : Thread Cert.DwDown.nD Cert.DwDown.τ).loc Cert.DwDown.main_arg1) = m ((c.tc : Thread Cert.DwDown.nD Cert.DwDown.τ).loc Cert.DwDown.main_arg1))
      ∧ r.2.sem = fun _ => 0)

def quiescent_DwDownIdeal [hDwDownIdeal : Cert.DwDownIdeal.Facts] : Prop :=
  ∀ (m : (ℓ : Loc Cert.DwDownIdeal.nD Cert.DwDownIdeal.τ Cert.DwDownIdeal.sig) → Buf (Elt Ideal) ℓ) (g : Dev Cert.DwDownIdeal.nD → PrngReg), Pre_DwDownIdeal m →
    θ_run (Cert.DwDownIdeal.defs (F := Ideal)) (onTc (τ := Cert.DwDownIdeal.τ) (Cert.DwDownIdeal.main (F := Ideal))) ⟨m, fun _ => 0, g⟩ (fun r => (∀ c : Dev Cert.DwDownIdeal.nD,
      r.2.mem ((c.tc : Thread Cert.DwDownIdeal.nD Cert.DwDownIdeal.τ).loc Cert.DwDownIdeal.main_arg0) = m ((c.tc : Thread Cert.DwDownIdeal.nD Cert.DwDownIdeal.τ).loc Cert.DwDownIdeal.main_arg0)
      ∧ r.2.mem ((c.tc : Thread Cert.DwDownIdeal.nD Cert.DwDownIdeal.τ).loc Cert.DwDownIdeal.main_arg1) = m ((c.tc : Thread Cert.DwDownIdeal.nD Cert.DwDownIdeal.τ).loc Cert.DwDownIdeal.main_arg1))
      ∧ r.2.sem = fun _ => 0)

def quiescent_RefDwDownIdeal [hRefDwDownIdeal : Cert.RefDwDownIdeal.Facts] : Prop :=
  ∀ (m : (ℓ : Loc Cert.RefDwDownIdeal.nD Cert.RefDwDownIdeal.τ Cert.RefDwDownIdeal.sig) → Buf (Elt Ideal) ℓ) (g : Dev Cert.RefDwDownIdeal.nD → PrngReg), Pre_RefDwDownIdeal m →
    θ_run (Cert.RefDwDownIdeal.defs (F := Ideal)) (onTc (τ := Cert.RefDwDownIdeal.τ) (Cert.RefDwDownIdeal.main (F := Ideal))) ⟨m, fun _ => 0, g⟩ (fun r => (∀ c : Dev Cert.RefDwDownIdeal.nD,
      r.2.mem ((c.tc : Thread Cert.RefDwDownIdeal.nD Cert.RefDwDownIdeal.τ).loc Cert.RefDwDownIdeal.main_arg0) = m ((c.tc : Thread Cert.RefDwDownIdeal.nD Cert.RefDwDownIdeal.τ).loc Cert.RefDwDownIdeal.main_arg0)
      ∧ r.2.mem ((c.tc : Thread Cert.RefDwDownIdeal.nD Cert.RefDwDownIdeal.τ).loc Cert.RefDwDownIdeal.main_arg1) = m ((c.tc : Thread Cert.RefDwDownIdeal.nD Cert.RefDwDownIdeal.τ).loc Cert.RefDwDownIdeal.main_arg1))
      ∧ r.2.sem = fun _ => 0)

def quiescent_DwUp [hDwUp : Cert.DwUp.Facts] : Prop :=
  ∀ (m : (ℓ : Loc Cert.DwUp.nD Cert.DwUp.τ Cert.DwUp.sig) → Buf (Elt Bits) ℓ) (g : Dev Cert.DwUp.nD → PrngReg), Pre_DwUp m →
    θ_run (Cert.DwUp.defs (F := Bits)) (onTc (τ := Cert.DwUp.τ) (Cert.DwUp.main (F := Bits))) ⟨m, fun _ => 0, g⟩ (fun r => (∀ c : Dev Cert.DwUp.nD,
      r.2.mem ((c.tc : Thread Cert.DwUp.nD Cert.DwUp.τ).loc Cert.DwUp.main_arg0) = m ((c.tc : Thread Cert.DwUp.nD Cert.DwUp.τ).loc Cert.DwUp.main_arg0)
      ∧ r.2.mem ((c.tc : Thread Cert.DwUp.nD Cert.DwUp.τ).loc Cert.DwUp.main_arg1) = m ((c.tc : Thread Cert.DwUp.nD Cert.DwUp.τ).loc Cert.DwUp.main_arg1))
      ∧ r.2.sem = fun _ => 0)

def quiescent_DwUpIdeal [hDwUpIdeal : Cert.DwUpIdeal.Facts] : Prop :=
  ∀ (m : (ℓ : Loc Cert.DwUpIdeal.nD Cert.DwUpIdeal.τ Cert.DwUpIdeal.sig) → Buf (Elt Ideal) ℓ) (g : Dev Cert.DwUpIdeal.nD → PrngReg), Pre_DwUpIdeal m →
    θ_run (Cert.DwUpIdeal.defs (F := Ideal)) (onTc (τ := Cert.DwUpIdeal.τ) (Cert.DwUpIdeal.main (F := Ideal))) ⟨m, fun _ => 0, g⟩ (fun r => (∀ c : Dev Cert.DwUpIdeal.nD,
      r.2.mem ((c.tc : Thread Cert.DwUpIdeal.nD Cert.DwUpIdeal.τ).loc Cert.DwUpIdeal.main_arg0) = m ((c.tc : Thread Cert.DwUpIdeal.nD Cert.DwUpIdeal.τ).loc Cert.DwUpIdeal.main_arg0)
      ∧ r.2.mem ((c.tc : Thread Cert.DwUpIdeal.nD Cert.DwUpIdeal.τ).loc Cert.DwUpIdeal.main_arg1) = m ((c.tc : Thread Cert.DwUpIdeal.nD Cert.DwUpIdeal.τ).loc Cert.DwUpIdeal.main_arg1))
      ∧ r.2.sem = fun _ => 0)

def quiescent_RefDwUpIdeal [hRefDwUpIdeal : Cert.RefDwUpIdeal.Facts] : Prop :=
  ∀ (m : (ℓ : Loc Cert.RefDwUpIdeal.nD Cert.RefDwUpIdeal.τ Cert.RefDwUpIdeal.sig) → Buf (Elt Ideal) ℓ) (g : Dev Cert.RefDwUpIdeal.nD → PrngReg), Pre_RefDwUpIdeal m →
    θ_run (Cert.RefDwUpIdeal.defs (F := Ideal)) (onTc (τ := Cert.RefDwUpIdeal.τ) (Cert.RefDwUpIdeal.main (F := Ideal))) ⟨m, fun _ => 0, g⟩ (fun r => (∀ c : Dev Cert.RefDwUpIdeal.nD,
      r.2.mem ((c.tc : Thread Cert.RefDwUpIdeal.nD Cert.RefDwUpIdeal.τ).loc Cert.RefDwUpIdeal.main_arg0) = m ((c.tc : Thread Cert.RefDwUpIdeal.nD Cert.RefDwUpIdeal.τ).loc Cert.RefDwUpIdeal.main_arg0)
      ∧ r.2.mem ((c.tc : Thread Cert.RefDwUpIdeal.nD Cert.RefDwUpIdeal.τ).loc Cert.RefDwUpIdeal.main_arg1) = m ((c.tc : Thread Cert.RefDwUpIdeal.nD Cert.RefDwUpIdeal.τ).loc Cert.RefDwUpIdeal.main_arg1))
      ∧ r.2.sem = fun _ => 0)

def quiescent_DwSq [hDwSq : Cert.DwSq.Facts] : Prop :=
  ∀ (m : (ℓ : Loc Cert.DwSq.nD Cert.DwSq.τ Cert.DwSq.sig) → Buf (Elt Bits) ℓ) (g : Dev Cert.DwSq.nD → PrngReg), Pre_DwSq m →
    θ_run (Cert.DwSq.defs (F := Bits)) (onTc (τ := Cert.DwSq.τ) (Cert.DwSq.main (F := Bits))) ⟨m, fun _ => 0, g⟩ (fun r => (∀ c : Dev Cert.DwSq.nD,
      r.2.mem ((c.tc : Thread Cert.DwSq.nD Cert.DwSq.τ).loc Cert.DwSq.main_arg0) = m ((c.tc : Thread Cert.DwSq.nD Cert.DwSq.τ).loc Cert.DwSq.main_arg0)
      ∧ r.2.mem ((c.tc : Thread Cert.DwSq.nD Cert.DwSq.τ).loc Cert.DwSq.main_arg1) = m ((c.tc : Thread Cert.DwSq.nD Cert.DwSq.τ).loc Cert.DwSq.main_arg1))
      ∧ r.2.sem = fun _ => 0)

def quiescent_DwSqIdeal [hDwSqIdeal : Cert.DwSqIdeal.Facts] : Prop :=
  ∀ (m : (ℓ : Loc Cert.DwSqIdeal.nD Cert.DwSqIdeal.τ Cert.DwSqIdeal.sig) → Buf (Elt Ideal) ℓ) (g : Dev Cert.DwSqIdeal.nD → PrngReg), Pre_DwSqIdeal m →
    θ_run (Cert.DwSqIdeal.defs (F := Ideal)) (onTc (τ := Cert.DwSqIdeal.τ) (Cert.DwSqIdeal.main (F := Ideal))) ⟨m, fun _ => 0, g⟩ (fun r => (∀ c : Dev Cert.DwSqIdeal.nD,
      r.2.mem ((c.tc : Thread Cert.DwSqIdeal.nD Cert.DwSqIdeal.τ).loc Cert.DwSqIdeal.main_arg0) = m ((c.tc : Thread Cert.DwSqIdeal.nD Cert.DwSqIdeal.τ).loc Cert.DwSqIdeal.main_arg0)
      ∧ r.2.mem ((c.tc : Thread Cert.DwSqIdeal.nD Cert.DwSqIdeal.τ).loc Cert.DwSqIdeal.main_arg1) = m ((c.tc : Thread Cert.DwSqIdeal.nD Cert.DwSqIdeal.τ).loc Cert.DwSqIdeal.main_arg1))
      ∧ r.2.sem = fun _ => 0)

def quiescent_RefDwSqIdeal [hRefDwSqIdeal : Cert.RefDwSqIdeal.Facts] : Prop :=
  ∀ (m : (ℓ : Loc Cert.RefDwSqIdeal.nD Cert.RefDwSqIdeal.τ Cert.RefDwSqIdeal.sig) → Buf (Elt Ideal) ℓ) (g : Dev Cert.RefDwSqIdeal.nD → PrngReg), Pre_RefDwSqIdeal m →
    θ_run (Cert.RefDwSqIdeal.defs (F := Ideal)) (onTc (τ := Cert.RefDwSqIdeal.τ) (Cert.RefDwSqIdeal.main (F := Ideal))) ⟨m, fun _ => 0, g⟩ (fun r => (∀ c : Dev Cert.RefDwSqIdeal.nD,
      r.2.mem ((c.tc : Thread Cert.RefDwSqIdeal.nD Cert.RefDwSqIdeal.τ).loc Cert.RefDwSqIdeal.main_arg0) = m ((c.tc : Thread Cert.RefDwSqIdeal.nD Cert.RefDwSqIdeal.τ).loc Cert.RefDwSqIdeal.main_arg0)
      ∧ r.2.mem ((c.tc : Thread Cert.RefDwSqIdeal.nD Cert.RefDwSqIdeal.τ).loc Cert.RefDwSqIdeal.main_arg1) = m ((c.tc : Thread Cert.RefDwSqIdeal.nD Cert.RefDwSqIdeal.τ).loc Cert.RefDwSqIdeal.main_arg1))
      ∧ r.2.sem = fun _ => 0)

def quiescent_DwMkv [hDwMkv : Cert.DwMkv.Facts] : Prop :=
  ∀ (m : (ℓ : Loc Cert.DwMkv.nD Cert.DwMkv.τ Cert.DwMkv.sig) → Buf (Elt Bits) ℓ) (g : Dev Cert.DwMkv.nD → PrngReg), Pre_DwMkv m →
    θ_run (Cert.DwMkv.defs (F := Bits)) (onTc (τ := Cert.DwMkv.τ) (Cert.DwMkv.main (F := Bits))) ⟨m, fun _ => 0, g⟩ (fun r => (∀ c : Dev Cert.DwMkv.nD,
      r.2.mem ((c.tc : Thread Cert.DwMkv.nD Cert.DwMkv.τ).loc Cert.DwMkv.main_arg0) = m ((c.tc : Thread Cert.DwMkv.nD Cert.DwMkv.τ).loc Cert.DwMkv.main_arg0)
      ∧ r.2.mem ((c.tc : Thread Cert.DwMkv.nD Cert.DwMkv.τ).loc Cert.DwMkv.main_arg1) = m ((c.tc : Thread Cert.DwMkv.nD Cert.DwMkv.τ).loc Cert.DwMkv.main_arg1))
      ∧ r.2.sem = fun _ => 0)

def quiescent_DwMkvIdeal [hDwMkvIdeal : Cert.DwMkvIdeal.Facts] : Prop :=
  ∀ (m : (ℓ : Loc Cert.DwMkvIdeal.nD Cert.DwMkvIdeal.τ Cert.DwMkvIdeal.sig) → Buf (Elt Ideal) ℓ) (g : Dev Cert.DwMkvIdeal.nD → PrngReg), Pre_DwMkvIdeal m →
    θ_run (Cert.DwMkvIdeal.defs (F := Ideal)) (onTc (τ := Cert.DwMkvIdeal.τ) (Cert.DwMkvIdeal.main (F := Ideal))) ⟨m, fun _ => 0, g⟩ (fun r => (∀ c : Dev Cert.DwMkvIdeal.nD,
      r.2.mem ((c.tc : Thread Cert.DwMkvIdeal.nD Cert.DwMkvIdeal.τ).loc Cert.DwMkvIdeal.main_arg0) = m ((c.tc : Thread Cert.DwMkvIdeal.nD Cert.DwMkvIdeal.τ).loc Cert.DwMkvIdeal.main_arg0)
      ∧ r.2.mem ((c.tc : Thread Cert.DwMkvIdeal.nD Cert.DwMkvIdeal.τ).loc Cert.DwMkvIdeal.main_arg1) = m ((c.tc : Thread Cert.DwMkvIdeal.nD Cert.DwMkvIdeal.τ).loc Cert.DwMkvIdeal.main_arg1))
      ∧ r.2.sem = fun _ => 0)

def quiescent_RefDwMkvIdeal [hRefDwMkvIdeal : Cert.RefDwMkvIdeal.Facts] : Prop :=
  ∀ (m : (ℓ : Loc Cert.RefDwMkvIdeal.nD Cert.RefDwMkvIdeal.τ Cert.RefDwMkvIdeal.sig) → Buf (Elt Ideal) ℓ) (g : Dev Cert.RefDwMkvIdeal.nD → PrngReg), Pre_RefDwMkvIdeal m →
    θ_run (Cert.RefDwMkvIdeal.defs (F := Ideal)) (onTc (τ := Cert.RefDwMkvIdeal.τ) (Cert.RefDwMkvIdeal.main (F := Ideal))) ⟨m, fun _ => 0, g⟩ (fun r => (∀ c : Dev Cert.RefDwMkvIdeal.nD,
      r.2.mem ((c.tc : Thread Cert.RefDwMkvIdeal.nD Cert.RefDwMkvIdeal.τ).loc Cert.RefDwMkvIdeal.main_arg0) = m ((c.tc : Thread Cert.RefDwMkvIdeal.nD Cert.RefDwMkvIdeal.τ).loc Cert.RefDwMkvIdeal.main_arg0)
      ∧ r.2.mem ((c.tc : Thread Cert.RefDwMkvIdeal.nD Cert.RefDwMkvIdeal.τ).loc Cert.RefDwMkvIdeal.main_arg1) = m ((c.tc : Thread Cert.RefDwMkvIdeal.nD Cert.RefDwMkvIdeal.τ).loc Cert.RefDwMkvIdeal.main_arg1))
      ∧ r.2.sem = fun _ => 0)

def quiescent_DwIn [hDwIn : Cert.DwIn.Facts] : Prop :=
  ∀ (m : (ℓ : Loc Cert.DwIn.nD Cert.DwIn.τ Cert.DwIn.sig) → Buf (Elt Bits) ℓ) (g : Dev Cert.DwIn.nD → PrngReg), Pre_DwIn m →
    θ_run (Cert.DwIn.defs (F := Bits)) (onTc (τ := Cert.DwIn.τ) (Cert.DwIn.main (F := Bits))) ⟨m, fun _ => 0, g⟩ (fun r => (∀ c : Dev Cert.DwIn.nD,
      r.2.mem ((c.tc : Thread Cert.DwIn.nD Cert.DwIn.τ).loc Cert.DwIn.main_arg0) = m ((c.tc : Thread Cert.DwIn.nD Cert.DwIn.τ).loc Cert.DwIn.main_arg0)
      ∧ r.2.mem ((c.tc : Thread Cert.DwIn.nD Cert.DwIn.τ).loc Cert.DwIn.main_arg1) = m ((c.tc : Thread Cert.DwIn.nD Cert.DwIn.τ).loc Cert.DwIn.main_arg1))
      ∧ r.2.sem = fun _ => 0)

def quiescent_DwInIdeal [hDwInIdeal : Cert.DwInIdeal.Facts] : Prop :=
  ∀ (m : (ℓ : Loc Cert.DwInIdeal.nD Cert.DwInIdeal.τ Cert.DwInIdeal.sig) → Buf (Elt Ideal) ℓ) (g : Dev Cert.DwInIdeal.nD → PrngReg), Pre_DwInIdeal m →
    θ_run (Cert.DwInIdeal.defs (F := Ideal)) (onTc (τ := Cert.DwInIdeal.τ) (Cert.DwInIdeal.main (F := Ideal))) ⟨m, fun _ => 0, g⟩ (fun r => (∀ c : Dev Cert.DwInIdeal.nD,
      r.2.mem ((c.tc : Thread Cert.DwInIdeal.nD Cert.DwInIdeal.τ).loc Cert.DwInIdeal.main_arg0) = m ((c.tc : Thread Cert.DwInIdeal.nD Cert.DwInIdeal.τ).loc Cert.DwInIdeal.main_arg0)
      ∧ r.2.mem ((c.tc : Thread Cert.DwInIdeal.nD Cert.DwInIdeal.τ).loc Cert.DwInIdeal.main_arg1) = m ((c.tc : Thread Cert.DwInIdeal.nD Cert.DwInIdeal.τ).loc Cert.DwInIdeal.main_arg1))
      ∧ r.2.sem = fun _ => 0)

def quiescent_RefDwInIdeal [hRefDwInIdeal : Cert.RefDwInIdeal.Facts] : Prop :=
  ∀ (m : (ℓ : Loc Cert.RefDwInIdeal.nD Cert.RefDwInIdeal.τ Cert.RefDwInIdeal.sig) → Buf (Elt Ideal) ℓ) (g : Dev Cert.RefDwInIdeal.nD → PrngReg), Pre_RefDwInIdeal m →
    θ_run (Cert.RefDwInIdeal.defs (F := Ideal)) (onTc (τ := Cert.RefDwInIdeal.τ) (Cert.RefDwInIdeal.main (F := Ideal))) ⟨m, fun _ => 0, g⟩ (fun r => (∀ c : Dev Cert.RefDwInIdeal.nD,
      r.2.mem ((c.tc : Thread Cert.RefDwInIdeal.nD Cert.RefDwInIdeal.τ).loc Cert.RefDwInIdeal.main_arg0) = m ((c.tc : Thread Cert.RefDwInIdeal.nD Cert.RefDwInIdeal.τ).loc Cert.RefDwInIdeal.main_arg0)
      ∧ r.2.mem ((c.tc : Thread Cert.RefDwInIdeal.nD Cert.RefDwInIdeal.τ).loc Cert.RefDwInIdeal.main_arg1) = m ((c.tc : Thread Cert.RefDwInIdeal.nD Cert.RefDwInIdeal.τ).loc Cert.RefDwInIdeal.main_arg1))
      ∧ r.2.sem = fun _ => 0)

def quiescent_Du [hDu : Cert.Du.Facts] : Prop :=
  ∀ (m : (ℓ : Loc Cert.Du.nD Cert.Du.τ Cert.Du.sig) → Buf (Elt Bits) ℓ) (g : Dev Cert.Du.nD → PrngReg), Pre_Du m →
    θ_run (Cert.Du.defs (F := Bits)) (onTc (τ := Cert.Du.τ) (Cert.Du.main (F := Bits))) ⟨m, fun _ => 0, g⟩ (fun r => (∀ c : Dev Cert.Du.nD,
      r.2.mem ((c.tc : Thread Cert.Du.nD Cert.Du.τ).loc Cert.Du.main_arg0) = m ((c.tc : Thread Cert.Du.nD Cert.Du.τ).loc Cert.Du.main_arg0)
      ∧ r.2.mem ((c.tc : Thread Cert.Du.nD Cert.Du.τ).loc Cert.Du.main_arg1) = m ((c.tc : Thread Cert.Du.nD Cert.Du.τ).loc Cert.Du.main_arg1)
      ∧ r.2.mem ((c.tc : Thread Cert.Du.nD Cert.Du.τ).loc Cert.Du.main_arg2) = m ((c.tc : Thread Cert.Du.nD Cert.Du.τ).loc Cert.Du.main_arg2))
      ∧ r.2.sem = fun _ => 0)

def quiescent_DuIdeal [hDuIdeal : Cert.DuIdeal.Facts] : Prop :=
  ∀ (m : (ℓ : Loc Cert.DuIdeal.nD Cert.DuIdeal.τ Cert.DuIdeal.sig) → Buf (Elt Ideal) ℓ) (g : Dev Cert.DuIdeal.nD → PrngReg), Pre_DuIdeal m →
    θ_run (Cert.DuIdeal.defs (F := Ideal)) (onTc (τ := Cert.DuIdeal.τ) (Cert.DuIdeal.main (F := Ideal))) ⟨m, fun _ => 0, g⟩ (fun r => (∀ c : Dev Cert.DuIdeal.nD,
      r.2.mem ((c.tc : Thread Cert.DuIdeal.nD Cert.DuIdeal.τ).loc Cert.DuIdeal.main_arg0) = m ((c.tc : Thread Cert.DuIdeal.nD Cert.DuIdeal.τ).loc Cert.DuIdeal.main_arg0)
      ∧ r.2.mem ((c.tc : Thread Cert.DuIdeal.nD Cert.DuIdeal.τ).loc Cert.DuIdeal.main_arg1) = m ((c.tc : Thread Cert.DuIdeal.nD Cert.DuIdeal.τ).loc Cert.DuIdeal.main_arg1)
      ∧ r.2.mem ((c.tc : Thread Cert.DuIdeal.nD Cert.DuIdeal.τ).loc Cert.DuIdeal.main_arg2) = m ((c.tc : Thread Cert.DuIdeal.nD Cert.DuIdeal.τ).loc Cert.DuIdeal.main_arg2))
      ∧ r.2.sem = fun _ => 0)

def quiescent_RefDuIdeal [hRefDuIdeal : Cert.RefDuIdeal.Facts] : Prop :=
  ∀ (m : (ℓ : Loc Cert.RefDuIdeal.nD Cert.RefDuIdeal.τ Cert.RefDuIdeal.sig) → Buf (Elt Ideal) ℓ) (g : Dev Cert.RefDuIdeal.nD → PrngReg), Pre_RefDuIdeal m →
    θ_run (Cert.RefDuIdeal.defs (F := Ideal)) (onTc (τ := Cert.RefDuIdeal.τ) (Cert.RefDuIdeal.main (F := Ideal))) ⟨m, fun _ => 0, g⟩ (fun r => (∀ c : Dev Cert.RefDuIdeal.nD,
      r.2.mem ((c.tc : Thread Cert.RefDuIdeal.nD Cert.RefDuIdeal.τ).loc Cert.RefDuIdeal.main_arg0) = m ((c.tc : Thread Cert.RefDuIdeal.nD Cert.RefDuIdeal.τ).loc Cert.RefDuIdeal.main_arg0)
      ∧ r.2.mem ((c.tc : Thread Cert.RefDuIdeal.nD Cert.RefDuIdeal.τ).loc Cert.RefDuIdeal.main_arg1) = m ((c.tc : Thread Cert.RefDuIdeal.nD Cert.RefDuIdeal.τ).loc Cert.RefDuIdeal.main_arg1)
      ∧ r.2.mem ((c.tc : Thread Cert.RefDuIdeal.nD Cert.RefDuIdeal.τ).loc Cert.RefDuIdeal.main_arg2) = m ((c.tc : Thread Cert.RefDuIdeal.nD Cert.RefDuIdeal.τ).loc Cert.RefDuIdeal.main_arg2))
      ∧ r.2.sem = fun _ => 0)

def quiescent_Do [hDo : Cert.Do.Facts] : Prop :=
  ∀ (m : (ℓ : Loc Cert.Do.nD Cert.Do.τ Cert.Do.sig) → Buf (Elt Bits) ℓ) (g : Dev Cert.Do.nD → PrngReg), Pre_Do m →
    θ_run (Cert.Do.defs (F := Bits)) (onTc (τ := Cert.Do.τ) (Cert.Do.main (F := Bits))) ⟨m, fun _ => 0, g⟩ (fun r => (∀ c : Dev Cert.Do.nD,
      r.2.mem ((c.tc : Thread Cert.Do.nD Cert.Do.τ).loc Cert.Do.main_arg0) = m ((c.tc : Thread Cert.Do.nD Cert.Do.τ).loc Cert.Do.main_arg0)
      ∧ r.2.mem ((c.tc : Thread Cert.Do.nD Cert.Do.τ).loc Cert.Do.main_arg1) = m ((c.tc : Thread Cert.Do.nD Cert.Do.τ).loc Cert.Do.main_arg1))
      ∧ r.2.sem = fun _ => 0)

def quiescent_DoIdeal [hDoIdeal : Cert.DoIdeal.Facts] : Prop :=
  ∀ (m : (ℓ : Loc Cert.DoIdeal.nD Cert.DoIdeal.τ Cert.DoIdeal.sig) → Buf (Elt Ideal) ℓ) (g : Dev Cert.DoIdeal.nD → PrngReg), Pre_DoIdeal m →
    θ_run (Cert.DoIdeal.defs (F := Ideal)) (onTc (τ := Cert.DoIdeal.τ) (Cert.DoIdeal.main (F := Ideal))) ⟨m, fun _ => 0, g⟩ (fun r => (∀ c : Dev Cert.DoIdeal.nD,
      r.2.mem ((c.tc : Thread Cert.DoIdeal.nD Cert.DoIdeal.τ).loc Cert.DoIdeal.main_arg0) = m ((c.tc : Thread Cert.DoIdeal.nD Cert.DoIdeal.τ).loc Cert.DoIdeal.main_arg0)
      ∧ r.2.mem ((c.tc : Thread Cert.DoIdeal.nD Cert.DoIdeal.τ).loc Cert.DoIdeal.main_arg1) = m ((c.tc : Thread Cert.DoIdeal.nD Cert.DoIdeal.τ).loc Cert.DoIdeal.main_arg1))
      ∧ r.2.sem = fun _ => 0)

def quiescent_RefDoIdeal [hRefDoIdeal : Cert.RefDoIdeal.Facts] : Prop :=
  ∀ (m : (ℓ : Loc Cert.RefDoIdeal.nD Cert.RefDoIdeal.τ Cert.RefDoIdeal.sig) → Buf (Elt Ideal) ℓ) (g : Dev Cert.RefDoIdeal.nD → PrngReg), Pre_RefDoIdeal m →
    θ_run (Cert.RefDoIdeal.defs (F := Ideal)) (onTc (τ := Cert.RefDoIdeal.τ) (Cert.RefDoIdeal.main (F := Ideal))) ⟨m, fun _ => 0, g⟩ (fun r => (∀ c : Dev Cert.RefDoIdeal.nD,
      r.2.mem ((c.tc : Thread Cert.RefDoIdeal.nD Cert.RefDoIdeal.τ).loc Cert.RefDoIdeal.main_arg0) = m ((c.tc : Thread Cert.RefDoIdeal.nD Cert.RefDoIdeal.τ).loc Cert.RefDoIdeal.main_arg0)
      ∧ r.2.mem ((c.tc : Thread Cert.RefDoIdeal.nD Cert.RefDoIdeal.τ).loc Cert.RefDoIdeal.main_arg1) = m ((c.tc : Thread Cert.RefDoIdeal.nD Cert.RefDoIdeal.τ).loc Cert.RefDoIdeal.main_arg1))
      ∧ r.2.sem = fun _ => 0)

def quiescent_Dymix [hDymix : Cert.Dymix.Facts] : Prop :=
  ∀ (m : (ℓ : Loc Cert.Dymix.nD Cert.Dymix.τ Cert.Dymix.sig) → Buf (Elt Bits) ℓ) (g : Dev Cert.Dymix.nD → PrngReg), Pre_Dymix m →
    θ_run (Cert.Dymix.defs (F := Bits)) (onTc (τ := Cert.Dymix.τ) (Cert.Dymix.main (F := Bits))) ⟨m, fun _ => 0, g⟩ (fun r => (∀ c : Dev Cert.Dymix.nD,
      r.2.mem ((c.tc : Thread Cert.Dymix.nD Cert.Dymix.τ).loc Cert.Dymix.main_arg0) = m ((c.tc : Thread Cert.Dymix.nD Cert.Dymix.τ).loc Cert.Dymix.main_arg0)
      ∧ r.2.mem ((c.tc : Thread Cert.Dymix.nD Cert.Dymix.τ).loc Cert.Dymix.main_arg1) = m ((c.tc : Thread Cert.Dymix.nD Cert.Dymix.τ).loc Cert.Dymix.main_arg1))
      ∧ r.2.sem = fun _ => 0)

def quiescent_DymixIdeal [hDymixIdeal : Cert.DymixIdeal.Facts] : Prop :=
  ∀ (m : (ℓ : Loc Cert.DymixIdeal.nD Cert.DymixIdeal.τ Cert.DymixIdeal.sig) → Buf (Elt Ideal) ℓ) (g : Dev Cert.DymixIdeal.nD → PrngReg), Pre_DymixIdeal m →
    θ_run (Cert.DymixIdeal.defs (F := Ideal)) (onTc (τ := Cert.DymixIdeal.τ) (Cert.DymixIdeal.main (F := Ideal))) ⟨m, fun _ => 0, g⟩ (fun r => (∀ c : Dev Cert.DymixIdeal.nD,
      r.2.mem ((c.tc : Thread Cert.DymixIdeal.nD Cert.DymixIdeal.τ).loc Cert.DymixIdeal.main_arg0) = m ((c.tc : Thread Cert.DymixIdeal.nD Cert.DymixIdeal.τ).loc Cert.DymixIdeal.main_arg0)
      ∧ r.2.mem ((c.tc : Thread Cert.DymixIdeal.nD Cert.DymixIdeal.τ).loc Cert.DymixIdeal.main_arg1) = m ((c.tc : Thread Cert.DymixIdeal.nD Cert.DymixIdeal.τ).loc Cert.DymixIdeal.main_arg1))
      ∧ r.2.sem = fun _ => 0)

def quiescent_RefDymixIdeal [hRefDymixIdeal : Cert.RefDymixIdeal.Facts] : Prop :=
  ∀ (m : (ℓ : Loc Cert.RefDymixIdeal.nD Cert.RefDymixIdeal.τ Cert.RefDymixIdeal.sig) → Buf (Elt Ideal) ℓ) (g : Dev Cert.RefDymixIdeal.nD → PrngReg), Pre_RefDymixIdeal m →
    θ_run (Cert.RefDymixIdeal.defs (F := Ideal)) (onTc (τ := Cert.RefDymixIdeal.τ) (Cert.RefDymixIdeal.main (F := Ideal))) ⟨m, fun _ => 0, g⟩ (fun r => (∀ c : Dev Cert.RefDymixIdeal.nD,
      r.2.mem ((c.tc : Thread Cert.RefDymixIdeal.nD Cert.RefDymixIdeal.τ).loc Cert.RefDymixIdeal.main_arg0) = m ((c.tc : Thread Cert.RefDymixIdeal.nD Cert.RefDymixIdeal.τ).loc Cert.RefDymixIdeal.main_arg0)
      ∧ r.2.mem ((c.tc : Thread Cert.RefDymixIdeal.nD Cert.RefDymixIdeal.τ).loc Cert.RefDymixIdeal.main_arg1) = m ((c.tc : Thread Cert.RefDymixIdeal.nD Cert.RefDymixIdeal.τ).loc Cert.RefDymixIdeal.main_arg1))
      ∧ r.2.sem = fun _ => 0)

def quiescent_Dx1 [hDx1 : Cert.Dx1.Facts] : Prop :=
  ∀ (m : (ℓ : Loc Cert.Dx1.nD Cert.Dx1.τ Cert.Dx1.sig) → Buf (Elt Bits) ℓ) (g : Dev Cert.Dx1.nD → PrngReg), Pre_Dx1 m →
    θ_run (Cert.Dx1.defs (F := Bits)) (onTc (τ := Cert.Dx1.τ) (Cert.Dx1.main (F := Bits))) ⟨m, fun _ => 0, g⟩ (fun r => (∀ c : Dev Cert.Dx1.nD,
      r.2.mem ((c.tc : Thread Cert.Dx1.nD Cert.Dx1.τ).loc Cert.Dx1.main_arg0) = m ((c.tc : Thread Cert.Dx1.nD Cert.Dx1.τ).loc Cert.Dx1.main_arg0)
      ∧ r.2.mem ((c.tc : Thread Cert.Dx1.nD Cert.Dx1.τ).loc Cert.Dx1.main_arg1) = m ((c.tc : Thread Cert.Dx1.nD Cert.Dx1.τ).loc Cert.Dx1.main_arg1)
      ∧ r.2.mem ((c.tc : Thread Cert.Dx1.nD Cert.Dx1.τ).loc Cert.Dx1.main_arg2) = m ((c.tc : Thread Cert.Dx1.nD Cert.Dx1.τ).loc Cert.Dx1.main_arg2))
      ∧ r.2.sem = fun _ => 0)

def quiescent_Dx1Ideal [hDx1Ideal : Cert.Dx1Ideal.Facts] : Prop :=
  ∀ (m : (ℓ : Loc Cert.Dx1Ideal.nD Cert.Dx1Ideal.τ Cert.Dx1Ideal.sig) → Buf (Elt Ideal) ℓ) (g : Dev Cert.Dx1Ideal.nD → PrngReg), Pre_Dx1Ideal m →
    θ_run (Cert.Dx1Ideal.defs (F := Ideal)) (onTc (τ := Cert.Dx1Ideal.τ) (Cert.Dx1Ideal.main (F := Ideal))) ⟨m, fun _ => 0, g⟩ (fun r => (∀ c : Dev Cert.Dx1Ideal.nD,
      r.2.mem ((c.tc : Thread Cert.Dx1Ideal.nD Cert.Dx1Ideal.τ).loc Cert.Dx1Ideal.main_arg0) = m ((c.tc : Thread Cert.Dx1Ideal.nD Cert.Dx1Ideal.τ).loc Cert.Dx1Ideal.main_arg0)
      ∧ r.2.mem ((c.tc : Thread Cert.Dx1Ideal.nD Cert.Dx1Ideal.τ).loc Cert.Dx1Ideal.main_arg1) = m ((c.tc : Thread Cert.Dx1Ideal.nD Cert.Dx1Ideal.τ).loc Cert.Dx1Ideal.main_arg1)
      ∧ r.2.mem ((c.tc : Thread Cert.Dx1Ideal.nD Cert.Dx1Ideal.τ).loc Cert.Dx1Ideal.main_arg2) = m ((c.tc : Thread Cert.Dx1Ideal.nD Cert.Dx1Ideal.τ).loc Cert.Dx1Ideal.main_arg2))
      ∧ r.2.sem = fun _ => 0)

def quiescent_RefDx1Ideal [hRefDx1Ideal : Cert.RefDx1Ideal.Facts] : Prop :=
  ∀ (m : (ℓ : Loc Cert.RefDx1Ideal.nD Cert.RefDx1Ideal.τ Cert.RefDx1Ideal.sig) → Buf (Elt Ideal) ℓ) (g : Dev Cert.RefDx1Ideal.nD → PrngReg), Pre_RefDx1Ideal m →
    θ_run (Cert.RefDx1Ideal.defs (F := Ideal)) (onTc (τ := Cert.RefDx1Ideal.τ) (Cert.RefDx1Ideal.main (F := Ideal))) ⟨m, fun _ => 0, g⟩ (fun r => (∀ c : Dev Cert.RefDx1Ideal.nD,
      r.2.mem ((c.tc : Thread Cert.RefDx1Ideal.nD Cert.RefDx1Ideal.τ).loc Cert.RefDx1Ideal.main_arg0) = m ((c.tc : Thread Cert.RefDx1Ideal.nD Cert.RefDx1Ideal.τ).loc Cert.RefDx1Ideal.main_arg0)
      ∧ r.2.mem ((c.tc : Thread Cert.RefDx1Ideal.nD Cert.RefDx1Ideal.τ).loc Cert.RefDx1Ideal.main_arg1) = m ((c.tc : Thread Cert.RefDx1Ideal.nD Cert.RefDx1Ideal.τ).loc Cert.RefDx1Ideal.main_arg1)
      ∧ r.2.mem ((c.tc : Thread Cert.RefDx1Ideal.nD Cert.RefDx1Ideal.τ).loc Cert.RefDx1Ideal.main_arg2) = m ((c.tc : Thread Cert.RefDx1Ideal.nD Cert.RefDx1Ideal.τ).loc Cert.RefDx1Ideal.main_arg2))
      ∧ r.2.sem = fun _ => 0)

def quiescent_Dx2 [hDx2 : Cert.Dx2.Facts] : Prop :=
  ∀ (m : (ℓ : Loc Cert.Dx2.nD Cert.Dx2.τ Cert.Dx2.sig) → Buf (Elt Bits) ℓ) (g : Dev Cert.Dx2.nD → PrngReg), Pre_Dx2 m →
    θ_run (Cert.Dx2.defs (F := Bits)) (onTc (τ := Cert.Dx2.τ) (Cert.Dx2.main (F := Bits))) ⟨m, fun _ => 0, g⟩ (fun r => (∀ c : Dev Cert.Dx2.nD,
      r.2.mem ((c.tc : Thread Cert.Dx2.nD Cert.Dx2.τ).loc Cert.Dx2.main_arg0) = m ((c.tc : Thread Cert.Dx2.nD Cert.Dx2.τ).loc Cert.Dx2.main_arg0)
      ∧ r.2.mem ((c.tc : Thread Cert.Dx2.nD Cert.Dx2.τ).loc Cert.Dx2.main_arg1) = m ((c.tc : Thread Cert.Dx2.nD Cert.Dx2.τ).loc Cert.Dx2.main_arg1)
      ∧ r.2.mem ((c.tc : Thread Cert.Dx2.nD Cert.Dx2.τ).loc Cert.Dx2.main_arg2) = m ((c.tc : Thread Cert.Dx2.nD Cert.Dx2.τ).loc Cert.Dx2.main_arg2))
      ∧ r.2.sem = fun _ => 0)

def quiescent_Dx2Ideal [hDx2Ideal : Cert.Dx2Ideal.Facts] : Prop :=
  ∀ (m : (ℓ : Loc Cert.Dx2Ideal.nD Cert.Dx2Ideal.τ Cert.Dx2Ideal.sig) → Buf (Elt Ideal) ℓ) (g : Dev Cert.Dx2Ideal.nD → PrngReg), Pre_Dx2Ideal m →
    θ_run (Cert.Dx2Ideal.defs (F := Ideal)) (onTc (τ := Cert.Dx2Ideal.τ) (Cert.Dx2Ideal.main (F := Ideal))) ⟨m, fun _ => 0, g⟩ (fun r => (∀ c : Dev Cert.Dx2Ideal.nD,
      r.2.mem ((c.tc : Thread Cert.Dx2Ideal.nD Cert.Dx2Ideal.τ).loc Cert.Dx2Ideal.main_arg0) = m ((c.tc : Thread Cert.Dx2Ideal.nD Cert.Dx2Ideal.τ).loc Cert.Dx2Ideal.main_arg0)
      ∧ r.2.mem ((c.tc : Thread Cert.Dx2Ideal.nD Cert.Dx2Ideal.τ).loc Cert.Dx2Ideal.main_arg1) = m ((c.tc : Thread Cert.Dx2Ideal.nD Cert.Dx2Ideal.τ).loc Cert.Dx2Ideal.main_arg1)
      ∧ r.2.mem ((c.tc : Thread Cert.Dx2Ideal.nD Cert.Dx2Ideal.τ).loc Cert.Dx2Ideal.main_arg2) = m ((c.tc : Thread Cert.Dx2Ideal.nD Cert.Dx2Ideal.τ).loc Cert.Dx2Ideal.main_arg2))
      ∧ r.2.sem = fun _ => 0)

def quiescent_RefDx2Ideal [hRefDx2Ideal : Cert.RefDx2Ideal.Facts] : Prop :=
  ∀ (m : (ℓ : Loc Cert.RefDx2Ideal.nD Cert.RefDx2Ideal.τ Cert.RefDx2Ideal.sig) → Buf (Elt Ideal) ℓ) (g : Dev Cert.RefDx2Ideal.nD → PrngReg), Pre_RefDx2Ideal m →
    θ_run (Cert.RefDx2Ideal.defs (F := Ideal)) (onTc (τ := Cert.RefDx2Ideal.τ) (Cert.RefDx2Ideal.main (F := Ideal))) ⟨m, fun _ => 0, g⟩ (fun r => (∀ c : Dev Cert.RefDx2Ideal.nD,
      r.2.mem ((c.tc : Thread Cert.RefDx2Ideal.nD Cert.RefDx2Ideal.τ).loc Cert.RefDx2Ideal.main_arg0) = m ((c.tc : Thread Cert.RefDx2Ideal.nD Cert.RefDx2Ideal.τ).loc Cert.RefDx2Ideal.main_arg0)
      ∧ r.2.mem ((c.tc : Thread Cert.RefDx2Ideal.nD Cert.RefDx2Ideal.τ).loc Cert.RefDx2Ideal.main_arg1) = m ((c.tc : Thread Cert.RefDx2Ideal.nD Cert.RefDx2Ideal.τ).loc Cert.RefDx2Ideal.main_arg1)
      ∧ r.2.mem ((c.tc : Thread Cert.RefDx2Ideal.nD Cert.RefDx2Ideal.τ).loc Cert.RefDx2Ideal.main_arg2) = m ((c.tc : Thread Cert.RefDx2Ideal.nD Cert.RefDx2Ideal.τ).loc Cert.RefDx2Ideal.main_arg2))
      ∧ r.2.sem = fun _ => 0)

def quiescent_Dx0 [hDx0 : Cert.Dx0.Facts] : Prop :=
  ∀ (m : (ℓ : Loc Cert.Dx0.nD Cert.Dx0.τ Cert.Dx0.sig) → Buf (Elt Bits) ℓ) (g : Dev Cert.Dx0.nD → PrngReg), Pre_Dx0 m →
    θ_run (Cert.Dx0.defs (F := Bits)) (onTc (τ := Cert.Dx0.τ) (Cert.Dx0.main (F := Bits))) ⟨m, fun _ => 0, g⟩ (fun r => (∀ c : Dev Cert.Dx0.nD,
      r.2.mem ((c.tc : Thread Cert.Dx0.nD Cert.Dx0.τ).loc Cert.Dx0.main_arg0) = m ((c.tc : Thread Cert.Dx0.nD Cert.Dx0.τ).loc Cert.Dx0.main_arg0)
      ∧ r.2.mem ((c.tc : Thread Cert.Dx0.nD Cert.Dx0.τ).loc Cert.Dx0.main_arg1) = m ((c.tc : Thread Cert.Dx0.nD Cert.Dx0.τ).loc Cert.Dx0.main_arg1)
      ∧ r.2.mem ((c.tc : Thread Cert.Dx0.nD Cert.Dx0.τ).loc Cert.Dx0.main_arg2) = m ((c.tc : Thread Cert.Dx0.nD Cert.Dx0.τ).loc Cert.Dx0.main_arg2))
      ∧ r.2.sem = fun _ => 0)

def quiescent_Dx0Ideal [hDx0Ideal : Cert.Dx0Ideal.Facts] : Prop :=
  ∀ (m : (ℓ : Loc Cert.Dx0Ideal.nD Cert.Dx0Ideal.τ Cert.Dx0Ideal.sig) → Buf (Elt Ideal) ℓ) (g : Dev Cert.Dx0Ideal.nD → PrngReg), Pre_Dx0Ideal m →
    θ_run (Cert.Dx0Ideal.defs (F := Ideal)) (onTc (τ := Cert.Dx0Ideal.τ) (Cert.Dx0Ideal.main (F := Ideal))) ⟨m, fun _ => 0, g⟩ (fun r => (∀ c : Dev Cert.Dx0Ideal.nD,
      r.2.mem ((c.tc : Thread Cert.Dx0Ideal.nD Cert.Dx0Ideal.τ).loc Cert.Dx0Ideal.main_arg0) = m ((c.tc : Thread Cert.Dx0Ideal.nD Cert.Dx0Ideal.τ).loc Cert.Dx0Ideal.main_arg0)
      ∧ r.2.mem ((c.tc : Thread Cert.Dx0Ideal.nD Cert.Dx0Ideal.τ).loc Cert.Dx0Ideal.main_arg1) = m ((c.tc : Thread Cert.Dx0Ideal.nD Cert.Dx0Ideal.τ).loc Cert.Dx0Ideal.main_arg1)
      ∧ r.2.mem ((c.tc : Thread Cert.Dx0Ideal.nD Cert.Dx0Ideal.τ).loc Cert.Dx0Ideal.main_arg2) = m ((c.tc : Thread Cert.Dx0Ideal.nD Cert.Dx0Ideal.τ).loc Cert.Dx0Ideal.main_arg2))
      ∧ r.2.sem = fun _ => 0)

def quiescent_RefDx0Ideal [hRefDx0Ideal : Cert.RefDx0Ideal.Facts] : Prop :=
  ∀ (m : (ℓ : Loc Cert.RefDx0Ideal.nD Cert.RefDx0Ideal.τ Cert.RefDx0Ideal.sig) → Buf (Elt Ideal) ℓ) (g : Dev Cert.RefDx0Ideal.nD → PrngReg), Pre_RefDx0Ideal m →
    θ_run (Cert.RefDx0Ideal.defs (F := Ideal)) (onTc (τ := Cert.RefDx0Ideal.τ) (Cert.RefDx0Ideal.main (F := Ideal))) ⟨m, fun _ => 0, g⟩ (fun r => (∀ c : Dev Cert.RefDx0Ideal.nD,
      r.2.mem ((c.tc : Thread Cert.RefDx0Ideal.nD Cert.RefDx0Ideal.τ).loc Cert.RefDx0Ideal.main_arg0) = m ((c.tc : Thread Cert.RefDx0Ideal.nD Cert.RefDx0Ideal.τ).loc Cert.RefDx0Ideal.main_arg0)
      ∧ r.2.mem ((c.tc : Thread Cert.RefDx0Ideal.nD Cert.RefDx0Ideal.τ).loc Cert.RefDx0Ideal.main_arg1) = m ((c.tc : Thread Cert.RefDx0Ideal.nD Cert.RefDx0Ideal.τ).loc Cert.RefDx0Ideal.main_arg1)
      ∧ r.2.mem ((c.tc : Thread Cert.RefDx0Ideal.nD Cert.RefDx0Ideal.τ).loc Cert.RefDx0Ideal.main_arg2) = m ((c.tc : Thread Cert.RefDx0Ideal.nD Cert.RefDx0Ideal.τ).loc Cert.RefDx0Ideal.main_arg2))
      ∧ r.2.sem = fun _ => 0)

def quiescent_Hin [hHin : Cert.Hin.Facts] : Prop :=
  ∀ (m : (ℓ : Loc Cert.Hin.nD Cert.Hin.τ Cert.Hin.sig) → Buf (Elt Bits) ℓ) (g : Dev Cert.Hin.nD → PrngReg), Pre_Hin m →
    θ_run (Cert.Hin.defs (F := Bits)) (onTc (τ := Cert.Hin.τ) (Cert.Hin.main (F := Bits))) ⟨m, fun _ => 0, g⟩ (fun r => (∀ c : Dev Cert.Hin.nD,
      r.2.mem ((c.tc : Thread Cert.Hin.nD Cert.Hin.τ).loc Cert.Hin.main_arg0) = m ((c.tc : Thread Cert.Hin.nD Cert.Hin.τ).loc Cert.Hin.main_arg0)
      ∧ r.2.mem ((c.tc : Thread Cert.Hin.nD Cert.Hin.τ).loc Cert.Hin.main_arg1) = m ((c.tc : Thread Cert.Hin.nD Cert.Hin.τ).loc Cert.Hin.main_arg1))
      ∧ r.2.sem = fun _ => 0)

def quiescent_HinIdeal [hHinIdeal : Cert.HinIdeal.Facts] : Prop :=
  ∀ (m : (ℓ : Loc Cert.HinIdeal.nD Cert.HinIdeal.τ Cert.HinIdeal.sig) → Buf (Elt Ideal) ℓ) (g : Dev Cert.HinIdeal.nD → PrngReg), Pre_HinIdeal m →
    θ_run (Cert.HinIdeal.defs (F := Ideal)) (onTc (τ := Cert.HinIdeal.τ) (Cert.HinIdeal.main (F := Ideal))) ⟨m, fun _ => 0, g⟩ (fun r => (∀ c : Dev Cert.HinIdeal.nD,
      r.2.mem ((c.tc : Thread Cert.HinIdeal.nD Cert.HinIdeal.τ).loc Cert.HinIdeal.main_arg0) = m ((c.tc : Thread Cert.HinIdeal.nD Cert.HinIdeal.τ).loc Cert.HinIdeal.main_arg0)
      ∧ r.2.mem ((c.tc : Thread Cert.HinIdeal.nD Cert.HinIdeal.τ).loc Cert.HinIdeal.main_arg1) = m ((c.tc : Thread Cert.HinIdeal.nD Cert.HinIdeal.τ).loc Cert.HinIdeal.main_arg1))
      ∧ r.2.sem = fun _ => 0)

def quiescent_RefHinIdeal [hRefHinIdeal : Cert.RefHinIdeal.Facts] : Prop :=
  ∀ (m : (ℓ : Loc Cert.RefHinIdeal.nD Cert.RefHinIdeal.τ Cert.RefHinIdeal.sig) → Buf (Elt Ideal) ℓ) (g : Dev Cert.RefHinIdeal.nD → PrngReg), Pre_RefHinIdeal m →
    θ_run (Cert.RefHinIdeal.defs (F := Ideal)) (onTc (τ := Cert.RefHinIdeal.τ) (Cert.RefHinIdeal.main (F := Ideal))) ⟨m, fun _ => 0, g⟩ (fun r => (∀ c : Dev Cert.RefHinIdeal.nD,
      r.2.mem ((c.tc : Thread Cert.RefHinIdeal.nD Cert.RefHinIdeal.τ).loc Cert.RefHinIdeal.main_arg0) = m ((c.tc : Thread Cert.RefHinIdeal.nD Cert.RefHinIdeal.τ).loc Cert.RefHinIdeal.main_arg0)
      ∧ r.2.mem ((c.tc : Thread Cert.RefHinIdeal.nD Cert.RefHinIdeal.τ).loc Cert.RefHinIdeal.main_arg1) = m ((c.tc : Thread Cert.RefHinIdeal.nD Cert.RefHinIdeal.τ).loc Cert.RefHinIdeal.main_arg1))
      ∧ r.2.sem = fun _ => 0)

def quiescent_Mq [hMq : Cert.Mq.Facts] : Prop :=
  ∀ (m : (ℓ : Loc Cert.Mq.nD Cert.Mq.τ Cert.Mq.sig) → Buf (Elt Bits) ℓ) (g : Dev Cert.Mq.nD → PrngReg), Pre_Mq m →
    θ_run (Cert.Mq.defs (F := Bits)) (onTc (τ := Cert.Mq.τ) (Cert.Mq.main (F := Bits))) ⟨m, fun _ => 0, g⟩ (fun r => (∀ c : Dev Cert.Mq.nD,
      r.2.mem ((c.tc : Thread Cert.Mq.nD Cert.Mq.τ).loc Cert.Mq.main_arg0) = m ((c.tc : Thread Cert.Mq.nD Cert.Mq.τ).loc Cert.Mq.main_arg0)
      ∧ r.2.mem ((c.tc : Thread Cert.Mq.nD Cert.Mq.τ).loc Cert.Mq.main_arg1) = m ((c.tc : Thread Cert.Mq.nD Cert.Mq.τ).loc Cert.Mq.main_arg1))
      ∧ r.2.sem = fun _ => 0)

def quiescent_MqIdeal [hMqIdeal : Cert.MqIdeal.Facts] : Prop :=
  ∀ (m : (ℓ : Loc Cert.MqIdeal.nD Cert.MqIdeal.τ Cert.MqIdeal.sig) → Buf (Elt Ideal) ℓ) (g : Dev Cert.MqIdeal.nD → PrngReg), Pre_MqIdeal m →
    θ_run (Cert.MqIdeal.defs (F := Ideal)) (onTc (τ := Cert.MqIdeal.τ) (Cert.MqIdeal.main (F := Ideal))) ⟨m, fun _ => 0, g⟩ (fun r => (∀ c : Dev Cert.MqIdeal.nD,
      r.2.mem ((c.tc : Thread Cert.MqIdeal.nD Cert.MqIdeal.τ).loc Cert.MqIdeal.main_arg0) = m ((c.tc : Thread Cert.MqIdeal.nD Cert.MqIdeal.τ).loc Cert.MqIdeal.main_arg0)
      ∧ r.2.mem ((c.tc : Thread Cert.MqIdeal.nD Cert.MqIdeal.τ).loc Cert.MqIdeal.main_arg1) = m ((c.tc : Thread Cert.MqIdeal.nD Cert.MqIdeal.τ).loc Cert.MqIdeal.main_arg1))
      ∧ r.2.sem = fun _ => 0)

def quiescent_RefMqIdeal [hRefMqIdeal : Cert.RefMqIdeal.Facts] : Prop :=
  ∀ (m : (ℓ : Loc Cert.RefMqIdeal.nD Cert.RefMqIdeal.τ Cert.RefMqIdeal.sig) → Buf (Elt Ideal) ℓ) (g : Dev Cert.RefMqIdeal.nD → PrngReg), Pre_RefMqIdeal m →
    θ_run (Cert.RefMqIdeal.defs (F := Ideal)) (onTc (τ := Cert.RefMqIdeal.τ) (Cert.RefMqIdeal.main (F := Ideal))) ⟨m, fun _ => 0, g⟩ (fun r => (∀ c : Dev Cert.RefMqIdeal.nD,
      r.2.mem ((c.tc : Thread Cert.RefMqIdeal.nD Cert.RefMqIdeal.τ).loc Cert.RefMqIdeal.main_arg0) = m ((c.tc : Thread Cert.RefMqIdeal.nD Cert.RefMqIdeal.τ).loc Cert.RefMqIdeal.main_arg0)
      ∧ r.2.mem ((c.tc : Thread Cert.RefMqIdeal.nD Cert.RefMqIdeal.τ).loc Cert.RefMqIdeal.main_arg1) = m ((c.tc : Thread Cert.RefMqIdeal.nD Cert.RefMqIdeal.τ).loc Cert.RefMqIdeal.main_arg1))
      ∧ r.2.sem = fun _ => 0)

def quiescent_Mkv [hMkv : Cert.Mkv.Facts] : Prop :=
  ∀ (m : (ℓ : Loc Cert.Mkv.nD Cert.Mkv.τ Cert.Mkv.sig) → Buf (Elt Bits) ℓ) (g : Dev Cert.Mkv.nD → PrngReg), Pre_Mkv m →
    θ_run (Cert.Mkv.defs (F := Bits)) (onTc (τ := Cert.Mkv.τ) (Cert.Mkv.main (F := Bits))) ⟨m, fun _ => 0, g⟩ (fun r => (∀ c : Dev Cert.Mkv.nD,
      r.2.mem ((c.tc : Thread Cert.Mkv.nD Cert.Mkv.τ).loc Cert.Mkv.main_arg0) = m ((c.tc : Thread Cert.Mkv.nD Cert.Mkv.τ).loc Cert.Mkv.main_arg0)
      ∧ r.2.mem ((c.tc : Thread Cert.Mkv.nD Cert.Mkv.τ).loc Cert.Mkv.main_arg1) = m ((c.tc : Thread Cert.Mkv.nD Cert.Mkv.τ).loc Cert.Mkv.main_arg1))
      ∧ r.2.sem = fun _ => 0)

def quiescent_MkvIdeal [hMkvIdeal : Cert.MkvIdeal.Facts] : Prop :=
  ∀ (m : (ℓ : Loc Cert.MkvIdeal.nD Cert.MkvIdeal.τ Cert.MkvIdeal.sig) → Buf (Elt Ideal) ℓ) (g : Dev Cert.MkvIdeal.nD → PrngReg), Pre_MkvIdeal m →
    θ_run (Cert.MkvIdeal.defs (F := Ideal)) (onTc (τ := Cert.MkvIdeal.τ) (Cert.MkvIdeal.main (F := Ideal))) ⟨m, fun _ => 0, g⟩ (fun r => (∀ c : Dev Cert.MkvIdeal.nD,
      r.2.mem ((c.tc : Thread Cert.MkvIdeal.nD Cert.MkvIdeal.τ).loc Cert.MkvIdeal.main_arg0) = m ((c.tc : Thread Cert.MkvIdeal.nD Cert.MkvIdeal.τ).loc Cert.MkvIdeal.main_arg0)
      ∧ r.2.mem ((c.tc : Thread Cert.MkvIdeal.nD Cert.MkvIdeal.τ).loc Cert.MkvIdeal.main_arg1) = m ((c.tc : Thread Cert.MkvIdeal.nD Cert.MkvIdeal.τ).loc Cert.MkvIdeal.main_arg1))
      ∧ r.2.sem = fun _ => 0)

def quiescent_RefMkvIdeal [hRefMkvIdeal : Cert.RefMkvIdeal.Facts] : Prop :=
  ∀ (m : (ℓ : Loc Cert.RefMkvIdeal.nD Cert.RefMkvIdeal.τ Cert.RefMkvIdeal.sig) → Buf (Elt Ideal) ℓ) (g : Dev Cert.RefMkvIdeal.nD → PrngReg), Pre_RefMkvIdeal m →
    θ_run (Cert.RefMkvIdeal.defs (F := Ideal)) (onTc (τ := Cert.RefMkvIdeal.τ) (Cert.RefMkvIdeal.main (F := Ideal))) ⟨m, fun _ => 0, g⟩ (fun r => (∀ c : Dev Cert.RefMkvIdeal.nD,
      r.2.mem ((c.tc : Thread Cert.RefMkvIdeal.nD Cert.RefMkvIdeal.τ).loc Cert.RefMkvIdeal.main_arg0) = m ((c.tc : Thread Cert.RefMkvIdeal.nD Cert.RefMkvIdeal.τ).loc Cert.RefMkvIdeal.main_arg0)
      ∧ r.2.mem ((c.tc : Thread Cert.RefMkvIdeal.nD Cert.RefMkvIdeal.τ).loc Cert.RefMkvIdeal.main_arg1) = m ((c.tc : Thread Cert.RefMkvIdeal.nD Cert.RefMkvIdeal.τ).loc Cert.RefMkvIdeal.main_arg1))
      ∧ r.2.sem = fun _ => 0)

def quiescent_Up [hUp : Cert.Up.Facts] : Prop :=
  ∀ (m : (ℓ : Loc Cert.Up.nD Cert.Up.τ Cert.Up.sig) → Buf (Elt Bits) ℓ) (g : Dev Cert.Up.nD → PrngReg), Pre_Up m →
    θ_run (Cert.Up.defs (F := Bits)) (onTc (τ := Cert.Up.τ) (Cert.Up.main (F := Bits))) ⟨m, fun _ => 0, g⟩ (fun r => (∀ c : Dev Cert.Up.nD,
      r.2.mem ((c.tc : Thread Cert.Up.nD Cert.Up.τ).loc Cert.Up.main_arg0) = m ((c.tc : Thread Cert.Up.nD Cert.Up.τ).loc Cert.Up.main_arg0)
      ∧ r.2.mem ((c.tc : Thread Cert.Up.nD Cert.Up.τ).loc Cert.Up.main_arg1) = m ((c.tc : Thread Cert.Up.nD Cert.Up.τ).loc Cert.Up.main_arg1))
      ∧ r.2.sem = fun _ => 0)

def quiescent_UpIdeal [hUpIdeal : Cert.UpIdeal.Facts] : Prop :=
  ∀ (m : (ℓ : Loc Cert.UpIdeal.nD Cert.UpIdeal.τ Cert.UpIdeal.sig) → Buf (Elt Ideal) ℓ) (g : Dev Cert.UpIdeal.nD → PrngReg), Pre_UpIdeal m →
    θ_run (Cert.UpIdeal.defs (F := Ideal)) (onTc (τ := Cert.UpIdeal.τ) (Cert.UpIdeal.main (F := Ideal))) ⟨m, fun _ => 0, g⟩ (fun r => (∀ c : Dev Cert.UpIdeal.nD,
      r.2.mem ((c.tc : Thread Cert.UpIdeal.nD Cert.UpIdeal.τ).loc Cert.UpIdeal.main_arg0) = m ((c.tc : Thread Cert.UpIdeal.nD Cert.UpIdeal.τ).loc Cert.UpIdeal.main_arg0)
      ∧ r.2.mem ((c.tc : Thread Cert.UpIdeal.nD Cert.UpIdeal.τ).loc Cert.UpIdeal.main_arg1) = m ((c.tc : Thread Cert.UpIdeal.nD Cert.UpIdeal.τ).loc Cert.UpIdeal.main_arg1))
      ∧ r.2.sem = fun _ => 0)

def quiescent_RefUpIdeal [hRefUpIdeal : Cert.RefUpIdeal.Facts] : Prop :=
  ∀ (m : (ℓ : Loc Cert.RefUpIdeal.nD Cert.RefUpIdeal.τ Cert.RefUpIdeal.sig) → Buf (Elt Ideal) ℓ) (g : Dev Cert.RefUpIdeal.nD → PrngReg), Pre_RefUpIdeal m →
    θ_run (Cert.RefUpIdeal.defs (F := Ideal)) (onTc (τ := Cert.RefUpIdeal.τ) (Cert.RefUpIdeal.main (F := Ideal))) ⟨m, fun _ => 0, g⟩ (fun r => (∀ c : Dev Cert.RefUpIdeal.nD,
      r.2.mem ((c.tc : Thread Cert.RefUpIdeal.nD Cert.RefUpIdeal.τ).loc Cert.RefUpIdeal.main_arg0) = m ((c.tc : Thread Cert.RefUpIdeal.nD Cert.RefUpIdeal.τ).loc Cert.RefUpIdeal.main_arg0)
      ∧ r.2.mem ((c.tc : Thread Cert.RefUpIdeal.nD Cert.RefUpIdeal.τ).loc Cert.RefUpIdeal.main_arg1) = m ((c.tc : Thread Cert.RefUpIdeal.nD Cert.RefUpIdeal.τ).loc Cert.RefUpIdeal.main_arg1))
      ∧ r.2.sem = fun _ => 0)

def quiescent_OutLn [hOutLn : Cert.OutLn.Facts] : Prop :=
  ∀ (m : (ℓ : Loc Cert.OutLn.nD Cert.OutLn.τ Cert.OutLn.sig) → Buf (Elt Bits) ℓ) (g : Dev Cert.OutLn.nD → PrngReg), Pre_OutLn m →
    θ_run (Cert.OutLn.defs (F := Bits)) (onTc (τ := Cert.OutLn.τ) (Cert.OutLn.main (F := Bits))) ⟨m, fun _ => 0, g⟩ (fun r => (∀ c : Dev Cert.OutLn.nD,
      r.2.mem ((c.tc : Thread Cert.OutLn.nD Cert.OutLn.τ).loc Cert.OutLn.main_arg0) = m ((c.tc : Thread Cert.OutLn.nD Cert.OutLn.τ).loc Cert.OutLn.main_arg0)
      ∧ r.2.mem ((c.tc : Thread Cert.OutLn.nD Cert.OutLn.τ).loc Cert.OutLn.main_arg1) = m ((c.tc : Thread Cert.OutLn.nD Cert.OutLn.τ).loc Cert.OutLn.main_arg1)
      ∧ r.2.mem ((c.tc : Thread Cert.OutLn.nD Cert.OutLn.τ).loc Cert.OutLn.main_arg2) = m ((c.tc : Thread Cert.OutLn.nD Cert.OutLn.τ).loc Cert.OutLn.main_arg2)
      ∧ r.2.mem ((c.tc : Thread Cert.OutLn.nD Cert.OutLn.τ).loc Cert.OutLn.main_arg3) = m ((c.tc : Thread Cert.OutLn.nD Cert.OutLn.τ).loc Cert.OutLn.main_arg3)
      ∧ r.2.mem ((c.tc : Thread Cert.OutLn.nD Cert.OutLn.τ).loc Cert.OutLn.main_arg4) = m ((c.tc : Thread Cert.OutLn.nD Cert.OutLn.τ).loc Cert.OutLn.main_arg4))
      ∧ r.2.sem = fun _ => 0)

def quiescent_OutLnIdeal [hOutLnIdeal : Cert.OutLnIdeal.Facts] : Prop :=
  ∀ (m : (ℓ : Loc Cert.OutLnIdeal.nD Cert.OutLnIdeal.τ Cert.OutLnIdeal.sig) → Buf (Elt Ideal) ℓ) (g : Dev Cert.OutLnIdeal.nD → PrngReg), Pre_OutLnIdeal m →
    θ_run (Cert.OutLnIdeal.defs (F := Ideal)) (onTc (τ := Cert.OutLnIdeal.τ) (Cert.OutLnIdeal.main (F := Ideal))) ⟨m, fun _ => 0, g⟩ (fun r => (∀ c : Dev Cert.OutLnIdeal.nD,
      r.2.mem ((c.tc : Thread Cert.OutLnIdeal.nD Cert.OutLnIdeal.τ).loc Cert.OutLnIdeal.main_arg0) = m ((c.tc : Thread Cert.OutLnIdeal.nD Cert.OutLnIdeal.τ).loc Cert.OutLnIdeal.main_arg0)
      ∧ r.2.mem ((c.tc : Thread Cert.OutLnIdeal.nD Cert.OutLnIdeal.τ).loc Cert.OutLnIdeal.main_arg1) = m ((c.tc : Thread Cert.OutLnIdeal.nD Cert.OutLnIdeal.τ).loc Cert.OutLnIdeal.main_arg1)
      ∧ r.2.mem ((c.tc : Thread Cert.OutLnIdeal.nD Cert.OutLnIdeal.τ).loc Cert.OutLnIdeal.main_arg2) = m ((c.tc : Thread Cert.OutLnIdeal.nD Cert.OutLnIdeal.τ).loc Cert.OutLnIdeal.main_arg2)
      ∧ r.2.mem ((c.tc : Thread Cert.OutLnIdeal.nD Cert.OutLnIdeal.τ).loc Cert.OutLnIdeal.main_arg3) = m ((c.tc : Thread Cert.OutLnIdeal.nD Cert.OutLnIdeal.τ).loc Cert.OutLnIdeal.main_arg3)
      ∧ r.2.mem ((c.tc : Thread Cert.OutLnIdeal.nD Cert.OutLnIdeal.τ).loc Cert.OutLnIdeal.main_arg4) = m ((c.tc : Thread Cert.OutLnIdeal.nD Cert.OutLnIdeal.τ).loc Cert.OutLnIdeal.main_arg4))
      ∧ r.2.sem = fun _ => 0)

def quiescent_RefOutLnIdeal [hRefOutLnIdeal : Cert.RefOutLnIdeal.Facts] : Prop :=
  ∀ (m : (ℓ : Loc Cert.RefOutLnIdeal.nD Cert.RefOutLnIdeal.τ Cert.RefOutLnIdeal.sig) → Buf (Elt Ideal) ℓ) (g : Dev Cert.RefOutLnIdeal.nD → PrngReg), Pre_RefOutLnIdeal m →
    θ_run (Cert.RefOutLnIdeal.defs (F := Ideal)) (onTc (τ := Cert.RefOutLnIdeal.τ) (Cert.RefOutLnIdeal.main (F := Ideal))) ⟨m, fun _ => 0, g⟩ (fun r => (∀ c : Dev Cert.RefOutLnIdeal.nD,
      r.2.mem ((c.tc : Thread Cert.RefOutLnIdeal.nD Cert.RefOutLnIdeal.τ).loc Cert.RefOutLnIdeal.main_arg0) = m ((c.tc : Thread Cert.RefOutLnIdeal.nD Cert.RefOutLnIdeal.τ).loc Cert.RefOutLnIdeal.main_arg0)
      ∧ r.2.mem ((c.tc : Thread Cert.RefOutLnIdeal.nD Cert.RefOutLnIdeal.τ).loc Cert.RefOutLnIdeal.main_arg1) = m ((c.tc : Thread Cert.RefOutLnIdeal.nD Cert.RefOutLnIdeal.τ).loc Cert.RefOutLnIdeal.main_arg1)
      ∧ r.2.mem ((c.tc : Thread Cert.RefOutLnIdeal.nD Cert.RefOutLnIdeal.τ).loc Cert.RefOutLnIdeal.main_arg2) = m ((c.tc : Thread Cert.RefOutLnIdeal.nD Cert.RefOutLnIdeal.τ).loc Cert.RefOutLnIdeal.main_arg2)
      ∧ r.2.mem ((c.tc : Thread Cert.RefOutLnIdeal.nD Cert.RefOutLnIdeal.τ).loc Cert.RefOutLnIdeal.main_arg3) = m ((c.tc : Thread Cert.RefOutLnIdeal.nD Cert.RefOutLnIdeal.τ).loc Cert.RefOutLnIdeal.main_arg3)
      ∧ r.2.mem ((c.tc : Thread Cert.RefOutLnIdeal.nD Cert.RefOutLnIdeal.τ).loc Cert.RefOutLnIdeal.main_arg4) = m ((c.tc : Thread Cert.RefOutLnIdeal.nD Cert.RefOutLnIdeal.τ).loc Cert.RefOutLnIdeal.main_arg4))
      ∧ r.2.sem = fun _ => 0)

def quiescent_DownLn [hDownLn : Cert.DownLn.Facts] : Prop :=
  ∀ (m : (ℓ : Loc Cert.DownLn.nD Cert.DownLn.τ Cert.DownLn.sig) → Buf (Elt Bits) ℓ) (g : Dev Cert.DownLn.nD → PrngReg), Pre_DownLn m →
    θ_run (Cert.DownLn.defs (F := Bits)) (onTc (τ := Cert.DownLn.τ) (Cert.DownLn.main (F := Bits))) ⟨m, fun _ => 0, g⟩ (fun r => (∀ c : Dev Cert.DownLn.nD,
      r.2.mem ((c.tc : Thread Cert.DownLn.nD Cert.DownLn.τ).loc Cert.DownLn.main_arg0) = m ((c.tc : Thread Cert.DownLn.nD Cert.DownLn.τ).loc Cert.DownLn.main_arg0)
      ∧ r.2.mem ((c.tc : Thread Cert.DownLn.nD Cert.DownLn.τ).loc Cert.DownLn.main_arg1) = m ((c.tc : Thread Cert.DownLn.nD Cert.DownLn.τ).loc Cert.DownLn.main_arg1)
      ∧ r.2.mem ((c.tc : Thread Cert.DownLn.nD Cert.DownLn.τ).loc Cert.DownLn.main_arg2) = m ((c.tc : Thread Cert.DownLn.nD Cert.DownLn.τ).loc Cert.DownLn.main_arg2)
      ∧ r.2.mem ((c.tc : Thread Cert.DownLn.nD Cert.DownLn.τ).loc Cert.DownLn.main_arg3) = m ((c.tc : Thread Cert.DownLn.nD Cert.DownLn.τ).loc Cert.DownLn.main_arg3)
      ∧ r.2.mem ((c.tc : Thread Cert.DownLn.nD Cert.DownLn.τ).loc Cert.DownLn.main_arg4) = m ((c.tc : Thread Cert.DownLn.nD Cert.DownLn.τ).loc Cert.DownLn.main_arg4))
      ∧ r.2.sem = fun _ => 0)

def quiescent_DownLnIdeal [hDownLnIdeal : Cert.DownLnIdeal.Facts] : Prop :=
  ∀ (m : (ℓ : Loc Cert.DownLnIdeal.nD Cert.DownLnIdeal.τ Cert.DownLnIdeal.sig) → Buf (Elt Ideal) ℓ) (g : Dev Cert.DownLnIdeal.nD → PrngReg), Pre_DownLnIdeal m →
    θ_run (Cert.DownLnIdeal.defs (F := Ideal)) (onTc (τ := Cert.DownLnIdeal.τ) (Cert.DownLnIdeal.main (F := Ideal))) ⟨m, fun _ => 0, g⟩ (fun r => (∀ c : Dev Cert.DownLnIdeal.nD,
      r.2.mem ((c.tc : Thread Cert.DownLnIdeal.nD Cert.DownLnIdeal.τ).loc Cert.DownLnIdeal.main_arg0) = m ((c.tc : Thread Cert.DownLnIdeal.nD Cert.DownLnIdeal.τ).loc Cert.DownLnIdeal.main_arg0)
      ∧ r.2.mem ((c.tc : Thread Cert.DownLnIdeal.nD Cert.DownLnIdeal.τ).loc Cert.DownLnIdeal.main_arg1) = m ((c.tc : Thread Cert.DownLnIdeal.nD Cert.DownLnIdeal.τ).loc Cert.DownLnIdeal.main_arg1)
      ∧ r.2.mem ((c.tc : Thread Cert.DownLnIdeal.nD Cert.DownLnIdeal.τ).loc Cert.DownLnIdeal.main_arg2) = m ((c.tc : Thread Cert.DownLnIdeal.nD Cert.DownLnIdeal.τ).loc Cert.DownLnIdeal.main_arg2)
      ∧ r.2.mem ((c.tc : Thread Cert.DownLnIdeal.nD Cert.DownLnIdeal.τ).loc Cert.DownLnIdeal.main_arg3) = m ((c.tc : Thread Cert.DownLnIdeal.nD Cert.DownLnIdeal.τ).loc Cert.DownLnIdeal.main_arg3)
      ∧ r.2.mem ((c.tc : Thread Cert.DownLnIdeal.nD Cert.DownLnIdeal.τ).loc Cert.DownLnIdeal.main_arg4) = m ((c.tc : Thread Cert.DownLnIdeal.nD Cert.DownLnIdeal.τ).loc Cert.DownLnIdeal.main_arg4))
      ∧ r.2.sem = fun _ => 0)

def quiescent_RefDownLnIdeal [hRefDownLnIdeal : Cert.RefDownLnIdeal.Facts] : Prop :=
  ∀ (m : (ℓ : Loc Cert.RefDownLnIdeal.nD Cert.RefDownLnIdeal.τ Cert.RefDownLnIdeal.sig) → Buf (Elt Ideal) ℓ) (g : Dev Cert.RefDownLnIdeal.nD → PrngReg), Pre_RefDownLnIdeal m →
    θ_run (Cert.RefDownLnIdeal.defs (F := Ideal)) (onTc (τ := Cert.RefDownLnIdeal.τ) (Cert.RefDownLnIdeal.main (F := Ideal))) ⟨m, fun _ => 0, g⟩ (fun r => (∀ c : Dev Cert.RefDownLnIdeal.nD,
      r.2.mem ((c.tc : Thread Cert.RefDownLnIdeal.nD Cert.RefDownLnIdeal.τ).loc Cert.RefDownLnIdeal.main_arg0) = m ((c.tc : Thread Cert.RefDownLnIdeal.nD Cert.RefDownLnIdeal.τ).loc Cert.RefDownLnIdeal.main_arg0)
      ∧ r.2.mem ((c.tc : Thread Cert.RefDownLnIdeal.nD Cert.RefDownLnIdeal.τ).loc Cert.RefDownLnIdeal.main_arg1) = m ((c.tc : Thread Cert.RefDownLnIdeal.nD Cert.RefDownLnIdeal.τ).loc Cert.RefDownLnIdeal.main_arg1)
      ∧ r.2.mem ((c.tc : Thread Cert.RefDownLnIdeal.nD Cert.RefDownLnIdeal.τ).loc Cert.RefDownLnIdeal.main_arg2) = m ((c.tc : Thread Cert.RefDownLnIdeal.nD Cert.RefDownLnIdeal.τ).loc Cert.RefDownLnIdeal.main_arg2)
      ∧ r.2.mem ((c.tc : Thread Cert.RefDownLnIdeal.nD Cert.RefDownLnIdeal.τ).loc Cert.RefDownLnIdeal.main_arg3) = m ((c.tc : Thread Cert.RefDownLnIdeal.nD Cert.RefDownLnIdeal.τ).loc Cert.RefDownLnIdeal.main_arg3)
      ∧ r.2.mem ((c.tc : Thread Cert.RefDownLnIdeal.nD Cert.RefDownLnIdeal.τ).loc Cert.RefDownLnIdeal.main_arg4) = m ((c.tc : Thread Cert.RefDownLnIdeal.nD Cert.RefDownLnIdeal.τ).loc Cert.RefDownLnIdeal.main_arg4))
      ∧ r.2.sem = fun _ => 0)

def quiescent_MemFwd [hMemFwd : Cert.MemFwd.Facts] : Prop :=
  ∀ (m : (ℓ : Loc Cert.MemFwd.nD Cert.MemFwd.τ Cert.MemFwd.sig) → Buf (Elt Bits) ℓ) (g : Dev Cert.MemFwd.nD → PrngReg), Pre_MemFwd m →
    θ_run (Cert.MemFwd.defs (F := Bits)) (onTc (τ := Cert.MemFwd.τ) (Cert.MemFwd.main (F := Bits))) ⟨m, fun _ => 0, g⟩ (fun r => (∀ c : Dev Cert.MemFwd.nD,
      r.2.mem ((c.tc : Thread Cert.MemFwd.nD Cert.MemFwd.τ).loc Cert.MemFwd.main_arg0) = m ((c.tc : Thread Cert.MemFwd.nD Cert.MemFwd.τ).loc Cert.MemFwd.main_arg0)
      ∧ r.2.mem ((c.tc : Thread Cert.MemFwd.nD Cert.MemFwd.τ).loc Cert.MemFwd.main_arg1) = m ((c.tc : Thread Cert.MemFwd.nD Cert.MemFwd.τ).loc Cert.MemFwd.main_arg1))
      ∧ r.2.sem = fun _ => 0)

def quiescent_MemFwdIdeal [hMemFwdIdeal : Cert.MemFwdIdeal.Facts] : Prop :=
  ∀ (m : (ℓ : Loc Cert.MemFwdIdeal.nD Cert.MemFwdIdeal.τ Cert.MemFwdIdeal.sig) → Buf (Elt Ideal) ℓ) (g : Dev Cert.MemFwdIdeal.nD → PrngReg), Pre_MemFwdIdeal m →
    θ_run (Cert.MemFwdIdeal.defs (F := Ideal)) (onTc (τ := Cert.MemFwdIdeal.τ) (Cert.MemFwdIdeal.main (F := Ideal))) ⟨m, fun _ => 0, g⟩ (fun r => (∀ c : Dev Cert.MemFwdIdeal.nD,
      r.2.mem ((c.tc : Thread Cert.MemFwdIdeal.nD Cert.MemFwdIdeal.τ).loc Cert.MemFwdIdeal.main_arg0) = m ((c.tc : Thread Cert.MemFwdIdeal.nD Cert.MemFwdIdeal.τ).loc Cert.MemFwdIdeal.main_arg0)
      ∧ r.2.mem ((c.tc : Thread Cert.MemFwdIdeal.nD Cert.MemFwdIdeal.τ).loc Cert.MemFwdIdeal.main_arg1) = m ((c.tc : Thread Cert.MemFwdIdeal.nD Cert.MemFwdIdeal.τ).loc Cert.MemFwdIdeal.main_arg1))
      ∧ r.2.sem = fun _ => 0)

def quiescent_RefMemFwdIdeal [hRefMemFwdIdeal : Cert.RefMemFwdIdeal.Facts] : Prop :=
  ∀ (m : (ℓ : Loc Cert.RefMemFwdIdeal.nD Cert.RefMemFwdIdeal.τ Cert.RefMemFwdIdeal.sig) → Buf (Elt Ideal) ℓ) (g : Dev Cert.RefMemFwdIdeal.nD → PrngReg), Pre_RefMemFwdIdeal m →
    θ_run (Cert.RefMemFwdIdeal.defs (F := Ideal)) (onTc (τ := Cert.RefMemFwdIdeal.τ) (Cert.RefMemFwdIdeal.main (F := Ideal))) ⟨m, fun _ => 0, g⟩ (fun r => (∀ c : Dev Cert.RefMemFwdIdeal.nD,
      r.2.mem ((c.tc : Thread Cert.RefMemFwdIdeal.nD Cert.RefMemFwdIdeal.τ).loc Cert.RefMemFwdIdeal.main_arg0) = m ((c.tc : Thread Cert.RefMemFwdIdeal.nD Cert.RefMemFwdIdeal.τ).loc Cert.RefMemFwdIdeal.main_arg0)
      ∧ r.2.mem ((c.tc : Thread Cert.RefMemFwdIdeal.nD Cert.RefMemFwdIdeal.τ).loc Cert.RefMemFwdIdeal.main_arg1) = m ((c.tc : Thread Cert.RefMemFwdIdeal.nD Cert.RefMemFwdIdeal.τ).loc Cert.RefMemFwdIdeal.main_arg1))
      ∧ r.2.sem = fun _ => 0)

def quiescent_Rms [hRms : Cert.Rms.Facts] : Prop :=
  ∀ (m : (ℓ : Loc Cert.Rms.nD Cert.Rms.τ Cert.Rms.sig) → Buf (Elt Bits) ℓ) (g : Dev Cert.Rms.nD → PrngReg), Pre_Rms m →
    θ_run (Cert.Rms.defs (F := Bits)) (onTc (τ := Cert.Rms.τ) (Cert.Rms.main (F := Bits))) ⟨m, fun _ => 0, g⟩ (fun r => (∀ c : Dev Cert.Rms.nD,
      r.2.mem ((c.tc : Thread Cert.Rms.nD Cert.Rms.τ).loc Cert.Rms.main_arg0) = m ((c.tc : Thread Cert.Rms.nD Cert.Rms.τ).loc Cert.Rms.main_arg0)
      ∧ r.2.mem ((c.tc : Thread Cert.Rms.nD Cert.Rms.τ).loc Cert.Rms.main_arg1) = m ((c.tc : Thread Cert.Rms.nD Cert.Rms.τ).loc Cert.Rms.main_arg1)
      ∧ r.2.mem ((c.tc : Thread Cert.Rms.nD Cert.Rms.τ).loc Cert.Rms.main_arg2) = m ((c.tc : Thread Cert.Rms.nD Cert.Rms.τ).loc Cert.Rms.main_arg2)
      ∧ r.2.mem ((c.tc : Thread Cert.Rms.nD Cert.Rms.τ).loc Cert.Rms.main_arg3) = m ((c.tc : Thread Cert.Rms.nD Cert.Rms.τ).loc Cert.Rms.main_arg3))
      ∧ r.2.sem = fun _ => 0)

def quiescent_RmsIdeal [hRmsIdeal : Cert.RmsIdeal.Facts] : Prop :=
  ∀ (m : (ℓ : Loc Cert.RmsIdeal.nD Cert.RmsIdeal.τ Cert.RmsIdeal.sig) → Buf (Elt Ideal) ℓ) (g : Dev Cert.RmsIdeal.nD → PrngReg), Pre_RmsIdeal m →
    θ_run (Cert.RmsIdeal.defs (F := Ideal)) (onTc (τ := Cert.RmsIdeal.τ) (Cert.RmsIdeal.main (F := Ideal))) ⟨m, fun _ => 0, g⟩ (fun r => (∀ c : Dev Cert.RmsIdeal.nD,
      r.2.mem ((c.tc : Thread Cert.RmsIdeal.nD Cert.RmsIdeal.τ).loc Cert.RmsIdeal.main_arg0) = m ((c.tc : Thread Cert.RmsIdeal.nD Cert.RmsIdeal.τ).loc Cert.RmsIdeal.main_arg0)
      ∧ r.2.mem ((c.tc : Thread Cert.RmsIdeal.nD Cert.RmsIdeal.τ).loc Cert.RmsIdeal.main_arg1) = m ((c.tc : Thread Cert.RmsIdeal.nD Cert.RmsIdeal.τ).loc Cert.RmsIdeal.main_arg1)
      ∧ r.2.mem ((c.tc : Thread Cert.RmsIdeal.nD Cert.RmsIdeal.τ).loc Cert.RmsIdeal.main_arg2) = m ((c.tc : Thread Cert.RmsIdeal.nD Cert.RmsIdeal.τ).loc Cert.RmsIdeal.main_arg2)
      ∧ r.2.mem ((c.tc : Thread Cert.RmsIdeal.nD Cert.RmsIdeal.τ).loc Cert.RmsIdeal.main_arg3) = m ((c.tc : Thread Cert.RmsIdeal.nD Cert.RmsIdeal.τ).loc Cert.RmsIdeal.main_arg3))
      ∧ r.2.sem = fun _ => 0)

def quiescent_RefRmsIdeal [hRefRmsIdeal : Cert.RefRmsIdeal.Facts] : Prop :=
  ∀ (m : (ℓ : Loc Cert.RefRmsIdeal.nD Cert.RefRmsIdeal.τ Cert.RefRmsIdeal.sig) → Buf (Elt Ideal) ℓ) (g : Dev Cert.RefRmsIdeal.nD → PrngReg), Pre_RefRmsIdeal m →
    θ_run (Cert.RefRmsIdeal.defs (F := Ideal)) (onTc (τ := Cert.RefRmsIdeal.τ) (Cert.RefRmsIdeal.main (F := Ideal))) ⟨m, fun _ => 0, g⟩ (fun r => (∀ c : Dev Cert.RefRmsIdeal.nD,
      r.2.mem ((c.tc : Thread Cert.RefRmsIdeal.nD Cert.RefRmsIdeal.τ).loc Cert.RefRmsIdeal.main_arg0) = m ((c.tc : Thread Cert.RefRmsIdeal.nD Cert.RefRmsIdeal.τ).loc Cert.RefRmsIdeal.main_arg0)
      ∧ r.2.mem ((c.tc : Thread Cert.RefRmsIdeal.nD Cert.RefRmsIdeal.τ).loc Cert.RefRmsIdeal.main_arg1) = m ((c.tc : Thread Cert.RefRmsIdeal.nD Cert.RefRmsIdeal.τ).loc Cert.RefRmsIdeal.main_arg1)
      ∧ r.2.mem ((c.tc : Thread Cert.RefRmsIdeal.nD Cert.RefRmsIdeal.τ).loc Cert.RefRmsIdeal.main_arg2) = m ((c.tc : Thread Cert.RefRmsIdeal.nD Cert.RefRmsIdeal.τ).loc Cert.RefRmsIdeal.main_arg2)
      ∧ r.2.mem ((c.tc : Thread Cert.RefRmsIdeal.nD Cert.RefRmsIdeal.τ).loc Cert.RefRmsIdeal.main_arg3) = m ((c.tc : Thread Cert.RefRmsIdeal.nD Cert.RefRmsIdeal.τ).loc Cert.RefRmsIdeal.main_arg3))
      ∧ r.2.sem = fun _ => 0)

def quiescent_LnGrad [hLnGrad : Cert.LnGrad.Facts] : Prop :=
  ∀ (m : (ℓ : Loc Cert.LnGrad.nD Cert.LnGrad.τ Cert.LnGrad.sig) → Buf (Elt Bits) ℓ) (g : Dev Cert.LnGrad.nD → PrngReg), Pre_LnGrad m →
    θ_run (Cert.LnGrad.defs (F := Bits)) (onTc (τ := Cert.LnGrad.τ) (Cert.LnGrad.main (F := Bits))) ⟨m, fun _ => 0, g⟩ (fun r => (∀ c : Dev Cert.LnGrad.nD,
      r.2.mem ((c.tc : Thread Cert.LnGrad.nD Cert.LnGrad.τ).loc Cert.LnGrad.main_arg0) = m ((c.tc : Thread Cert.LnGrad.nD Cert.LnGrad.τ).loc Cert.LnGrad.main_arg0)
      ∧ r.2.mem ((c.tc : Thread Cert.LnGrad.nD Cert.LnGrad.τ).loc Cert.LnGrad.main_arg1) = m ((c.tc : Thread Cert.LnGrad.nD Cert.LnGrad.τ).loc Cert.LnGrad.main_arg1)
      ∧ r.2.mem ((c.tc : Thread Cert.LnGrad.nD Cert.LnGrad.τ).loc Cert.LnGrad.main_arg2) = m ((c.tc : Thread Cert.LnGrad.nD Cert.LnGrad.τ).loc Cert.LnGrad.main_arg2))
      ∧ r.2.sem = fun _ => 0)

def quiescent_LnGradIdeal [hLnGradIdeal : Cert.LnGradIdeal.Facts] : Prop :=
  ∀ (m : (ℓ : Loc Cert.LnGradIdeal.nD Cert.LnGradIdeal.τ Cert.LnGradIdeal.sig) → Buf (Elt Ideal) ℓ) (g : Dev Cert.LnGradIdeal.nD → PrngReg), Pre_LnGradIdeal m →
    θ_run (Cert.LnGradIdeal.defs (F := Ideal)) (onTc (τ := Cert.LnGradIdeal.τ) (Cert.LnGradIdeal.main (F := Ideal))) ⟨m, fun _ => 0, g⟩ (fun r => (∀ c : Dev Cert.LnGradIdeal.nD,
      r.2.mem ((c.tc : Thread Cert.LnGradIdeal.nD Cert.LnGradIdeal.τ).loc Cert.LnGradIdeal.main_arg0) = m ((c.tc : Thread Cert.LnGradIdeal.nD Cert.LnGradIdeal.τ).loc Cert.LnGradIdeal.main_arg0)
      ∧ r.2.mem ((c.tc : Thread Cert.LnGradIdeal.nD Cert.LnGradIdeal.τ).loc Cert.LnGradIdeal.main_arg1) = m ((c.tc : Thread Cert.LnGradIdeal.nD Cert.LnGradIdeal.τ).loc Cert.LnGradIdeal.main_arg1)
      ∧ r.2.mem ((c.tc : Thread Cert.LnGradIdeal.nD Cert.LnGradIdeal.τ).loc Cert.LnGradIdeal.main_arg2) = m ((c.tc : Thread Cert.LnGradIdeal.nD Cert.LnGradIdeal.τ).loc Cert.LnGradIdeal.main_arg2))
      ∧ r.2.sem = fun _ => 0)

def quiescent_LnGradIdeal_pre_products_finite [hLnGradIdeal : Cert.LnGradIdeal.Facts] [hPre_products_finite : Cert.Pre_products_finite.Facts] : Prop :=
  ∀ (m : (ℓ : Loc Cert.LnGradIdeal.nD Cert.LnGradIdeal.τ Cert.LnGradIdeal.sig) → Buf (Elt Ideal) ℓ) (g : Dev Cert.LnGradIdeal.nD → PrngReg), Pre_LnGradIdeal_products_finite m →
    θ_run (Cert.LnGradIdeal.defs (F := Ideal)) (onTc (τ := Cert.LnGradIdeal.τ) (Cert.LnGradIdeal.main (F := Ideal))) ⟨m, fun _ => 0, g⟩ (fun r => (∀ c : Dev Cert.LnGradIdeal.nD,
      r.2.mem ((c.tc : Thread Cert.LnGradIdeal.nD Cert.LnGradIdeal.τ).loc Cert.LnGradIdeal.main_arg0) = m ((c.tc : Thread Cert.LnGradIdeal.nD Cert.LnGradIdeal.τ).loc Cert.LnGradIdeal.main_arg0)
      ∧ r.2.mem ((c.tc : Thread Cert.LnGradIdeal.nD Cert.LnGradIdeal.τ).loc Cert.LnGradIdeal.main_arg1) = m ((c.tc : Thread Cert.LnGradIdeal.nD Cert.LnGradIdeal.τ).loc Cert.LnGradIdeal.main_arg1)
      ∧ r.2.mem ((c.tc : Thread Cert.LnGradIdeal.nD Cert.LnGradIdeal.τ).loc Cert.LnGradIdeal.main_arg2) = m ((c.tc : Thread Cert.LnGradIdeal.nD Cert.LnGradIdeal.τ).loc Cert.LnGradIdeal.main_arg2))
      ∧ r.2.sem = fun _ => 0)

def quiescent_RefLnGradIdeal [hRefLnGradIdeal : Cert.RefLnGradIdeal.Facts] : Prop :=
  ∀ (m : (ℓ : Loc Cert.RefLnGradIdeal.nD Cert.RefLnGradIdeal.τ Cert.RefLnGradIdeal.sig) → Buf (Elt Ideal) ℓ) (g : Dev Cert.RefLnGradIdeal.nD → PrngReg), Pre_RefLnGradIdeal m →
    θ_run (Cert.RefLnGradIdeal.defs (F := Ideal)) (onTc (τ := Cert.RefLnGradIdeal.τ) (Cert.RefLnGradIdeal.main (F := Ideal))) ⟨m, fun _ => 0, g⟩ (fun r => (∀ c : Dev Cert.RefLnGradIdeal.nD,
      r.2.mem ((c.tc : Thread Cert.RefLnGradIdeal.nD Cert.RefLnGradIdeal.τ).loc Cert.RefLnGradIdeal.main_arg0) = m ((c.tc : Thread Cert.RefLnGradIdeal.nD Cert.RefLnGradIdeal.τ).loc Cert.RefLnGradIdeal.main_arg0)
      ∧ r.2.mem ((c.tc : Thread Cert.RefLnGradIdeal.nD Cert.RefLnGradIdeal.τ).loc Cert.RefLnGradIdeal.main_arg1) = m ((c.tc : Thread Cert.RefLnGradIdeal.nD Cert.RefLnGradIdeal.τ).loc Cert.RefLnGradIdeal.main_arg1)
      ∧ r.2.mem ((c.tc : Thread Cert.RefLnGradIdeal.nD Cert.RefLnGradIdeal.τ).loc Cert.RefLnGradIdeal.main_arg2) = m ((c.tc : Thread Cert.RefLnGradIdeal.nD Cert.RefLnGradIdeal.τ).loc Cert.RefLnGradIdeal.main_arg2))
      ∧ r.2.sem = fun _ => 0)

def quiescent_RefLnGradIdeal_pre_products_finite [hRefLnGradIdeal : Cert.RefLnGradIdeal.Facts] [hPre_products_finite : Cert.Pre_products_finite.Facts] : Prop :=
  ∀ (m : (ℓ : Loc Cert.RefLnGradIdeal.nD Cert.RefLnGradIdeal.τ Cert.RefLnGradIdeal.sig) → Buf (Elt Ideal) ℓ) (g : Dev Cert.RefLnGradIdeal.nD → PrngReg), Pre_RefLnGradIdeal_products_finite m →
    θ_run (Cert.RefLnGradIdeal.defs (F := Ideal)) (onTc (τ := Cert.RefLnGradIdeal.τ) (Cert.RefLnGradIdeal.main (F := Ideal))) ⟨m, fun _ => 0, g⟩ (fun r => (∀ c : Dev Cert.RefLnGradIdeal.nD,
      r.2.mem ((c.tc : Thread Cert.RefLnGradIdeal.nD Cert.RefLnGradIdeal.τ).loc Cert.RefLnGradIdeal.main_arg0) = m ((c.tc : Thread Cert.RefLnGradIdeal.nD Cert.RefLnGradIdeal.τ).loc Cert.RefLnGradIdeal.main_arg0)
      ∧ r.2.mem ((c.tc : Thread Cert.RefLnGradIdeal.nD Cert.RefLnGradIdeal.τ).loc Cert.RefLnGradIdeal.main_arg1) = m ((c.tc : Thread Cert.RefLnGradIdeal.nD Cert.RefLnGradIdeal.τ).loc Cert.RefLnGradIdeal.main_arg1)
      ∧ r.2.mem ((c.tc : Thread Cert.RefLnGradIdeal.nD Cert.RefLnGradIdeal.τ).loc Cert.RefLnGradIdeal.main_arg2) = m ((c.tc : Thread Cert.RefLnGradIdeal.nD Cert.RefLnGradIdeal.τ).loc Cert.RefLnGradIdeal.main_arg2))
      ∧ r.2.sem = fun _ => 0)

def quiescent_RmsGrad [hRmsGrad : Cert.RmsGrad.Facts] : Prop :=
  ∀ (m : (ℓ : Loc Cert.RmsGrad.nD Cert.RmsGrad.τ Cert.RmsGrad.sig) → Buf (Elt Bits) ℓ) (g : Dev Cert.RmsGrad.nD → PrngReg), Pre_RmsGrad m →
    θ_run (Cert.RmsGrad.defs (F := Bits)) (onTc (τ := Cert.RmsGrad.τ) (Cert.RmsGrad.main (F := Bits))) ⟨m, fun _ => 0, g⟩ (fun r => (∀ c : Dev Cert.RmsGrad.nD,
      r.2.mem ((c.tc : Thread Cert.RmsGrad.nD Cert.RmsGrad.τ).loc Cert.RmsGrad.main_arg0) = m ((c.tc : Thread Cert.RmsGrad.nD Cert.RmsGrad.τ).loc Cert.RmsGrad.main_arg0)
      ∧ r.2.mem ((c.tc : Thread Cert.RmsGrad.nD Cert.RmsGrad.τ).loc Cert.RmsGrad.main_arg1) = m ((c.tc : Thread Cert.RmsGrad.nD Cert.RmsGrad.τ).loc Cert.RmsGrad.main_arg1)
      ∧ r.2.mem ((c.tc : Thread Cert.RmsGrad.nD Cert.RmsGrad.τ).loc Cert.RmsGrad.main_arg2) = m ((c.tc : Thread Cert.RmsGrad.nD Cert.RmsGrad.τ).loc Cert.RmsGrad.main_arg2)
      ∧ r.2.mem ((c.tc : Thread Cert.RmsGrad.nD Cert.RmsGrad.τ).loc Cert.RmsGrad.main_arg3) = m ((c.tc : Thread Cert.RmsGrad.nD Cert.RmsGrad.τ).loc Cert.RmsGrad.main_arg3)
      ∧ r.2.mem ((c.tc : Thread Cert.RmsGrad.nD Cert.RmsGrad.τ).loc Cert.RmsGrad.main_arg4) = m ((c.tc : Thread Cert.RmsGrad.nD Cert.RmsGrad.τ).loc Cert.RmsGrad.main_arg4))
      ∧ r.2.sem = fun _ => 0)

def quiescent_RmsGradIdeal [hRmsGradIdeal : Cert.RmsGradIdeal.Facts] : Prop :=
  ∀ (m : (ℓ : Loc Cert.RmsGradIdeal.nD Cert.RmsGradIdeal.τ Cert.RmsGradIdeal.sig) → Buf (Elt Ideal) ℓ) (g : Dev Cert.RmsGradIdeal.nD → PrngReg), Pre_RmsGradIdeal m →
    θ_run (Cert.RmsGradIdeal.defs (F := Ideal)) (onTc (τ := Cert.RmsGradIdeal.τ) (Cert.RmsGradIdeal.main (F := Ideal))) ⟨m, fun _ => 0, g⟩ (fun r => (∀ c : Dev Cert.RmsGradIdeal.nD,
      r.2.mem ((c.tc : Thread Cert.RmsGradIdeal.nD Cert.RmsGradIdeal.τ).loc Cert.RmsGradIdeal.main_arg0) = m ((c.tc : Thread Cert.RmsGradIdeal.nD Cert.RmsGradIdeal.τ).loc Cert.RmsGradIdeal.main_arg0)
      ∧ r.2.mem ((c.tc : Thread Cert.RmsGradIdeal.nD Cert.RmsGradIdeal.τ).loc Cert.RmsGradIdeal.main_arg1) = m ((c.tc : Thread Cert.RmsGradIdeal.nD Cert.RmsGradIdeal.τ).loc Cert.RmsGradIdeal.main_arg1)
      ∧ r.2.mem ((c.tc : Thread Cert.RmsGradIdeal.nD Cert.RmsGradIdeal.τ).loc Cert.RmsGradIdeal.main_arg2) = m ((c.tc : Thread Cert.RmsGradIdeal.nD Cert.RmsGradIdeal.τ).loc Cert.RmsGradIdeal.main_arg2)
      ∧ r.2.mem ((c.tc : Thread Cert.RmsGradIdeal.nD Cert.RmsGradIdeal.τ).loc Cert.RmsGradIdeal.main_arg3) = m ((c.tc : Thread Cert.RmsGradIdeal.nD Cert.RmsGradIdeal.τ).loc Cert.RmsGradIdeal.main_arg3)
      ∧ r.2.mem ((c.tc : Thread Cert.RmsGradIdeal.nD Cert.RmsGradIdeal.τ).loc Cert.RmsGradIdeal.main_arg4) = m ((c.tc : Thread Cert.RmsGradIdeal.nD Cert.RmsGradIdeal.τ).loc Cert.RmsGradIdeal.main_arg4))
      ∧ r.2.sem = fun _ => 0)

def quiescent_RefRmsGradIdeal [hRefRmsGradIdeal : Cert.RefRmsGradIdeal.Facts] : Prop :=
  ∀ (m : (ℓ : Loc Cert.RefRmsGradIdeal.nD Cert.RefRmsGradIdeal.τ Cert.RefRmsGradIdeal.sig) → Buf (Elt Ideal) ℓ) (g : Dev Cert.RefRmsGradIdeal.nD → PrngReg), Pre_RefRmsGradIdeal m →
    θ_run (Cert.RefRmsGradIdeal.defs (F := Ideal)) (onTc (τ := Cert.RefRmsGradIdeal.τ) (Cert.RefRmsGradIdeal.main (F := Ideal))) ⟨m, fun _ => 0, g⟩ (fun r => (∀ c : Dev Cert.RefRmsGradIdeal.nD,
      r.2.mem ((c.tc : Thread Cert.RefRmsGradIdeal.nD Cert.RefRmsGradIdeal.τ).loc Cert.RefRmsGradIdeal.main_arg0) = m ((c.tc : Thread Cert.RefRmsGradIdeal.nD Cert.RefRmsGradIdeal.τ).loc Cert.RefRmsGradIdeal.main_arg0)
      ∧ r.2.mem ((c.tc : Thread Cert.RefRmsGradIdeal.nD Cert.RefRmsGradIdeal.τ).loc Cert.RefRmsGradIdeal.main_arg1) = m ((c.tc : Thread Cert.RefRmsGradIdeal.nD Cert.RefRmsGradIdeal.τ).loc Cert.RefRmsGradIdeal.main_arg1)
      ∧ r.2.mem ((c.tc : Thread Cert.RefRmsGradIdeal.nD Cert.RefRmsGradIdeal.τ).loc Cert.RefRmsGradIdeal.main_arg2) = m ((c.tc : Thread Cert.RefRmsGradIdeal.nD Cert.RefRmsGradIdeal.τ).loc Cert.RefRmsGradIdeal.main_arg2)
      ∧ r.2.mem ((c.tc : Thread Cert.RefRmsGradIdeal.nD Cert.RefRmsGradIdeal.τ).loc Cert.RefRmsGradIdeal.main_arg3) = m ((c.tc : Thread Cert.RefRmsGradIdeal.nD Cert.RefRmsGradIdeal.τ).loc Cert.RefRmsGradIdeal.main_arg3)
      ∧ r.2.mem ((c.tc : Thread Cert.RefRmsGradIdeal.nD Cert.RefRmsGradIdeal.τ).loc Cert.RefRmsGradIdeal.main_arg4) = m ((c.tc : Thread Cert.RefRmsGradIdeal.nD Cert.RefRmsGradIdeal.τ).loc Cert.RefRmsGradIdeal.main_arg4))
      ∧ r.2.sem = fun _ => 0)

def quiescent_Loss [hLoss : Cert.Loss.Facts] : Prop :=
  ∀ (m : (ℓ : Loc Cert.Loss.nD Cert.Loss.τ Cert.Loss.sig) → Buf (Elt Bits) ℓ) (g : Dev Cert.Loss.nD → PrngReg), Pre_Loss m →
    θ_run (Cert.Loss.defs (F := Bits)) (onTc (τ := Cert.Loss.τ) (Cert.Loss.main (F := Bits))) ⟨m, fun _ => 0, g⟩ (fun r => (∀ c : Dev Cert.Loss.nD,
      r.2.mem ((c.tc : Thread Cert.Loss.nD Cert.Loss.τ).loc Cert.Loss.main_arg0) = m ((c.tc : Thread Cert.Loss.nD Cert.Loss.τ).loc Cert.Loss.main_arg0)
      ∧ r.2.mem ((c.tc : Thread Cert.Loss.nD Cert.Loss.τ).loc Cert.Loss.main_arg1) = m ((c.tc : Thread Cert.Loss.nD Cert.Loss.τ).loc Cert.Loss.main_arg1))
      ∧ r.2.sem = fun _ => 0)

def quiescent_LossIdeal [hLossIdeal : Cert.LossIdeal.Facts] : Prop :=
  ∀ (m : (ℓ : Loc Cert.LossIdeal.nD Cert.LossIdeal.τ Cert.LossIdeal.sig) → Buf (Elt Ideal) ℓ) (g : Dev Cert.LossIdeal.nD → PrngReg), Pre_LossIdeal m →
    θ_run (Cert.LossIdeal.defs (F := Ideal)) (onTc (τ := Cert.LossIdeal.τ) (Cert.LossIdeal.main (F := Ideal))) ⟨m, fun _ => 0, g⟩ (fun r => (∀ c : Dev Cert.LossIdeal.nD,
      r.2.mem ((c.tc : Thread Cert.LossIdeal.nD Cert.LossIdeal.τ).loc Cert.LossIdeal.main_arg0) = m ((c.tc : Thread Cert.LossIdeal.nD Cert.LossIdeal.τ).loc Cert.LossIdeal.main_arg0)
      ∧ r.2.mem ((c.tc : Thread Cert.LossIdeal.nD Cert.LossIdeal.τ).loc Cert.LossIdeal.main_arg1) = m ((c.tc : Thread Cert.LossIdeal.nD Cert.LossIdeal.τ).loc Cert.LossIdeal.main_arg1))
      ∧ r.2.sem = fun _ => 0)

def quiescent_RefLossIdeal [hRefLossIdeal : Cert.RefLossIdeal.Facts] : Prop :=
  ∀ (m : (ℓ : Loc Cert.RefLossIdeal.nD Cert.RefLossIdeal.τ Cert.RefLossIdeal.sig) → Buf (Elt Ideal) ℓ) (g : Dev Cert.RefLossIdeal.nD → PrngReg), Pre_RefLossIdeal m →
    θ_run (Cert.RefLossIdeal.defs (F := Ideal)) (onTc (τ := Cert.RefLossIdeal.τ) (Cert.RefLossIdeal.main (F := Ideal))) ⟨m, fun _ => 0, g⟩ (fun r => (∀ c : Dev Cert.RefLossIdeal.nD,
      r.2.mem ((c.tc : Thread Cert.RefLossIdeal.nD Cert.RefLossIdeal.τ).loc Cert.RefLossIdeal.main_arg0) = m ((c.tc : Thread Cert.RefLossIdeal.nD Cert.RefLossIdeal.τ).loc Cert.RefLossIdeal.main_arg0)
      ∧ r.2.mem ((c.tc : Thread Cert.RefLossIdeal.nD Cert.RefLossIdeal.τ).loc Cert.RefLossIdeal.main_arg1) = m ((c.tc : Thread Cert.RefLossIdeal.nD Cert.RefLossIdeal.τ).loc Cert.RefLossIdeal.main_arg1))
      ∧ r.2.sem = fun _ => 0)

def quiescent_AdamIn [hAdamIn : Cert.AdamIn.Facts] : Prop :=
  ∀ (m : (ℓ : Loc Cert.AdamIn.nD Cert.AdamIn.τ Cert.AdamIn.sig) → Buf (Elt Bits) ℓ) (g : Dev Cert.AdamIn.nD → PrngReg), Pre_AdamIn m →
    θ_run (Cert.AdamIn.defs (F := Bits)) (onTc (τ := Cert.AdamIn.τ) (Cert.AdamIn.main (F := Bits))) ⟨m, fun _ => 0, g⟩ (fun r => (∀ c : Dev Cert.AdamIn.nD,
      r.2.mem ((c.tc : Thread Cert.AdamIn.nD Cert.AdamIn.τ).loc Cert.AdamIn.main_arg0) = m ((c.tc : Thread Cert.AdamIn.nD Cert.AdamIn.τ).loc Cert.AdamIn.main_arg0)
      ∧ r.2.mem ((c.tc : Thread Cert.AdamIn.nD Cert.AdamIn.τ).loc Cert.AdamIn.main_arg1) = m ((c.tc : Thread Cert.AdamIn.nD Cert.AdamIn.τ).loc Cert.AdamIn.main_arg1)
      ∧ r.2.mem ((c.tc : Thread Cert.AdamIn.nD Cert.AdamIn.τ).loc Cert.AdamIn.main_arg2) = m ((c.tc : Thread Cert.AdamIn.nD Cert.AdamIn.τ).loc Cert.AdamIn.main_arg2)
      ∧ r.2.mem ((c.tc : Thread Cert.AdamIn.nD Cert.AdamIn.τ).loc Cert.AdamIn.main_arg3) = m ((c.tc : Thread Cert.AdamIn.nD Cert.AdamIn.τ).loc Cert.AdamIn.main_arg3))
      ∧ r.2.sem = fun _ => 0)

def quiescent_AdamInIdeal [hAdamInIdeal : Cert.AdamInIdeal.Facts] : Prop :=
  ∀ (m : (ℓ : Loc Cert.AdamInIdeal.nD Cert.AdamInIdeal.τ Cert.AdamInIdeal.sig) → Buf (Elt Ideal) ℓ) (g : Dev Cert.AdamInIdeal.nD → PrngReg), Pre_AdamInIdeal m →
    θ_run (Cert.AdamInIdeal.defs (F := Ideal)) (onTc (τ := Cert.AdamInIdeal.τ) (Cert.AdamInIdeal.main (F := Ideal))) ⟨m, fun _ => 0, g⟩ (fun r => (∀ c : Dev Cert.AdamInIdeal.nD,
      r.2.mem ((c.tc : Thread Cert.AdamInIdeal.nD Cert.AdamInIdeal.τ).loc Cert.AdamInIdeal.main_arg0) = m ((c.tc : Thread Cert.AdamInIdeal.nD Cert.AdamInIdeal.τ).loc Cert.AdamInIdeal.main_arg0)
      ∧ r.2.mem ((c.tc : Thread Cert.AdamInIdeal.nD Cert.AdamInIdeal.τ).loc Cert.AdamInIdeal.main_arg1) = m ((c.tc : Thread Cert.AdamInIdeal.nD Cert.AdamInIdeal.τ).loc Cert.AdamInIdeal.main_arg1)
      ∧ r.2.mem ((c.tc : Thread Cert.AdamInIdeal.nD Cert.AdamInIdeal.τ).loc Cert.AdamInIdeal.main_arg2) = m ((c.tc : Thread Cert.AdamInIdeal.nD Cert.AdamInIdeal.τ).loc Cert.AdamInIdeal.main_arg2)
      ∧ r.2.mem ((c.tc : Thread Cert.AdamInIdeal.nD Cert.AdamInIdeal.τ).loc Cert.AdamInIdeal.main_arg3) = m ((c.tc : Thread Cert.AdamInIdeal.nD Cert.AdamInIdeal.τ).loc Cert.AdamInIdeal.main_arg3))
      ∧ r.2.sem = fun _ => 0)

def quiescent_RefAdamInIdeal [hRefAdamInIdeal : Cert.RefAdamInIdeal.Facts] : Prop :=
  ∀ (m : (ℓ : Loc Cert.RefAdamInIdeal.nD Cert.RefAdamInIdeal.τ Cert.RefAdamInIdeal.sig) → Buf (Elt Ideal) ℓ) (g : Dev Cert.RefAdamInIdeal.nD → PrngReg), Pre_RefAdamInIdeal m →
    θ_run (Cert.RefAdamInIdeal.defs (F := Ideal)) (onTc (τ := Cert.RefAdamInIdeal.τ) (Cert.RefAdamInIdeal.main (F := Ideal))) ⟨m, fun _ => 0, g⟩ (fun r => (∀ c : Dev Cert.RefAdamInIdeal.nD,
      r.2.mem ((c.tc : Thread Cert.RefAdamInIdeal.nD Cert.RefAdamInIdeal.τ).loc Cert.RefAdamInIdeal.main_arg0) = m ((c.tc : Thread Cert.RefAdamInIdeal.nD Cert.RefAdamInIdeal.τ).loc Cert.RefAdamInIdeal.main_arg0)
      ∧ r.2.mem ((c.tc : Thread Cert.RefAdamInIdeal.nD Cert.RefAdamInIdeal.τ).loc Cert.RefAdamInIdeal.main_arg1) = m ((c.tc : Thread Cert.RefAdamInIdeal.nD Cert.RefAdamInIdeal.τ).loc Cert.RefAdamInIdeal.main_arg1)
      ∧ r.2.mem ((c.tc : Thread Cert.RefAdamInIdeal.nD Cert.RefAdamInIdeal.τ).loc Cert.RefAdamInIdeal.main_arg2) = m ((c.tc : Thread Cert.RefAdamInIdeal.nD Cert.RefAdamInIdeal.τ).loc Cert.RefAdamInIdeal.main_arg2)
      ∧ r.2.mem ((c.tc : Thread Cert.RefAdamInIdeal.nD Cert.RefAdamInIdeal.τ).loc Cert.RefAdamInIdeal.main_arg3) = m ((c.tc : Thread Cert.RefAdamInIdeal.nD Cert.RefAdamInIdeal.τ).loc Cert.RefAdamInIdeal.main_arg3))
      ∧ r.2.sem = fun _ => 0)

def quiescent_AdamSq [hAdamSq : Cert.AdamSq.Facts] : Prop :=
  ∀ (m : (ℓ : Loc Cert.AdamSq.nD Cert.AdamSq.τ Cert.AdamSq.sig) → Buf (Elt Bits) ℓ) (g : Dev Cert.AdamSq.nD → PrngReg), Pre_AdamSq m →
    θ_run (Cert.AdamSq.defs (F := Bits)) (onTc (τ := Cert.AdamSq.τ) (Cert.AdamSq.main (F := Bits))) ⟨m, fun _ => 0, g⟩ (fun r => (∀ c : Dev Cert.AdamSq.nD,
      r.2.mem ((c.tc : Thread Cert.AdamSq.nD Cert.AdamSq.τ).loc Cert.AdamSq.main_arg0) = m ((c.tc : Thread Cert.AdamSq.nD Cert.AdamSq.τ).loc Cert.AdamSq.main_arg0)
      ∧ r.2.mem ((c.tc : Thread Cert.AdamSq.nD Cert.AdamSq.τ).loc Cert.AdamSq.main_arg1) = m ((c.tc : Thread Cert.AdamSq.nD Cert.AdamSq.τ).loc Cert.AdamSq.main_arg1)
      ∧ r.2.mem ((c.tc : Thread Cert.AdamSq.nD Cert.AdamSq.τ).loc Cert.AdamSq.main_arg2) = m ((c.tc : Thread Cert.AdamSq.nD Cert.AdamSq.τ).loc Cert.AdamSq.main_arg2)
      ∧ r.2.mem ((c.tc : Thread Cert.AdamSq.nD Cert.AdamSq.τ).loc Cert.AdamSq.main_arg3) = m ((c.tc : Thread Cert.AdamSq.nD Cert.AdamSq.τ).loc Cert.AdamSq.main_arg3))
      ∧ r.2.sem = fun _ => 0)

def quiescent_AdamSqIdeal [hAdamSqIdeal : Cert.AdamSqIdeal.Facts] : Prop :=
  ∀ (m : (ℓ : Loc Cert.AdamSqIdeal.nD Cert.AdamSqIdeal.τ Cert.AdamSqIdeal.sig) → Buf (Elt Ideal) ℓ) (g : Dev Cert.AdamSqIdeal.nD → PrngReg), Pre_AdamSqIdeal m →
    θ_run (Cert.AdamSqIdeal.defs (F := Ideal)) (onTc (τ := Cert.AdamSqIdeal.τ) (Cert.AdamSqIdeal.main (F := Ideal))) ⟨m, fun _ => 0, g⟩ (fun r => (∀ c : Dev Cert.AdamSqIdeal.nD,
      r.2.mem ((c.tc : Thread Cert.AdamSqIdeal.nD Cert.AdamSqIdeal.τ).loc Cert.AdamSqIdeal.main_arg0) = m ((c.tc : Thread Cert.AdamSqIdeal.nD Cert.AdamSqIdeal.τ).loc Cert.AdamSqIdeal.main_arg0)
      ∧ r.2.mem ((c.tc : Thread Cert.AdamSqIdeal.nD Cert.AdamSqIdeal.τ).loc Cert.AdamSqIdeal.main_arg1) = m ((c.tc : Thread Cert.AdamSqIdeal.nD Cert.AdamSqIdeal.τ).loc Cert.AdamSqIdeal.main_arg1)
      ∧ r.2.mem ((c.tc : Thread Cert.AdamSqIdeal.nD Cert.AdamSqIdeal.τ).loc Cert.AdamSqIdeal.main_arg2) = m ((c.tc : Thread Cert.AdamSqIdeal.nD Cert.AdamSqIdeal.τ).loc Cert.AdamSqIdeal.main_arg2)
      ∧ r.2.mem ((c.tc : Thread Cert.AdamSqIdeal.nD Cert.AdamSqIdeal.τ).loc Cert.AdamSqIdeal.main_arg3) = m ((c.tc : Thread Cert.AdamSqIdeal.nD Cert.AdamSqIdeal.τ).loc Cert.AdamSqIdeal.main_arg3))
      ∧ r.2.sem = fun _ => 0)

def quiescent_RefAdamSqIdeal [hRefAdamSqIdeal : Cert.RefAdamSqIdeal.Facts] : Prop :=
  ∀ (m : (ℓ : Loc Cert.RefAdamSqIdeal.nD Cert.RefAdamSqIdeal.τ Cert.RefAdamSqIdeal.sig) → Buf (Elt Ideal) ℓ) (g : Dev Cert.RefAdamSqIdeal.nD → PrngReg), Pre_RefAdamSqIdeal m →
    θ_run (Cert.RefAdamSqIdeal.defs (F := Ideal)) (onTc (τ := Cert.RefAdamSqIdeal.τ) (Cert.RefAdamSqIdeal.main (F := Ideal))) ⟨m, fun _ => 0, g⟩ (fun r => (∀ c : Dev Cert.RefAdamSqIdeal.nD,
      r.2.mem ((c.tc : Thread Cert.RefAdamSqIdeal.nD Cert.RefAdamSqIdeal.τ).loc Cert.RefAdamSqIdeal.main_arg0) = m ((c.tc : Thread Cert.RefAdamSqIdeal.nD Cert.RefAdamSqIdeal.τ).loc Cert.RefAdamSqIdeal.main_arg0)
      ∧ r.2.mem ((c.tc : Thread Cert.RefAdamSqIdeal.nD Cert.RefAdamSqIdeal.τ).loc Cert.RefAdamSqIdeal.main_arg1) = m ((c.tc : Thread Cert.RefAdamSqIdeal.nD Cert.RefAdamSqIdeal.τ).loc Cert.RefAdamSqIdeal.main_arg1)
      ∧ r.2.mem ((c.tc : Thread Cert.RefAdamSqIdeal.nD Cert.RefAdamSqIdeal.τ).loc Cert.RefAdamSqIdeal.main_arg2) = m ((c.tc : Thread Cert.RefAdamSqIdeal.nD Cert.RefAdamSqIdeal.τ).loc Cert.RefAdamSqIdeal.main_arg2)
      ∧ r.2.mem ((c.tc : Thread Cert.RefAdamSqIdeal.nD Cert.RefAdamSqIdeal.τ).loc Cert.RefAdamSqIdeal.main_arg3) = m ((c.tc : Thread Cert.RefAdamSqIdeal.nD Cert.RefAdamSqIdeal.τ).loc Cert.RefAdamSqIdeal.main_arg3))
      ∧ r.2.sem = fun _ => 0)

def quiescent_AdamMkv [hAdamMkv : Cert.AdamMkv.Facts] : Prop :=
  ∀ (m : (ℓ : Loc Cert.AdamMkv.nD Cert.AdamMkv.τ Cert.AdamMkv.sig) → Buf (Elt Bits) ℓ) (g : Dev Cert.AdamMkv.nD → PrngReg), Pre_AdamMkv m →
    θ_run (Cert.AdamMkv.defs (F := Bits)) (onTc (τ := Cert.AdamMkv.τ) (Cert.AdamMkv.main (F := Bits))) ⟨m, fun _ => 0, g⟩ (fun r => (∀ c : Dev Cert.AdamMkv.nD,
      r.2.mem ((c.tc : Thread Cert.AdamMkv.nD Cert.AdamMkv.τ).loc Cert.AdamMkv.main_arg0) = m ((c.tc : Thread Cert.AdamMkv.nD Cert.AdamMkv.τ).loc Cert.AdamMkv.main_arg0)
      ∧ r.2.mem ((c.tc : Thread Cert.AdamMkv.nD Cert.AdamMkv.τ).loc Cert.AdamMkv.main_arg1) = m ((c.tc : Thread Cert.AdamMkv.nD Cert.AdamMkv.τ).loc Cert.AdamMkv.main_arg1)
      ∧ r.2.mem ((c.tc : Thread Cert.AdamMkv.nD Cert.AdamMkv.τ).loc Cert.AdamMkv.main_arg2) = m ((c.tc : Thread Cert.AdamMkv.nD Cert.AdamMkv.τ).loc Cert.AdamMkv.main_arg2)
      ∧ r.2.mem ((c.tc : Thread Cert.AdamMkv.nD Cert.AdamMkv.τ).loc Cert.AdamMkv.main_arg3) = m ((c.tc : Thread Cert.AdamMkv.nD Cert.AdamMkv.τ).loc Cert.AdamMkv.main_arg3))
      ∧ r.2.sem = fun _ => 0)

def quiescent_AdamMkvIdeal [hAdamMkvIdeal : Cert.AdamMkvIdeal.Facts] : Prop :=
  ∀ (m : (ℓ : Loc Cert.AdamMkvIdeal.nD Cert.AdamMkvIdeal.τ Cert.AdamMkvIdeal.sig) → Buf (Elt Ideal) ℓ) (g : Dev Cert.AdamMkvIdeal.nD → PrngReg), Pre_AdamMkvIdeal m →
    θ_run (Cert.AdamMkvIdeal.defs (F := Ideal)) (onTc (τ := Cert.AdamMkvIdeal.τ) (Cert.AdamMkvIdeal.main (F := Ideal))) ⟨m, fun _ => 0, g⟩ (fun r => (∀ c : Dev Cert.AdamMkvIdeal.nD,
      r.2.mem ((c.tc : Thread Cert.AdamMkvIdeal.nD Cert.AdamMkvIdeal.τ).loc Cert.AdamMkvIdeal.main_arg0) = m ((c.tc : Thread Cert.AdamMkvIdeal.nD Cert.AdamMkvIdeal.τ).loc Cert.AdamMkvIdeal.main_arg0)
      ∧ r.2.mem ((c.tc : Thread Cert.AdamMkvIdeal.nD Cert.AdamMkvIdeal.τ).loc Cert.AdamMkvIdeal.main_arg1) = m ((c.tc : Thread Cert.AdamMkvIdeal.nD Cert.AdamMkvIdeal.τ).loc Cert.AdamMkvIdeal.main_arg1)
      ∧ r.2.mem ((c.tc : Thread Cert.AdamMkvIdeal.nD Cert.AdamMkvIdeal.τ).loc Cert.AdamMkvIdeal.main_arg2) = m ((c.tc : Thread Cert.AdamMkvIdeal.nD Cert.AdamMkvIdeal.τ).loc Cert.AdamMkvIdeal.main_arg2)
      ∧ r.2.mem ((c.tc : Thread Cert.AdamMkvIdeal.nD Cert.AdamMkvIdeal.τ).loc Cert.AdamMkvIdeal.main_arg3) = m ((c.tc : Thread Cert.AdamMkvIdeal.nD Cert.AdamMkvIdeal.τ).loc Cert.AdamMkvIdeal.main_arg3))
      ∧ r.2.sem = fun _ => 0)

def quiescent_RefAdamMkvIdeal [hRefAdamMkvIdeal : Cert.RefAdamMkvIdeal.Facts] : Prop :=
  ∀ (m : (ℓ : Loc Cert.RefAdamMkvIdeal.nD Cert.RefAdamMkvIdeal.τ Cert.RefAdamMkvIdeal.sig) → Buf (Elt Ideal) ℓ) (g : Dev Cert.RefAdamMkvIdeal.nD → PrngReg), Pre_RefAdamMkvIdeal m →
    θ_run (Cert.RefAdamMkvIdeal.defs (F := Ideal)) (onTc (τ := Cert.RefAdamMkvIdeal.τ) (Cert.RefAdamMkvIdeal.main (F := Ideal))) ⟨m, fun _ => 0, g⟩ (fun r => (∀ c : Dev Cert.RefAdamMkvIdeal.nD,
      r.2.mem ((c.tc : Thread Cert.RefAdamMkvIdeal.nD Cert.RefAdamMkvIdeal.τ).loc Cert.RefAdamMkvIdeal.main_arg0) = m ((c.tc : Thread Cert.RefAdamMkvIdeal.nD Cert.RefAdamMkvIdeal.τ).loc Cert.RefAdamMkvIdeal.main_arg0)
      ∧ r.2.mem ((c.tc : Thread Cert.RefAdamMkvIdeal.nD Cert.RefAdamMkvIdeal.τ).loc Cert.RefAdamMkvIdeal.main_arg1) = m ((c.tc : Thread Cert.RefAdamMkvIdeal.nD Cert.RefAdamMkvIdeal.τ).loc Cert.RefAdamMkvIdeal.main_arg1)
      ∧ r.2.mem ((c.tc : Thread Cert.RefAdamMkvIdeal.nD Cert.RefAdamMkvIdeal.τ).loc Cert.RefAdamMkvIdeal.main_arg2) = m ((c.tc : Thread Cert.RefAdamMkvIdeal.nD Cert.RefAdamMkvIdeal.τ).loc Cert.RefAdamMkvIdeal.main_arg2)
      ∧ r.2.mem ((c.tc : Thread Cert.RefAdamMkvIdeal.nD Cert.RefAdamMkvIdeal.τ).loc Cert.RefAdamMkvIdeal.main_arg3) = m ((c.tc : Thread Cert.RefAdamMkvIdeal.nD Cert.RefAdamMkvIdeal.τ).loc Cert.RefAdamMkvIdeal.main_arg3))
      ∧ r.2.sem = fun _ => 0)

def quiescent_AdamUp [hAdamUp : Cert.AdamUp.Facts] : Prop :=
  ∀ (m : (ℓ : Loc Cert.AdamUp.nD Cert.AdamUp.τ Cert.AdamUp.sig) → Buf (Elt Bits) ℓ) (g : Dev Cert.AdamUp.nD → PrngReg), Pre_AdamUp m →
    θ_run (Cert.AdamUp.defs (F := Bits)) (onTc (τ := Cert.AdamUp.τ) (Cert.AdamUp.main (F := Bits))) ⟨m, fun _ => 0, g⟩ (fun r => (∀ c : Dev Cert.AdamUp.nD,
      r.2.mem ((c.tc : Thread Cert.AdamUp.nD Cert.AdamUp.τ).loc Cert.AdamUp.main_arg0) = m ((c.tc : Thread Cert.AdamUp.nD Cert.AdamUp.τ).loc Cert.AdamUp.main_arg0)
      ∧ r.2.mem ((c.tc : Thread Cert.AdamUp.nD Cert.AdamUp.τ).loc Cert.AdamUp.main_arg1) = m ((c.tc : Thread Cert.AdamUp.nD Cert.AdamUp.τ).loc Cert.AdamUp.main_arg1)
      ∧ r.2.mem ((c.tc : Thread Cert.AdamUp.nD Cert.AdamUp.τ).loc Cert.AdamUp.main_arg2) = m ((c.tc : Thread Cert.AdamUp.nD Cert.AdamUp.τ).loc Cert.AdamUp.main_arg2)
      ∧ r.2.mem ((c.tc : Thread Cert.AdamUp.nD Cert.AdamUp.τ).loc Cert.AdamUp.main_arg3) = m ((c.tc : Thread Cert.AdamUp.nD Cert.AdamUp.τ).loc Cert.AdamUp.main_arg3))
      ∧ r.2.sem = fun _ => 0)

def quiescent_AdamUpIdeal [hAdamUpIdeal : Cert.AdamUpIdeal.Facts] : Prop :=
  ∀ (m : (ℓ : Loc Cert.AdamUpIdeal.nD Cert.AdamUpIdeal.τ Cert.AdamUpIdeal.sig) → Buf (Elt Ideal) ℓ) (g : Dev Cert.AdamUpIdeal.nD → PrngReg), Pre_AdamUpIdeal m →
    θ_run (Cert.AdamUpIdeal.defs (F := Ideal)) (onTc (τ := Cert.AdamUpIdeal.τ) (Cert.AdamUpIdeal.main (F := Ideal))) ⟨m, fun _ => 0, g⟩ (fun r => (∀ c : Dev Cert.AdamUpIdeal.nD,
      r.2.mem ((c.tc : Thread Cert.AdamUpIdeal.nD Cert.AdamUpIdeal.τ).loc Cert.AdamUpIdeal.main_arg0) = m ((c.tc : Thread Cert.AdamUpIdeal.nD Cert.AdamUpIdeal.τ).loc Cert.AdamUpIdeal.main_arg0)
      ∧ r.2.mem ((c.tc : Thread Cert.AdamUpIdeal.nD Cert.AdamUpIdeal.τ).loc Cert.AdamUpIdeal.main_arg1) = m ((c.tc : Thread Cert.AdamUpIdeal.nD Cert.AdamUpIdeal.τ).loc Cert.AdamUpIdeal.main_arg1)
      ∧ r.2.mem ((c.tc : Thread Cert.AdamUpIdeal.nD Cert.AdamUpIdeal.τ).loc Cert.AdamUpIdeal.main_arg2) = m ((c.tc : Thread Cert.AdamUpIdeal.nD Cert.AdamUpIdeal.τ).loc Cert.AdamUpIdeal.main_arg2)
      ∧ r.2.mem ((c.tc : Thread Cert.AdamUpIdeal.nD Cert.AdamUpIdeal.τ).loc Cert.AdamUpIdeal.main_arg3) = m ((c.tc : Thread Cert.AdamUpIdeal.nD Cert.AdamUpIdeal.τ).loc Cert.AdamUpIdeal.main_arg3))
      ∧ r.2.sem = fun _ => 0)

def quiescent_RefAdamUpIdeal [hRefAdamUpIdeal : Cert.RefAdamUpIdeal.Facts] : Prop :=
  ∀ (m : (ℓ : Loc Cert.RefAdamUpIdeal.nD Cert.RefAdamUpIdeal.τ Cert.RefAdamUpIdeal.sig) → Buf (Elt Ideal) ℓ) (g : Dev Cert.RefAdamUpIdeal.nD → PrngReg), Pre_RefAdamUpIdeal m →
    θ_run (Cert.RefAdamUpIdeal.defs (F := Ideal)) (onTc (τ := Cert.RefAdamUpIdeal.τ) (Cert.RefAdamUpIdeal.main (F := Ideal))) ⟨m, fun _ => 0, g⟩ (fun r => (∀ c : Dev Cert.RefAdamUpIdeal.nD,
      r.2.mem ((c.tc : Thread Cert.RefAdamUpIdeal.nD Cert.RefAdamUpIdeal.τ).loc Cert.RefAdamUpIdeal.main_arg0) = m ((c.tc : Thread Cert.RefAdamUpIdeal.nD Cert.RefAdamUpIdeal.τ).loc Cert.RefAdamUpIdeal.main_arg0)
      ∧ r.2.mem ((c.tc : Thread Cert.RefAdamUpIdeal.nD Cert.RefAdamUpIdeal.τ).loc Cert.RefAdamUpIdeal.main_arg1) = m ((c.tc : Thread Cert.RefAdamUpIdeal.nD Cert.RefAdamUpIdeal.τ).loc Cert.RefAdamUpIdeal.main_arg1)
      ∧ r.2.mem ((c.tc : Thread Cert.RefAdamUpIdeal.nD Cert.RefAdamUpIdeal.τ).loc Cert.RefAdamUpIdeal.main_arg2) = m ((c.tc : Thread Cert.RefAdamUpIdeal.nD Cert.RefAdamUpIdeal.τ).loc Cert.RefAdamUpIdeal.main_arg2)
      ∧ r.2.mem ((c.tc : Thread Cert.RefAdamUpIdeal.nD Cert.RefAdamUpIdeal.τ).loc Cert.RefAdamUpIdeal.main_arg3) = m ((c.tc : Thread Cert.RefAdamUpIdeal.nD Cert.RefAdamUpIdeal.τ).loc Cert.RefAdamUpIdeal.main_arg3))
      ∧ r.2.sem = fun _ => 0)

def quiescent_AdamSmall [hAdamSmall : Cert.AdamSmall.Facts] : Prop :=
  ∀ (m : (ℓ : Loc Cert.AdamSmall.nD Cert.AdamSmall.τ Cert.AdamSmall.sig) → Buf (Elt Bits) ℓ) (g : Dev Cert.AdamSmall.nD → PrngReg), Pre_AdamSmall m →
    θ_run (Cert.AdamSmall.defs (F := Bits)) (onTc (τ := Cert.AdamSmall.τ) (Cert.AdamSmall.main (F := Bits))) ⟨m, fun _ => 0, g⟩ (fun r => (∀ c : Dev Cert.AdamSmall.nD,
      r.2.mem ((c.tc : Thread Cert.AdamSmall.nD Cert.AdamSmall.τ).loc Cert.AdamSmall.main_arg0) = m ((c.tc : Thread Cert.AdamSmall.nD Cert.AdamSmall.τ).loc Cert.AdamSmall.main_arg0)
      ∧ r.2.mem ((c.tc : Thread Cert.AdamSmall.nD Cert.AdamSmall.τ).loc Cert.AdamSmall.main_arg1) = m ((c.tc : Thread Cert.AdamSmall.nD Cert.AdamSmall.τ).loc Cert.AdamSmall.main_arg1)
      ∧ r.2.mem ((c.tc : Thread Cert.AdamSmall.nD Cert.AdamSmall.τ).loc Cert.AdamSmall.main_arg2) = m ((c.tc : Thread Cert.AdamSmall.nD Cert.AdamSmall.τ).loc Cert.AdamSmall.main_arg2)
      ∧ r.2.mem ((c.tc : Thread Cert.AdamSmall.nD Cert.AdamSmall.τ).loc Cert.AdamSmall.main_arg3) = m ((c.tc : Thread Cert.AdamSmall.nD Cert.AdamSmall.τ).loc Cert.AdamSmall.main_arg3))
      ∧ r.2.sem = fun _ => 0)

def quiescent_AdamSmallIdeal [hAdamSmallIdeal : Cert.AdamSmallIdeal.Facts] : Prop :=
  ∀ (m : (ℓ : Loc Cert.AdamSmallIdeal.nD Cert.AdamSmallIdeal.τ Cert.AdamSmallIdeal.sig) → Buf (Elt Ideal) ℓ) (g : Dev Cert.AdamSmallIdeal.nD → PrngReg), Pre_AdamSmallIdeal m →
    θ_run (Cert.AdamSmallIdeal.defs (F := Ideal)) (onTc (τ := Cert.AdamSmallIdeal.τ) (Cert.AdamSmallIdeal.main (F := Ideal))) ⟨m, fun _ => 0, g⟩ (fun r => (∀ c : Dev Cert.AdamSmallIdeal.nD,
      r.2.mem ((c.tc : Thread Cert.AdamSmallIdeal.nD Cert.AdamSmallIdeal.τ).loc Cert.AdamSmallIdeal.main_arg0) = m ((c.tc : Thread Cert.AdamSmallIdeal.nD Cert.AdamSmallIdeal.τ).loc Cert.AdamSmallIdeal.main_arg0)
      ∧ r.2.mem ((c.tc : Thread Cert.AdamSmallIdeal.nD Cert.AdamSmallIdeal.τ).loc Cert.AdamSmallIdeal.main_arg1) = m ((c.tc : Thread Cert.AdamSmallIdeal.nD Cert.AdamSmallIdeal.τ).loc Cert.AdamSmallIdeal.main_arg1)
      ∧ r.2.mem ((c.tc : Thread Cert.AdamSmallIdeal.nD Cert.AdamSmallIdeal.τ).loc Cert.AdamSmallIdeal.main_arg2) = m ((c.tc : Thread Cert.AdamSmallIdeal.nD Cert.AdamSmallIdeal.τ).loc Cert.AdamSmallIdeal.main_arg2)
      ∧ r.2.mem ((c.tc : Thread Cert.AdamSmallIdeal.nD Cert.AdamSmallIdeal.τ).loc Cert.AdamSmallIdeal.main_arg3) = m ((c.tc : Thread Cert.AdamSmallIdeal.nD Cert.AdamSmallIdeal.τ).loc Cert.AdamSmallIdeal.main_arg3))
      ∧ r.2.sem = fun _ => 0)

def quiescent_RefAdamSmallIdeal [hRefAdamSmallIdeal : Cert.RefAdamSmallIdeal.Facts] : Prop :=
  ∀ (m : (ℓ : Loc Cert.RefAdamSmallIdeal.nD Cert.RefAdamSmallIdeal.τ Cert.RefAdamSmallIdeal.sig) → Buf (Elt Ideal) ℓ) (g : Dev Cert.RefAdamSmallIdeal.nD → PrngReg), Pre_RefAdamSmallIdeal m →
    θ_run (Cert.RefAdamSmallIdeal.defs (F := Ideal)) (onTc (τ := Cert.RefAdamSmallIdeal.τ) (Cert.RefAdamSmallIdeal.main (F := Ideal))) ⟨m, fun _ => 0, g⟩ (fun r => (∀ c : Dev Cert.RefAdamSmallIdeal.nD,
      r.2.mem ((c.tc : Thread Cert.RefAdamSmallIdeal.nD Cert.RefAdamSmallIdeal.τ).loc Cert.RefAdamSmallIdeal.main_arg0) = m ((c.tc : Thread Cert.RefAdamSmallIdeal.nD Cert.RefAdamSmallIdeal.τ).loc Cert.RefAdamSmallIdeal.main_arg0)
      ∧ r.2.mem ((c.tc : Thread Cert.RefAdamSmallIdeal.nD Cert.RefAdamSmallIdeal.τ).loc Cert.RefAdamSmallIdeal.main_arg1) = m ((c.tc : Thread Cert.RefAdamSmallIdeal.nD Cert.RefAdamSmallIdeal.τ).loc Cert.RefAdamSmallIdeal.main_arg1)
      ∧ r.2.mem ((c.tc : Thread Cert.RefAdamSmallIdeal.nD Cert.RefAdamSmallIdeal.τ).loc Cert.RefAdamSmallIdeal.main_arg2) = m ((c.tc : Thread Cert.RefAdamSmallIdeal.nD Cert.RefAdamSmallIdeal.τ).loc Cert.RefAdamSmallIdeal.main_arg2)
      ∧ r.2.mem ((c.tc : Thread Cert.RefAdamSmallIdeal.nD Cert.RefAdamSmallIdeal.τ).loc Cert.RefAdamSmallIdeal.main_arg3) = m ((c.tc : Thread Cert.RefAdamSmallIdeal.nD Cert.RefAdamSmallIdeal.τ).loc Cert.RefAdamSmallIdeal.main_arg3))
      ∧ r.2.sem = fun _ => 0)

def quiescent_Window [hWindow : Cert.Window.Facts] : Prop :=
  ∀ (m : (ℓ : Loc Cert.Window.nD Cert.Window.τ Cert.Window.sig) → Buf (Elt Bits) ℓ) (g : Dev Cert.Window.nD → PrngReg), Pre_Window m →
    θ_run (Cert.Window.defs (F := Bits)) (onTc (τ := Cert.Window.τ) (Cert.Window.main (F := Bits))) ⟨m, fun _ => 0, g⟩ (fun r => (∀ c : Dev Cert.Window.nD,
      r.2.mem ((c.tc : Thread Cert.Window.nD Cert.Window.τ).loc Cert.Window.main_arg0) = m ((c.tc : Thread Cert.Window.nD Cert.Window.τ).loc Cert.Window.main_arg0)
      ∧ r.2.mem ((c.tc : Thread Cert.Window.nD Cert.Window.τ).loc Cert.Window.main_arg1) = m ((c.tc : Thread Cert.Window.nD Cert.Window.τ).loc Cert.Window.main_arg1)
      ∧ r.2.mem ((c.tc : Thread Cert.Window.nD Cert.Window.τ).loc Cert.Window.main_arg2) = m ((c.tc : Thread Cert.Window.nD Cert.Window.τ).loc Cert.Window.main_arg2))
      ∧ r.2.sem = fun _ => 0)

def quiescent_WindowIdeal [hWindowIdeal : Cert.WindowIdeal.Facts] : Prop :=
  ∀ (m : (ℓ : Loc Cert.WindowIdeal.nD Cert.WindowIdeal.τ Cert.WindowIdeal.sig) → Buf (Elt Ideal) ℓ) (g : Dev Cert.WindowIdeal.nD → PrngReg), Pre_WindowIdeal m →
    θ_run (Cert.WindowIdeal.defs (F := Ideal)) (onTc (τ := Cert.WindowIdeal.τ) (Cert.WindowIdeal.main (F := Ideal))) ⟨m, fun _ => 0, g⟩ (fun r => (∀ c : Dev Cert.WindowIdeal.nD,
      r.2.mem ((c.tc : Thread Cert.WindowIdeal.nD Cert.WindowIdeal.τ).loc Cert.WindowIdeal.main_arg0) = m ((c.tc : Thread Cert.WindowIdeal.nD Cert.WindowIdeal.τ).loc Cert.WindowIdeal.main_arg0)
      ∧ r.2.mem ((c.tc : Thread Cert.WindowIdeal.nD Cert.WindowIdeal.τ).loc Cert.WindowIdeal.main_arg1) = m ((c.tc : Thread Cert.WindowIdeal.nD Cert.WindowIdeal.τ).loc Cert.WindowIdeal.main_arg1)
      ∧ r.2.mem ((c.tc : Thread Cert.WindowIdeal.nD Cert.WindowIdeal.τ).loc Cert.WindowIdeal.main_arg2) = m ((c.tc : Thread Cert.WindowIdeal.nD Cert.WindowIdeal.τ).loc Cert.WindowIdeal.main_arg2))
      ∧ r.2.sem = fun _ => 0)

def quiescent_RefWindowIdeal [hRefWindowIdeal : Cert.RefWindowIdeal.Facts] : Prop :=
  ∀ (m : (ℓ : Loc Cert.RefWindowIdeal.nD Cert.RefWindowIdeal.τ Cert.RefWindowIdeal.sig) → Buf (Elt Ideal) ℓ) (g : Dev Cert.RefWindowIdeal.nD → PrngReg), Pre_RefWindowIdeal m →
    θ_run (Cert.RefWindowIdeal.defs (F := Ideal)) (onTc (τ := Cert.RefWindowIdeal.τ) (Cert.RefWindowIdeal.main (F := Ideal))) ⟨m, fun _ => 0, g⟩ (fun r => (∀ c : Dev Cert.RefWindowIdeal.nD,
      r.2.mem ((c.tc : Thread Cert.RefWindowIdeal.nD Cert.RefWindowIdeal.τ).loc Cert.RefWindowIdeal.main_arg0) = m ((c.tc : Thread Cert.RefWindowIdeal.nD Cert.RefWindowIdeal.τ).loc Cert.RefWindowIdeal.main_arg0)
      ∧ r.2.mem ((c.tc : Thread Cert.RefWindowIdeal.nD Cert.RefWindowIdeal.τ).loc Cert.RefWindowIdeal.main_arg1) = m ((c.tc : Thread Cert.RefWindowIdeal.nD Cert.RefWindowIdeal.τ).loc Cert.RefWindowIdeal.main_arg1)
      ∧ r.2.mem ((c.tc : Thread Cert.RefWindowIdeal.nD Cert.RefWindowIdeal.τ).loc Cert.RefWindowIdeal.main_arg2) = m ((c.tc : Thread Cert.RefWindowIdeal.nD Cert.RefWindowIdeal.τ).loc Cert.RefWindowIdeal.main_arg2))
      ∧ r.2.sem = fun _ => 0)

def quiescent_LossSum [hLossSum : Cert.LossSum.Facts] : Prop :=
  ∀ (m : (ℓ : Loc Cert.LossSum.nD Cert.LossSum.τ Cert.LossSum.sig) → Buf (Elt Bits) ℓ) (g : Dev Cert.LossSum.nD → PrngReg), Pre_LossSum m →
    θ_run (Cert.LossSum.defs (F := Bits)) (onTc (τ := Cert.LossSum.τ) (Cert.LossSum.main (F := Bits))) ⟨m, fun _ => 0, g⟩ (fun r => (∀ c : Dev Cert.LossSum.nD,
      r.2.mem ((c.tc : Thread Cert.LossSum.nD Cert.LossSum.τ).loc Cert.LossSum.main_arg0) = m ((c.tc : Thread Cert.LossSum.nD Cert.LossSum.τ).loc Cert.LossSum.main_arg0)
      ∧ r.2.mem ((c.tc : Thread Cert.LossSum.nD Cert.LossSum.τ).loc Cert.LossSum.main_arg1) = m ((c.tc : Thread Cert.LossSum.nD Cert.LossSum.τ).loc Cert.LossSum.main_arg1))
      ∧ r.2.sem = fun _ => 0)

def quiescent_LossSumIdeal [hLossSumIdeal : Cert.LossSumIdeal.Facts] : Prop :=
  ∀ (m : (ℓ : Loc Cert.LossSumIdeal.nD Cert.LossSumIdeal.τ Cert.LossSumIdeal.sig) → Buf (Elt Ideal) ℓ) (g : Dev Cert.LossSumIdeal.nD → PrngReg), Pre_LossSumIdeal m →
    θ_run (Cert.LossSumIdeal.defs (F := Ideal)) (onTc (τ := Cert.LossSumIdeal.τ) (Cert.LossSumIdeal.main (F := Ideal))) ⟨m, fun _ => 0, g⟩ (fun r => (∀ c : Dev Cert.LossSumIdeal.nD,
      r.2.mem ((c.tc : Thread Cert.LossSumIdeal.nD Cert.LossSumIdeal.τ).loc Cert.LossSumIdeal.main_arg0) = m ((c.tc : Thread Cert.LossSumIdeal.nD Cert.LossSumIdeal.τ).loc Cert.LossSumIdeal.main_arg0)
      ∧ r.2.mem ((c.tc : Thread Cert.LossSumIdeal.nD Cert.LossSumIdeal.τ).loc Cert.LossSumIdeal.main_arg1) = m ((c.tc : Thread Cert.LossSumIdeal.nD Cert.LossSumIdeal.τ).loc Cert.LossSumIdeal.main_arg1))
      ∧ r.2.sem = fun _ => 0)

def quiescent_RefLossSumIdeal [hRefLossSumIdeal : Cert.RefLossSumIdeal.Facts] : Prop :=
  ∀ (m : (ℓ : Loc Cert.RefLossSumIdeal.nD Cert.RefLossSumIdeal.τ Cert.RefLossSumIdeal.sig) → Buf (Elt Ideal) ℓ) (g : Dev Cert.RefLossSumIdeal.nD → PrngReg), Pre_RefLossSumIdeal m →
    θ_run (Cert.RefLossSumIdeal.defs (F := Ideal)) (onTc (τ := Cert.RefLossSumIdeal.τ) (Cert.RefLossSumIdeal.main (F := Ideal))) ⟨m, fun _ => 0, g⟩ (fun r => (∀ c : Dev Cert.RefLossSumIdeal.nD,
      r.2.mem ((c.tc : Thread Cert.RefLossSumIdeal.nD Cert.RefLossSumIdeal.τ).loc Cert.RefLossSumIdeal.main_arg0) = m ((c.tc : Thread Cert.RefLossSumIdeal.nD Cert.RefLossSumIdeal.τ).loc Cert.RefLossSumIdeal.main_arg0)
      ∧ r.2.mem ((c.tc : Thread Cert.RefLossSumIdeal.nD Cert.RefLossSumIdeal.τ).loc Cert.RefLossSumIdeal.main_arg1) = m ((c.tc : Thread Cert.RefLossSumIdeal.nD Cert.RefLossSumIdeal.τ).loc Cert.RefLossSumIdeal.main_arg1))
      ∧ r.2.sem = fun _ => 0)

def quiescent_LossAll [hLossAll : Cert.LossAll.Facts] : Prop :=
  ∀ (m : (ℓ : Loc Cert.LossAll.nD Cert.LossAll.τ Cert.LossAll.sig) → Buf (Elt Bits) ℓ) (g : Dev Cert.LossAll.nD → PrngReg), Pre_LossAll m →
    θ_run (Cert.LossAll.defs (F := Bits)) (onTc (τ := Cert.LossAll.τ) (Cert.LossAll.main (F := Bits))) ⟨m, fun _ => 0, g⟩ (fun r => (∀ c : Dev Cert.LossAll.nD,
      r.2.mem ((c.tc : Thread Cert.LossAll.nD Cert.LossAll.τ).loc Cert.LossAll.main_arg0) = m ((c.tc : Thread Cert.LossAll.nD Cert.LossAll.τ).loc Cert.LossAll.main_arg0)
      ∧ r.2.mem ((c.tc : Thread Cert.LossAll.nD Cert.LossAll.τ).loc Cert.LossAll.main_arg1) = m ((c.tc : Thread Cert.LossAll.nD Cert.LossAll.τ).loc Cert.LossAll.main_arg1))
      ∧ r.2.sem = fun _ => 0)

def quiescent_LossAllIdeal [hLossAllIdeal : Cert.LossAllIdeal.Facts] : Prop :=
  ∀ (m : (ℓ : Loc Cert.LossAllIdeal.nD Cert.LossAllIdeal.τ Cert.LossAllIdeal.sig) → Buf (Elt Ideal) ℓ) (g : Dev Cert.LossAllIdeal.nD → PrngReg), Pre_LossAllIdeal m →
    θ_run (Cert.LossAllIdeal.defs (F := Ideal)) (onTc (τ := Cert.LossAllIdeal.τ) (Cert.LossAllIdeal.main (F := Ideal))) ⟨m, fun _ => 0, g⟩ (fun r => (∀ c : Dev Cert.LossAllIdeal.nD,
      r.2.mem ((c.tc : Thread Cert.LossAllIdeal.nD Cert.LossAllIdeal.τ).loc Cert.LossAllIdeal.main_arg0) = m ((c.tc : Thread Cert.LossAllIdeal.nD Cert.LossAllIdeal.τ).loc Cert.LossAllIdeal.main_arg0)
      ∧ r.2.mem ((c.tc : Thread Cert.LossAllIdeal.nD Cert.LossAllIdeal.τ).loc Cert.LossAllIdeal.main_arg1) = m ((c.tc : Thread Cert.LossAllIdeal.nD Cert.LossAllIdeal.τ).loc Cert.LossAllIdeal.main_arg1))
      ∧ r.2.sem = fun _ => 0)

def quiescent_RefLossAllIdeal [hRefLossAllIdeal : Cert.RefLossAllIdeal.Facts] : Prop :=
  ∀ (m : (ℓ : Loc Cert.RefLossAllIdeal.nD Cert.RefLossAllIdeal.τ Cert.RefLossAllIdeal.sig) → Buf (Elt Ideal) ℓ) (g : Dev Cert.RefLossAllIdeal.nD → PrngReg), Pre_RefLossAllIdeal m →
    θ_run (Cert.RefLossAllIdeal.defs (F := Ideal)) (onTc (τ := Cert.RefLossAllIdeal.τ) (Cert.RefLossAllIdeal.main (F := Ideal))) ⟨m, fun _ => 0, g⟩ (fun r => (∀ c : Dev Cert.RefLossAllIdeal.nD,
      r.2.mem ((c.tc : Thread Cert.RefLossAllIdeal.nD Cert.RefLossAllIdeal.τ).loc Cert.RefLossAllIdeal.main_arg0) = m ((c.tc : Thread Cert.RefLossAllIdeal.nD Cert.RefLossAllIdeal.τ).loc Cert.RefLossAllIdeal.main_arg0)
      ∧ r.2.mem ((c.tc : Thread Cert.RefLossAllIdeal.nD Cert.RefLossAllIdeal.τ).loc Cert.RefLossAllIdeal.main_arg1) = m ((c.tc : Thread Cert.RefLossAllIdeal.nD Cert.RefLossAllIdeal.τ).loc Cert.RefLossAllIdeal.main_arg1))
      ∧ r.2.sem = fun _ => 0)

def quiescent_LnGains [hLnGains : Cert.LnGains.Facts] : Prop :=
  ∀ (m : (ℓ : Loc Cert.LnGains.nD Cert.LnGains.τ Cert.LnGains.sig) → Buf (Elt Bits) ℓ) (g : Dev Cert.LnGains.nD → PrngReg), Pre_LnGains m →
    θ_run (Cert.LnGains.defs (F := Bits)) (onTc (τ := Cert.LnGains.τ) (Cert.LnGains.main (F := Bits))) ⟨m, fun _ => 0, g⟩ (fun r => (∀ c : Dev Cert.LnGains.nD,
      r.2.mem ((c.tc : Thread Cert.LnGains.nD Cert.LnGains.τ).loc Cert.LnGains.main_arg0) = m ((c.tc : Thread Cert.LnGains.nD Cert.LnGains.τ).loc Cert.LnGains.main_arg0)
      ∧ r.2.mem ((c.tc : Thread Cert.LnGains.nD Cert.LnGains.τ).loc Cert.LnGains.main_arg1) = m ((c.tc : Thread Cert.LnGains.nD Cert.LnGains.τ).loc Cert.LnGains.main_arg1)
      ∧ r.2.mem ((c.tc : Thread Cert.LnGains.nD Cert.LnGains.τ).loc Cert.LnGains.main_arg2) = m ((c.tc : Thread Cert.LnGains.nD Cert.LnGains.τ).loc Cert.LnGains.main_arg2))
      ∧ r.2.sem = fun _ => 0)

def quiescent_LnGainsIdeal [hLnGainsIdeal : Cert.LnGainsIdeal.Facts] : Prop :=
  ∀ (m : (ℓ : Loc Cert.LnGainsIdeal.nD Cert.LnGainsIdeal.τ Cert.LnGainsIdeal.sig) → Buf (Elt Ideal) ℓ) (g : Dev Cert.LnGainsIdeal.nD → PrngReg), Pre_LnGainsIdeal m →
    θ_run (Cert.LnGainsIdeal.defs (F := Ideal)) (onTc (τ := Cert.LnGainsIdeal.τ) (Cert.LnGainsIdeal.main (F := Ideal))) ⟨m, fun _ => 0, g⟩ (fun r => (∀ c : Dev Cert.LnGainsIdeal.nD,
      r.2.mem ((c.tc : Thread Cert.LnGainsIdeal.nD Cert.LnGainsIdeal.τ).loc Cert.LnGainsIdeal.main_arg0) = m ((c.tc : Thread Cert.LnGainsIdeal.nD Cert.LnGainsIdeal.τ).loc Cert.LnGainsIdeal.main_arg0)
      ∧ r.2.mem ((c.tc : Thread Cert.LnGainsIdeal.nD Cert.LnGainsIdeal.τ).loc Cert.LnGainsIdeal.main_arg1) = m ((c.tc : Thread Cert.LnGainsIdeal.nD Cert.LnGainsIdeal.τ).loc Cert.LnGainsIdeal.main_arg1)
      ∧ r.2.mem ((c.tc : Thread Cert.LnGainsIdeal.nD Cert.LnGainsIdeal.τ).loc Cert.LnGainsIdeal.main_arg2) = m ((c.tc : Thread Cert.LnGainsIdeal.nD Cert.LnGainsIdeal.τ).loc Cert.LnGainsIdeal.main_arg2))
      ∧ r.2.sem = fun _ => 0)

def quiescent_RefLnGainsIdeal [hRefLnGainsIdeal : Cert.RefLnGainsIdeal.Facts] : Prop :=
  ∀ (m : (ℓ : Loc Cert.RefLnGainsIdeal.nD Cert.RefLnGainsIdeal.τ Cert.RefLnGainsIdeal.sig) → Buf (Elt Ideal) ℓ) (g : Dev Cert.RefLnGainsIdeal.nD → PrngReg), Pre_RefLnGainsIdeal m →
    θ_run (Cert.RefLnGainsIdeal.defs (F := Ideal)) (onTc (τ := Cert.RefLnGainsIdeal.τ) (Cert.RefLnGainsIdeal.main (F := Ideal))) ⟨m, fun _ => 0, g⟩ (fun r => (∀ c : Dev Cert.RefLnGainsIdeal.nD,
      r.2.mem ((c.tc : Thread Cert.RefLnGainsIdeal.nD Cert.RefLnGainsIdeal.τ).loc Cert.RefLnGainsIdeal.main_arg0) = m ((c.tc : Thread Cert.RefLnGainsIdeal.nD Cert.RefLnGainsIdeal.τ).loc Cert.RefLnGainsIdeal.main_arg0)
      ∧ r.2.mem ((c.tc : Thread Cert.RefLnGainsIdeal.nD Cert.RefLnGainsIdeal.τ).loc Cert.RefLnGainsIdeal.main_arg1) = m ((c.tc : Thread Cert.RefLnGainsIdeal.nD Cert.RefLnGainsIdeal.τ).loc Cert.RefLnGainsIdeal.main_arg1)
      ∧ r.2.mem ((c.tc : Thread Cert.RefLnGainsIdeal.nD Cert.RefLnGainsIdeal.τ).loc Cert.RefLnGainsIdeal.main_arg2) = m ((c.tc : Thread Cert.RefLnGainsIdeal.nD Cert.RefLnGainsIdeal.τ).loc Cert.RefLnGainsIdeal.main_arg2))
      ∧ r.2.sem = fun _ => 0)

def quiescent_RmsGains [hRmsGains : Cert.RmsGains.Facts] : Prop :=
  ∀ (m : (ℓ : Loc Cert.RmsGains.nD Cert.RmsGains.τ Cert.RmsGains.sig) → Buf (Elt Bits) ℓ) (g : Dev Cert.RmsGains.nD → PrngReg), Pre_RmsGains m →
    θ_run (Cert.RmsGains.defs (F := Bits)) (onTc (τ := Cert.RmsGains.τ) (Cert.RmsGains.main (F := Bits))) ⟨m, fun _ => 0, g⟩ (fun r => (∀ c : Dev Cert.RmsGains.nD,
      r.2.mem ((c.tc : Thread Cert.RmsGains.nD Cert.RmsGains.τ).loc Cert.RmsGains.main_arg0) = m ((c.tc : Thread Cert.RmsGains.nD Cert.RmsGains.τ).loc Cert.RmsGains.main_arg0)
      ∧ r.2.mem ((c.tc : Thread Cert.RmsGains.nD Cert.RmsGains.τ).loc Cert.RmsGains.main_arg1) = m ((c.tc : Thread Cert.RmsGains.nD Cert.RmsGains.τ).loc Cert.RmsGains.main_arg1)
      ∧ r.2.mem ((c.tc : Thread Cert.RmsGains.nD Cert.RmsGains.τ).loc Cert.RmsGains.main_arg2) = m ((c.tc : Thread Cert.RmsGains.nD Cert.RmsGains.τ).loc Cert.RmsGains.main_arg2)
      ∧ r.2.mem ((c.tc : Thread Cert.RmsGains.nD Cert.RmsGains.τ).loc Cert.RmsGains.main_arg3) = m ((c.tc : Thread Cert.RmsGains.nD Cert.RmsGains.τ).loc Cert.RmsGains.main_arg3)
      ∧ r.2.mem ((c.tc : Thread Cert.RmsGains.nD Cert.RmsGains.τ).loc Cert.RmsGains.main_arg4) = m ((c.tc : Thread Cert.RmsGains.nD Cert.RmsGains.τ).loc Cert.RmsGains.main_arg4))
      ∧ r.2.sem = fun _ => 0)

def quiescent_RmsGainsIdeal [hRmsGainsIdeal : Cert.RmsGainsIdeal.Facts] : Prop :=
  ∀ (m : (ℓ : Loc Cert.RmsGainsIdeal.nD Cert.RmsGainsIdeal.τ Cert.RmsGainsIdeal.sig) → Buf (Elt Ideal) ℓ) (g : Dev Cert.RmsGainsIdeal.nD → PrngReg), Pre_RmsGainsIdeal m →
    θ_run (Cert.RmsGainsIdeal.defs (F := Ideal)) (onTc (τ := Cert.RmsGainsIdeal.τ) (Cert.RmsGainsIdeal.main (F := Ideal))) ⟨m, fun _ => 0, g⟩ (fun r => (∀ c : Dev Cert.RmsGainsIdeal.nD,
      r.2.mem ((c.tc : Thread Cert.RmsGainsIdeal.nD Cert.RmsGainsIdeal.τ).loc Cert.RmsGainsIdeal.main_arg0) = m ((c.tc : Thread Cert.RmsGainsIdeal.nD Cert.RmsGainsIdeal.τ).loc Cert.RmsGainsIdeal.main_arg0)
      ∧ r.2.mem ((c.tc : Thread Cert.RmsGainsIdeal.nD Cert.RmsGainsIdeal.τ).loc Cert.RmsGainsIdeal.main_arg1) = m ((c.tc : Thread Cert.RmsGainsIdeal.nD Cert.RmsGainsIdeal.τ).loc Cert.RmsGainsIdeal.main_arg1)
      ∧ r.2.mem ((c.tc : Thread Cert.RmsGainsIdeal.nD Cert.RmsGainsIdeal.τ).loc Cert.RmsGainsIdeal.main_arg2) = m ((c.tc : Thread Cert.RmsGainsIdeal.nD Cert.RmsGainsIdeal.τ).loc Cert.RmsGainsIdeal.main_arg2)
      ∧ r.2.mem ((c.tc : Thread Cert.RmsGainsIdeal.nD Cert.RmsGainsIdeal.τ).loc Cert.RmsGainsIdeal.main_arg3) = m ((c.tc : Thread Cert.RmsGainsIdeal.nD Cert.RmsGainsIdeal.τ).loc Cert.RmsGainsIdeal.main_arg3)
      ∧ r.2.mem ((c.tc : Thread Cert.RmsGainsIdeal.nD Cert.RmsGainsIdeal.τ).loc Cert.RmsGainsIdeal.main_arg4) = m ((c.tc : Thread Cert.RmsGainsIdeal.nD Cert.RmsGainsIdeal.τ).loc Cert.RmsGainsIdeal.main_arg4))
      ∧ r.2.sem = fun _ => 0)

def quiescent_RefRmsGainsIdeal [hRefRmsGainsIdeal : Cert.RefRmsGainsIdeal.Facts] : Prop :=
  ∀ (m : (ℓ : Loc Cert.RefRmsGainsIdeal.nD Cert.RefRmsGainsIdeal.τ Cert.RefRmsGainsIdeal.sig) → Buf (Elt Ideal) ℓ) (g : Dev Cert.RefRmsGainsIdeal.nD → PrngReg), Pre_RefRmsGainsIdeal m →
    θ_run (Cert.RefRmsGainsIdeal.defs (F := Ideal)) (onTc (τ := Cert.RefRmsGainsIdeal.τ) (Cert.RefRmsGainsIdeal.main (F := Ideal))) ⟨m, fun _ => 0, g⟩ (fun r => (∀ c : Dev Cert.RefRmsGainsIdeal.nD,
      r.2.mem ((c.tc : Thread Cert.RefRmsGainsIdeal.nD Cert.RefRmsGainsIdeal.τ).loc Cert.RefRmsGainsIdeal.main_arg0) = m ((c.tc : Thread Cert.RefRmsGainsIdeal.nD Cert.RefRmsGainsIdeal.τ).loc Cert.RefRmsGainsIdeal.main_arg0)
      ∧ r.2.mem ((c.tc : Thread Cert.RefRmsGainsIdeal.nD Cert.RefRmsGainsIdeal.τ).loc Cert.RefRmsGainsIdeal.main_arg1) = m ((c.tc : Thread Cert.RefRmsGainsIdeal.nD Cert.RefRmsGainsIdeal.τ).loc Cert.RefRmsGainsIdeal.main_arg1)
      ∧ r.2.mem ((c.tc : Thread Cert.RefRmsGainsIdeal.nD Cert.RefRmsGainsIdeal.τ).loc Cert.RefRmsGainsIdeal.main_arg2) = m ((c.tc : Thread Cert.RefRmsGainsIdeal.nD Cert.RefRmsGainsIdeal.τ).loc Cert.RefRmsGainsIdeal.main_arg2)
      ∧ r.2.mem ((c.tc : Thread Cert.RefRmsGainsIdeal.nD Cert.RefRmsGainsIdeal.τ).loc Cert.RefRmsGainsIdeal.main_arg3) = m ((c.tc : Thread Cert.RefRmsGainsIdeal.nD Cert.RefRmsGainsIdeal.τ).loc Cert.RefRmsGainsIdeal.main_arg3)
      ∧ r.2.mem ((c.tc : Thread Cert.RefRmsGainsIdeal.nD Cert.RefRmsGainsIdeal.τ).loc Cert.RefRmsGainsIdeal.main_arg4) = m ((c.tc : Thread Cert.RefRmsGainsIdeal.nD Cert.RefRmsGainsIdeal.τ).loc Cert.RefRmsGainsIdeal.main_arg4))
      ∧ r.2.sem = fun _ => 0)

def preserves_Mem_MemIdeal : Prop :=
  True

def algebraic_MemIdeal_RefMemIdeal_pre_scores_finite [hMemIdeal : Cert.MemIdeal.Facts] [hRefMemIdeal : Cert.RefMemIdeal.Facts] [hPre_scores_finite : Cert.Pre_scores_finite.Facts] : Prop :=
  ∀ (m : (ℓ : Loc Cert.MemIdeal.nD Cert.MemIdeal.τ Cert.MemIdeal.sig) → Buf (Elt Ideal) ℓ) (g : Dev Cert.MemIdeal.nD → PrngReg)
    (m' : (ℓ : Loc Cert.RefMemIdeal.nD Cert.RefMemIdeal.τ Cert.RefMemIdeal.sig) → Buf (Elt Ideal) ℓ) (g' : Dev Cert.RefMemIdeal.nD → PrngReg), Pre_MemIdeal_scores_finite m →
    (∀ c : Dev Cert.MemIdeal.nD,
      m' ((c.tc : Thread Cert.RefMemIdeal.nD Cert.RefMemIdeal.τ).loc Cert.RefMemIdeal.main_arg0) = m ((c.tc : Thread Cert.MemIdeal.nD Cert.MemIdeal.τ).loc Cert.MemIdeal.main_arg0)
      ∧ m' ((c.tc : Thread Cert.RefMemIdeal.nD Cert.RefMemIdeal.τ).loc Cert.RefMemIdeal.main_arg1) = m ((c.tc : Thread Cert.MemIdeal.nD Cert.MemIdeal.τ).loc Cert.MemIdeal.main_arg1)
      ∧ m' ((c.tc : Thread Cert.RefMemIdeal.nD Cert.RefMemIdeal.τ).loc Cert.RefMemIdeal.main_arg2) = m ((c.tc : Thread Cert.MemIdeal.nD Cert.MemIdeal.τ).loc Cert.MemIdeal.main_arg2)) →
    ∃ (v0 : (c : Dev Cert.MemIdeal.nD) → Buf (Elt Ideal) ((c.tc : Thread Cert.MemIdeal.nD Cert.MemIdeal.τ).loc Cert.MemIdeal.main_v0_0)) (v1 : (c : Dev Cert.MemIdeal.nD) → Buf (Elt Ideal) ((c.tc : Thread Cert.MemIdeal.nD Cert.MemIdeal.τ).loc Cert.MemIdeal.main_v0_1)),
      θ_run (Cert.MemIdeal.defs (F := Ideal)) (onTc (τ := Cert.MemIdeal.τ) (Cert.MemIdeal.main (F := Ideal))) ⟨m, fun _ => 0, g⟩ (fun r => ∀ c : Dev Cert.MemIdeal.nD,
          r.2.mem ((c.tc : Thread Cert.MemIdeal.nD Cert.MemIdeal.τ).loc Cert.MemIdeal.main_v0_0) = v0 c
          ∧ r.2.mem ((c.tc : Thread Cert.MemIdeal.nD Cert.MemIdeal.τ).loc Cert.MemIdeal.main_v0_1) = v1 c
          ∧ r.2.mem ((c.tc : Thread Cert.MemIdeal.nD Cert.MemIdeal.τ).loc Cert.MemIdeal.main_arg0) = m ((c.tc : Thread Cert.MemIdeal.nD Cert.MemIdeal.τ).loc Cert.MemIdeal.main_arg0)
          ∧ r.2.mem ((c.tc : Thread Cert.MemIdeal.nD Cert.MemIdeal.τ).loc Cert.MemIdeal.main_arg1) = m ((c.tc : Thread Cert.MemIdeal.nD Cert.MemIdeal.τ).loc Cert.MemIdeal.main_arg1)
          ∧ r.2.mem ((c.tc : Thread Cert.MemIdeal.nD Cert.MemIdeal.τ).loc Cert.MemIdeal.main_arg2) = m ((c.tc : Thread Cert.MemIdeal.nD Cert.MemIdeal.τ).loc Cert.MemIdeal.main_arg2))
      ∧ θ_run (Cert.RefMemIdeal.defs (F := Ideal)) (onTc (τ := Cert.RefMemIdeal.τ) (Cert.RefMemIdeal.main (F := Ideal))) ⟨m', fun _ => 0, g'⟩ (fun r => ∀ c : Dev Cert.RefMemIdeal.nD,
          r.2.mem ((c.tc : Thread Cert.RefMemIdeal.nD Cert.RefMemIdeal.τ).loc Cert.RefMemIdeal.main_v69) = v0 c
          ∧ r.2.mem ((c.tc : Thread Cert.RefMemIdeal.nD Cert.RefMemIdeal.τ).loc Cert.RefMemIdeal.main_v68) = v1 c
          ∧ r.2.mem ((c.tc : Thread Cert.RefMemIdeal.nD Cert.RefMemIdeal.τ).loc Cert.RefMemIdeal.main_arg0) = m' ((c.tc : Thread Cert.RefMemIdeal.nD Cert.RefMemIdeal.τ).loc Cert.RefMemIdeal.main_arg0)
          ∧ r.2.mem ((c.tc : Thread Cert.RefMemIdeal.nD Cert.RefMemIdeal.τ).loc Cert.RefMemIdeal.main_arg1) = m' ((c.tc : Thread Cert.RefMemIdeal.nD Cert.RefMemIdeal.τ).loc Cert.RefMemIdeal.main_arg1)
          ∧ r.2.mem ((c.tc : Thread Cert.RefMemIdeal.nD Cert.RefMemIdeal.τ).loc Cert.RefMemIdeal.main_arg2) = m' ((c.tc : Thread Cert.RefMemIdeal.nD Cert.RefMemIdeal.τ).loc Cert.RefMemIdeal.main_arg2))

def preserves_DwDown_DwDownIdeal : Prop :=
  True

def algebraic_DwDownIdeal_RefDwDownIdeal [hDwDownIdeal : Cert.DwDownIdeal.Facts] [hRefDwDownIdeal : Cert.RefDwDownIdeal.Facts] : Prop :=
  ∀ (m : (ℓ : Loc Cert.DwDownIdeal.nD Cert.DwDownIdeal.τ Cert.DwDownIdeal.sig) → Buf (Elt Ideal) ℓ) (g : Dev Cert.DwDownIdeal.nD → PrngReg)
    (m' : (ℓ : Loc Cert.RefDwDownIdeal.nD Cert.RefDwDownIdeal.τ Cert.RefDwDownIdeal.sig) → Buf (Elt Ideal) ℓ) (g' : Dev Cert.RefDwDownIdeal.nD → PrngReg), Pre_DwDownIdeal m →
    (∀ c : Dev Cert.DwDownIdeal.nD,
      m' ((c.tc : Thread Cert.RefDwDownIdeal.nD Cert.RefDwDownIdeal.τ).loc Cert.RefDwDownIdeal.main_arg0) = m ((c.tc : Thread Cert.DwDownIdeal.nD Cert.DwDownIdeal.τ).loc Cert.DwDownIdeal.main_arg0)
      ∧ m' ((c.tc : Thread Cert.RefDwDownIdeal.nD Cert.RefDwDownIdeal.τ).loc Cert.RefDwDownIdeal.main_arg1) = m ((c.tc : Thread Cert.DwDownIdeal.nD Cert.DwDownIdeal.τ).loc Cert.DwDownIdeal.main_arg1)) →
    ∃ (v0 : (c : Dev Cert.DwDownIdeal.nD) → Buf (Elt Ideal) ((c.tc : Thread Cert.DwDownIdeal.nD Cert.DwDownIdeal.τ).loc Cert.DwDownIdeal.main_v0)),
      θ_run (Cert.DwDownIdeal.defs (F := Ideal)) (onTc (τ := Cert.DwDownIdeal.τ) (Cert.DwDownIdeal.main (F := Ideal))) ⟨m, fun _ => 0, g⟩ (fun r => ∀ c : Dev Cert.DwDownIdeal.nD,
          r.2.mem ((c.tc : Thread Cert.DwDownIdeal.nD Cert.DwDownIdeal.τ).loc Cert.DwDownIdeal.main_v0) = v0 c
          ∧ r.2.mem ((c.tc : Thread Cert.DwDownIdeal.nD Cert.DwDownIdeal.τ).loc Cert.DwDownIdeal.main_arg0) = m ((c.tc : Thread Cert.DwDownIdeal.nD Cert.DwDownIdeal.τ).loc Cert.DwDownIdeal.main_arg0)
          ∧ r.2.mem ((c.tc : Thread Cert.DwDownIdeal.nD Cert.DwDownIdeal.τ).loc Cert.DwDownIdeal.main_arg1) = m ((c.tc : Thread Cert.DwDownIdeal.nD Cert.DwDownIdeal.τ).loc Cert.DwDownIdeal.main_arg1))
      ∧ θ_run (Cert.RefDwDownIdeal.defs (F := Ideal)) (onTc (τ := Cert.RefDwDownIdeal.τ) (Cert.RefDwDownIdeal.main (F := Ideal))) ⟨m', fun _ => 0, g'⟩ (fun r => ∀ c : Dev Cert.RefDwDownIdeal.nD,
          r.2.mem ((c.tc : Thread Cert.RefDwDownIdeal.nD Cert.RefDwDownIdeal.τ).loc Cert.RefDwDownIdeal.main_v10) = v0 c
          ∧ r.2.mem ((c.tc : Thread Cert.RefDwDownIdeal.nD Cert.RefDwDownIdeal.τ).loc Cert.RefDwDownIdeal.main_arg0) = m' ((c.tc : Thread Cert.RefDwDownIdeal.nD Cert.RefDwDownIdeal.τ).loc Cert.RefDwDownIdeal.main_arg0)
          ∧ r.2.mem ((c.tc : Thread Cert.RefDwDownIdeal.nD Cert.RefDwDownIdeal.τ).loc Cert.RefDwDownIdeal.main_arg1) = m' ((c.tc : Thread Cert.RefDwDownIdeal.nD Cert.RefDwDownIdeal.τ).loc Cert.RefDwDownIdeal.main_arg1))

def preserves_DwUp_DwUpIdeal : Prop :=
  True

def algebraic_DwUpIdeal_RefDwUpIdeal [hDwUpIdeal : Cert.DwUpIdeal.Facts] [hRefDwUpIdeal : Cert.RefDwUpIdeal.Facts] : Prop :=
  ∀ (m : (ℓ : Loc Cert.DwUpIdeal.nD Cert.DwUpIdeal.τ Cert.DwUpIdeal.sig) → Buf (Elt Ideal) ℓ) (g : Dev Cert.DwUpIdeal.nD → PrngReg)
    (m' : (ℓ : Loc Cert.RefDwUpIdeal.nD Cert.RefDwUpIdeal.τ Cert.RefDwUpIdeal.sig) → Buf (Elt Ideal) ℓ) (g' : Dev Cert.RefDwUpIdeal.nD → PrngReg), Pre_DwUpIdeal m →
    (∀ c : Dev Cert.DwUpIdeal.nD,
      m' ((c.tc : Thread Cert.RefDwUpIdeal.nD Cert.RefDwUpIdeal.τ).loc Cert.RefDwUpIdeal.main_arg0) = m ((c.tc : Thread Cert.DwUpIdeal.nD Cert.DwUpIdeal.τ).loc Cert.DwUpIdeal.main_arg0)
      ∧ m' ((c.tc : Thread Cert.RefDwUpIdeal.nD Cert.RefDwUpIdeal.τ).loc Cert.RefDwUpIdeal.main_arg1) = m ((c.tc : Thread Cert.DwUpIdeal.nD Cert.DwUpIdeal.τ).loc Cert.DwUpIdeal.main_arg1)) →
    ∃ (v0 : (c : Dev Cert.DwUpIdeal.nD) → Buf (Elt Ideal) ((c.tc : Thread Cert.DwUpIdeal.nD Cert.DwUpIdeal.τ).loc Cert.DwUpIdeal.main_v0)),
      θ_run (Cert.DwUpIdeal.defs (F := Ideal)) (onTc (τ := Cert.DwUpIdeal.τ) (Cert.DwUpIdeal.main (F := Ideal))) ⟨m, fun _ => 0, g⟩ (fun r => ∀ c : Dev Cert.DwUpIdeal.nD,
          r.2.mem ((c.tc : Thread Cert.DwUpIdeal.nD Cert.DwUpIdeal.τ).loc Cert.DwUpIdeal.main_v0) = v0 c
          ∧ r.2.mem ((c.tc : Thread Cert.DwUpIdeal.nD Cert.DwUpIdeal.τ).loc Cert.DwUpIdeal.main_arg0) = m ((c.tc : Thread Cert.DwUpIdeal.nD Cert.DwUpIdeal.τ).loc Cert.DwUpIdeal.main_arg0)
          ∧ r.2.mem ((c.tc : Thread Cert.DwUpIdeal.nD Cert.DwUpIdeal.τ).loc Cert.DwUpIdeal.main_arg1) = m ((c.tc : Thread Cert.DwUpIdeal.nD Cert.DwUpIdeal.τ).loc Cert.DwUpIdeal.main_arg1))
      ∧ θ_run (Cert.RefDwUpIdeal.defs (F := Ideal)) (onTc (τ := Cert.RefDwUpIdeal.τ) (Cert.RefDwUpIdeal.main (F := Ideal))) ⟨m', fun _ => 0, g'⟩ (fun r => ∀ c : Dev Cert.RefDwUpIdeal.nD,
          r.2.mem ((c.tc : Thread Cert.RefDwUpIdeal.nD Cert.RefDwUpIdeal.τ).loc Cert.RefDwUpIdeal.main_v10) = v0 c
          ∧ r.2.mem ((c.tc : Thread Cert.RefDwUpIdeal.nD Cert.RefDwUpIdeal.τ).loc Cert.RefDwUpIdeal.main_arg0) = m' ((c.tc : Thread Cert.RefDwUpIdeal.nD Cert.RefDwUpIdeal.τ).loc Cert.RefDwUpIdeal.main_arg0)
          ∧ r.2.mem ((c.tc : Thread Cert.RefDwUpIdeal.nD Cert.RefDwUpIdeal.τ).loc Cert.RefDwUpIdeal.main_arg1) = m' ((c.tc : Thread Cert.RefDwUpIdeal.nD Cert.RefDwUpIdeal.τ).loc Cert.RefDwUpIdeal.main_arg1))

def preserves_DwSq_DwSqIdeal : Prop :=
  True

def algebraic_DwSqIdeal_RefDwSqIdeal [hDwSqIdeal : Cert.DwSqIdeal.Facts] [hRefDwSqIdeal : Cert.RefDwSqIdeal.Facts] : Prop :=
  ∀ (m : (ℓ : Loc Cert.DwSqIdeal.nD Cert.DwSqIdeal.τ Cert.DwSqIdeal.sig) → Buf (Elt Ideal) ℓ) (g : Dev Cert.DwSqIdeal.nD → PrngReg)
    (m' : (ℓ : Loc Cert.RefDwSqIdeal.nD Cert.RefDwSqIdeal.τ Cert.RefDwSqIdeal.sig) → Buf (Elt Ideal) ℓ) (g' : Dev Cert.RefDwSqIdeal.nD → PrngReg), Pre_DwSqIdeal m →
    (∀ c : Dev Cert.DwSqIdeal.nD,
      m' ((c.tc : Thread Cert.RefDwSqIdeal.nD Cert.RefDwSqIdeal.τ).loc Cert.RefDwSqIdeal.main_arg0) = m ((c.tc : Thread Cert.DwSqIdeal.nD Cert.DwSqIdeal.τ).loc Cert.DwSqIdeal.main_arg0)
      ∧ m' ((c.tc : Thread Cert.RefDwSqIdeal.nD Cert.RefDwSqIdeal.τ).loc Cert.RefDwSqIdeal.main_arg1) = m ((c.tc : Thread Cert.DwSqIdeal.nD Cert.DwSqIdeal.τ).loc Cert.DwSqIdeal.main_arg1)) →
    ∃ (v0 : (c : Dev Cert.DwSqIdeal.nD) → Buf (Elt Ideal) ((c.tc : Thread Cert.DwSqIdeal.nD Cert.DwSqIdeal.τ).loc Cert.DwSqIdeal.main_v0)),
      θ_run (Cert.DwSqIdeal.defs (F := Ideal)) (onTc (τ := Cert.DwSqIdeal.τ) (Cert.DwSqIdeal.main (F := Ideal))) ⟨m, fun _ => 0, g⟩ (fun r => ∀ c : Dev Cert.DwSqIdeal.nD,
          r.2.mem ((c.tc : Thread Cert.DwSqIdeal.nD Cert.DwSqIdeal.τ).loc Cert.DwSqIdeal.main_v0) = v0 c
          ∧ r.2.mem ((c.tc : Thread Cert.DwSqIdeal.nD Cert.DwSqIdeal.τ).loc Cert.DwSqIdeal.main_arg0) = m ((c.tc : Thread Cert.DwSqIdeal.nD Cert.DwSqIdeal.τ).loc Cert.DwSqIdeal.main_arg0)
          ∧ r.2.mem ((c.tc : Thread Cert.DwSqIdeal.nD Cert.DwSqIdeal.τ).loc Cert.DwSqIdeal.main_arg1) = m ((c.tc : Thread Cert.DwSqIdeal.nD Cert.DwSqIdeal.τ).loc Cert.DwSqIdeal.main_arg1))
      ∧ θ_run (Cert.RefDwSqIdeal.defs (F := Ideal)) (onTc (τ := Cert.RefDwSqIdeal.τ) (Cert.RefDwSqIdeal.main (F := Ideal))) ⟨m', fun _ => 0, g'⟩ (fun r => ∀ c : Dev Cert.RefDwSqIdeal.nD,
          r.2.mem ((c.tc : Thread Cert.RefDwSqIdeal.nD Cert.RefDwSqIdeal.τ).loc Cert.RefDwSqIdeal.main_v10) = v0 c
          ∧ r.2.mem ((c.tc : Thread Cert.RefDwSqIdeal.nD Cert.RefDwSqIdeal.τ).loc Cert.RefDwSqIdeal.main_arg0) = m' ((c.tc : Thread Cert.RefDwSqIdeal.nD Cert.RefDwSqIdeal.τ).loc Cert.RefDwSqIdeal.main_arg0)
          ∧ r.2.mem ((c.tc : Thread Cert.RefDwSqIdeal.nD Cert.RefDwSqIdeal.τ).loc Cert.RefDwSqIdeal.main_arg1) = m' ((c.tc : Thread Cert.RefDwSqIdeal.nD Cert.RefDwSqIdeal.τ).loc Cert.RefDwSqIdeal.main_arg1))

def preserves_DwMkv_DwMkvIdeal : Prop :=
  True

def algebraic_DwMkvIdeal_RefDwMkvIdeal [hDwMkvIdeal : Cert.DwMkvIdeal.Facts] [hRefDwMkvIdeal : Cert.RefDwMkvIdeal.Facts] : Prop :=
  ∀ (m : (ℓ : Loc Cert.DwMkvIdeal.nD Cert.DwMkvIdeal.τ Cert.DwMkvIdeal.sig) → Buf (Elt Ideal) ℓ) (g : Dev Cert.DwMkvIdeal.nD → PrngReg)
    (m' : (ℓ : Loc Cert.RefDwMkvIdeal.nD Cert.RefDwMkvIdeal.τ Cert.RefDwMkvIdeal.sig) → Buf (Elt Ideal) ℓ) (g' : Dev Cert.RefDwMkvIdeal.nD → PrngReg), Pre_DwMkvIdeal m →
    (∀ c : Dev Cert.DwMkvIdeal.nD,
      m' ((c.tc : Thread Cert.RefDwMkvIdeal.nD Cert.RefDwMkvIdeal.τ).loc Cert.RefDwMkvIdeal.main_arg0) = m ((c.tc : Thread Cert.DwMkvIdeal.nD Cert.DwMkvIdeal.τ).loc Cert.DwMkvIdeal.main_arg0)
      ∧ m' ((c.tc : Thread Cert.RefDwMkvIdeal.nD Cert.RefDwMkvIdeal.τ).loc Cert.RefDwMkvIdeal.main_arg1) = m ((c.tc : Thread Cert.DwMkvIdeal.nD Cert.DwMkvIdeal.τ).loc Cert.DwMkvIdeal.main_arg1)) →
    ∃ (v0 : (c : Dev Cert.DwMkvIdeal.nD) → Buf (Elt Ideal) ((c.tc : Thread Cert.DwMkvIdeal.nD Cert.DwMkvIdeal.τ).loc Cert.DwMkvIdeal.main_v0)),
      θ_run (Cert.DwMkvIdeal.defs (F := Ideal)) (onTc (τ := Cert.DwMkvIdeal.τ) (Cert.DwMkvIdeal.main (F := Ideal))) ⟨m, fun _ => 0, g⟩ (fun r => ∀ c : Dev Cert.DwMkvIdeal.nD,
          r.2.mem ((c.tc : Thread Cert.DwMkvIdeal.nD Cert.DwMkvIdeal.τ).loc Cert.DwMkvIdeal.main_v0) = v0 c
          ∧ r.2.mem ((c.tc : Thread Cert.DwMkvIdeal.nD Cert.DwMkvIdeal.τ).loc Cert.DwMkvIdeal.main_arg0) = m ((c.tc : Thread Cert.DwMkvIdeal.nD Cert.DwMkvIdeal.τ).loc Cert.DwMkvIdeal.main_arg0)
          ∧ r.2.mem ((c.tc : Thread Cert.DwMkvIdeal.nD Cert.DwMkvIdeal.τ).loc Cert.DwMkvIdeal.main_arg1) = m ((c.tc : Thread Cert.DwMkvIdeal.nD Cert.DwMkvIdeal.τ).loc Cert.DwMkvIdeal.main_arg1))
      ∧ θ_run (Cert.RefDwMkvIdeal.defs (F := Ideal)) (onTc (τ := Cert.RefDwMkvIdeal.τ) (Cert.RefDwMkvIdeal.main (F := Ideal))) ⟨m', fun _ => 0, g'⟩ (fun r => ∀ c : Dev Cert.RefDwMkvIdeal.nD,
          r.2.mem ((c.tc : Thread Cert.RefDwMkvIdeal.nD Cert.RefDwMkvIdeal.τ).loc Cert.RefDwMkvIdeal.main_v10) = v0 c
          ∧ r.2.mem ((c.tc : Thread Cert.RefDwMkvIdeal.nD Cert.RefDwMkvIdeal.τ).loc Cert.RefDwMkvIdeal.main_arg0) = m' ((c.tc : Thread Cert.RefDwMkvIdeal.nD Cert.RefDwMkvIdeal.τ).loc Cert.RefDwMkvIdeal.main_arg0)
          ∧ r.2.mem ((c.tc : Thread Cert.RefDwMkvIdeal.nD Cert.RefDwMkvIdeal.τ).loc Cert.RefDwMkvIdeal.main_arg1) = m' ((c.tc : Thread Cert.RefDwMkvIdeal.nD Cert.RefDwMkvIdeal.τ).loc Cert.RefDwMkvIdeal.main_arg1))

def preserves_DwIn_DwInIdeal : Prop :=
  True

def algebraic_DwInIdeal_RefDwInIdeal [hDwInIdeal : Cert.DwInIdeal.Facts] [hRefDwInIdeal : Cert.RefDwInIdeal.Facts] : Prop :=
  ∀ (m : (ℓ : Loc Cert.DwInIdeal.nD Cert.DwInIdeal.τ Cert.DwInIdeal.sig) → Buf (Elt Ideal) ℓ) (g : Dev Cert.DwInIdeal.nD → PrngReg)
    (m' : (ℓ : Loc Cert.RefDwInIdeal.nD Cert.RefDwInIdeal.τ Cert.RefDwInIdeal.sig) → Buf (Elt Ideal) ℓ) (g' : Dev Cert.RefDwInIdeal.nD → PrngReg), Pre_DwInIdeal m →
    (∀ c : Dev Cert.DwInIdeal.nD,
      m' ((c.tc : Thread Cert.RefDwInIdeal.nD Cert.RefDwInIdeal.τ).loc Cert.RefDwInIdeal.main_arg0) = m ((c.tc : Thread Cert.DwInIdeal.nD Cert.DwInIdeal.τ).loc Cert.DwInIdeal.main_arg0)
      ∧ m' ((c.tc : Thread Cert.RefDwInIdeal.nD Cert.RefDwInIdeal.τ).loc Cert.RefDwInIdeal.main_arg1) = m ((c.tc : Thread Cert.DwInIdeal.nD Cert.DwInIdeal.τ).loc Cert.DwInIdeal.main_arg1)) →
    ∃ (v0 : (c : Dev Cert.DwInIdeal.nD) → Buf (Elt Ideal) ((c.tc : Thread Cert.DwInIdeal.nD Cert.DwInIdeal.τ).loc Cert.DwInIdeal.main_v0)),
      θ_run (Cert.DwInIdeal.defs (F := Ideal)) (onTc (τ := Cert.DwInIdeal.τ) (Cert.DwInIdeal.main (F := Ideal))) ⟨m, fun _ => 0, g⟩ (fun r => ∀ c : Dev Cert.DwInIdeal.nD,
          r.2.mem ((c.tc : Thread Cert.DwInIdeal.nD Cert.DwInIdeal.τ).loc Cert.DwInIdeal.main_v0) = v0 c
          ∧ r.2.mem ((c.tc : Thread Cert.DwInIdeal.nD Cert.DwInIdeal.τ).loc Cert.DwInIdeal.main_arg0) = m ((c.tc : Thread Cert.DwInIdeal.nD Cert.DwInIdeal.τ).loc Cert.DwInIdeal.main_arg0)
          ∧ r.2.mem ((c.tc : Thread Cert.DwInIdeal.nD Cert.DwInIdeal.τ).loc Cert.DwInIdeal.main_arg1) = m ((c.tc : Thread Cert.DwInIdeal.nD Cert.DwInIdeal.τ).loc Cert.DwInIdeal.main_arg1))
      ∧ θ_run (Cert.RefDwInIdeal.defs (F := Ideal)) (onTc (τ := Cert.RefDwInIdeal.τ) (Cert.RefDwInIdeal.main (F := Ideal))) ⟨m', fun _ => 0, g'⟩ (fun r => ∀ c : Dev Cert.RefDwInIdeal.nD,
          r.2.mem ((c.tc : Thread Cert.RefDwInIdeal.nD Cert.RefDwInIdeal.τ).loc Cert.RefDwInIdeal.main_v10) = v0 c
          ∧ r.2.mem ((c.tc : Thread Cert.RefDwInIdeal.nD Cert.RefDwInIdeal.τ).loc Cert.RefDwInIdeal.main_arg0) = m' ((c.tc : Thread Cert.RefDwInIdeal.nD Cert.RefDwInIdeal.τ).loc Cert.RefDwInIdeal.main_arg0)
          ∧ r.2.mem ((c.tc : Thread Cert.RefDwInIdeal.nD Cert.RefDwInIdeal.τ).loc Cert.RefDwInIdeal.main_arg1) = m' ((c.tc : Thread Cert.RefDwInIdeal.nD Cert.RefDwInIdeal.τ).loc Cert.RefDwInIdeal.main_arg1))

def preserves_Du_DuIdeal : Prop :=
  True

def algebraic_DuIdeal_RefDuIdeal [hDuIdeal : Cert.DuIdeal.Facts] [hRefDuIdeal : Cert.RefDuIdeal.Facts] : Prop :=
  ∀ (m : (ℓ : Loc Cert.DuIdeal.nD Cert.DuIdeal.τ Cert.DuIdeal.sig) → Buf (Elt Ideal) ℓ) (g : Dev Cert.DuIdeal.nD → PrngReg)
    (m' : (ℓ : Loc Cert.RefDuIdeal.nD Cert.RefDuIdeal.τ Cert.RefDuIdeal.sig) → Buf (Elt Ideal) ℓ) (g' : Dev Cert.RefDuIdeal.nD → PrngReg), Pre_DuIdeal m →
    (∀ c : Dev Cert.DuIdeal.nD,
      m' ((c.tc : Thread Cert.RefDuIdeal.nD Cert.RefDuIdeal.τ).loc Cert.RefDuIdeal.main_arg0) = m ((c.tc : Thread Cert.DuIdeal.nD Cert.DuIdeal.τ).loc Cert.DuIdeal.main_arg0)
      ∧ m' ((c.tc : Thread Cert.RefDuIdeal.nD Cert.RefDuIdeal.τ).loc Cert.RefDuIdeal.main_arg1) = m ((c.tc : Thread Cert.DuIdeal.nD Cert.DuIdeal.τ).loc Cert.DuIdeal.main_arg1)
      ∧ m' ((c.tc : Thread Cert.RefDuIdeal.nD Cert.RefDuIdeal.τ).loc Cert.RefDuIdeal.main_arg2) = m ((c.tc : Thread Cert.DuIdeal.nD Cert.DuIdeal.τ).loc Cert.DuIdeal.main_arg2)) →
    ∃ (v0 : (c : Dev Cert.DuIdeal.nD) → Buf (Elt Ideal) ((c.tc : Thread Cert.DuIdeal.nD Cert.DuIdeal.τ).loc Cert.DuIdeal.main_v0)),
      θ_run (Cert.DuIdeal.defs (F := Ideal)) (onTc (τ := Cert.DuIdeal.τ) (Cert.DuIdeal.main (F := Ideal))) ⟨m, fun _ => 0, g⟩ (fun r => ∀ c : Dev Cert.DuIdeal.nD,
          r.2.mem ((c.tc : Thread Cert.DuIdeal.nD Cert.DuIdeal.τ).loc Cert.DuIdeal.main_v0) = v0 c
          ∧ r.2.mem ((c.tc : Thread Cert.DuIdeal.nD Cert.DuIdeal.τ).loc Cert.DuIdeal.main_arg0) = m ((c.tc : Thread Cert.DuIdeal.nD Cert.DuIdeal.τ).loc Cert.DuIdeal.main_arg0)
          ∧ r.2.mem ((c.tc : Thread Cert.DuIdeal.nD Cert.DuIdeal.τ).loc Cert.DuIdeal.main_arg1) = m ((c.tc : Thread Cert.DuIdeal.nD Cert.DuIdeal.τ).loc Cert.DuIdeal.main_arg1)
          ∧ r.2.mem ((c.tc : Thread Cert.DuIdeal.nD Cert.DuIdeal.τ).loc Cert.DuIdeal.main_arg2) = m ((c.tc : Thread Cert.DuIdeal.nD Cert.DuIdeal.τ).loc Cert.DuIdeal.main_arg2))
      ∧ θ_run (Cert.RefDuIdeal.defs (F := Ideal)) (onTc (τ := Cert.RefDuIdeal.τ) (Cert.RefDuIdeal.main (F := Ideal))) ⟨m', fun _ => 0, g'⟩ (fun r => ∀ c : Dev Cert.RefDuIdeal.nD,
          r.2.mem ((c.tc : Thread Cert.RefDuIdeal.nD Cert.RefDuIdeal.τ).loc Cert.RefDuIdeal.main_v16) = v0 c
          ∧ r.2.mem ((c.tc : Thread Cert.RefDuIdeal.nD Cert.RefDuIdeal.τ).loc Cert.RefDuIdeal.main_arg0) = m' ((c.tc : Thread Cert.RefDuIdeal.nD Cert.RefDuIdeal.τ).loc Cert.RefDuIdeal.main_arg0)
          ∧ r.2.mem ((c.tc : Thread Cert.RefDuIdeal.nD Cert.RefDuIdeal.τ).loc Cert.RefDuIdeal.main_arg1) = m' ((c.tc : Thread Cert.RefDuIdeal.nD Cert.RefDuIdeal.τ).loc Cert.RefDuIdeal.main_arg1)
          ∧ r.2.mem ((c.tc : Thread Cert.RefDuIdeal.nD Cert.RefDuIdeal.τ).loc Cert.RefDuIdeal.main_arg2) = m' ((c.tc : Thread Cert.RefDuIdeal.nD Cert.RefDuIdeal.τ).loc Cert.RefDuIdeal.main_arg2))

def preserves_Do_DoIdeal : Prop :=
  True

def algebraic_DoIdeal_RefDoIdeal [hDoIdeal : Cert.DoIdeal.Facts] [hRefDoIdeal : Cert.RefDoIdeal.Facts] : Prop :=
  ∀ (m : (ℓ : Loc Cert.DoIdeal.nD Cert.DoIdeal.τ Cert.DoIdeal.sig) → Buf (Elt Ideal) ℓ) (g : Dev Cert.DoIdeal.nD → PrngReg)
    (m' : (ℓ : Loc Cert.RefDoIdeal.nD Cert.RefDoIdeal.τ Cert.RefDoIdeal.sig) → Buf (Elt Ideal) ℓ) (g' : Dev Cert.RefDoIdeal.nD → PrngReg), Pre_DoIdeal m →
    (∀ c : Dev Cert.DoIdeal.nD,
      m' ((c.tc : Thread Cert.RefDoIdeal.nD Cert.RefDoIdeal.τ).loc Cert.RefDoIdeal.main_arg0) = m ((c.tc : Thread Cert.DoIdeal.nD Cert.DoIdeal.τ).loc Cert.DoIdeal.main_arg0)
      ∧ m' ((c.tc : Thread Cert.RefDoIdeal.nD Cert.RefDoIdeal.τ).loc Cert.RefDoIdeal.main_arg1) = m ((c.tc : Thread Cert.DoIdeal.nD Cert.DoIdeal.τ).loc Cert.DoIdeal.main_arg1)) →
    ∃ (v0 : (c : Dev Cert.DoIdeal.nD) → Buf (Elt Ideal) ((c.tc : Thread Cert.DoIdeal.nD Cert.DoIdeal.τ).loc Cert.DoIdeal.main_v0)),
      θ_run (Cert.DoIdeal.defs (F := Ideal)) (onTc (τ := Cert.DoIdeal.τ) (Cert.DoIdeal.main (F := Ideal))) ⟨m, fun _ => 0, g⟩ (fun r => ∀ c : Dev Cert.DoIdeal.nD,
          r.2.mem ((c.tc : Thread Cert.DoIdeal.nD Cert.DoIdeal.τ).loc Cert.DoIdeal.main_v0) = v0 c
          ∧ r.2.mem ((c.tc : Thread Cert.DoIdeal.nD Cert.DoIdeal.τ).loc Cert.DoIdeal.main_arg0) = m ((c.tc : Thread Cert.DoIdeal.nD Cert.DoIdeal.τ).loc Cert.DoIdeal.main_arg0)
          ∧ r.2.mem ((c.tc : Thread Cert.DoIdeal.nD Cert.DoIdeal.τ).loc Cert.DoIdeal.main_arg1) = m ((c.tc : Thread Cert.DoIdeal.nD Cert.DoIdeal.τ).loc Cert.DoIdeal.main_arg1))
      ∧ θ_run (Cert.RefDoIdeal.defs (F := Ideal)) (onTc (τ := Cert.RefDoIdeal.τ) (Cert.RefDoIdeal.main (F := Ideal))) ⟨m', fun _ => 0, g'⟩ (fun r => ∀ c : Dev Cert.RefDoIdeal.nD,
          r.2.mem ((c.tc : Thread Cert.RefDoIdeal.nD Cert.RefDoIdeal.τ).loc Cert.RefDoIdeal.main_v7) = v0 c
          ∧ r.2.mem ((c.tc : Thread Cert.RefDoIdeal.nD Cert.RefDoIdeal.τ).loc Cert.RefDoIdeal.main_arg0) = m' ((c.tc : Thread Cert.RefDoIdeal.nD Cert.RefDoIdeal.τ).loc Cert.RefDoIdeal.main_arg0)
          ∧ r.2.mem ((c.tc : Thread Cert.RefDoIdeal.nD Cert.RefDoIdeal.τ).loc Cert.RefDoIdeal.main_arg1) = m' ((c.tc : Thread Cert.RefDoIdeal.nD Cert.RefDoIdeal.τ).loc Cert.RefDoIdeal.main_arg1))

def preserves_Dymix_DymixIdeal : Prop :=
  True

def algebraic_DymixIdeal_RefDymixIdeal [hDymixIdeal : Cert.DymixIdeal.Facts] [hRefDymixIdeal : Cert.RefDymixIdeal.Facts] : Prop :=
  ∀ (m : (ℓ : Loc Cert.DymixIdeal.nD Cert.DymixIdeal.τ Cert.DymixIdeal.sig) → Buf (Elt Ideal) ℓ) (g : Dev Cert.DymixIdeal.nD → PrngReg)
    (m' : (ℓ : Loc Cert.RefDymixIdeal.nD Cert.RefDymixIdeal.τ Cert.RefDymixIdeal.sig) → Buf (Elt Ideal) ℓ) (g' : Dev Cert.RefDymixIdeal.nD → PrngReg), Pre_DymixIdeal m →
    (∀ c : Dev Cert.DymixIdeal.nD,
      m' ((c.tc : Thread Cert.RefDymixIdeal.nD Cert.RefDymixIdeal.τ).loc Cert.RefDymixIdeal.main_arg0) = m ((c.tc : Thread Cert.DymixIdeal.nD Cert.DymixIdeal.τ).loc Cert.DymixIdeal.main_arg0)
      ∧ m' ((c.tc : Thread Cert.RefDymixIdeal.nD Cert.RefDymixIdeal.τ).loc Cert.RefDymixIdeal.main_arg1) = m ((c.tc : Thread Cert.DymixIdeal.nD Cert.DymixIdeal.τ).loc Cert.DymixIdeal.main_arg1)) →
    ∃ (v0 : (c : Dev Cert.DymixIdeal.nD) → Buf (Elt Ideal) ((c.tc : Thread Cert.DymixIdeal.nD Cert.DymixIdeal.τ).loc Cert.DymixIdeal.main_v0)),
      θ_run (Cert.DymixIdeal.defs (F := Ideal)) (onTc (τ := Cert.DymixIdeal.τ) (Cert.DymixIdeal.main (F := Ideal))) ⟨m, fun _ => 0, g⟩ (fun r => ∀ c : Dev Cert.DymixIdeal.nD,
          r.2.mem ((c.tc : Thread Cert.DymixIdeal.nD Cert.DymixIdeal.τ).loc Cert.DymixIdeal.main_v0) = v0 c
          ∧ r.2.mem ((c.tc : Thread Cert.DymixIdeal.nD Cert.DymixIdeal.τ).loc Cert.DymixIdeal.main_arg0) = m ((c.tc : Thread Cert.DymixIdeal.nD Cert.DymixIdeal.τ).loc Cert.DymixIdeal.main_arg0)
          ∧ r.2.mem ((c.tc : Thread Cert.DymixIdeal.nD Cert.DymixIdeal.τ).loc Cert.DymixIdeal.main_arg1) = m ((c.tc : Thread Cert.DymixIdeal.nD Cert.DymixIdeal.τ).loc Cert.DymixIdeal.main_arg1))
      ∧ θ_run (Cert.RefDymixIdeal.defs (F := Ideal)) (onTc (τ := Cert.RefDymixIdeal.τ) (Cert.RefDymixIdeal.main (F := Ideal))) ⟨m', fun _ => 0, g'⟩ (fun r => ∀ c : Dev Cert.RefDymixIdeal.nD,
          r.2.mem ((c.tc : Thread Cert.RefDymixIdeal.nD Cert.RefDymixIdeal.τ).loc Cert.RefDymixIdeal.main_v6) = v0 c
          ∧ r.2.mem ((c.tc : Thread Cert.RefDymixIdeal.nD Cert.RefDymixIdeal.τ).loc Cert.RefDymixIdeal.main_arg0) = m' ((c.tc : Thread Cert.RefDymixIdeal.nD Cert.RefDymixIdeal.τ).loc Cert.RefDymixIdeal.main_arg0)
          ∧ r.2.mem ((c.tc : Thread Cert.RefDymixIdeal.nD Cert.RefDymixIdeal.τ).loc Cert.RefDymixIdeal.main_arg1) = m' ((c.tc : Thread Cert.RefDymixIdeal.nD Cert.RefDymixIdeal.τ).loc Cert.RefDymixIdeal.main_arg1))

def preserves_Dx1_Dx1Ideal : Prop :=
  True

def algebraic_Dx1Ideal_RefDx1Ideal [hDx1Ideal : Cert.Dx1Ideal.Facts] [hRefDx1Ideal : Cert.RefDx1Ideal.Facts] : Prop :=
  ∀ (m : (ℓ : Loc Cert.Dx1Ideal.nD Cert.Dx1Ideal.τ Cert.Dx1Ideal.sig) → Buf (Elt Ideal) ℓ) (g : Dev Cert.Dx1Ideal.nD → PrngReg)
    (m' : (ℓ : Loc Cert.RefDx1Ideal.nD Cert.RefDx1Ideal.τ Cert.RefDx1Ideal.sig) → Buf (Elt Ideal) ℓ) (g' : Dev Cert.RefDx1Ideal.nD → PrngReg), Pre_Dx1Ideal m →
    (∀ c : Dev Cert.Dx1Ideal.nD,
      m' ((c.tc : Thread Cert.RefDx1Ideal.nD Cert.RefDx1Ideal.τ).loc Cert.RefDx1Ideal.main_arg0) = m ((c.tc : Thread Cert.Dx1Ideal.nD Cert.Dx1Ideal.τ).loc Cert.Dx1Ideal.main_arg0)
      ∧ m' ((c.tc : Thread Cert.RefDx1Ideal.nD Cert.RefDx1Ideal.τ).loc Cert.RefDx1Ideal.main_arg1) = m ((c.tc : Thread Cert.Dx1Ideal.nD Cert.Dx1Ideal.τ).loc Cert.Dx1Ideal.main_arg1)
      ∧ m' ((c.tc : Thread Cert.RefDx1Ideal.nD Cert.RefDx1Ideal.τ).loc Cert.RefDx1Ideal.main_arg2) = m ((c.tc : Thread Cert.Dx1Ideal.nD Cert.Dx1Ideal.τ).loc Cert.Dx1Ideal.main_arg2)) →
    ∃ (v0 : (c : Dev Cert.Dx1Ideal.nD) → Buf (Elt Ideal) ((c.tc : Thread Cert.Dx1Ideal.nD Cert.Dx1Ideal.τ).loc Cert.Dx1Ideal.main_v0)),
      θ_run (Cert.Dx1Ideal.defs (F := Ideal)) (onTc (τ := Cert.Dx1Ideal.τ) (Cert.Dx1Ideal.main (F := Ideal))) ⟨m, fun _ => 0, g⟩ (fun r => ∀ c : Dev Cert.Dx1Ideal.nD,
          r.2.mem ((c.tc : Thread Cert.Dx1Ideal.nD Cert.Dx1Ideal.τ).loc Cert.Dx1Ideal.main_v0) = v0 c
          ∧ r.2.mem ((c.tc : Thread Cert.Dx1Ideal.nD Cert.Dx1Ideal.τ).loc Cert.Dx1Ideal.main_arg0) = m ((c.tc : Thread Cert.Dx1Ideal.nD Cert.Dx1Ideal.τ).loc Cert.Dx1Ideal.main_arg0)
          ∧ r.2.mem ((c.tc : Thread Cert.Dx1Ideal.nD Cert.Dx1Ideal.τ).loc Cert.Dx1Ideal.main_arg1) = m ((c.tc : Thread Cert.Dx1Ideal.nD Cert.Dx1Ideal.τ).loc Cert.Dx1Ideal.main_arg1)
          ∧ r.2.mem ((c.tc : Thread Cert.Dx1Ideal.nD Cert.Dx1Ideal.τ).loc Cert.Dx1Ideal.main_arg2) = m ((c.tc : Thread Cert.Dx1Ideal.nD Cert.Dx1Ideal.τ).loc Cert.Dx1Ideal.main_arg2))
      ∧ θ_run (Cert.RefDx1Ideal.defs (F := Ideal)) (onTc (τ := Cert.RefDx1Ideal.τ) (Cert.RefDx1Ideal.main (F := Ideal))) ⟨m', fun _ => 0, g'⟩ (fun r => ∀ c : Dev Cert.RefDx1Ideal.nD,
          r.2.mem ((c.tc : Thread Cert.RefDx1Ideal.nD Cert.RefDx1Ideal.τ).loc Cert.RefDx1Ideal.main_v11) = v0 c
          ∧ r.2.mem ((c.tc : Thread Cert.RefDx1Ideal.nD Cert.RefDx1Ideal.τ).loc Cert.RefDx1Ideal.main_arg0) = m' ((c.tc : Thread Cert.RefDx1Ideal.nD Cert.RefDx1Ideal.τ).loc Cert.RefDx1Ideal.main_arg0)
          ∧ r.2.mem ((c.tc : Thread Cert.RefDx1Ideal.nD Cert.RefDx1Ideal.τ).loc Cert.RefDx1Ideal.main_arg1) = m' ((c.tc : Thread Cert.RefDx1Ideal.nD Cert.RefDx1Ideal.τ).loc Cert.RefDx1Ideal.main_arg1)
          ∧ r.2.mem ((c.tc : Thread Cert.RefDx1Ideal.nD Cert.RefDx1Ideal.τ).loc Cert.RefDx1Ideal.main_arg2) = m' ((c.tc : Thread Cert.RefDx1Ideal.nD Cert.RefDx1Ideal.τ).loc Cert.RefDx1Ideal.main_arg2))

def preserves_Dx2_Dx2Ideal : Prop :=
  True

def algebraic_Dx2Ideal_RefDx2Ideal [hDx2Ideal : Cert.Dx2Ideal.Facts] [hRefDx2Ideal : Cert.RefDx2Ideal.Facts] : Prop :=
  ∀ (m : (ℓ : Loc Cert.Dx2Ideal.nD Cert.Dx2Ideal.τ Cert.Dx2Ideal.sig) → Buf (Elt Ideal) ℓ) (g : Dev Cert.Dx2Ideal.nD → PrngReg)
    (m' : (ℓ : Loc Cert.RefDx2Ideal.nD Cert.RefDx2Ideal.τ Cert.RefDx2Ideal.sig) → Buf (Elt Ideal) ℓ) (g' : Dev Cert.RefDx2Ideal.nD → PrngReg), Pre_Dx2Ideal m →
    (∀ c : Dev Cert.Dx2Ideal.nD,
      m' ((c.tc : Thread Cert.RefDx2Ideal.nD Cert.RefDx2Ideal.τ).loc Cert.RefDx2Ideal.main_arg0) = m ((c.tc : Thread Cert.Dx2Ideal.nD Cert.Dx2Ideal.τ).loc Cert.Dx2Ideal.main_arg0)
      ∧ m' ((c.tc : Thread Cert.RefDx2Ideal.nD Cert.RefDx2Ideal.τ).loc Cert.RefDx2Ideal.main_arg1) = m ((c.tc : Thread Cert.Dx2Ideal.nD Cert.Dx2Ideal.τ).loc Cert.Dx2Ideal.main_arg1)
      ∧ m' ((c.tc : Thread Cert.RefDx2Ideal.nD Cert.RefDx2Ideal.τ).loc Cert.RefDx2Ideal.main_arg2) = m ((c.tc : Thread Cert.Dx2Ideal.nD Cert.Dx2Ideal.τ).loc Cert.Dx2Ideal.main_arg2)) →
    ∃ (v0 : (c : Dev Cert.Dx2Ideal.nD) → Buf (Elt Ideal) ((c.tc : Thread Cert.Dx2Ideal.nD Cert.Dx2Ideal.τ).loc Cert.Dx2Ideal.main_v0)),
      θ_run (Cert.Dx2Ideal.defs (F := Ideal)) (onTc (τ := Cert.Dx2Ideal.τ) (Cert.Dx2Ideal.main (F := Ideal))) ⟨m, fun _ => 0, g⟩ (fun r => ∀ c : Dev Cert.Dx2Ideal.nD,
          r.2.mem ((c.tc : Thread Cert.Dx2Ideal.nD Cert.Dx2Ideal.τ).loc Cert.Dx2Ideal.main_v0) = v0 c
          ∧ r.2.mem ((c.tc : Thread Cert.Dx2Ideal.nD Cert.Dx2Ideal.τ).loc Cert.Dx2Ideal.main_arg0) = m ((c.tc : Thread Cert.Dx2Ideal.nD Cert.Dx2Ideal.τ).loc Cert.Dx2Ideal.main_arg0)
          ∧ r.2.mem ((c.tc : Thread Cert.Dx2Ideal.nD Cert.Dx2Ideal.τ).loc Cert.Dx2Ideal.main_arg1) = m ((c.tc : Thread Cert.Dx2Ideal.nD Cert.Dx2Ideal.τ).loc Cert.Dx2Ideal.main_arg1)
          ∧ r.2.mem ((c.tc : Thread Cert.Dx2Ideal.nD Cert.Dx2Ideal.τ).loc Cert.Dx2Ideal.main_arg2) = m ((c.tc : Thread Cert.Dx2Ideal.nD Cert.Dx2Ideal.τ).loc Cert.Dx2Ideal.main_arg2))
      ∧ θ_run (Cert.RefDx2Ideal.defs (F := Ideal)) (onTc (τ := Cert.RefDx2Ideal.τ) (Cert.RefDx2Ideal.main (F := Ideal))) ⟨m', fun _ => 0, g'⟩ (fun r => ∀ c : Dev Cert.RefDx2Ideal.nD,
          r.2.mem ((c.tc : Thread Cert.RefDx2Ideal.nD Cert.RefDx2Ideal.τ).loc Cert.RefDx2Ideal.main_v11) = v0 c
          ∧ r.2.mem ((c.tc : Thread Cert.RefDx2Ideal.nD Cert.RefDx2Ideal.τ).loc Cert.RefDx2Ideal.main_arg0) = m' ((c.tc : Thread Cert.RefDx2Ideal.nD Cert.RefDx2Ideal.τ).loc Cert.RefDx2Ideal.main_arg0)
          ∧ r.2.mem ((c.tc : Thread Cert.RefDx2Ideal.nD Cert.RefDx2Ideal.τ).loc Cert.RefDx2Ideal.main_arg1) = m' ((c.tc : Thread Cert.RefDx2Ideal.nD Cert.RefDx2Ideal.τ).loc Cert.RefDx2Ideal.main_arg1)
          ∧ r.2.mem ((c.tc : Thread Cert.RefDx2Ideal.nD Cert.RefDx2Ideal.τ).loc Cert.RefDx2Ideal.main_arg2) = m' ((c.tc : Thread Cert.RefDx2Ideal.nD Cert.RefDx2Ideal.τ).loc Cert.RefDx2Ideal.main_arg2))

def preserves_Dx0_Dx0Ideal : Prop :=
  True

def algebraic_Dx0Ideal_RefDx0Ideal [hDx0Ideal : Cert.Dx0Ideal.Facts] [hRefDx0Ideal : Cert.RefDx0Ideal.Facts] : Prop :=
  ∀ (m : (ℓ : Loc Cert.Dx0Ideal.nD Cert.Dx0Ideal.τ Cert.Dx0Ideal.sig) → Buf (Elt Ideal) ℓ) (g : Dev Cert.Dx0Ideal.nD → PrngReg)
    (m' : (ℓ : Loc Cert.RefDx0Ideal.nD Cert.RefDx0Ideal.τ Cert.RefDx0Ideal.sig) → Buf (Elt Ideal) ℓ) (g' : Dev Cert.RefDx0Ideal.nD → PrngReg), Pre_Dx0Ideal m →
    (∀ c : Dev Cert.Dx0Ideal.nD,
      m' ((c.tc : Thread Cert.RefDx0Ideal.nD Cert.RefDx0Ideal.τ).loc Cert.RefDx0Ideal.main_arg0) = m ((c.tc : Thread Cert.Dx0Ideal.nD Cert.Dx0Ideal.τ).loc Cert.Dx0Ideal.main_arg0)
      ∧ m' ((c.tc : Thread Cert.RefDx0Ideal.nD Cert.RefDx0Ideal.τ).loc Cert.RefDx0Ideal.main_arg1) = m ((c.tc : Thread Cert.Dx0Ideal.nD Cert.Dx0Ideal.τ).loc Cert.Dx0Ideal.main_arg1)
      ∧ m' ((c.tc : Thread Cert.RefDx0Ideal.nD Cert.RefDx0Ideal.τ).loc Cert.RefDx0Ideal.main_arg2) = m ((c.tc : Thread Cert.Dx0Ideal.nD Cert.Dx0Ideal.τ).loc Cert.Dx0Ideal.main_arg2)) →
    ∃ (v0 : (c : Dev Cert.Dx0Ideal.nD) → Buf (Elt Ideal) ((c.tc : Thread Cert.Dx0Ideal.nD Cert.Dx0Ideal.τ).loc Cert.Dx0Ideal.main_v0)),
      θ_run (Cert.Dx0Ideal.defs (F := Ideal)) (onTc (τ := Cert.Dx0Ideal.τ) (Cert.Dx0Ideal.main (F := Ideal))) ⟨m, fun _ => 0, g⟩ (fun r => ∀ c : Dev Cert.Dx0Ideal.nD,
          r.2.mem ((c.tc : Thread Cert.Dx0Ideal.nD Cert.Dx0Ideal.τ).loc Cert.Dx0Ideal.main_v0) = v0 c
          ∧ r.2.mem ((c.tc : Thread Cert.Dx0Ideal.nD Cert.Dx0Ideal.τ).loc Cert.Dx0Ideal.main_arg0) = m ((c.tc : Thread Cert.Dx0Ideal.nD Cert.Dx0Ideal.τ).loc Cert.Dx0Ideal.main_arg0)
          ∧ r.2.mem ((c.tc : Thread Cert.Dx0Ideal.nD Cert.Dx0Ideal.τ).loc Cert.Dx0Ideal.main_arg1) = m ((c.tc : Thread Cert.Dx0Ideal.nD Cert.Dx0Ideal.τ).loc Cert.Dx0Ideal.main_arg1)
          ∧ r.2.mem ((c.tc : Thread Cert.Dx0Ideal.nD Cert.Dx0Ideal.τ).loc Cert.Dx0Ideal.main_arg2) = m ((c.tc : Thread Cert.Dx0Ideal.nD Cert.Dx0Ideal.τ).loc Cert.Dx0Ideal.main_arg2))
      ∧ θ_run (Cert.RefDx0Ideal.defs (F := Ideal)) (onTc (τ := Cert.RefDx0Ideal.τ) (Cert.RefDx0Ideal.main (F := Ideal))) ⟨m', fun _ => 0, g'⟩ (fun r => ∀ c : Dev Cert.RefDx0Ideal.nD,
          r.2.mem ((c.tc : Thread Cert.RefDx0Ideal.nD Cert.RefDx0Ideal.τ).loc Cert.RefDx0Ideal.main_v11) = v0 c
          ∧ r.2.mem ((c.tc : Thread Cert.RefDx0Ideal.nD Cert.RefDx0Ideal.τ).loc Cert.RefDx0Ideal.main_arg0) = m' ((c.tc : Thread Cert.RefDx0Ideal.nD Cert.RefDx0Ideal.τ).loc Cert.RefDx0Ideal.main_arg0)
          ∧ r.2.mem ((c.tc : Thread Cert.RefDx0Ideal.nD Cert.RefDx0Ideal.τ).loc Cert.RefDx0Ideal.main_arg1) = m' ((c.tc : Thread Cert.RefDx0Ideal.nD Cert.RefDx0Ideal.τ).loc Cert.RefDx0Ideal.main_arg1)
          ∧ r.2.mem ((c.tc : Thread Cert.RefDx0Ideal.nD Cert.RefDx0Ideal.τ).loc Cert.RefDx0Ideal.main_arg2) = m' ((c.tc : Thread Cert.RefDx0Ideal.nD Cert.RefDx0Ideal.τ).loc Cert.RefDx0Ideal.main_arg2))

def preserves_Hin_HinIdeal : Prop :=
  True

def algebraic_HinIdeal_RefHinIdeal [hHinIdeal : Cert.HinIdeal.Facts] [hRefHinIdeal : Cert.RefHinIdeal.Facts] : Prop :=
  ∀ (m : (ℓ : Loc Cert.HinIdeal.nD Cert.HinIdeal.τ Cert.HinIdeal.sig) → Buf (Elt Ideal) ℓ) (g : Dev Cert.HinIdeal.nD → PrngReg)
    (m' : (ℓ : Loc Cert.RefHinIdeal.nD Cert.RefHinIdeal.τ Cert.RefHinIdeal.sig) → Buf (Elt Ideal) ℓ) (g' : Dev Cert.RefHinIdeal.nD → PrngReg), Pre_HinIdeal m →
    (∀ c : Dev Cert.HinIdeal.nD,
      m' ((c.tc : Thread Cert.RefHinIdeal.nD Cert.RefHinIdeal.τ).loc Cert.RefHinIdeal.main_arg0) = m ((c.tc : Thread Cert.HinIdeal.nD Cert.HinIdeal.τ).loc Cert.HinIdeal.main_arg0)
      ∧ m' ((c.tc : Thread Cert.RefHinIdeal.nD Cert.RefHinIdeal.τ).loc Cert.RefHinIdeal.main_arg1) = m ((c.tc : Thread Cert.HinIdeal.nD Cert.HinIdeal.τ).loc Cert.HinIdeal.main_arg1)) →
    ∃ (v0 : (c : Dev Cert.HinIdeal.nD) → Buf (Elt Ideal) ((c.tc : Thread Cert.HinIdeal.nD Cert.HinIdeal.τ).loc Cert.HinIdeal.main_v0)),
      θ_run (Cert.HinIdeal.defs (F := Ideal)) (onTc (τ := Cert.HinIdeal.τ) (Cert.HinIdeal.main (F := Ideal))) ⟨m, fun _ => 0, g⟩ (fun r => ∀ c : Dev Cert.HinIdeal.nD,
          r.2.mem ((c.tc : Thread Cert.HinIdeal.nD Cert.HinIdeal.τ).loc Cert.HinIdeal.main_v0) = v0 c
          ∧ r.2.mem ((c.tc : Thread Cert.HinIdeal.nD Cert.HinIdeal.τ).loc Cert.HinIdeal.main_arg0) = m ((c.tc : Thread Cert.HinIdeal.nD Cert.HinIdeal.τ).loc Cert.HinIdeal.main_arg0)
          ∧ r.2.mem ((c.tc : Thread Cert.HinIdeal.nD Cert.HinIdeal.τ).loc Cert.HinIdeal.main_arg1) = m ((c.tc : Thread Cert.HinIdeal.nD Cert.HinIdeal.τ).loc Cert.HinIdeal.main_arg1))
      ∧ θ_run (Cert.RefHinIdeal.defs (F := Ideal)) (onTc (τ := Cert.RefHinIdeal.τ) (Cert.RefHinIdeal.main (F := Ideal))) ⟨m', fun _ => 0, g'⟩ (fun r => ∀ c : Dev Cert.RefHinIdeal.nD,
          r.2.mem ((c.tc : Thread Cert.RefHinIdeal.nD Cert.RefHinIdeal.τ).loc Cert.RefHinIdeal.main_v4) = v0 c
          ∧ r.2.mem ((c.tc : Thread Cert.RefHinIdeal.nD Cert.RefHinIdeal.τ).loc Cert.RefHinIdeal.main_arg0) = m' ((c.tc : Thread Cert.RefHinIdeal.nD Cert.RefHinIdeal.τ).loc Cert.RefHinIdeal.main_arg0)
          ∧ r.2.mem ((c.tc : Thread Cert.RefHinIdeal.nD Cert.RefHinIdeal.τ).loc Cert.RefHinIdeal.main_arg1) = m' ((c.tc : Thread Cert.RefHinIdeal.nD Cert.RefHinIdeal.τ).loc Cert.RefHinIdeal.main_arg1))

def preserves_Mq_MqIdeal : Prop :=
  True

def algebraic_MqIdeal_RefMqIdeal [hMqIdeal : Cert.MqIdeal.Facts] [hRefMqIdeal : Cert.RefMqIdeal.Facts] : Prop :=
  ∀ (m : (ℓ : Loc Cert.MqIdeal.nD Cert.MqIdeal.τ Cert.MqIdeal.sig) → Buf (Elt Ideal) ℓ) (g : Dev Cert.MqIdeal.nD → PrngReg)
    (m' : (ℓ : Loc Cert.RefMqIdeal.nD Cert.RefMqIdeal.τ Cert.RefMqIdeal.sig) → Buf (Elt Ideal) ℓ) (g' : Dev Cert.RefMqIdeal.nD → PrngReg), Pre_MqIdeal m →
    (∀ c : Dev Cert.MqIdeal.nD,
      m' ((c.tc : Thread Cert.RefMqIdeal.nD Cert.RefMqIdeal.τ).loc Cert.RefMqIdeal.main_arg0) = m ((c.tc : Thread Cert.MqIdeal.nD Cert.MqIdeal.τ).loc Cert.MqIdeal.main_arg0)
      ∧ m' ((c.tc : Thread Cert.RefMqIdeal.nD Cert.RefMqIdeal.τ).loc Cert.RefMqIdeal.main_arg1) = m ((c.tc : Thread Cert.MqIdeal.nD Cert.MqIdeal.τ).loc Cert.MqIdeal.main_arg1)) →
    ∃ (v0 : (c : Dev Cert.MqIdeal.nD) → Buf (Elt Ideal) ((c.tc : Thread Cert.MqIdeal.nD Cert.MqIdeal.τ).loc Cert.MqIdeal.main_v0)),
      θ_run (Cert.MqIdeal.defs (F := Ideal)) (onTc (τ := Cert.MqIdeal.τ) (Cert.MqIdeal.main (F := Ideal))) ⟨m, fun _ => 0, g⟩ (fun r => ∀ c : Dev Cert.MqIdeal.nD,
          r.2.mem ((c.tc : Thread Cert.MqIdeal.nD Cert.MqIdeal.τ).loc Cert.MqIdeal.main_v0) = v0 c
          ∧ r.2.mem ((c.tc : Thread Cert.MqIdeal.nD Cert.MqIdeal.τ).loc Cert.MqIdeal.main_arg0) = m ((c.tc : Thread Cert.MqIdeal.nD Cert.MqIdeal.τ).loc Cert.MqIdeal.main_arg0)
          ∧ r.2.mem ((c.tc : Thread Cert.MqIdeal.nD Cert.MqIdeal.τ).loc Cert.MqIdeal.main_arg1) = m ((c.tc : Thread Cert.MqIdeal.nD Cert.MqIdeal.τ).loc Cert.MqIdeal.main_arg1))
      ∧ θ_run (Cert.RefMqIdeal.defs (F := Ideal)) (onTc (τ := Cert.RefMqIdeal.τ) (Cert.RefMqIdeal.main (F := Ideal))) ⟨m', fun _ => 0, g'⟩ (fun r => ∀ c : Dev Cert.RefMqIdeal.nD,
          r.2.mem ((c.tc : Thread Cert.RefMqIdeal.nD Cert.RefMqIdeal.τ).loc Cert.RefMqIdeal.main_v5) = v0 c
          ∧ r.2.mem ((c.tc : Thread Cert.RefMqIdeal.nD Cert.RefMqIdeal.τ).loc Cert.RefMqIdeal.main_arg0) = m' ((c.tc : Thread Cert.RefMqIdeal.nD Cert.RefMqIdeal.τ).loc Cert.RefMqIdeal.main_arg0)
          ∧ r.2.mem ((c.tc : Thread Cert.RefMqIdeal.nD Cert.RefMqIdeal.τ).loc Cert.RefMqIdeal.main_arg1) = m' ((c.tc : Thread Cert.RefMqIdeal.nD Cert.RefMqIdeal.τ).loc Cert.RefMqIdeal.main_arg1))

def preserves_Mkv_MkvIdeal : Prop :=
  True

def algebraic_MkvIdeal_RefMkvIdeal [hMkvIdeal : Cert.MkvIdeal.Facts] [hRefMkvIdeal : Cert.RefMkvIdeal.Facts] : Prop :=
  ∀ (m : (ℓ : Loc Cert.MkvIdeal.nD Cert.MkvIdeal.τ Cert.MkvIdeal.sig) → Buf (Elt Ideal) ℓ) (g : Dev Cert.MkvIdeal.nD → PrngReg)
    (m' : (ℓ : Loc Cert.RefMkvIdeal.nD Cert.RefMkvIdeal.τ Cert.RefMkvIdeal.sig) → Buf (Elt Ideal) ℓ) (g' : Dev Cert.RefMkvIdeal.nD → PrngReg), Pre_MkvIdeal m →
    (∀ c : Dev Cert.MkvIdeal.nD,
      m' ((c.tc : Thread Cert.RefMkvIdeal.nD Cert.RefMkvIdeal.τ).loc Cert.RefMkvIdeal.main_arg0) = m ((c.tc : Thread Cert.MkvIdeal.nD Cert.MkvIdeal.τ).loc Cert.MkvIdeal.main_arg0)
      ∧ m' ((c.tc : Thread Cert.RefMkvIdeal.nD Cert.RefMkvIdeal.τ).loc Cert.RefMkvIdeal.main_arg1) = m ((c.tc : Thread Cert.MkvIdeal.nD Cert.MkvIdeal.τ).loc Cert.MkvIdeal.main_arg1)) →
    ∃ (v0 : (c : Dev Cert.MkvIdeal.nD) → Buf (Elt Ideal) ((c.tc : Thread Cert.MkvIdeal.nD Cert.MkvIdeal.τ).loc Cert.MkvIdeal.main_v0)),
      θ_run (Cert.MkvIdeal.defs (F := Ideal)) (onTc (τ := Cert.MkvIdeal.τ) (Cert.MkvIdeal.main (F := Ideal))) ⟨m, fun _ => 0, g⟩ (fun r => ∀ c : Dev Cert.MkvIdeal.nD,
          r.2.mem ((c.tc : Thread Cert.MkvIdeal.nD Cert.MkvIdeal.τ).loc Cert.MkvIdeal.main_v0) = v0 c
          ∧ r.2.mem ((c.tc : Thread Cert.MkvIdeal.nD Cert.MkvIdeal.τ).loc Cert.MkvIdeal.main_arg0) = m ((c.tc : Thread Cert.MkvIdeal.nD Cert.MkvIdeal.τ).loc Cert.MkvIdeal.main_arg0)
          ∧ r.2.mem ((c.tc : Thread Cert.MkvIdeal.nD Cert.MkvIdeal.τ).loc Cert.MkvIdeal.main_arg1) = m ((c.tc : Thread Cert.MkvIdeal.nD Cert.MkvIdeal.τ).loc Cert.MkvIdeal.main_arg1))
      ∧ θ_run (Cert.RefMkvIdeal.defs (F := Ideal)) (onTc (τ := Cert.RefMkvIdeal.τ) (Cert.RefMkvIdeal.main (F := Ideal))) ⟨m', fun _ => 0, g'⟩ (fun r => ∀ c : Dev Cert.RefMkvIdeal.nD,
          r.2.mem ((c.tc : Thread Cert.RefMkvIdeal.nD Cert.RefMkvIdeal.τ).loc Cert.RefMkvIdeal.main_v5) = v0 c
          ∧ r.2.mem ((c.tc : Thread Cert.RefMkvIdeal.nD Cert.RefMkvIdeal.τ).loc Cert.RefMkvIdeal.main_arg0) = m' ((c.tc : Thread Cert.RefMkvIdeal.nD Cert.RefMkvIdeal.τ).loc Cert.RefMkvIdeal.main_arg0)
          ∧ r.2.mem ((c.tc : Thread Cert.RefMkvIdeal.nD Cert.RefMkvIdeal.τ).loc Cert.RefMkvIdeal.main_arg1) = m' ((c.tc : Thread Cert.RefMkvIdeal.nD Cert.RefMkvIdeal.τ).loc Cert.RefMkvIdeal.main_arg1))

def preserves_Up_UpIdeal : Prop :=
  True

def algebraic_UpIdeal_RefUpIdeal [hUpIdeal : Cert.UpIdeal.Facts] [hRefUpIdeal : Cert.RefUpIdeal.Facts] : Prop :=
  ∀ (m : (ℓ : Loc Cert.UpIdeal.nD Cert.UpIdeal.τ Cert.UpIdeal.sig) → Buf (Elt Ideal) ℓ) (g : Dev Cert.UpIdeal.nD → PrngReg)
    (m' : (ℓ : Loc Cert.RefUpIdeal.nD Cert.RefUpIdeal.τ Cert.RefUpIdeal.sig) → Buf (Elt Ideal) ℓ) (g' : Dev Cert.RefUpIdeal.nD → PrngReg), Pre_UpIdeal m →
    (∀ c : Dev Cert.UpIdeal.nD,
      m' ((c.tc : Thread Cert.RefUpIdeal.nD Cert.RefUpIdeal.τ).loc Cert.RefUpIdeal.main_arg0) = m ((c.tc : Thread Cert.UpIdeal.nD Cert.UpIdeal.τ).loc Cert.UpIdeal.main_arg0)
      ∧ m' ((c.tc : Thread Cert.RefUpIdeal.nD Cert.RefUpIdeal.τ).loc Cert.RefUpIdeal.main_arg1) = m ((c.tc : Thread Cert.UpIdeal.nD Cert.UpIdeal.τ).loc Cert.UpIdeal.main_arg1)) →
    ∃ (v0 : (c : Dev Cert.UpIdeal.nD) → Buf (Elt Ideal) ((c.tc : Thread Cert.UpIdeal.nD Cert.UpIdeal.τ).loc Cert.UpIdeal.main_v0_0)) (v1 : (c : Dev Cert.UpIdeal.nD) → Buf (Elt Ideal) ((c.tc : Thread Cert.UpIdeal.nD Cert.UpIdeal.τ).loc Cert.UpIdeal.main_v0_1)),
      θ_run (Cert.UpIdeal.defs (F := Ideal)) (onTc (τ := Cert.UpIdeal.τ) (Cert.UpIdeal.main (F := Ideal))) ⟨m, fun _ => 0, g⟩ (fun r => ∀ c : Dev Cert.UpIdeal.nD,
          r.2.mem ((c.tc : Thread Cert.UpIdeal.nD Cert.UpIdeal.τ).loc Cert.UpIdeal.main_v0_0) = v0 c
          ∧ r.2.mem ((c.tc : Thread Cert.UpIdeal.nD Cert.UpIdeal.τ).loc Cert.UpIdeal.main_v0_1) = v1 c
          ∧ r.2.mem ((c.tc : Thread Cert.UpIdeal.nD Cert.UpIdeal.τ).loc Cert.UpIdeal.main_arg0) = m ((c.tc : Thread Cert.UpIdeal.nD Cert.UpIdeal.τ).loc Cert.UpIdeal.main_arg0)
          ∧ r.2.mem ((c.tc : Thread Cert.UpIdeal.nD Cert.UpIdeal.τ).loc Cert.UpIdeal.main_arg1) = m ((c.tc : Thread Cert.UpIdeal.nD Cert.UpIdeal.τ).loc Cert.UpIdeal.main_arg1))
      ∧ θ_run (Cert.RefUpIdeal.defs (F := Ideal)) (onTc (τ := Cert.RefUpIdeal.τ) (Cert.RefUpIdeal.main (F := Ideal))) ⟨m', fun _ => 0, g'⟩ (fun r => ∀ c : Dev Cert.RefUpIdeal.nD,
          r.2.mem ((c.tc : Thread Cert.RefUpIdeal.nD Cert.RefUpIdeal.τ).loc Cert.RefUpIdeal.main_v6) = v0 c
          ∧ r.2.mem ((c.tc : Thread Cert.RefUpIdeal.nD Cert.RefUpIdeal.τ).loc Cert.RefUpIdeal.main_v8) = v1 c
          ∧ r.2.mem ((c.tc : Thread Cert.RefUpIdeal.nD Cert.RefUpIdeal.τ).loc Cert.RefUpIdeal.main_arg0) = m' ((c.tc : Thread Cert.RefUpIdeal.nD Cert.RefUpIdeal.τ).loc Cert.RefUpIdeal.main_arg0)
          ∧ r.2.mem ((c.tc : Thread Cert.RefUpIdeal.nD Cert.RefUpIdeal.τ).loc Cert.RefUpIdeal.main_arg1) = m' ((c.tc : Thread Cert.RefUpIdeal.nD Cert.RefUpIdeal.τ).loc Cert.RefUpIdeal.main_arg1))

def preserves_OutLn_OutLnIdeal : Prop :=
  True

def algebraic_OutLnIdeal_RefOutLnIdeal [hOutLnIdeal : Cert.OutLnIdeal.Facts] [hRefOutLnIdeal : Cert.RefOutLnIdeal.Facts] : Prop :=
  ∀ (m : (ℓ : Loc Cert.OutLnIdeal.nD Cert.OutLnIdeal.τ Cert.OutLnIdeal.sig) → Buf (Elt Ideal) ℓ) (g : Dev Cert.OutLnIdeal.nD → PrngReg)
    (m' : (ℓ : Loc Cert.RefOutLnIdeal.nD Cert.RefOutLnIdeal.τ Cert.RefOutLnIdeal.sig) → Buf (Elt Ideal) ℓ) (g' : Dev Cert.RefOutLnIdeal.nD → PrngReg), Pre_OutLnIdeal m →
    (∀ c : Dev Cert.OutLnIdeal.nD,
      m' ((c.tc : Thread Cert.RefOutLnIdeal.nD Cert.RefOutLnIdeal.τ).loc Cert.RefOutLnIdeal.main_arg0) = m ((c.tc : Thread Cert.OutLnIdeal.nD Cert.OutLnIdeal.τ).loc Cert.OutLnIdeal.main_arg0)
      ∧ m' ((c.tc : Thread Cert.RefOutLnIdeal.nD Cert.RefOutLnIdeal.τ).loc Cert.RefOutLnIdeal.main_arg1) = m ((c.tc : Thread Cert.OutLnIdeal.nD Cert.OutLnIdeal.τ).loc Cert.OutLnIdeal.main_arg1)
      ∧ m' ((c.tc : Thread Cert.RefOutLnIdeal.nD Cert.RefOutLnIdeal.τ).loc Cert.RefOutLnIdeal.main_arg2) = m ((c.tc : Thread Cert.OutLnIdeal.nD Cert.OutLnIdeal.τ).loc Cert.OutLnIdeal.main_arg2)
      ∧ m' ((c.tc : Thread Cert.RefOutLnIdeal.nD Cert.RefOutLnIdeal.τ).loc Cert.RefOutLnIdeal.main_arg3) = m ((c.tc : Thread Cert.OutLnIdeal.nD Cert.OutLnIdeal.τ).loc Cert.OutLnIdeal.main_arg3)
      ∧ m' ((c.tc : Thread Cert.RefOutLnIdeal.nD Cert.RefOutLnIdeal.τ).loc Cert.RefOutLnIdeal.main_arg4) = m ((c.tc : Thread Cert.OutLnIdeal.nD Cert.OutLnIdeal.τ).loc Cert.OutLnIdeal.main_arg4)) →
    ∃ (v0 : (c : Dev Cert.OutLnIdeal.nD) → Buf (Elt Ideal) ((c.tc : Thread Cert.OutLnIdeal.nD Cert.OutLnIdeal.τ).loc Cert.OutLnIdeal.main_v0_0)) (v1 : (c : Dev Cert.OutLnIdeal.nD) → Buf (Elt Ideal) ((c.tc : Thread Cert.OutLnIdeal.nD Cert.OutLnIdeal.τ).loc Cert.OutLnIdeal.main_v0_1)) (v2 : (c : Dev Cert.OutLnIdeal.nD) → Buf (Elt Ideal) ((c.tc : Thread Cert.OutLnIdeal.nD Cert.OutLnIdeal.τ).loc Cert.OutLnIdeal.main_v0_2)),
      θ_run (Cert.OutLnIdeal.defs (F := Ideal)) (onTc (τ := Cert.OutLnIdeal.τ) (Cert.OutLnIdeal.main (F := Ideal))) ⟨m, fun _ => 0, g⟩ (fun r => ∀ c : Dev Cert.OutLnIdeal.nD,
          r.2.mem ((c.tc : Thread Cert.OutLnIdeal.nD Cert.OutLnIdeal.τ).loc Cert.OutLnIdeal.main_v0_0) = v0 c
          ∧ r.2.mem ((c.tc : Thread Cert.OutLnIdeal.nD Cert.OutLnIdeal.τ).loc Cert.OutLnIdeal.main_v0_1) = v1 c
          ∧ r.2.mem ((c.tc : Thread Cert.OutLnIdeal.nD Cert.OutLnIdeal.τ).loc Cert.OutLnIdeal.main_v0_2) = v2 c
          ∧ r.2.mem ((c.tc : Thread Cert.OutLnIdeal.nD Cert.OutLnIdeal.τ).loc Cert.OutLnIdeal.main_arg0) = m ((c.tc : Thread Cert.OutLnIdeal.nD Cert.OutLnIdeal.τ).loc Cert.OutLnIdeal.main_arg0)
          ∧ r.2.mem ((c.tc : Thread Cert.OutLnIdeal.nD Cert.OutLnIdeal.τ).loc Cert.OutLnIdeal.main_arg1) = m ((c.tc : Thread Cert.OutLnIdeal.nD Cert.OutLnIdeal.τ).loc Cert.OutLnIdeal.main_arg1)
          ∧ r.2.mem ((c.tc : Thread Cert.OutLnIdeal.nD Cert.OutLnIdeal.τ).loc Cert.OutLnIdeal.main_arg2) = m ((c.tc : Thread Cert.OutLnIdeal.nD Cert.OutLnIdeal.τ).loc Cert.OutLnIdeal.main_arg2)
          ∧ r.2.mem ((c.tc : Thread Cert.OutLnIdeal.nD Cert.OutLnIdeal.τ).loc Cert.OutLnIdeal.main_arg3) = m ((c.tc : Thread Cert.OutLnIdeal.nD Cert.OutLnIdeal.τ).loc Cert.OutLnIdeal.main_arg3)
          ∧ r.2.mem ((c.tc : Thread Cert.OutLnIdeal.nD Cert.OutLnIdeal.τ).loc Cert.OutLnIdeal.main_arg4) = m ((c.tc : Thread Cert.OutLnIdeal.nD Cert.OutLnIdeal.τ).loc Cert.OutLnIdeal.main_arg4))
      ∧ θ_run (Cert.RefOutLnIdeal.defs (F := Ideal)) (onTc (τ := Cert.RefOutLnIdeal.τ) (Cert.RefOutLnIdeal.main (F := Ideal))) ⟨m', fun _ => 0, g'⟩ (fun r => ∀ c : Dev Cert.RefOutLnIdeal.nD,
          r.2.mem ((c.tc : Thread Cert.RefOutLnIdeal.nD Cert.RefOutLnIdeal.τ).loc Cert.RefOutLnIdeal.main_v5) = v0 c
          ∧ r.2.mem ((c.tc : Thread Cert.RefOutLnIdeal.nD Cert.RefOutLnIdeal.τ).loc Cert.RefOutLnIdeal.main_v27) = v1 c
          ∧ r.2.mem ((c.tc : Thread Cert.RefOutLnIdeal.nD Cert.RefOutLnIdeal.τ).loc Cert.RefOutLnIdeal.main_v28) = v2 c
          ∧ r.2.mem ((c.tc : Thread Cert.RefOutLnIdeal.nD Cert.RefOutLnIdeal.τ).loc Cert.RefOutLnIdeal.main_arg0) = m' ((c.tc : Thread Cert.RefOutLnIdeal.nD Cert.RefOutLnIdeal.τ).loc Cert.RefOutLnIdeal.main_arg0)
          ∧ r.2.mem ((c.tc : Thread Cert.RefOutLnIdeal.nD Cert.RefOutLnIdeal.τ).loc Cert.RefOutLnIdeal.main_arg1) = m' ((c.tc : Thread Cert.RefOutLnIdeal.nD Cert.RefOutLnIdeal.τ).loc Cert.RefOutLnIdeal.main_arg1)
          ∧ r.2.mem ((c.tc : Thread Cert.RefOutLnIdeal.nD Cert.RefOutLnIdeal.τ).loc Cert.RefOutLnIdeal.main_arg2) = m' ((c.tc : Thread Cert.RefOutLnIdeal.nD Cert.RefOutLnIdeal.τ).loc Cert.RefOutLnIdeal.main_arg2)
          ∧ r.2.mem ((c.tc : Thread Cert.RefOutLnIdeal.nD Cert.RefOutLnIdeal.τ).loc Cert.RefOutLnIdeal.main_arg3) = m' ((c.tc : Thread Cert.RefOutLnIdeal.nD Cert.RefOutLnIdeal.τ).loc Cert.RefOutLnIdeal.main_arg3)
          ∧ r.2.mem ((c.tc : Thread Cert.RefOutLnIdeal.nD Cert.RefOutLnIdeal.τ).loc Cert.RefOutLnIdeal.main_arg4) = m' ((c.tc : Thread Cert.RefOutLnIdeal.nD Cert.RefOutLnIdeal.τ).loc Cert.RefOutLnIdeal.main_arg4))

def preserves_DownLn_DownLnIdeal : Prop :=
  True

def algebraic_DownLnIdeal_RefDownLnIdeal [hDownLnIdeal : Cert.DownLnIdeal.Facts] [hRefDownLnIdeal : Cert.RefDownLnIdeal.Facts] : Prop :=
  ∀ (m : (ℓ : Loc Cert.DownLnIdeal.nD Cert.DownLnIdeal.τ Cert.DownLnIdeal.sig) → Buf (Elt Ideal) ℓ) (g : Dev Cert.DownLnIdeal.nD → PrngReg)
    (m' : (ℓ : Loc Cert.RefDownLnIdeal.nD Cert.RefDownLnIdeal.τ Cert.RefDownLnIdeal.sig) → Buf (Elt Ideal) ℓ) (g' : Dev Cert.RefDownLnIdeal.nD → PrngReg), Pre_DownLnIdeal m →
    (∀ c : Dev Cert.DownLnIdeal.nD,
      m' ((c.tc : Thread Cert.RefDownLnIdeal.nD Cert.RefDownLnIdeal.τ).loc Cert.RefDownLnIdeal.main_arg0) = m ((c.tc : Thread Cert.DownLnIdeal.nD Cert.DownLnIdeal.τ).loc Cert.DownLnIdeal.main_arg0)
      ∧ m' ((c.tc : Thread Cert.RefDownLnIdeal.nD Cert.RefDownLnIdeal.τ).loc Cert.RefDownLnIdeal.main_arg1) = m ((c.tc : Thread Cert.DownLnIdeal.nD Cert.DownLnIdeal.τ).loc Cert.DownLnIdeal.main_arg1)
      ∧ m' ((c.tc : Thread Cert.RefDownLnIdeal.nD Cert.RefDownLnIdeal.τ).loc Cert.RefDownLnIdeal.main_arg2) = m ((c.tc : Thread Cert.DownLnIdeal.nD Cert.DownLnIdeal.τ).loc Cert.DownLnIdeal.main_arg2)
      ∧ m' ((c.tc : Thread Cert.RefDownLnIdeal.nD Cert.RefDownLnIdeal.τ).loc Cert.RefDownLnIdeal.main_arg3) = m ((c.tc : Thread Cert.DownLnIdeal.nD Cert.DownLnIdeal.τ).loc Cert.DownLnIdeal.main_arg3)
      ∧ m' ((c.tc : Thread Cert.RefDownLnIdeal.nD Cert.RefDownLnIdeal.τ).loc Cert.RefDownLnIdeal.main_arg4) = m ((c.tc : Thread Cert.DownLnIdeal.nD Cert.DownLnIdeal.τ).loc Cert.DownLnIdeal.main_arg4)) →
    ∃ (v0 : (c : Dev Cert.DownLnIdeal.nD) → Buf (Elt Ideal) ((c.tc : Thread Cert.DownLnIdeal.nD Cert.DownLnIdeal.τ).loc Cert.DownLnIdeal.main_v0_0)) (v1 : (c : Dev Cert.DownLnIdeal.nD) → Buf (Elt Ideal) ((c.tc : Thread Cert.DownLnIdeal.nD Cert.DownLnIdeal.τ).loc Cert.DownLnIdeal.main_v0_1)) (v2 : (c : Dev Cert.DownLnIdeal.nD) → Buf (Elt Ideal) ((c.tc : Thread Cert.DownLnIdeal.nD Cert.DownLnIdeal.τ).loc Cert.DownLnIdeal.main_v0_2)),
      θ_run (Cert.DownLnIdeal.defs (F := Ideal)) (onTc (τ := Cert.DownLnIdeal.τ) (Cert.DownLnIdeal.main (F := Ideal))) ⟨m, fun _ => 0, g⟩ (fun r => ∀ c : Dev Cert.DownLnIdeal.nD,
          r.2.mem ((c.tc : Thread Cert.DownLnIdeal.nD Cert.DownLnIdeal.τ).loc Cert.DownLnIdeal.main_v0_0) = v0 c
          ∧ r.2.mem ((c.tc : Thread Cert.DownLnIdeal.nD Cert.DownLnIdeal.τ).loc Cert.DownLnIdeal.main_v0_1) = v1 c
          ∧ r.2.mem ((c.tc : Thread Cert.DownLnIdeal.nD Cert.DownLnIdeal.τ).loc Cert.DownLnIdeal.main_v0_2) = v2 c
          ∧ r.2.mem ((c.tc : Thread Cert.DownLnIdeal.nD Cert.DownLnIdeal.τ).loc Cert.DownLnIdeal.main_arg0) = m ((c.tc : Thread Cert.DownLnIdeal.nD Cert.DownLnIdeal.τ).loc Cert.DownLnIdeal.main_arg0)
          ∧ r.2.mem ((c.tc : Thread Cert.DownLnIdeal.nD Cert.DownLnIdeal.τ).loc Cert.DownLnIdeal.main_arg1) = m ((c.tc : Thread Cert.DownLnIdeal.nD Cert.DownLnIdeal.τ).loc Cert.DownLnIdeal.main_arg1)
          ∧ r.2.mem ((c.tc : Thread Cert.DownLnIdeal.nD Cert.DownLnIdeal.τ).loc Cert.DownLnIdeal.main_arg2) = m ((c.tc : Thread Cert.DownLnIdeal.nD Cert.DownLnIdeal.τ).loc Cert.DownLnIdeal.main_arg2)
          ∧ r.2.mem ((c.tc : Thread Cert.DownLnIdeal.nD Cert.DownLnIdeal.τ).loc Cert.DownLnIdeal.main_arg3) = m ((c.tc : Thread Cert.DownLnIdeal.nD Cert.DownLnIdeal.τ).loc Cert.DownLnIdeal.main_arg3)
          ∧ r.2.mem ((c.tc : Thread Cert.DownLnIdeal.nD Cert.DownLnIdeal.τ).loc Cert.DownLnIdeal.main_arg4) = m ((c.tc : Thread Cert.DownLnIdeal.nD Cert.DownLnIdeal.τ).loc Cert.DownLnIdeal.main_arg4))
      ∧ θ_run (Cert.RefDownLnIdeal.defs (F := Ideal)) (onTc (τ := Cert.RefDownLnIdeal.τ) (Cert.RefDownLnIdeal.main (F := Ideal))) ⟨m', fun _ => 0, g'⟩ (fun r => ∀ c : Dev Cert.RefDownLnIdeal.nD,
          r.2.mem ((c.tc : Thread Cert.RefDownLnIdeal.nD Cert.RefDownLnIdeal.τ).loc Cert.RefDownLnIdeal.main_v5) = v0 c
          ∧ r.2.mem ((c.tc : Thread Cert.RefDownLnIdeal.nD Cert.RefDownLnIdeal.τ).loc Cert.RefDownLnIdeal.main_v27) = v1 c
          ∧ r.2.mem ((c.tc : Thread Cert.RefDownLnIdeal.nD Cert.RefDownLnIdeal.τ).loc Cert.RefDownLnIdeal.main_v28) = v2 c
          ∧ r.2.mem ((c.tc : Thread Cert.RefDownLnIdeal.nD Cert.RefDownLnIdeal.τ).loc Cert.RefDownLnIdeal.main_arg0) = m' ((c.tc : Thread Cert.RefDownLnIdeal.nD Cert.RefDownLnIdeal.τ).loc Cert.RefDownLnIdeal.main_arg0)
          ∧ r.2.mem ((c.tc : Thread Cert.RefDownLnIdeal.nD Cert.RefDownLnIdeal.τ).loc Cert.RefDownLnIdeal.main_arg1) = m' ((c.tc : Thread Cert.RefDownLnIdeal.nD Cert.RefDownLnIdeal.τ).loc Cert.RefDownLnIdeal.main_arg1)
          ∧ r.2.mem ((c.tc : Thread Cert.RefDownLnIdeal.nD Cert.RefDownLnIdeal.τ).loc Cert.RefDownLnIdeal.main_arg2) = m' ((c.tc : Thread Cert.RefDownLnIdeal.nD Cert.RefDownLnIdeal.τ).loc Cert.RefDownLnIdeal.main_arg2)
          ∧ r.2.mem ((c.tc : Thread Cert.RefDownLnIdeal.nD Cert.RefDownLnIdeal.τ).loc Cert.RefDownLnIdeal.main_arg3) = m' ((c.tc : Thread Cert.RefDownLnIdeal.nD Cert.RefDownLnIdeal.τ).loc Cert.RefDownLnIdeal.main_arg3)
          ∧ r.2.mem ((c.tc : Thread Cert.RefDownLnIdeal.nD Cert.RefDownLnIdeal.τ).loc Cert.RefDownLnIdeal.main_arg4) = m' ((c.tc : Thread Cert.RefDownLnIdeal.nD Cert.RefDownLnIdeal.τ).loc Cert.RefDownLnIdeal.main_arg4))

def preserves_MemFwd_MemFwdIdeal : Prop :=
  True

def algebraic_MemFwdIdeal_RefMemFwdIdeal [hMemFwdIdeal : Cert.MemFwdIdeal.Facts] [hRefMemFwdIdeal : Cert.RefMemFwdIdeal.Facts] : Prop :=
  ∀ (m : (ℓ : Loc Cert.MemFwdIdeal.nD Cert.MemFwdIdeal.τ Cert.MemFwdIdeal.sig) → Buf (Elt Ideal) ℓ) (g : Dev Cert.MemFwdIdeal.nD → PrngReg)
    (m' : (ℓ : Loc Cert.RefMemFwdIdeal.nD Cert.RefMemFwdIdeal.τ Cert.RefMemFwdIdeal.sig) → Buf (Elt Ideal) ℓ) (g' : Dev Cert.RefMemFwdIdeal.nD → PrngReg), Pre_MemFwdIdeal m →
    (∀ c : Dev Cert.MemFwdIdeal.nD,
      m' ((c.tc : Thread Cert.RefMemFwdIdeal.nD Cert.RefMemFwdIdeal.τ).loc Cert.RefMemFwdIdeal.main_arg0) = m ((c.tc : Thread Cert.MemFwdIdeal.nD Cert.MemFwdIdeal.τ).loc Cert.MemFwdIdeal.main_arg0)
      ∧ m' ((c.tc : Thread Cert.RefMemFwdIdeal.nD Cert.RefMemFwdIdeal.τ).loc Cert.RefMemFwdIdeal.main_arg1) = m ((c.tc : Thread Cert.MemFwdIdeal.nD Cert.MemFwdIdeal.τ).loc Cert.MemFwdIdeal.main_arg1)) →
    ∃ (v0 : (c : Dev Cert.MemFwdIdeal.nD) → Buf (Elt Ideal) ((c.tc : Thread Cert.MemFwdIdeal.nD Cert.MemFwdIdeal.τ).loc Cert.MemFwdIdeal.main_v0)),
      θ_run (Cert.MemFwdIdeal.defs (F := Ideal)) (onTc (τ := Cert.MemFwdIdeal.τ) (Cert.MemFwdIdeal.main (F := Ideal))) ⟨m, fun _ => 0, g⟩ (fun r => ∀ c : Dev Cert.MemFwdIdeal.nD,
          r.2.mem ((c.tc : Thread Cert.MemFwdIdeal.nD Cert.MemFwdIdeal.τ).loc Cert.MemFwdIdeal.main_v0) = v0 c
          ∧ r.2.mem ((c.tc : Thread Cert.MemFwdIdeal.nD Cert.MemFwdIdeal.τ).loc Cert.MemFwdIdeal.main_arg0) = m ((c.tc : Thread Cert.MemFwdIdeal.nD Cert.MemFwdIdeal.τ).loc Cert.MemFwdIdeal.main_arg0)
          ∧ r.2.mem ((c.tc : Thread Cert.MemFwdIdeal.nD Cert.MemFwdIdeal.τ).loc Cert.MemFwdIdeal.main_arg1) = m ((c.tc : Thread Cert.MemFwdIdeal.nD Cert.MemFwdIdeal.τ).loc Cert.MemFwdIdeal.main_arg1))
      ∧ θ_run (Cert.RefMemFwdIdeal.defs (F := Ideal)) (onTc (τ := Cert.RefMemFwdIdeal.τ) (Cert.RefMemFwdIdeal.main (F := Ideal))) ⟨m', fun _ => 0, g'⟩ (fun r => ∀ c : Dev Cert.RefMemFwdIdeal.nD,
          r.2.mem ((c.tc : Thread Cert.RefMemFwdIdeal.nD Cert.RefMemFwdIdeal.τ).loc Cert.RefMemFwdIdeal.main_v24) = v0 c
          ∧ r.2.mem ((c.tc : Thread Cert.RefMemFwdIdeal.nD Cert.RefMemFwdIdeal.τ).loc Cert.RefMemFwdIdeal.main_arg0) = m' ((c.tc : Thread Cert.RefMemFwdIdeal.nD Cert.RefMemFwdIdeal.τ).loc Cert.RefMemFwdIdeal.main_arg0)
          ∧ r.2.mem ((c.tc : Thread Cert.RefMemFwdIdeal.nD Cert.RefMemFwdIdeal.τ).loc Cert.RefMemFwdIdeal.main_arg1) = m' ((c.tc : Thread Cert.RefMemFwdIdeal.nD Cert.RefMemFwdIdeal.τ).loc Cert.RefMemFwdIdeal.main_arg1))

def preserves_Rms_RmsIdeal : Prop :=
  True

def algebraic_RmsIdeal_RefRmsIdeal [hRmsIdeal : Cert.RmsIdeal.Facts] [hRefRmsIdeal : Cert.RefRmsIdeal.Facts] : Prop :=
  ∀ (m : (ℓ : Loc Cert.RmsIdeal.nD Cert.RmsIdeal.τ Cert.RmsIdeal.sig) → Buf (Elt Ideal) ℓ) (g : Dev Cert.RmsIdeal.nD → PrngReg)
    (m' : (ℓ : Loc Cert.RefRmsIdeal.nD Cert.RefRmsIdeal.τ Cert.RefRmsIdeal.sig) → Buf (Elt Ideal) ℓ) (g' : Dev Cert.RefRmsIdeal.nD → PrngReg), Pre_RmsIdeal m →
    (∀ c : Dev Cert.RmsIdeal.nD,
      m' ((c.tc : Thread Cert.RefRmsIdeal.nD Cert.RefRmsIdeal.τ).loc Cert.RefRmsIdeal.main_arg0) = m ((c.tc : Thread Cert.RmsIdeal.nD Cert.RmsIdeal.τ).loc Cert.RmsIdeal.main_arg0)
      ∧ m' ((c.tc : Thread Cert.RefRmsIdeal.nD Cert.RefRmsIdeal.τ).loc Cert.RefRmsIdeal.main_arg1) = m ((c.tc : Thread Cert.RmsIdeal.nD Cert.RmsIdeal.τ).loc Cert.RmsIdeal.main_arg1)
      ∧ m' ((c.tc : Thread Cert.RefRmsIdeal.nD Cert.RefRmsIdeal.τ).loc Cert.RefRmsIdeal.main_arg2) = m ((c.tc : Thread Cert.RmsIdeal.nD Cert.RmsIdeal.τ).loc Cert.RmsIdeal.main_arg2)
      ∧ m' ((c.tc : Thread Cert.RefRmsIdeal.nD Cert.RefRmsIdeal.τ).loc Cert.RefRmsIdeal.main_arg3) = m ((c.tc : Thread Cert.RmsIdeal.nD Cert.RmsIdeal.τ).loc Cert.RmsIdeal.main_arg3)) →
    ∃ (v0 : (c : Dev Cert.RmsIdeal.nD) → Buf (Elt Ideal) ((c.tc : Thread Cert.RmsIdeal.nD Cert.RmsIdeal.τ).loc Cert.RmsIdeal.main_v0)),
      θ_run (Cert.RmsIdeal.defs (F := Ideal)) (onTc (τ := Cert.RmsIdeal.τ) (Cert.RmsIdeal.main (F := Ideal))) ⟨m, fun _ => 0, g⟩ (fun r => ∀ c : Dev Cert.RmsIdeal.nD,
          r.2.mem ((c.tc : Thread Cert.RmsIdeal.nD Cert.RmsIdeal.τ).loc Cert.RmsIdeal.main_v0) = v0 c
          ∧ r.2.mem ((c.tc : Thread Cert.RmsIdeal.nD Cert.RmsIdeal.τ).loc Cert.RmsIdeal.main_arg0) = m ((c.tc : Thread Cert.RmsIdeal.nD Cert.RmsIdeal.τ).loc Cert.RmsIdeal.main_arg0)
          ∧ r.2.mem ((c.tc : Thread Cert.RmsIdeal.nD Cert.RmsIdeal.τ).loc Cert.RmsIdeal.main_arg1) = m ((c.tc : Thread Cert.RmsIdeal.nD Cert.RmsIdeal.τ).loc Cert.RmsIdeal.main_arg1)
          ∧ r.2.mem ((c.tc : Thread Cert.RmsIdeal.nD Cert.RmsIdeal.τ).loc Cert.RmsIdeal.main_arg2) = m ((c.tc : Thread Cert.RmsIdeal.nD Cert.RmsIdeal.τ).loc Cert.RmsIdeal.main_arg2)
          ∧ r.2.mem ((c.tc : Thread Cert.RmsIdeal.nD Cert.RmsIdeal.τ).loc Cert.RmsIdeal.main_arg3) = m ((c.tc : Thread Cert.RmsIdeal.nD Cert.RmsIdeal.τ).loc Cert.RmsIdeal.main_arg3))
      ∧ θ_run (Cert.RefRmsIdeal.defs (F := Ideal)) (onTc (τ := Cert.RefRmsIdeal.τ) (Cert.RefRmsIdeal.main (F := Ideal))) ⟨m', fun _ => 0, g'⟩ (fun r => ∀ c : Dev Cert.RefRmsIdeal.nD,
          r.2.mem ((c.tc : Thread Cert.RefRmsIdeal.nD Cert.RefRmsIdeal.τ).loc Cert.RefRmsIdeal.main_v25) = v0 c
          ∧ r.2.mem ((c.tc : Thread Cert.RefRmsIdeal.nD Cert.RefRmsIdeal.τ).loc Cert.RefRmsIdeal.main_arg0) = m' ((c.tc : Thread Cert.RefRmsIdeal.nD Cert.RefRmsIdeal.τ).loc Cert.RefRmsIdeal.main_arg0)
          ∧ r.2.mem ((c.tc : Thread Cert.RefRmsIdeal.nD Cert.RefRmsIdeal.τ).loc Cert.RefRmsIdeal.main_arg1) = m' ((c.tc : Thread Cert.RefRmsIdeal.nD Cert.RefRmsIdeal.τ).loc Cert.RefRmsIdeal.main_arg1)
          ∧ r.2.mem ((c.tc : Thread Cert.RefRmsIdeal.nD Cert.RefRmsIdeal.τ).loc Cert.RefRmsIdeal.main_arg2) = m' ((c.tc : Thread Cert.RefRmsIdeal.nD Cert.RefRmsIdeal.τ).loc Cert.RefRmsIdeal.main_arg2)
          ∧ r.2.mem ((c.tc : Thread Cert.RefRmsIdeal.nD Cert.RefRmsIdeal.τ).loc Cert.RefRmsIdeal.main_arg3) = m' ((c.tc : Thread Cert.RefRmsIdeal.nD Cert.RefRmsIdeal.τ).loc Cert.RefRmsIdeal.main_arg3))

def preserves_LnGrad_LnGradIdeal : Prop :=
  True

def algebraic_LnGradIdeal_RefLnGradIdeal_pre_products_finite [hLnGradIdeal : Cert.LnGradIdeal.Facts] [hRefLnGradIdeal : Cert.RefLnGradIdeal.Facts] [hPre_products_finite : Cert.Pre_products_finite.Facts] : Prop :=
  ∀ (m : (ℓ : Loc Cert.LnGradIdeal.nD Cert.LnGradIdeal.τ Cert.LnGradIdeal.sig) → Buf (Elt Ideal) ℓ) (g : Dev Cert.LnGradIdeal.nD → PrngReg)
    (m' : (ℓ : Loc Cert.RefLnGradIdeal.nD Cert.RefLnGradIdeal.τ Cert.RefLnGradIdeal.sig) → Buf (Elt Ideal) ℓ) (g' : Dev Cert.RefLnGradIdeal.nD → PrngReg), Pre_LnGradIdeal_products_finite m →
    (∀ c : Dev Cert.LnGradIdeal.nD,
      m' ((c.tc : Thread Cert.RefLnGradIdeal.nD Cert.RefLnGradIdeal.τ).loc Cert.RefLnGradIdeal.main_arg0) = m ((c.tc : Thread Cert.LnGradIdeal.nD Cert.LnGradIdeal.τ).loc Cert.LnGradIdeal.main_arg0)
      ∧ m' ((c.tc : Thread Cert.RefLnGradIdeal.nD Cert.RefLnGradIdeal.τ).loc Cert.RefLnGradIdeal.main_arg1) = m ((c.tc : Thread Cert.LnGradIdeal.nD Cert.LnGradIdeal.τ).loc Cert.LnGradIdeal.main_arg1)
      ∧ m' ((c.tc : Thread Cert.RefLnGradIdeal.nD Cert.RefLnGradIdeal.τ).loc Cert.RefLnGradIdeal.main_arg2) = m ((c.tc : Thread Cert.LnGradIdeal.nD Cert.LnGradIdeal.τ).loc Cert.LnGradIdeal.main_arg2)) →
    ∃ (v0 : (c : Dev Cert.LnGradIdeal.nD) → Buf (Elt Ideal) ((c.tc : Thread Cert.LnGradIdeal.nD Cert.LnGradIdeal.τ).loc Cert.LnGradIdeal.main_v0_0)) (v1 : (c : Dev Cert.LnGradIdeal.nD) → Buf (Elt Ideal) ((c.tc : Thread Cert.LnGradIdeal.nD Cert.LnGradIdeal.τ).loc Cert.LnGradIdeal.main_v0_1)) (v2 : (c : Dev Cert.LnGradIdeal.nD) → Buf (Elt Ideal) ((c.tc : Thread Cert.LnGradIdeal.nD Cert.LnGradIdeal.τ).loc Cert.LnGradIdeal.main_v0_2)) (v3 : (c : Dev Cert.LnGradIdeal.nD) → Buf (Elt Ideal) ((c.tc : Thread Cert.LnGradIdeal.nD Cert.LnGradIdeal.τ).loc Cert.LnGradIdeal.main_v0_3)),
      θ_run (Cert.LnGradIdeal.defs (F := Ideal)) (onTc (τ := Cert.LnGradIdeal.τ) (Cert.LnGradIdeal.main (F := Ideal))) ⟨m, fun _ => 0, g⟩ (fun r => ∀ c : Dev Cert.LnGradIdeal.nD,
          r.2.mem ((c.tc : Thread Cert.LnGradIdeal.nD Cert.LnGradIdeal.τ).loc Cert.LnGradIdeal.main_v0_0) = v0 c
          ∧ r.2.mem ((c.tc : Thread Cert.LnGradIdeal.nD Cert.LnGradIdeal.τ).loc Cert.LnGradIdeal.main_v0_1) = v1 c
          ∧ r.2.mem ((c.tc : Thread Cert.LnGradIdeal.nD Cert.LnGradIdeal.τ).loc Cert.LnGradIdeal.main_v0_2) = v2 c
          ∧ r.2.mem ((c.tc : Thread Cert.LnGradIdeal.nD Cert.LnGradIdeal.τ).loc Cert.LnGradIdeal.main_v0_3) = v3 c
          ∧ r.2.mem ((c.tc : Thread Cert.LnGradIdeal.nD Cert.LnGradIdeal.τ).loc Cert.LnGradIdeal.main_arg0) = m ((c.tc : Thread Cert.LnGradIdeal.nD Cert.LnGradIdeal.τ).loc Cert.LnGradIdeal.main_arg0)
          ∧ r.2.mem ((c.tc : Thread Cert.LnGradIdeal.nD Cert.LnGradIdeal.τ).loc Cert.LnGradIdeal.main_arg1) = m ((c.tc : Thread Cert.LnGradIdeal.nD Cert.LnGradIdeal.τ).loc Cert.LnGradIdeal.main_arg1)
          ∧ r.2.mem ((c.tc : Thread Cert.LnGradIdeal.nD Cert.LnGradIdeal.τ).loc Cert.LnGradIdeal.main_arg2) = m ((c.tc : Thread Cert.LnGradIdeal.nD Cert.LnGradIdeal.τ).loc Cert.LnGradIdeal.main_arg2))
      ∧ θ_run (Cert.RefLnGradIdeal.defs (F := Ideal)) (onTc (τ := Cert.RefLnGradIdeal.τ) (Cert.RefLnGradIdeal.main (F := Ideal))) ⟨m', fun _ => 0, g'⟩ (fun r => ∀ c : Dev Cert.RefLnGradIdeal.nD,
          r.2.mem ((c.tc : Thread Cert.RefLnGradIdeal.nD Cert.RefLnGradIdeal.τ).loc Cert.RefLnGradIdeal.main_v67) = v0 c
          ∧ r.2.mem ((c.tc : Thread Cert.RefLnGradIdeal.nD Cert.RefLnGradIdeal.τ).loc Cert.RefLnGradIdeal.main_v68) = v1 c
          ∧ r.2.mem ((c.tc : Thread Cert.RefLnGradIdeal.nD Cert.RefLnGradIdeal.τ).loc Cert.RefLnGradIdeal.main_v42) = v2 c
          ∧ r.2.mem ((c.tc : Thread Cert.RefLnGradIdeal.nD Cert.RefLnGradIdeal.τ).loc Cert.RefLnGradIdeal.main_v36) = v3 c
          ∧ r.2.mem ((c.tc : Thread Cert.RefLnGradIdeal.nD Cert.RefLnGradIdeal.τ).loc Cert.RefLnGradIdeal.main_arg0) = m' ((c.tc : Thread Cert.RefLnGradIdeal.nD Cert.RefLnGradIdeal.τ).loc Cert.RefLnGradIdeal.main_arg0)
          ∧ r.2.mem ((c.tc : Thread Cert.RefLnGradIdeal.nD Cert.RefLnGradIdeal.τ).loc Cert.RefLnGradIdeal.main_arg1) = m' ((c.tc : Thread Cert.RefLnGradIdeal.nD Cert.RefLnGradIdeal.τ).loc Cert.RefLnGradIdeal.main_arg1)
          ∧ r.2.mem ((c.tc : Thread Cert.RefLnGradIdeal.nD Cert.RefLnGradIdeal.τ).loc Cert.RefLnGradIdeal.main_arg2) = m' ((c.tc : Thread Cert.RefLnGradIdeal.nD Cert.RefLnGradIdeal.τ).loc Cert.RefLnGradIdeal.main_arg2))

def preserves_RmsGrad_RmsGradIdeal : Prop :=
  True

def algebraic_RmsGradIdeal_RefRmsGradIdeal [hRmsGradIdeal : Cert.RmsGradIdeal.Facts] [hRefRmsGradIdeal : Cert.RefRmsGradIdeal.Facts] : Prop :=
  ∀ (m : (ℓ : Loc Cert.RmsGradIdeal.nD Cert.RmsGradIdeal.τ Cert.RmsGradIdeal.sig) → Buf (Elt Ideal) ℓ) (g : Dev Cert.RmsGradIdeal.nD → PrngReg)
    (m' : (ℓ : Loc Cert.RefRmsGradIdeal.nD Cert.RefRmsGradIdeal.τ Cert.RefRmsGradIdeal.sig) → Buf (Elt Ideal) ℓ) (g' : Dev Cert.RefRmsGradIdeal.nD → PrngReg), Pre_RmsGradIdeal m →
    (∀ c : Dev Cert.RmsGradIdeal.nD,
      m' ((c.tc : Thread Cert.RefRmsGradIdeal.nD Cert.RefRmsGradIdeal.τ).loc Cert.RefRmsGradIdeal.main_arg0) = m ((c.tc : Thread Cert.RmsGradIdeal.nD Cert.RmsGradIdeal.τ).loc Cert.RmsGradIdeal.main_arg0)
      ∧ m' ((c.tc : Thread Cert.RefRmsGradIdeal.nD Cert.RefRmsGradIdeal.τ).loc Cert.RefRmsGradIdeal.main_arg1) = m ((c.tc : Thread Cert.RmsGradIdeal.nD Cert.RmsGradIdeal.τ).loc Cert.RmsGradIdeal.main_arg1)
      ∧ m' ((c.tc : Thread Cert.RefRmsGradIdeal.nD Cert.RefRmsGradIdeal.τ).loc Cert.RefRmsGradIdeal.main_arg2) = m ((c.tc : Thread Cert.RmsGradIdeal.nD Cert.RmsGradIdeal.τ).loc Cert.RmsGradIdeal.main_arg2)
      ∧ m' ((c.tc : Thread Cert.RefRmsGradIdeal.nD Cert.RefRmsGradIdeal.τ).loc Cert.RefRmsGradIdeal.main_arg3) = m ((c.tc : Thread Cert.RmsGradIdeal.nD Cert.RmsGradIdeal.τ).loc Cert.RmsGradIdeal.main_arg3)
      ∧ m' ((c.tc : Thread Cert.RefRmsGradIdeal.nD Cert.RefRmsGradIdeal.τ).loc Cert.RefRmsGradIdeal.main_arg4) = m ((c.tc : Thread Cert.RmsGradIdeal.nD Cert.RmsGradIdeal.τ).loc Cert.RmsGradIdeal.main_arg4)) →
    ∃ (v0 : (c : Dev Cert.RmsGradIdeal.nD) → Buf (Elt Ideal) ((c.tc : Thread Cert.RmsGradIdeal.nD Cert.RmsGradIdeal.τ).loc Cert.RmsGradIdeal.main_v0_0)) (v1 : (c : Dev Cert.RmsGradIdeal.nD) → Buf (Elt Ideal) ((c.tc : Thread Cert.RmsGradIdeal.nD Cert.RmsGradIdeal.τ).loc Cert.RmsGradIdeal.main_v0_1)) (v2 : (c : Dev Cert.RmsGradIdeal.nD) → Buf (Elt Ideal) ((c.tc : Thread Cert.RmsGradIdeal.nD Cert.RmsGradIdeal.τ).loc Cert.RmsGradIdeal.main_v0_2)) (v3 : (c : Dev Cert.RmsGradIdeal.nD) → Buf (Elt Ideal) ((c.tc : Thread Cert.RmsGradIdeal.nD Cert.RmsGradIdeal.τ).loc Cert.RmsGradIdeal.main_v0_3)),
      θ_run (Cert.RmsGradIdeal.defs (F := Ideal)) (onTc (τ := Cert.RmsGradIdeal.τ) (Cert.RmsGradIdeal.main (F := Ideal))) ⟨m, fun _ => 0, g⟩ (fun r => ∀ c : Dev Cert.RmsGradIdeal.nD,
          r.2.mem ((c.tc : Thread Cert.RmsGradIdeal.nD Cert.RmsGradIdeal.τ).loc Cert.RmsGradIdeal.main_v0_0) = v0 c
          ∧ r.2.mem ((c.tc : Thread Cert.RmsGradIdeal.nD Cert.RmsGradIdeal.τ).loc Cert.RmsGradIdeal.main_v0_1) = v1 c
          ∧ r.2.mem ((c.tc : Thread Cert.RmsGradIdeal.nD Cert.RmsGradIdeal.τ).loc Cert.RmsGradIdeal.main_v0_2) = v2 c
          ∧ r.2.mem ((c.tc : Thread Cert.RmsGradIdeal.nD Cert.RmsGradIdeal.τ).loc Cert.RmsGradIdeal.main_v0_3) = v3 c
          ∧ r.2.mem ((c.tc : Thread Cert.RmsGradIdeal.nD Cert.RmsGradIdeal.τ).loc Cert.RmsGradIdeal.main_arg0) = m ((c.tc : Thread Cert.RmsGradIdeal.nD Cert.RmsGradIdeal.τ).loc Cert.RmsGradIdeal.main_arg0)
          ∧ r.2.mem ((c.tc : Thread Cert.RmsGradIdeal.nD Cert.RmsGradIdeal.τ).loc Cert.RmsGradIdeal.main_arg1) = m ((c.tc : Thread Cert.RmsGradIdeal.nD Cert.RmsGradIdeal.τ).loc Cert.RmsGradIdeal.main_arg1)
          ∧ r.2.mem ((c.tc : Thread Cert.RmsGradIdeal.nD Cert.RmsGradIdeal.τ).loc Cert.RmsGradIdeal.main_arg2) = m ((c.tc : Thread Cert.RmsGradIdeal.nD Cert.RmsGradIdeal.τ).loc Cert.RmsGradIdeal.main_arg2)
          ∧ r.2.mem ((c.tc : Thread Cert.RmsGradIdeal.nD Cert.RmsGradIdeal.τ).loc Cert.RmsGradIdeal.main_arg3) = m ((c.tc : Thread Cert.RmsGradIdeal.nD Cert.RmsGradIdeal.τ).loc Cert.RmsGradIdeal.main_arg3)
          ∧ r.2.mem ((c.tc : Thread Cert.RmsGradIdeal.nD Cert.RmsGradIdeal.τ).loc Cert.RmsGradIdeal.main_arg4) = m ((c.tc : Thread Cert.RmsGradIdeal.nD Cert.RmsGradIdeal.τ).loc Cert.RmsGradIdeal.main_arg4))
      ∧ θ_run (Cert.RefRmsGradIdeal.defs (F := Ideal)) (onTc (τ := Cert.RefRmsGradIdeal.τ) (Cert.RefRmsGradIdeal.main (F := Ideal))) ⟨m', fun _ => 0, g'⟩ (fun r => ∀ c : Dev Cert.RefRmsGradIdeal.nD,
          r.2.mem ((c.tc : Thread Cert.RefRmsGradIdeal.nD Cert.RefRmsGradIdeal.τ).loc Cert.RefRmsGradIdeal.main_v82) = v0 c
          ∧ r.2.mem ((c.tc : Thread Cert.RefRmsGradIdeal.nD Cert.RefRmsGradIdeal.τ).loc Cert.RefRmsGradIdeal.main_v61) = v1 c
          ∧ r.2.mem ((c.tc : Thread Cert.RefRmsGradIdeal.nD Cert.RefRmsGradIdeal.τ).loc Cert.RefRmsGradIdeal.main_v67) = v2 c
          ∧ r.2.mem ((c.tc : Thread Cert.RefRmsGradIdeal.nD Cert.RefRmsGradIdeal.τ).loc Cert.RefRmsGradIdeal.main_v46) = v3 c
          ∧ r.2.mem ((c.tc : Thread Cert.RefRmsGradIdeal.nD Cert.RefRmsGradIdeal.τ).loc Cert.RefRmsGradIdeal.main_arg0) = m' ((c.tc : Thread Cert.RefRmsGradIdeal.nD Cert.RefRmsGradIdeal.τ).loc Cert.RefRmsGradIdeal.main_arg0)
          ∧ r.2.mem ((c.tc : Thread Cert.RefRmsGradIdeal.nD Cert.RefRmsGradIdeal.τ).loc Cert.RefRmsGradIdeal.main_arg1) = m' ((c.tc : Thread Cert.RefRmsGradIdeal.nD Cert.RefRmsGradIdeal.τ).loc Cert.RefRmsGradIdeal.main_arg1)
          ∧ r.2.mem ((c.tc : Thread Cert.RefRmsGradIdeal.nD Cert.RefRmsGradIdeal.τ).loc Cert.RefRmsGradIdeal.main_arg2) = m' ((c.tc : Thread Cert.RefRmsGradIdeal.nD Cert.RefRmsGradIdeal.τ).loc Cert.RefRmsGradIdeal.main_arg2)
          ∧ r.2.mem ((c.tc : Thread Cert.RefRmsGradIdeal.nD Cert.RefRmsGradIdeal.τ).loc Cert.RefRmsGradIdeal.main_arg3) = m' ((c.tc : Thread Cert.RefRmsGradIdeal.nD Cert.RefRmsGradIdeal.τ).loc Cert.RefRmsGradIdeal.main_arg3)
          ∧ r.2.mem ((c.tc : Thread Cert.RefRmsGradIdeal.nD Cert.RefRmsGradIdeal.τ).loc Cert.RefRmsGradIdeal.main_arg4) = m' ((c.tc : Thread Cert.RefRmsGradIdeal.nD Cert.RefRmsGradIdeal.τ).loc Cert.RefRmsGradIdeal.main_arg4))

def preserves_Loss_LossIdeal : Prop :=
  True

def algebraic_LossIdeal_RefLossIdeal [hLossIdeal : Cert.LossIdeal.Facts] [hRefLossIdeal : Cert.RefLossIdeal.Facts] : Prop :=
  ∀ (m : (ℓ : Loc Cert.LossIdeal.nD Cert.LossIdeal.τ Cert.LossIdeal.sig) → Buf (Elt Ideal) ℓ) (g : Dev Cert.LossIdeal.nD → PrngReg)
    (m' : (ℓ : Loc Cert.RefLossIdeal.nD Cert.RefLossIdeal.τ Cert.RefLossIdeal.sig) → Buf (Elt Ideal) ℓ) (g' : Dev Cert.RefLossIdeal.nD → PrngReg), Pre_LossIdeal m →
    (∀ c : Dev Cert.LossIdeal.nD,
      m' ((c.tc : Thread Cert.RefLossIdeal.nD Cert.RefLossIdeal.τ).loc Cert.RefLossIdeal.main_arg0) = m ((c.tc : Thread Cert.LossIdeal.nD Cert.LossIdeal.τ).loc Cert.LossIdeal.main_arg0)
      ∧ m' ((c.tc : Thread Cert.RefLossIdeal.nD Cert.RefLossIdeal.τ).loc Cert.RefLossIdeal.main_arg1) = m ((c.tc : Thread Cert.LossIdeal.nD Cert.LossIdeal.τ).loc Cert.LossIdeal.main_arg1)) →
    ∃ (v0 : (c : Dev Cert.LossIdeal.nD) → Buf (Elt Ideal) ((c.tc : Thread Cert.LossIdeal.nD Cert.LossIdeal.τ).loc Cert.LossIdeal.main_v0_0)) (v1 : (c : Dev Cert.LossIdeal.nD) → Buf (Elt Ideal) ((c.tc : Thread Cert.LossIdeal.nD Cert.LossIdeal.τ).loc Cert.LossIdeal.main_v0_1)),
      θ_run (Cert.LossIdeal.defs (F := Ideal)) (onTc (τ := Cert.LossIdeal.τ) (Cert.LossIdeal.main (F := Ideal))) ⟨m, fun _ => 0, g⟩ (fun r => ∀ c : Dev Cert.LossIdeal.nD,
          r.2.mem ((c.tc : Thread Cert.LossIdeal.nD Cert.LossIdeal.τ).loc Cert.LossIdeal.main_v0_0) = v0 c
          ∧ r.2.mem ((c.tc : Thread Cert.LossIdeal.nD Cert.LossIdeal.τ).loc Cert.LossIdeal.main_v0_1) = v1 c
          ∧ r.2.mem ((c.tc : Thread Cert.LossIdeal.nD Cert.LossIdeal.τ).loc Cert.LossIdeal.main_arg0) = m ((c.tc : Thread Cert.LossIdeal.nD Cert.LossIdeal.τ).loc Cert.LossIdeal.main_arg0)
          ∧ r.2.mem ((c.tc : Thread Cert.LossIdeal.nD Cert.LossIdeal.τ).loc Cert.LossIdeal.main_arg1) = m ((c.tc : Thread Cert.LossIdeal.nD Cert.LossIdeal.τ).loc Cert.LossIdeal.main_arg1))
      ∧ θ_run (Cert.RefLossIdeal.defs (F := Ideal)) (onTc (τ := Cert.RefLossIdeal.τ) (Cert.RefLossIdeal.main (F := Ideal))) ⟨m', fun _ => 0, g'⟩ (fun r => ∀ c : Dev Cert.RefLossIdeal.nD,
          r.2.mem ((c.tc : Thread Cert.RefLossIdeal.nD Cert.RefLossIdeal.τ).loc Cert.RefLossIdeal.main_v14) = v0 c
          ∧ r.2.mem ((c.tc : Thread Cert.RefLossIdeal.nD Cert.RefLossIdeal.τ).loc Cert.RefLossIdeal.main_v18) = v1 c
          ∧ r.2.mem ((c.tc : Thread Cert.RefLossIdeal.nD Cert.RefLossIdeal.τ).loc Cert.RefLossIdeal.main_arg0) = m' ((c.tc : Thread Cert.RefLossIdeal.nD Cert.RefLossIdeal.τ).loc Cert.RefLossIdeal.main_arg0)
          ∧ r.2.mem ((c.tc : Thread Cert.RefLossIdeal.nD Cert.RefLossIdeal.τ).loc Cert.RefLossIdeal.main_arg1) = m' ((c.tc : Thread Cert.RefLossIdeal.nD Cert.RefLossIdeal.τ).loc Cert.RefLossIdeal.main_arg1))

def preserves_AdamIn_AdamInIdeal : Prop :=
  IdealRules.named_const.Statement Cert.AdamInIdeal.κ "over_1" .f32 0x3FC48605#32 ((8388608 / 5463681 : ℝ) : EReal)
  ∧ IdealRules.named_const.Statement Cert.AdamInIdeal.κ "over_2" .f32 0x42C8E6D3#32 ((268435456 / 2672307 : ℝ) : EReal)

def algebraic_AdamInIdeal_RefAdamInIdeal [hAdamInIdeal : Cert.AdamInIdeal.Facts] [hRefAdamInIdeal : Cert.RefAdamInIdeal.Facts] : Prop :=
  ∀ (m : (ℓ : Loc Cert.AdamInIdeal.nD Cert.AdamInIdeal.τ Cert.AdamInIdeal.sig) → Buf (Elt Ideal) ℓ) (g : Dev Cert.AdamInIdeal.nD → PrngReg)
    (m' : (ℓ : Loc Cert.RefAdamInIdeal.nD Cert.RefAdamInIdeal.τ Cert.RefAdamInIdeal.sig) → Buf (Elt Ideal) ℓ) (g' : Dev Cert.RefAdamInIdeal.nD → PrngReg), Pre_AdamInIdeal m →
    (∀ c : Dev Cert.AdamInIdeal.nD,
      m' ((c.tc : Thread Cert.RefAdamInIdeal.nD Cert.RefAdamInIdeal.τ).loc Cert.RefAdamInIdeal.main_arg0) = m ((c.tc : Thread Cert.AdamInIdeal.nD Cert.AdamInIdeal.τ).loc Cert.AdamInIdeal.main_arg0)
      ∧ m' ((c.tc : Thread Cert.RefAdamInIdeal.nD Cert.RefAdamInIdeal.τ).loc Cert.RefAdamInIdeal.main_arg1) = m ((c.tc : Thread Cert.AdamInIdeal.nD Cert.AdamInIdeal.τ).loc Cert.AdamInIdeal.main_arg1)
      ∧ m' ((c.tc : Thread Cert.RefAdamInIdeal.nD Cert.RefAdamInIdeal.τ).loc Cert.RefAdamInIdeal.main_arg2) = m ((c.tc : Thread Cert.AdamInIdeal.nD Cert.AdamInIdeal.τ).loc Cert.AdamInIdeal.main_arg2)
      ∧ m' ((c.tc : Thread Cert.RefAdamInIdeal.nD Cert.RefAdamInIdeal.τ).loc Cert.RefAdamInIdeal.main_arg3) = m ((c.tc : Thread Cert.AdamInIdeal.nD Cert.AdamInIdeal.τ).loc Cert.AdamInIdeal.main_arg3)) →
    ∃ (v0 : (c : Dev Cert.AdamInIdeal.nD) → Buf (Elt Ideal) ((c.tc : Thread Cert.AdamInIdeal.nD Cert.AdamInIdeal.τ).loc Cert.AdamInIdeal.main_v0_0)) (v1 : (c : Dev Cert.AdamInIdeal.nD) → Buf (Elt Ideal) ((c.tc : Thread Cert.AdamInIdeal.nD Cert.AdamInIdeal.τ).loc Cert.AdamInIdeal.main_v0_1)) (v2 : (c : Dev Cert.AdamInIdeal.nD) → Buf (Elt Ideal) ((c.tc : Thread Cert.AdamInIdeal.nD Cert.AdamInIdeal.τ).loc Cert.AdamInIdeal.main_v0_2)) (v3 : (c : Dev Cert.AdamInIdeal.nD) → Buf (Elt Ideal) ((c.tc : Thread Cert.AdamInIdeal.nD Cert.AdamInIdeal.τ).loc Cert.AdamInIdeal.main_v0_3)),
      θ_run (Cert.AdamInIdeal.defs (F := Ideal)) (onTc (τ := Cert.AdamInIdeal.τ) (Cert.AdamInIdeal.main (F := Ideal))) ⟨m, fun _ => 0, g⟩ (fun r => ∀ c : Dev Cert.AdamInIdeal.nD,
          r.2.mem ((c.tc : Thread Cert.AdamInIdeal.nD Cert.AdamInIdeal.τ).loc Cert.AdamInIdeal.main_v0_0) = v0 c
          ∧ r.2.mem ((c.tc : Thread Cert.AdamInIdeal.nD Cert.AdamInIdeal.τ).loc Cert.AdamInIdeal.main_v0_1) = v1 c
          ∧ r.2.mem ((c.tc : Thread Cert.AdamInIdeal.nD Cert.AdamInIdeal.τ).loc Cert.AdamInIdeal.main_v0_2) = v2 c
          ∧ r.2.mem ((c.tc : Thread Cert.AdamInIdeal.nD Cert.AdamInIdeal.τ).loc Cert.AdamInIdeal.main_v0_3) = v3 c
          ∧ r.2.mem ((c.tc : Thread Cert.AdamInIdeal.nD Cert.AdamInIdeal.τ).loc Cert.AdamInIdeal.main_arg0) = m ((c.tc : Thread Cert.AdamInIdeal.nD Cert.AdamInIdeal.τ).loc Cert.AdamInIdeal.main_arg0)
          ∧ r.2.mem ((c.tc : Thread Cert.AdamInIdeal.nD Cert.AdamInIdeal.τ).loc Cert.AdamInIdeal.main_arg1) = m ((c.tc : Thread Cert.AdamInIdeal.nD Cert.AdamInIdeal.τ).loc Cert.AdamInIdeal.main_arg1)
          ∧ r.2.mem ((c.tc : Thread Cert.AdamInIdeal.nD Cert.AdamInIdeal.τ).loc Cert.AdamInIdeal.main_arg2) = m ((c.tc : Thread Cert.AdamInIdeal.nD Cert.AdamInIdeal.τ).loc Cert.AdamInIdeal.main_arg2)
          ∧ r.2.mem ((c.tc : Thread Cert.AdamInIdeal.nD Cert.AdamInIdeal.τ).loc Cert.AdamInIdeal.main_arg3) = m ((c.tc : Thread Cert.AdamInIdeal.nD Cert.AdamInIdeal.τ).loc Cert.AdamInIdeal.main_arg3))
      ∧ θ_run (Cert.RefAdamInIdeal.defs (F := Ideal)) (onTc (τ := Cert.RefAdamInIdeal.τ) (Cert.RefAdamInIdeal.main (F := Ideal))) ⟨m', fun _ => 0, g'⟩ (fun r => ∀ c : Dev Cert.RefAdamInIdeal.nD,
          r.2.mem ((c.tc : Thread Cert.RefAdamInIdeal.nD Cert.RefAdamInIdeal.τ).loc Cert.RefAdamInIdeal.main_v23) = v0 c
          ∧ r.2.mem ((c.tc : Thread Cert.RefAdamInIdeal.nD Cert.RefAdamInIdeal.τ).loc Cert.RefAdamInIdeal.main_v4) = v1 c
          ∧ r.2.mem ((c.tc : Thread Cert.RefAdamInIdeal.nD Cert.RefAdamInIdeal.τ).loc Cert.RefAdamInIdeal.main_v10) = v2 c
          ∧ r.2.mem ((c.tc : Thread Cert.RefAdamInIdeal.nD Cert.RefAdamInIdeal.τ).loc Cert.RefAdamInIdeal.main_arg1) = v3 c
          ∧ r.2.mem ((c.tc : Thread Cert.RefAdamInIdeal.nD Cert.RefAdamInIdeal.τ).loc Cert.RefAdamInIdeal.main_arg0) = m' ((c.tc : Thread Cert.RefAdamInIdeal.nD Cert.RefAdamInIdeal.τ).loc Cert.RefAdamInIdeal.main_arg0)
          ∧ r.2.mem ((c.tc : Thread Cert.RefAdamInIdeal.nD Cert.RefAdamInIdeal.τ).loc Cert.RefAdamInIdeal.main_arg1) = m' ((c.tc : Thread Cert.RefAdamInIdeal.nD Cert.RefAdamInIdeal.τ).loc Cert.RefAdamInIdeal.main_arg1)
          ∧ r.2.mem ((c.tc : Thread Cert.RefAdamInIdeal.nD Cert.RefAdamInIdeal.τ).loc Cert.RefAdamInIdeal.main_arg2) = m' ((c.tc : Thread Cert.RefAdamInIdeal.nD Cert.RefAdamInIdeal.τ).loc Cert.RefAdamInIdeal.main_arg2)
          ∧ r.2.mem ((c.tc : Thread Cert.RefAdamInIdeal.nD Cert.RefAdamInIdeal.τ).loc Cert.RefAdamInIdeal.main_arg3) = m' ((c.tc : Thread Cert.RefAdamInIdeal.nD Cert.RefAdamInIdeal.τ).loc Cert.RefAdamInIdeal.main_arg3))

def preserves_AdamSq_AdamSqIdeal : Prop :=
  IdealRules.named_const.Statement Cert.AdamSqIdeal.κ "over_1" .f32 0x3FC48605#32 ((8388608 / 5463681 : ℝ) : EReal)
  ∧ IdealRules.named_const.Statement Cert.AdamSqIdeal.κ "over_2" .f32 0x42C8E6D3#32 ((268435456 / 2672307 : ℝ) : EReal)

def algebraic_AdamSqIdeal_RefAdamSqIdeal [hAdamSqIdeal : Cert.AdamSqIdeal.Facts] [hRefAdamSqIdeal : Cert.RefAdamSqIdeal.Facts] : Prop :=
  ∀ (m : (ℓ : Loc Cert.AdamSqIdeal.nD Cert.AdamSqIdeal.τ Cert.AdamSqIdeal.sig) → Buf (Elt Ideal) ℓ) (g : Dev Cert.AdamSqIdeal.nD → PrngReg)
    (m' : (ℓ : Loc Cert.RefAdamSqIdeal.nD Cert.RefAdamSqIdeal.τ Cert.RefAdamSqIdeal.sig) → Buf (Elt Ideal) ℓ) (g' : Dev Cert.RefAdamSqIdeal.nD → PrngReg), Pre_AdamSqIdeal m →
    (∀ c : Dev Cert.AdamSqIdeal.nD,
      m' ((c.tc : Thread Cert.RefAdamSqIdeal.nD Cert.RefAdamSqIdeal.τ).loc Cert.RefAdamSqIdeal.main_arg0) = m ((c.tc : Thread Cert.AdamSqIdeal.nD Cert.AdamSqIdeal.τ).loc Cert.AdamSqIdeal.main_arg0)
      ∧ m' ((c.tc : Thread Cert.RefAdamSqIdeal.nD Cert.RefAdamSqIdeal.τ).loc Cert.RefAdamSqIdeal.main_arg1) = m ((c.tc : Thread Cert.AdamSqIdeal.nD Cert.AdamSqIdeal.τ).loc Cert.AdamSqIdeal.main_arg1)
      ∧ m' ((c.tc : Thread Cert.RefAdamSqIdeal.nD Cert.RefAdamSqIdeal.τ).loc Cert.RefAdamSqIdeal.main_arg2) = m ((c.tc : Thread Cert.AdamSqIdeal.nD Cert.AdamSqIdeal.τ).loc Cert.AdamSqIdeal.main_arg2)
      ∧ m' ((c.tc : Thread Cert.RefAdamSqIdeal.nD Cert.RefAdamSqIdeal.τ).loc Cert.RefAdamSqIdeal.main_arg3) = m ((c.tc : Thread Cert.AdamSqIdeal.nD Cert.AdamSqIdeal.τ).loc Cert.AdamSqIdeal.main_arg3)) →
    ∃ (v0 : (c : Dev Cert.AdamSqIdeal.nD) → Buf (Elt Ideal) ((c.tc : Thread Cert.AdamSqIdeal.nD Cert.AdamSqIdeal.τ).loc Cert.AdamSqIdeal.main_v0_0)) (v1 : (c : Dev Cert.AdamSqIdeal.nD) → Buf (Elt Ideal) ((c.tc : Thread Cert.AdamSqIdeal.nD Cert.AdamSqIdeal.τ).loc Cert.AdamSqIdeal.main_v0_1)) (v2 : (c : Dev Cert.AdamSqIdeal.nD) → Buf (Elt Ideal) ((c.tc : Thread Cert.AdamSqIdeal.nD Cert.AdamSqIdeal.τ).loc Cert.AdamSqIdeal.main_v0_2)) (v3 : (c : Dev Cert.AdamSqIdeal.nD) → Buf (Elt Ideal) ((c.tc : Thread Cert.AdamSqIdeal.nD Cert.AdamSqIdeal.τ).loc Cert.AdamSqIdeal.main_v0_3)),
      θ_run (Cert.AdamSqIdeal.defs (F := Ideal)) (onTc (τ := Cert.AdamSqIdeal.τ) (Cert.AdamSqIdeal.main (F := Ideal))) ⟨m, fun _ => 0, g⟩ (fun r => ∀ c : Dev Cert.AdamSqIdeal.nD,
          r.2.mem ((c.tc : Thread Cert.AdamSqIdeal.nD Cert.AdamSqIdeal.τ).loc Cert.AdamSqIdeal.main_v0_0) = v0 c
          ∧ r.2.mem ((c.tc : Thread Cert.AdamSqIdeal.nD Cert.AdamSqIdeal.τ).loc Cert.AdamSqIdeal.main_v0_1) = v1 c
          ∧ r.2.mem ((c.tc : Thread Cert.AdamSqIdeal.nD Cert.AdamSqIdeal.τ).loc Cert.AdamSqIdeal.main_v0_2) = v2 c
          ∧ r.2.mem ((c.tc : Thread Cert.AdamSqIdeal.nD Cert.AdamSqIdeal.τ).loc Cert.AdamSqIdeal.main_v0_3) = v3 c
          ∧ r.2.mem ((c.tc : Thread Cert.AdamSqIdeal.nD Cert.AdamSqIdeal.τ).loc Cert.AdamSqIdeal.main_arg0) = m ((c.tc : Thread Cert.AdamSqIdeal.nD Cert.AdamSqIdeal.τ).loc Cert.AdamSqIdeal.main_arg0)
          ∧ r.2.mem ((c.tc : Thread Cert.AdamSqIdeal.nD Cert.AdamSqIdeal.τ).loc Cert.AdamSqIdeal.main_arg1) = m ((c.tc : Thread Cert.AdamSqIdeal.nD Cert.AdamSqIdeal.τ).loc Cert.AdamSqIdeal.main_arg1)
          ∧ r.2.mem ((c.tc : Thread Cert.AdamSqIdeal.nD Cert.AdamSqIdeal.τ).loc Cert.AdamSqIdeal.main_arg2) = m ((c.tc : Thread Cert.AdamSqIdeal.nD Cert.AdamSqIdeal.τ).loc Cert.AdamSqIdeal.main_arg2)
          ∧ r.2.mem ((c.tc : Thread Cert.AdamSqIdeal.nD Cert.AdamSqIdeal.τ).loc Cert.AdamSqIdeal.main_arg3) = m ((c.tc : Thread Cert.AdamSqIdeal.nD Cert.AdamSqIdeal.τ).loc Cert.AdamSqIdeal.main_arg3))
      ∧ θ_run (Cert.RefAdamSqIdeal.defs (F := Ideal)) (onTc (τ := Cert.RefAdamSqIdeal.τ) (Cert.RefAdamSqIdeal.main (F := Ideal))) ⟨m', fun _ => 0, g'⟩ (fun r => ∀ c : Dev Cert.RefAdamSqIdeal.nD,
          r.2.mem ((c.tc : Thread Cert.RefAdamSqIdeal.nD Cert.RefAdamSqIdeal.τ).loc Cert.RefAdamSqIdeal.main_v23) = v0 c
          ∧ r.2.mem ((c.tc : Thread Cert.RefAdamSqIdeal.nD Cert.RefAdamSqIdeal.τ).loc Cert.RefAdamSqIdeal.main_v4) = v1 c
          ∧ r.2.mem ((c.tc : Thread Cert.RefAdamSqIdeal.nD Cert.RefAdamSqIdeal.τ).loc Cert.RefAdamSqIdeal.main_v10) = v2 c
          ∧ r.2.mem ((c.tc : Thread Cert.RefAdamSqIdeal.nD Cert.RefAdamSqIdeal.τ).loc Cert.RefAdamSqIdeal.main_arg1) = v3 c
          ∧ r.2.mem ((c.tc : Thread Cert.RefAdamSqIdeal.nD Cert.RefAdamSqIdeal.τ).loc Cert.RefAdamSqIdeal.main_arg0) = m' ((c.tc : Thread Cert.RefAdamSqIdeal.nD Cert.RefAdamSqIdeal.τ).loc Cert.RefAdamSqIdeal.main_arg0)
          ∧ r.2.mem ((c.tc : Thread Cert.RefAdamSqIdeal.nD Cert.RefAdamSqIdeal.τ).loc Cert.RefAdamSqIdeal.main_arg1) = m' ((c.tc : Thread Cert.RefAdamSqIdeal.nD Cert.RefAdamSqIdeal.τ).loc Cert.RefAdamSqIdeal.main_arg1)
          ∧ r.2.mem ((c.tc : Thread Cert.RefAdamSqIdeal.nD Cert.RefAdamSqIdeal.τ).loc Cert.RefAdamSqIdeal.main_arg2) = m' ((c.tc : Thread Cert.RefAdamSqIdeal.nD Cert.RefAdamSqIdeal.τ).loc Cert.RefAdamSqIdeal.main_arg2)
          ∧ r.2.mem ((c.tc : Thread Cert.RefAdamSqIdeal.nD Cert.RefAdamSqIdeal.τ).loc Cert.RefAdamSqIdeal.main_arg3) = m' ((c.tc : Thread Cert.RefAdamSqIdeal.nD Cert.RefAdamSqIdeal.τ).loc Cert.RefAdamSqIdeal.main_arg3))

def preserves_AdamMkv_AdamMkvIdeal : Prop :=
  IdealRules.named_const.Statement Cert.AdamMkvIdeal.κ "over_1" .f32 0x3FC48605#32 ((8388608 / 5463681 : ℝ) : EReal)
  ∧ IdealRules.named_const.Statement Cert.AdamMkvIdeal.κ "over_2" .f32 0x42C8E6D3#32 ((268435456 / 2672307 : ℝ) : EReal)

def algebraic_AdamMkvIdeal_RefAdamMkvIdeal [hAdamMkvIdeal : Cert.AdamMkvIdeal.Facts] [hRefAdamMkvIdeal : Cert.RefAdamMkvIdeal.Facts] : Prop :=
  ∀ (m : (ℓ : Loc Cert.AdamMkvIdeal.nD Cert.AdamMkvIdeal.τ Cert.AdamMkvIdeal.sig) → Buf (Elt Ideal) ℓ) (g : Dev Cert.AdamMkvIdeal.nD → PrngReg)
    (m' : (ℓ : Loc Cert.RefAdamMkvIdeal.nD Cert.RefAdamMkvIdeal.τ Cert.RefAdamMkvIdeal.sig) → Buf (Elt Ideal) ℓ) (g' : Dev Cert.RefAdamMkvIdeal.nD → PrngReg), Pre_AdamMkvIdeal m →
    (∀ c : Dev Cert.AdamMkvIdeal.nD,
      m' ((c.tc : Thread Cert.RefAdamMkvIdeal.nD Cert.RefAdamMkvIdeal.τ).loc Cert.RefAdamMkvIdeal.main_arg0) = m ((c.tc : Thread Cert.AdamMkvIdeal.nD Cert.AdamMkvIdeal.τ).loc Cert.AdamMkvIdeal.main_arg0)
      ∧ m' ((c.tc : Thread Cert.RefAdamMkvIdeal.nD Cert.RefAdamMkvIdeal.τ).loc Cert.RefAdamMkvIdeal.main_arg1) = m ((c.tc : Thread Cert.AdamMkvIdeal.nD Cert.AdamMkvIdeal.τ).loc Cert.AdamMkvIdeal.main_arg1)
      ∧ m' ((c.tc : Thread Cert.RefAdamMkvIdeal.nD Cert.RefAdamMkvIdeal.τ).loc Cert.RefAdamMkvIdeal.main_arg2) = m ((c.tc : Thread Cert.AdamMkvIdeal.nD Cert.AdamMkvIdeal.τ).loc Cert.AdamMkvIdeal.main_arg2)
      ∧ m' ((c.tc : Thread Cert.RefAdamMkvIdeal.nD Cert.RefAdamMkvIdeal.τ).loc Cert.RefAdamMkvIdeal.main_arg3) = m ((c.tc : Thread Cert.AdamMkvIdeal.nD Cert.AdamMkvIdeal.τ).loc Cert.AdamMkvIdeal.main_arg3)) →
    ∃ (v0 : (c : Dev Cert.AdamMkvIdeal.nD) → Buf (Elt Ideal) ((c.tc : Thread Cert.AdamMkvIdeal.nD Cert.AdamMkvIdeal.τ).loc Cert.AdamMkvIdeal.main_v0_0)) (v1 : (c : Dev Cert.AdamMkvIdeal.nD) → Buf (Elt Ideal) ((c.tc : Thread Cert.AdamMkvIdeal.nD Cert.AdamMkvIdeal.τ).loc Cert.AdamMkvIdeal.main_v0_1)) (v2 : (c : Dev Cert.AdamMkvIdeal.nD) → Buf (Elt Ideal) ((c.tc : Thread Cert.AdamMkvIdeal.nD Cert.AdamMkvIdeal.τ).loc Cert.AdamMkvIdeal.main_v0_2)) (v3 : (c : Dev Cert.AdamMkvIdeal.nD) → Buf (Elt Ideal) ((c.tc : Thread Cert.AdamMkvIdeal.nD Cert.AdamMkvIdeal.τ).loc Cert.AdamMkvIdeal.main_v0_3)),
      θ_run (Cert.AdamMkvIdeal.defs (F := Ideal)) (onTc (τ := Cert.AdamMkvIdeal.τ) (Cert.AdamMkvIdeal.main (F := Ideal))) ⟨m, fun _ => 0, g⟩ (fun r => ∀ c : Dev Cert.AdamMkvIdeal.nD,
          r.2.mem ((c.tc : Thread Cert.AdamMkvIdeal.nD Cert.AdamMkvIdeal.τ).loc Cert.AdamMkvIdeal.main_v0_0) = v0 c
          ∧ r.2.mem ((c.tc : Thread Cert.AdamMkvIdeal.nD Cert.AdamMkvIdeal.τ).loc Cert.AdamMkvIdeal.main_v0_1) = v1 c
          ∧ r.2.mem ((c.tc : Thread Cert.AdamMkvIdeal.nD Cert.AdamMkvIdeal.τ).loc Cert.AdamMkvIdeal.main_v0_2) = v2 c
          ∧ r.2.mem ((c.tc : Thread Cert.AdamMkvIdeal.nD Cert.AdamMkvIdeal.τ).loc Cert.AdamMkvIdeal.main_v0_3) = v3 c
          ∧ r.2.mem ((c.tc : Thread Cert.AdamMkvIdeal.nD Cert.AdamMkvIdeal.τ).loc Cert.AdamMkvIdeal.main_arg0) = m ((c.tc : Thread Cert.AdamMkvIdeal.nD Cert.AdamMkvIdeal.τ).loc Cert.AdamMkvIdeal.main_arg0)
          ∧ r.2.mem ((c.tc : Thread Cert.AdamMkvIdeal.nD Cert.AdamMkvIdeal.τ).loc Cert.AdamMkvIdeal.main_arg1) = m ((c.tc : Thread Cert.AdamMkvIdeal.nD Cert.AdamMkvIdeal.τ).loc Cert.AdamMkvIdeal.main_arg1)
          ∧ r.2.mem ((c.tc : Thread Cert.AdamMkvIdeal.nD Cert.AdamMkvIdeal.τ).loc Cert.AdamMkvIdeal.main_arg2) = m ((c.tc : Thread Cert.AdamMkvIdeal.nD Cert.AdamMkvIdeal.τ).loc Cert.AdamMkvIdeal.main_arg2)
          ∧ r.2.mem ((c.tc : Thread Cert.AdamMkvIdeal.nD Cert.AdamMkvIdeal.τ).loc Cert.AdamMkvIdeal.main_arg3) = m ((c.tc : Thread Cert.AdamMkvIdeal.nD Cert.AdamMkvIdeal.τ).loc Cert.AdamMkvIdeal.main_arg3))
      ∧ θ_run (Cert.RefAdamMkvIdeal.defs (F := Ideal)) (onTc (τ := Cert.RefAdamMkvIdeal.τ) (Cert.RefAdamMkvIdeal.main (F := Ideal))) ⟨m', fun _ => 0, g'⟩ (fun r => ∀ c : Dev Cert.RefAdamMkvIdeal.nD,
          r.2.mem ((c.tc : Thread Cert.RefAdamMkvIdeal.nD Cert.RefAdamMkvIdeal.τ).loc Cert.RefAdamMkvIdeal.main_v23) = v0 c
          ∧ r.2.mem ((c.tc : Thread Cert.RefAdamMkvIdeal.nD Cert.RefAdamMkvIdeal.τ).loc Cert.RefAdamMkvIdeal.main_v4) = v1 c
          ∧ r.2.mem ((c.tc : Thread Cert.RefAdamMkvIdeal.nD Cert.RefAdamMkvIdeal.τ).loc Cert.RefAdamMkvIdeal.main_v10) = v2 c
          ∧ r.2.mem ((c.tc : Thread Cert.RefAdamMkvIdeal.nD Cert.RefAdamMkvIdeal.τ).loc Cert.RefAdamMkvIdeal.main_arg1) = v3 c
          ∧ r.2.mem ((c.tc : Thread Cert.RefAdamMkvIdeal.nD Cert.RefAdamMkvIdeal.τ).loc Cert.RefAdamMkvIdeal.main_arg0) = m' ((c.tc : Thread Cert.RefAdamMkvIdeal.nD Cert.RefAdamMkvIdeal.τ).loc Cert.RefAdamMkvIdeal.main_arg0)
          ∧ r.2.mem ((c.tc : Thread Cert.RefAdamMkvIdeal.nD Cert.RefAdamMkvIdeal.τ).loc Cert.RefAdamMkvIdeal.main_arg1) = m' ((c.tc : Thread Cert.RefAdamMkvIdeal.nD Cert.RefAdamMkvIdeal.τ).loc Cert.RefAdamMkvIdeal.main_arg1)
          ∧ r.2.mem ((c.tc : Thread Cert.RefAdamMkvIdeal.nD Cert.RefAdamMkvIdeal.τ).loc Cert.RefAdamMkvIdeal.main_arg2) = m' ((c.tc : Thread Cert.RefAdamMkvIdeal.nD Cert.RefAdamMkvIdeal.τ).loc Cert.RefAdamMkvIdeal.main_arg2)
          ∧ r.2.mem ((c.tc : Thread Cert.RefAdamMkvIdeal.nD Cert.RefAdamMkvIdeal.τ).loc Cert.RefAdamMkvIdeal.main_arg3) = m' ((c.tc : Thread Cert.RefAdamMkvIdeal.nD Cert.RefAdamMkvIdeal.τ).loc Cert.RefAdamMkvIdeal.main_arg3))

def preserves_AdamUp_AdamUpIdeal : Prop :=
  IdealRules.named_const.Statement Cert.AdamUpIdeal.κ "over_1" .f32 0x3FC48605#32 ((8388608 / 5463681 : ℝ) : EReal)
  ∧ IdealRules.named_const.Statement Cert.AdamUpIdeal.κ "over_2" .f32 0x42C8E6D3#32 ((268435456 / 2672307 : ℝ) : EReal)

def algebraic_AdamUpIdeal_RefAdamUpIdeal [hAdamUpIdeal : Cert.AdamUpIdeal.Facts] [hRefAdamUpIdeal : Cert.RefAdamUpIdeal.Facts] : Prop :=
  ∀ (m : (ℓ : Loc Cert.AdamUpIdeal.nD Cert.AdamUpIdeal.τ Cert.AdamUpIdeal.sig) → Buf (Elt Ideal) ℓ) (g : Dev Cert.AdamUpIdeal.nD → PrngReg)
    (m' : (ℓ : Loc Cert.RefAdamUpIdeal.nD Cert.RefAdamUpIdeal.τ Cert.RefAdamUpIdeal.sig) → Buf (Elt Ideal) ℓ) (g' : Dev Cert.RefAdamUpIdeal.nD → PrngReg), Pre_AdamUpIdeal m →
    (∀ c : Dev Cert.AdamUpIdeal.nD,
      m' ((c.tc : Thread Cert.RefAdamUpIdeal.nD Cert.RefAdamUpIdeal.τ).loc Cert.RefAdamUpIdeal.main_arg0) = m ((c.tc : Thread Cert.AdamUpIdeal.nD Cert.AdamUpIdeal.τ).loc Cert.AdamUpIdeal.main_arg0)
      ∧ m' ((c.tc : Thread Cert.RefAdamUpIdeal.nD Cert.RefAdamUpIdeal.τ).loc Cert.RefAdamUpIdeal.main_arg1) = m ((c.tc : Thread Cert.AdamUpIdeal.nD Cert.AdamUpIdeal.τ).loc Cert.AdamUpIdeal.main_arg1)
      ∧ m' ((c.tc : Thread Cert.RefAdamUpIdeal.nD Cert.RefAdamUpIdeal.τ).loc Cert.RefAdamUpIdeal.main_arg2) = m ((c.tc : Thread Cert.AdamUpIdeal.nD Cert.AdamUpIdeal.τ).loc Cert.AdamUpIdeal.main_arg2)
      ∧ m' ((c.tc : Thread Cert.RefAdamUpIdeal.nD Cert.RefAdamUpIdeal.τ).loc Cert.RefAdamUpIdeal.main_arg3) = m ((c.tc : Thread Cert.AdamUpIdeal.nD Cert.AdamUpIdeal.τ).loc Cert.AdamUpIdeal.main_arg3)) →
    ∃ (v0 : (c : Dev Cert.AdamUpIdeal.nD) → Buf (Elt Ideal) ((c.tc : Thread Cert.AdamUpIdeal.nD Cert.AdamUpIdeal.τ).loc Cert.AdamUpIdeal.main_v0_0)) (v1 : (c : Dev Cert.AdamUpIdeal.nD) → Buf (Elt Ideal) ((c.tc : Thread Cert.AdamUpIdeal.nD Cert.AdamUpIdeal.τ).loc Cert.AdamUpIdeal.main_v0_1)) (v2 : (c : Dev Cert.AdamUpIdeal.nD) → Buf (Elt Ideal) ((c.tc : Thread Cert.AdamUpIdeal.nD Cert.AdamUpIdeal.τ).loc Cert.AdamUpIdeal.main_v0_2)) (v3 : (c : Dev Cert.AdamUpIdeal.nD) → Buf (Elt Ideal) ((c.tc : Thread Cert.AdamUpIdeal.nD Cert.AdamUpIdeal.τ).loc Cert.AdamUpIdeal.main_v0_3)),
      θ_run (Cert.AdamUpIdeal.defs (F := Ideal)) (onTc (τ := Cert.AdamUpIdeal.τ) (Cert.AdamUpIdeal.main (F := Ideal))) ⟨m, fun _ => 0, g⟩ (fun r => ∀ c : Dev Cert.AdamUpIdeal.nD,
          r.2.mem ((c.tc : Thread Cert.AdamUpIdeal.nD Cert.AdamUpIdeal.τ).loc Cert.AdamUpIdeal.main_v0_0) = v0 c
          ∧ r.2.mem ((c.tc : Thread Cert.AdamUpIdeal.nD Cert.AdamUpIdeal.τ).loc Cert.AdamUpIdeal.main_v0_1) = v1 c
          ∧ r.2.mem ((c.tc : Thread Cert.AdamUpIdeal.nD Cert.AdamUpIdeal.τ).loc Cert.AdamUpIdeal.main_v0_2) = v2 c
          ∧ r.2.mem ((c.tc : Thread Cert.AdamUpIdeal.nD Cert.AdamUpIdeal.τ).loc Cert.AdamUpIdeal.main_v0_3) = v3 c
          ∧ r.2.mem ((c.tc : Thread Cert.AdamUpIdeal.nD Cert.AdamUpIdeal.τ).loc Cert.AdamUpIdeal.main_arg0) = m ((c.tc : Thread Cert.AdamUpIdeal.nD Cert.AdamUpIdeal.τ).loc Cert.AdamUpIdeal.main_arg0)
          ∧ r.2.mem ((c.tc : Thread Cert.AdamUpIdeal.nD Cert.AdamUpIdeal.τ).loc Cert.AdamUpIdeal.main_arg1) = m ((c.tc : Thread Cert.AdamUpIdeal.nD Cert.AdamUpIdeal.τ).loc Cert.AdamUpIdeal.main_arg1)
          ∧ r.2.mem ((c.tc : Thread Cert.AdamUpIdeal.nD Cert.AdamUpIdeal.τ).loc Cert.AdamUpIdeal.main_arg2) = m ((c.tc : Thread Cert.AdamUpIdeal.nD Cert.AdamUpIdeal.τ).loc Cert.AdamUpIdeal.main_arg2)
          ∧ r.2.mem ((c.tc : Thread Cert.AdamUpIdeal.nD Cert.AdamUpIdeal.τ).loc Cert.AdamUpIdeal.main_arg3) = m ((c.tc : Thread Cert.AdamUpIdeal.nD Cert.AdamUpIdeal.τ).loc Cert.AdamUpIdeal.main_arg3))
      ∧ θ_run (Cert.RefAdamUpIdeal.defs (F := Ideal)) (onTc (τ := Cert.RefAdamUpIdeal.τ) (Cert.RefAdamUpIdeal.main (F := Ideal))) ⟨m', fun _ => 0, g'⟩ (fun r => ∀ c : Dev Cert.RefAdamUpIdeal.nD,
          r.2.mem ((c.tc : Thread Cert.RefAdamUpIdeal.nD Cert.RefAdamUpIdeal.τ).loc Cert.RefAdamUpIdeal.main_v23) = v0 c
          ∧ r.2.mem ((c.tc : Thread Cert.RefAdamUpIdeal.nD Cert.RefAdamUpIdeal.τ).loc Cert.RefAdamUpIdeal.main_v4) = v1 c
          ∧ r.2.mem ((c.tc : Thread Cert.RefAdamUpIdeal.nD Cert.RefAdamUpIdeal.τ).loc Cert.RefAdamUpIdeal.main_v10) = v2 c
          ∧ r.2.mem ((c.tc : Thread Cert.RefAdamUpIdeal.nD Cert.RefAdamUpIdeal.τ).loc Cert.RefAdamUpIdeal.main_arg1) = v3 c
          ∧ r.2.mem ((c.tc : Thread Cert.RefAdamUpIdeal.nD Cert.RefAdamUpIdeal.τ).loc Cert.RefAdamUpIdeal.main_arg0) = m' ((c.tc : Thread Cert.RefAdamUpIdeal.nD Cert.RefAdamUpIdeal.τ).loc Cert.RefAdamUpIdeal.main_arg0)
          ∧ r.2.mem ((c.tc : Thread Cert.RefAdamUpIdeal.nD Cert.RefAdamUpIdeal.τ).loc Cert.RefAdamUpIdeal.main_arg1) = m' ((c.tc : Thread Cert.RefAdamUpIdeal.nD Cert.RefAdamUpIdeal.τ).loc Cert.RefAdamUpIdeal.main_arg1)
          ∧ r.2.mem ((c.tc : Thread Cert.RefAdamUpIdeal.nD Cert.RefAdamUpIdeal.τ).loc Cert.RefAdamUpIdeal.main_arg2) = m' ((c.tc : Thread Cert.RefAdamUpIdeal.nD Cert.RefAdamUpIdeal.τ).loc Cert.RefAdamUpIdeal.main_arg2)
          ∧ r.2.mem ((c.tc : Thread Cert.RefAdamUpIdeal.nD Cert.RefAdamUpIdeal.τ).loc Cert.RefAdamUpIdeal.main_arg3) = m' ((c.tc : Thread Cert.RefAdamUpIdeal.nD Cert.RefAdamUpIdeal.τ).loc Cert.RefAdamUpIdeal.main_arg3))

def preserves_AdamSmall_AdamSmallIdeal : Prop :=
  IdealRules.named_const.Statement Cert.AdamSmallIdeal.κ "over_1" .f32 0x3FC48605#32 ((8388608 / 5463681 : ℝ) : EReal)
  ∧ IdealRules.named_const.Statement Cert.AdamSmallIdeal.κ "over_2" .f32 0x42C8E6D3#32 ((268435456 / 2672307 : ℝ) : EReal)

def algebraic_AdamSmallIdeal_RefAdamSmallIdeal [hAdamSmallIdeal : Cert.AdamSmallIdeal.Facts] [hRefAdamSmallIdeal : Cert.RefAdamSmallIdeal.Facts] : Prop :=
  ∀ (m : (ℓ : Loc Cert.AdamSmallIdeal.nD Cert.AdamSmallIdeal.τ Cert.AdamSmallIdeal.sig) → Buf (Elt Ideal) ℓ) (g : Dev Cert.AdamSmallIdeal.nD → PrngReg)
    (m' : (ℓ : Loc Cert.RefAdamSmallIdeal.nD Cert.RefAdamSmallIdeal.τ Cert.RefAdamSmallIdeal.sig) → Buf (Elt Ideal) ℓ) (g' : Dev Cert.RefAdamSmallIdeal.nD → PrngReg), Pre_AdamSmallIdeal m →
    (∀ c : Dev Cert.AdamSmallIdeal.nD,
      m' ((c.tc : Thread Cert.RefAdamSmallIdeal.nD Cert.RefAdamSmallIdeal.τ).loc Cert.RefAdamSmallIdeal.main_arg0) = m ((c.tc : Thread Cert.AdamSmallIdeal.nD Cert.AdamSmallIdeal.τ).loc Cert.AdamSmallIdeal.main_arg0)
      ∧ m' ((c.tc : Thread Cert.RefAdamSmallIdeal.nD Cert.RefAdamSmallIdeal.τ).loc Cert.RefAdamSmallIdeal.main_arg1) = m ((c.tc : Thread Cert.AdamSmallIdeal.nD Cert.AdamSmallIdeal.τ).loc Cert.AdamSmallIdeal.main_arg1)
      ∧ m' ((c.tc : Thread Cert.RefAdamSmallIdeal.nD Cert.RefAdamSmallIdeal.τ).loc Cert.RefAdamSmallIdeal.main_arg2) = m ((c.tc : Thread Cert.AdamSmallIdeal.nD Cert.AdamSmallIdeal.τ).loc Cert.AdamSmallIdeal.main_arg2)
      ∧ m' ((c.tc : Thread Cert.RefAdamSmallIdeal.nD Cert.RefAdamSmallIdeal.τ).loc Cert.RefAdamSmallIdeal.main_arg3) = m ((c.tc : Thread Cert.AdamSmallIdeal.nD Cert.AdamSmallIdeal.τ).loc Cert.AdamSmallIdeal.main_arg3)) →
    ∃ (v0 : (c : Dev Cert.AdamSmallIdeal.nD) → Buf (Elt Ideal) ((c.tc : Thread Cert.AdamSmallIdeal.nD Cert.AdamSmallIdeal.τ).loc Cert.AdamSmallIdeal.main_v0_0)) (v1 : (c : Dev Cert.AdamSmallIdeal.nD) → Buf (Elt Ideal) ((c.tc : Thread Cert.AdamSmallIdeal.nD Cert.AdamSmallIdeal.τ).loc Cert.AdamSmallIdeal.main_v0_1)) (v2 : (c : Dev Cert.AdamSmallIdeal.nD) → Buf (Elt Ideal) ((c.tc : Thread Cert.AdamSmallIdeal.nD Cert.AdamSmallIdeal.τ).loc Cert.AdamSmallIdeal.main_v0_2)),
      θ_run (Cert.AdamSmallIdeal.defs (F := Ideal)) (onTc (τ := Cert.AdamSmallIdeal.τ) (Cert.AdamSmallIdeal.main (F := Ideal))) ⟨m, fun _ => 0, g⟩ (fun r => ∀ c : Dev Cert.AdamSmallIdeal.nD,
          r.2.mem ((c.tc : Thread Cert.AdamSmallIdeal.nD Cert.AdamSmallIdeal.τ).loc Cert.AdamSmallIdeal.main_v0_0) = v0 c
          ∧ r.2.mem ((c.tc : Thread Cert.AdamSmallIdeal.nD Cert.AdamSmallIdeal.τ).loc Cert.AdamSmallIdeal.main_v0_1) = v1 c
          ∧ r.2.mem ((c.tc : Thread Cert.AdamSmallIdeal.nD Cert.AdamSmallIdeal.τ).loc Cert.AdamSmallIdeal.main_v0_2) = v2 c
          ∧ r.2.mem ((c.tc : Thread Cert.AdamSmallIdeal.nD Cert.AdamSmallIdeal.τ).loc Cert.AdamSmallIdeal.main_arg0) = m ((c.tc : Thread Cert.AdamSmallIdeal.nD Cert.AdamSmallIdeal.τ).loc Cert.AdamSmallIdeal.main_arg0)
          ∧ r.2.mem ((c.tc : Thread Cert.AdamSmallIdeal.nD Cert.AdamSmallIdeal.τ).loc Cert.AdamSmallIdeal.main_arg1) = m ((c.tc : Thread Cert.AdamSmallIdeal.nD Cert.AdamSmallIdeal.τ).loc Cert.AdamSmallIdeal.main_arg1)
          ∧ r.2.mem ((c.tc : Thread Cert.AdamSmallIdeal.nD Cert.AdamSmallIdeal.τ).loc Cert.AdamSmallIdeal.main_arg2) = m ((c.tc : Thread Cert.AdamSmallIdeal.nD Cert.AdamSmallIdeal.τ).loc Cert.AdamSmallIdeal.main_arg2)
          ∧ r.2.mem ((c.tc : Thread Cert.AdamSmallIdeal.nD Cert.AdamSmallIdeal.τ).loc Cert.AdamSmallIdeal.main_arg3) = m ((c.tc : Thread Cert.AdamSmallIdeal.nD Cert.AdamSmallIdeal.τ).loc Cert.AdamSmallIdeal.main_arg3))
      ∧ θ_run (Cert.RefAdamSmallIdeal.defs (F := Ideal)) (onTc (τ := Cert.RefAdamSmallIdeal.τ) (Cert.RefAdamSmallIdeal.main (F := Ideal))) ⟨m', fun _ => 0, g'⟩ (fun r => ∀ c : Dev Cert.RefAdamSmallIdeal.nD,
          r.2.mem ((c.tc : Thread Cert.RefAdamSmallIdeal.nD Cert.RefAdamSmallIdeal.τ).loc Cert.RefAdamSmallIdeal.main_v23) = v0 c
          ∧ r.2.mem ((c.tc : Thread Cert.RefAdamSmallIdeal.nD Cert.RefAdamSmallIdeal.τ).loc Cert.RefAdamSmallIdeal.main_v4) = v1 c
          ∧ r.2.mem ((c.tc : Thread Cert.RefAdamSmallIdeal.nD Cert.RefAdamSmallIdeal.τ).loc Cert.RefAdamSmallIdeal.main_v10) = v2 c
          ∧ r.2.mem ((c.tc : Thread Cert.RefAdamSmallIdeal.nD Cert.RefAdamSmallIdeal.τ).loc Cert.RefAdamSmallIdeal.main_arg0) = m' ((c.tc : Thread Cert.RefAdamSmallIdeal.nD Cert.RefAdamSmallIdeal.τ).loc Cert.RefAdamSmallIdeal.main_arg0)
          ∧ r.2.mem ((c.tc : Thread Cert.RefAdamSmallIdeal.nD Cert.RefAdamSmallIdeal.τ).loc Cert.RefAdamSmallIdeal.main_arg1) = m' ((c.tc : Thread Cert.RefAdamSmallIdeal.nD Cert.RefAdamSmallIdeal.τ).loc Cert.RefAdamSmallIdeal.main_arg1)
          ∧ r.2.mem ((c.tc : Thread Cert.RefAdamSmallIdeal.nD Cert.RefAdamSmallIdeal.τ).loc Cert.RefAdamSmallIdeal.main_arg2) = m' ((c.tc : Thread Cert.RefAdamSmallIdeal.nD Cert.RefAdamSmallIdeal.τ).loc Cert.RefAdamSmallIdeal.main_arg2)
          ∧ r.2.mem ((c.tc : Thread Cert.RefAdamSmallIdeal.nD Cert.RefAdamSmallIdeal.τ).loc Cert.RefAdamSmallIdeal.main_arg3) = m' ((c.tc : Thread Cert.RefAdamSmallIdeal.nD Cert.RefAdamSmallIdeal.τ).loc Cert.RefAdamSmallIdeal.main_arg3))

def preserves_Window_WindowIdeal : Prop :=
  IdealRules.named_const.Statement Cert.WindowIdeal.κ "mask" .f32 0xF149F2CA#32 ⊥

def algebraic_WindowIdeal_RefWindowIdeal [hWindowIdeal : Cert.WindowIdeal.Facts] [hRefWindowIdeal : Cert.RefWindowIdeal.Facts] : Prop :=
  ∀ (m : (ℓ : Loc Cert.WindowIdeal.nD Cert.WindowIdeal.τ Cert.WindowIdeal.sig) → Buf (Elt Ideal) ℓ) (g : Dev Cert.WindowIdeal.nD → PrngReg)
    (m' : (ℓ : Loc Cert.RefWindowIdeal.nD Cert.RefWindowIdeal.τ Cert.RefWindowIdeal.sig) → Buf (Elt Ideal) ℓ) (g' : Dev Cert.RefWindowIdeal.nD → PrngReg), Pre_WindowIdeal m →
    (∀ c : Dev Cert.WindowIdeal.nD,
      m' ((c.tc : Thread Cert.RefWindowIdeal.nD Cert.RefWindowIdeal.τ).loc Cert.RefWindowIdeal.main_arg0) = m ((c.tc : Thread Cert.WindowIdeal.nD Cert.WindowIdeal.τ).loc Cert.WindowIdeal.main_arg0)
      ∧ m' ((c.tc : Thread Cert.RefWindowIdeal.nD Cert.RefWindowIdeal.τ).loc Cert.RefWindowIdeal.main_arg1) = m ((c.tc : Thread Cert.WindowIdeal.nD Cert.WindowIdeal.τ).loc Cert.WindowIdeal.main_arg1)
      ∧ m' ((c.tc : Thread Cert.RefWindowIdeal.nD Cert.RefWindowIdeal.τ).loc Cert.RefWindowIdeal.main_arg2) = m ((c.tc : Thread Cert.WindowIdeal.nD Cert.WindowIdeal.τ).loc Cert.WindowIdeal.main_arg2)) →
    ∃ (v0 : (c : Dev Cert.WindowIdeal.nD) → Buf (Elt Ideal) ((c.tc : Thread Cert.WindowIdeal.nD Cert.WindowIdeal.τ).loc Cert.WindowIdeal.main_v32_0)) (v1 : (c : Dev Cert.WindowIdeal.nD) → Buf (Elt Ideal) ((c.tc : Thread Cert.WindowIdeal.nD Cert.WindowIdeal.τ).loc Cert.WindowIdeal.main_v32_1)),
      θ_run (Cert.WindowIdeal.defs (F := Ideal)) (onTc (τ := Cert.WindowIdeal.τ) (Cert.WindowIdeal.main (F := Ideal))) ⟨m, fun _ => 0, g⟩ (fun r => ∀ c : Dev Cert.WindowIdeal.nD,
          r.2.mem ((c.tc : Thread Cert.WindowIdeal.nD Cert.WindowIdeal.τ).loc Cert.WindowIdeal.main_v32_0) = v0 c
          ∧ r.2.mem ((c.tc : Thread Cert.WindowIdeal.nD Cert.WindowIdeal.τ).loc Cert.WindowIdeal.main_v32_1) = v1 c
          ∧ r.2.mem ((c.tc : Thread Cert.WindowIdeal.nD Cert.WindowIdeal.τ).loc Cert.WindowIdeal.main_arg0) = m ((c.tc : Thread Cert.WindowIdeal.nD Cert.WindowIdeal.τ).loc Cert.WindowIdeal.main_arg0)
          ∧ r.2.mem ((c.tc : Thread Cert.WindowIdeal.nD Cert.WindowIdeal.τ).loc Cert.WindowIdeal.main_arg1) = m ((c.tc : Thread Cert.WindowIdeal.nD Cert.WindowIdeal.τ).loc Cert.WindowIdeal.main_arg1)
          ∧ r.2.mem ((c.tc : Thread Cert.WindowIdeal.nD Cert.WindowIdeal.τ).loc Cert.WindowIdeal.main_arg2) = m ((c.tc : Thread Cert.WindowIdeal.nD Cert.WindowIdeal.τ).loc Cert.WindowIdeal.main_arg2))
      ∧ θ_run (Cert.RefWindowIdeal.defs (F := Ideal)) (onTc (τ := Cert.RefWindowIdeal.τ) (Cert.RefWindowIdeal.main (F := Ideal))) ⟨m', fun _ => 0, g'⟩ (fun r => ∀ c : Dev Cert.RefWindowIdeal.nD,
          r.2.mem ((c.tc : Thread Cert.RefWindowIdeal.nD Cert.RefWindowIdeal.τ).loc Cert.RefWindowIdeal.main_v96) = v0 c
          ∧ r.2.mem ((c.tc : Thread Cert.RefWindowIdeal.nD Cert.RefWindowIdeal.τ).loc Cert.RefWindowIdeal.main_v102) = v1 c
          ∧ r.2.mem ((c.tc : Thread Cert.RefWindowIdeal.nD Cert.RefWindowIdeal.τ).loc Cert.RefWindowIdeal.main_arg0) = m' ((c.tc : Thread Cert.RefWindowIdeal.nD Cert.RefWindowIdeal.τ).loc Cert.RefWindowIdeal.main_arg0)
          ∧ r.2.mem ((c.tc : Thread Cert.RefWindowIdeal.nD Cert.RefWindowIdeal.τ).loc Cert.RefWindowIdeal.main_arg1) = m' ((c.tc : Thread Cert.RefWindowIdeal.nD Cert.RefWindowIdeal.τ).loc Cert.RefWindowIdeal.main_arg1)
          ∧ r.2.mem ((c.tc : Thread Cert.RefWindowIdeal.nD Cert.RefWindowIdeal.τ).loc Cert.RefWindowIdeal.main_arg2) = m' ((c.tc : Thread Cert.RefWindowIdeal.nD Cert.RefWindowIdeal.τ).loc Cert.RefWindowIdeal.main_arg2))

def preserves_LossSum_LossSumIdeal : Prop :=
  True

def algebraic_LossSumIdeal_RefLossSumIdeal [hLossSumIdeal : Cert.LossSumIdeal.Facts] [hRefLossSumIdeal : Cert.RefLossSumIdeal.Facts] : Prop :=
  ∀ (m : (ℓ : Loc Cert.LossSumIdeal.nD Cert.LossSumIdeal.τ Cert.LossSumIdeal.sig) → Buf (Elt Ideal) ℓ) (g : Dev Cert.LossSumIdeal.nD → PrngReg)
    (m' : (ℓ : Loc Cert.RefLossSumIdeal.nD Cert.RefLossSumIdeal.τ Cert.RefLossSumIdeal.sig) → Buf (Elt Ideal) ℓ) (g' : Dev Cert.RefLossSumIdeal.nD → PrngReg), Pre_LossSumIdeal m →
    (∀ c : Dev Cert.LossSumIdeal.nD,
      m' ((c.tc : Thread Cert.RefLossSumIdeal.nD Cert.RefLossSumIdeal.τ).loc Cert.RefLossSumIdeal.main_arg0) = m ((c.tc : Thread Cert.LossSumIdeal.nD Cert.LossSumIdeal.τ).loc Cert.LossSumIdeal.main_arg0)
      ∧ m' ((c.tc : Thread Cert.RefLossSumIdeal.nD Cert.RefLossSumIdeal.τ).loc Cert.RefLossSumIdeal.main_arg1) = m ((c.tc : Thread Cert.LossSumIdeal.nD Cert.LossSumIdeal.τ).loc Cert.LossSumIdeal.main_arg1)) →
    ∃ (v0 : (c : Dev Cert.LossSumIdeal.nD) → Buf (Elt Ideal) ((c.tc : Thread Cert.LossSumIdeal.nD Cert.LossSumIdeal.τ).loc Cert.LossSumIdeal.main_v0_0)) (v1 : (c : Dev Cert.LossSumIdeal.nD) → Buf (Elt Ideal) ((c.tc : Thread Cert.LossSumIdeal.nD Cert.LossSumIdeal.τ).loc Cert.LossSumIdeal.main_v2)),
      θ_run (Cert.LossSumIdeal.defs (F := Ideal)) (onTc (τ := Cert.LossSumIdeal.τ) (Cert.LossSumIdeal.main (F := Ideal))) ⟨m, fun _ => 0, g⟩ (fun r => ∀ c : Dev Cert.LossSumIdeal.nD,
          r.2.mem ((c.tc : Thread Cert.LossSumIdeal.nD Cert.LossSumIdeal.τ).loc Cert.LossSumIdeal.main_v0_0) = v0 c
          ∧ r.2.mem ((c.tc : Thread Cert.LossSumIdeal.nD Cert.LossSumIdeal.τ).loc Cert.LossSumIdeal.main_v2) = v1 c
          ∧ r.2.mem ((c.tc : Thread Cert.LossSumIdeal.nD Cert.LossSumIdeal.τ).loc Cert.LossSumIdeal.main_arg0) = m ((c.tc : Thread Cert.LossSumIdeal.nD Cert.LossSumIdeal.τ).loc Cert.LossSumIdeal.main_arg0)
          ∧ r.2.mem ((c.tc : Thread Cert.LossSumIdeal.nD Cert.LossSumIdeal.τ).loc Cert.LossSumIdeal.main_arg1) = m ((c.tc : Thread Cert.LossSumIdeal.nD Cert.LossSumIdeal.τ).loc Cert.LossSumIdeal.main_arg1))
      ∧ θ_run (Cert.RefLossSumIdeal.defs (F := Ideal)) (onTc (τ := Cert.RefLossSumIdeal.τ) (Cert.RefLossSumIdeal.main (F := Ideal))) ⟨m', fun _ => 0, g'⟩ (fun r => ∀ c : Dev Cert.RefLossSumIdeal.nD,
          r.2.mem ((c.tc : Thread Cert.RefLossSumIdeal.nD Cert.RefLossSumIdeal.τ).loc Cert.RefLossSumIdeal.main_v14) = v0 c
          ∧ r.2.mem ((c.tc : Thread Cert.RefLossSumIdeal.nD Cert.RefLossSumIdeal.τ).loc Cert.RefLossSumIdeal.main_v21) = v1 c
          ∧ r.2.mem ((c.tc : Thread Cert.RefLossSumIdeal.nD Cert.RefLossSumIdeal.τ).loc Cert.RefLossSumIdeal.main_arg0) = m' ((c.tc : Thread Cert.RefLossSumIdeal.nD Cert.RefLossSumIdeal.τ).loc Cert.RefLossSumIdeal.main_arg0)
          ∧ r.2.mem ((c.tc : Thread Cert.RefLossSumIdeal.nD Cert.RefLossSumIdeal.τ).loc Cert.RefLossSumIdeal.main_arg1) = m' ((c.tc : Thread Cert.RefLossSumIdeal.nD Cert.RefLossSumIdeal.τ).loc Cert.RefLossSumIdeal.main_arg1))

def preserves_LossAll_LossAllIdeal : Prop :=
  True

def algebraic_LossAllIdeal_RefLossAllIdeal [hLossAllIdeal : Cert.LossAllIdeal.Facts] [hRefLossAllIdeal : Cert.RefLossAllIdeal.Facts] : Prop :=
  ∀ (m : (ℓ : Loc Cert.LossAllIdeal.nD Cert.LossAllIdeal.τ Cert.LossAllIdeal.sig) → Buf (Elt Ideal) ℓ) (g : Dev Cert.LossAllIdeal.nD → PrngReg)
    (m' : (ℓ : Loc Cert.RefLossAllIdeal.nD Cert.RefLossAllIdeal.τ Cert.RefLossAllIdeal.sig) → Buf (Elt Ideal) ℓ) (g' : Dev Cert.RefLossAllIdeal.nD → PrngReg), Pre_LossAllIdeal m →
    (∀ c : Dev Cert.LossAllIdeal.nD,
      m ((c.tc : Thread Cert.LossAllIdeal.nD Cert.LossAllIdeal.τ).loc Cert.LossAllIdeal.main_arg0) = Layout.block ⟨2, ![4096, 2048]⟩ ⟨2, ![32768, 2048]⟩ 0 8 c (m' (((0 : Dev Cert.RefLossAllIdeal.nD).tc : Thread Cert.RefLossAllIdeal.nD Cert.RefLossAllIdeal.τ).loc Cert.RefLossAllIdeal.main_arg0))
      ∧ m ((c.tc : Thread Cert.LossAllIdeal.nD Cert.LossAllIdeal.τ).loc Cert.LossAllIdeal.main_arg1) = Layout.block ⟨2, ![4096, 2048]⟩ ⟨2, ![32768, 2048]⟩ 0 8 c (m' (((0 : Dev Cert.RefLossAllIdeal.nD).tc : Thread Cert.RefLossAllIdeal.nD Cert.RefLossAllIdeal.τ).loc Cert.RefLossAllIdeal.main_arg1))) →
    ∃ (v0 : Buf (Elt Ideal) (((0 : Dev Cert.RefLossAllIdeal.nD).tc : Thread Cert.RefLossAllIdeal.nD Cert.RefLossAllIdeal.τ).loc Cert.RefLossAllIdeal.main_v14)) (v1 : Buf (Elt Ideal) (((0 : Dev Cert.RefLossAllIdeal.nD).tc : Thread Cert.RefLossAllIdeal.nD Cert.RefLossAllIdeal.τ).loc Cert.RefLossAllIdeal.main_v21)),
      θ_run (Cert.LossAllIdeal.defs (F := Ideal)) (onTc (τ := Cert.LossAllIdeal.τ) (Cert.LossAllIdeal.main (F := Ideal))) ⟨m, fun _ => 0, g⟩ (fun r => ∀ c : Dev Cert.LossAllIdeal.nD,
          r.2.mem ((c.tc : Thread Cert.LossAllIdeal.nD Cert.LossAllIdeal.τ).loc Cert.LossAllIdeal.main_v1_0) = Layout.block ⟨2, ![4096, 2048]⟩ ⟨2, ![32768, 2048]⟩ 0 8 c v0
          ∧ r.2.mem ((c.tc : Thread Cert.LossAllIdeal.nD Cert.LossAllIdeal.τ).loc Cert.LossAllIdeal.main_v4) = v1
          ∧ r.2.mem ((c.tc : Thread Cert.LossAllIdeal.nD Cert.LossAllIdeal.τ).loc Cert.LossAllIdeal.main_arg0) = m ((c.tc : Thread Cert.LossAllIdeal.nD Cert.LossAllIdeal.τ).loc Cert.LossAllIdeal.main_arg0)
          ∧ r.2.mem ((c.tc : Thread Cert.LossAllIdeal.nD Cert.LossAllIdeal.τ).loc Cert.LossAllIdeal.main_arg1) = m ((c.tc : Thread Cert.LossAllIdeal.nD Cert.LossAllIdeal.τ).loc Cert.LossAllIdeal.main_arg1))
      ∧ θ_run (Cert.RefLossAllIdeal.defs (F := Ideal)) (onTc (τ := Cert.RefLossAllIdeal.τ) (Cert.RefLossAllIdeal.main (F := Ideal))) ⟨m', fun _ => 0, g'⟩ (fun r =>
          r.2.mem (((0 : Dev Cert.RefLossAllIdeal.nD).tc : Thread Cert.RefLossAllIdeal.nD Cert.RefLossAllIdeal.τ).loc Cert.RefLossAllIdeal.main_v14) = v0
          ∧ r.2.mem (((0 : Dev Cert.RefLossAllIdeal.nD).tc : Thread Cert.RefLossAllIdeal.nD Cert.RefLossAllIdeal.τ).loc Cert.RefLossAllIdeal.main_v21) = v1
          ∧ r.2.mem (((0 : Dev Cert.RefLossAllIdeal.nD).tc : Thread Cert.RefLossAllIdeal.nD Cert.RefLossAllIdeal.τ).loc Cert.RefLossAllIdeal.main_arg0) = m' (((0 : Dev Cert.RefLossAllIdeal.nD).tc : Thread Cert.RefLossAllIdeal.nD Cert.RefLossAllIdeal.τ).loc Cert.RefLossAllIdeal.main_arg0)
          ∧ r.2.mem (((0 : Dev Cert.RefLossAllIdeal.nD).tc : Thread Cert.RefLossAllIdeal.nD Cert.RefLossAllIdeal.τ).loc Cert.RefLossAllIdeal.main_arg1) = m' (((0 : Dev Cert.RefLossAllIdeal.nD).tc : Thread Cert.RefLossAllIdeal.nD Cert.RefLossAllIdeal.τ).loc Cert.RefLossAllIdeal.main_arg1))

def preserves_LnGains_LnGainsIdeal : Prop :=
  True

def algebraic_LnGainsIdeal_RefLnGainsIdeal [hLnGainsIdeal : Cert.LnGainsIdeal.Facts] [hRefLnGainsIdeal : Cert.RefLnGainsIdeal.Facts] : Prop :=
  ∀ (m : (ℓ : Loc Cert.LnGainsIdeal.nD Cert.LnGainsIdeal.τ Cert.LnGainsIdeal.sig) → Buf (Elt Ideal) ℓ) (g : Dev Cert.LnGainsIdeal.nD → PrngReg)
    (m' : (ℓ : Loc Cert.RefLnGainsIdeal.nD Cert.RefLnGainsIdeal.τ Cert.RefLnGainsIdeal.sig) → Buf (Elt Ideal) ℓ) (g' : Dev Cert.RefLnGainsIdeal.nD → PrngReg), Pre_LnGainsIdeal m →
    (∀ c : Dev Cert.LnGainsIdeal.nD,
      m' ((c.tc : Thread Cert.RefLnGainsIdeal.nD Cert.RefLnGainsIdeal.τ).loc Cert.RefLnGainsIdeal.main_arg0) = m ((c.tc : Thread Cert.LnGainsIdeal.nD Cert.LnGainsIdeal.τ).loc Cert.LnGainsIdeal.main_arg0)
      ∧ m' ((c.tc : Thread Cert.RefLnGainsIdeal.nD Cert.RefLnGainsIdeal.τ).loc Cert.RefLnGainsIdeal.main_arg1) = m ((c.tc : Thread Cert.LnGainsIdeal.nD Cert.LnGainsIdeal.τ).loc Cert.LnGainsIdeal.main_arg1)
      ∧ m' ((c.tc : Thread Cert.RefLnGainsIdeal.nD Cert.RefLnGainsIdeal.τ).loc Cert.RefLnGainsIdeal.main_arg2) = m ((c.tc : Thread Cert.LnGainsIdeal.nD Cert.LnGainsIdeal.τ).loc Cert.LnGainsIdeal.main_arg2)) →
    ∃ (v0 : (c : Dev Cert.LnGainsIdeal.nD) → Buf (Elt Ideal) ((c.tc : Thread Cert.LnGainsIdeal.nD Cert.LnGainsIdeal.τ).loc Cert.LnGainsIdeal.main_v2)) (v1 : (c : Dev Cert.LnGainsIdeal.nD) → Buf (Elt Ideal) ((c.tc : Thread Cert.LnGainsIdeal.nD Cert.LnGainsIdeal.τ).loc Cert.LnGainsIdeal.main_v4)),
      θ_run (Cert.LnGainsIdeal.defs (F := Ideal)) (onTc (τ := Cert.LnGainsIdeal.τ) (Cert.LnGainsIdeal.main (F := Ideal))) ⟨m, fun _ => 0, g⟩ (fun r => ∀ c : Dev Cert.LnGainsIdeal.nD,
          r.2.mem ((c.tc : Thread Cert.LnGainsIdeal.nD Cert.LnGainsIdeal.τ).loc Cert.LnGainsIdeal.main_v2) = v0 c
          ∧ r.2.mem ((c.tc : Thread Cert.LnGainsIdeal.nD Cert.LnGainsIdeal.τ).loc Cert.LnGainsIdeal.main_v4) = v1 c
          ∧ r.2.mem ((c.tc : Thread Cert.LnGainsIdeal.nD Cert.LnGainsIdeal.τ).loc Cert.LnGainsIdeal.main_arg0) = m ((c.tc : Thread Cert.LnGainsIdeal.nD Cert.LnGainsIdeal.τ).loc Cert.LnGainsIdeal.main_arg0)
          ∧ r.2.mem ((c.tc : Thread Cert.LnGainsIdeal.nD Cert.LnGainsIdeal.τ).loc Cert.LnGainsIdeal.main_arg1) = m ((c.tc : Thread Cert.LnGainsIdeal.nD Cert.LnGainsIdeal.τ).loc Cert.LnGainsIdeal.main_arg1)
          ∧ r.2.mem ((c.tc : Thread Cert.LnGainsIdeal.nD Cert.LnGainsIdeal.τ).loc Cert.LnGainsIdeal.main_arg2) = m ((c.tc : Thread Cert.LnGainsIdeal.nD Cert.LnGainsIdeal.τ).loc Cert.LnGainsIdeal.main_arg2))
      ∧ θ_run (Cert.RefLnGainsIdeal.defs (F := Ideal)) (onTc (τ := Cert.RefLnGainsIdeal.τ) (Cert.RefLnGainsIdeal.main (F := Ideal))) ⟨m', fun _ => 0, g'⟩ (fun r => ∀ c : Dev Cert.RefLnGainsIdeal.nD,
          r.2.mem ((c.tc : Thread Cert.RefLnGainsIdeal.nD Cert.RefLnGainsIdeal.τ).loc Cert.RefLnGainsIdeal.main_v28) = v0 c
          ∧ r.2.mem ((c.tc : Thread Cert.RefLnGainsIdeal.nD Cert.RefLnGainsIdeal.τ).loc Cert.RefLnGainsIdeal.main_v25) = v1 c
          ∧ r.2.mem ((c.tc : Thread Cert.RefLnGainsIdeal.nD Cert.RefLnGainsIdeal.τ).loc Cert.RefLnGainsIdeal.main_arg0) = m' ((c.tc : Thread Cert.RefLnGainsIdeal.nD Cert.RefLnGainsIdeal.τ).loc Cert.RefLnGainsIdeal.main_arg0)
          ∧ r.2.mem ((c.tc : Thread Cert.RefLnGainsIdeal.nD Cert.RefLnGainsIdeal.τ).loc Cert.RefLnGainsIdeal.main_arg1) = m' ((c.tc : Thread Cert.RefLnGainsIdeal.nD Cert.RefLnGainsIdeal.τ).loc Cert.RefLnGainsIdeal.main_arg1)
          ∧ r.2.mem ((c.tc : Thread Cert.RefLnGainsIdeal.nD Cert.RefLnGainsIdeal.τ).loc Cert.RefLnGainsIdeal.main_arg2) = m' ((c.tc : Thread Cert.RefLnGainsIdeal.nD Cert.RefLnGainsIdeal.τ).loc Cert.RefLnGainsIdeal.main_arg2))

def preserves_RmsGains_RmsGainsIdeal : Prop :=
  True

def algebraic_RmsGainsIdeal_RefRmsGainsIdeal [hRmsGainsIdeal : Cert.RmsGainsIdeal.Facts] [hRefRmsGainsIdeal : Cert.RefRmsGainsIdeal.Facts] : Prop :=
  ∀ (m : (ℓ : Loc Cert.RmsGainsIdeal.nD Cert.RmsGainsIdeal.τ Cert.RmsGainsIdeal.sig) → Buf (Elt Ideal) ℓ) (g : Dev Cert.RmsGainsIdeal.nD → PrngReg)
    (m' : (ℓ : Loc Cert.RefRmsGainsIdeal.nD Cert.RefRmsGainsIdeal.τ Cert.RefRmsGainsIdeal.sig) → Buf (Elt Ideal) ℓ) (g' : Dev Cert.RefRmsGainsIdeal.nD → PrngReg), Pre_RmsGainsIdeal m →
    (∀ c : Dev Cert.RmsGainsIdeal.nD,
      m' ((c.tc : Thread Cert.RefRmsGainsIdeal.nD Cert.RefRmsGainsIdeal.τ).loc Cert.RefRmsGainsIdeal.main_arg0) = m ((c.tc : Thread Cert.RmsGainsIdeal.nD Cert.RmsGainsIdeal.τ).loc Cert.RmsGainsIdeal.main_arg0)
      ∧ m' ((c.tc : Thread Cert.RefRmsGainsIdeal.nD Cert.RefRmsGainsIdeal.τ).loc Cert.RefRmsGainsIdeal.main_arg1) = m ((c.tc : Thread Cert.RmsGainsIdeal.nD Cert.RmsGainsIdeal.τ).loc Cert.RmsGainsIdeal.main_arg1)
      ∧ m' ((c.tc : Thread Cert.RefRmsGainsIdeal.nD Cert.RefRmsGainsIdeal.τ).loc Cert.RefRmsGainsIdeal.main_arg2) = m ((c.tc : Thread Cert.RmsGainsIdeal.nD Cert.RmsGainsIdeal.τ).loc Cert.RmsGainsIdeal.main_arg2)
      ∧ m' ((c.tc : Thread Cert.RefRmsGainsIdeal.nD Cert.RefRmsGainsIdeal.τ).loc Cert.RefRmsGainsIdeal.main_arg3) = m ((c.tc : Thread Cert.RmsGainsIdeal.nD Cert.RmsGainsIdeal.τ).loc Cert.RmsGainsIdeal.main_arg3)
      ∧ m' ((c.tc : Thread Cert.RefRmsGainsIdeal.nD Cert.RefRmsGainsIdeal.τ).loc Cert.RefRmsGainsIdeal.main_arg4) = m ((c.tc : Thread Cert.RmsGainsIdeal.nD Cert.RmsGainsIdeal.τ).loc Cert.RmsGainsIdeal.main_arg4)) →
    ∃ (v0 : (c : Dev Cert.RmsGainsIdeal.nD) → Buf (Elt Ideal) ((c.tc : Thread Cert.RmsGainsIdeal.nD Cert.RmsGainsIdeal.τ).loc Cert.RmsGainsIdeal.main_v2)) (v1 : (c : Dev Cert.RmsGainsIdeal.nD) → Buf (Elt Ideal) ((c.tc : Thread Cert.RmsGainsIdeal.nD Cert.RmsGainsIdeal.τ).loc Cert.RmsGainsIdeal.main_v4)),
      θ_run (Cert.RmsGainsIdeal.defs (F := Ideal)) (onTc (τ := Cert.RmsGainsIdeal.τ) (Cert.RmsGainsIdeal.main (F := Ideal))) ⟨m, fun _ => 0, g⟩ (fun r => ∀ c : Dev Cert.RmsGainsIdeal.nD,
          r.2.mem ((c.tc : Thread Cert.RmsGainsIdeal.nD Cert.RmsGainsIdeal.τ).loc Cert.RmsGainsIdeal.main_v2) = v0 c
          ∧ r.2.mem ((c.tc : Thread Cert.RmsGainsIdeal.nD Cert.RmsGainsIdeal.τ).loc Cert.RmsGainsIdeal.main_v4) = v1 c
          ∧ r.2.mem ((c.tc : Thread Cert.RmsGainsIdeal.nD Cert.RmsGainsIdeal.τ).loc Cert.RmsGainsIdeal.main_arg0) = m ((c.tc : Thread Cert.RmsGainsIdeal.nD Cert.RmsGainsIdeal.τ).loc Cert.RmsGainsIdeal.main_arg0)
          ∧ r.2.mem ((c.tc : Thread Cert.RmsGainsIdeal.nD Cert.RmsGainsIdeal.τ).loc Cert.RmsGainsIdeal.main_arg1) = m ((c.tc : Thread Cert.RmsGainsIdeal.nD Cert.RmsGainsIdeal.τ).loc Cert.RmsGainsIdeal.main_arg1)
          ∧ r.2.mem ((c.tc : Thread Cert.RmsGainsIdeal.nD Cert.RmsGainsIdeal.τ).loc Cert.RmsGainsIdeal.main_arg2) = m ((c.tc : Thread Cert.RmsGainsIdeal.nD Cert.RmsGainsIdeal.τ).loc Cert.RmsGainsIdeal.main_arg2)
          ∧ r.2.mem ((c.tc : Thread Cert.RmsGainsIdeal.nD Cert.RmsGainsIdeal.τ).loc Cert.RmsGainsIdeal.main_arg3) = m ((c.tc : Thread Cert.RmsGainsIdeal.nD Cert.RmsGainsIdeal.τ).loc Cert.RmsGainsIdeal.main_arg3)
          ∧ r.2.mem ((c.tc : Thread Cert.RmsGainsIdeal.nD Cert.RmsGainsIdeal.τ).loc Cert.RmsGainsIdeal.main_arg4) = m ((c.tc : Thread Cert.RmsGainsIdeal.nD Cert.RmsGainsIdeal.τ).loc Cert.RmsGainsIdeal.main_arg4))
      ∧ θ_run (Cert.RefRmsGainsIdeal.defs (F := Ideal)) (onTc (τ := Cert.RefRmsGainsIdeal.τ) (Cert.RefRmsGainsIdeal.main (F := Ideal))) ⟨m', fun _ => 0, g'⟩ (fun r => ∀ c : Dev Cert.RefRmsGainsIdeal.nD,
          r.2.mem ((c.tc : Thread Cert.RefRmsGainsIdeal.nD Cert.RefRmsGainsIdeal.τ).loc Cert.RefRmsGainsIdeal.main_v32) = v0 c
          ∧ r.2.mem ((c.tc : Thread Cert.RefRmsGainsIdeal.nD Cert.RefRmsGainsIdeal.τ).loc Cert.RefRmsGainsIdeal.main_v29) = v1 c
          ∧ r.2.mem ((c.tc : Thread Cert.RefRmsGainsIdeal.nD Cert.RefRmsGainsIdeal.τ).loc Cert.RefRmsGainsIdeal.main_arg0) = m' ((c.tc : Thread Cert.RefRmsGainsIdeal.nD Cert.RefRmsGainsIdeal.τ).loc Cert.RefRmsGainsIdeal.main_arg0)
          ∧ r.2.mem ((c.tc : Thread Cert.RefRmsGainsIdeal.nD Cert.RefRmsGainsIdeal.τ).loc Cert.RefRmsGainsIdeal.main_arg1) = m' ((c.tc : Thread Cert.RefRmsGainsIdeal.nD Cert.RefRmsGainsIdeal.τ).loc Cert.RefRmsGainsIdeal.main_arg1)
          ∧ r.2.mem ((c.tc : Thread Cert.RefRmsGainsIdeal.nD Cert.RefRmsGainsIdeal.τ).loc Cert.RefRmsGainsIdeal.main_arg2) = m' ((c.tc : Thread Cert.RefRmsGainsIdeal.nD Cert.RefRmsGainsIdeal.τ).loc Cert.RefRmsGainsIdeal.main_arg2)
          ∧ r.2.mem ((c.tc : Thread Cert.RefRmsGainsIdeal.nD Cert.RefRmsGainsIdeal.τ).loc Cert.RefRmsGainsIdeal.main_arg3) = m' ((c.tc : Thread Cert.RefRmsGainsIdeal.nD Cert.RefRmsGainsIdeal.τ).loc Cert.RefRmsGainsIdeal.main_arg3)
          ∧ r.2.mem ((c.tc : Thread Cert.RefRmsGainsIdeal.nD Cert.RefRmsGainsIdeal.τ).loc Cert.RefRmsGainsIdeal.main_arg4) = m' ((c.tc : Thread Cert.RefRmsGainsIdeal.nD Cert.RefRmsGainsIdeal.τ).loc Cert.RefRmsGainsIdeal.main_arg4))

def Claim : Prop :=
  ∃ (hMem : Cert.Mem.Facts) (hMemIdeal : Cert.MemIdeal.Facts) (hRefMemIdeal : Cert.RefMemIdeal.Facts) (hDwDown : Cert.DwDown.Facts) (hDwDownIdeal : Cert.DwDownIdeal.Facts) (hRefDwDownIdeal : Cert.RefDwDownIdeal.Facts) (hDwUp : Cert.DwUp.Facts) (hDwUpIdeal : Cert.DwUpIdeal.Facts) (hRefDwUpIdeal : Cert.RefDwUpIdeal.Facts) (hDwSq : Cert.DwSq.Facts) (hDwSqIdeal : Cert.DwSqIdeal.Facts) (hRefDwSqIdeal : Cert.RefDwSqIdeal.Facts) (hDwMkv : Cert.DwMkv.Facts) (hDwMkvIdeal : Cert.DwMkvIdeal.Facts) (hRefDwMkvIdeal : Cert.RefDwMkvIdeal.Facts) (hDwIn : Cert.DwIn.Facts) (hDwInIdeal : Cert.DwInIdeal.Facts) (hRefDwInIdeal : Cert.RefDwInIdeal.Facts) (hDu : Cert.Du.Facts) (hDuIdeal : Cert.DuIdeal.Facts) (hRefDuIdeal : Cert.RefDuIdeal.Facts) (hDo : Cert.Do.Facts) (hDoIdeal : Cert.DoIdeal.Facts) (hRefDoIdeal : Cert.RefDoIdeal.Facts) (hDymix : Cert.Dymix.Facts) (hDymixIdeal : Cert.DymixIdeal.Facts) (hRefDymixIdeal : Cert.RefDymixIdeal.Facts) (hDx1 : Cert.Dx1.Facts) (hDx1Ideal : Cert.Dx1Ideal.Facts) (hRefDx1Ideal : Cert.RefDx1Ideal.Facts) (hDx2 : Cert.Dx2.Facts) (hDx2Ideal : Cert.Dx2Ideal.Facts) (hRefDx2Ideal : Cert.RefDx2Ideal.Facts) (hDx0 : Cert.Dx0.Facts) (hDx0Ideal : Cert.Dx0Ideal.Facts) (hRefDx0Ideal : Cert.RefDx0Ideal.Facts) (hHin : Cert.Hin.Facts) (hHinIdeal : Cert.HinIdeal.Facts) (hRefHinIdeal : Cert.RefHinIdeal.Facts) (hMq : Cert.Mq.Facts) (hMqIdeal : Cert.MqIdeal.Facts) (hRefMqIdeal : Cert.RefMqIdeal.Facts) (hMkv : Cert.Mkv.Facts) (hMkvIdeal : Cert.MkvIdeal.Facts) (hRefMkvIdeal : Cert.RefMkvIdeal.Facts) (hUp : Cert.Up.Facts) (hUpIdeal : Cert.UpIdeal.Facts) (hRefUpIdeal : Cert.RefUpIdeal.Facts) (hOutLn : Cert.OutLn.Facts) (hOutLnIdeal : Cert.OutLnIdeal.Facts) (hRefOutLnIdeal : Cert.RefOutLnIdeal.Facts) (hDownLn : Cert.DownLn.Facts) (hDownLnIdeal : Cert.DownLnIdeal.Facts) (hRefDownLnIdeal : Cert.RefDownLnIdeal.Facts) (hMemFwd : Cert.MemFwd.Facts) (hMemFwdIdeal : Cert.MemFwdIdeal.Facts) (hRefMemFwdIdeal : Cert.RefMemFwdIdeal.Facts) (hRms : Cert.Rms.Facts) (hRmsIdeal : Cert.RmsIdeal.Facts) (hRefRmsIdeal : Cert.RefRmsIdeal.Facts) (hLnGrad : Cert.LnGrad.Facts) (hLnGradIdeal : Cert.LnGradIdeal.Facts) (hRefLnGradIdeal : Cert.RefLnGradIdeal.Facts) (hRmsGrad : Cert.RmsGrad.Facts) (hRmsGradIdeal : Cert.RmsGradIdeal.Facts) (hRefRmsGradIdeal : Cert.RefRmsGradIdeal.Facts) (hLoss : Cert.Loss.Facts) (hLossIdeal : Cert.LossIdeal.Facts) (hRefLossIdeal : Cert.RefLossIdeal.Facts) (hAdamIn : Cert.AdamIn.Facts) (hAdamInIdeal : Cert.AdamInIdeal.Facts) (hRefAdamInIdeal : Cert.RefAdamInIdeal.Facts) (hAdamSq : Cert.AdamSq.Facts) (hAdamSqIdeal : Cert.AdamSqIdeal.Facts) (hRefAdamSqIdeal : Cert.RefAdamSqIdeal.Facts) (hAdamMkv : Cert.AdamMkv.Facts) (hAdamMkvIdeal : Cert.AdamMkvIdeal.Facts) (hRefAdamMkvIdeal : Cert.RefAdamMkvIdeal.Facts) (hAdamUp : Cert.AdamUp.Facts) (hAdamUpIdeal : Cert.AdamUpIdeal.Facts) (hRefAdamUpIdeal : Cert.RefAdamUpIdeal.Facts) (hAdamSmall : Cert.AdamSmall.Facts) (hAdamSmallIdeal : Cert.AdamSmallIdeal.Facts) (hRefAdamSmallIdeal : Cert.RefAdamSmallIdeal.Facts) (hWindow : Cert.Window.Facts) (hWindowIdeal : Cert.WindowIdeal.Facts) (hRefWindowIdeal : Cert.RefWindowIdeal.Facts) (hLossSum : Cert.LossSum.Facts) (hLossSumIdeal : Cert.LossSumIdeal.Facts) (hRefLossSumIdeal : Cert.RefLossSumIdeal.Facts) (hLossAll : Cert.LossAll.Facts) (hLossAllIdeal : Cert.LossAllIdeal.Facts) (hRefLossAllIdeal : Cert.RefLossAllIdeal.Facts) (hLnGains : Cert.LnGains.Facts) (hLnGainsIdeal : Cert.LnGainsIdeal.Facts) (hRefLnGainsIdeal : Cert.RefLnGainsIdeal.Facts) (hRmsGains : Cert.RmsGains.Facts) (hRmsGainsIdeal : Cert.RmsGainsIdeal.Facts) (hRefRmsGainsIdeal : Cert.RefRmsGainsIdeal.Facts) (hPre_scores_finite : Cert.Pre_scores_finite.Facts) (hPre_products_finite : Cert.Pre_products_finite.Facts),
    quiescent_Mem (hMem := hMem)
    ∧ quiescent_MemIdeal (hMemIdeal := hMemIdeal)
    ∧ quiescent_MemIdeal_pre_scores_finite (hMemIdeal := hMemIdeal) (hPre_scores_finite := hPre_scores_finite)
    ∧ quiescent_RefMemIdeal (hRefMemIdeal := hRefMemIdeal)
    ∧ quiescent_RefMemIdeal_pre_scores_finite (hRefMemIdeal := hRefMemIdeal) (hPre_scores_finite := hPre_scores_finite)
    ∧ quiescent_DwDown (hDwDown := hDwDown)
    ∧ quiescent_DwDownIdeal (hDwDownIdeal := hDwDownIdeal)
    ∧ quiescent_RefDwDownIdeal (hRefDwDownIdeal := hRefDwDownIdeal)
    ∧ quiescent_DwUp (hDwUp := hDwUp)
    ∧ quiescent_DwUpIdeal (hDwUpIdeal := hDwUpIdeal)
    ∧ quiescent_RefDwUpIdeal (hRefDwUpIdeal := hRefDwUpIdeal)
    ∧ quiescent_DwSq (hDwSq := hDwSq)
    ∧ quiescent_DwSqIdeal (hDwSqIdeal := hDwSqIdeal)
    ∧ quiescent_RefDwSqIdeal (hRefDwSqIdeal := hRefDwSqIdeal)
    ∧ quiescent_DwMkv (hDwMkv := hDwMkv)
    ∧ quiescent_DwMkvIdeal (hDwMkvIdeal := hDwMkvIdeal)
    ∧ quiescent_RefDwMkvIdeal (hRefDwMkvIdeal := hRefDwMkvIdeal)
    ∧ quiescent_DwIn (hDwIn := hDwIn)
    ∧ quiescent_DwInIdeal (hDwInIdeal := hDwInIdeal)
    ∧ quiescent_RefDwInIdeal (hRefDwInIdeal := hRefDwInIdeal)
    ∧ quiescent_Du (hDu := hDu)
    ∧ quiescent_DuIdeal (hDuIdeal := hDuIdeal)
    ∧ quiescent_RefDuIdeal (hRefDuIdeal := hRefDuIdeal)
    ∧ quiescent_Do (hDo := hDo)
    ∧ quiescent_DoIdeal (hDoIdeal := hDoIdeal)
    ∧ quiescent_RefDoIdeal (hRefDoIdeal := hRefDoIdeal)
    ∧ quiescent_Dymix (hDymix := hDymix)
    ∧ quiescent_DymixIdeal (hDymixIdeal := hDymixIdeal)
    ∧ quiescent_RefDymixIdeal (hRefDymixIdeal := hRefDymixIdeal)
    ∧ quiescent_Dx1 (hDx1 := hDx1)
    ∧ quiescent_Dx1Ideal (hDx1Ideal := hDx1Ideal)
    ∧ quiescent_RefDx1Ideal (hRefDx1Ideal := hRefDx1Ideal)
    ∧ quiescent_Dx2 (hDx2 := hDx2)
    ∧ quiescent_Dx2Ideal (hDx2Ideal := hDx2Ideal)
    ∧ quiescent_RefDx2Ideal (hRefDx2Ideal := hRefDx2Ideal)
    ∧ quiescent_Dx0 (hDx0 := hDx0)
    ∧ quiescent_Dx0Ideal (hDx0Ideal := hDx0Ideal)
    ∧ quiescent_RefDx0Ideal (hRefDx0Ideal := hRefDx0Ideal)
    ∧ quiescent_Hin (hHin := hHin)
    ∧ quiescent_HinIdeal (hHinIdeal := hHinIdeal)
    ∧ quiescent_RefHinIdeal (hRefHinIdeal := hRefHinIdeal)
    ∧ quiescent_Mq (hMq := hMq)
    ∧ quiescent_MqIdeal (hMqIdeal := hMqIdeal)
    ∧ quiescent_RefMqIdeal (hRefMqIdeal := hRefMqIdeal)
    ∧ quiescent_Mkv (hMkv := hMkv)
    ∧ quiescent_MkvIdeal (hMkvIdeal := hMkvIdeal)
    ∧ quiescent_RefMkvIdeal (hRefMkvIdeal := hRefMkvIdeal)
    ∧ quiescent_Up (hUp := hUp)
    ∧ quiescent_UpIdeal (hUpIdeal := hUpIdeal)
    ∧ quiescent_RefUpIdeal (hRefUpIdeal := hRefUpIdeal)
    ∧ quiescent_OutLn (hOutLn := hOutLn)
    ∧ quiescent_OutLnIdeal (hOutLnIdeal := hOutLnIdeal)
    ∧ quiescent_RefOutLnIdeal (hRefOutLnIdeal := hRefOutLnIdeal)
    ∧ quiescent_DownLn (hDownLn := hDownLn)
    ∧ quiescent_DownLnIdeal (hDownLnIdeal := hDownLnIdeal)
    ∧ quiescent_RefDownLnIdeal (hRefDownLnIdeal := hRefDownLnIdeal)
    ∧ quiescent_MemFwd (hMemFwd := hMemFwd)
    ∧ quiescent_MemFwdIdeal (hMemFwdIdeal := hMemFwdIdeal)
    ∧ quiescent_RefMemFwdIdeal (hRefMemFwdIdeal := hRefMemFwdIdeal)
    ∧ quiescent_Rms (hRms := hRms)
    ∧ quiescent_RmsIdeal (hRmsIdeal := hRmsIdeal)
    ∧ quiescent_RefRmsIdeal (hRefRmsIdeal := hRefRmsIdeal)
    ∧ quiescent_LnGrad (hLnGrad := hLnGrad)
    ∧ quiescent_LnGradIdeal (hLnGradIdeal := hLnGradIdeal)
    ∧ quiescent_LnGradIdeal_pre_products_finite (hLnGradIdeal := hLnGradIdeal) (hPre_products_finite := hPre_products_finite)
    ∧ quiescent_RefLnGradIdeal (hRefLnGradIdeal := hRefLnGradIdeal)
    ∧ quiescent_RefLnGradIdeal_pre_products_finite (hRefLnGradIdeal := hRefLnGradIdeal) (hPre_products_finite := hPre_products_finite)
    ∧ quiescent_RmsGrad (hRmsGrad := hRmsGrad)
    ∧ quiescent_RmsGradIdeal (hRmsGradIdeal := hRmsGradIdeal)
    ∧ quiescent_RefRmsGradIdeal (hRefRmsGradIdeal := hRefRmsGradIdeal)
    ∧ quiescent_Loss (hLoss := hLoss)
    ∧ quiescent_LossIdeal (hLossIdeal := hLossIdeal)
    ∧ quiescent_RefLossIdeal (hRefLossIdeal := hRefLossIdeal)
    ∧ quiescent_AdamIn (hAdamIn := hAdamIn)
    ∧ quiescent_AdamInIdeal (hAdamInIdeal := hAdamInIdeal)
    ∧ quiescent_RefAdamInIdeal (hRefAdamInIdeal := hRefAdamInIdeal)
    ∧ quiescent_AdamSq (hAdamSq := hAdamSq)
    ∧ quiescent_AdamSqIdeal (hAdamSqIdeal := hAdamSqIdeal)
    ∧ quiescent_RefAdamSqIdeal (hRefAdamSqIdeal := hRefAdamSqIdeal)
    ∧ quiescent_AdamMkv (hAdamMkv := hAdamMkv)
    ∧ quiescent_AdamMkvIdeal (hAdamMkvIdeal := hAdamMkvIdeal)
    ∧ quiescent_RefAdamMkvIdeal (hRefAdamMkvIdeal := hRefAdamMkvIdeal)
    ∧ quiescent_AdamUp (hAdamUp := hAdamUp)
    ∧ quiescent_AdamUpIdeal (hAdamUpIdeal := hAdamUpIdeal)
    ∧ quiescent_RefAdamUpIdeal (hRefAdamUpIdeal := hRefAdamUpIdeal)
    ∧ quiescent_AdamSmall (hAdamSmall := hAdamSmall)
    ∧ quiescent_AdamSmallIdeal (hAdamSmallIdeal := hAdamSmallIdeal)
    ∧ quiescent_RefAdamSmallIdeal (hRefAdamSmallIdeal := hRefAdamSmallIdeal)
    ∧ quiescent_Window (hWindow := hWindow)
    ∧ quiescent_WindowIdeal (hWindowIdeal := hWindowIdeal)
    ∧ quiescent_RefWindowIdeal (hRefWindowIdeal := hRefWindowIdeal)
    ∧ quiescent_LossSum (hLossSum := hLossSum)
    ∧ quiescent_LossSumIdeal (hLossSumIdeal := hLossSumIdeal)
    ∧ quiescent_RefLossSumIdeal (hRefLossSumIdeal := hRefLossSumIdeal)
    ∧ quiescent_LossAll (hLossAll := hLossAll)
    ∧ quiescent_LossAllIdeal (hLossAllIdeal := hLossAllIdeal)
    ∧ quiescent_RefLossAllIdeal (hRefLossAllIdeal := hRefLossAllIdeal)
    ∧ quiescent_LnGains (hLnGains := hLnGains)
    ∧ quiescent_LnGainsIdeal (hLnGainsIdeal := hLnGainsIdeal)
    ∧ quiescent_RefLnGainsIdeal (hRefLnGainsIdeal := hRefLnGainsIdeal)
    ∧ quiescent_RmsGains (hRmsGains := hRmsGains)
    ∧ quiescent_RmsGainsIdeal (hRmsGainsIdeal := hRmsGainsIdeal)
    ∧ quiescent_RefRmsGainsIdeal (hRefRmsGainsIdeal := hRefRmsGainsIdeal)
    ∧ preserves_Mem_MemIdeal
    ∧ algebraic_MemIdeal_RefMemIdeal_pre_scores_finite (hMemIdeal := hMemIdeal) (hRefMemIdeal := hRefMemIdeal) (hPre_scores_finite := hPre_scores_finite)
    ∧ preserves_DwDown_DwDownIdeal
    ∧ algebraic_DwDownIdeal_RefDwDownIdeal (hDwDownIdeal := hDwDownIdeal) (hRefDwDownIdeal := hRefDwDownIdeal)
    ∧ preserves_DwUp_DwUpIdeal
    ∧ algebraic_DwUpIdeal_RefDwUpIdeal (hDwUpIdeal := hDwUpIdeal) (hRefDwUpIdeal := hRefDwUpIdeal)
    ∧ preserves_DwSq_DwSqIdeal
    ∧ algebraic_DwSqIdeal_RefDwSqIdeal (hDwSqIdeal := hDwSqIdeal) (hRefDwSqIdeal := hRefDwSqIdeal)
    ∧ preserves_DwMkv_DwMkvIdeal
    ∧ algebraic_DwMkvIdeal_RefDwMkvIdeal (hDwMkvIdeal := hDwMkvIdeal) (hRefDwMkvIdeal := hRefDwMkvIdeal)
    ∧ preserves_DwIn_DwInIdeal
    ∧ algebraic_DwInIdeal_RefDwInIdeal (hDwInIdeal := hDwInIdeal) (hRefDwInIdeal := hRefDwInIdeal)
    ∧ preserves_Du_DuIdeal
    ∧ algebraic_DuIdeal_RefDuIdeal (hDuIdeal := hDuIdeal) (hRefDuIdeal := hRefDuIdeal)
    ∧ preserves_Do_DoIdeal
    ∧ algebraic_DoIdeal_RefDoIdeal (hDoIdeal := hDoIdeal) (hRefDoIdeal := hRefDoIdeal)
    ∧ preserves_Dymix_DymixIdeal
    ∧ algebraic_DymixIdeal_RefDymixIdeal (hDymixIdeal := hDymixIdeal) (hRefDymixIdeal := hRefDymixIdeal)
    ∧ preserves_Dx1_Dx1Ideal
    ∧ algebraic_Dx1Ideal_RefDx1Ideal (hDx1Ideal := hDx1Ideal) (hRefDx1Ideal := hRefDx1Ideal)
    ∧ preserves_Dx2_Dx2Ideal
    ∧ algebraic_Dx2Ideal_RefDx2Ideal (hDx2Ideal := hDx2Ideal) (hRefDx2Ideal := hRefDx2Ideal)
    ∧ preserves_Dx0_Dx0Ideal
    ∧ algebraic_Dx0Ideal_RefDx0Ideal (hDx0Ideal := hDx0Ideal) (hRefDx0Ideal := hRefDx0Ideal)
    ∧ preserves_Hin_HinIdeal
    ∧ algebraic_HinIdeal_RefHinIdeal (hHinIdeal := hHinIdeal) (hRefHinIdeal := hRefHinIdeal)
    ∧ preserves_Mq_MqIdeal
    ∧ algebraic_MqIdeal_RefMqIdeal (hMqIdeal := hMqIdeal) (hRefMqIdeal := hRefMqIdeal)
    ∧ preserves_Mkv_MkvIdeal
    ∧ algebraic_MkvIdeal_RefMkvIdeal (hMkvIdeal := hMkvIdeal) (hRefMkvIdeal := hRefMkvIdeal)
    ∧ preserves_Up_UpIdeal
    ∧ algebraic_UpIdeal_RefUpIdeal (hUpIdeal := hUpIdeal) (hRefUpIdeal := hRefUpIdeal)
    ∧ preserves_OutLn_OutLnIdeal
    ∧ algebraic_OutLnIdeal_RefOutLnIdeal (hOutLnIdeal := hOutLnIdeal) (hRefOutLnIdeal := hRefOutLnIdeal)
    ∧ preserves_DownLn_DownLnIdeal
    ∧ algebraic_DownLnIdeal_RefDownLnIdeal (hDownLnIdeal := hDownLnIdeal) (hRefDownLnIdeal := hRefDownLnIdeal)
    ∧ preserves_MemFwd_MemFwdIdeal
    ∧ algebraic_MemFwdIdeal_RefMemFwdIdeal (hMemFwdIdeal := hMemFwdIdeal) (hRefMemFwdIdeal := hRefMemFwdIdeal)
    ∧ preserves_Rms_RmsIdeal
    ∧ algebraic_RmsIdeal_RefRmsIdeal (hRmsIdeal := hRmsIdeal) (hRefRmsIdeal := hRefRmsIdeal)
    ∧ preserves_LnGrad_LnGradIdeal
    ∧ algebraic_LnGradIdeal_RefLnGradIdeal_pre_products_finite (hLnGradIdeal := hLnGradIdeal) (hRefLnGradIdeal := hRefLnGradIdeal) (hPre_products_finite := hPre_products_finite)
    ∧ preserves_RmsGrad_RmsGradIdeal
    ∧ algebraic_RmsGradIdeal_RefRmsGradIdeal (hRmsGradIdeal := hRmsGradIdeal) (hRefRmsGradIdeal := hRefRmsGradIdeal)
    ∧ preserves_Loss_LossIdeal
    ∧ algebraic_LossIdeal_RefLossIdeal (hLossIdeal := hLossIdeal) (hRefLossIdeal := hRefLossIdeal)
    ∧ preserves_AdamIn_AdamInIdeal
    ∧ algebraic_AdamInIdeal_RefAdamInIdeal (hAdamInIdeal := hAdamInIdeal) (hRefAdamInIdeal := hRefAdamInIdeal)
    ∧ preserves_AdamSq_AdamSqIdeal
    ∧ algebraic_AdamSqIdeal_RefAdamSqIdeal (hAdamSqIdeal := hAdamSqIdeal) (hRefAdamSqIdeal := hRefAdamSqIdeal)
    ∧ preserves_AdamMkv_AdamMkvIdeal
    ∧ algebraic_AdamMkvIdeal_RefAdamMkvIdeal (hAdamMkvIdeal := hAdamMkvIdeal) (hRefAdamMkvIdeal := hRefAdamMkvIdeal)
    ∧ preserves_AdamUp_AdamUpIdeal
    ∧ algebraic_AdamUpIdeal_RefAdamUpIdeal (hAdamUpIdeal := hAdamUpIdeal) (hRefAdamUpIdeal := hRefAdamUpIdeal)
    ∧ preserves_AdamSmall_AdamSmallIdeal
    ∧ algebraic_AdamSmallIdeal_RefAdamSmallIdeal (hAdamSmallIdeal := hAdamSmallIdeal) (hRefAdamSmallIdeal := hRefAdamSmallIdeal)
    ∧ preserves_Window_WindowIdeal
    ∧ algebraic_WindowIdeal_RefWindowIdeal (hWindowIdeal := hWindowIdeal) (hRefWindowIdeal := hRefWindowIdeal)
    ∧ preserves_LossSum_LossSumIdeal
    ∧ algebraic_LossSumIdeal_RefLossSumIdeal (hLossSumIdeal := hLossSumIdeal) (hRefLossSumIdeal := hRefLossSumIdeal)
    ∧ preserves_LossAll_LossAllIdeal
    ∧ algebraic_LossAllIdeal_RefLossAllIdeal (hLossAllIdeal := hLossAllIdeal) (hRefLossAllIdeal := hRefLossAllIdeal)
    ∧ preserves_LnGains_LnGainsIdeal
    ∧ algebraic_LnGainsIdeal_RefLnGainsIdeal (hLnGainsIdeal := hLnGainsIdeal) (hRefLnGainsIdeal := hRefLnGainsIdeal)
    ∧ preserves_RmsGains_RmsGainsIdeal
    ∧ algebraic_RmsGainsIdeal_RefRmsGainsIdeal (hRmsGainsIdeal := hRmsGainsIdeal) (hRefRmsGainsIdeal := hRefRmsGainsIdeal)
-- ==== Pre_products_finite.lean ====
abbrev S4096x2048 : Shape := ⟨2, ![4096, 2048]⟩
abbrev S1x2048 : Shape := ⟨2, ![1, 2048]⟩
abbrev S_ : Shape := ⟨0, ![]⟩

class Facts : Prop where
  bcast_S1x2048_S4096x2048_0_1 : S1x2048.BroadcastsInDim S4096x2048 (![0, 1] : Fin 2 → Fin S4096x2048.rank)
  bcast_S_S4096x2048 : S_.BroadcastsInDim S4096x2048 (![] : Fin 0 → Fin S4096x2048.rank)

variable [Facts]

def fn {F : FTy → Type} [FloatOps F] (main_arg0 : FVec F S4096x2048 .f32) (main_arg1 : FVec F S4096x2048 .f32) (main_arg2 : FVec F S1x2048 .f32) : IVec S4096x2048 1 :=
  let main_v0 : FVec F S4096x2048 .f32 := broadcastInDim S4096x2048 ![0, 1] bcast_S1x2048_S4096x2048_0_1 main_arg2
  let main_v1 : FVec F S4096x2048 .f32 := mulf main_arg0 main_v0
  let main_v2 : FVec F S4096x2048 .f32 := Host.absf main_v1
  let main_cst : FVec F S_ .f32 := constant S_ .f32 0x7F800000#32
  let main_v3 : FVec F S4096x2048 .f32 := broadcastInDim S4096x2048 ![] bcast_S_S4096x2048 main_cst
  let main_v4 : IVec S4096x2048 1 := cmpf .olt main_v2 main_v3
  main_v4
-- ==== Pre_scores_finite.lean ====
abbrev S4096x2048 : Shape := ⟨2, ![4096, 2048]⟩
abbrev S256x4096 : Shape := ⟨2, ![256, 4096]⟩
abbrev S256x2048 : Shape := ⟨2, ![256, 2048]⟩
abbrev S_ : Shape := ⟨0, ![]⟩

class Facts : Prop where
  slices_S256x4096_S256x2048_0_0 : S256x4096.Slices ![0, 0] S256x2048
  bitsLt_bf16_f32 : FTy.bits .bf16 < FTy.bits .f32
  bcast_S_S4096x2048 : S_.BroadcastsInDim S4096x2048 (![] : Fin 0 → Fin S4096x2048.rank)
  bcast_S_S256x2048 : S_.BroadcastsInDim S256x2048 (![] : Fin 0 → Fin S256x2048.rank)

variable [Facts]

def fn {F : FTy → Type} [FloatOps F] (main_arg0 : FVec F S4096x2048 .bf16) (main_arg1 : FVec F S256x4096 .bf16) (main_arg2 : FVec F S4096x2048 .bf16) : IVec S4096x2048 1 × IVec S256x2048 1 :=
  let main_v0 : FVec F S256x2048 .bf16 := (extractStridedSlice S256x2048 ![0, 0] · slices_S256x4096_S256x2048_0_0) main_arg1
  let main_v1 : FVec F S4096x2048 .f32 := (extf .f32 · bitsLt_bf16_f32) main_arg0
  let main_v2 : FVec F S4096x2048 .f32 := Host.absf main_v1
  let main_cst : FVec F S_ .f32 := constant S_ .f32 0x7F800000#32
  let main_v3 : FVec F S4096x2048 .f32 := broadcastInDim S4096x2048 ![] bcast_S_S4096x2048 main_cst
  let main_v4 : IVec S4096x2048 1 := cmpf .olt main_v2 main_v3
  let main_v5 : FVec F S256x2048 .f32 := (extf .f32 · bitsLt_bf16_f32) main_v0
  let main_v6 : FVec F S256x2048 .f32 := Host.absf main_v5
  let main_cst_0 : FVec F S_ .f32 := constant S_ .f32 0x7F800000#32
  let main_v7 : FVec F S256x2048 .f32 := broadcastInDim S256x2048 ![] bcast_S_S256x2048 main_cst_0
  let main_v8 : IVec S256x2048 1 := cmpf .olt main_v6 main_v7
  (main_v4, main_v8)
-- ==== Mem.lean ====
abbrev S4096x2048 : Shape := ⟨2, ![4096, 2048]⟩
abbrev S256x4096 : Shape := ⟨2, ![256, 4096]⟩
abbrev S512x2048 : Shape := ⟨2, ![512, 2048]⟩
abbrev S512x512 : Shape := ⟨2, ![512, 512]⟩
abbrev S256x512 : Shape := ⟨2, ![256, 512]⟩
abbrev S512x256 : Shape := ⟨2, ![512, 256]⟩
abbrev S512 : Shape := ⟨1, ![512]⟩
abbrev S512x1 : Shape := ⟨2, ![512, 1]⟩

abbrev nBuf : Space → Nat
  | .hbm => 5
  | .vmem => 8
  | .smem => 0
  | _ => 0

abbrev bufTy : (tb : Table) → Fin (tcTables nBuf tb) → BufTy
  | .hbm, ⟨0, _⟩ => ⟨S4096x2048, .bf16⟩
  | .hbm, ⟨1, _⟩ => ⟨S256x4096, .bf16⟩
  | .hbm, ⟨2, _⟩ => ⟨S4096x2048, .bf16⟩
  | .hbm, ⟨3, _⟩ => ⟨S4096x2048, .bf16⟩
  | .hbm, ⟨4, _⟩ => ⟨S256x4096, .f32⟩
  | .local _ .vmem, ⟨0, _⟩ => ⟨S512x2048, .bf16⟩
  | .local _ .vmem, ⟨1, _⟩ => ⟨S512x2048, .bf16⟩
  | .local _ .vmem, ⟨2, _⟩ => ⟨S256x4096, .bf16⟩
  | .local _ .vmem, ⟨3, _⟩ => ⟨S512x2048, .bf16⟩
  | .local _ .vmem, ⟨4, _⟩ => ⟨S512x2048, .bf16⟩
  | .local _ .vmem, ⟨5, _⟩ => ⟨S512x2048, .bf16⟩
  | .local _ .vmem, ⟨6, _⟩ => ⟨S512x2048, .bf16⟩
  | .local _ .vmem, ⟨7, _⟩ => ⟨S256x4096, .f32⟩
  | _, _ => ⟨S4096x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0_0 : Ref sig .tc := ⟨.hbm, 3, rfl⟩
abbrev main_v0_1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S256x4096 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x2048 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x2048 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S256x4096 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]
-- ==== RefMemIdeal.lean ====
abbrev S4096x2048 : Shape := ⟨2, ![4096, 2048]⟩
abbrev S256x4096 : Shape := ⟨2, ![256, 4096]⟩
abbrev S256x2048 : Shape := ⟨2, ![256, 2048]⟩
abbrev S4096x4x512 : Shape := ⟨3, ![4096, 4, 512]⟩
abbrev S256x4x512 : Shape := ⟨3, ![256, 4, 512]⟩
abbrev S4x4096x256 : Shape := ⟨3, ![4, 4096, 256]⟩
abbrev S_ : Shape := ⟨0, ![]⟩
abbrev S4x4096 : Shape := ⟨2, ![4, 4096]⟩
abbrev S4x4096x1 : Shape := ⟨3, ![4, 4096, 1]⟩
abbrev S4x512x4096 : Shape := ⟨3, ![4, 512, 4096]⟩
abbrev S4x512x256 : Shape := ⟨3, ![4, 512, 256]⟩
abbrev S4x256x512 : Shape := ⟨3, ![4, 256, 512]⟩
abbrev S4x4096x512 : Shape := ⟨3, ![4, 4096, 512]⟩

abbrev nBuf : Space → Nat
  | .hbm => 87
  | .vmem => 0
  | .smem => 0
  | _ => 0

abbrev bufTy : (tb : Table) → Fin (tcTables nBuf tb) → BufTy
  | .hbm, ⟨0, _⟩ => ⟨S4096x2048, .bf16⟩
  | .hbm, ⟨1, _⟩ => ⟨S256x4096, .bf16⟩
  | .hbm, ⟨2, _⟩ => ⟨S4096x2048, .bf16⟩
  | .hbm, ⟨3, _⟩ => ⟨S4096x2048, .f32⟩
  | .hbm, ⟨4, _⟩ => ⟨S256x4096, .f32⟩
  | .hbm, ⟨5, _⟩ => ⟨S256x2048, .f32⟩
  | .hbm, ⟨6, _⟩ => ⟨S256x2048, .f32⟩
  | .hbm, ⟨7, _⟩ => ⟨S4096x4x512, .f32⟩
  | .hbm, ⟨8, _⟩ => ⟨S256x4x512, .f32⟩
  | .hbm, ⟨9, _⟩ => ⟨S256x4x512, .f32⟩
  | .hbm, ⟨10, _⟩ => ⟨S4x4096x256, .f32⟩
  | .hbm, ⟨11, _⟩ => ⟨S_, .f32⟩
  | .hbm, ⟨12, _⟩ => ⟨S4x4096x256, .f32⟩
  | .hbm, ⟨13, _⟩ => ⟨S4x4096x256, .f32⟩
  | .hbm, ⟨14, _⟩ => ⟨S_, .f32⟩
  | .hbm, ⟨15, _⟩ => ⟨S4x4096, .f32⟩
  | .hbm, ⟨16, _⟩ => ⟨S4x4096x1, .f32⟩
  | .hbm, ⟨17, _⟩ => ⟨S4x4096x256, .f32⟩
  | .hbm, ⟨18, _⟩ => ⟨S4x4096x256, .i1⟩
  | .hbm, ⟨19, _⟩ => ⟨S4x4096x256, .f32⟩
  | .hbm, ⟨20, _⟩ => ⟨S_, .f32⟩
  | .hbm, ⟨21, _⟩ => ⟨S4x4096, .f32⟩
  | .hbm, ⟨22, _⟩ => ⟨S_, .f32⟩
  | .hbm, ⟨23, _⟩ => ⟨S4x4096, .f32⟩
  | .hbm, ⟨24, _⟩ => ⟨S4x4096, .f32⟩
  | .hbm, ⟨25, _⟩ => ⟨S_, .f32⟩
  | .hbm, ⟨26, _⟩ => ⟨S4x4096, .f32⟩
  | .hbm, ⟨27, _⟩ => ⟨S4x4096, .i1⟩
  | .hbm, ⟨28, _⟩ => ⟨S_, .f32⟩
  | .hbm, ⟨29, _⟩ => ⟨S4x4096, .f32⟩
  | .hbm, ⟨30, _⟩ => ⟨S4x4096, .i1⟩
  | .hbm, ⟨31, _⟩ => ⟨S_, .f32⟩
  | .hbm, ⟨32, _⟩ => ⟨S4x4096, .f32⟩
  | .hbm, ⟨33, _⟩ => ⟨S_, .f32⟩
  | .hbm, ⟨34, _⟩ => ⟨S4x4096, .f32⟩
  | .hbm, ⟨35, _⟩ => ⟨S_, .f32⟩
  | .hbm, ⟨36, _⟩ => ⟨S4x4096, .f32⟩
  | .hbm, ⟨37, _⟩ => ⟨S4x4096, .f32⟩
  | .hbm, ⟨38, _⟩ => ⟨S4x4096, .f32⟩
  | .hbm, ⟨39, _⟩ => ⟨S4x4096x1, .f32⟩
  | .hbm, ⟨40, _⟩ => ⟨S4x4096x256, .f32⟩
  | .hbm, ⟨41, _⟩ => ⟨S4x4096x256, .f32⟩
  | .hbm, ⟨42, _⟩ => ⟨S4x4096x256, .f32⟩
  | .hbm, ⟨43, _⟩ => ⟨S_, .f32⟩
  | .hbm, ⟨44, _⟩ => ⟨S4x4096, .f32⟩
  | .hbm, ⟨45, _⟩ => ⟨S4x4096x1, .f32⟩
  | .hbm, ⟨46, _⟩ => ⟨S4x4096x256, .f32⟩
  | .hbm, ⟨47, _⟩ => ⟨S4x4096x256, .f32⟩
  | .hbm, ⟨48, _⟩ => ⟨S4x4096x1, .f32⟩
  | .hbm, ⟨49, _⟩ => ⟨S_, .f32⟩
  | .hbm, ⟨50, _⟩ => ⟨S4x4096x1, .f32⟩
  | .hbm, ⟨51, _⟩ => ⟨S4x4096x1, .f32⟩
  | .hbm, ⟨52, _⟩ => ⟨S4x512x4096, .f32⟩
  | .hbm, ⟨53, _⟩ => ⟨S4096x4x512, .f32⟩
  | .hbm, ⟨54, _⟩ => ⟨S4096x2048, .f32⟩
  | .hbm, ⟨55, _⟩ => ⟨S4096x2048, .f32⟩
  | .hbm, ⟨56, _⟩ => ⟨S4096x4x512, .f32⟩
  | .hbm, ⟨57, _⟩ => ⟨S4x512x4096, .f32⟩
  | .hbm, ⟨58, _⟩ => ⟨S4x4096x256, .f32⟩
  | .hbm, ⟨59, _⟩ => ⟨S4x512x256, .f32⟩
  | .hbm, ⟨60, _⟩ => ⟨S256x4x512, .f32⟩
  | .hbm, ⟨61, _⟩ => ⟨S4x4096x256, .f32⟩
  | .hbm, ⟨62, _⟩ => ⟨S4x4096x256, .f32⟩
  | .hbm, ⟨63, _⟩ => ⟨S4x4096x256, .f32⟩
  | .hbm, ⟨64, _⟩ => ⟨S_, .f32⟩
  | .hbm, ⟨65, _⟩ => ⟨S4x4096, .f32⟩
  | .hbm, ⟨66, _⟩ => ⟨S4x4096x1, .f32⟩
  | .hbm, ⟨67, _⟩ => ⟨S4x4096x1, .f32⟩
  | .hbm, ⟨68, _⟩ => ⟨S4x4096x256, .f32⟩
  | .hbm, ⟨69, _⟩ => ⟨S4x4096x256, .f32⟩
  | .hbm, ⟨70, _⟩ => ⟨S_, .f32⟩
  | .hbm, ⟨71, _⟩ => ⟨S4x4096, .f32⟩
  | .hbm, ⟨72, _⟩ => ⟨S4x4096x256, .f32⟩
  | .hbm, ⟨73, _⟩ => ⟨S4x4096x256, .f32⟩
  | .hbm, ⟨74, _⟩ => ⟨S4x4096x256, .f32⟩
  | .hbm, ⟨75, _⟩ => ⟨S_, .f32⟩
  | .hbm, ⟨76, _⟩ => ⟨S4x4096x256, .f32⟩
  | .hbm, ⟨77, _⟩ => ⟨S4x4096x256, .f32⟩
  | .hbm, ⟨78, _⟩ => ⟨S4x256x512, .f32⟩
  | .hbm, ⟨79, _⟩ => ⟨S256x4x512, .f32⟩
  | .hbm, ⟨80, _⟩ => ⟨S4x4096x512, .f32⟩
  | .hbm, ⟨81, _⟩ => ⟨S4096x4x512, .f32⟩
  | .hbm, ⟨82, _⟩ => ⟨S256x2048, .f32⟩
  | .hbm, ⟨83, _⟩ => ⟨S256x2048, .f32⟩
  | .hbm, ⟨84, _⟩ => ⟨S4096x2048, .f32⟩
  | .hbm, ⟨85, _⟩ => ⟨S256x4096, .f32⟩
  | .hbm, ⟨86, _⟩ => ⟨S4096x2048, .bf16⟩
  | _, _ => ⟨S4096x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_cst : Ref sig .tc := ⟨.hbm, 11, rfl⟩
abbrev main_v8 : Ref sig .tc := ⟨.hbm, 12, rfl⟩
abbrev main_v9 : Ref sig .tc := ⟨.hbm, 13, rfl⟩
abbrev main_cst_0 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_cst_1 : Ref sig .tc := ⟨.hbm, 20, rfl⟩
abbrev main_v15 : Ref sig .tc := ⟨.hbm, 21, rfl⟩
abbrev main_cst_2 : Ref sig .tc := ⟨.hbm, 22, rfl⟩
abbrev main_v16 : Ref sig .tc := ⟨.hbm, 23, rfl⟩
abbrev main_v17 : Ref sig .tc := ⟨.hbm, 24, rfl⟩
abbrev main_cst_3 : Ref sig .tc := ⟨.hbm, 25, rfl⟩
abbrev main_v18 : Ref sig .tc := ⟨.hbm, 26, rfl⟩
abbrev main_v19 : Ref sig .tc := ⟨.hbm, 27, rfl⟩
abbrev main_cst_4 : Ref sig .tc := ⟨.hbm, 28, rfl⟩
abbrev main_v20 : Ref sig .tc := ⟨.hbm, 29, rfl⟩
abbrev main_v21 : Ref sig .tc := ⟨.hbm, 30, rfl⟩
abbrev main_cst_5 : Ref sig .tc := ⟨.hbm, 31, rfl⟩
abbrev main_v22 : Ref sig .tc := ⟨.hbm, 32, rfl⟩
abbrev main_cst_6 : Ref sig .tc := ⟨.hbm, 33, rfl⟩
abbrev main_v23 : Ref sig .tc := ⟨.hbm, 34, rfl⟩
abbrev main_cst_7 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_cst_8 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_cst_9 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩
abbrev main_v41 : Ref sig .tc := ⟨.hbm, 55, rfl⟩
abbrev main_v42 : Ref sig .tc := ⟨.hbm, 56, rfl⟩
abbrev main_v43 : Ref sig .tc := ⟨.hbm, 57, rfl⟩
abbrev main_v44 : Ref sig .tc := ⟨.hbm, 58, rfl⟩
abbrev main_v45 : Ref sig .tc := ⟨.hbm, 59, rfl⟩
abbrev main_v46 : Ref sig .tc := ⟨.hbm, 60, rfl⟩
abbrev main_v47 : Ref sig .tc := ⟨.hbm, 61, rfl⟩
abbrev main_v48 : Ref sig .tc := ⟨.hbm, 62, rfl⟩
abbrev main_v49 : Ref sig .tc := ⟨.hbm, 63, rfl⟩
abbrev main_cst_10 : Ref sig .tc := ⟨.hbm, 64, rfl⟩
abbrev main_v50 : Ref sig .tc := ⟨.hbm, 65, rfl⟩
abbrev main_v51 : Ref sig .tc := ⟨.hbm, 66, rfl⟩
abbrev main_v52 : Ref sig .tc := ⟨.hbm, 67, rfl⟩
abbrev main_v53 : Ref sig .tc := ⟨.hbm, 68, rfl⟩
abbrev main_v54 : Ref sig .tc := ⟨.hbm, 69, rfl⟩
abbrev main_cst_11 : Ref sig .tc := ⟨.hbm, 70, rfl⟩
abbrev main_v55 : Ref sig .tc := ⟨.hbm, 71, rfl⟩
abbrev main_v56 : Ref sig .tc := ⟨.hbm, 72, rfl⟩
abbrev main_v57 : Ref sig .tc := ⟨.hbm, 73, rfl⟩
abbrev main_v58 : Ref sig .tc := ⟨.hbm, 74, rfl⟩
abbrev main_cst_12 : Ref sig .tc := ⟨.hbm, 75, rfl⟩
abbrev main_v59 : Ref sig .tc := ⟨.hbm, 76, rfl⟩
abbrev main_v60 : Ref sig .tc := ⟨.hbm, 77, rfl⟩
abbrev main_v61 : Ref sig .tc := ⟨.hbm, 78, rfl⟩
abbrev main_v62 : Ref sig .tc := ⟨.hbm, 79, rfl⟩
abbrev main_v63 : Ref sig .tc := ⟨.hbm, 80, rfl⟩
abbrev main_v64 : Ref sig .tc := ⟨.hbm, 81, rfl⟩
abbrev main_v65 : Ref sig .tc := ⟨.hbm, 82, rfl⟩
abbrev main_v66 : Ref sig .tc := ⟨.hbm, 83, rfl⟩
abbrev main_v67 : Ref sig .tc := ⟨.hbm, 84, rfl⟩
abbrev main_v68 : Ref sig .tc := ⟨.hbm, 85, rfl⟩
abbrev main_v69 : Ref sig .tc := ⟨.hbm, 86, rfl⟩

abbrev nD : Nat := 1
abbrev τ : Topo := Topo.v7x

variable {F : FTy → Type} [FloatOps F]
-- ==== DwDown.lean ====
abbrev S4096x8192 : Shape := ⟨2, ![4096, 8192]⟩
abbrev S4096x2048 : Shape := ⟨2, ![4096, 2048]⟩
abbrev S1x8192x2048 : Shape := ⟨3, ![1, 8192, 2048]⟩
abbrev S2048x1024 : Shape := ⟨2, ![2048, 1024]⟩
abbrev S1x1024x1024 : Shape := ⟨3, ![1, 1024, 1024]⟩
abbrev S1024x1024 : Shape := ⟨2, ![1024, 1024]⟩

abbrev nBuf : Space → Nat
  | .hbm => 3
  | .vmem => 7
  | .smem => 0
  | _ => 0

abbrev bufTy : (tb : Table) → Fin (tcTables nBuf tb) → BufTy
  | .hbm, ⟨0, _⟩ => ⟨S4096x8192, .bf16⟩
  | .hbm, ⟨1, _⟩ => ⟨S4096x2048, .bf16⟩
  | .hbm, ⟨2, _⟩ => ⟨S1x8192x2048, .bf16⟩
  | .local _ .vmem, ⟨0, _⟩ => ⟨S2048x1024, .bf16⟩
  | .local _ .vmem, ⟨1, _⟩ => ⟨S2048x1024, .bf16⟩
  | .local _ .vmem, ⟨2, _⟩ => ⟨S2048x1024, .bf16⟩
  | .local _ .vmem, ⟨3, _⟩ => ⟨S2048x1024, .bf16⟩
  | .local _ .vmem, ⟨4, _⟩ => ⟨S1x1024x1024, .bf16⟩
  | .local _ .vmem, ⟨5, _⟩ => ⟨S1x1024x1024, .bf16⟩
  | .local _ .vmem, ⟨6, _⟩ => ⟨S1024x1024, .f32⟩
  | _, _ => ⟨S4096x8192, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![8, 2, 2], ![false, false, false]⟩

def k0_cond2 (i : grid0.Coords) : BitVec 1 :=
  let arg2 : BitVec 32 := BitVec.ofNat 32 (i 2).val
  let c1_i32 : BitVec 32 := 1#32
  let v11 : BitVec 1 := Scalar.cmpi .eq arg2 c1_i32
  let v12 : BitVec 32 := Scalar.extui v11
  let c0_i32_8 : BitVec 32 := 0#32
  let v13 : BitVec 1 := Scalar.cmpi .ne v12 c0_i32_8
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let v0 : BitVec 32 := Scalar.divsi arg1 c2_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg1 c2_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c2_i32_4 : BitVec 32 := 2#32
  let c0_i32_5 : BitVec 32 := 0#32
  let v17 : BitVec 1 := Scalar.cmpi .eq c2_i32_4 c0_i32_5
  let c1_i32_6 : BitVec 32 := 1#32
  let v18 : BitVec 32 := Scalar.select v17 c1_i32_6 c2_i32_4
  let v19 : BitVec 32 := Scalar.remsi arg1 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  ![v16.toNat, arg0.toNat, v26.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1x1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== RefDwDownIdeal.lean ====
abbrev S4096x8192 : Shape := ⟨2, ![4096, 8192]⟩
abbrev S4096x2048 : Shape := ⟨2, ![4096, 2048]⟩
abbrev S_ : Shape := ⟨0, ![]⟩
abbrev S1x8192x2048 : Shape := ⟨3, ![1, 8192, 2048]⟩
abbrev S8192x1x2048 : Shape := ⟨3, ![8192, 1, 2048]⟩
abbrev S8192x2048 : Shape := ⟨2, ![8192, 2048]⟩
abbrev S2048x8192 : Shape := ⟨2, ![2048, 8192]⟩

abbrev nBuf : Space → Nat
  | .hbm => 14
  | .vmem => 0
  | .smem => 0
  | _ => 0

abbrev bufTy : (tb : Table) → Fin (tcTables nBuf tb) → BufTy
  | .hbm, ⟨0, _⟩ => ⟨S4096x8192, .bf16⟩
  | .hbm, ⟨1, _⟩ => ⟨S4096x2048, .bf16⟩
  | .hbm, ⟨2, _⟩ => ⟨S_, .f32⟩
  | .hbm, ⟨3, _⟩ => ⟨S1x8192x2048, .f32⟩
  | .hbm, ⟨4, _⟩ => ⟨S4096x8192, .f32⟩
  | .hbm, ⟨5, _⟩ => ⟨S8192x1x2048, .f32⟩
  | .hbm, ⟨6, _⟩ => ⟨S8192x2048, .f32⟩
  | .hbm, ⟨7, _⟩ => ⟨S4096x2048, .f32⟩
  | .hbm, ⟨8, _⟩ => ⟨S4096x2048, .f32⟩
  | .hbm, ⟨9, _⟩ => ⟨S2048x8192, .f32⟩
  | .hbm, ⟨10, _⟩ => ⟨S8192x2048, .f32⟩
  | .hbm, ⟨11, _⟩ => ⟨S8192x1x2048, .f32⟩
  | .hbm, ⟨12, _⟩ => ⟨S1x8192x2048, .f32⟩
  | .hbm, ⟨13, _⟩ => ⟨S1x8192x2048, .bf16⟩
  | _, _ => ⟨S4096x8192, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩

abbrev nD : Nat := 1
abbrev τ : Topo := Topo.v7x

variable {F : FTy → Type} [FloatOps F]
-- ==== DwUp.lean ====
abbrev S4096x2048 : Shape := ⟨2, ![4096, 2048]⟩
abbrev S4096x8192 : Shape := ⟨2, ![4096, 8192]⟩
abbrev S4x2048x2048 : Shape := ⟨3, ![4, 2048, 2048]⟩
abbrev S2048x1024 : Shape := ⟨2, ![2048, 1024]⟩
abbrev S1x1024x1024 : Shape := ⟨3, ![1, 1024, 1024]⟩
abbrev S1024x1024 : Shape := ⟨2, ![1024, 1024]⟩

abbrev nBuf : Space → Nat
  | .hbm => 3
  | .vmem => 7
  | .smem => 0
  | _ => 0

abbrev bufTy : (tb : Table) → Fin (tcTables nBuf tb) → BufTy
  | .hbm, ⟨0, _⟩ => ⟨S4096x2048, .bf16⟩
  | .hbm, ⟨1, _⟩ => ⟨S4096x8192, .bf16⟩
  | .hbm, ⟨2, _⟩ => ⟨S4x2048x2048, .bf16⟩
  | .local _ .vmem, ⟨0, _⟩ => ⟨S2048x1024, .bf16⟩
  | .local _ .vmem, ⟨1, _⟩ => ⟨S2048x1024, .bf16⟩
  | .local _ .vmem, ⟨2, _⟩ => ⟨S2048x1024, .bf16⟩
  | .local _ .vmem, ⟨3, _⟩ => ⟨S2048x1024, .bf16⟩
  | .local _ .vmem, ⟨4, _⟩ => ⟨S1x1024x1024, .bf16⟩
  | .local _ .vmem, ⟨5, _⟩ => ⟨S1x1024x1024, .bf16⟩
  | .local _ .vmem, ⟨6, _⟩ => ⟨S1024x1024, .f32⟩
  | _, _ => ⟨S4096x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 8, 2], ![false, false, false]⟩

def k0_cond2 (i : grid0.Coords) : BitVec 1 :=
  let arg2 : BitVec 32 := BitVec.ofNat 32 (i 2).val
  let c1_i32 : BitVec 32 := 1#32
  let v11 : BitVec 1 := Scalar.cmpi .eq arg2 c1_i32
  let v12 : BitVec 32 := Scalar.extui v11
  let c0_i32_8 : BitVec 32 := 0#32
  let v13 : BitVec 1 := Scalar.cmpi .ne v12 c0_i32_8
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let v0 : BitVec 32 := Scalar.divsi arg1 c2_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg1 c2_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c2_i32_4 : BitVec 32 := 2#32
  let c0_i32_5 : BitVec 32 := 0#32
  let v17 : BitVec 1 := Scalar.cmpi .eq c2_i32_4 c0_i32_5
  let c1_i32_6 : BitVec 32 := 1#32
  let v18 : BitVec 32 := Scalar.select v17 c1_i32_6 c2_i32_4
  let v19 : BitVec 32 := Scalar.remsi arg1 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  ![v16.toNat, arg0.toNat, v26.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1x1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== RefDwUpIdeal.lean ====
abbrev S4096x2048 : Shape := ⟨2, ![4096, 2048]⟩
abbrev S4096x8192 : Shape := ⟨2, ![4096, 8192]⟩
abbrev S_ : Shape := ⟨0, ![]⟩
abbrev S4x2048x2048 : Shape := ⟨3, ![4, 2048, 2048]⟩
abbrev S2048x4x2048 : Shape := ⟨3, ![2048, 4, 2048]⟩
abbrev S2048x8192 : Shape := ⟨2, ![2048, 8192]⟩
abbrev S8192x2048 : Shape := ⟨2, ![8192, 2048]⟩

abbrev nBuf : Space → Nat
  | .hbm => 14
  | .vmem => 0
  | .smem => 0
  | _ => 0

abbrev bufTy : (tb : Table) → Fin (tcTables nBuf tb) → BufTy
  | .hbm, ⟨0, _⟩ => ⟨S4096x2048, .bf16⟩
  | .hbm, ⟨1, _⟩ => ⟨S4096x8192, .bf16⟩
  | .hbm, ⟨2, _⟩ => ⟨S_, .f32⟩
  | .hbm, ⟨3, _⟩ => ⟨S4x2048x2048, .f32⟩
  | .hbm, ⟨4, _⟩ => ⟨S4096x2048, .f32⟩
  | .hbm, ⟨5, _⟩ => ⟨S2048x4x2048, .f32⟩
  | .hbm, ⟨6, _⟩ => ⟨S2048x8192, .f32⟩
  | .hbm, ⟨7, _⟩ => ⟨S4096x8192, .f32⟩
  | .hbm, ⟨8, _⟩ => ⟨S4096x8192, .f32⟩
  | .hbm, ⟨9, _⟩ => ⟨S8192x2048, .f32⟩
  | .hbm, ⟨10, _⟩ => ⟨S2048x8192, .f32⟩
  | .hbm, ⟨11, _⟩ => ⟨S2048x4x2048, .f32⟩
  | .hbm, ⟨12, _⟩ => ⟨S4x2048x2048, .f32⟩
  | .hbm, ⟨13, _⟩ => ⟨S4x2048x2048, .bf16⟩
  | _, _ => ⟨S4096x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩

abbrev nD : Nat := 1
abbrev τ : Topo := Topo.v7x

variable {F : FTy → Type} [FloatOps F]
-- ==== DwSq.lean ====
abbrev S4096x2048 : Shape := ⟨2, ![4096, 2048]⟩
abbrev S1x2048x2048 : Shape := ⟨3, ![1, 2048, 2048]⟩
abbrev S2048x1024 : Shape := ⟨2, ![2048, 1024]⟩
abbrev S1x1024x1024 : Shape := ⟨3, ![1, 1024, 1024]⟩
abbrev S1024x1024 : Shape := ⟨2, ![1024, 1024]⟩

abbrev nBuf : Space → Nat
  | .hbm => 3
  | .vmem => 7
  | .smem => 0
  | _ => 0

abbrev bufTy : (tb : Table) → Fin (tcTables nBuf tb) → BufTy
  | .hbm, ⟨0, _⟩ => ⟨S4096x2048, .bf16⟩
  | .hbm, ⟨1, _⟩ => ⟨S4096x2048, .bf16⟩
  | .hbm, ⟨2, _⟩ => ⟨S1x2048x2048, .bf16⟩
  | .local _ .vmem, ⟨0, _⟩ => ⟨S2048x1024, .bf16⟩
  | .local _ .vmem, ⟨1, _⟩ => ⟨S2048x1024, .bf16⟩
  | .local _ .vmem, ⟨2, _⟩ => ⟨S2048x1024, .bf16⟩
  | .local _ .vmem, ⟨3, _⟩ => ⟨S2048x1024, .bf16⟩
  | .local _ .vmem, ⟨4, _⟩ => ⟨S1x1024x1024, .bf16⟩
  | .local _ .vmem, ⟨5, _⟩ => ⟨S1x1024x1024, .bf16⟩
  | .local _ .vmem, ⟨6, _⟩ => ⟨S1024x1024, .f32⟩
  | _, _ => ⟨S4096x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 2, 2], ![false, false, false]⟩

def k0_cond2 (i : grid0.Coords) : BitVec 1 :=
  let arg2 : BitVec 32 := BitVec.ofNat 32 (i 2).val
  let c1_i32 : BitVec 32 := 1#32
  let v11 : BitVec 1 := Scalar.cmpi .eq arg2 c1_i32
  let v12 : BitVec 32 := Scalar.extui v11
  let c0_i32_8 : BitVec 32 := 0#32
  let v13 : BitVec 1 := Scalar.cmpi .ne v12 c0_i32_8
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let v0 : BitVec 32 := Scalar.divsi arg1 c2_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg1 c2_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c2_i32_4 : BitVec 32 := 2#32
  let c0_i32_5 : BitVec 32 := 0#32
  let v17 : BitVec 1 := Scalar.cmpi .eq c2_i32_4 c0_i32_5
  let c1_i32_6 : BitVec 32 := 1#32
  let v18 : BitVec 32 := Scalar.select v17 c1_i32_6 c2_i32_4
  let v19 : BitVec 32 := Scalar.remsi arg1 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  ![v16.toNat, arg0.toNat, v26.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1x1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== RefDwSqIdeal.lean ====
abbrev S4096x2048 : Shape := ⟨2, ![4096, 2048]⟩
abbrev S_ : Shape := ⟨0, ![]⟩
abbrev S1x2048x2048 : Shape := ⟨3, ![1, 2048, 2048]⟩
abbrev S2048x1x2048 : Shape := ⟨3, ![2048, 1, 2048]⟩
abbrev S2048x2048 : Shape := ⟨2, ![2048, 2048]⟩

abbrev nBuf : Space → Nat
  | .hbm => 14
  | .vmem => 0
  | .smem => 0
  | _ => 0

abbrev bufTy : (tb : Table) → Fin (tcTables nBuf tb) → BufTy
  | .hbm, ⟨0, _⟩ => ⟨S4096x2048, .bf16⟩
  | .hbm, ⟨1, _⟩ => ⟨S4096x2048, .bf16⟩
  | .hbm, ⟨2, _⟩ => ⟨S_, .f32⟩
  | .hbm, ⟨3, _⟩ => ⟨S1x2048x2048, .f32⟩
  | .hbm, ⟨4, _⟩ => ⟨S4096x2048, .f32⟩
  | .hbm, ⟨5, _⟩ => ⟨S2048x1x2048, .f32⟩
  | .hbm, ⟨6, _⟩ => ⟨S2048x2048, .f32⟩
  | .hbm, ⟨7, _⟩ => ⟨S4096x2048, .f32⟩
  | .hbm, ⟨8, _⟩ => ⟨S4096x2048, .f32⟩
  | .hbm, ⟨9, _⟩ => ⟨S2048x2048, .f32⟩
  | .hbm, ⟨10, _⟩ => ⟨S2048x2048, .f32⟩
  | .hbm, ⟨11, _⟩ => ⟨S2048x1x2048, .f32⟩
  | .hbm, ⟨12, _⟩ => ⟨S1x2048x2048, .f32⟩
  | .hbm, ⟨13, _⟩ => ⟨S1x2048x2048, .bf16⟩
  | _, _ => ⟨S4096x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩

abbrev nD : Nat := 1
abbrev τ : Topo := Topo.v7x

variable {F : FTy → Type} [FloatOps F]
-- ==== DwMkv.lean ====
abbrev S256x2048 : Shape := ⟨2, ![256, 2048]⟩
abbrev S256x4096 : Shape := ⟨2, ![256, 4096]⟩
abbrev S4x2048x1024 : Shape := ⟨3, ![4, 2048, 1024]⟩
abbrev S256x1024 : Shape := ⟨2, ![256, 1024]⟩
abbrev S1x1024x1024 : Shape := ⟨3, ![1, 1024, 1024]⟩
abbrev S1024x1024 : Shape := ⟨2, ![1024, 1024]⟩

abbrev nBuf : Space → Nat
  | .hbm => 3
  | .vmem => 7
  | .smem => 0
  | _ => 0

abbrev bufTy : (tb : Table) → Fin (tcTables nBuf tb) → BufTy
  | .hbm, ⟨0, _⟩ => ⟨S256x2048, .bf16⟩
  | .hbm, ⟨1, _⟩ => ⟨S256x4096, .bf16⟩
  | .hbm, ⟨2, _⟩ => ⟨S4x2048x1024, .bf16⟩
  | .local _ .vmem, ⟨0, _⟩ => ⟨S256x1024, .bf16⟩
  | .local _ .vmem, ⟨1, _⟩ => ⟨S256x1024, .bf16⟩
  | .local _ .vmem, ⟨2, _⟩ => ⟨S256x1024, .bf16⟩
  | .local _ .vmem, ⟨3, _⟩ => ⟨S256x1024, .bf16⟩
  | .local _ .vmem, ⟨4, _⟩ => ⟨S1x1024x1024, .bf16⟩
  | .local _ .vmem, ⟨5, _⟩ => ⟨S1x1024x1024, .bf16⟩
  | .local _ .vmem, ⟨6, _⟩ => ⟨S1024x1024, .f32⟩
  | _, _ => ⟨S256x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 4, 1], ![false, false, false]⟩

def k0_cond2 (i : grid0.Coords) : BitVec 1 :=
  let arg2 : BitVec 32 := BitVec.ofNat 32 (i 2).val
  let c0_i32_8 : BitVec 32 := 0#32
  let v11 : BitVec 1 := Scalar.cmpi .eq arg2 c0_i32_8
  let v12 : BitVec 32 := Scalar.extui v11
  let c0_i32_9 : BitVec 32 := 0#32
  let v13 : BitVec 1 := Scalar.cmpi .ne v12 c0_i32_9
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.divsi arg1 c1_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg1 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c1_i32_5 : BitVec 32 := 1#32
  let c0_i32_6 : BitVec 32 := 0#32
  let v17 : BitVec 1 := Scalar.cmpi .eq c1_i32_5 c0_i32_6
  let c1_i32_7 : BitVec 32 := 1#32
  let v18 : BitVec 32 := Scalar.select v17 c1_i32_7 c1_i32_5
  let v19 : BitVec 32 := Scalar.remsi arg1 v18
  let c0_i32_8 : BitVec 32 := 0#32
  let v20 : BitVec 1 := Scalar.cmpi .ne v19 c0_i32_8
  let c0_i32_9 : BitVec 32 := 0#32
  let v21 : BitVec 1 := Scalar.cmpi .slt v19 c0_i32_9
  let c0_i32_10 : BitVec 32 := 0#32
  let v22 : BitVec 1 := Scalar.cmpi .slt v18 c0_i32_10
  let v23 : BitVec 1 := Scalar.xori v21 v22
  let v24 : BitVec 1 := Scalar.andi v23 v20
  let v25 : BitVec 32 := Scalar.addi v19 v18
  let v26 : BitVec 32 := Scalar.select v24 v25 v19
  let c0_i32_11 : BitVec 32 := 0#32
  ![v16.toNat, arg0.toNat, v26.toNat]

abbrev stage0_0 : Fin 2 → Memref sig .tc .vmem S256x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S256x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1x1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== RefDwMkvIdeal.lean ====
abbrev S256x2048 : Shape := ⟨2, ![256, 2048]⟩
abbrev S256x4096 : Shape := ⟨2, ![256, 4096]⟩
abbrev S_ : Shape := ⟨0, ![]⟩
abbrev S4x2048x1024 : Shape := ⟨3, ![4, 2048, 1024]⟩
abbrev S2048x4x1024 : Shape := ⟨3, ![2048, 4, 1024]⟩
abbrev S2048x4096 : Shape := ⟨2, ![2048, 4096]⟩
abbrev S4096x2048 : Shape := ⟨2, ![4096, 2048]⟩

abbrev nBuf : Space → Nat
  | .hbm => 14
  | .vmem => 0
  | .smem => 0
  | _ => 0

abbrev bufTy : (tb : Table) → Fin (tcTables nBuf tb) → BufTy
  | .hbm, ⟨0, _⟩ => ⟨S256x2048, .bf16⟩
  | .hbm, ⟨1, _⟩ => ⟨S256x4096, .bf16⟩
  | .hbm, ⟨2, _⟩ => ⟨S_, .f32⟩
  | .hbm, ⟨3, _⟩ => ⟨S4x2048x1024, .f32⟩
  | .hbm, ⟨4, _⟩ => ⟨S256x2048, .f32⟩
  | .hbm, ⟨5, _⟩ => ⟨S2048x4x1024, .f32⟩
  | .hbm, ⟨6, _⟩ => ⟨S2048x4096, .f32⟩
  | .hbm, ⟨7, _⟩ => ⟨S256x4096, .f32⟩
  | .hbm, ⟨8, _⟩ => ⟨S256x4096, .f32⟩
  | .hbm, ⟨9, _⟩ => ⟨S4096x2048, .f32⟩
  | .hbm, ⟨10, _⟩ => ⟨S2048x4096, .f32⟩
  | .hbm, ⟨11, _⟩ => ⟨S2048x4x1024, .f32⟩
  | .hbm, ⟨12, _⟩ => ⟨S4x2048x1024, .f32⟩
  | .hbm, ⟨13, _⟩ => ⟨S4x2048x1024, .bf16⟩
  | _, _ => ⟨S256x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩

abbrev nD : Nat := 1
abbrev τ : Topo := Topo.v7x

variable {F : FTy → Type} [FloatOps F]
-- ==== DwIn.lean ====
abbrev S4096x2048 : Shape := ⟨2, ![4096, 2048]⟩
abbrev S4096x4352 : Shape := ⟨2, ![4096, 4352]⟩
abbrev S1x2048x4352 : Shape := ⟨3, ![1, 2048, 4352]⟩
abbrev S2048x1024 : Shape := ⟨2, ![2048, 1024]⟩
abbrev S2048x2176 : Shape := ⟨2, ![2048, 2176]⟩
abbrev S1x1024x2176 : Shape := ⟨3, ![1, 1024, 2176]⟩
abbrev S1024x2176 : Shape := ⟨2, ![1024, 2176]⟩

abbrev nBuf : Space → Nat
  | .hbm => 3
  | .vmem => 7
  | .smem => 0
  | _ => 0

abbrev bufTy : (tb : Table) → Fin (tcTables nBuf tb) → BufTy
  | .hbm, ⟨0, _⟩ => ⟨S4096x2048, .bf16⟩
  | .hbm, ⟨1, _⟩ => ⟨S4096x4352, .bf16⟩
  | .hbm, ⟨2, _⟩ => ⟨S1x2048x4352, .bf16⟩
  | .local _ .vmem, ⟨0, _⟩ => ⟨S2048x1024, .bf16⟩
  | .local _ .vmem, ⟨1, _⟩ => ⟨S2048x1024, .bf16⟩
  | .local _ .vmem, ⟨2, _⟩ => ⟨S2048x2176, .bf16⟩
  | .local _ .vmem, ⟨3, _⟩ => ⟨S2048x2176, .bf16⟩
  | .local _ .vmem, ⟨4, _⟩ => ⟨S1x1024x2176, .bf16⟩
  | .local _ .vmem, ⟨5, _⟩ => ⟨S1x1024x2176, .bf16⟩
  | .local _ .vmem, ⟨6, _⟩ => ⟨S1024x2176, .f32⟩
  | _, _ => ⟨S4096x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 2, 2], ![false, false, false]⟩

def k0_cond2 (i : grid0.Coords) : BitVec 1 :=
  let arg2 : BitVec 32 := BitVec.ofNat 32 (i 2).val
  let c1_i32 : BitVec 32 := 1#32
  let v11 : BitVec 1 := Scalar.cmpi .eq arg2 c1_i32
  let v12 : BitVec 32 := Scalar.extui v11
  let c0_i32_8 : BitVec 32 := 0#32
  let v13 : BitVec 1 := Scalar.cmpi .ne v12 c0_i32_8
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let v0 : BitVec 32 := Scalar.divsi arg1 c2_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg1 c2_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c2_i32_4 : BitVec 32 := 2#32
  let c0_i32_5 : BitVec 32 := 0#32
  let v17 : BitVec 1 := Scalar.cmpi .eq c2_i32_4 c0_i32_5
  let c1_i32_6 : BitVec 32 := 1#32
  let v18 : BitVec 32 := Scalar.select v17 c1_i32_6 c2_i32_4
  let v19 : BitVec 32 := Scalar.remsi arg1 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  ![v16.toNat, arg0.toNat, v26.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x2176 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1x1024x2176 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== RefDwInIdeal.lean ====
abbrev S4096x2048 : Shape := ⟨2, ![4096, 2048]⟩
abbrev S4096x4352 : Shape := ⟨2, ![4096, 4352]⟩
abbrev S_ : Shape := ⟨0, ![]⟩
abbrev S1x2048x4352 : Shape := ⟨3, ![1, 2048, 4352]⟩
abbrev S2048x1x4352 : Shape := ⟨3, ![2048, 1, 4352]⟩
abbrev S2048x4352 : Shape := ⟨2, ![2048, 4352]⟩
abbrev S4352x2048 : Shape := ⟨2, ![4352, 2048]⟩

abbrev nBuf : Space → Nat
  | .hbm => 14
  | .vmem => 0
  | .smem => 0
  | _ => 0

abbrev bufTy : (tb : Table) → Fin (tcTables nBuf tb) → BufTy
  | .hbm, ⟨0, _⟩ => ⟨S4096x2048, .bf16⟩
  | .hbm, ⟨1, _⟩ => ⟨S4096x4352, .bf16⟩
  | .hbm, ⟨2, _⟩ => ⟨S_, .f32⟩
  | .hbm, ⟨3, _⟩ => ⟨S1x2048x4352, .f32⟩
  | .hbm, ⟨4, _⟩ => ⟨S4096x2048, .f32⟩
  | .hbm, ⟨5, _⟩ => ⟨S2048x1x4352, .f32⟩
  | .hbm, ⟨6, _⟩ => ⟨S2048x4352, .f32⟩
  | .hbm, ⟨7, _⟩ => ⟨S4096x4352, .f32⟩
  | .hbm, ⟨8, _⟩ => ⟨S4096x4352, .f32⟩
  | .hbm, ⟨9, _⟩ => ⟨S4352x2048, .f32⟩
  | .hbm, ⟨10, _⟩ => ⟨S2048x4352, .f32⟩
  | .hbm, ⟨11, _⟩ => ⟨S2048x1x4352, .f32⟩
  | .hbm, ⟨12, _⟩ => ⟨S1x2048x4352, .f32⟩
  | .hbm, ⟨13, _⟩ => ⟨S1x2048x4352, .bf16⟩
  | _, _ => ⟨S4096x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩

abbrev nD : Nat := 1
abbrev τ : Topo := Topo.v7x

variable {F : FTy → Type} [FloatOps F]
-- ==== Du.lean ====
abbrev S4096x2048 : Shape := ⟨2, ![4096, 2048]⟩
abbrev S1x8192x2048 : Shape := ⟨3, ![1, 8192, 2048]⟩
abbrev S4096x8192 : Shape := ⟨2, ![4096, 8192]⟩
abbrev S1024x2048 : Shape := ⟨2, ![1024, 2048]⟩
abbrev S1x1024x2048 : Shape := ⟨3, ![1, 1024, 2048]⟩
abbrev S1024x1024 : Shape := ⟨2, ![1024, 1024]⟩

abbrev nBuf : Space → Nat
  | .hbm => 4
  | .vmem => 8
  | .smem => 0
  | _ => 0

abbrev bufTy : (tb : Table) → Fin (tcTables nBuf tb) → BufTy
  | .hbm, ⟨0, _⟩ => ⟨S4096x2048, .bf16⟩
  | .hbm, ⟨1, _⟩ => ⟨S1x8192x2048, .bf16⟩
  | .hbm, ⟨2, _⟩ => ⟨S4096x8192, .bf16⟩
  | .hbm, ⟨3, _⟩ => ⟨S4096x8192, .bf16⟩
  | .local _ .vmem, ⟨0, _⟩ => ⟨S1024x2048, .bf16⟩
  | .local _ .vmem, ⟨1, _⟩ => ⟨S1024x2048, .bf16⟩
  | .local _ .vmem, ⟨2, _⟩ => ⟨S1x1024x2048, .bf16⟩
  | .local _ .vmem, ⟨3, _⟩ => ⟨S1x1024x2048, .bf16⟩
  | .local _ .vmem, ⟨4, _⟩ => ⟨S1024x1024, .bf16⟩
  | .local _ .vmem, ⟨5, _⟩ => ⟨S1024x1024, .bf16⟩
  | .local _ .vmem, ⟨6, _⟩ => ⟨S1024x1024, .bf16⟩
  | .local _ .vmem, ⟨7, _⟩ => ⟨S1024x1024, .bf16⟩
  | _, _ => ⟨S4096x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![4, 8, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.divsi arg2 c1_i32
  let c0_i32 : BitVec 32 := 0#32
  let v1 : BitVec 1 := Scalar.cmpi .sgt arg2 c0_i32
  let v2 : BitVec 32 := Scalar.extui v1
  let c0_i32_0 : BitVec 32 := 0#32
  let v3 : BitVec 1 := Scalar.cmpi .slt arg2 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg2 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c1_i32_5 : BitVec 32 := 1#32
  let c0_i32_6 : BitVec 32 := 0#32
  let v17 : BitVec 1 := Scalar.cmpi .eq c1_i32_5 c0_i32_6
  let c1_i32_7 : BitVec 32 := 1#32
  let v18 : BitVec 32 := Scalar.select v17 c1_i32_7 c1_i32_5
  let v19 : BitVec 32 := Scalar.remsi arg2 v18
  let c0_i32_8 : BitVec 32 := 0#32
  let v20 : BitVec 1 := Scalar.cmpi .ne v19 c0_i32_8
  let c0_i32_9 : BitVec 32 := 0#32
  let v21 : BitVec 1 := Scalar.cmpi .slt v19 c0_i32_9
  let c0_i32_10 : BitVec 32 := 0#32
  let v22 : BitVec 1 := Scalar.cmpi .slt v18 c0_i32_10
  let v23 : BitVec 1 := Scalar.xori v21 v22
  let v24 : BitVec 1 := Scalar.andi v23 v20
  let v25 : BitVec 32 := Scalar.addi v19 v18
  let v26 : BitVec 32 := Scalar.select v24 v25 v19
  let c0_i32_11 : BitVec 32 := 0#32
  ![v16.toNat, arg1.toNat, v26.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1x1024x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1024x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== RefDuIdeal.lean ====
abbrev S4096x2048 : Shape := ⟨2, ![4096, 2048]⟩
abbrev S1x8192x2048 : Shape := ⟨3, ![1, 8192, 2048]⟩
abbrev S4096x8192 : Shape := ⟨2, ![4096, 8192]⟩
abbrev S_ : Shape := ⟨0, ![]⟩
abbrev S8192x2048 : Shape := ⟨2, ![8192, 2048]⟩

abbrev nBuf : Space → Nat
  | .hbm => 25
  | .vmem => 0
  | .smem => 0
  | _ => 0

abbrev bufTy : (tb : Table) → Fin (tcTables nBuf tb) → BufTy
  | .hbm, ⟨0, _⟩ => ⟨S4096x2048, .bf16⟩
  | .hbm, ⟨1, _⟩ => ⟨S1x8192x2048, .bf16⟩
  | .hbm, ⟨2, _⟩ => ⟨S4096x8192, .bf16⟩
  | .hbm, ⟨3, _⟩ => ⟨S4096x8192, .f32⟩
  | .hbm, ⟨4, _⟩ => ⟨S_, .f32⟩
  | .hbm, ⟨5, _⟩ => ⟨S4096x8192, .f32⟩
  | .hbm, ⟨6, _⟩ => ⟨S4096x8192, .f32⟩
  | .hbm, ⟨7, _⟩ => ⟨S_, .f32⟩
  | .hbm, ⟨8, _⟩ => ⟨S4096x8192, .f32⟩
  | .hbm, ⟨9, _⟩ => ⟨S4096x8192, .i1⟩
  | .hbm, ⟨10, _⟩ => ⟨S_, .f32⟩
  | .hbm, ⟨11, _⟩ => ⟨S4096x8192, .f32⟩
  | .hbm, ⟨12, _⟩ => ⟨S4096x8192, .f32⟩
  | .hbm, ⟨13, _⟩ => ⟨S8192x2048, .bf16⟩
  | .hbm, ⟨14, _⟩ => ⟨S8192x2048, .f32⟩
  | .hbm, ⟨15, _⟩ => ⟨S4096x2048, .f32⟩
  | .hbm, ⟨16, _⟩ => ⟨S4096x2048, .f32⟩
  | .hbm, ⟨17, _⟩ => ⟨S4096x8192, .f32⟩
  | .hbm, ⟨18, _⟩ => ⟨S4096x8192, .f32⟩
  | .hbm, ⟨19, _⟩ => ⟨S4096x8192, .f32⟩
  | .hbm, ⟨20, _⟩ => ⟨S4096x8192, .f32⟩
  | .hbm, ⟨21, _⟩ => ⟨S_, .f32⟩
  | .hbm, ⟨22, _⟩ => ⟨S4096x8192, .f32⟩
  | .hbm, ⟨23, _⟩ => ⟨S4096x8192, .f32⟩
  | .hbm, ⟨24, _⟩ => ⟨S4096x8192, .bf16⟩
  | _, _ => ⟨S4096x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_call0_cst : Ref sig .tc := ⟨.hbm, 4, rfl⟩
abbrev main_call0_v0 : Ref sig .tc := ⟨.hbm, 5, rfl⟩
abbrev main_v1 : Ref sig .tc := ⟨.hbm, 6, rfl⟩
abbrev main_cst : Ref sig .tc := ⟨.hbm, 7, rfl⟩
abbrev main_v2 : Ref sig .tc := ⟨.hbm, 8, rfl⟩
abbrev main_v3 : Ref sig .tc := ⟨.hbm, 9, rfl⟩
abbrev main_cst_0 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_cst_1 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩

abbrev nD : Nat := 1
abbrev τ : Topo := Topo.v7x

variable {F : FTy → Type} [FloatOps F]
-- ==== Do.lean ====
abbrev S4096x2048 : Shape := ⟨2, ![4096, 2048]⟩
abbrev S1x2048x2048 : Shape := ⟨3, ![1, 2048, 2048]⟩
abbrev S1024x2048 : Shape := ⟨2, ![1024, 2048]⟩
abbrev S1x1024x2048 : Shape := ⟨3, ![1, 1024, 2048]⟩
abbrev S1024x1024 : Shape := ⟨2, ![1024, 1024]⟩

abbrev nBuf : Space → Nat
  | .hbm => 3
  | .vmem => 6
  | .smem => 0
  | _ => 0

abbrev bufTy : (tb : Table) → Fin (tcTables nBuf tb) → BufTy
  | .hbm, ⟨0, _⟩ => ⟨S4096x2048, .bf16⟩
  | .hbm, ⟨1, _⟩ => ⟨S1x2048x2048, .bf16⟩
  | .hbm, ⟨2, _⟩ => ⟨S4096x2048, .bf16⟩
  | .local _ .vmem, ⟨0, _⟩ => ⟨S1024x2048, .bf16⟩
  | .local _ .vmem, ⟨1, _⟩ => ⟨S1024x2048, .bf16⟩
  | .local _ .vmem, ⟨2, _⟩ => ⟨S1x1024x2048, .bf16⟩
  | .local _ .vmem, ⟨3, _⟩ => ⟨S1x1024x2048, .bf16⟩
  | .local _ .vmem, ⟨4, _⟩ => ⟨S1024x1024, .bf16⟩
  | .local _ .vmem, ⟨5, _⟩ => ⟨S1024x1024, .bf16⟩
  | _, _ => ⟨S4096x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 2, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.divsi arg2 c1_i32
  let c0_i32 : BitVec 32 := 0#32
  let v1 : BitVec 1 := Scalar.cmpi .sgt arg2 c0_i32
  let v2 : BitVec 32 := Scalar.extui v1
  let c0_i32_0 : BitVec 32 := 0#32
  let v3 : BitVec 1 := Scalar.cmpi .slt arg2 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg2 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c1_i32_5 : BitVec 32 := 1#32
  let c0_i32_6 : BitVec 32 := 0#32
  let v17 : BitVec 1 := Scalar.cmpi .eq c1_i32_5 c0_i32_6
  let c1_i32_7 : BitVec 32 := 1#32
  let v18 : BitVec 32 := Scalar.select v17 c1_i32_7 c1_i32_5
  let v19 : BitVec 32 := Scalar.remsi arg2 v18
  let c0_i32_8 : BitVec 32 := 0#32
  let v20 : BitVec 1 := Scalar.cmpi .ne v19 c0_i32_8
  let c0_i32_9 : BitVec 32 := 0#32
  let v21 : BitVec 1 := Scalar.cmpi .slt v19 c0_i32_9
  let c0_i32_10 : BitVec 32 := 0#32
  let v22 : BitVec 1 := Scalar.cmpi .slt v18 c0_i32_10
  let v23 : BitVec 1 := Scalar.xori v21 v22
  let v24 : BitVec 1 := Scalar.andi v23 v20
  let v25 : BitVec 32 := Scalar.addi v19 v18
  let v26 : BitVec 32 := Scalar.select v24 v25 v19
  let c0_i32_11 : BitVec 32 := 0#32
  ![v16.toNat, arg1.toNat, v26.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1x1024x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== RefDoIdeal.lean ====
abbrev S4096x2048 : Shape := ⟨2, ![4096, 2048]⟩
abbrev S1x2048x2048 : Shape := ⟨3, ![1, 2048, 2048]⟩
abbrev S_ : Shape := ⟨0, ![]⟩
abbrev S2048x1x2048 : Shape := ⟨3, ![2048, 1, 2048]⟩
abbrev S2048x2048 : Shape := ⟨2, ![2048, 2048]⟩

abbrev nBuf : Space → Nat
  | .hbm => 11
  | .vmem => 0
  | .smem => 0
  | _ => 0

abbrev bufTy : (tb : Table) → Fin (tcTables nBuf tb) → BufTy
  | .hbm, ⟨0, _⟩ => ⟨S4096x2048, .bf16⟩
  | .hbm, ⟨1, _⟩ => ⟨S1x2048x2048, .bf16⟩
  | .hbm, ⟨2, _⟩ => ⟨S_, .f32⟩
  | .hbm, ⟨3, _⟩ => ⟨S4096x2048, .f32⟩
  | .hbm, ⟨4, _⟩ => ⟨S1x2048x2048, .f32⟩
  | .hbm, ⟨5, _⟩ => ⟨S2048x1x2048, .f32⟩
  | .hbm, ⟨6, _⟩ => ⟨S2048x2048, .f32⟩
  | .hbm, ⟨7, _⟩ => ⟨S4096x2048, .f32⟩
  | .hbm, ⟨8, _⟩ => ⟨S4096x2048, .f32⟩
  | .hbm, ⟨9, _⟩ => ⟨S4096x2048, .f32⟩
  | .hbm, ⟨10, _⟩ => ⟨S4096x2048, .bf16⟩
  | _, _ => ⟨S4096x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩

abbrev nD : Nat := 1
abbrev τ : Topo := Topo.v7x

variable {F : FTy → Type} [FloatOps F]
-- ==== Dymix.lean ====
abbrev S4096x2048 : Shape := ⟨2, ![4096, 2048]⟩
abbrev S1x2048x2048 : Shape := ⟨3, ![1, 2048, 2048]⟩
abbrev S1024x2048 : Shape := ⟨2, ![1024, 2048]⟩
abbrev S1x1024x2048 : Shape := ⟨3, ![1, 1024, 2048]⟩
abbrev S1024x1024 : Shape := ⟨2, ![1024, 1024]⟩

abbrev nBuf : Space → Nat
  | .hbm => 3
  | .vmem => 6
  | .smem => 0
  | _ => 0

abbrev bufTy : (tb : Table) → Fin (tcTables nBuf tb) → BufTy
  | .hbm, ⟨0, _⟩ => ⟨S4096x2048, .bf16⟩
  | .hbm, ⟨1, _⟩ => ⟨S1x2048x2048, .bf16⟩
  | .hbm, ⟨2, _⟩ => ⟨S4096x2048, .f32⟩
  | .local _ .vmem, ⟨0, _⟩ => ⟨S1024x2048, .bf16⟩
  | .local _ .vmem, ⟨1, _⟩ => ⟨S1024x2048, .bf16⟩
  | .local _ .vmem, ⟨2, _⟩ => ⟨S1x1024x2048, .bf16⟩
  | .local _ .vmem, ⟨3, _⟩ => ⟨S1x1024x2048, .bf16⟩
  | .local _ .vmem, ⟨4, _⟩ => ⟨S1024x1024, .f32⟩
  | .local _ .vmem, ⟨5, _⟩ => ⟨S1024x1024, .f32⟩
  | _, _ => ⟨S4096x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 2, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.divsi arg2 c1_i32
  let c0_i32 : BitVec 32 := 0#32
  let v1 : BitVec 1 := Scalar.cmpi .sgt arg2 c0_i32
  let v2 : BitVec 32 := Scalar.extui v1
  let c0_i32_0 : BitVec 32 := 0#32
  let v3 : BitVec 1 := Scalar.cmpi .slt arg2 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg2 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c1_i32_5 : BitVec 32 := 1#32
  let c0_i32_6 : BitVec 32 := 0#32
  let v17 : BitVec 1 := Scalar.cmpi .eq c1_i32_5 c0_i32_6
  let c1_i32_7 : BitVec 32 := 1#32
  let v18 : BitVec 32 := Scalar.select v17 c1_i32_7 c1_i32_5
  let v19 : BitVec 32 := Scalar.remsi arg2 v18
  let c0_i32_8 : BitVec 32 := 0#32
  let v20 : BitVec 1 := Scalar.cmpi .ne v19 c0_i32_8
  let c0_i32_9 : BitVec 32 := 0#32
  let v21 : BitVec 1 := Scalar.cmpi .slt v19 c0_i32_9
  let c0_i32_10 : BitVec 32 := 0#32
  let v22 : BitVec 1 := Scalar.cmpi .slt v18 c0_i32_10
  let v23 : BitVec 1 := Scalar.xori v21 v22
  let v24 : BitVec 1 := Scalar.andi v23 v20
  let v25 : BitVec 32 := Scalar.addi v19 v18
  let v26 : BitVec 32 := Scalar.select v24 v25 v19
  let c0_i32_11 : BitVec 32 := 0#32
  ![v16.toNat, arg1.toNat, v26.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1x1024x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== RefDymixIdeal.lean ====
abbrev S4096x2048 : Shape := ⟨2, ![4096, 2048]⟩
abbrev S1x2048x2048 : Shape := ⟨3, ![1, 2048, 2048]⟩
abbrev S_ : Shape := ⟨0, ![]⟩
abbrev S2048x1x2048 : Shape := ⟨3, ![2048, 1, 2048]⟩
abbrev S2048x2048 : Shape := ⟨2, ![2048, 2048]⟩

abbrev nBuf : Space → Nat
  | .hbm => 10
  | .vmem => 0
  | .smem => 0
  | _ => 0

abbrev bufTy : (tb : Table) → Fin (tcTables nBuf tb) → BufTy
  | .hbm, ⟨0, _⟩ => ⟨S4096x2048, .bf16⟩
  | .hbm, ⟨1, _⟩ => ⟨S1x2048x2048, .bf16⟩
  | .hbm, ⟨2, _⟩ => ⟨S_, .f32⟩
  | .hbm, ⟨3, _⟩ => ⟨S4096x2048, .f32⟩
  | .hbm, ⟨4, _⟩ => ⟨S1x2048x2048, .f32⟩
  | .hbm, ⟨5, _⟩ => ⟨S2048x1x2048, .f32⟩
  | .hbm, ⟨6, _⟩ => ⟨S2048x2048, .f32⟩
  | .hbm, ⟨7, _⟩ => ⟨S4096x2048, .f32⟩
  | .hbm, ⟨8, _⟩ => ⟨S4096x2048, .f32⟩
  | .hbm, ⟨9, _⟩ => ⟨S4096x2048, .f32⟩
  | _, _ => ⟨S4096x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== Dx1.lean ====
abbrev S4096x2048 : Shape := ⟨2, ![4096, 2048]⟩
abbrev S1x2048x2048 : Shape := ⟨3, ![1, 2048, 2048]⟩
abbrev S1024x2048 : Shape := ⟨2, ![1024, 2048]⟩
abbrev S1x1024x2048 : Shape := ⟨3, ![1, 1024, 2048]⟩
abbrev S1024x1024 : Shape := ⟨2, ![1024, 1024]⟩

abbrev nBuf : Space → Nat
  | .hbm => 4
  | .vmem => 8
  | .smem => 0
  | _ => 0

abbrev bufTy : (tb : Table) → Fin (tcTables nBuf tb) → BufTy
  | .hbm, ⟨0, _⟩ => ⟨S4096x2048, .bf16⟩
  | .hbm, ⟨1, _⟩ => ⟨S1x2048x2048, .bf16⟩
  | .hbm, ⟨2, _⟩ => ⟨S4096x2048, .f32⟩
  | .hbm, ⟨3, _⟩ => ⟨S4096x2048, .f32⟩
  | .local _ .vmem, ⟨0, _⟩ => ⟨S1024x2048, .bf16⟩
  | .local _ .vmem, ⟨1, _⟩ => ⟨S1024x2048, .bf16⟩
  | .local _ .vmem, ⟨2, _⟩ => ⟨S1x1024x2048, .bf16⟩
  | .local _ .vmem, ⟨3, _⟩ => ⟨S1x1024x2048, .bf16⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | .local _ .vmem, ⟨7, _⟩ => ⟨S1024x1024, .f32⟩
  | _, _ => ⟨S4096x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![4, 2, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.divsi arg2 c1_i32
  let c0_i32 : BitVec 32 := 0#32
  let v1 : BitVec 1 := Scalar.cmpi .sgt arg2 c0_i32
  let v2 : BitVec 32 := Scalar.extui v1
  let c0_i32_0 : BitVec 32 := 0#32
  let v3 : BitVec 1 := Scalar.cmpi .slt arg2 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg2 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c1_i32_5 : BitVec 32 := 1#32
  let c0_i32_6 : BitVec 32 := 0#32
  let v17 : BitVec 1 := Scalar.cmpi .eq c1_i32_5 c0_i32_6
  let c1_i32_7 : BitVec 32 := 1#32
  let v18 : BitVec 32 := Scalar.select v17 c1_i32_7 c1_i32_5
  let v19 : BitVec 32 := Scalar.remsi arg2 v18
  let c0_i32_8 : BitVec 32 := 0#32
  let v20 : BitVec 1 := Scalar.cmpi .ne v19 c0_i32_8
  let c0_i32_9 : BitVec 32 := 0#32
  let v21 : BitVec 1 := Scalar.cmpi .slt v19 c0_i32_9
  let c0_i32_10 : BitVec 32 := 0#32
  let v22 : BitVec 1 := Scalar.cmpi .slt v18 c0_i32_10
  let v23 : BitVec 1 := Scalar.xori v21 v22
  let v24 : BitVec 1 := Scalar.andi v23 v20
  let v25 : BitVec 32 := Scalar.addi v19 v18
  let v26 : BitVec 32 := Scalar.select v24 v25 v19
  let c0_i32_11 : BitVec 32 := 0#32
  ![v16.toNat, arg1.toNat, v26.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1x1024x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1024x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== RefDx1Ideal.lean ====
abbrev S4096x2048 : Shape := ⟨2, ![4096, 2048]⟩
abbrev S1x2048x2048 : Shape := ⟨3, ![1, 2048, 2048]⟩
abbrev S_ : Shape := ⟨0, ![]⟩
abbrev S2048x1x2048 : Shape := ⟨3, ![2048, 1, 2048]⟩
abbrev S2048x2048 : Shape := ⟨2, ![2048, 2048]⟩

abbrev nBuf : Space → Nat
  | .hbm => 18
  | .vmem => 0
  | .smem => 0
  | _ => 0

abbrev bufTy : (tb : Table) → Fin (tcTables nBuf tb) → BufTy
  | .hbm, ⟨0, _⟩ => ⟨S4096x2048, .bf16⟩
  | .hbm, ⟨1, _⟩ => ⟨S1x2048x2048, .bf16⟩
  | .hbm, ⟨2, _⟩ => ⟨S4096x2048, .f32⟩
  | .hbm, ⟨3, _⟩ => ⟨S_, .f32⟩
  | .hbm, ⟨4, _⟩ => ⟨S4096x2048, .f32⟩
  | .hbm, ⟨5, _⟩ => ⟨S1x2048x2048, .f32⟩
  | .hbm, ⟨6, _⟩ => ⟨S2048x1x2048, .f32⟩
  | .hbm, ⟨7, _⟩ => ⟨S2048x2048, .f32⟩
  | .hbm, ⟨8, _⟩ => ⟨S4096x2048, .f32⟩
  | .hbm, ⟨9, _⟩ => ⟨S_, .f32⟩
  | .hbm, ⟨10, _⟩ => ⟨S4096x2048, .f32⟩
  | .hbm, ⟨11, _⟩ => ⟨S4096x2048, .f32⟩
  | .hbm, ⟨12, _⟩ => ⟨S4096x2048, .f32⟩
  | .hbm, ⟨13, _⟩ => ⟨S_, .f32⟩
  | .hbm, ⟨14, _⟩ => ⟨S4096x2048, .f32⟩
  | .hbm, ⟨15, _⟩ => ⟨S4096x2048, .f32⟩
  | .hbm, ⟨16, _⟩ => ⟨S4096x2048, .f32⟩
  | .hbm, ⟨17, _⟩ => ⟨S4096x2048, .f32⟩
  | _, _ => ⟨S4096x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_cst_0 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_cst_1 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩

abbrev nD : Nat := 1
abbrev τ : Topo := Topo.v7x

variable {F : FTy → Type} [FloatOps F]
-- ==== Dx2.lean ====
abbrev S4096x8192 : Shape := ⟨2, ![4096, 8192]⟩
abbrev S4x2048x2048 : Shape := ⟨3, ![4, 2048, 2048]⟩
abbrev S4096x2048 : Shape := ⟨2, ![4096, 2048]⟩
abbrev S1024x2048 : Shape := ⟨2, ![1024, 2048]⟩
abbrev S1x1024x2048 : Shape := ⟨3, ![1, 1024, 2048]⟩
abbrev S1024x1024 : Shape := ⟨2, ![1024, 1024]⟩

abbrev nBuf : Space → Nat
  | .hbm => 4
  | .vmem => 9
  | .smem => 0
  | _ => 0

abbrev bufTy : (tb : Table) → Fin (tcTables nBuf tb) → BufTy
  | .hbm, ⟨0, _⟩ => ⟨S4096x8192, .bf16⟩
  | .hbm, ⟨1, _⟩ => ⟨S4x2048x2048, .bf16⟩
  | .hbm, ⟨2, _⟩ => ⟨S4096x2048, .f32⟩
  | .hbm, ⟨3, _⟩ => ⟨S4096x2048, .f32⟩
  | .local _ .vmem, ⟨0, _⟩ => ⟨S1024x2048, .bf16⟩
  | .local _ .vmem, ⟨1, _⟩ => ⟨S1024x2048, .bf16⟩
  | .local _ .vmem, ⟨2, _⟩ => ⟨S1x1024x2048, .bf16⟩
  | .local _ .vmem, ⟨3, _⟩ => ⟨S1x1024x2048, .bf16⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | .local _ .vmem, ⟨7, _⟩ => ⟨S1024x1024, .f32⟩
  | .local _ .vmem, ⟨8, _⟩ => ⟨S1024x1024, .f32⟩
  | _, _ => ⟨S4096x8192, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![4, 2, 4], ![false, false, false]⟩

def k0_cond2 (i : grid0.Coords) : BitVec 1 :=
  let arg2 : BitVec 32 := BitVec.ofNat 32 (i 2).val
  let c3_i32 : BitVec 32 := 3#32
  let v12 : BitVec 1 := Scalar.cmpi .eq arg2 c3_i32
  let v13 : BitVec 32 := Scalar.extui v12
  let c0_i32_9 : BitVec 32 := 0#32
  let v14 : BitVec 1 := Scalar.cmpi .ne v13 c0_i32_9
  v14

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.divsi arg2 c1_i32
  let c0_i32 : BitVec 32 := 0#32
  let v1 : BitVec 1 := Scalar.cmpi .sgt arg2 c0_i32
  let v2 : BitVec 32 := Scalar.extui v1
  let c0_i32_0 : BitVec 32 := 0#32
  let v3 : BitVec 1 := Scalar.cmpi .slt arg2 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg2 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c1_i32_5 : BitVec 32 := 1#32
  let c0_i32_6 : BitVec 32 := 0#32
  let v17 : BitVec 1 := Scalar.cmpi .eq c1_i32_5 c0_i32_6
  let c1_i32_7 : BitVec 32 := 1#32
  let v18 : BitVec 32 := Scalar.select v17 c1_i32_7 c1_i32_5
  let v19 : BitVec 32 := Scalar.remsi arg2 v18
  let c0_i32_8 : BitVec 32 := 0#32
  let v20 : BitVec 1 := Scalar.cmpi .ne v19 c0_i32_8
  let c0_i32_9 : BitVec 32 := 0#32
  let v21 : BitVec 1 := Scalar.cmpi .slt v19 c0_i32_9
  let c0_i32_10 : BitVec 32 := 0#32
  let v22 : BitVec 1 := Scalar.cmpi .slt v18 c0_i32_10
  let v23 : BitVec 1 := Scalar.xori v21 v22
  let v24 : BitVec 1 := Scalar.andi v23 v20
  let v25 : BitVec 32 := Scalar.addi v19 v18
  let v26 : BitVec 32 := Scalar.select v24 v25 v19
  let c0_i32_11 : BitVec 32 := 0#32
  ![v16.toNat, arg1.toNat, v26.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1x1024x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1024x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== RefDx2Ideal.lean ====
abbrev S4096x8192 : Shape := ⟨2, ![4096, 8192]⟩
abbrev S4x2048x2048 : Shape := ⟨3, ![4, 2048, 2048]⟩
abbrev S4096x2048 : Shape := ⟨2, ![4096, 2048]⟩
abbrev S_ : Shape := ⟨0, ![]⟩
abbrev S2048x4x2048 : Shape := ⟨3, ![2048, 4, 2048]⟩
abbrev S2048x8192 : Shape := ⟨2, ![2048, 8192]⟩

abbrev nBuf : Space → Nat
  | .hbm => 18
  | .vmem => 0
  | .smem => 0
  | _ => 0

abbrev bufTy : (tb : Table) → Fin (tcTables nBuf tb) → BufTy
  | .hbm, ⟨0, _⟩ => ⟨S4096x8192, .bf16⟩
  | .hbm, ⟨1, _⟩ => ⟨S4x2048x2048, .bf16⟩
  | .hbm, ⟨2, _⟩ => ⟨S4096x2048, .f32⟩
  | .hbm, ⟨3, _⟩ => ⟨S_, .f32⟩
  | .hbm, ⟨4, _⟩ => ⟨S4096x2048, .f32⟩
  | .hbm, ⟨5, _⟩ => ⟨S4x2048x2048, .f32⟩
  | .hbm, ⟨6, _⟩ => ⟨S2048x4x2048, .f32⟩
  | .hbm, ⟨7, _⟩ => ⟨S2048x8192, .f32⟩
  | .hbm, ⟨8, _⟩ => ⟨S4096x8192, .f32⟩
  | .hbm, ⟨9, _⟩ => ⟨S_, .f32⟩
  | .hbm, ⟨10, _⟩ => ⟨S4096x2048, .f32⟩
  | .hbm, ⟨11, _⟩ => ⟨S4096x2048, .f32⟩
  | .hbm, ⟨12, _⟩ => ⟨S4096x8192, .f32⟩
  | .hbm, ⟨13, _⟩ => ⟨S_, .f32⟩
  | .hbm, ⟨14, _⟩ => ⟨S4096x2048, .f32⟩
  | .hbm, ⟨15, _⟩ => ⟨S4096x2048, .f32⟩
  | .hbm, ⟨16, _⟩ => ⟨S4096x2048, .f32⟩
  | .hbm, ⟨17, _⟩ => ⟨S4096x2048, .f32⟩
  | _, _ => ⟨S4096x8192, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_cst_0 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_cst_1 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩

abbrev nD : Nat := 1
abbrev τ : Topo := Topo.v7x

variable {F : FTy → Type} [FloatOps F]
-- ==== Dx0.lean ====
abbrev S4096x4352 : Shape := ⟨2, ![4096, 4352]⟩
abbrev S1x2048x4352 : Shape := ⟨3, ![1, 2048, 4352]⟩
abbrev S4096x2048 : Shape := ⟨2, ![4096, 2048]⟩
abbrev S1024x2176 : Shape := ⟨2, ![1024, 2176]⟩
abbrev S1x1024x2176 : Shape := ⟨3, ![1, 1024, 2176]⟩
abbrev S1024x1024 : Shape := ⟨2, ![1024, 1024]⟩

abbrev nBuf : Space → Nat
  | .hbm => 4
  | .vmem => 9
  | .smem => 0
  | _ => 0

abbrev bufTy : (tb : Table) → Fin (tcTables nBuf tb) → BufTy
  | .hbm, ⟨0, _⟩ => ⟨S4096x4352, .bf16⟩
  | .hbm, ⟨1, _⟩ => ⟨S1x2048x4352, .bf16⟩
  | .hbm, ⟨2, _⟩ => ⟨S4096x2048, .f32⟩
  | .hbm, ⟨3, _⟩ => ⟨S4096x2048, .f32⟩
  | .local _ .vmem, ⟨0, _⟩ => ⟨S1024x2176, .bf16⟩
  | .local _ .vmem, ⟨1, _⟩ => ⟨S1024x2176, .bf16⟩
  | .local _ .vmem, ⟨2, _⟩ => ⟨S1x1024x2176, .bf16⟩
  | .local _ .vmem, ⟨3, _⟩ => ⟨S1x1024x2176, .bf16⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | .local _ .vmem, ⟨7, _⟩ => ⟨S1024x1024, .f32⟩
  | .local _ .vmem, ⟨8, _⟩ => ⟨S1024x1024, .f32⟩
  | _, _ => ⟨S4096x4352, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![4, 2, 2], ![false, false, false]⟩

def k0_cond2 (i : grid0.Coords) : BitVec 1 :=
  let arg2 : BitVec 32 := BitVec.ofNat 32 (i 2).val
  let c1_i32 : BitVec 32 := 1#32
  let v12 : BitVec 1 := Scalar.cmpi .eq arg2 c1_i32
  let v13 : BitVec 32 := Scalar.extui v12
  let c0_i32_9 : BitVec 32 := 0#32
  let v14 : BitVec 1 := Scalar.cmpi .ne v13 c0_i32_9
  v14

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let v0 : BitVec 32 := Scalar.divsi arg2 c2_i32
  let c0_i32 : BitVec 32 := 0#32
  let v1 : BitVec 1 := Scalar.cmpi .sgt arg2 c0_i32
  let v2 : BitVec 32 := Scalar.extui v1
  let c0_i32_0 : BitVec 32 := 0#32
  let v3 : BitVec 1 := Scalar.cmpi .slt arg2 c0_i32_0
  let v4 : BitVec 32 := Scalar.extui v3
  let v5 : BitVec 32 := Scalar.subi v2 v4
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg2 c2_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c2_i32_4 : BitVec 32 := 2#32
  let c0_i32_5 : BitVec 32 := 0#32
  let v17 : BitVec 1 := Scalar.cmpi .eq c2_i32_4 c0_i32_5
  let c1_i32_6 : BitVec 32 := 1#32
  let v18 : BitVec 32 := Scalar.select v17 c1_i32_6 c2_i32_4
  let v19 : BitVec 32 := Scalar.remsi arg2 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  ![v16.toNat, arg1.toNat, v26.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2176 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1x1024x2176 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1024x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== RefDx0Ideal.lean ====
abbrev S4096x4352 : Shape := ⟨2, ![4096, 4352]⟩
abbrev S1x2048x4352 : Shape := ⟨3, ![1, 2048, 4352]⟩
abbrev S4096x2048 : Shape := ⟨2, ![4096, 2048]⟩
abbrev S_ : Shape := ⟨0, ![]⟩
abbrev S2048x1x4352 : Shape := ⟨3, ![2048, 1, 4352]⟩
abbrev S2048x4352 : Shape := ⟨2, ![2048, 4352]⟩

abbrev nBuf : Space → Nat
  | .hbm => 18
  | .vmem => 0
  | .smem => 0
  | _ => 0

abbrev bufTy : (tb : Table) → Fin (tcTables nBuf tb) → BufTy
  | .hbm, ⟨0, _⟩ => ⟨S4096x4352, .bf16⟩
  | .hbm, ⟨1, _⟩ => ⟨S1x2048x4352, .bf16⟩
  | .hbm, ⟨2, _⟩ => ⟨S4096x2048, .f32⟩
  | .hbm, ⟨3, _⟩ => ⟨S_, .f32⟩
  | .hbm, ⟨4, _⟩ => ⟨S4096x2048, .f32⟩
  | .hbm, ⟨5, _⟩ => ⟨S1x2048x4352, .f32⟩
  | .hbm, ⟨6, _⟩ => ⟨S2048x1x4352, .f32⟩
  | .hbm, ⟨7, _⟩ => ⟨S2048x4352, .f32⟩
  | .hbm, ⟨8, _⟩ => ⟨S4096x4352, .f32⟩
  | .hbm, ⟨9, _⟩ => ⟨S_, .f32⟩
  | .hbm, ⟨10, _⟩ => ⟨S4096x2048, .f32⟩
  | .hbm, ⟨11, _⟩ => ⟨S4096x2048, .f32⟩
  | .hbm, ⟨12, _⟩ => ⟨S4096x4352, .f32⟩
  | .hbm, ⟨13, _⟩ => ⟨S_, .f32⟩
  | .hbm, ⟨14, _⟩ => ⟨S4096x2048, .f32⟩
  | .hbm, ⟨15, _⟩ => ⟨S4096x2048, .f32⟩
  | .hbm, ⟨16, _⟩ => ⟨S4096x2048, .f32⟩
  | .hbm, ⟨17, _⟩ => ⟨S4096x2048, .f32⟩
  | _, _ => ⟨S4096x4352, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_cst_0 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_cst_1 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩

abbrev nD : Nat := 1
abbrev τ : Topo := Topo.v7x

variable {F : FTy → Type} [FloatOps F]
-- ==== Hin.lean ====
abbrev S4096x2048 : Shape := ⟨2, ![4096, 2048]⟩
abbrev S1x2048x4352 : Shape := ⟨3, ![1, 2048, 4352]⟩
abbrev S4096x4352 : Shape := ⟨2, ![4096, 4352]⟩
abbrev S1024x2048 : Shape := ⟨2, ![1024, 2048]⟩
abbrev S1x2048x2176 : Shape := ⟨3, ![1, 2048, 2176]⟩
abbrev S1024x2176 : Shape := ⟨2, ![1024, 2176]⟩
abbrev S2048x2176 : Shape := ⟨2, ![2048, 2176]⟩

abbrev nBuf : Space → Nat
  | .hbm => 3
  | .vmem => 6
  | .smem => 0
  | _ => 0

abbrev bufTy : (tb : Table) → Fin (tcTables nBuf tb) → BufTy
  | .hbm, ⟨0, _⟩ => ⟨S4096x2048, .bf16⟩
  | .hbm, ⟨1, _⟩ => ⟨S1x2048x4352, .bf16⟩
  | .hbm, ⟨2, _⟩ => ⟨S4096x4352, .f32⟩
  | .local _ .vmem, ⟨0, _⟩ => ⟨S1024x2048, .bf16⟩
  | .local _ .vmem, ⟨1, _⟩ => ⟨S1024x2048, .bf16⟩
  | .local _ .vmem, ⟨2, _⟩ => ⟨S1x2048x2176, .bf16⟩
  | .local _ .vmem, ⟨3, _⟩ => ⟨S1x2048x2176, .bf16⟩
  | .local _ .vmem, ⟨4, _⟩ => ⟨S1024x2176, .f32⟩
  | .local _ .vmem, ⟨5, _⟩ => ⟨S1024x2176, .f32⟩
  | _, _ => ⟨S4096x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 2, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let v0 : BitVec 32 := Scalar.divsi arg1 c2_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg1 c2_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c2_i32_4 : BitVec 32 := 2#32
  let c0_i32_5 : BitVec 32 := 0#32
  let v17 : BitVec 1 := Scalar.cmpi .eq c2_i32_4 c0_i32_5
  let c1_i32_6 : BitVec 32 := 1#32
  let v18 : BitVec 32 := Scalar.select v17 c1_i32_6 c2_i32_4
  let v19 : BitVec 32 := Scalar.remsi arg1 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  ![v16.toNat, arg2.toNat, v26.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1x2048x2176 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x2176 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== RefHinIdeal.lean ====
abbrev S4096x2048 : Shape := ⟨2, ![4096, 2048]⟩
abbrev S1x2048x4352 : Shape := ⟨3, ![1, 2048, 4352]⟩
abbrev S2048x1x4352 : Shape := ⟨3, ![2048, 1, 4352]⟩
abbrev S2048x4352 : Shape := ⟨2, ![2048, 4352]⟩
abbrev S4096x4352 : Shape := ⟨2, ![4096, 4352]⟩

abbrev nBuf : Space → Nat
  | .hbm => 7
  | .vmem => 0
  | .smem => 0
  | _ => 0

abbrev bufTy : (tb : Table) → Fin (tcTables nBuf tb) → BufTy
  | .hbm, ⟨0, _⟩ => ⟨S4096x2048, .bf16⟩
  | .hbm, ⟨1, _⟩ => ⟨S1x2048x4352, .bf16⟩
  | .hbm, ⟨2, _⟩ => ⟨S4096x2048, .f32⟩
  | .hbm, ⟨3, _⟩ => ⟨S1x2048x4352, .f32⟩
  | .hbm, ⟨4, _⟩ => ⟨S2048x1x4352, .f32⟩
  | .hbm, ⟨5, _⟩ => ⟨S2048x4352, .f32⟩
  | .hbm, ⟨6, _⟩ => ⟨S4096x4352, .f32⟩
  | _, _ => ⟨S4096x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩

abbrev nD : Nat := 1
abbrev τ : Topo := Topo.v7x

variable {F : FTy → Type} [FloatOps F]
-- ==== Mq.lean ====
abbrev S4096x2048 : Shape := ⟨2, ![4096, 2048]⟩
abbrev S1x2048x2048 : Shape := ⟨3, ![1, 2048, 2048]⟩
abbrev S1024x2048 : Shape := ⟨2, ![1024, 2048]⟩
abbrev S1x2048x1024 : Shape := ⟨3, ![1, 2048, 1024]⟩
abbrev S1024x1024 : Shape := ⟨2, ![1024, 1024]⟩
abbrev S2048x1024 : Shape := ⟨2, ![2048, 1024]⟩

abbrev nBuf : Space → Nat
  | .hbm => 3
  | .vmem => 6
  | .smem => 0
  | _ => 0

abbrev bufTy : (tb : Table) → Fin (tcTables nBuf tb) → BufTy
  | .hbm, ⟨0, _⟩ => ⟨S4096x2048, .bf16⟩
  | .hbm, ⟨1, _⟩ => ⟨S1x2048x2048, .bf16⟩
  | .hbm, ⟨2, _⟩ => ⟨S4096x2048, .bf16⟩
  | .local _ .vmem, ⟨0, _⟩ => ⟨S1024x2048, .bf16⟩
  | .local _ .vmem, ⟨1, _⟩ => ⟨S1024x2048, .bf16⟩
  | .local _ .vmem, ⟨2, _⟩ => ⟨S1x2048x1024, .bf16⟩
  | .local _ .vmem, ⟨3, _⟩ => ⟨S1x2048x1024, .bf16⟩
  | .local _ .vmem, ⟨4, _⟩ => ⟨S1024x1024, .bf16⟩
  | .local _ .vmem, ⟨5, _⟩ => ⟨S1024x1024, .bf16⟩
  | _, _ => ⟨S4096x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 2, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let v0 : BitVec 32 := Scalar.divsi arg1 c2_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg1 c2_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c2_i32_4 : BitVec 32 := 2#32
  let c0_i32_5 : BitVec 32 := 0#32
  let v17 : BitVec 1 := Scalar.cmpi .eq c2_i32_4 c0_i32_5
  let c1_i32_6 : BitVec 32 := 1#32
  let v18 : BitVec 32 := Scalar.select v17 c1_i32_6 c2_i32_4
  let v19 : BitVec 32 := Scalar.remsi arg1 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  ![v16.toNat, arg2.toNat, v26.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1x2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== RefMqIdeal.lean ====
abbrev S4096x2048 : Shape := ⟨2, ![4096, 2048]⟩
abbrev S1x2048x2048 : Shape := ⟨3, ![1, 2048, 2048]⟩
abbrev S2048x1x2048 : Shape := ⟨3, ![2048, 1, 2048]⟩
abbrev S2048x2048 : Shape := ⟨2, ![2048, 2048]⟩

abbrev nBuf : Space → Nat
  | .hbm => 8
  | .vmem => 0
  | .smem => 0
  | _ => 0

abbrev bufTy : (tb : Table) → Fin (tcTables nBuf tb) → BufTy
  | .hbm, ⟨0, _⟩ => ⟨S4096x2048, .bf16⟩
  | .hbm, ⟨1, _⟩ => ⟨S1x2048x2048, .bf16⟩
  | .hbm, ⟨2, _⟩ => ⟨S4096x2048, .f32⟩
  | .hbm, ⟨3, _⟩ => ⟨S1x2048x2048, .f32⟩
  | .hbm, ⟨4, _⟩ => ⟨S2048x1x2048, .f32⟩
  | .hbm, ⟨5, _⟩ => ⟨S2048x2048, .f32⟩
  | .hbm, ⟨6, _⟩ => ⟨S4096x2048, .f32⟩
  | .hbm, ⟨7, _⟩ => ⟨S4096x2048, .bf16⟩
  | _, _ => ⟨S4096x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩

abbrev nD : Nat := 1
abbrev τ : Topo := Topo.v7x

variable {F : FTy → Type} [FloatOps F]
-- ==== Mkv.lean ====
abbrev S256x2048 : Shape := ⟨2, ![256, 2048]⟩
abbrev S4x2048x1024 : Shape := ⟨3, ![4, 2048, 1024]⟩
abbrev S256x4096 : Shape := ⟨2, ![256, 4096]⟩
abbrev S1x2048x1024 : Shape := ⟨3, ![1, 2048, 1024]⟩
abbrev S256x1024 : Shape := ⟨2, ![256, 1024]⟩
abbrev S2048x1024 : Shape := ⟨2, ![2048, 1024]⟩

abbrev nBuf : Space → Nat
  | .hbm => 3
  | .vmem => 5
  | .smem => 0
  | _ => 0

abbrev bufTy : (tb : Table) → Fin (tcTables nBuf tb) → BufTy
  | .hbm, ⟨0, _⟩ => ⟨S256x2048, .bf16⟩
  | .hbm, ⟨1, _⟩ => ⟨S4x2048x1024, .bf16⟩
  | .hbm, ⟨2, _⟩ => ⟨S256x4096, .bf16⟩
  | .local _ .vmem, ⟨0, _⟩ => ⟨S256x2048, .bf16⟩
  | .local _ .vmem, ⟨1, _⟩ => ⟨S1x2048x1024, .bf16⟩
  | .local _ .vmem, ⟨2, _⟩ => ⟨S1x2048x1024, .bf16⟩
  | .local _ .vmem, ⟨3, _⟩ => ⟨S256x1024, .bf16⟩
  | .local _ .vmem, ⟨4, _⟩ => ⟨S256x1024, .bf16⟩
  | _, _ => ⟨S256x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![1, 4, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.divsi arg1 c1_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg1 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c1_i32_5 : BitVec 32 := 1#32
  let c0_i32_6 : BitVec 32 := 0#32
  let v17 : BitVec 1 := Scalar.cmpi .eq c1_i32_5 c0_i32_6
  let c1_i32_7 : BitVec 32 := 1#32
  let v18 : BitVec 32 := Scalar.select v17 c1_i32_7 c1_i32_5
  let v19 : BitVec 32 := Scalar.remsi arg1 v18
  let c0_i32_8 : BitVec 32 := 0#32
  let v20 : BitVec 1 := Scalar.cmpi .ne v19 c0_i32_8
  let c0_i32_9 : BitVec 32 := 0#32
  let v21 : BitVec 1 := Scalar.cmpi .slt v19 c0_i32_9
  let c0_i32_10 : BitVec 32 := 0#32
  let v22 : BitVec 1 := Scalar.cmpi .slt v18 c0_i32_10
  let v23 : BitVec 1 := Scalar.xori v21 v22
  let v24 : BitVec 1 := Scalar.andi v23 v20
  let v25 : BitVec 32 := Scalar.addi v19 v18
  let v26 : BitVec 32 := Scalar.select v24 v25 v19
  let c0_i32_11 : BitVec 32 := 0#32
  ![v16.toNat, arg2.toNat, v26.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 1 → Memref sig .tc .vmem S256x2048 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false, true]

abbrev stage0_1 : Fin 2 → Memref sig .tc .vmem S1x2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S256x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== RefMkvIdeal.lean ====
abbrev S256x2048 : Shape := ⟨2, ![256, 2048]⟩
abbrev S4x2048x1024 : Shape := ⟨3, ![4, 2048, 1024]⟩
abbrev S2048x4x1024 : Shape := ⟨3, ![2048, 4, 1024]⟩
abbrev S2048x4096 : Shape := ⟨2, ![2048, 4096]⟩
abbrev S256x4096 : Shape := ⟨2, ![256, 4096]⟩

abbrev nBuf : Space → Nat
  | .hbm => 8
  | .vmem => 0
  | .smem => 0
  | _ => 0

abbrev bufTy : (tb : Table) → Fin (tcTables nBuf tb) → BufTy
  | .hbm, ⟨0, _⟩ => ⟨S256x2048, .bf16⟩
  | .hbm, ⟨1, _⟩ => ⟨S4x2048x1024, .bf16⟩
  | .hbm, ⟨2, _⟩ => ⟨S256x2048, .f32⟩
  | .hbm, ⟨3, _⟩ => ⟨S4x2048x1024, .f32⟩
  | .hbm, ⟨4, _⟩ => ⟨S2048x4x1024, .f32⟩
  | .hbm, ⟨5, _⟩ => ⟨S2048x4096, .f32⟩
  | .hbm, ⟨6, _⟩ => ⟨S256x4096, .f32⟩
  | .hbm, ⟨7, _⟩ => ⟨S256x4096, .bf16⟩
  | _, _ => ⟨S256x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩

abbrev nD : Nat := 1
abbrev τ : Topo := Topo.v7x

variable {F : FTy → Type} [FloatOps F]
-- ==== Up.lean ====
abbrev S4096x2048 : Shape := ⟨2, ![4096, 2048]⟩
abbrev S4x2048x2048 : Shape := ⟨3, ![4, 2048, 2048]⟩
abbrev S4096x8192 : Shape := ⟨2, ![4096, 8192]⟩
abbrev S1024x2048 : Shape := ⟨2, ![1024, 2048]⟩
abbrev S1x2048x1024 : Shape := ⟨3, ![1, 2048, 1024]⟩
abbrev S1024x1024 : Shape := ⟨2, ![1024, 1024]⟩
abbrev S2048x1024 : Shape := ⟨2, ![2048, 1024]⟩

abbrev nBuf : Space → Nat
  | .hbm => 4
  | .vmem => 8
  | .smem => 0
  | _ => 0

abbrev bufTy : (tb : Table) → Fin (tcTables nBuf tb) → BufTy
  | .hbm, ⟨0, _⟩ => ⟨S4096x2048, .bf16⟩
  | .hbm, ⟨1, _⟩ => ⟨S4x2048x2048, .bf16⟩
  | .hbm, ⟨2, _⟩ => ⟨S4096x8192, .bf16⟩
  | .hbm, ⟨3, _⟩ => ⟨S4096x8192, .bf16⟩
  | .local _ .vmem, ⟨0, _⟩ => ⟨S1024x2048, .bf16⟩
  | .local _ .vmem, ⟨1, _⟩ => ⟨S1024x2048, .bf16⟩
  | .local _ .vmem, ⟨2, _⟩ => ⟨S1x2048x1024, .bf16⟩
  | .local _ .vmem, ⟨3, _⟩ => ⟨S1x2048x1024, .bf16⟩
  | .local _ .vmem, ⟨4, _⟩ => ⟨S1024x1024, .bf16⟩
  | .local _ .vmem, ⟨5, _⟩ => ⟨S1024x1024, .bf16⟩
  | .local _ .vmem, ⟨6, _⟩ => ⟨S1024x1024, .bf16⟩
  | .local _ .vmem, ⟨7, _⟩ => ⟨S1024x1024, .bf16⟩
  | _, _ => ⟨S4096x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0_0 : Ref sig .tc := ⟨.hbm, 2, rfl⟩
abbrev main_v0_1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![4, 8, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let v0 : BitVec 32 := Scalar.divsi arg1 c2_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg1 c2_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c2_i32_4 : BitVec 32 := 2#32
  let c0_i32_5 : BitVec 32 := 0#32
  let v17 : BitVec 1 := Scalar.cmpi .eq c2_i32_4 c0_i32_5
  let c1_i32_6 : BitVec 32 := 1#32
  let v18 : BitVec 32 := Scalar.select v17 c1_i32_6 c2_i32_4
  let v19 : BitVec 32 := Scalar.remsi arg1 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  ![v16.toNat, arg2.toNat, v26.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1x2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1024x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== RefUpIdeal.lean ====
abbrev S4096x2048 : Shape := ⟨2, ![4096, 2048]⟩
abbrev S4x2048x2048 : Shape := ⟨3, ![4, 2048, 2048]⟩
abbrev S2048x4x2048 : Shape := ⟨3, ![2048, 4, 2048]⟩
abbrev S2048x8192 : Shape := ⟨2, ![2048, 8192]⟩
abbrev S4096x8192 : Shape := ⟨2, ![4096, 8192]⟩
abbrev S_ : Shape := ⟨0, ![]⟩

abbrev nBuf : Space → Nat
  | .hbm => 13
  | .vmem => 0
  | .smem => 0
  | _ => 0

abbrev bufTy : (tb : Table) → Fin (tcTables nBuf tb) → BufTy
  | .hbm, ⟨0, _⟩ => ⟨S4096x2048, .bf16⟩
  | .hbm, ⟨1, _⟩ => ⟨S4x2048x2048, .bf16⟩
  | .hbm, ⟨2, _⟩ => ⟨S4096x2048, .f32⟩
  | .hbm, ⟨3, _⟩ => ⟨S4x2048x2048, .f32⟩
  | .hbm, ⟨4, _⟩ => ⟨S2048x4x2048, .f32⟩
  | .hbm, ⟨5, _⟩ => ⟨S2048x8192, .f32⟩
  | .hbm, ⟨6, _⟩ => ⟨S4096x8192, .f32⟩
  | .hbm, ⟨7, _⟩ => ⟨S_, .f32⟩
  | .hbm, ⟨8, _⟩ => ⟨S4096x8192, .f32⟩
  | .hbm, ⟨9, _⟩ => ⟨S4096x8192, .f32⟩
  | .hbm, ⟨10, _⟩ => ⟨S4096x8192, .bf16⟩
  | .hbm, ⟨11, _⟩ => ⟨S4096x8192, .f32⟩
  | .hbm, ⟨12, _⟩ => ⟨S4096x8192, .bf16⟩
  | _, _ => ⟨S4096x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_call0_cst : Ref sig .tc := ⟨.hbm, 7, rfl⟩
abbrev main_call0_v0 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩

abbrev nD : Nat := 1
abbrev τ : Topo := Topo.v7x

variable {F : FTy → Type} [FloatOps F]
-- ==== OutLn.lean ====
abbrev S4096x2048 : Shape := ⟨2, ![4096, 2048]⟩
abbrev S2048x2048 : Shape := ⟨2, ![2048, 2048]⟩
abbrev S1x2048 : Shape := ⟨2, ![1, 2048]⟩
abbrev S256x2048 : Shape := ⟨2, ![256, 2048]⟩
abbrev S256 : Shape := ⟨1, ![256]⟩
abbrev S256x1 : Shape := ⟨2, ![256, 1]⟩

abbrev nBuf : Space → Nat
  | .hbm => 8
  | .vmem => 13
  | .smem => 0
  | _ => 0

abbrev bufTy : (tb : Table) → Fin (tcTables nBuf tb) → BufTy
  | .hbm, ⟨0, _⟩ => ⟨S4096x2048, .bf16⟩
  | .hbm, ⟨1, _⟩ => ⟨S2048x2048, .bf16⟩
  | .hbm, ⟨2, _⟩ => ⟨S4096x2048, .f32⟩
  | .hbm, ⟨3, _⟩ => ⟨S1x2048, .f32⟩
  | .hbm, ⟨4, _⟩ => ⟨S1x2048, .f32⟩
  | .hbm, ⟨5, _⟩ => ⟨S4096x2048, .f32⟩
  | .hbm, ⟨6, _⟩ => ⟨S4096x2048, .f32⟩
  | .hbm, ⟨7, _⟩ => ⟨S4096x2048, .bf16⟩
  | .local _ .vmem, ⟨0, _⟩ => ⟨S256x2048, .bf16⟩
  | .local _ .vmem, ⟨1, _⟩ => ⟨S256x2048, .bf16⟩
  | .local _ .vmem, ⟨2, _⟩ => ⟨S2048x2048, .bf16⟩
  | .local _ .vmem, ⟨3, _⟩ => ⟨S256x2048, .f32⟩
  | .local _ .vmem, ⟨4, _⟩ => ⟨S256x2048, .f32⟩
  | .local _ .vmem, ⟨5, _⟩ => ⟨S1x2048, .f32⟩
  | .local _ .vmem, ⟨6, _⟩ => ⟨S1x2048, .f32⟩
  | .local _ .vmem, ⟨7, _⟩ => ⟨S256x2048, .f32⟩
  | .local _ .vmem, ⟨8, _⟩ => ⟨S256x2048, .f32⟩
  | .local _ .vmem, ⟨9, _⟩ => ⟨S256x2048, .f32⟩
  | .local _ .vmem, ⟨10, _⟩ => ⟨S256x2048, .f32⟩
  | .local _ .vmem, ⟨11, _⟩ => ⟨S256x2048, .bf16⟩
  | .local _ .vmem, ⟨12, _⟩ => ⟨S256x2048, .bf16⟩
  | _, _ => ⟨S4096x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev main_v0_2 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_stg7_1 : Ref sig .tc := ⟨.vmem, 12, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem5_0 : DmaSem sig := 7
abbrev cc0_sem5_1 : DmaSem sig := 8
abbrev cc0_sem6_0 : DmaSem sig := 9
abbrev cc0_sem6_1 : DmaSem sig := 10
abbrev cc0_sem7_0 : DmaSem sig := 11
abbrev cc0_sem7_1 : DmaSem sig := 12

abbrev nD : Nat := 1
abbrev τ : Topo := Topo.v7x

variable {F : FTy → Type} [FloatOps F]

abbrev grid0 : Pipeline.Grid := ⟨2, ![16, 1], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S256x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S2048x2048 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true]

abbrev stage0_2 : Fin 2 → Memref sig .tc .vmem S256x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 1 → Memref sig .tc .vmem S1x2048 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S1x2048 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 2 → Memref sig .tc .vmem S256x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 2 → Memref sig .tc .vmem S256x2048 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]

abbrev stage0_7 : Fin 2 → Memref sig .tc .vmem S256x2048 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, false]
-- ==== RefOutLnIdeal.lean ====
abbrev S4096x2048 : Shape := ⟨2, ![4096, 2048]⟩
abbrev S2048x2048 : Shape := ⟨2, ![2048, 2048]⟩
abbrev S1x2048 : Shape := ⟨2, ![1, 2048]⟩
abbrev S_ : Shape := ⟨0, ![]⟩
abbrev S4096 : Shape := ⟨1, ![4096]⟩
abbrev S4096x1 : Shape := ⟨2, ![4096, 1]⟩

abbrev nBuf : Space → Nat
  | .hbm => 40
  | .vmem => 0
  | .smem => 0
  | _ => 0

abbrev bufTy : (tb : Table) → Fin (tcTables nBuf tb) → BufTy
  | .hbm, ⟨0, _⟩ => ⟨S4096x2048, .bf16⟩
  | .hbm, ⟨1, _⟩ => ⟨S2048x2048, .bf16⟩
  | .hbm, ⟨2, _⟩ => ⟨S4096x2048, .f32⟩
  | .hbm, ⟨3, _⟩ => ⟨S1x2048, .f32⟩
  | .hbm, ⟨4, _⟩ => ⟨S1x2048, .f32⟩
  | .hbm, ⟨5, _⟩ => ⟨S_, .f32⟩
  | .hbm, ⟨6, _⟩ => ⟨S4096x2048, .f32⟩
  | .hbm, ⟨7, _⟩ => ⟨S4096x2048, .f32⟩
  | .hbm, ⟨8, _⟩ => ⟨S4096x2048, .f32⟩
  | .hbm, ⟨9, _⟩ => ⟨S2048x2048, .f32⟩
  | .hbm, ⟨10, _⟩ => ⟨S4096x2048, .f32⟩
  | .hbm, ⟨11, _⟩ => ⟨S4096x2048, .f32⟩
  | .hbm, ⟨12, _⟩ => ⟨S_, .f32⟩
  | .hbm, ⟨13, _⟩ => ⟨S4096, .f32⟩
  | .hbm, ⟨14, _⟩ => ⟨S4096x1, .f32⟩
  | .hbm, ⟨15, _⟩ => ⟨S_, .f32⟩
  | .hbm, ⟨16, _⟩ => ⟨S4096x1, .f32⟩
  | .hbm, ⟨17, _⟩ => ⟨S4096x1, .f32⟩
  | .hbm, ⟨18, _⟩ => ⟨S4096x2048, .f32⟩
  | .hbm, ⟨19, _⟩ => ⟨S4096x2048, .f32⟩
  | .hbm, ⟨20, _⟩ => ⟨S4096x2048, .f32⟩
  | .hbm, ⟨21, _⟩ => ⟨S_, .f32⟩
  | .hbm, ⟨22, _⟩ => ⟨S4096, .f32⟩
  | .hbm, ⟨23, _⟩ => ⟨S4096x1, .f32⟩
  | .hbm, ⟨24, _⟩ => ⟨S_, .f32⟩
  | .hbm, ⟨25, _⟩ => ⟨S4096x1, .f32⟩
  | .hbm, ⟨26, _⟩ => ⟨S4096x1, .f32⟩
  | .hbm, ⟨27, _⟩ => ⟨S4096x2048, .f32⟩
  | .hbm, ⟨28, _⟩ => ⟨S4096x2048, .f32⟩
  | .hbm, ⟨29, _⟩ => ⟨S_, .f32⟩
  | .hbm, ⟨30, _⟩ => ⟨S4096x1, .f32⟩
  | .hbm, ⟨31, _⟩ => ⟨S4096x1, .f32⟩
  | .hbm, ⟨32, _⟩ => ⟨S4096x1, .f32⟩
  | .hbm, ⟨33, _⟩ => ⟨S4096x2048, .f32⟩
  | .hbm, ⟨34, _⟩ => ⟨S4096x2048, .f32⟩
  | .hbm, ⟨35, _⟩ => ⟨S4096x2048, .f32⟩
  | .hbm, ⟨36, _⟩ => ⟨S4096x2048, .f32⟩
  | .hbm, ⟨37, _⟩ => ⟨S4096x2048, .f32⟩
  | .hbm, ⟨38, _⟩ => ⟨S4096x2048, .f32⟩
  | .hbm, ⟨39, _⟩ => ⟨S4096x2048, .bf16⟩
  | _, _ => ⟨S4096x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_cst : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_cst_0 : Ref sig .tc := ⟨.hbm, 12, rfl⟩
abbrev main_v6 : Ref sig .tc := ⟨.hbm, 13, rfl⟩
abbrev main_v7 : Ref sig .tc := ⟨.hbm, 14, rfl⟩
abbrev main_cst_1 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_cst_2 : Ref sig .tc := ⟨.hbm, 21, rfl⟩
abbrev main_v13 : Ref sig .tc := ⟨.hbm, 22, rfl⟩
abbrev main_v14 : Ref sig .tc := ⟨.hbm, 23, rfl⟩
abbrev main_cst_3 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_cst_4 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩

abbrev nD : Nat := 1
abbrev τ : Topo := Topo.v7x

variable {F : FTy → Type} [FloatOps F]
-- ==== DownLn.lean ====
abbrev S4096x8192 : Shape := ⟨2, ![4096, 8192]⟩
abbrev S8192x2048 : Shape := ⟨2, ![8192, 2048]⟩
abbrev S4096x2048 : Shape := ⟨2, ![4096, 2048]⟩
abbrev S1x2048 : Shape := ⟨2, ![1, 2048]⟩
abbrev S512x1024 : Shape := ⟨2, ![512, 1024]⟩
abbrev S1024x2048 : Shape := ⟨2, ![1024, 2048]⟩
abbrev S512x2048 : Shape := ⟨2, ![512, 2048]⟩
abbrev S512 : Shape := ⟨1, ![512]⟩
abbrev S512x1 : Shape := ⟨2, ![512, 1]⟩

abbrev nBuf : Space → Nat
  | .hbm => 8
  | .vmem => 15
  | .smem => 0
  | _ => 0

abbrev bufTy : (tb : Table) → Fin (tcTables nBuf tb) → BufTy
  | .hbm, ⟨0, _⟩ => ⟨S4096x8192, .bf16⟩
  | .hbm, ⟨1, _⟩ => ⟨S8192x2048, .bf16⟩
  | .hbm, ⟨2, _⟩ => ⟨S4096x2048, .f32⟩
  | .hbm, ⟨3, _⟩ => ⟨S1x2048, .f32⟩
  | .hbm, ⟨4, _⟩ => ⟨S1x2048, .f32⟩
  | .hbm, ⟨5, _⟩ => ⟨S4096x2048, .f32⟩
  | .hbm, ⟨6, _⟩ => ⟨S4096x2048, .f32⟩
  | .hbm, ⟨7, _⟩ => ⟨S4096x2048, .bf16⟩
  | .local _ .vmem, ⟨0, _⟩ => ⟨S512x1024, .bf16⟩
  | .local _ .vmem, ⟨1, _⟩ => ⟨S512x1024, .bf16⟩
  | .local _ .vmem, ⟨2, _⟩ => ⟨S1024x2048, .bf16⟩
  | .local _ .vmem, ⟨3, _⟩ => ⟨S1024x2048, .bf16⟩
  | .local _ .vmem, ⟨4, _⟩ => ⟨S512x2048, .f32⟩
  | .local _ .vmem, ⟨5, _⟩ => ⟨S512x2048, .f32⟩
  | .local _ .vmem, ⟨6, _⟩ => ⟨S1x2048, .f32⟩
  | .local _ .vmem, ⟨7, _⟩ => ⟨S1x2048, .f32⟩
  | .local _ .vmem, ⟨8, _⟩ => ⟨S512x2048, .f32⟩
  | .local _ .vmem, ⟨9, _⟩ => ⟨S512x2048, .f32⟩
  | .local _ .vmem, ⟨10, _⟩ => ⟨S512x2048, .f32⟩
  | .local _ .vmem, ⟨11, _⟩ => ⟨S512x2048, .f32⟩
  | .local _ .vmem, ⟨12, _⟩ => ⟨S512x2048, .bf16⟩
  | .local _ .vmem, ⟨13, _⟩ => ⟨S512x2048, .bf16⟩
  | .local _ .vmem, ⟨14, _⟩ => ⟨S512x2048, .f32⟩
  | _, _ => ⟨S4096x8192, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev main_v0_2 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_scratch0 : Ref sig .tc := ⟨.vmem, 14, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12
abbrev cc0_sem7_1 : DmaSem sig := 13

abbrev nD : Nat := 1
abbrev τ : Topo := Topo.v7x

variable {F : FTy → Type} [FloatOps F]

abbrev grid0 : Pipeline.Grid := ⟨2, ![8, 8], ![false, false]⟩

def k0_cond2 (i : grid0.Coords) : BitVec 1 :=
  let arg1 : BitVec 32 := BitVec.ofNat 32 (i 1).val
  let c7_i32 : BitVec 32 := 7#32
  let v11 : BitVec 1 := Scalar.cmpi .eq arg1 c7_i32
  let v12 : BitVec 32 := Scalar.extui v11
  let c0_i32_8 : BitVec 32 := 0#32
  let v13 : BitVec 1 := Scalar.cmpi .ne v12 c0_i32_8
  v13

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1024x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S512x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 1 → Memref sig .tc .vmem S1x2048 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S1x2048 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 2 → Memref sig .tc .vmem S512x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 2 → Memref sig .tc .vmem S512x2048 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]

abbrev stage0_7 : Fin 2 → Memref sig .tc .vmem S512x2048 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, false]
-- ==== RefDownLnIdeal.lean ====
abbrev S4096x8192 : Shape := ⟨2, ![4096, 8192]⟩
abbrev S8192x2048 : Shape := ⟨2, ![8192, 2048]⟩
abbrev S4096x2048 : Shape := ⟨2, ![4096, 2048]⟩
abbrev S1x2048 : Shape := ⟨2, ![1, 2048]⟩
abbrev S_ : Shape := ⟨0, ![]⟩
abbrev S4096 : Shape := ⟨1, ![4096]⟩
abbrev S4096x1 : Shape := ⟨2, ![4096, 1]⟩

abbrev nBuf : Space → Nat
  | .hbm => 40
  | .vmem => 0
  | .smem => 0
  | _ => 0

abbrev bufTy : (tb : Table) → Fin (tcTables nBuf tb) → BufTy
  | .hbm, ⟨0, _⟩ => ⟨S4096x8192, .bf16⟩
  | .hbm, ⟨1, _⟩ => ⟨S8192x2048, .bf16⟩
  | .hbm, ⟨2, _⟩ => ⟨S4096x2048, .f32⟩
  | .hbm, ⟨3, _⟩ => ⟨S1x2048, .f32⟩
  | .hbm, ⟨4, _⟩ => ⟨S1x2048, .f32⟩
  | .hbm, ⟨5, _⟩ => ⟨S_, .f32⟩
  | .hbm, ⟨6, _⟩ => ⟨S4096x2048, .f32⟩
  | .hbm, ⟨7, _⟩ => ⟨S4096x2048, .f32⟩
  | .hbm, ⟨8, _⟩ => ⟨S4096x8192, .f32⟩
  | .hbm, ⟨9, _⟩ => ⟨S8192x2048, .f32⟩
  | .hbm, ⟨10, _⟩ => ⟨S4096x2048, .f32⟩
  | .hbm, ⟨11, _⟩ => ⟨S4096x2048, .f32⟩
  | .hbm, ⟨12, _⟩ => ⟨S_, .f32⟩
  | .hbm, ⟨13, _⟩ => ⟨S4096, .f32⟩
  | .hbm, ⟨14, _⟩ => ⟨S4096x1, .f32⟩
  | .hbm, ⟨15, _⟩ => ⟨S_, .f32⟩
  | .hbm, ⟨16, _⟩ => ⟨S4096x1, .f32⟩
  | .hbm, ⟨17, _⟩ => ⟨S4096x1, .f32⟩
  | .hbm, ⟨18, _⟩ => ⟨S4096x2048, .f32⟩
  | .hbm, ⟨19, _⟩ => ⟨S4096x2048, .f32⟩
  | .hbm, ⟨20, _⟩ => ⟨S4096x2048, .f32⟩
  | .hbm, ⟨21, _⟩ => ⟨S_, .f32⟩
  | .hbm, ⟨22, _⟩ => ⟨S4096, .f32⟩
  | .hbm, ⟨23, _⟩ => ⟨S4096x1, .f32⟩
  | .hbm, ⟨24, _⟩ => ⟨S_, .f32⟩
  | .hbm, ⟨25, _⟩ => ⟨S4096x1, .f32⟩
  | .hbm, ⟨26, _⟩ => ⟨S4096x1, .f32⟩
  | .hbm, ⟨27, _⟩ => ⟨S4096x2048, .f32⟩
  | .hbm, ⟨28, _⟩ => ⟨S4096x2048, .f32⟩
  | .hbm, ⟨29, _⟩ => ⟨S_, .f32⟩
  | .hbm, ⟨30, _⟩ => ⟨S4096x1, .f32⟩
  | .hbm, ⟨31, _⟩ => ⟨S4096x1, .f32⟩
  | .hbm, ⟨32, _⟩ => ⟨S4096x1, .f32⟩
  | .hbm, ⟨33, _⟩ => ⟨S4096x2048, .f32⟩
  | .hbm, ⟨34, _⟩ => ⟨S4096x2048, .f32⟩
  | .hbm, ⟨35, _⟩ => ⟨S4096x2048, .f32⟩
  | .hbm, ⟨36, _⟩ => ⟨S4096x2048, .f32⟩
  | .hbm, ⟨37, _⟩ => ⟨S4096x2048, .f32⟩
  | .hbm, ⟨38, _⟩ => ⟨S4096x2048, .f32⟩
  | .hbm, ⟨39, _⟩ => ⟨S4096x2048, .bf16⟩
  | _, _ => ⟨S4096x8192, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_cst : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_cst_0 : Ref sig .tc := ⟨.hbm, 12, rfl⟩
abbrev main_v6 : Ref sig .tc := ⟨.hbm, 13, rfl⟩
abbrev main_v7 : Ref sig .tc := ⟨.hbm, 14, rfl⟩
abbrev main_cst_1 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_cst_2 : Ref sig .tc := ⟨.hbm, 21, rfl⟩
abbrev main_v13 : Ref sig .tc := ⟨.hbm, 22, rfl⟩
abbrev main_v14 : Ref sig .tc := ⟨.hbm, 23, rfl⟩
abbrev main_cst_3 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_cst_4 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩

abbrev nD : Nat := 1
abbrev τ : Topo := Topo.v7x

variable {F : FTy → Type} [FloatOps F]
-- ==== MemFwd.lean ====
abbrev S4096x2048 : Shape := ⟨2, ![4096, 2048]⟩
abbrev S256x4096 : Shape := ⟨2, ![256, 4096]⟩
abbrev S512x2048 : Shape := ⟨2, ![512, 2048]⟩
abbrev S512x512 : Shape := ⟨2, ![512, 512]⟩
abbrev S256x512 : Shape := ⟨2, ![256, 512]⟩
abbrev S512x256 : Shape := ⟨2, ![512, 256]⟩
abbrev S512 : Shape := ⟨1, ![512]⟩
abbrev S512x1 : Shape := ⟨2, ![512, 1]⟩

abbrev nBuf : Space → Nat
  | .hbm => 3
  | .vmem => 5
  | .smem => 0
  | _ => 0

abbrev bufTy : (tb : Table) → Fin (tcTables nBuf tb) → BufTy
  | .hbm, ⟨0, _⟩ => ⟨S4096x2048, .bf16⟩
  | .hbm, ⟨1, _⟩ => ⟨S256x4096, .bf16⟩
  | .hbm, ⟨2, _⟩ => ⟨S4096x2048, .bf16⟩
  | .local _ .vmem, ⟨0, _⟩ => ⟨S512x2048, .bf16⟩
  | .local _ .vmem, ⟨1, _⟩ => ⟨S512x2048, .bf16⟩
  | .local _ .vmem, ⟨2, _⟩ => ⟨S256x4096, .bf16⟩
  | .local _ .vmem, ⟨3, _⟩ => ⟨S512x2048, .bf16⟩
  | .local _ .vmem, ⟨4, _⟩ => ⟨S512x2048, .bf16⟩
  | _, _ => ⟨S4096x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S256x4096 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x2048 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== RefMemFwdIdeal.lean ====
abbrev S4096x2048 : Shape := ⟨2, ![4096, 2048]⟩
abbrev S256x4096 : Shape := ⟨2, ![256, 4096]⟩
abbrev S256x2048 : Shape := ⟨2, ![256, 2048]⟩
abbrev S4096x4x512 : Shape := ⟨3, ![4096, 4, 512]⟩
abbrev S256x4x512 : Shape := ⟨3, ![256, 4, 512]⟩
abbrev S4x4096x256 : Shape := ⟨3, ![4, 4096, 256]⟩
abbrev S_ : Shape := ⟨0, ![]⟩
abbrev S4x4096 : Shape := ⟨2, ![4, 4096]⟩
abbrev S4x4096x1 : Shape := ⟨3, ![4, 4096, 1]⟩
abbrev S4x512x4096 : Shape := ⟨3, ![4, 512, 4096]⟩

abbrev nBuf : Space → Nat
  | .hbm => 31
  | .vmem => 0
  | .smem => 0
  | _ => 0

abbrev bufTy : (tb : Table) → Fin (tcTables nBuf tb) → BufTy
  | .hbm, ⟨0, _⟩ => ⟨S4096x2048, .bf16⟩
  | .hbm, ⟨1, _⟩ => ⟨S256x4096, .bf16⟩
  | .hbm, ⟨2, _⟩ => ⟨S256x4096, .f32⟩
  | .hbm, ⟨3, _⟩ => ⟨S256x2048, .f32⟩
  | .hbm, ⟨4, _⟩ => ⟨S256x2048, .f32⟩
  | .hbm, ⟨5, _⟩ => ⟨S4096x2048, .f32⟩
  | .hbm, ⟨6, _⟩ => ⟨S4096x4x512, .f32⟩
  | .hbm, ⟨7, _⟩ => ⟨S256x4x512, .f32⟩
  | .hbm, ⟨8, _⟩ => ⟨S256x4x512, .f32⟩
  | .hbm, ⟨9, _⟩ => ⟨S4x4096x256, .f32⟩
  | .hbm, ⟨10, _⟩ => ⟨S_, .f32⟩
  | .hbm, ⟨11, _⟩ => ⟨S4x4096x256, .f32⟩
  | .hbm, ⟨12, _⟩ => ⟨S4x4096x256, .f32⟩
  | .hbm, ⟨13, _⟩ => ⟨S_, .f32⟩
  | .hbm, ⟨14, _⟩ => ⟨S4x4096, .f32⟩
  | .hbm, ⟨15, _⟩ => ⟨S_, .f32⟩
  | .hbm, ⟨16, _⟩ => ⟨S4x4096, .f32⟩
  | .hbm, ⟨17, _⟩ => ⟨S4x4096, .f32⟩
  | .hbm, ⟨18, _⟩ => ⟨S4x4096x1, .f32⟩
  | .hbm, ⟨19, _⟩ => ⟨S4x4096x256, .f32⟩
  | .hbm, ⟨20, _⟩ => ⟨S4x4096x256, .f32⟩
  | .hbm, ⟨21, _⟩ => ⟨S4x4096x256, .f32⟩
  | .hbm, ⟨22, _⟩ => ⟨S_, .f32⟩
  | .hbm, ⟨23, _⟩ => ⟨S4x4096, .f32⟩
  | .hbm, ⟨24, _⟩ => ⟨S4x4096x1, .f32⟩
  | .hbm, ⟨25, _⟩ => ⟨S4x4096x256, .f32⟩
  | .hbm, ⟨26, _⟩ => ⟨S4x4096x256, .f32⟩
  | .hbm, ⟨27, _⟩ => ⟨S4x512x4096, .f32⟩
  | .hbm, ⟨28, _⟩ => ⟨S4096x4x512, .f32⟩
  | .hbm, ⟨29, _⟩ => ⟨S4096x2048, .f32⟩
  | .hbm, ⟨30, _⟩ => ⟨S4096x2048, .bf16⟩
  | _, _ => ⟨S4096x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_cst : Ref sig .tc := ⟨.hbm, 10, rfl⟩
abbrev main_v8 : Ref sig .tc := ⟨.hbm, 11, rfl⟩
abbrev main_v9 : Ref sig .tc := ⟨.hbm, 12, rfl⟩
abbrev main_cst_0 : Ref sig .tc := ⟨.hbm, 13, rfl⟩
abbrev main_v10 : Ref sig .tc := ⟨.hbm, 14, rfl⟩
abbrev main_cst_1 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_cst_2 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_v23 : Ref sig .tc := ⟨.hbm, 29, rfl⟩
abbrev main_v24 : Ref sig .tc := ⟨.hbm, 30, rfl⟩

abbrev nD : Nat := 1
abbrev τ : Topo := Topo.v7x

variable {F : FTy → Type} [FloatOps F]
-- ==== Rms.lean ====
abbrev S4096x1024 : Shape := ⟨2, ![4096, 1024]⟩
abbrev S1x1024 : Shape := ⟨2, ![1, 1024]⟩
abbrev S4096x2048 : Shape := ⟨2, ![4096, 2048]⟩
abbrev S512x1024 : Shape := ⟨2, ![512, 1024]⟩
abbrev S512x2048 : Shape := ⟨2, ![512, 2048]⟩
abbrev S512 : Shape := ⟨1, ![512]⟩
abbrev S512x1 : Shape := ⟨2, ![512, 1]⟩

abbrev nBuf : Space → Nat
  | .hbm => 5
  | .vmem => 8
  | .smem => 0
  | _ => 0

abbrev bufTy : (tb : Table) → Fin (tcTables nBuf tb) → BufTy
  | .hbm, ⟨0, _⟩ => ⟨S4096x1024, .f32⟩
  | .hbm, ⟨1, _⟩ => ⟨S4096x1024, .f32⟩
  | .hbm, ⟨2, _⟩ => ⟨S1x1024, .f32⟩
  | .hbm, ⟨3, _⟩ => ⟨S1x1024, .f32⟩
  | .hbm, ⟨4, _⟩ => ⟨S4096x2048, .bf16⟩
  | .local _ .vmem, ⟨0, _⟩ => ⟨S512x1024, .f32⟩
  | .local _ .vmem, ⟨1, _⟩ => ⟨S512x1024, .f32⟩
  | .local _ .vmem, ⟨2, _⟩ => ⟨S512x1024, .f32⟩
  | .local _ .vmem, ⟨3, _⟩ => ⟨S512x1024, .f32⟩
  | .local _ .vmem, ⟨4, _⟩ => ⟨S1x1024, .f32⟩
  | .local _ .vmem, ⟨5, _⟩ => ⟨S1x1024, .f32⟩
  | .local _ .vmem, ⟨6, _⟩ => ⟨S512x2048, .bf16⟩
  | .local _ .vmem, ⟨7, _⟩ => ⟨S512x2048, .bf16⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S512x2048 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== RefRmsIdeal.lean ====
abbrev S4096x1024 : Shape := ⟨2, ![4096, 1024]⟩
abbrev S1x1024 : Shape := ⟨2, ![1, 1024]⟩
abbrev S_ : Shape := ⟨0, ![]⟩
abbrev S4096 : Shape := ⟨1, ![4096]⟩
abbrev S4096x1 : Shape := ⟨2, ![4096, 1]⟩
abbrev S4096x2048 : Shape := ⟨2, ![4096, 2048]⟩

abbrev nBuf : Space → Nat
  | .hbm => 36
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S4096x1024, .f32⟩
  | .hbm, ⟨2, _⟩ => ⟨S1x1024, .f32⟩
  | .hbm, ⟨3, _⟩ => ⟨S1x1024, .f32⟩
  | .hbm, ⟨4, _⟩ => ⟨S4096x1024, .f32⟩
  | .hbm, ⟨5, _⟩ => ⟨S_, .f32⟩
  | .hbm, ⟨6, _⟩ => ⟨S4096, .f32⟩
  | .hbm, ⟨7, _⟩ => ⟨S4096x1, .f32⟩
  | .hbm, ⟨8, _⟩ => ⟨S_, .f32⟩
  | .hbm, ⟨9, _⟩ => ⟨S4096x1, .f32⟩
  | .hbm, ⟨10, _⟩ => ⟨S4096x1, .f32⟩
  | .hbm, ⟨11, _⟩ => ⟨S_, .f32⟩
  | .hbm, ⟨12, _⟩ => ⟨S4096x1, .f32⟩
  | .hbm, ⟨13, _⟩ => ⟨S4096x1, .f32⟩
  | .hbm, ⟨14, _⟩ => ⟨S4096x1, .f32⟩
  | .hbm, ⟨15, _⟩ => ⟨S4096x1024, .f32⟩
  | .hbm, ⟨16, _⟩ => ⟨S4096x1024, .f32⟩
  | .hbm, ⟨17, _⟩ => ⟨S4096x1024, .f32⟩
  | .hbm, ⟨18, _⟩ => ⟨S4096x1024, .f32⟩
  | .hbm, ⟨19, _⟩ => ⟨S4096x1024, .f32⟩
  | .hbm, ⟨20, _⟩ => ⟨S_, .f32⟩
  | .hbm, ⟨21, _⟩ => ⟨S4096, .f32⟩
  | .hbm, ⟨22, _⟩ => ⟨S4096x1, .f32⟩
  | .hbm, ⟨23, _⟩ => ⟨S_, .f32⟩
  | .hbm, ⟨24, _⟩ => ⟨S4096x1, .f32⟩
  | .hbm, ⟨25, _⟩ => ⟨S4096x1, .f32⟩
  | .hbm, ⟨26, _⟩ => ⟨S_, .f32⟩
  | .hbm, ⟨27, _⟩ => ⟨S4096x1, .f32⟩
  | .hbm, ⟨28, _⟩ => ⟨S4096x1, .f32⟩
  | .hbm, ⟨29, _⟩ => ⟨S4096x1, .f32⟩
  | .hbm, ⟨30, _⟩ => ⟨S4096x1024, .f32⟩
  | .hbm, ⟨31, _⟩ => ⟨S4096x1024, .f32⟩
  | .hbm, ⟨32, _⟩ => ⟨S4096x1024, .f32⟩
  | .hbm, ⟨33, _⟩ => ⟨S4096x1024, .f32⟩
  | .hbm, ⟨34, _⟩ => ⟨S4096x2048, .f32⟩
  | .hbm, ⟨35, _⟩ => ⟨S4096x2048, .bf16⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_cst_2 : Ref sig .tc := ⟨.hbm, 20, rfl⟩
abbrev main_v13 : Ref sig .tc := ⟨.hbm, 21, rfl⟩
abbrev main_v14 : Ref sig .tc := ⟨.hbm, 22, rfl⟩
abbrev main_cst_3 : Ref sig .tc := ⟨.hbm, 23, rfl⟩
abbrev main_v15 : Ref sig .tc := ⟨.hbm, 24, rfl⟩
abbrev main_v16 : Ref sig .tc := ⟨.hbm, 25, rfl⟩
abbrev main_cst_4 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩

abbrev nD : Nat := 1
abbrev τ : Topo := Topo.v7x

variable {F : FTy → Type} [FloatOps F]
-- ==== LnGrad.lean ====
abbrev S4096x2048 : Shape := ⟨2, ![4096, 2048]⟩
abbrev S1x2048 : Shape := ⟨2, ![1, 2048]⟩
abbrev S8x2048 : Shape := ⟨2, ![8, 2048]⟩
abbrev S256x2048 : Shape := ⟨2, ![256, 2048]⟩
abbrev S256 : Shape := ⟨1, ![256]⟩
abbrev S256x1 : Shape := ⟨2, ![256, 1]⟩
abbrev S32x8x2048 : Shape := ⟨3, ![32, 8, 2048]⟩

abbrev nBuf : Space → Nat
  | .hbm => 7
  | .vmem => 11
  | .smem => 0
  | _ => 0

abbrev bufTy : (tb : Table) → Fin (tcTables nBuf tb) → BufTy
  | .hbm, ⟨0, _⟩ => ⟨S4096x2048, .f32⟩
  | .hbm, ⟨1, _⟩ => ⟨S4096x2048, .f32⟩
  | .hbm, ⟨2, _⟩ => ⟨S1x2048, .f32⟩
  | .hbm, ⟨3, _⟩ => ⟨S4096x2048, .f32⟩
  | .hbm, ⟨4, _⟩ => ⟨S4096x2048, .bf16⟩
  | .hbm, ⟨5, _⟩ => ⟨S8x2048, .f32⟩
  | .hbm, ⟨6, _⟩ => ⟨S8x2048, .f32⟩
  | .local _ .vmem, ⟨0, _⟩ => ⟨S256x2048, .f32⟩
  | .local _ .vmem, ⟨1, _⟩ => ⟨S256x2048, .f32⟩
  | .local _ .vmem, ⟨2, _⟩ => ⟨S256x2048, .f32⟩
  | .local _ .vmem, ⟨3, _⟩ => ⟨S256x2048, .f32⟩
  | .local _ .vmem, ⟨4, _⟩ => ⟨S1x2048, .f32⟩
  | .local _ .vmem, ⟨5, _⟩ => ⟨S256x2048, .f32⟩
  | .local _ .vmem, ⟨6, _⟩ => ⟨S256x2048, .f32⟩
  | .local _ .vmem, ⟨7, _⟩ => ⟨S256x2048, .bf16⟩
  | .local _ .vmem, ⟨8, _⟩ => ⟨S256x2048, .bf16⟩
  | .local _ .vmem, ⟨9, _⟩ => ⟨S8x2048, .f32⟩
  | .local _ .vmem, ⟨10, _⟩ => ⟨S8x2048, .f32⟩
  | _, _ => ⟨S4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0_0 : Ref sig .tc := ⟨.hbm, 3, rfl⟩
abbrev main_v0_1 : Ref sig .tc := ⟨.hbm, 4, rfl⟩
abbrev main_v0_2 : Ref sig .tc := ⟨.hbm, 5, rfl⟩
abbrev main_v0_3 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg6_0 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem6_0 : DmaSem sig := 10

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S256x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x2048 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S8x2048 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S8x2048 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]
-- ==== RefLnGradIdeal.lean ====
abbrev S4096x2048 : Shape := ⟨2, ![4096, 2048]⟩
abbrev S1x2048 : Shape := ⟨2, ![1, 2048]⟩
abbrev S8x2048 : Shape := ⟨2, ![8, 2048]⟩
abbrev S_ : Shape := ⟨0, ![]⟩
abbrev S512x8x2048 : Shape := ⟨3, ![512, 8, 2048]⟩
abbrev S512x8 : Shape := ⟨2, ![512, 8]⟩
abbrev S512x8x1 : Shape := ⟨3, ![512, 8, 1]⟩
abbrev S1x8x2048 : Shape := ⟨3, ![1, 8, 2048]⟩

abbrev nBuf : Space → Nat
  | .hbm => 91
  | .vmem => 0
  | .smem => 0
  | _ => 0

abbrev bufTy : (tb : Table) → Fin (tcTables nBuf tb) → BufTy
  | .hbm, ⟨0, _⟩ => ⟨S4096x2048, .f32⟩
  | .hbm, ⟨1, _⟩ => ⟨S4096x2048, .f32⟩
  | .hbm, ⟨2, _⟩ => ⟨S1x2048, .f32⟩
  | .hbm, ⟨3, _⟩ => ⟨S8x2048, .f32⟩
  | .hbm, ⟨4, _⟩ => ⟨S_, .f32⟩
  | .hbm, ⟨5, _⟩ => ⟨S8x2048, .f32⟩
  | .hbm, ⟨6, _⟩ => ⟨S512x8x2048, .f32⟩
  | .hbm, ⟨7, _⟩ => ⟨S_, .f32⟩
  | .hbm, ⟨8, _⟩ => ⟨S512x8, .f32⟩
  | .hbm, ⟨9, _⟩ => ⟨S512x8x1, .f32⟩
  | .hbm, ⟨10, _⟩ => ⟨S_, .f32⟩
  | .hbm, ⟨11, _⟩ => ⟨S512x8x1, .f32⟩
  | .hbm, ⟨12, _⟩ => ⟨S512x8x1, .f32⟩
  | .hbm, ⟨13, _⟩ => ⟨S512x8x2048, .f32⟩
  | .hbm, ⟨14, _⟩ => ⟨S512x8x2048, .f32⟩
  | .hbm, ⟨15, _⟩ => ⟨S512x8x2048, .f32⟩
  | .hbm, ⟨16, _⟩ => ⟨S_, .f32⟩
  | .hbm, ⟨17, _⟩ => ⟨S512x8x2048, .f32⟩
  | .hbm, ⟨18, _⟩ => ⟨S512x8x2048, .f32⟩
  | .hbm, ⟨19, _⟩ => ⟨S_, .f32⟩
  | .hbm, ⟨20, _⟩ => ⟨S512x8, .f32⟩
  | .hbm, ⟨21, _⟩ => ⟨S512x8x1, .f32⟩
  | .hbm, ⟨22, _⟩ => ⟨S_, .f32⟩
  | .hbm, ⟨23, _⟩ => ⟨S512x8x1, .f32⟩
  | .hbm, ⟨24, _⟩ => ⟨S512x8x1, .f32⟩
  | .hbm, ⟨25, _⟩ => ⟨S512x8x2048, .f32⟩
  | .hbm, ⟨26, _⟩ => ⟨S512x8x2048, .f32⟩
  | .hbm, ⟨27, _⟩ => ⟨S_, .f32⟩
  | .hbm, ⟨28, _⟩ => ⟨S512x8x1, .f32⟩
  | .hbm, ⟨29, _⟩ => ⟨S512x8x1, .f32⟩
  | .hbm, ⟨30, _⟩ => ⟨S512x8x1, .f32⟩
  | .hbm, ⟨31, _⟩ => ⟨S512x8x1, .f32⟩
  | .hbm, ⟨32, _⟩ => ⟨S_, .f32⟩
  | .hbm, ⟨33, _⟩ => ⟨S512x8x1, .f32⟩
  | .hbm, ⟨34, _⟩ => ⟨S512x8x1, .f32⟩
  | .hbm, ⟨35, _⟩ => ⟨S512x8x2048, .f32⟩
  | .hbm, ⟨36, _⟩ => ⟨S512x8x2048, .f32⟩
  | .hbm, ⟨37, _⟩ => ⟨S1x8x2048, .f32⟩
  | .hbm, ⟨38, _⟩ => ⟨S512x8x2048, .f32⟩
  | .hbm, ⟨39, _⟩ => ⟨S512x8x2048, .f32⟩
  | .hbm, ⟨40, _⟩ => ⟨S1x8x2048, .f32⟩
  | .hbm, ⟨41, _⟩ => ⟨S512x8x2048, .f32⟩
  | .hbm, ⟨42, _⟩ => ⟨S512x8x2048, .f32⟩
  | .hbm, ⟨43, _⟩ => ⟨S4096x2048, .f32⟩
  | .hbm, ⟨44, _⟩ => ⟨S512x8x2048, .f32⟩
  | .hbm, ⟨45, _⟩ => ⟨S_, .f32⟩
  | .hbm, ⟨46, _⟩ => ⟨S8x2048, .f32⟩
  | .hbm, ⟨47, _⟩ => ⟨S1x8x2048, .f32⟩
  | .hbm, ⟨48, _⟩ => ⟨S_, .f32⟩
  | .hbm, ⟨49, _⟩ => ⟨S8x2048, .f32⟩
  | .hbm, ⟨50, _⟩ => ⟨S512x8x2048, .f32⟩
  | .hbm, ⟨51, _⟩ => ⟨S_, .f32⟩
  | .hbm, ⟨52, _⟩ => ⟨S8x2048, .f32⟩
  | .hbm, ⟨53, _⟩ => ⟨S1x8x2048, .f32⟩
  | .hbm, ⟨54, _⟩ => ⟨S512x8x2048, .f32⟩
  | .hbm, ⟨55, _⟩ => ⟨S512x8x2048, .f32⟩
  | .hbm, ⟨56, _⟩ => ⟨S_, .f32⟩
  | .hbm, ⟨57, _⟩ => ⟨S8x2048, .f32⟩
  | .hbm, ⟨58, _⟩ => ⟨S512x8x2048, .f32⟩
  | .hbm, ⟨59, _⟩ => ⟨S_, .f32⟩
  | .hbm, ⟨60, _⟩ => ⟨S512x8, .f32⟩
  | .hbm, ⟨61, _⟩ => ⟨S512x8x1, .f32⟩
  | .hbm, ⟨62, _⟩ => ⟨S512x8x2048, .f32⟩
  | .hbm, ⟨63, _⟩ => ⟨S512x8x2048, .f32⟩
  | .hbm, ⟨64, _⟩ => ⟨S512x8x1, .f32⟩
  | .hbm, ⟨65, _⟩ => ⟨S512x8x2048, .f32⟩
  | .hbm, ⟨66, _⟩ => ⟨S_, .f32⟩
  | .hbm, ⟨67, _⟩ => ⟨S512x8, .f32⟩
  | .hbm, ⟨68, _⟩ => ⟨S512x8x1, .f32⟩
  | .hbm, ⟨69, _⟩ => ⟨S_, .f32⟩
  | .hbm, ⟨70, _⟩ => ⟨S512x8x1, .f32⟩
  | .hbm, ⟨71, _⟩ => ⟨S512x8x1, .f32⟩
  | .hbm, ⟨72, _⟩ => ⟨S_, .f32⟩
  | .hbm, ⟨73, _⟩ => ⟨S512x8, .f32⟩
  | .hbm, ⟨74, _⟩ => ⟨S512x8x2048, .f32⟩
  | .hbm, ⟨75, _⟩ => ⟨S512x8x2048, .f32⟩
  | .hbm, ⟨76, _⟩ => ⟨S512x8x2048, .f32⟩
  | .hbm, ⟨77, _⟩ => ⟨S_, .f32⟩
  | .hbm, ⟨78, _⟩ => ⟨S512x8, .f32⟩
  | .hbm, ⟨79, _⟩ => ⟨S512x8x1, .f32⟩
  | .hbm, ⟨80, _⟩ => ⟨S512x8x2048, .f32⟩
  | .hbm, ⟨81, _⟩ => ⟨S512x8x1, .f32⟩
  | .hbm, ⟨82, _⟩ => ⟨S_, .f32⟩
  | .hbm, ⟨83, _⟩ => ⟨S512x8x1, .f32⟩
  | .hbm, ⟨84, _⟩ => ⟨S512x8x1, .f32⟩
  | .hbm, ⟨85, _⟩ => ⟨S_, .f32⟩
  | .hbm, ⟨86, _⟩ => ⟨S512x8, .f32⟩
  | .hbm, ⟨87, _⟩ => ⟨S512x8x2048, .f32⟩
  | .hbm, ⟨88, _⟩ => ⟨S512x8x2048, .f32⟩
  | .hbm, ⟨89, _⟩ => ⟨S4096x2048, .f32⟩
  | .hbm, ⟨90, _⟩ => ⟨S4096x2048, .bf16⟩
  | _, _ => ⟨S4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_cst_2 : Ref sig .tc := ⟨.hbm, 16, rfl⟩
abbrev main_v10 : Ref sig .tc := ⟨.hbm, 17, rfl⟩
abbrev main_v11 : Ref sig .tc := ⟨.hbm, 18, rfl⟩
abbrev main_cst_3 : Ref sig .tc := ⟨.hbm, 19, rfl⟩
abbrev main_v12 : Ref sig .tc := ⟨.hbm, 20, rfl⟩
abbrev main_v13 : Ref sig .tc := ⟨.hbm, 21, rfl⟩
abbrev main_cst_4 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_cst_5 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_cst_6 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩
abbrev main_cst_7 : Ref sig .tc := ⟨.hbm, 45, rfl⟩
abbrev main_v34 : Ref sig .tc := ⟨.hbm, 46, rfl⟩
abbrev main_v35 : Ref sig .tc := ⟨.hbm, 47, rfl⟩
abbrev main_cst_8 : Ref sig .tc := ⟨.hbm, 48, rfl⟩
abbrev main_v36 : Ref sig .tc := ⟨.hbm, 49, rfl⟩
abbrev main_v37 : Ref sig .tc := ⟨.hbm, 50, rfl⟩
abbrev main_cst_9 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩
abbrev main_v41 : Ref sig .tc := ⟨.hbm, 55, rfl⟩
abbrev main_cst_10 : Ref sig .tc := ⟨.hbm, 56, rfl⟩
abbrev main_v42 : Ref sig .tc := ⟨.hbm, 57, rfl⟩
abbrev main_v43 : Ref sig .tc := ⟨.hbm, 58, rfl⟩
abbrev main_cst_11 : Ref sig .tc := ⟨.hbm, 59, rfl⟩
abbrev main_v44 : Ref sig .tc := ⟨.hbm, 60, rfl⟩
abbrev main_v45 : Ref sig .tc := ⟨.hbm, 61, rfl⟩
abbrev main_v46 : Ref sig .tc := ⟨.hbm, 62, rfl⟩
abbrev main_v47 : Ref sig .tc := ⟨.hbm, 63, rfl⟩
abbrev main_v48 : Ref sig .tc := ⟨.hbm, 64, rfl⟩
abbrev main_v49 : Ref sig .tc := ⟨.hbm, 65, rfl⟩
abbrev main_cst_12 : Ref sig .tc := ⟨.hbm, 66, rfl⟩
abbrev main_v50 : Ref sig .tc := ⟨.hbm, 67, rfl⟩
abbrev main_v51 : Ref sig .tc := ⟨.hbm, 68, rfl⟩
abbrev main_cst_13 : Ref sig .tc := ⟨.hbm, 69, rfl⟩
abbrev main_v52 : Ref sig .tc := ⟨.hbm, 70, rfl⟩
abbrev main_v53 : Ref sig .tc := ⟨.hbm, 71, rfl⟩
abbrev main_cst_14 : Ref sig .tc := ⟨.hbm, 72, rfl⟩
abbrev main_v54 : Ref sig .tc := ⟨.hbm, 73, rfl⟩
abbrev main_v55 : Ref sig .tc := ⟨.hbm, 74, rfl⟩
abbrev main_v56 : Ref sig .tc := ⟨.hbm, 75, rfl⟩
abbrev main_v57 : Ref sig .tc := ⟨.hbm, 76, rfl⟩
abbrev main_cst_15 : Ref sig .tc := ⟨.hbm, 77, rfl⟩
abbrev main_v58 : Ref sig .tc := ⟨.hbm, 78, rfl⟩
abbrev main_v59 : Ref sig .tc := ⟨.hbm, 79, rfl⟩
abbrev main_v60 : Ref sig .tc := ⟨.hbm, 80, rfl⟩
abbrev main_v61 : Ref sig .tc := ⟨.hbm, 81, rfl⟩
abbrev main_cst_16 : Ref sig .tc := ⟨.hbm, 82, rfl⟩
abbrev main_v62 : Ref sig .tc := ⟨.hbm, 83, rfl⟩
abbrev main_v63 : Ref sig .tc := ⟨.hbm, 84, rfl⟩
abbrev main_cst_17 : Ref sig .tc := ⟨.hbm, 85, rfl⟩
abbrev main_v64 : Ref sig .tc := ⟨.hbm, 86, rfl⟩
abbrev main_v65 : Ref sig .tc := ⟨.hbm, 87, rfl⟩
abbrev main_v66 : Ref sig .tc := ⟨.hbm, 88, rfl⟩
abbrev main_v67 : Ref sig .tc := ⟨.hbm, 89, rfl⟩
abbrev main_v68 : Ref sig .tc := ⟨.hbm, 90, rfl⟩

abbrev nD : Nat := 1
abbrev τ : Topo := Topo.v7x

variable {F : FTy → Type} [FloatOps F]
-- ==== RmsGrad.lean ====
abbrev S4096x2048 : Shape := ⟨2, ![4096, 2048]⟩
abbrev S4096x1024 : Shape := ⟨2, ![4096, 1024]⟩
abbrev S1x1024 : Shape := ⟨2, ![1, 1024]⟩
abbrev S8x1024 : Shape := ⟨2, ![8, 1024]⟩
abbrev S512x2048 : Shape := ⟨2, ![512, 2048]⟩
abbrev S512x1024 : Shape := ⟨2, ![512, 1024]⟩
abbrev S512 : Shape := ⟨1, ![512]⟩
abbrev S512x1 : Shape := ⟨2, ![512, 1]⟩
abbrev S64x8x1024 : Shape := ⟨3, ![64, 8, 1024]⟩

abbrev nBuf : Space → Nat
  | .hbm => 9
  | .vmem => 14
  | .smem => 0
  | _ => 0

abbrev bufTy : (tb : Table) → Fin (tcTables nBuf tb) → BufTy
  | .hbm, ⟨0, _⟩ => ⟨S4096x2048, .f32⟩
  | .hbm, ⟨1, _⟩ => ⟨S4096x1024, .f32⟩
  | .hbm, ⟨2, _⟩ => ⟨S4096x1024, .f32⟩
  | .hbm, ⟨3, _⟩ => ⟨S1x1024, .f32⟩
  | .hbm, ⟨4, _⟩ => ⟨S1x1024, .f32⟩
  | .hbm, ⟨5, _⟩ => ⟨S4096x1024, .f32⟩
  | .hbm, ⟨6, _⟩ => ⟨S4096x1024, .f32⟩
  | .hbm, ⟨7, _⟩ => ⟨S8x1024, .f32⟩
  | .hbm, ⟨8, _⟩ => ⟨S8x1024, .f32⟩
  | .local _ .vmem, ⟨0, _⟩ => ⟨S512x2048, .f32⟩
  | .local _ .vmem, ⟨1, _⟩ => ⟨S512x2048, .f32⟩
  | .local _ .vmem, ⟨2, _⟩ => ⟨S512x1024, .f32⟩
  | .local _ .vmem, ⟨3, _⟩ => ⟨S512x1024, .f32⟩
  | .local _ .vmem, ⟨4, _⟩ => ⟨S512x1024, .f32⟩
  | .local _ .vmem, ⟨5, _⟩ => ⟨S512x1024, .f32⟩
  | .local _ .vmem, ⟨6, _⟩ => ⟨S1x1024, .f32⟩
  | .local _ .vmem, ⟨7, _⟩ => ⟨S1x1024, .f32⟩
  | .local _ .vmem, ⟨8, _⟩ => ⟨S512x1024, .f32⟩
  | .local _ .vmem, ⟨9, _⟩ => ⟨S512x1024, .f32⟩
  | .local _ .vmem, ⟨10, _⟩ => ⟨S512x1024, .f32⟩
  | .local _ .vmem, ⟨11, _⟩ => ⟨S512x1024, .f32⟩
  | .local _ .vmem, ⟨12, _⟩ => ⟨S8x1024, .f32⟩
  | .local _ .vmem, ⟨13, _⟩ => ⟨S8x1024, .f32⟩
  | _, _ => ⟨S4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev main_v0_2 : Ref sig .tc := ⟨.hbm, 7, rfl⟩
abbrev main_v0_3 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg8_0 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12
abbrev cc0_sem8_0 : DmaSem sig := 13

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 1 → Memref sig .tc .vmem S8x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S8x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]
-- ==== RefRmsGradIdeal.lean ====
abbrev S4096x2048 : Shape := ⟨2, ![4096, 2048]⟩
abbrev S4096x1024 : Shape := ⟨2, ![4096, 1024]⟩
abbrev S1x1024 : Shape := ⟨2, ![1, 1024]⟩
abbrev S8x1024 : Shape := ⟨2, ![8, 1024]⟩
abbrev S512x8x1024 : Shape := ⟨3, ![512, 8, 1024]⟩
abbrev S_ : Shape := ⟨0, ![]⟩
abbrev S512x8 : Shape := ⟨2, ![512, 8]⟩
abbrev S512x8x1 : Shape := ⟨3, ![512, 8, 1]⟩
abbrev S1x8x1024 : Shape := ⟨3, ![1, 8, 1024]⟩
abbrev S512x8x2048 : Shape := ⟨3, ![512, 8, 2048]⟩

abbrev nBuf : Space → Nat
  | .hbm => 106
  | .vmem => 0
  | .smem => 0
  | _ => 0

abbrev bufTy : (tb : Table) → Fin (tcTables nBuf tb) → BufTy
  | .hbm, ⟨0, _⟩ => ⟨S4096x2048, .f32⟩
  | .hbm, ⟨1, _⟩ => ⟨S4096x1024, .f32⟩
  | .hbm, ⟨2, _⟩ => ⟨S4096x1024, .f32⟩
  | .hbm, ⟨3, _⟩ => ⟨S1x1024, .f32⟩
  | .hbm, ⟨4, _⟩ => ⟨S1x1024, .f32⟩
  | .hbm, ⟨5, _⟩ => ⟨S8x1024, .f32⟩
  | .hbm, ⟨6, _⟩ => ⟨S8x1024, .f32⟩
  | .hbm, ⟨7, _⟩ => ⟨S512x8x1024, .f32⟩
  | .hbm, ⟨8, _⟩ => ⟨S512x8x1024, .f32⟩
  | .hbm, ⟨9, _⟩ => ⟨S_, .f32⟩
  | .hbm, ⟨10, _⟩ => ⟨S512x8, .f32⟩
  | .hbm, ⟨11, _⟩ => ⟨S512x8x1, .f32⟩
  | .hbm, ⟨12, _⟩ => ⟨S_, .f32⟩
  | .hbm, ⟨13, _⟩ => ⟨S512x8x1, .f32⟩
  | .hbm, ⟨14, _⟩ => ⟨S512x8x1, .f32⟩
  | .hbm, ⟨15, _⟩ => ⟨S_, .f32⟩
  | .hbm, ⟨16, _⟩ => ⟨S512x8x1, .f32⟩
  | .hbm, ⟨17, _⟩ => ⟨S512x8x1, .f32⟩
  | .hbm, ⟨18, _⟩ => ⟨S512x8x1, .f32⟩
  | .hbm, ⟨19, _⟩ => ⟨S512x8x1, .f32⟩
  | .hbm, ⟨20, _⟩ => ⟨S_, .f32⟩
  | .hbm, ⟨21, _⟩ => ⟨S512x8x1, .f32⟩
  | .hbm, ⟨22, _⟩ => ⟨S512x8x1, .f32⟩
  | .hbm, ⟨23, _⟩ => ⟨S512x8x1024, .f32⟩
  | .hbm, ⟨24, _⟩ => ⟨S512x8x1024, .f32⟩
  | .hbm, ⟨25, _⟩ => ⟨S1x8x1024, .f32⟩
  | .hbm, ⟨26, _⟩ => ⟨S512x8x1024, .f32⟩
  | .hbm, ⟨27, _⟩ => ⟨S512x8x1024, .f32⟩
  | .hbm, ⟨28, _⟩ => ⟨S512x8x1024, .f32⟩
  | .hbm, ⟨29, _⟩ => ⟨S512x8x1024, .f32⟩
  | .hbm, ⟨30, _⟩ => ⟨S_, .f32⟩
  | .hbm, ⟨31, _⟩ => ⟨S512x8, .f32⟩
  | .hbm, ⟨32, _⟩ => ⟨S512x8x1, .f32⟩
  | .hbm, ⟨33, _⟩ => ⟨S_, .f32⟩
  | .hbm, ⟨34, _⟩ => ⟨S512x8x1, .f32⟩
  | .hbm, ⟨35, _⟩ => ⟨S512x8x1, .f32⟩
  | .hbm, ⟨36, _⟩ => ⟨S_, .f32⟩
  | .hbm, ⟨37, _⟩ => ⟨S512x8x1, .f32⟩
  | .hbm, ⟨38, _⟩ => ⟨S512x8x1, .f32⟩
  | .hbm, ⟨39, _⟩ => ⟨S512x8x1, .f32⟩
  | .hbm, ⟨40, _⟩ => ⟨S512x8x1, .f32⟩
  | .hbm, ⟨41, _⟩ => ⟨S_, .f32⟩
  | .hbm, ⟨42, _⟩ => ⟨S512x8x1, .f32⟩
  | .hbm, ⟨43, _⟩ => ⟨S512x8x1, .f32⟩
  | .hbm, ⟨44, _⟩ => ⟨S512x8x1024, .f32⟩
  | .hbm, ⟨45, _⟩ => ⟨S512x8x1024, .f32⟩
  | .hbm, ⟨46, _⟩ => ⟨S1x8x1024, .f32⟩
  | .hbm, ⟨47, _⟩ => ⟨S512x8x1024, .f32⟩
  | .hbm, ⟨48, _⟩ => ⟨S512x8x1024, .f32⟩
  | .hbm, ⟨49, _⟩ => ⟨S512x8x2048, .f32⟩
  | .hbm, ⟨50, _⟩ => ⟨S4096x2048, .f32⟩
  | .hbm, ⟨51, _⟩ => ⟨S512x8x2048, .f32⟩
  | .hbm, ⟨52, _⟩ => ⟨S512x8x1024, .f32⟩
  | .hbm, ⟨53, _⟩ => ⟨S512x8x1024, .f32⟩
  | .hbm, ⟨54, _⟩ => ⟨S512x8x1024, .f32⟩
  | .hbm, ⟨55, _⟩ => ⟨S_, .f32⟩
  | .hbm, ⟨56, _⟩ => ⟨S8x1024, .f32⟩
  | .hbm, ⟨57, _⟩ => ⟨S1x8x1024, .f32⟩
  | .hbm, ⟨58, _⟩ => ⟨S512x8x1024, .f32⟩
  | .hbm, ⟨59, _⟩ => ⟨S512x8x1024, .f32⟩
  | .hbm, ⟨60, _⟩ => ⟨S_, .f32⟩
  | .hbm, ⟨61, _⟩ => ⟨S8x1024, .f32⟩
  | .hbm, ⟨62, _⟩ => ⟨S512x8x1024, .f32⟩
  | .hbm, ⟨63, _⟩ => ⟨S_, .f32⟩
  | .hbm, ⟨64, _⟩ => ⟨S512x8, .f32⟩
  | .hbm, ⟨65, _⟩ => ⟨S512x8x1, .f32⟩
  | .hbm, ⟨66, _⟩ => ⟨S512x8x1024, .f32⟩
  | .hbm, ⟨67, _⟩ => ⟨S512x8x1024, .f32⟩
  | .hbm, ⟨68, _⟩ => ⟨S512x8x1, .f32⟩
  | .hbm, ⟨69, _⟩ => ⟨S_, .f32⟩
  | .hbm, ⟨70, _⟩ => ⟨S512x8x1, .f32⟩
  | .hbm, ⟨71, _⟩ => ⟨S512x8x1, .f32⟩
  | .hbm, ⟨72, _⟩ => ⟨S_, .f32⟩
  | .hbm, ⟨73, _⟩ => ⟨S512x8, .f32⟩
  | .hbm, ⟨74, _⟩ => ⟨S512x8x1024, .f32⟩
  | .hbm, ⟨75, _⟩ => ⟨S512x8x1024, .f32⟩
  | .hbm, ⟨76, _⟩ => ⟨S512x8x1024, .f32⟩
  | .hbm, ⟨77, _⟩ => ⟨S512x8x1024, .f32⟩
  | .hbm, ⟨78, _⟩ => ⟨S512x8x1024, .f32⟩
  | .hbm, ⟨79, _⟩ => ⟨S4096x1024, .f32⟩
  | .hbm, ⟨80, _⟩ => ⟨S512x8x1024, .f32⟩
  | .hbm, ⟨81, _⟩ => ⟨S_, .f32⟩
  | .hbm, ⟨82, _⟩ => ⟨S8x1024, .f32⟩
  | .hbm, ⟨83, _⟩ => ⟨S1x8x1024, .f32⟩
  | .hbm, ⟨84, _⟩ => ⟨S512x8x1024, .f32⟩
  | .hbm, ⟨85, _⟩ => ⟨S512x8x1024, .f32⟩
  | .hbm, ⟨86, _⟩ => ⟨S_, .f32⟩
  | .hbm, ⟨87, _⟩ => ⟨S8x1024, .f32⟩
  | .hbm, ⟨88, _⟩ => ⟨S512x8x1024, .f32⟩
  | .hbm, ⟨89, _⟩ => ⟨S_, .f32⟩
  | .hbm, ⟨90, _⟩ => ⟨S512x8, .f32⟩
  | .hbm, ⟨91, _⟩ => ⟨S512x8x1, .f32⟩
  | .hbm, ⟨92, _⟩ => ⟨S512x8x1024, .f32⟩
  | .hbm, ⟨93, _⟩ => ⟨S512x8x1024, .f32⟩
  | .hbm, ⟨94, _⟩ => ⟨S512x8x1, .f32⟩
  | .hbm, ⟨95, _⟩ => ⟨S_, .f32⟩
  | .hbm, ⟨96, _⟩ => ⟨S512x8x1, .f32⟩
  | .hbm, ⟨97, _⟩ => ⟨S512x8x1, .f32⟩
  | .hbm, ⟨98, _⟩ => ⟨S_, .f32⟩
  | .hbm, ⟨99, _⟩ => ⟨S512x8, .f32⟩
  | .hbm, ⟨100, _⟩ => ⟨S512x8x1024, .f32⟩
  | .hbm, ⟨101, _⟩ => ⟨S512x8x1024, .f32⟩
  | .hbm, ⟨102, _⟩ => ⟨S512x8x1024, .f32⟩
  | .hbm, ⟨103, _⟩ => ⟨S512x8x1024, .f32⟩
  | .hbm, ⟨104, _⟩ => ⟨S512x8x1024, .f32⟩
  | .hbm, ⟨105, _⟩ => ⟨S4096x1024, .f32⟩
  | _, _ => ⟨S4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_cst : Ref sig .tc := ⟨.hbm, 9, rfl⟩
abbrev main_v4 : Ref sig .tc := ⟨.hbm, 10, rfl⟩
abbrev main_v5 : Ref sig .tc := ⟨.hbm, 11, rfl⟩
abbrev main_cst_0 : Ref sig .tc := ⟨.hbm, 12, rfl⟩
abbrev main_v6 : Ref sig .tc := ⟨.hbm, 13, rfl⟩
abbrev main_v7 : Ref sig .tc := ⟨.hbm, 14, rfl⟩
abbrev main_cst_1 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_cst_2 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_cst_3 : Ref sig .tc := ⟨.hbm, 30, rfl⟩
abbrev main_v21 : Ref sig .tc := ⟨.hbm, 31, rfl⟩
abbrev main_v22 : Ref sig .tc := ⟨.hbm, 32, rfl⟩
abbrev main_cst_4 : Ref sig .tc := ⟨.hbm, 33, rfl⟩
abbrev main_v23 : Ref sig .tc := ⟨.hbm, 34, rfl⟩
abbrev main_v24 : Ref sig .tc := ⟨.hbm, 35, rfl⟩
abbrev main_cst_5 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_cst_6 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩
abbrev main_v39 : Ref sig .tc := ⟨.hbm, 52, rfl⟩
abbrev main_v40 : Ref sig .tc := ⟨.hbm, 53, rfl⟩
abbrev main_v41 : Ref sig .tc := ⟨.hbm, 54, rfl⟩
abbrev main_cst_7 : Ref sig .tc := ⟨.hbm, 55, rfl⟩
abbrev main_v42 : Ref sig .tc := ⟨.hbm, 56, rfl⟩
abbrev main_v43 : Ref sig .tc := ⟨.hbm, 57, rfl⟩
abbrev main_v44 : Ref sig .tc := ⟨.hbm, 58, rfl⟩
abbrev main_v45 : Ref sig .tc := ⟨.hbm, 59, rfl⟩
abbrev main_cst_8 : Ref sig .tc := ⟨.hbm, 60, rfl⟩
abbrev main_v46 : Ref sig .tc := ⟨.hbm, 61, rfl⟩
abbrev main_v47 : Ref sig .tc := ⟨.hbm, 62, rfl⟩
abbrev main_cst_9 : Ref sig .tc := ⟨.hbm, 63, rfl⟩
abbrev main_v48 : Ref sig .tc := ⟨.hbm, 64, rfl⟩
abbrev main_v49 : Ref sig .tc := ⟨.hbm, 65, rfl⟩
abbrev main_v50 : Ref sig .tc := ⟨.hbm, 66, rfl⟩
abbrev main_v51 : Ref sig .tc := ⟨.hbm, 67, rfl⟩
abbrev main_v52 : Ref sig .tc := ⟨.hbm, 68, rfl⟩
abbrev main_cst_10 : Ref sig .tc := ⟨.hbm, 69, rfl⟩
abbrev main_v53 : Ref sig .tc := ⟨.hbm, 70, rfl⟩
abbrev main_v54 : Ref sig .tc := ⟨.hbm, 71, rfl⟩
abbrev main_cst_11 : Ref sig .tc := ⟨.hbm, 72, rfl⟩
abbrev main_v55 : Ref sig .tc := ⟨.hbm, 73, rfl⟩
abbrev main_v56 : Ref sig .tc := ⟨.hbm, 74, rfl⟩
abbrev main_v57 : Ref sig .tc := ⟨.hbm, 75, rfl⟩
abbrev main_v58 : Ref sig .tc := ⟨.hbm, 76, rfl⟩
abbrev main_v59 : Ref sig .tc := ⟨.hbm, 77, rfl⟩
abbrev main_v60 : Ref sig .tc := ⟨.hbm, 78, rfl⟩
abbrev main_v61 : Ref sig .tc := ⟨.hbm, 79, rfl⟩
abbrev main_v62 : Ref sig .tc := ⟨.hbm, 80, rfl⟩
abbrev main_cst_12 : Ref sig .tc := ⟨.hbm, 81, rfl⟩
abbrev main_v63 : Ref sig .tc := ⟨.hbm, 82, rfl⟩
abbrev main_v64 : Ref sig .tc := ⟨.hbm, 83, rfl⟩
abbrev main_v65 : Ref sig .tc := ⟨.hbm, 84, rfl⟩
abbrev main_v66 : Ref sig .tc := ⟨.hbm, 85, rfl⟩
abbrev main_cst_13 : Ref sig .tc := ⟨.hbm, 86, rfl⟩
abbrev main_v67 : Ref sig .tc := ⟨.hbm, 87, rfl⟩
abbrev main_v68 : Ref sig .tc := ⟨.hbm, 88, rfl⟩
abbrev main_cst_14 : Ref sig .tc := ⟨.hbm, 89, rfl⟩
abbrev main_v69 : Ref sig .tc := ⟨.hbm, 90, rfl⟩
abbrev main_v70 : Ref sig .tc := ⟨.hbm, 91, rfl⟩
abbrev main_v71 : Ref sig .tc := ⟨.hbm, 92, rfl⟩
abbrev main_v72 : Ref sig .tc := ⟨.hbm, 93, rfl⟩
abbrev main_v73 : Ref sig .tc := ⟨.hbm, 94, rfl⟩
abbrev main_cst_15 : Ref sig .tc := ⟨.hbm, 95, rfl⟩
abbrev main_v74 : Ref sig .tc := ⟨.hbm, 96, rfl⟩
abbrev main_v75 : Ref sig .tc := ⟨.hbm, 97, rfl⟩
abbrev main_cst_16 : Ref sig .tc := ⟨.hbm, 98, rfl⟩
abbrev main_v76 : Ref sig .tc := ⟨.hbm, 99, rfl⟩
abbrev main_v77 : Ref sig .tc := ⟨.hbm, 100, rfl⟩
abbrev main_v78 : Ref sig .tc := ⟨.hbm, 101, rfl⟩
abbrev main_v79 : Ref sig .tc := ⟨.hbm, 102, rfl⟩
abbrev main_v80 : Ref sig .tc := ⟨.hbm, 103, rfl⟩
abbrev main_v81 : Ref sig .tc := ⟨.hbm, 104, rfl⟩
abbrev main_v82 : Ref sig .tc := ⟨.hbm, 105, rfl⟩

abbrev nD : Nat := 1
abbrev τ : Topo := Topo.v7x

variable {F : FTy → Type} [FloatOps F]
-- ==== Loss.lean ====
abbrev S4096x2048 : Shape := ⟨2, ![4096, 2048]⟩
abbrev S8x2048 : Shape := ⟨2, ![8, 2048]⟩
abbrev S512x2048 : Shape := ⟨2, ![512, 2048]⟩
abbrev S64x8x2048 : Shape := ⟨3, ![64, 8, 2048]⟩

abbrev nBuf : Space → Nat
  | .hbm => 4
  | .vmem => 7
  | .smem => 0
  | _ => 0

abbrev bufTy : (tb : Table) → Fin (tcTables nBuf tb) → BufTy
  | .hbm, ⟨0, _⟩ => ⟨S4096x2048, .f32⟩
  | .hbm, ⟨1, _⟩ => ⟨S4096x2048, .f32⟩
  | .hbm, ⟨2, _⟩ => ⟨S4096x2048, .f32⟩
  | .hbm, ⟨3, _⟩ => ⟨S8x2048, .f32⟩
  | .local _ .vmem, ⟨0, _⟩ => ⟨S512x2048, .f32⟩
  | .local _ .vmem, ⟨1, _⟩ => ⟨S512x2048, .f32⟩
  | .local _ .vmem, ⟨2, _⟩ => ⟨S512x2048, .f32⟩
  | .local _ .vmem, ⟨3, _⟩ => ⟨S512x2048, .f32⟩
  | .local _ .vmem, ⟨4, _⟩ => ⟨S512x2048, .f32⟩
  | .local _ .vmem, ⟨5, _⟩ => ⟨S512x2048, .f32⟩
  | .local _ .vmem, ⟨6, _⟩ => ⟨S8x2048, .f32⟩
  | _, _ => ⟨S4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0_0 : Ref sig .tc := ⟨.hbm, 2, rfl⟩
abbrev main_v0_1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S8x2048 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]
-- ==== RefLossIdeal.lean ====
abbrev S4096x2048 : Shape := ⟨2, ![4096, 2048]⟩
abbrev S_ : Shape := ⟨0, ![]⟩
abbrev S4096 : Shape := ⟨1, ![4096]⟩
abbrev S512x8x2048 : Shape := ⟨3, ![512, 8, 2048]⟩
abbrev S8x2048 : Shape := ⟨2, ![8, 2048]⟩

abbrev nBuf : Space → Nat
  | .hbm => 30
  | .vmem => 0
  | .smem => 0
  | _ => 0

abbrev bufTy : (tb : Table) → Fin (tcTables nBuf tb) → BufTy
  | .hbm, ⟨0, _⟩ => ⟨S4096x2048, .f32⟩
  | .hbm, ⟨1, _⟩ => ⟨S4096x2048, .f32⟩
  | .hbm, ⟨2, _⟩ => ⟨S4096x2048, .f32⟩
  | .hbm, ⟨3, _⟩ => ⟨S4096x2048, .f32⟩
  | .hbm, ⟨4, _⟩ => ⟨S_, .f32⟩
  | .hbm, ⟨5, _⟩ => ⟨S4096x2048, .f32⟩
  | .hbm, ⟨6, _⟩ => ⟨S4096x2048, .f32⟩
  | .hbm, ⟨7, _⟩ => ⟨S_, .f32⟩
  | .hbm, ⟨8, _⟩ => ⟨S4096, .f32⟩
  | .hbm, ⟨9, _⟩ => ⟨S_, .f32⟩
  | .hbm, ⟨10, _⟩ => ⟨S4096, .f32⟩
  | .hbm, ⟨11, _⟩ => ⟨S4096, .f32⟩
  | .hbm, ⟨12, _⟩ => ⟨S_, .f32⟩
  | .hbm, ⟨13, _⟩ => ⟨S_, .f32⟩
  | .hbm, ⟨14, _⟩ => ⟨S_, .f32⟩
  | .hbm, ⟨15, _⟩ => ⟨S_, .f32⟩
  | .hbm, ⟨16, _⟩ => ⟨S_, .f32⟩
  | .hbm, ⟨17, _⟩ => ⟨S_, .f32⟩
  | .hbm, ⟨18, _⟩ => ⟨S_, .f32⟩
  | .hbm, ⟨19, _⟩ => ⟨S4096, .f32⟩
  | .hbm, ⟨20, _⟩ => ⟨S_, .f32⟩
  | .hbm, ⟨21, _⟩ => ⟨S4096, .f32⟩
  | .hbm, ⟨22, _⟩ => ⟨S4096, .f32⟩
  | .hbm, ⟨23, _⟩ => ⟨S4096x2048, .f32⟩
  | .hbm, ⟨24, _⟩ => ⟨S4096x2048, .f32⟩
  | .hbm, ⟨25, _⟩ => ⟨S4096x2048, .f32⟩
  | .hbm, ⟨26, _⟩ => ⟨S4096x2048, .f32⟩
  | .hbm, ⟨27, _⟩ => ⟨S512x8x2048, .f32⟩
  | .hbm, ⟨28, _⟩ => ⟨S_, .f32⟩
  | .hbm, ⟨29, _⟩ => ⟨S8x2048, .f32⟩
  | _, _ => ⟨S4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_cst_0 : Ref sig .tc := ⟨.hbm, 7, rfl⟩
abbrev main_v4 : Ref sig .tc := ⟨.hbm, 8, rfl⟩
abbrev main_cst_1 : Ref sig .tc := ⟨.hbm, 9, rfl⟩
abbrev main_v5 : Ref sig .tc := ⟨.hbm, 10, rfl⟩
abbrev main_v6 : Ref sig .tc := ⟨.hbm, 11, rfl⟩
abbrev main_cst_2 : Ref sig .tc := ⟨.hbm, 12, rfl⟩
abbrev main_v7 : Ref sig .tc := ⟨.hbm, 13, rfl⟩
abbrev main_cst_3 : Ref sig .tc := ⟨.hbm, 14, rfl⟩
abbrev main_v8 : Ref sig .tc := ⟨.hbm, 15, rfl⟩
abbrev main_cst_4 : Ref sig .tc := ⟨.hbm, 16, rfl⟩
abbrev main_cst_5 : Ref sig .tc := ⟨.hbm, 17, rfl⟩
abbrev main_v9 : Ref sig .tc := ⟨.hbm, 18, rfl⟩
abbrev main_v10 : Ref sig .tc := ⟨.hbm, 19, rfl⟩
abbrev main_cst_6 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_cst_7 : Ref sig .tc := ⟨.hbm, 28, rfl⟩
abbrev main_v18 : Ref sig .tc := ⟨.hbm, 29, rfl⟩

abbrev nD : Nat := 1
abbrev τ : Topo := Topo.v7x

variable {F : FTy → Type} [FloatOps F]
-- ==== AdamIn.lean ====
abbrev S8192x1088 : Shape := ⟨2, ![8192, 1088]⟩
abbrev S256x1088 : Shape := ⟨2, ![256, 1088]⟩

abbrev nBuf : Space → Nat
  | .hbm => 8
  | .vmem => 16
  | .smem => 0
  | _ => 0

abbrev bufTy : (tb : Table) → Fin (tcTables nBuf tb) → BufTy
  | .hbm, ⟨0, _⟩ => ⟨S8192x1088, .f32⟩
  | .hbm, ⟨1, _⟩ => ⟨S8192x1088, .f32⟩
  | .hbm, ⟨2, _⟩ => ⟨S8192x1088, .f32⟩
  | .hbm, ⟨3, _⟩ => ⟨S8192x1088, .f32⟩
  | .hbm, ⟨4, _⟩ => ⟨S8192x1088, .f32⟩
  | .hbm, ⟨5, _⟩ => ⟨S8192x1088, .f32⟩
  | .hbm, ⟨6, _⟩ => ⟨S8192x1088, .f32⟩
  | .hbm, ⟨7, _⟩ => ⟨S8192x1088, .f32⟩
  | .local _ .vmem, ⟨0, _⟩ => ⟨S256x1088, .f32⟩
  | .local _ .vmem, ⟨1, _⟩ => ⟨S256x1088, .f32⟩
  | .local _ .vmem, ⟨2, _⟩ => ⟨S256x1088, .f32⟩
  | .local _ .vmem, ⟨3, _⟩ => ⟨S256x1088, .f32⟩
  | .local _ .vmem, ⟨4, _⟩ => ⟨S256x1088, .f32⟩
  | .local _ .vmem, ⟨5, _⟩ => ⟨S256x1088, .f32⟩
  | .local _ .vmem, ⟨6, _⟩ => ⟨S256x1088, .f32⟩
  | .local _ .vmem, ⟨7, _⟩ => ⟨S256x1088, .f32⟩
  | .local _ .vmem, ⟨8, _⟩ => ⟨S256x1088, .f32⟩
  | .local _ .vmem, ⟨9, _⟩ => ⟨S256x1088, .f32⟩
  | .local _ .vmem, ⟨10, _⟩ => ⟨S256x1088, .f32⟩
  | .local _ .vmem, ⟨11, _⟩ => ⟨S256x1088, .f32⟩
  | .local _ .vmem, ⟨12, _⟩ => ⟨S256x1088, .f32⟩
  | .local _ .vmem, ⟨13, _⟩ => ⟨S256x1088, .f32⟩
  | .local _ .vmem, ⟨14, _⟩ => ⟨S256x1088, .f32⟩
  | .local _ .vmem, ⟨15, _⟩ => ⟨S256x1088, .f32⟩
  | _, _ => ⟨S8192x1088, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1088 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1088 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x1088 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x1088 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x1088 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x1088 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x1088 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S256x1088 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== AdamInIdeal.lean ====
abbrev S8192x1088 : Shape := ⟨2, ![8192, 1088]⟩
abbrev S256x1088 : Shape := ⟨2, ![256, 1088]⟩

abbrev nBuf : Space → Nat
  | .hbm => 8
  | .vmem => 16
  | .smem => 0
  | _ => 0

abbrev bufTy : (tb : Table) → Fin (tcTables nBuf tb) → BufTy
  | .hbm, ⟨0, _⟩ => ⟨S8192x1088, .f32⟩
  | .hbm, ⟨1, _⟩ => ⟨S8192x1088, .f32⟩
  | .hbm, ⟨2, _⟩ => ⟨S8192x1088, .f32⟩
  | .hbm, ⟨3, _⟩ => ⟨S8192x1088, .f32⟩
  | .hbm, ⟨4, _⟩ => ⟨S8192x1088, .f32⟩
  | .hbm, ⟨5, _⟩ => ⟨S8192x1088, .f32⟩
  | .hbm, ⟨6, _⟩ => ⟨S8192x1088, .f32⟩
  | .hbm, ⟨7, _⟩ => ⟨S8192x1088, .f32⟩
  | .local _ .vmem, ⟨0, _⟩ => ⟨S256x1088, .f32⟩
  | .local _ .vmem, ⟨1, _⟩ => ⟨S256x1088, .f32⟩
  | .local _ .vmem, ⟨2, _⟩ => ⟨S256x1088, .f32⟩
  | .local _ .vmem, ⟨3, _⟩ => ⟨S256x1088, .f32⟩
  | .local _ .vmem, ⟨4, _⟩ => ⟨S256x1088, .f32⟩
  | .local _ .vmem, ⟨5, _⟩ => ⟨S256x1088, .f32⟩
  | .local _ .vmem, ⟨6, _⟩ => ⟨S256x1088, .f32⟩
  | .local _ .vmem, ⟨7, _⟩ => ⟨S256x1088, .f32⟩
  | .local _ .vmem, ⟨8, _⟩ => ⟨S256x1088, .f32⟩
  | .local _ .vmem, ⟨9, _⟩ => ⟨S256x1088, .f32⟩
  | .local _ .vmem, ⟨10, _⟩ => ⟨S256x1088, .f32⟩
  | .local _ .vmem, ⟨11, _⟩ => ⟨S256x1088, .f32⟩
  | .local _ .vmem, ⟨12, _⟩ => ⟨S256x1088, .f32⟩
  | .local _ .vmem, ⟨13, _⟩ => ⟨S256x1088, .f32⟩
  | .local _ .vmem, ⟨14, _⟩ => ⟨S256x1088, .f32⟩
  | .local _ .vmem, ⟨15, _⟩ => ⟨S256x1088, .f32⟩
  | _, _ => ⟨S8192x1088, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F] [Named F]

def κ : String → Option EReal := fun
  | "over_1" => some ((8388608 / 5463681 : ℝ) : EReal)
  | "over_2" => some ((268435456 / 2672307 : ℝ) : EReal)
  | _ => none

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1088 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1088 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x1088 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x1088 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x1088 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x1088 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x1088 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S256x1088 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== RefAdamInIdeal.lean ====
abbrev S8192x1088 : Shape := ⟨2, ![8192, 1088]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S8192x1088, .f32⟩
  | .hbm, ⟨1, _⟩ => ⟨S8192x1088, .f32⟩
  | .hbm, ⟨2, _⟩ => ⟨S8192x1088, .f32⟩
  | .hbm, ⟨3, _⟩ => ⟨S8192x1088, .f32⟩
  | .hbm, ⟨4, _⟩ => ⟨S_, .f32⟩
  | .hbm, ⟨5, _⟩ => ⟨S8192x1088, .f32⟩
  | .hbm, ⟨6, _⟩ => ⟨S8192x1088, .f32⟩
  | .hbm, ⟨7, _⟩ => ⟨S_, .f32⟩
  | .hbm, ⟨8, _⟩ => ⟨S8192x1088, .f32⟩
  | .hbm, ⟨9, _⟩ => ⟨S8192x1088, .f32⟩
  | .hbm, ⟨10, _⟩ => ⟨S8192x1088, .f32⟩
  | .hbm, ⟨11, _⟩ => ⟨S_, .f32⟩
  | .hbm, ⟨12, _⟩ => ⟨S8192x1088, .f32⟩
  | .hbm, ⟨13, _⟩ => ⟨S8192x1088, .f32⟩
  | .hbm, ⟨14, _⟩ => ⟨S8192x1088, .f32⟩
  | .hbm, ⟨15, _⟩ => ⟨S_, .f32⟩
  | .hbm, ⟨16, _⟩ => ⟨S8192x1088, .f32⟩
  | .hbm, ⟨17, _⟩ => ⟨S8192x1088, .f32⟩
  | .hbm, ⟨18, _⟩ => ⟨S8192x1088, .f32⟩
  | .hbm, ⟨19, _⟩ => ⟨S_, .f32⟩
  | .hbm, ⟨20, _⟩ => ⟨S8192x1088, .f32⟩
  | .hbm, ⟨21, _⟩ => ⟨S8192x1088, .f32⟩
  | .hbm, ⟨22, _⟩ => ⟨S_, .f32⟩
  | .hbm, ⟨23, _⟩ => ⟨S8192x1088, .f32⟩
  | .hbm, ⟨24, _⟩ => ⟨S8192x1088, .f32⟩
  | .hbm, ⟨25, _⟩ => ⟨S8192x1088, .f32⟩
  | .hbm, ⟨26, _⟩ => ⟨S_, .f32⟩
  | .hbm, ⟨27, _⟩ => ⟨S8192x1088, .f32⟩
  | .hbm, ⟨28, _⟩ => ⟨S8192x1088, .f32⟩
  | .hbm, ⟨29, _⟩ => ⟨S8192x1088, .f32⟩
  | .hbm, ⟨30, _⟩ => ⟨S_, .f32⟩
  | .hbm, ⟨31, _⟩ => ⟨S8192x1088, .f32⟩
  | .hbm, ⟨32, _⟩ => ⟨S8192x1088, .f32⟩
  | .hbm, ⟨33, _⟩ => ⟨S8192x1088, .f32⟩
  | .hbm, ⟨34, _⟩ => ⟨S_, .f32⟩
  | .hbm, ⟨35, _⟩ => ⟨S8192x1088, .f32⟩
  | .hbm, ⟨36, _⟩ => ⟨S8192x1088, .f32⟩
  | _, _ => ⟨S8192x1088, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== AdamSq.lean ====
abbrev S2048x2048 : Shape := ⟨2, ![2048, 2048]⟩
abbrev S256x2048 : Shape := ⟨2, ![256, 2048]⟩

abbrev nBuf : Space → Nat
  | .hbm => 8
  | .vmem => 16
  | .smem => 0
  | _ => 0

abbrev bufTy : (tb : Table) → Fin (tcTables nBuf tb) → BufTy
  | .hbm, ⟨0, _⟩ => ⟨S2048x2048, .f32⟩
  | .hbm, ⟨1, _⟩ => ⟨S2048x2048, .f32⟩
  | .hbm, ⟨2, _⟩ => ⟨S2048x2048, .f32⟩
  | .hbm, ⟨3, _⟩ => ⟨S2048x2048, .f32⟩
  | .hbm, ⟨4, _⟩ => ⟨S2048x2048, .f32⟩
  | .hbm, ⟨5, _⟩ => ⟨S2048x2048, .f32⟩
  | .hbm, ⟨6, _⟩ => ⟨S2048x2048, .f32⟩
  | .hbm, ⟨7, _⟩ => ⟨S2048x2048, .f32⟩
  | .local _ .vmem, ⟨0, _⟩ => ⟨S256x2048, .f32⟩
  | .local _ .vmem, ⟨1, _⟩ => ⟨S256x2048, .f32⟩
  | .local _ .vmem, ⟨2, _⟩ => ⟨S256x2048, .f32⟩
  | .local _ .vmem, ⟨3, _⟩ => ⟨S256x2048, .f32⟩
  | .local _ .vmem, ⟨4, _⟩ => ⟨S256x2048, .f32⟩
  | .local _ .vmem, ⟨5, _⟩ => ⟨S256x2048, .f32⟩
  | .local _ .vmem, ⟨6, _⟩ => ⟨S256x2048, .f32⟩
  | .local _ .vmem, ⟨7, _⟩ => ⟨S256x2048, .f32⟩
  | .local _ .vmem, ⟨8, _⟩ => ⟨S256x2048, .f32⟩
  | .local _ .vmem, ⟨9, _⟩ => ⟨S256x2048, .f32⟩
  | .local _ .vmem, ⟨10, _⟩ => ⟨S256x2048, .f32⟩
  | .local _ .vmem, ⟨11, _⟩ => ⟨S256x2048, .f32⟩
  | .local _ .vmem, ⟨12, _⟩ => ⟨S256x2048, .f32⟩
  | .local _ .vmem, ⟨13, _⟩ => ⟨S256x2048, .f32⟩
  | .local _ .vmem, ⟨14, _⟩ => ⟨S256x2048, .f32⟩
  | .local _ .vmem, ⟨15, _⟩ => ⟨S256x2048, .f32⟩
  | _, _ => ⟨S2048x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x2048 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S256x2048 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== AdamSqIdeal.lean ====
abbrev S2048x2048 : Shape := ⟨2, ![2048, 2048]⟩
abbrev S256x2048 : Shape := ⟨2, ![256, 2048]⟩

abbrev nBuf : Space → Nat
  | .hbm => 8
  | .vmem => 16
  | .smem => 0
  | _ => 0

abbrev bufTy : (tb : Table) → Fin (tcTables nBuf tb) → BufTy
  | .hbm, ⟨0, _⟩ => ⟨S2048x2048, .f32⟩
  | .hbm, ⟨1, _⟩ => ⟨S2048x2048, .f32⟩
  | .hbm, ⟨2, _⟩ => ⟨S2048x2048, .f32⟩
  | .hbm, ⟨3, _⟩ => ⟨S2048x2048, .f32⟩
  | .hbm, ⟨4, _⟩ => ⟨S2048x2048, .f32⟩
  | .hbm, ⟨5, _⟩ => ⟨S2048x2048, .f32⟩
  | .hbm, ⟨6, _⟩ => ⟨S2048x2048, .f32⟩
  | .hbm, ⟨7, _⟩ => ⟨S2048x2048, .f32⟩
  | .local _ .vmem, ⟨0, _⟩ => ⟨S256x2048, .f32⟩
  | .local _ .vmem, ⟨1, _⟩ => ⟨S256x2048, .f32⟩
  | .local _ .vmem, ⟨2, _⟩ => ⟨S256x2048, .f32⟩
  | .local _ .vmem, ⟨3, _⟩ => ⟨S256x2048, .f32⟩
  | .local _ .vmem, ⟨4, _⟩ => ⟨S256x2048, .f32⟩
  | .local _ .vmem, ⟨5, _⟩ => ⟨S256x2048, .f32⟩
  | .local _ .vmem, ⟨6, _⟩ => ⟨S256x2048, .f32⟩
  | .local _ .vmem, ⟨7, _⟩ => ⟨S256x2048, .f32⟩
  | .local _ .vmem, ⟨8, _⟩ => ⟨S256x2048, .f32⟩
  | .local _ .vmem, ⟨9, _⟩ => ⟨S256x2048, .f32⟩
  | .local _ .vmem, ⟨10, _⟩ => ⟨S256x2048, .f32⟩
  | .local _ .vmem, ⟨11, _⟩ => ⟨S256x2048, .f32⟩
  | .local _ .vmem, ⟨12, _⟩ => ⟨S256x2048, .f32⟩
  | .local _ .vmem, ⟨13, _⟩ => ⟨S256x2048, .f32⟩
  | .local _ .vmem, ⟨14, _⟩ => ⟨S256x2048, .f32⟩
  | .local _ .vmem, ⟨15, _⟩ => ⟨S256x2048, .f32⟩
  | _, _ => ⟨S2048x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F] [Named F]

def κ : String → Option EReal := fun
  | "over_1" => some ((8388608 / 5463681 : ℝ) : EReal)
  | "over_2" => some ((268435456 / 2672307 : ℝ) : EReal)
  | _ => none

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x2048 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S256x2048 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== RefAdamSqIdeal.lean ====
abbrev S2048x2048 : Shape := ⟨2, ![2048, 2048]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S2048x2048, .f32⟩
  | .hbm, ⟨1, _⟩ => ⟨S2048x2048, .f32⟩
  | .hbm, ⟨2, _⟩ => ⟨S2048x2048, .f32⟩
  | .hbm, ⟨3, _⟩ => ⟨S2048x2048, .f32⟩
  | .hbm, ⟨4, _⟩ => ⟨S_, .f32⟩
  | .hbm, ⟨5, _⟩ => ⟨S2048x2048, .f32⟩
  | .hbm, ⟨6, _⟩ => ⟨S2048x2048, .f32⟩
  | .hbm, ⟨7, _⟩ => ⟨S_, .f32⟩
  | .hbm, ⟨8, _⟩ => ⟨S2048x2048, .f32⟩
  | .hbm, ⟨9, _⟩ => ⟨S2048x2048, .f32⟩
  | .hbm, ⟨10, _⟩ => ⟨S2048x2048, .f32⟩
  | .hbm, ⟨11, _⟩ => ⟨S_, .f32⟩
  | .hbm, ⟨12, _⟩ => ⟨S2048x2048, .f32⟩
  | .hbm, ⟨13, _⟩ => ⟨S2048x2048, .f32⟩
  | .hbm, ⟨14, _⟩ => ⟨S2048x2048, .f32⟩
  | .hbm, ⟨15, _⟩ => ⟨S_, .f32⟩
  | .hbm, ⟨16, _⟩ => ⟨S2048x2048, .f32⟩
  | .hbm, ⟨17, _⟩ => ⟨S2048x2048, .f32⟩
  | .hbm, ⟨18, _⟩ => ⟨S2048x2048, .f32⟩
  | .hbm, ⟨19, _⟩ => ⟨S_, .f32⟩
  | .hbm, ⟨20, _⟩ => ⟨S2048x2048, .f32⟩
  | .hbm, ⟨21, _⟩ => ⟨S2048x2048, .f32⟩
  | .hbm, ⟨22, _⟩ => ⟨S_, .f32⟩
  | .hbm, ⟨23, _⟩ => ⟨S2048x2048, .f32⟩
  | .hbm, ⟨24, _⟩ => ⟨S2048x2048, .f32⟩
  | .hbm, ⟨25, _⟩ => ⟨S2048x2048, .f32⟩
  | .hbm, ⟨26, _⟩ => ⟨S_, .f32⟩
  | .hbm, ⟨27, _⟩ => ⟨S2048x2048, .f32⟩
  | .hbm, ⟨28, _⟩ => ⟨S2048x2048, .f32⟩
  | .hbm, ⟨29, _⟩ => ⟨S2048x2048, .f32⟩
  | .hbm, ⟨30, _⟩ => ⟨S_, .f32⟩
  | .hbm, ⟨31, _⟩ => ⟨S2048x2048, .f32⟩
  | .hbm, ⟨32, _⟩ => ⟨S2048x2048, .f32⟩
  | .hbm, ⟨33, _⟩ => ⟨S2048x2048, .f32⟩
  | .hbm, ⟨34, _⟩ => ⟨S_, .f32⟩
  | .hbm, ⟨35, _⟩ => ⟨S2048x2048, .f32⟩
  | .hbm, ⟨36, _⟩ => ⟨S2048x2048, .f32⟩
  | _, _ => ⟨S2048x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== AdamMkv.lean ====
abbrev S8192x1024 : Shape := ⟨2, ![8192, 1024]⟩
abbrev S512x1024 : Shape := ⟨2, ![512, 1024]⟩

abbrev nBuf : Space → Nat
  | .hbm => 8
  | .vmem => 16
  | .smem => 0
  | _ => 0

abbrev bufTy : (tb : Table) → Fin (tcTables nBuf tb) → BufTy
  | .hbm, ⟨0, _⟩ => ⟨S8192x1024, .f32⟩
  | .hbm, ⟨1, _⟩ => ⟨S8192x1024, .f32⟩
  | .hbm, ⟨2, _⟩ => ⟨S8192x1024, .f32⟩
  | .hbm, ⟨3, _⟩ => ⟨S8192x1024, .f32⟩
  | .hbm, ⟨4, _⟩ => ⟨S8192x1024, .f32⟩
  | .hbm, ⟨5, _⟩ => ⟨S8192x1024, .f32⟩
  | .hbm, ⟨6, _⟩ => ⟨S8192x1024, .f32⟩
  | .hbm, ⟨7, _⟩ => ⟨S8192x1024, .f32⟩
  | .local _ .vmem, ⟨0, _⟩ => ⟨S512x1024, .f32⟩
  | .local _ .vmem, ⟨1, _⟩ => ⟨S512x1024, .f32⟩
  | .local _ .vmem, ⟨2, _⟩ => ⟨S512x1024, .f32⟩
  | .local _ .vmem, ⟨3, _⟩ => ⟨S512x1024, .f32⟩
  | .local _ .vmem, ⟨4, _⟩ => ⟨S512x1024, .f32⟩
  | .local _ .vmem, ⟨5, _⟩ => ⟨S512x1024, .f32⟩
  | .local _ .vmem, ⟨6, _⟩ => ⟨S512x1024, .f32⟩
  | .local _ .vmem, ⟨7, _⟩ => ⟨S512x1024, .f32⟩
  | .local _ .vmem, ⟨8, _⟩ => ⟨S512x1024, .f32⟩
  | .local _ .vmem, ⟨9, _⟩ => ⟨S512x1024, .f32⟩
  | .local _ .vmem, ⟨10, _⟩ => ⟨S512x1024, .f32⟩
  | .local _ .vmem, ⟨11, _⟩ => ⟨S512x1024, .f32⟩
  | .local _ .vmem, ⟨12, _⟩ => ⟨S512x1024, .f32⟩
  | .local _ .vmem, ⟨13, _⟩ => ⟨S512x1024, .f32⟩
  | .local _ .vmem, ⟨14, _⟩ => ⟨S512x1024, .f32⟩
  | .local _ .vmem, ⟨15, _⟩ => ⟨S512x1024, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S512x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== AdamMkvIdeal.lean ====
abbrev S8192x1024 : Shape := ⟨2, ![8192, 1024]⟩
abbrev S512x1024 : Shape := ⟨2, ![512, 1024]⟩

abbrev nBuf : Space → Nat
  | .hbm => 8
  | .vmem => 16
  | .smem => 0
  | _ => 0

abbrev bufTy : (tb : Table) → Fin (tcTables nBuf tb) → BufTy
  | .hbm, ⟨0, _⟩ => ⟨S8192x1024, .f32⟩
  | .hbm, ⟨1, _⟩ => ⟨S8192x1024, .f32⟩
  | .hbm, ⟨2, _⟩ => ⟨S8192x1024, .f32⟩
  | .hbm, ⟨3, _⟩ => ⟨S8192x1024, .f32⟩
  | .hbm, ⟨4, _⟩ => ⟨S8192x1024, .f32⟩
  | .hbm, ⟨5, _⟩ => ⟨S8192x1024, .f32⟩
  | .hbm, ⟨6, _⟩ => ⟨S8192x1024, .f32⟩
  | .hbm, ⟨7, _⟩ => ⟨S8192x1024, .f32⟩
  | .local _ .vmem, ⟨0, _⟩ => ⟨S512x1024, .f32⟩
  | .local _ .vmem, ⟨1, _⟩ => ⟨S512x1024, .f32⟩
  | .local _ .vmem, ⟨2, _⟩ => ⟨S512x1024, .f32⟩
  | .local _ .vmem, ⟨3, _⟩ => ⟨S512x1024, .f32⟩
  | .local _ .vmem, ⟨4, _⟩ => ⟨S512x1024, .f32⟩
  | .local _ .vmem, ⟨5, _⟩ => ⟨S512x1024, .f32⟩
  | .local _ .vmem, ⟨6, _⟩ => ⟨S512x1024, .f32⟩
  | .local _ .vmem, ⟨7, _⟩ => ⟨S512x1024, .f32⟩
  | .local _ .vmem, ⟨8, _⟩ => ⟨S512x1024, .f32⟩
  | .local _ .vmem, ⟨9, _⟩ => ⟨S512x1024, .f32⟩
  | .local _ .vmem, ⟨10, _⟩ => ⟨S512x1024, .f32⟩
  | .local _ .vmem, ⟨11, _⟩ => ⟨S512x1024, .f32⟩
  | .local _ .vmem, ⟨12, _⟩ => ⟨S512x1024, .f32⟩
  | .local _ .vmem, ⟨13, _⟩ => ⟨S512x1024, .f32⟩
  | .local _ .vmem, ⟨14, _⟩ => ⟨S512x1024, .f32⟩
  | .local _ .vmem, ⟨15, _⟩ => ⟨S512x1024, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F] [Named F]

def κ : String → Option EReal := fun
  | "over_1" => some ((8388608 / 5463681 : ℝ) : EReal)
  | "over_2" => some ((268435456 / 2672307 : ℝ) : EReal)
  | _ => none

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S512x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== RefAdamMkvIdeal.lean ====
abbrev S8192x1024 : Shape := ⟨2, ![8192, 1024]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S8192x1024, .f32⟩
  | .hbm, ⟨2, _⟩ => ⟨S8192x1024, .f32⟩
  | .hbm, ⟨3, _⟩ => ⟨S8192x1024, .f32⟩
  | .hbm, ⟨4, _⟩ => ⟨S_, .f32⟩
  | .hbm, ⟨5, _⟩ => ⟨S8192x1024, .f32⟩
  | .hbm, ⟨6, _⟩ => ⟨S8192x1024, .f32⟩
  | .hbm, ⟨7, _⟩ => ⟨S_, .f32⟩
  | .hbm, ⟨8, _⟩ => ⟨S8192x1024, .f32⟩
  | .hbm, ⟨9, _⟩ => ⟨S8192x1024, .f32⟩
  | .hbm, ⟨10, _⟩ => ⟨S8192x1024, .f32⟩
  | .hbm, ⟨11, _⟩ => ⟨S_, .f32⟩
  | .hbm, ⟨12, _⟩ => ⟨S8192x1024, .f32⟩
  | .hbm, ⟨13, _⟩ => ⟨S8192x1024, .f32⟩
  | .hbm, ⟨14, _⟩ => ⟨S8192x1024, .f32⟩
  | .hbm, ⟨15, _⟩ => ⟨S_, .f32⟩
  | .hbm, ⟨16, _⟩ => ⟨S8192x1024, .f32⟩
  | .hbm, ⟨17, _⟩ => ⟨S8192x1024, .f32⟩
  | .hbm, ⟨18, _⟩ => ⟨S8192x1024, .f32⟩
  | .hbm, ⟨19, _⟩ => ⟨S_, .f32⟩
  | .hbm, ⟨20, _⟩ => ⟨S8192x1024, .f32⟩
  | .hbm, ⟨21, _⟩ => ⟨S8192x1024, .f32⟩
  | .hbm, ⟨22, _⟩ => ⟨S_, .f32⟩
  | .hbm, ⟨23, _⟩ => ⟨S8192x1024, .f32⟩
  | .hbm, ⟨24, _⟩ => ⟨S8192x1024, .f32⟩
  | .hbm, ⟨25, _⟩ => ⟨S8192x1024, .f32⟩
  | .hbm, ⟨26, _⟩ => ⟨S_, .f32⟩
  | .hbm, ⟨27, _⟩ => ⟨S8192x1024, .f32⟩
  | .hbm, ⟨28, _⟩ => ⟨S8192x1024, .f32⟩
  | .hbm, ⟨29, _⟩ => ⟨S8192x1024, .f32⟩
  | .hbm, ⟨30, _⟩ => ⟨S_, .f32⟩
  | .hbm, ⟨31, _⟩ => ⟨S8192x1024, .f32⟩
  | .hbm, ⟨32, _⟩ => ⟨S8192x1024, .f32⟩
  | .hbm, ⟨33, _⟩ => ⟨S8192x1024, .f32⟩
  | .hbm, ⟨34, _⟩ => ⟨S_, .f32⟩
  | .hbm, ⟨35, _⟩ => ⟨S8192x1024, .f32⟩
  | .hbm, ⟨36, _⟩ => ⟨S8192x1024, .f32⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== AdamUp.lean ====
abbrev S8192x2048 : Shape := ⟨2, ![8192, 2048]⟩
abbrev S256x2048 : Shape := ⟨2, ![256, 2048]⟩

abbrev nBuf : Space → Nat
  | .hbm => 8
  | .vmem => 16
  | .smem => 0
  | _ => 0

abbrev bufTy : (tb : Table) → Fin (tcTables nBuf tb) → BufTy
  | .hbm, ⟨0, _⟩ => ⟨S8192x2048, .f32⟩
  | .hbm, ⟨1, _⟩ => ⟨S8192x2048, .f32⟩
  | .hbm, ⟨2, _⟩ => ⟨S8192x2048, .f32⟩
  | .hbm, ⟨3, _⟩ => ⟨S8192x2048, .f32⟩
  | .hbm, ⟨4, _⟩ => ⟨S8192x2048, .f32⟩
  | .hbm, ⟨5, _⟩ => ⟨S8192x2048, .f32⟩
  | .hbm, ⟨6, _⟩ => ⟨S8192x2048, .f32⟩
  | .hbm, ⟨7, _⟩ => ⟨S8192x2048, .f32⟩
  | .local _ .vmem, ⟨0, _⟩ => ⟨S256x2048, .f32⟩
  | .local _ .vmem, ⟨1, _⟩ => ⟨S256x2048, .f32⟩
  | .local _ .vmem, ⟨2, _⟩ => ⟨S256x2048, .f32⟩
  | .local _ .vmem, ⟨3, _⟩ => ⟨S256x2048, .f32⟩
  | .local _ .vmem, ⟨4, _⟩ => ⟨S256x2048, .f32⟩
  | .local _ .vmem, ⟨5, _⟩ => ⟨S256x2048, .f32⟩
  | .local _ .vmem, ⟨6, _⟩ => ⟨S256x2048, .f32⟩
  | .local _ .vmem, ⟨7, _⟩ => ⟨S256x2048, .f32⟩
  | .local _ .vmem, ⟨8, _⟩ => ⟨S256x2048, .f32⟩
  | .local _ .vmem, ⟨9, _⟩ => ⟨S256x2048, .f32⟩
  | .local _ .vmem, ⟨10, _⟩ => ⟨S256x2048, .f32⟩
  | .local _ .vmem, ⟨11, _⟩ => ⟨S256x2048, .f32⟩
  | .local _ .vmem, ⟨12, _⟩ => ⟨S256x2048, .f32⟩
  | .local _ .vmem, ⟨13, _⟩ => ⟨S256x2048, .f32⟩
  | .local _ .vmem, ⟨14, _⟩ => ⟨S256x2048, .f32⟩
  | .local _ .vmem, ⟨15, _⟩ => ⟨S256x2048, .f32⟩
  | _, _ => ⟨S8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x2048 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S256x2048 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== AdamUpIdeal.lean ====
variable {F : FTy → Type} [FloatOps F] [Named F]
def κ : String → Option EReal := fun
  | "over_1" => some ((8388608 / 5463681 : ℝ) : EReal)
  | "over_2" => some ((268435456 / 2672307 : ℝ) : EReal)
  | _ => none
-- ==== RefAdamUpIdeal.lean ====
abbrev S8192x2048 : Shape := ⟨2, ![8192, 2048]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S8192x2048, .f32⟩
  | .hbm, ⟨1, _⟩ => ⟨S8192x2048, .f32⟩
  | .hbm, ⟨2, _⟩ => ⟨S8192x2048, .f32⟩
  | .hbm, ⟨3, _⟩ => ⟨S8192x2048, .f32⟩
  | .hbm, ⟨4, _⟩ => ⟨S_, .f32⟩
  | .hbm, ⟨5, _⟩ => ⟨S8192x2048, .f32⟩
  | .hbm, ⟨6, _⟩ => ⟨S8192x2048, .f32⟩
  | .hbm, ⟨7, _⟩ => ⟨S_, .f32⟩
  | .hbm, ⟨8, _⟩ => ⟨S8192x2048, .f32⟩
  | .hbm, ⟨9, _⟩ => ⟨S8192x2048, .f32⟩
  | .hbm, ⟨10, _⟩ => ⟨S8192x2048, .f32⟩
  | .hbm, ⟨11, _⟩ => ⟨S_, .f32⟩
  | .hbm, ⟨12, _⟩ => ⟨S8192x2048, .f32⟩
  | .hbm, ⟨13, _⟩ => ⟨S8192x2048, .f32⟩
  | .hbm, ⟨14, _⟩ => ⟨S8192x2048, .f32⟩
  | .hbm, ⟨15, _⟩ => ⟨S_, .f32⟩
  | .hbm, ⟨16, _⟩ => ⟨S8192x2048, .f32⟩
  | .hbm, ⟨17, _⟩ => ⟨S8192x2048, .f32⟩
  | .hbm, ⟨18, _⟩ => ⟨S8192x2048, .f32⟩
  | .hbm, ⟨19, _⟩ => ⟨S_, .f32⟩
  | .hbm, ⟨20, _⟩ => ⟨S8192x2048, .f32⟩
  | .hbm, ⟨21, _⟩ => ⟨S8192x2048, .f32⟩
  | .hbm, ⟨22, _⟩ => ⟨S_, .f32⟩
  | .hbm, ⟨23, _⟩ => ⟨S8192x2048, .f32⟩
  | .hbm, ⟨24, _⟩ => ⟨S8192x2048, .f32⟩
  | .hbm, ⟨25, _⟩ => ⟨S8192x2048, .f32⟩
  | .hbm, ⟨26, _⟩ => ⟨S_, .f32⟩
  | .hbm, ⟨27, _⟩ => ⟨S8192x2048, .f32⟩
  | .hbm, ⟨28, _⟩ => ⟨S8192x2048, .f32⟩
  | .hbm, ⟨29, _⟩ => ⟨S8192x2048, .f32⟩
  | .hbm, ⟨30, _⟩ => ⟨S_, .f32⟩
  | .hbm, ⟨31, _⟩ => ⟨S8192x2048, .f32⟩
  | .hbm, ⟨32, _⟩ => ⟨S8192x2048, .f32⟩
  | .hbm, ⟨33, _⟩ => ⟨S8192x2048, .f32⟩
  | .hbm, ⟨34, _⟩ => ⟨S_, .f32⟩
  | .hbm, ⟨35, _⟩ => ⟨S8192x2048, .f32⟩
  | .hbm, ⟨36, _⟩ => ⟨S8192x2048, .f32⟩
  | _, _ => ⟨S8192x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== AdamSmall.lean ====
abbrev S36x2048 : Shape := ⟨2, ![36, 2048]⟩

abbrev nBuf : Space → Nat
  | .hbm => 7
  | .vmem => 7
  | .smem => 0
  | _ => 0

abbrev bufTy : (tb : Table) → Fin (tcTables nBuf tb) → BufTy
  | .hbm, ⟨0, _⟩ => ⟨S36x2048, .f32⟩
  | .hbm, ⟨1, _⟩ => ⟨S36x2048, .f32⟩
  | .hbm, ⟨2, _⟩ => ⟨S36x2048, .f32⟩
  | .hbm, ⟨3, _⟩ => ⟨S36x2048, .f32⟩
  | .hbm, ⟨4, _⟩ => ⟨S36x2048, .f32⟩
  | .hbm, ⟨5, _⟩ => ⟨S36x2048, .f32⟩
  | .hbm, ⟨6, _⟩ => ⟨S36x2048, .f32⟩
  | .local _ .vmem, ⟨0, _⟩ => ⟨S36x2048, .f32⟩
  | .local _ .vmem, ⟨1, _⟩ => ⟨S36x2048, .f32⟩
  | .local _ .vmem, ⟨2, _⟩ => ⟨S36x2048, .f32⟩
  | .local _ .vmem, ⟨3, _⟩ => ⟨S36x2048, .f32⟩
  | .local _ .vmem, ⟨4, _⟩ => ⟨S36x2048, .f32⟩
  | .local _ .vmem, ⟨5, _⟩ => ⟨S36x2048, .f32⟩
  | .local _ .vmem, ⟨6, _⟩ => ⟨S36x2048, .f32⟩
  | _, _ => ⟨S36x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S36x2048 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S36x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S36x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S36x2048 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S36x2048 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S36x2048 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S36x2048 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]
-- ==== AdamSmallIdeal.lean ====
variable {F : FTy → Type} [FloatOps F] [Named F]
def κ : String → Option EReal := fun
  | "over_1" => some ((8388608 / 5463681 : ℝ) : EReal)
  | "over_2" => some ((268435456 / 2672307 : ℝ) : EReal)
  | _ => none
-- ==== RefAdamSmallIdeal.lean ====
abbrev S36x2048 : Shape := ⟨2, ![36, 2048]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S36x2048, .f32⟩
  | .hbm, ⟨1, _⟩ => ⟨S36x2048, .f32⟩
  | .hbm, ⟨2, _⟩ => ⟨S36x2048, .f32⟩
  | .hbm, ⟨3, _⟩ => ⟨S36x2048, .f32⟩
  | .hbm, ⟨4, _⟩ => ⟨S_, .f32⟩
  | .hbm, ⟨5, _⟩ => ⟨S36x2048, .f32⟩
  | .hbm, ⟨6, _⟩ => ⟨S36x2048, .f32⟩
  | .hbm, ⟨7, _⟩ => ⟨S_, .f32⟩
  | .hbm, ⟨8, _⟩ => ⟨S36x2048, .f32⟩
  | .hbm, ⟨9, _⟩ => ⟨S36x2048, .f32⟩
  | .hbm, ⟨10, _⟩ => ⟨S36x2048, .f32⟩
  | .hbm, ⟨11, _⟩ => ⟨S_, .f32⟩
  | .hbm, ⟨12, _⟩ => ⟨S36x2048, .f32⟩
  | .hbm, ⟨13, _⟩ => ⟨S36x2048, .f32⟩
  | .hbm, ⟨14, _⟩ => ⟨S36x2048, .f32⟩
  | .hbm, ⟨15, _⟩ => ⟨S_, .f32⟩
  | .hbm, ⟨16, _⟩ => ⟨S36x2048, .f32⟩
  | .hbm, ⟨17, _⟩ => ⟨S36x2048, .f32⟩
  | .hbm, ⟨18, _⟩ => ⟨S36x2048, .f32⟩
  | .hbm, ⟨19, _⟩ => ⟨S_, .f32⟩
  | .hbm, ⟨20, _⟩ => ⟨S36x2048, .f32⟩
  | .hbm, ⟨21, _⟩ => ⟨S36x2048, .f32⟩
  | .hbm, ⟨22, _⟩ => ⟨S_, .f32⟩
  | .hbm, ⟨23, _⟩ => ⟨S36x2048, .f32⟩
  | .hbm, ⟨24, _⟩ => ⟨S36x2048, .f32⟩
  | .hbm, ⟨25, _⟩ => ⟨S36x2048, .f32⟩
  | .hbm, ⟨26, _⟩ => ⟨S_, .f32⟩
  | .hbm, ⟨27, _⟩ => ⟨S36x2048, .f32⟩
  | .hbm, ⟨28, _⟩ => ⟨S36x2048, .f32⟩
  | .hbm, ⟨29, _⟩ => ⟨S36x2048, .f32⟩
  | .hbm, ⟨30, _⟩ => ⟨S_, .f32⟩
  | .hbm, ⟨31, _⟩ => ⟨S36x2048, .f32⟩
  | .hbm, ⟨32, _⟩ => ⟨S36x2048, .f32⟩
  | .hbm, ⟨33, _⟩ => ⟨S36x2048, .f32⟩
  | .hbm, ⟨34, _⟩ => ⟨S_, .f32⟩
  | .hbm, ⟨35, _⟩ => ⟨S36x2048, .f32⟩
  | .hbm, ⟨36, _⟩ => ⟨S36x2048, .f32⟩
  | _, _ => ⟨S36x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== Window.lean ====
abbrev S4096x4352 : Shape := ⟨2, ![4096, 4352]⟩
abbrev S4096 : Shape := ⟨1, ![4096]⟩
abbrev S16 : Shape := ⟨1, ![16]⟩
abbrev S8 : Shape := ⟨1, ![8]⟩
abbrev S_ : Shape := ⟨0, ![]⟩
abbrev S4096x1 : Shape := ⟨2, ![4096, 1]⟩
abbrev S1x8 : Shape := ⟨2, ![1, 8]⟩
abbrev S4096x8 : Shape := ⟨2, ![4096, 8]⟩
abbrev S4096x48 : Shape := ⟨2, ![4096, 48]⟩
abbrev S4096x64 : Shape := ⟨2, ![4096, 64]⟩
abbrev S1x4096x1x64 : Shape := ⟨4, ![1, 4096, 1, 64]⟩
abbrev S1x4096x2x64 : Shape := ⟨4, ![1, 4096, 2, 64]⟩
abbrev S4096x128 : Shape := ⟨2, ![4096, 128]⟩
abbrev S16x1 : Shape := ⟨2, ![16, 1]⟩
abbrev S16x128 : Shape := ⟨2, ![16, 128]⟩
abbrev S4096x1024 : Shape := ⟨2, ![4096, 1024]⟩
abbrev S2x256x256 : Shape := ⟨3, ![2, 256, 256]⟩
abbrev S128x256 : Shape := ⟨2, ![128, 256]⟩
abbrev S1x128x256 : Shape := ⟨3, ![1, 128, 256]⟩
abbrev S2x128x256 : Shape := ⟨3, ![2, 128, 256]⟩
abbrev S1x128 : Shape := ⟨2, ![1, 128]⟩
abbrev S1x1 : Shape := ⟨2, ![1, 1]⟩
abbrev S128x1 : Shape := ⟨2, ![128, 1]⟩
abbrev S256x1 : Shape := ⟨2, ![256, 1]⟩
abbrev S128x128 : Shape := ⟨2, ![128, 128]⟩
abbrev S256x128 : Shape := ⟨2, ![256, 128]⟩
abbrev S256x256 : Shape := ⟨2, ![256, 256]⟩
abbrev S1x256x256 : Shape := ⟨3, ![1, 256, 256]⟩
abbrev S256 : Shape := ⟨1, ![256]⟩

abbrev nBuf : Space → Nat
  | .hbm => 43
  | .vmem => 15
  | .smem => 0
  | _ => 0

abbrev bufTy : (tb : Table) → Fin (tcTables nBuf tb) → BufTy
  | .hbm, ⟨0, _⟩ => ⟨S4096x4352, .f32⟩
  | .hbm, ⟨1, _⟩ => ⟨S4096, .i32⟩
  | .hbm, ⟨2, _⟩ => ⟨S16, .f32⟩
  | .hbm, ⟨3, _⟩ => ⟨S8, .f32⟩
  | .hbm, ⟨4, _⟩ => ⟨S_, .f32⟩
  | .hbm, ⟨5, _⟩ => ⟨S8, .f32⟩
  | .hbm, ⟨6, _⟩ => ⟨S8, .f32⟩
  | .hbm, ⟨7, _⟩ => ⟨S_, .f32⟩
  | .hbm, ⟨8, _⟩ => ⟨S8, .f32⟩
  | .hbm, ⟨9, _⟩ => ⟨S8, .f32⟩
  | .hbm, ⟨10, _⟩ => ⟨S8, .f32⟩
  | .hbm, ⟨11, _⟩ => ⟨S_, .f32⟩
  | .hbm, ⟨12, _⟩ => ⟨S8, .f32⟩
  | .hbm, ⟨13, _⟩ => ⟨S8, .f32⟩
  | .hbm, ⟨14, _⟩ => ⟨S_, .f32⟩
  | .hbm, ⟨15, _⟩ => ⟨S8, .f32⟩
  | .hbm, ⟨16, _⟩ => ⟨S8, .f32⟩
  | .hbm, ⟨17, _⟩ => ⟨S4096, .f32⟩
  | .hbm, ⟨18, _⟩ => ⟨S4096x1, .f32⟩
  | .hbm, ⟨19, _⟩ => ⟨S1x8, .f32⟩
  | .hbm, ⟨20, _⟩ => ⟨S4096x8, .f32⟩
  | .hbm, ⟨21, _⟩ => ⟨S4096x8, .f32⟩
  | .hbm, ⟨22, _⟩ => ⟨S4096x8, .f32⟩
  | .hbm, ⟨23, _⟩ => ⟨S4096x8, .f32⟩
  | .hbm, ⟨24, _⟩ => ⟨S4096x8, .f32⟩
  | .hbm, ⟨25, _⟩ => ⟨S_, .f32⟩
  | .hbm, ⟨26, _⟩ => ⟨S4096x48, .f32⟩
  | .hbm, ⟨27, _⟩ => ⟨S4096x64, .f32⟩
  | .hbm, ⟨28, _⟩ => ⟨S4096x8, .f32⟩
  | .hbm, ⟨29, _⟩ => ⟨S_, .f32⟩
  | .hbm, ⟨30, _⟩ => ⟨S4096x48, .f32⟩
  | .hbm, ⟨31, _⟩ => ⟨S4096x48, .f32⟩
  | .hbm, ⟨32, _⟩ => ⟨S4096x64, .f32⟩
  | .hbm, ⟨33, _⟩ => ⟨S1x4096x1x64, .f32⟩
  | .hbm, ⟨34, _⟩ => ⟨S1x4096x2x64, .f32⟩
  | .hbm, ⟨35, _⟩ => ⟨S4096x128, .f32⟩
  | .hbm, ⟨36, _⟩ => ⟨S1x4096x1x64, .f32⟩
  | .hbm, ⟨37, _⟩ => ⟨S1x4096x2x64, .f32⟩
  | .hbm, ⟨38, _⟩ => ⟨S4096x128, .f32⟩
  | .hbm, ⟨39, _⟩ => ⟨S16x1, .f32⟩
  | .hbm, ⟨40, _⟩ => ⟨S16x128, .f32⟩
  | .hbm, ⟨41, _⟩ => ⟨S4096x1024, .f32⟩
  | .hbm, ⟨42, _⟩ => ⟨S4096x1024, .f32⟩
  | .local _ .vmem, ⟨0, _⟩ => ⟨S4096x128, .f32⟩
  | .local _ .vmem, ⟨1, _⟩ => ⟨S4096x128, .f32⟩
  | .local _ .vmem, ⟨2, _⟩ => ⟨S4096x128, .f32⟩
  | .local _ .vmem, ⟨3, _⟩ => ⟨S4096x128, .f32⟩
  | .local _ .vmem, ⟨4, _⟩ => ⟨S4096x128, .f32⟩
  | .local _ .vmem, ⟨5, _⟩ => ⟨S4096x128, .f32⟩
  | .local _ .vmem, ⟨6, _⟩ => ⟨S16x128, .f32⟩
  | .local _ .vmem, ⟨7, _⟩ => ⟨S4096x128, .f32⟩
  | .local _ .vmem, ⟨8, _⟩ => ⟨S4096x128, .f32⟩
  | .local _ .vmem, ⟨9, _⟩ => ⟨S4096x128, .f32⟩
  | .local _ .vmem, ⟨10, _⟩ => ⟨S4096x128, .f32⟩
  | .local _ .vmem, ⟨11, _⟩ => ⟨S4096x128, .f32⟩
  | .local _ .vmem, ⟨12, _⟩ => ⟨S4096x128, .f32⟩
  | .local _ .vmem, ⟨13, _⟩ => ⟨S4096x128, .f32⟩
  | .local _ .vmem, ⟨14, _⟩ => ⟨S2x256x256, .f32⟩
  | _, _ => ⟨S4096x4352, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_cst_1 : Ref sig .tc := ⟨.hbm, 11, rfl⟩
abbrev main_v6 : Ref sig .tc := ⟨.hbm, 12, rfl⟩
abbrev main_v7 : Ref sig .tc := ⟨.hbm, 13, rfl⟩
abbrev main_cst_2 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_cst_3 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_cst_4 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩
abbrev main_v29 : Ref sig .tc := ⟨.hbm, 38, rfl⟩
abbrev main_v30 : Ref sig .tc := ⟨.hbm, 39, rfl⟩
abbrev main_v31 : Ref sig .tc := ⟨.hbm, 40, rfl⟩
abbrev main_v32_0 : Ref sig .tc := ⟨.hbm, 41, rfl⟩
abbrev main_v32_1 : Ref sig .tc := ⟨.hbm, 42, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg6_1 : Ref sig .tc := ⟨.vmem, 8, rfl⟩
abbrev cc0_stg7_0 : Ref sig .tc := ⟨.vmem, 9, rfl⟩
abbrev cc0_stg7_1 : Ref sig .tc := ⟨.vmem, 10, rfl⟩
abbrev cc0_scratch0 : Ref sig .tc := ⟨.vmem, 11, rfl⟩
abbrev cc0_scratch1 : Ref sig .tc := ⟨.vmem, 12, rfl⟩
abbrev cc0_scratch2 : Ref sig .tc := ⟨.vmem, 13, rfl⟩
abbrev cc0_scratch3 : Ref sig .tc := ⟨.vmem, 14, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem6_1 : DmaSem sig := 8
abbrev cc0_sem7_0 : DmaSem sig := 9
abbrev cc0_sem7_1 : DmaSem sig := 10

abbrev nD : Nat := 1
abbrev τ : Topo := Topo.v7x

variable {F : FTy → Type} [FloatOps F]

abbrev grid0 : Pipeline.Grid := ⟨1, ![8], ![false]⟩

def k0_off1 (i : grid0.Coords) : Fin 2 → Nat :=
  let c2_i32 : BitVec 32 := 2#32
  let arg0 : BitVec 32 := BitVec.ofNat 32 (i 0).val
  let v66 : BitVec 32 := Scalar.muli c2_i32 arg0
  let v67 : Index := Scalar.indexCast v66
  let c0_27 : Index := 0#32
  ![v67.toNat, 0]
def k0_off2 (i : grid0.Coords) : Fin 2 → Nat :=
  let c2_i32_28 : BitVec 32 := 2#32
  let arg0 : BitVec 32 := BitVec.ofNat 32 (i 0).val
  let v71 : BitVec 32 := Scalar.muli c2_i32_28 arg0
  let c1_i32_29 : BitVec 32 := 1#32
  let v72 : BitVec 32 := Scalar.addi v71 c1_i32_29
  let v73 : Index := Scalar.indexCast v72
  let c0_30 : Index := 0#32
  ![v73.toNat, 0]
@[reducible] def k0_t1_loop : Scf.Loop 32 :=
  let c0_i32_31 : BitVec 32 := 0#32
  let c16_i32 : BitVec 32 := 16#32
  let v82 : BitVec 32 := Scalar.addi c0_i32_31 c16_i32
  let c1_i32_32 : BitVec 32 := 1#32
  ⟨c0_i32_31, v82, c1_i32_32⟩
def k0_mult1 (k0_t1 : Fin k0_t1_loop.trips) : BitVec 32 :=
  let c0_i32_31 : BitVec 32 := 0#32
  let c1_i32_32 : BitVec 32 := 1#32
  let arg13 : BitVec 32 := Scf.iv c0_i32_31 c1_i32_32 k0_t1
  let c2_i32_34 : BitVec 32 := 2#32
  let v83 : BitVec 32 := Scalar.muli arg13 c2_i32_34
  let c0_i32_35 : BitVec 32 := 0#32
  let v84 : BitVec 32 := Scalar.addi v83 c0_i32_35
  let c128_i32 : BitVec 32 := 128#32
  let v87 : BitVec 32 := Scalar.muli v84 c128_i32
  v87
def k0_mult2 (k0_t1 : Fin k0_t1_loop.trips) : BitVec 32 :=
  let c0_i32_31 : BitVec 32 := 0#32
  let c1_i32_32 : BitVec 32 := 1#32
  let arg13 : BitVec 32 := Scf.iv c0_i32_31 c1_i32_32 k0_t1
  let c2_i32_36 : BitVec 32 := 2#32
  let v85 : BitVec 32 := Scalar.muli arg13 c2_i32_36
  let c1_i32_37 : BitVec 32 := 1#32
  let v86 : BitVec 32 := Scalar.addi v85 c1_i32_37
  let c128_i32_38 : BitVec 32 := 128#32
  let v89 : BitVec 32 := Scalar.muli v86 c128_i32_38
  v89
def k0_mult3 (k0_t1 : Fin k0_t1_loop.trips) : BitVec 32 :=
  let c0_i32_31 : BitVec 32 := 0#32
  let c1_i32_32 : BitVec 32 := 1#32
  let arg13 : BitVec 32 := Scf.iv c0_i32_31 c1_i32_32 k0_t1
  let c2_i32_34 : BitVec 32 := 2#32
  let v83 : BitVec 32 := Scalar.muli arg13 c2_i32_34
  let c0_i32_35 : BitVec 32 := 0#32
  let v84 : BitVec 32 := Scalar.addi v83 c0_i32_35
  let c1_i32_39 : BitVec 32 := 1#32
  let v91 : BitVec 32 := Scalar.subi v84 c1_i32_39
  let c0_i32_40 : BitVec 32 := 0#32
  let v92 : BitVec 32 := Scalar.maxsi v91 c0_i32_40
  let c128_i32_41 : BitVec 32 := 128#32
  let v93 : BitVec 32 := Scalar.muli v92 c128_i32_41
  v93
def k0_mult4 (k0_t1 : Fin k0_t1_loop.trips) : BitVec 32 :=
  let c0_i32_31 : BitVec 32 := 0#32
  let c1_i32_32 : BitVec 32 := 1#32
  let arg13 : BitVec 32 := Scf.iv c0_i32_31 c1_i32_32 k0_t1
  let c2_i32_36 : BitVec 32 := 2#32
  let v85 : BitVec 32 := Scalar.muli arg13 c2_i32_36
  let c1_i32_37 : BitVec 32 := 1#32
  let v86 : BitVec 32 := Scalar.addi v85 c1_i32_37
  let c1_i32_42 : BitVec 32 := 1#32
  let v95 : BitVec 32 := Scalar.subi v86 c1_i32_42
  let c0_i32_43 : BitVec 32 := 0#32
  let v96 : BitVec 32 := Scalar.maxsi v95 c0_i32_43
  let c128_i32_44 : BitVec 32 := 128#32
  let v97 : BitVec 32 := Scalar.muli v96 c128_i32_44
  v97
def k0_off3 (k0_t1 : Fin k0_t1_loop.trips) (c0_i32_35 : BitVec 32) : Fin 2 → Nat :=
  let c0_i32_31 : BitVec 32 := 0#32
  let c1_i32_32 : BitVec 32 := 1#32
  let arg13 : BitVec 32 := Scf.iv c0_i32_31 c1_i32_32 k0_t1
  let c2_i32_34 : BitVec 32 := 2#32
  let v83 : BitVec 32 := Scalar.muli arg13 c2_i32_34
  let v84 : BitVec 32 := Scalar.addi v83 c0_i32_35
  let c128_i32 : BitVec 32 := 128#32
  let v87 : BitVec 32 := Scalar.muli v84 c128_i32
  let v88 : BitVec 32 := v87
  let v99 : Index := Scalar.indexCast v88
  let c0_45 : Index := 0#32
  ![v99.toNat, 0]
def k0_off4 (k0_t1 : Fin k0_t1_loop.trips) (c0_i32_35 : BitVec 32) : Fin 2 → Nat :=
  let c0_i32_31 : BitVec 32 := 0#32
  let c1_i32_32 : BitVec 32 := 1#32
  let arg13 : BitVec 32 := Scf.iv c0_i32_31 c1_i32_32 k0_t1
  let c2_i32_34 : BitVec 32 := 2#32
  let v83 : BitVec 32 := Scalar.muli arg13 c2_i32_34
  let v84 : BitVec 32 := Scalar.addi v83 c0_i32_35
  let c1_i32_39 : BitVec 32 := 1#32
  let v91 : BitVec 32 := Scalar.subi v84 c1_i32_39
  let c0_i32_40 : BitVec 32 := 0#32
  let v92 : BitVec 32 := Scalar.maxsi v91 c0_i32_40
  let c128_i32_41 : BitVec 32 := 128#32
  let v93 : BitVec 32 := Scalar.muli v92 c128_i32_41
  let v94 : BitVec 32 := v93
  let v110 : Index := Scalar.indexCast v94
  let c0_48 : Index := 0#32
  ![v110.toNat, 0]
def k0_off5 (k0_t1 : Fin k0_t1_loop.trips) (c0_i32_35 : BitVec 32) : Fin 3 → Nat :=
  let c0_i32_31 : BitVec 32 := 0#32
  let c1_i32_32 : BitVec 32 := 1#32
  let arg13 : BitVec 32 := Scf.iv c0_i32_31 c1_i32_32 k0_t1
  let c2_i32_34 : BitVec 32 := 2#32
  let v83 : BitVec 32 := Scalar.muli arg13 c2_i32_34
  let v84 : BitVec 32 := Scalar.addi v83 c0_i32_35
  let c1_i32_51 : BitVec 32 := 1#32
  let v116 : BitVec 32 := Scalar.minsi v84 c1_i32_51
  let v117 : Index := Scalar.indexCast v116
  let c0_52 : Index := 0#32
  let c0_53 : Index := 0#32
  ![v117.toNat, 0, 0]
def cc0_transform_0 (i : grid0.Coords) : Fin 2 → Nat :=
  let arg0 : BitVec 32 := BitVec.ofNat 32 (i 0).val
  let c24_i32 : BitVec 32 := 24#32
  let v0 : BitVec 32 := Scalar.addi c24_i32 arg0
  let c0_i32 : BitVec 32 := 0#32
  let c0_i32_0 : BitVec 32 := 0#32
  ![c0_i32.toNat, v0.toNat]

def cc0_transform_1 (i : grid0.Coords) : Fin 2 → Nat :=
  let arg0 : BitVec 32 := BitVec.ofNat 32 (i 0).val
  let c0_i32 : BitVec 32 := 0#32
  let c32_i32 : BitVec 32 := 32#32
  let c0_i32_0 : BitVec 32 := 0#32
  ![c0_i32.toNat, c32_i32.toNat]

def cc0_transform_2 (i : grid0.Coords) : Fin 2 → Nat :=
  let arg0 : BitVec 32 := BitVec.ofNat 32 (i 0).val
  let c0_i32 : BitVec 32 := 0#32
  let c33_i32 : BitVec 32 := 33#32
  let c0_i32_0 : BitVec 32 := 0#32
  ![c0_i32.toNat, c33_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 2 → Memref sig .tc .vmem S4096x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S4096x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S4096x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S4096x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S4096x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S16x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S4096x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S4096x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== WindowIdeal.lean ====
variable {F : FTy → Type} [FloatOps F] [Named F]
def κ : String → Option EReal := fun
  | "mask" => some ⊥
  | _ => none
-- ==== RefWindowIdeal.lean ====
abbrev S4096x4352 : Shape := ⟨2, ![4096, 4352]⟩
abbrev S4096 : Shape := ⟨1, ![4096]⟩
abbrev S16 : Shape := ⟨1, ![16]⟩
abbrev S4096x1 : Shape := ⟨2, ![4096, 1]⟩
abbrev S8 : Shape := ⟨1, ![8]⟩
abbrev S_ : Shape := ⟨0, ![]⟩
abbrev S1x8 : Shape := ⟨2, ![1, 8]⟩
abbrev S4096x8 : Shape := ⟨2, ![4096, 8]⟩
abbrev S4096x1x8 : Shape := ⟨3, ![4096, 1, 8]⟩
abbrev S4096x1024 : Shape := ⟨2, ![4096, 1024]⟩
abbrev S4096x16x64 : Shape := ⟨3, ![4096, 16, 64]⟩
abbrev S4096x16x8 : Shape := ⟨3, ![4096, 16, 8]⟩
abbrev S4096x16x48 : Shape := ⟨3, ![4096, 16, 48]⟩
abbrev S4096x2x8x64 : Shape := ⟨4, ![4096, 2, 8, 64]⟩
abbrev S4096x128 : Shape := ⟨2, ![4096, 128]⟩
abbrev S4096x2x64 : Shape := ⟨3, ![4096, 2, 64]⟩
abbrev S4096x2x8 : Shape := ⟨3, ![4096, 2, 8]⟩
abbrev S4096x2x48 : Shape := ⟨3, ![4096, 2, 48]⟩
abbrev S1x4096 : Shape := ⟨2, ![1, 4096]⟩
abbrev S4096x4096 : Shape := ⟨2, ![4096, 4096]⟩
abbrev S2x4096x4096x8 : Shape := ⟨4, ![2, 4096, 4096, 8]⟩
abbrev S2x8x4096x4096 : Shape := ⟨4, ![2, 8, 4096, 4096]⟩
abbrev S2x8x4096 : Shape := ⟨3, ![2, 8, 4096]⟩
abbrev S2x8x4096x1 : Shape := ⟨4, ![2, 8, 4096, 1]⟩
abbrev S2x64x8x4096 : Shape := ⟨4, ![2, 64, 8, 4096]⟩
abbrev S2x8 : Shape := ⟨2, ![2, 8]⟩
abbrev S2x8x1 : Shape := ⟨3, ![2, 8, 1]⟩
abbrev S4096x2x8x1 : Shape := ⟨4, ![4096, 2, 8, 1]⟩

abbrev nBuf : Space → Nat
  | .hbm => 119
  | .vmem => 0
  | .smem => 0
  | _ => 0

abbrev bufTy : (tb : Table) → Fin (tcTables nBuf tb) → BufTy
  | .hbm, ⟨0, _⟩ => ⟨S4096x4352, .f32⟩
  | .hbm, ⟨1, _⟩ => ⟨S4096, .i32⟩
  | .hbm, ⟨2, _⟩ => ⟨S16, .f32⟩
  | .hbm, ⟨3, _⟩ => ⟨S4096, .f32⟩
  | .hbm, ⟨4, _⟩ => ⟨S4096x1, .f32⟩
  | .hbm, ⟨5, _⟩ => ⟨S8, .f32⟩
  | .hbm, ⟨6, _⟩ => ⟨S_, .f32⟩
  | .hbm, ⟨7, _⟩ => ⟨S8, .f32⟩
  | .hbm, ⟨8, _⟩ => ⟨S8, .f32⟩
  | .hbm, ⟨9, _⟩ => ⟨S_, .f32⟩
  | .hbm, ⟨10, _⟩ => ⟨S8, .f32⟩
  | .hbm, ⟨11, _⟩ => ⟨S8, .f32⟩
  | .hbm, ⟨12, _⟩ => ⟨S8, .f32⟩
  | .hbm, ⟨13, _⟩ => ⟨S_, .f32⟩
  | .hbm, ⟨14, _⟩ => ⟨S8, .f32⟩
  | .hbm, ⟨15, _⟩ => ⟨S8, .f32⟩
  | .hbm, ⟨16, _⟩ => ⟨S_, .f32⟩
  | .hbm, ⟨17, _⟩ => ⟨S8, .f32⟩
  | .hbm, ⟨18, _⟩ => ⟨S8, .f32⟩
  | .hbm, ⟨19, _⟩ => ⟨S1x8, .f32⟩
  | .hbm, ⟨20, _⟩ => ⟨S4096x8, .f32⟩
  | .hbm, ⟨21, _⟩ => ⟨S4096x8, .f32⟩
  | .hbm, ⟨22, _⟩ => ⟨S4096x8, .f32⟩
  | .hbm, ⟨23, _⟩ => ⟨S4096x8, .f32⟩
  | .hbm, ⟨24, _⟩ => ⟨S4096x1x8, .f32⟩
  | .hbm, ⟨25, _⟩ => ⟨S4096x8, .f32⟩
  | .hbm, ⟨26, _⟩ => ⟨S4096x1x8, .f32⟩
  | .hbm, ⟨27, _⟩ => ⟨S4096x1024, .f32⟩
  | .hbm, ⟨28, _⟩ => ⟨S4096x16x64, .f32⟩
  | .hbm, ⟨29, _⟩ => ⟨S4096x16x8, .f32⟩
  | .hbm, ⟨30, _⟩ => ⟨S4096x16x8, .f32⟩
  | .hbm, ⟨31, _⟩ => ⟨S4096x16x48, .f32⟩
  | .hbm, ⟨32, _⟩ => ⟨S4096x16x8, .f32⟩
  | .hbm, ⟨33, _⟩ => ⟨S4096x16x8, .f32⟩
  | .hbm, ⟨34, _⟩ => ⟨S4096x16x8, .f32⟩
  | .hbm, ⟨35, _⟩ => ⟨S4096x16x8, .f32⟩
  | .hbm, ⟨36, _⟩ => ⟨S4096x16x8, .f32⟩
  | .hbm, ⟨37, _⟩ => ⟨S4096x16x8, .f32⟩
  | .hbm, ⟨38, _⟩ => ⟨S4096x16x8, .f32⟩
  | .hbm, ⟨39, _⟩ => ⟨S4096x16x8, .f32⟩
  | .hbm, ⟨40, _⟩ => ⟨S4096x16x8, .f32⟩
  | .hbm, ⟨41, _⟩ => ⟨S4096x16x8, .f32⟩
  | .hbm, ⟨42, _⟩ => ⟨S4096x16x64, .f32⟩
  | .hbm, ⟨43, _⟩ => ⟨S4096x2x8x64, .f32⟩
  | .hbm, ⟨44, _⟩ => ⟨S4096x128, .f32⟩
  | .hbm, ⟨45, _⟩ => ⟨S4096x2x64, .f32⟩
  | .hbm, ⟨46, _⟩ => ⟨S4096x2x8, .f32⟩
  | .hbm, ⟨47, _⟩ => ⟨S4096x2x8, .f32⟩
  | .hbm, ⟨48, _⟩ => ⟨S4096x2x48, .f32⟩
  | .hbm, ⟨49, _⟩ => ⟨S4096x2x8, .f32⟩
  | .hbm, ⟨50, _⟩ => ⟨S4096x2x8, .f32⟩
  | .hbm, ⟨51, _⟩ => ⟨S4096x2x8, .f32⟩
  | .hbm, ⟨52, _⟩ => ⟨S4096x2x8, .f32⟩
  | .hbm, ⟨53, _⟩ => ⟨S4096x2x8, .f32⟩
  | .hbm, ⟨54, _⟩ => ⟨S4096x2x8, .f32⟩
  | .hbm, ⟨55, _⟩ => ⟨S4096x2x8, .f32⟩
  | .hbm, ⟨56, _⟩ => ⟨S4096x2x8, .f32⟩
  | .hbm, ⟨57, _⟩ => ⟨S4096x2x8, .f32⟩
  | .hbm, ⟨58, _⟩ => ⟨S4096x2x8, .f32⟩
  | .hbm, ⟨59, _⟩ => ⟨S4096x2x64, .f32⟩
  | .hbm, ⟨60, _⟩ => ⟨S4096x128, .f32⟩
  | .hbm, ⟨61, _⟩ => ⟨S4096x2x64, .f32⟩
  | .hbm, ⟨62, _⟩ => ⟨S4096, .i32⟩
  | .hbm, ⟨63, _⟩ => ⟨S4096x1, .i32⟩
  | .hbm, ⟨64, _⟩ => ⟨S4096, .i32⟩
  | .hbm, ⟨65, _⟩ => ⟨S1x4096, .i32⟩
  | .hbm, ⟨66, _⟩ => ⟨S4096x4096, .i32⟩
  | .hbm, ⟨67, _⟩ => ⟨S4096x4096, .i32⟩
  | .hbm, ⟨68, _⟩ => ⟨S4096x4096, .i32⟩
  | .hbm, ⟨69, _⟩ => ⟨S2x4096x4096x8, .f32⟩
  | .hbm, ⟨70, _⟩ => ⟨S2x8x4096x4096, .f32⟩
  | .hbm, ⟨71, _⟩ => ⟨S_, .f32⟩
  | .hbm, ⟨72, _⟩ => ⟨S2x8x4096x4096, .f32⟩
  | .hbm, ⟨73, _⟩ => ⟨S2x8x4096x4096, .f32⟩
  | .hbm, ⟨74, _⟩ => ⟨S_, .i32⟩
  | .hbm, ⟨75, _⟩ => ⟨S4096x4096, .i32⟩
  | .hbm, ⟨76, _⟩ => ⟨S4096x4096, .i1⟩
  | .hbm, ⟨77, _⟩ => ⟨S_, .i32⟩
  | .hbm, ⟨78, _⟩ => ⟨S4096x4096, .i32⟩
  | .hbm, ⟨79, _⟩ => ⟨S4096x4096, .i1⟩
  | .hbm, ⟨80, _⟩ => ⟨S4096x4096, .i1⟩
  | .hbm, ⟨81, _⟩ => ⟨S_, .f32⟩
  | .hbm, ⟨82, _⟩ => ⟨S_, .f32⟩
  | .hbm, ⟨83, _⟩ => ⟨S2x8x4096x4096, .i1⟩
  | .hbm, ⟨84, _⟩ => ⟨S2x8x4096x4096, .f32⟩
  | .hbm, ⟨85, _⟩ => ⟨S2x8x4096x4096, .f32⟩
  | .hbm, ⟨86, _⟩ => ⟨S_, .f32⟩
  | .hbm, ⟨87, _⟩ => ⟨S2x8x4096, .f32⟩
  | .hbm, ⟨88, _⟩ => ⟨S2x8x4096x1, .f32⟩
  | .hbm, ⟨89, _⟩ => ⟨S2x8x4096x4096, .f32⟩
  | .hbm, ⟨90, _⟩ => ⟨S2x8x4096x4096, .f32⟩
  | .hbm, ⟨91, _⟩ => ⟨S2x8x4096x4096, .f32⟩
  | .hbm, ⟨92, _⟩ => ⟨S_, .f32⟩
  | .hbm, ⟨93, _⟩ => ⟨S2x8x4096, .f32⟩
  | .hbm, ⟨94, _⟩ => ⟨S2x64x8x4096, .f32⟩
  | .hbm, ⟨95, _⟩ => ⟨S4096x2x8x64, .f32⟩
  | .hbm, ⟨96, _⟩ => ⟨S2x8, .f32⟩
  | .hbm, ⟨97, _⟩ => ⟨S2x8x1, .f32⟩
  | .hbm, ⟨98, _⟩ => ⟨S2x8x4096, .f32⟩
  | .hbm, ⟨99, _⟩ => ⟨S2x8x4096, .f32⟩
  | .hbm, ⟨100, _⟩ => ⟨S2x8x4096, .f32⟩
  | .hbm, ⟨101, _⟩ => ⟨S2x8x4096, .f32⟩
  | .hbm, ⟨102, _⟩ => ⟨S2x8x4096, .f32⟩
  | .hbm, ⟨103, _⟩ => ⟨S2x8x4096, .f32⟩
  | .hbm, ⟨104, _⟩ => ⟨S2x8x4096, .f32⟩
  | .hbm, ⟨105, _⟩ => ⟨S2x8x4096, .f32⟩
  | .hbm, ⟨106, _⟩ => ⟨S2x8x4096, .f32⟩
  | .hbm, ⟨107, _⟩ => ⟨S2x8x4096, .f32⟩
  | .hbm, ⟨108, _⟩ => ⟨S4096x2x8, .f32⟩
  | .hbm, ⟨109, _⟩ => ⟨S4096x2x8x1, .f32⟩
  | .hbm, ⟨110, _⟩ => ⟨S4096x2x8x64, .f32⟩
  | .hbm, ⟨111, _⟩ => ⟨S4096x2x8x64, .f32⟩
  | .hbm, ⟨112, _⟩ => ⟨S4096x1024, .f32⟩
  | .hbm, ⟨113, _⟩ => ⟨S2x8x4096, .f32⟩
  | .hbm, ⟨114, _⟩ => ⟨S2x8x4096, .f32⟩
  | .hbm, ⟨115, _⟩ => ⟨S4096x2x8, .f32⟩
  | .hbm, ⟨116, _⟩ => ⟨S4096x2x8x1, .f32⟩
  | .hbm, ⟨117, _⟩ => ⟨S4096x2x8x64, .f32⟩
  | .hbm, ⟨118, _⟩ => ⟨S4096x1024, .f32⟩
  | _, _ => ⟨S4096x4352, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_cst : Ref sig .tc := ⟨.hbm, 6, rfl⟩
abbrev main_v3 : Ref sig .tc := ⟨.hbm, 7, rfl⟩
abbrev main_v4 : Ref sig .tc := ⟨.hbm, 8, rfl⟩
abbrev main_cst_0 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_cst_1 : Ref sig .tc := ⟨.hbm, 13, rfl⟩
abbrev main_v8 : Ref sig .tc := ⟨.hbm, 14, rfl⟩
abbrev main_v9 : Ref sig .tc := ⟨.hbm, 15, rfl⟩
abbrev main_cst_2 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_v24 : Ref sig .tc := ⟨.hbm, 31, rfl⟩
abbrev main_v25 : Ref sig .tc := ⟨.hbm, 32, rfl⟩
abbrev main_v26 : Ref sig .tc := ⟨.hbm, 33, rfl⟩
abbrev main_v27 : Ref sig .tc := ⟨.hbm, 34, rfl⟩
abbrev main_v28 : Ref sig .tc := ⟨.hbm, 35, rfl⟩
abbrev main_v29 : Ref sig .tc := ⟨.hbm, 36, rfl⟩
abbrev main_v30 : Ref sig .tc := ⟨.hbm, 37, rfl⟩
abbrev main_v31 : Ref sig .tc := ⟨.hbm, 38, rfl⟩
abbrev main_v32 : Ref sig .tc := ⟨.hbm, 39, rfl⟩
abbrev main_v33 : Ref sig .tc := ⟨.hbm, 40, rfl⟩
abbrev main_v34 : Ref sig .tc := ⟨.hbm, 41, rfl⟩
abbrev main_v35 : Ref sig .tc := ⟨.hbm, 42, rfl⟩
abbrev main_v36 : Ref sig .tc := ⟨.hbm, 43, rfl⟩
abbrev main_v37 : Ref sig .tc := ⟨.hbm, 44, rfl⟩
abbrev main_v38 : Ref sig .tc := ⟨.hbm, 45, rfl⟩
abbrev main_v39 : Ref sig .tc := ⟨.hbm, 46, rfl⟩
abbrev main_v40 : Ref sig .tc := ⟨.hbm, 47, rfl⟩
abbrev main_v41 : Ref sig .tc := ⟨.hbm, 48, rfl⟩
abbrev main_v42 : Ref sig .tc := ⟨.hbm, 49, rfl⟩
abbrev main_v43 : Ref sig .tc := ⟨.hbm, 50, rfl⟩
abbrev main_v44 : Ref sig .tc := ⟨.hbm, 51, rfl⟩
abbrev main_v45 : Ref sig .tc := ⟨.hbm, 52, rfl⟩
abbrev main_v46 : Ref sig .tc := ⟨.hbm, 53, rfl⟩
abbrev main_v47 : Ref sig .tc := ⟨.hbm, 54, rfl⟩
abbrev main_v48 : Ref sig .tc := ⟨.hbm, 55, rfl⟩
abbrev main_v49 : Ref sig .tc := ⟨.hbm, 56, rfl⟩
abbrev main_v50 : Ref sig .tc := ⟨.hbm, 57, rfl⟩
abbrev main_v51 : Ref sig .tc := ⟨.hbm, 58, rfl⟩
abbrev main_v52 : Ref sig .tc := ⟨.hbm, 59, rfl⟩
abbrev main_v53 : Ref sig .tc := ⟨.hbm, 60, rfl⟩
abbrev main_v54 : Ref sig .tc := ⟨.hbm, 61, rfl⟩
abbrev main_v55 : Ref sig .tc := ⟨.hbm, 62, rfl⟩
abbrev main_v56 : Ref sig .tc := ⟨.hbm, 63, rfl⟩
abbrev main_v57 : Ref sig .tc := ⟨.hbm, 64, rfl⟩
abbrev main_v58 : Ref sig .tc := ⟨.hbm, 65, rfl⟩
abbrev main_v59 : Ref sig .tc := ⟨.hbm, 66, rfl⟩
abbrev main_v60 : Ref sig .tc := ⟨.hbm, 67, rfl⟩
abbrev main_v61 : Ref sig .tc := ⟨.hbm, 68, rfl⟩
abbrev main_v62 : Ref sig .tc := ⟨.hbm, 69, rfl⟩
abbrev main_v63 : Ref sig .tc := ⟨.hbm, 70, rfl⟩
abbrev main_cst_3 : Ref sig .tc := ⟨.hbm, 71, rfl⟩
abbrev main_v64 : Ref sig .tc := ⟨.hbm, 72, rfl⟩
abbrev main_v65 : Ref sig .tc := ⟨.hbm, 73, rfl⟩
abbrev main_c : Ref sig .tc := ⟨.hbm, 74, rfl⟩
abbrev main_v66 : Ref sig .tc := ⟨.hbm, 75, rfl⟩
abbrev main_v67 : Ref sig .tc := ⟨.hbm, 76, rfl⟩
abbrev main_c_4 : Ref sig .tc := ⟨.hbm, 77, rfl⟩
abbrev main_v68 : Ref sig .tc := ⟨.hbm, 78, rfl⟩
abbrev main_v69 : Ref sig .tc := ⟨.hbm, 79, rfl⟩
abbrev main_v70 : Ref sig .tc := ⟨.hbm, 80, rfl⟩
abbrev main_cst_5 : Ref sig .tc := ⟨.hbm, 81, rfl⟩
abbrev main_call0_v0 : Ref sig .tc := ⟨.hbm, 82, rfl⟩
abbrev main_call0_v1 : Ref sig .tc := ⟨.hbm, 83, rfl⟩
abbrev main_call0_v2 : Ref sig .tc := ⟨.hbm, 84, rfl⟩
abbrev main_v71 : Ref sig .tc := ⟨.hbm, 85, rfl⟩
abbrev main_cst_6 : Ref sig .tc := ⟨.hbm, 86, rfl⟩
abbrev main_v72 : Ref sig .tc := ⟨.hbm, 87, rfl⟩
abbrev main_v73 : Ref sig .tc := ⟨.hbm, 88, rfl⟩
abbrev main_v74 : Ref sig .tc := ⟨.hbm, 89, rfl⟩
abbrev main_v75 : Ref sig .tc := ⟨.hbm, 90, rfl⟩
abbrev main_v76 : Ref sig .tc := ⟨.hbm, 91, rfl⟩
abbrev main_cst_7 : Ref sig .tc := ⟨.hbm, 92, rfl⟩
abbrev main_v77 : Ref sig .tc := ⟨.hbm, 93, rfl⟩
abbrev main_v78 : Ref sig .tc := ⟨.hbm, 94, rfl⟩
abbrev main_v79 : Ref sig .tc := ⟨.hbm, 95, rfl⟩
abbrev main_v80 : Ref sig .tc := ⟨.hbm, 96, rfl⟩
abbrev main_v81 : Ref sig .tc := ⟨.hbm, 97, rfl⟩
abbrev main_v82 : Ref sig .tc := ⟨.hbm, 98, rfl⟩
abbrev main_v83 : Ref sig .tc := ⟨.hbm, 99, rfl⟩
abbrev main_v84 : Ref sig .tc := ⟨.hbm, 100, rfl⟩
abbrev main_v85 : Ref sig .tc := ⟨.hbm, 101, rfl⟩
abbrev main_v86 : Ref sig .tc := ⟨.hbm, 102, rfl⟩
abbrev main_v87 : Ref sig .tc := ⟨.hbm, 103, rfl⟩
abbrev main_v88 : Ref sig .tc := ⟨.hbm, 104, rfl⟩
abbrev main_v89 : Ref sig .tc := ⟨.hbm, 105, rfl⟩
abbrev main_v90 : Ref sig .tc := ⟨.hbm, 106, rfl⟩
abbrev main_v91 : Ref sig .tc := ⟨.hbm, 107, rfl⟩
abbrev main_v92 : Ref sig .tc := ⟨.hbm, 108, rfl⟩
abbrev main_v93 : Ref sig .tc := ⟨.hbm, 109, rfl⟩
abbrev main_v94 : Ref sig .tc := ⟨.hbm, 110, rfl⟩
abbrev main_v95 : Ref sig .tc := ⟨.hbm, 111, rfl⟩
abbrev main_v96 : Ref sig .tc := ⟨.hbm, 112, rfl⟩
abbrev main_v97 : Ref sig .tc := ⟨.hbm, 113, rfl⟩
abbrev main_v98 : Ref sig .tc := ⟨.hbm, 114, rfl⟩
abbrev main_v99 : Ref sig .tc := ⟨.hbm, 115, rfl⟩
abbrev main_v100 : Ref sig .tc := ⟨.hbm, 116, rfl⟩
abbrev main_v101 : Ref sig .tc := ⟨.hbm, 117, rfl⟩
abbrev main_v102 : Ref sig .tc := ⟨.hbm, 118, rfl⟩

abbrev nD : Nat := 1
abbrev τ : Topo := Topo.v7x

variable {F : FTy → Type} [FloatOps F]
-- ==== LossSum.lean ====
abbrev S4096x2048 : Shape := ⟨2, ![4096, 2048]⟩
abbrev S8x2048 : Shape := ⟨2, ![8, 2048]⟩
abbrev S512x2048 : Shape := ⟨2, ![512, 2048]⟩
abbrev S64x8x2048 : Shape := ⟨3, ![64, 8, 2048]⟩
abbrev S_ : Shape := ⟨0, ![]⟩

abbrev nBuf : Space → Nat
  | .hbm => 8
  | .vmem => 7
  | .smem => 0
  | _ => 0

abbrev bufTy : (tb : Table) → Fin (tcTables nBuf tb) → BufTy
  | .hbm, ⟨0, _⟩ => ⟨S4096x2048, .f32⟩
  | .hbm, ⟨1, _⟩ => ⟨S4096x2048, .f32⟩
  | .hbm, ⟨2, _⟩ => ⟨S4096x2048, .f32⟩
  | .hbm, ⟨3, _⟩ => ⟨S8x2048, .f32⟩
  | .hbm, ⟨4, _⟩ => ⟨S_, .f32⟩
  | .hbm, ⟨5, _⟩ => ⟨S_, .f32⟩
  | .hbm, ⟨6, _⟩ => ⟨S_, .f32⟩
  | .hbm, ⟨7, _⟩ => ⟨S_, .f32⟩
  | .local _ .vmem, ⟨0, _⟩ => ⟨S512x2048, .f32⟩
  | .local _ .vmem, ⟨1, _⟩ => ⟨S512x2048, .f32⟩
  | .local _ .vmem, ⟨2, _⟩ => ⟨S512x2048, .f32⟩
  | .local _ .vmem, ⟨3, _⟩ => ⟨S512x2048, .f32⟩
  | .local _ .vmem, ⟨4, _⟩ => ⟨S512x2048, .f32⟩
  | .local _ .vmem, ⟨5, _⟩ => ⟨S512x2048, .f32⟩
  | .local _ .vmem, ⟨6, _⟩ => ⟨S8x2048, .f32⟩
  | _, _ => ⟨S4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0_0 : Ref sig .tc := ⟨.hbm, 2, rfl⟩
abbrev main_v0_1 : Ref sig .tc := ⟨.hbm, 3, rfl⟩
abbrev main_cst : Ref sig .tc := ⟨.hbm, 4, rfl⟩
abbrev main_v1 : Ref sig .tc := ⟨.hbm, 5, rfl⟩
abbrev main_cst_0 : Ref sig .tc := ⟨.hbm, 6, rfl⟩
abbrev main_v2 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S8x2048 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]
-- ==== RefLossSumIdeal.lean ====
abbrev S4096x2048 : Shape := ⟨2, ![4096, 2048]⟩
abbrev S_ : Shape := ⟨0, ![]⟩
abbrev S4096 : Shape := ⟨1, ![4096]⟩

abbrev nBuf : Space → Nat
  | .hbm => 36
  | .vmem => 0
  | .smem => 0
  | _ => 0

abbrev bufTy : (tb : Table) → Fin (tcTables nBuf tb) → BufTy
  | .hbm, ⟨0, _⟩ => ⟨S4096x2048, .f32⟩
  | .hbm, ⟨1, _⟩ => ⟨S4096x2048, .f32⟩
  | .hbm, ⟨2, _⟩ => ⟨S4096x2048, .f32⟩
  | .hbm, ⟨3, _⟩ => ⟨S4096x2048, .f32⟩
  | .hbm, ⟨4, _⟩ => ⟨S_, .f32⟩
  | .hbm, ⟨5, _⟩ => ⟨S4096x2048, .f32⟩
  | .hbm, ⟨6, _⟩ => ⟨S4096x2048, .f32⟩
  | .hbm, ⟨7, _⟩ => ⟨S_, .f32⟩
  | .hbm, ⟨8, _⟩ => ⟨S4096, .f32⟩
  | .hbm, ⟨9, _⟩ => ⟨S_, .f32⟩
  | .hbm, ⟨10, _⟩ => ⟨S4096, .f32⟩
  | .hbm, ⟨11, _⟩ => ⟨S4096, .f32⟩
  | .hbm, ⟨12, _⟩ => ⟨S_, .f32⟩
  | .hbm, ⟨13, _⟩ => ⟨S_, .f32⟩
  | .hbm, ⟨14, _⟩ => ⟨S_, .f32⟩
  | .hbm, ⟨15, _⟩ => ⟨S_, .f32⟩
  | .hbm, ⟨16, _⟩ => ⟨S_, .f32⟩
  | .hbm, ⟨17, _⟩ => ⟨S_, .f32⟩
  | .hbm, ⟨18, _⟩ => ⟨S_, .f32⟩
  | .hbm, ⟨19, _⟩ => ⟨S4096, .f32⟩
  | .hbm, ⟨20, _⟩ => ⟨S_, .f32⟩
  | .hbm, ⟨21, _⟩ => ⟨S4096, .f32⟩
  | .hbm, ⟨22, _⟩ => ⟨S4096, .f32⟩
  | .hbm, ⟨23, _⟩ => ⟨S4096x2048, .f32⟩
  | .hbm, ⟨24, _⟩ => ⟨S4096x2048, .f32⟩
  | .hbm, ⟨25, _⟩ => ⟨S4096x2048, .f32⟩
  | .hbm, ⟨26, _⟩ => ⟨S4096x2048, .f32⟩
  | .hbm, ⟨27, _⟩ => ⟨S_, .f32⟩
  | .hbm, ⟨28, _⟩ => ⟨S4096, .f32⟩
  | .hbm, ⟨29, _⟩ => ⟨S_, .f32⟩
  | .hbm, ⟨30, _⟩ => ⟨S4096, .f32⟩
  | .hbm, ⟨31, _⟩ => ⟨S4096, .f32⟩
  | .hbm, ⟨32, _⟩ => ⟨S_, .f32⟩
  | .hbm, ⟨33, _⟩ => ⟨S_, .f32⟩
  | .hbm, ⟨34, _⟩ => ⟨S_, .f32⟩
  | .hbm, ⟨35, _⟩ => ⟨S_, .f32⟩
  | _, _ => ⟨S4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_cst_0 : Ref sig .tc := ⟨.hbm, 7, rfl⟩
abbrev main_v4 : Ref sig .tc := ⟨.hbm, 8, rfl⟩
abbrev main_cst_1 : Ref sig .tc := ⟨.hbm, 9, rfl⟩
abbrev main_v5 : Ref sig .tc := ⟨.hbm, 10, rfl⟩
abbrev main_v6 : Ref sig .tc := ⟨.hbm, 11, rfl⟩
abbrev main_cst_2 : Ref sig .tc := ⟨.hbm, 12, rfl⟩
abbrev main_v7 : Ref sig .tc := ⟨.hbm, 13, rfl⟩
abbrev main_cst_3 : Ref sig .tc := ⟨.hbm, 14, rfl⟩
abbrev main_v8 : Ref sig .tc := ⟨.hbm, 15, rfl⟩
abbrev main_cst_4 : Ref sig .tc := ⟨.hbm, 16, rfl⟩
abbrev main_cst_5 : Ref sig .tc := ⟨.hbm, 17, rfl⟩
abbrev main_v9 : Ref sig .tc := ⟨.hbm, 18, rfl⟩
abbrev main_v10 : Ref sig .tc := ⟨.hbm, 19, rfl⟩
abbrev main_cst_6 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_cst_7 : Ref sig .tc := ⟨.hbm, 27, rfl⟩
abbrev main_v17 : Ref sig .tc := ⟨.hbm, 28, rfl⟩
abbrev main_cst_8 : Ref sig .tc := ⟨.hbm, 29, rfl⟩
abbrev main_v18 : Ref sig .tc := ⟨.hbm, 30, rfl⟩
abbrev main_v19 : Ref sig .tc := ⟨.hbm, 31, rfl⟩
abbrev main_cst_9 : Ref sig .tc := ⟨.hbm, 32, rfl⟩
abbrev main_v20 : Ref sig .tc := ⟨.hbm, 33, rfl⟩
abbrev main_cst_10 : Ref sig .tc := ⟨.hbm, 34, rfl⟩
abbrev main_v21 : Ref sig .tc := ⟨.hbm, 35, rfl⟩

abbrev nD : Nat := 1
abbrev τ : Topo := Topo.v7x

variable {F : FTy → Type} [FloatOps F]
-- ==== LossAll.lean ====
abbrev S4096x2048 : Shape := ⟨2, ![4096, 2048]⟩
abbrev S8x2048 : Shape := ⟨2, ![8, 2048]⟩
abbrev S512x2048 : Shape := ⟨2, ![512, 2048]⟩
abbrev S64x8x2048 : Shape := ⟨3, ![64, 8, 2048]⟩
abbrev S_ : Shape := ⟨0, ![]⟩

abbrev nBuf : Space → Nat
  | .hbm => 17
  | .vmem => 7
  | .smem => 0
  | _ => 0

abbrev bufTy : (tb : Table) → Fin (tcTables nBuf tb) → BufTy
  | .hbm, ⟨0, _⟩ => ⟨S4096x2048, .f32⟩
  | .hbm, ⟨1, _⟩ => ⟨S4096x2048, .f32⟩
  | .hbm, ⟨2, _⟩ => ⟨S4096x2048, .f32⟩
  | .hbm, ⟨3, _⟩ => ⟨S8x2048, .f32⟩
  | .hbm, ⟨4, _⟩ => ⟨S_, .f32⟩
  | .hbm, ⟨5, _⟩ => ⟨S_, .f32⟩
  | .hbm, ⟨6, _⟩ => ⟨S_, .f32⟩
  | .hbm, ⟨7, _⟩ => ⟨S_, .f32⟩
  | .hbm, ⟨8, _⟩ => ⟨S_, .f32⟩
  | .hbm, ⟨9, _⟩ => ⟨S_, .f32⟩
  | .hbm, ⟨10, _⟩ => ⟨S_, .f32⟩
  | .hbm, ⟨11, _⟩ => ⟨S_, .f32⟩
  | .hbm, ⟨12, _⟩ => ⟨S_, .f32⟩
  | .hbm, ⟨13, _⟩ => ⟨S_, .f32⟩
  | .hbm, ⟨14, _⟩ => ⟨S_, .f32⟩
  | .hbm, ⟨15, _⟩ => ⟨S_, .f32⟩
  | .hbm, ⟨16, _⟩ => ⟨S_, .f32⟩
  | .local _ .vmem, ⟨0, _⟩ => ⟨S512x2048, .f32⟩
  | .local _ .vmem, ⟨1, _⟩ => ⟨S512x2048, .f32⟩
  | .local _ .vmem, ⟨2, _⟩ => ⟨S512x2048, .f32⟩
  | .local _ .vmem, ⟨3, _⟩ => ⟨S512x2048, .f32⟩
  | .local _ .vmem, ⟨4, _⟩ => ⟨S512x2048, .f32⟩
  | .local _ .vmem, ⟨5, _⟩ => ⟨S512x2048, .f32⟩
  | .local _ .vmem, ⟨6, _⟩ => ⟨S8x2048, .f32⟩
  | _, _ => ⟨S4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 1 → Bool
  | ⟨0, _⟩ => false
  | _ => false

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => false
  | ⟨8, _⟩ => false
  | _ => false

abbrev sig : RefSig :=
  ofTc nBuf bufTy 1 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v1_0 : Ref sig .tc := ⟨.hbm, 2, rfl⟩
abbrev main_v1_1 : Ref sig .tc := ⟨.hbm, 3, rfl⟩
abbrev main_cst : Ref sig .tc := ⟨.hbm, 4, rfl⟩
abbrev main_v2 : Ref sig .tc := ⟨.hbm, 5, rfl⟩
abbrev main_cst_0 : Ref sig .tc := ⟨.hbm, 6, rfl⟩
abbrev main_v3 : Ref sig .tc := ⟨.hbm, 7, rfl⟩
abbrev main_v4 : Ref sig .tc := ⟨.hbm, 8, rfl⟩
abbrev main_v4_s0 : Ref sig .tc := ⟨.hbm, 9, rfl⟩
abbrev main_v4_s1 : Ref sig .tc := ⟨.hbm, 10, rfl⟩
abbrev main_v4_s2 : Ref sig .tc := ⟨.hbm, 11, rfl⟩
abbrev main_v4_s3 : Ref sig .tc := ⟨.hbm, 12, rfl⟩
abbrev main_v4_s4 : Ref sig .tc := ⟨.hbm, 13, rfl⟩
abbrev main_v4_s5 : Ref sig .tc := ⟨.hbm, 14, rfl⟩
abbrev main_v4_s6 : Ref sig .tc := ⟨.hbm, 15, rfl⟩
abbrev main_v4_s7 : Ref sig .tc := ⟨.hbm, 16, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev ar0_recv : DmaSem sig := 7
abbrev ar0_send : DmaSem sig := 8
abbrev ar0_barrier : Sem sig := 0

abbrev nD : Nat := 8
abbrev τ : Topo := Topo.v7x

variable {F : FTy → Type} [FloatOps F]

abbrev ar0_mem : Fin 1 × Fin 8 → Dev nD := fun q => (![![0, 1, 2, 3, 4, 5, 6, 7]] : Fin 1 → Fin 8 → Dev nD) q.1 q.2
abbrev ar0_pos : Dev nD → Fin 1 × Fin 8 := fun c => ((![0, 0, 0, 0, 0, 0, 0, 0] : Fin 8 → Fin 1) c, (![0, 1, 2, 3, 4, 5, 6, 7] : Fin 8 → Fin 8) c)
abbrev ar0_stage : Fin 8 → Ref sig .tc := fun | 0 => main_v4_s0 | 1 => main_v4_s1 | 2 => main_v4_s2 | 3 => main_v4_s3 | 4 => main_v4_s4 | 5 => main_v4_s5 | 6 => main_v4_s6 | 7 => main_v4_s7 | ⟨_ + 8, h⟩ => absurd h (Nat.not_lt.2 (Nat.le_add_left _ _))

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S8x2048 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]
-- ==== RefLossAllIdeal.lean ====
abbrev S32768x2048 : Shape := ⟨2, ![32768, 2048]⟩
abbrev S_ : Shape := ⟨0, ![]⟩
abbrev S32768 : Shape := ⟨1, ![32768]⟩

abbrev nBuf : Space → Nat
  | .hbm => 36
  | .vmem => 0
  | .smem => 0
  | _ => 0

abbrev bufTy : (tb : Table) → Fin (tcTables nBuf tb) → BufTy
  | .hbm, ⟨0, _⟩ => ⟨S32768x2048, .f32⟩
  | .hbm, ⟨1, _⟩ => ⟨S32768x2048, .f32⟩
  | .hbm, ⟨2, _⟩ => ⟨S32768x2048, .f32⟩
  | .hbm, ⟨3, _⟩ => ⟨S32768x2048, .f32⟩
  | .hbm, ⟨4, _⟩ => ⟨S_, .f32⟩
  | .hbm, ⟨5, _⟩ => ⟨S32768x2048, .f32⟩
  | .hbm, ⟨6, _⟩ => ⟨S32768x2048, .f32⟩
  | .hbm, ⟨7, _⟩ => ⟨S_, .f32⟩
  | .hbm, ⟨8, _⟩ => ⟨S32768, .f32⟩
  | .hbm, ⟨9, _⟩ => ⟨S_, .f32⟩
  | .hbm, ⟨10, _⟩ => ⟨S32768, .f32⟩
  | .hbm, ⟨11, _⟩ => ⟨S32768, .f32⟩
  | .hbm, ⟨12, _⟩ => ⟨S_, .f32⟩
  | .hbm, ⟨13, _⟩ => ⟨S_, .f32⟩
  | .hbm, ⟨14, _⟩ => ⟨S_, .f32⟩
  | .hbm, ⟨15, _⟩ => ⟨S_, .f32⟩
  | .hbm, ⟨16, _⟩ => ⟨S_, .f32⟩
  | .hbm, ⟨17, _⟩ => ⟨S_, .f32⟩
  | .hbm, ⟨18, _⟩ => ⟨S_, .f32⟩
  | .hbm, ⟨19, _⟩ => ⟨S32768, .f32⟩
  | .hbm, ⟨20, _⟩ => ⟨S_, .f32⟩
  | .hbm, ⟨21, _⟩ => ⟨S32768, .f32⟩
  | .hbm, ⟨22, _⟩ => ⟨S32768, .f32⟩
  | .hbm, ⟨23, _⟩ => ⟨S32768x2048, .f32⟩
  | .hbm, ⟨24, _⟩ => ⟨S32768x2048, .f32⟩
  | .hbm, ⟨25, _⟩ => ⟨S32768x2048, .f32⟩
  | .hbm, ⟨26, _⟩ => ⟨S32768x2048, .f32⟩
  | .hbm, ⟨27, _⟩ => ⟨S_, .f32⟩
  | .hbm, ⟨28, _⟩ => ⟨S32768, .f32⟩
  | .hbm, ⟨29, _⟩ => ⟨S_, .f32⟩
  | .hbm, ⟨30, _⟩ => ⟨S32768, .f32⟩
  | .hbm, ⟨31, _⟩ => ⟨S32768, .f32⟩
  | .hbm, ⟨32, _⟩ => ⟨S_, .f32⟩
  | .hbm, ⟨33, _⟩ => ⟨S_, .f32⟩
  | .hbm, ⟨34, _⟩ => ⟨S_, .f32⟩
  | .hbm, ⟨35, _⟩ => ⟨S_, .f32⟩
  | _, _ => ⟨S32768x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_cst_0 : Ref sig .tc := ⟨.hbm, 7, rfl⟩
abbrev main_v4 : Ref sig .tc := ⟨.hbm, 8, rfl⟩
abbrev main_cst_1 : Ref sig .tc := ⟨.hbm, 9, rfl⟩
abbrev main_v5 : Ref sig .tc := ⟨.hbm, 10, rfl⟩
abbrev main_v6 : Ref sig .tc := ⟨.hbm, 11, rfl⟩
abbrev main_cst_2 : Ref sig .tc := ⟨.hbm, 12, rfl⟩
abbrev main_v7 : Ref sig .tc := ⟨.hbm, 13, rfl⟩
abbrev main_cst_3 : Ref sig .tc := ⟨.hbm, 14, rfl⟩
abbrev main_v8 : Ref sig .tc := ⟨.hbm, 15, rfl⟩
abbrev main_cst_4 : Ref sig .tc := ⟨.hbm, 16, rfl⟩
abbrev main_cst_5 : Ref sig .tc := ⟨.hbm, 17, rfl⟩
abbrev main_v9 : Ref sig .tc := ⟨.hbm, 18, rfl⟩
abbrev main_v10 : Ref sig .tc := ⟨.hbm, 19, rfl⟩
abbrev main_cst_6 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_cst_7 : Ref sig .tc := ⟨.hbm, 27, rfl⟩
abbrev main_v17 : Ref sig .tc := ⟨.hbm, 28, rfl⟩
abbrev main_cst_8 : Ref sig .tc := ⟨.hbm, 29, rfl⟩
abbrev main_v18 : Ref sig .tc := ⟨.hbm, 30, rfl⟩
abbrev main_v19 : Ref sig .tc := ⟨.hbm, 31, rfl⟩
abbrev main_cst_9 : Ref sig .tc := ⟨.hbm, 32, rfl⟩
abbrev main_v20 : Ref sig .tc := ⟨.hbm, 33, rfl⟩
abbrev main_cst_10 : Ref sig .tc := ⟨.hbm, 34, rfl⟩
abbrev main_v21 : Ref sig .tc := ⟨.hbm, 35, rfl⟩

abbrev nD : Nat := 1
abbrev τ : Topo := Topo.v7x

variable {F : FTy → Type} [FloatOps F]
-- ==== LnGains.lean ====
abbrev S4096x2048 : Shape := ⟨2, ![4096, 2048]⟩
abbrev S1x2048 : Shape := ⟨2, ![1, 2048]⟩
abbrev S8x2048 : Shape := ⟨2, ![8, 2048]⟩
abbrev S256x2048 : Shape := ⟨2, ![256, 2048]⟩
abbrev S256 : Shape := ⟨1, ![256]⟩
abbrev S256x1 : Shape := ⟨2, ![256, 1]⟩
abbrev S32x8x2048 : Shape := ⟨3, ![32, 8, 2048]⟩
abbrev S_ : Shape := ⟨0, ![]⟩
abbrev S2048 : Shape := ⟨1, ![2048]⟩

abbrev nBuf : Space → Nat
  | .hbm => 13
  | .vmem => 11
  | .smem => 0
  | _ => 0

abbrev bufTy : (tb : Table) → Fin (tcTables nBuf tb) → BufTy
  | .hbm, ⟨0, _⟩ => ⟨S4096x2048, .f32⟩
  | .hbm, ⟨1, _⟩ => ⟨S4096x2048, .f32⟩
  | .hbm, ⟨2, _⟩ => ⟨S1x2048, .f32⟩
  | .hbm, ⟨3, _⟩ => ⟨S4096x2048, .f32⟩
  | .hbm, ⟨4, _⟩ => ⟨S4096x2048, .bf16⟩
  | .hbm, ⟨5, _⟩ => ⟨S8x2048, .f32⟩
  | .hbm, ⟨6, _⟩ => ⟨S8x2048, .f32⟩
  | .hbm, ⟨7, _⟩ => ⟨S_, .f32⟩
  | .hbm, ⟨8, _⟩ => ⟨S2048, .f32⟩
  | .hbm, ⟨9, _⟩ => ⟨S1x2048, .f32⟩
  | .hbm, ⟨10, _⟩ => ⟨S_, .f32⟩
  | .hbm, ⟨11, _⟩ => ⟨S2048, .f32⟩
  | .hbm, ⟨12, _⟩ => ⟨S1x2048, .f32⟩
  | .local _ .vmem, ⟨0, _⟩ => ⟨S256x2048, .f32⟩
  | .local _ .vmem, ⟨1, _⟩ => ⟨S256x2048, .f32⟩
  | .local _ .vmem, ⟨2, _⟩ => ⟨S256x2048, .f32⟩
  | .local _ .vmem, ⟨3, _⟩ => ⟨S256x2048, .f32⟩
  | .local _ .vmem, ⟨4, _⟩ => ⟨S1x2048, .f32⟩
  | .local _ .vmem, ⟨5, _⟩ => ⟨S256x2048, .f32⟩
  | .local _ .vmem, ⟨6, _⟩ => ⟨S256x2048, .f32⟩
  | .local _ .vmem, ⟨7, _⟩ => ⟨S256x2048, .bf16⟩
  | .local _ .vmem, ⟨8, _⟩ => ⟨S256x2048, .bf16⟩
  | .local _ .vmem, ⟨9, _⟩ => ⟨S8x2048, .f32⟩
  | .local _ .vmem, ⟨10, _⟩ => ⟨S8x2048, .f32⟩
  | _, _ => ⟨S4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0_0 : Ref sig .tc := ⟨.hbm, 3, rfl⟩
abbrev main_v0_1 : Ref sig .tc := ⟨.hbm, 4, rfl⟩
abbrev main_v0_2 : Ref sig .tc := ⟨.hbm, 5, rfl⟩
abbrev main_v0_3 : Ref sig .tc := ⟨.hbm, 6, rfl⟩
abbrev main_cst : Ref sig .tc := ⟨.hbm, 7, rfl⟩
abbrev main_v1 : Ref sig .tc := ⟨.hbm, 8, rfl⟩
abbrev main_v2 : Ref sig .tc := ⟨.hbm, 9, rfl⟩
abbrev main_cst_0 : Ref sig .tc := ⟨.hbm, 10, rfl⟩
abbrev main_v3 : Ref sig .tc := ⟨.hbm, 11, rfl⟩
abbrev main_v4 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg6_0 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem6_0 : DmaSem sig := 10

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S256x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x2048 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S8x2048 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S8x2048 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]
-- ==== RefLnGainsIdeal.lean ====
abbrev S4096x2048 : Shape := ⟨2, ![4096, 2048]⟩
abbrev S1x2048 : Shape := ⟨2, ![1, 2048]⟩
abbrev S_ : Shape := ⟨0, ![]⟩
abbrev S4096 : Shape := ⟨1, ![4096]⟩
abbrev S4096x1 : Shape := ⟨2, ![4096, 1]⟩
abbrev S2048 : Shape := ⟨1, ![2048]⟩

abbrev nBuf : Space → Nat
  | .hbm => 40
  | .vmem => 0
  | .smem => 0
  | _ => 0

abbrev bufTy : (tb : Table) → Fin (tcTables nBuf tb) → BufTy
  | .hbm, ⟨0, _⟩ => ⟨S4096x2048, .f32⟩
  | .hbm, ⟨1, _⟩ => ⟨S4096x2048, .f32⟩
  | .hbm, ⟨2, _⟩ => ⟨S1x2048, .f32⟩
  | .hbm, ⟨3, _⟩ => ⟨S_, .f32⟩
  | .hbm, ⟨4, _⟩ => ⟨S1x2048, .f32⟩
  | .hbm, ⟨5, _⟩ => ⟨S_, .f32⟩
  | .hbm, ⟨6, _⟩ => ⟨S4096, .f32⟩
  | .hbm, ⟨7, _⟩ => ⟨S4096x1, .f32⟩
  | .hbm, ⟨8, _⟩ => ⟨S_, .f32⟩
  | .hbm, ⟨9, _⟩ => ⟨S4096x1, .f32⟩
  | .hbm, ⟨10, _⟩ => ⟨S4096x1, .f32⟩
  | .hbm, ⟨11, _⟩ => ⟨S4096x2048, .f32⟩
  | .hbm, ⟨12, _⟩ => ⟨S4096x2048, .f32⟩
  | .hbm, ⟨13, _⟩ => ⟨S4096x2048, .f32⟩
  | .hbm, ⟨14, _⟩ => ⟨S_, .f32⟩
  | .hbm, ⟨15, _⟩ => ⟨S4096, .f32⟩
  | .hbm, ⟨16, _⟩ => ⟨S4096x1, .f32⟩
  | .hbm, ⟨17, _⟩ => ⟨S_, .f32⟩
  | .hbm, ⟨18, _⟩ => ⟨S4096x1, .f32⟩
  | .hbm, ⟨19, _⟩ => ⟨S4096x1, .f32⟩
  | .hbm, ⟨20, _⟩ => ⟨S4096x2048, .f32⟩
  | .hbm, ⟨21, _⟩ => ⟨S4096x2048, .f32⟩
  | .hbm, ⟨22, _⟩ => ⟨S_, .f32⟩
  | .hbm, ⟨23, _⟩ => ⟨S4096x1, .f32⟩
  | .hbm, ⟨24, _⟩ => ⟨S4096x1, .f32⟩
  | .hbm, ⟨25, _⟩ => ⟨S4096x1, .f32⟩
  | .hbm, ⟨26, _⟩ => ⟨S4096x2048, .f32⟩
  | .hbm, ⟨27, _⟩ => ⟨S4096x2048, .f32⟩
  | .hbm, ⟨28, _⟩ => ⟨S4096x2048, .f32⟩
  | .hbm, ⟨29, _⟩ => ⟨S4096x2048, .f32⟩
  | .hbm, ⟨30, _⟩ => ⟨S4096x2048, .f32⟩
  | .hbm, ⟨31, _⟩ => ⟨S4096x2048, .f32⟩
  | .hbm, ⟨32, _⟩ => ⟨S4096x2048, .f32⟩
  | .hbm, ⟨33, _⟩ => ⟨S_, .f32⟩
  | .hbm, ⟨34, _⟩ => ⟨S2048, .f32⟩
  | .hbm, ⟨35, _⟩ => ⟨S1x2048, .f32⟩
  | .hbm, ⟨36, _⟩ => ⟨S4096x2048, .f32⟩
  | .hbm, ⟨37, _⟩ => ⟨S_, .f32⟩
  | .hbm, ⟨38, _⟩ => ⟨S2048, .f32⟩
  | .hbm, ⟨39, _⟩ => ⟨S1x2048, .f32⟩
  | _, _ => ⟨S4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_cst_0 : Ref sig .tc := ⟨.hbm, 5, rfl⟩
abbrev main_v1 : Ref sig .tc := ⟨.hbm, 6, rfl⟩
abbrev main_v2 : Ref sig .tc := ⟨.hbm, 7, rfl⟩
abbrev main_cst_1 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_cst_2 : Ref sig .tc := ⟨.hbm, 14, rfl⟩
abbrev main_v8 : Ref sig .tc := ⟨.hbm, 15, rfl⟩
abbrev main_v9 : Ref sig .tc := ⟨.hbm, 16, rfl⟩
abbrev main_cst_3 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_cst_4 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_cst_5 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_cst_6 : Ref sig .tc := ⟨.hbm, 37, rfl⟩
abbrev main_v27 : Ref sig .tc := ⟨.hbm, 38, rfl⟩
abbrev main_v28 : Ref sig .tc := ⟨.hbm, 39, rfl⟩

abbrev nD : Nat := 1
abbrev τ : Topo := Topo.v7x

variable {F : FTy → Type} [FloatOps F]
-- ==== RmsGains.lean ====
abbrev S4096x2048 : Shape := ⟨2, ![4096, 2048]⟩
abbrev S4096x1024 : Shape := ⟨2, ![4096, 1024]⟩
abbrev S1x1024 : Shape := ⟨2, ![1, 1024]⟩
abbrev S8x1024 : Shape := ⟨2, ![8, 1024]⟩
abbrev S512x2048 : Shape := ⟨2, ![512, 2048]⟩
abbrev S512x1024 : Shape := ⟨2, ![512, 1024]⟩
abbrev S512 : Shape := ⟨1, ![512]⟩
abbrev S512x1 : Shape := ⟨2, ![512, 1]⟩
abbrev S64x8x1024 : Shape := ⟨3, ![64, 8, 1024]⟩
abbrev S_ : Shape := ⟨0, ![]⟩
abbrev S1024 : Shape := ⟨1, ![1024]⟩

abbrev nBuf : Space → Nat
  | .hbm => 15
  | .vmem => 14
  | .smem => 0
  | _ => 0

abbrev bufTy : (tb : Table) → Fin (tcTables nBuf tb) → BufTy
  | .hbm, ⟨0, _⟩ => ⟨S4096x2048, .f32⟩
  | .hbm, ⟨1, _⟩ => ⟨S4096x1024, .f32⟩
  | .hbm, ⟨2, _⟩ => ⟨S4096x1024, .f32⟩
  | .hbm, ⟨3, _⟩ => ⟨S1x1024, .f32⟩
  | .hbm, ⟨4, _⟩ => ⟨S1x1024, .f32⟩
  | .hbm, ⟨5, _⟩ => ⟨S4096x1024, .f32⟩
  | .hbm, ⟨6, _⟩ => ⟨S4096x1024, .f32⟩
  | .hbm, ⟨7, _⟩ => ⟨S8x1024, .f32⟩
  | .hbm, ⟨8, _⟩ => ⟨S8x1024, .f32⟩
  | .hbm, ⟨9, _⟩ => ⟨S_, .f32⟩
  | .hbm, ⟨10, _⟩ => ⟨S1024, .f32⟩
  | .hbm, ⟨11, _⟩ => ⟨S1x1024, .f32⟩
  | .hbm, ⟨12, _⟩ => ⟨S_, .f32⟩
  | .hbm, ⟨13, _⟩ => ⟨S1024, .f32⟩
  | .hbm, ⟨14, _⟩ => ⟨S1x1024, .f32⟩
  | .local _ .vmem, ⟨0, _⟩ => ⟨S512x2048, .f32⟩
  | .local _ .vmem, ⟨1, _⟩ => ⟨S512x2048, .f32⟩
  | .local _ .vmem, ⟨2, _⟩ => ⟨S512x1024, .f32⟩
  | .local _ .vmem, ⟨3, _⟩ => ⟨S512x1024, .f32⟩
  | .local _ .vmem, ⟨4, _⟩ => ⟨S512x1024, .f32⟩
  | .local _ .vmem, ⟨5, _⟩ => ⟨S512x1024, .f32⟩
  | .local _ .vmem, ⟨6, _⟩ => ⟨S1x1024, .f32⟩
  | .local _ .vmem, ⟨7, _⟩ => ⟨S1x1024, .f32⟩
  | .local _ .vmem, ⟨8, _⟩ => ⟨S512x1024, .f32⟩
  | .local _ .vmem, ⟨9, _⟩ => ⟨S512x1024, .f32⟩
  | .local _ .vmem, ⟨10, _⟩ => ⟨S512x1024, .f32⟩
  | .local _ .vmem, ⟨11, _⟩ => ⟨S512x1024, .f32⟩
  | .local _ .vmem, ⟨12, _⟩ => ⟨S8x1024, .f32⟩
  | .local _ .vmem, ⟨13, _⟩ => ⟨S8x1024, .f32⟩
  | _, _ => ⟨S4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev main_v0_2 : Ref sig .tc := ⟨.hbm, 7, rfl⟩
abbrev main_v0_3 : Ref sig .tc := ⟨.hbm, 8, rfl⟩
abbrev main_cst : Ref sig .tc := ⟨.hbm, 9, rfl⟩
abbrev main_v1 : Ref sig .tc := ⟨.hbm, 10, rfl⟩
abbrev main_v2 : Ref sig .tc := ⟨.hbm, 11, rfl⟩
abbrev main_cst_0 : Ref sig .tc := ⟨.hbm, 12, rfl⟩
abbrev main_v3 : Ref sig .tc := ⟨.hbm, 13, rfl⟩
abbrev main_v4 : Ref sig .tc := ⟨.hbm, 14, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg8_0 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12
abbrev cc0_sem8_0 : DmaSem sig := 13

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 1 → Memref sig .tc .vmem S8x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S8x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]
-- ==== RefRmsGainsIdeal.lean ====
abbrev S4096x2048 : Shape := ⟨2, ![4096, 2048]⟩
abbrev S4096x1024 : Shape := ⟨2, ![4096, 1024]⟩
abbrev S1x1024 : Shape := ⟨2, ![1, 1024]⟩
abbrev S_ : Shape := ⟨0, ![]⟩
abbrev S4096 : Shape := ⟨1, ![4096]⟩
abbrev S4096x1 : Shape := ⟨2, ![4096, 1]⟩
abbrev S1024 : Shape := ⟨1, ![1024]⟩

abbrev nBuf : Space → Nat
  | .hbm => 46
  | .vmem => 0
  | .smem => 0
  | _ => 0

abbrev bufTy : (tb : Table) → Fin (tcTables nBuf tb) → BufTy
  | .hbm, ⟨0, _⟩ => ⟨S4096x2048, .f32⟩
  | .hbm, ⟨1, _⟩ => ⟨S4096x1024, .f32⟩
  | .hbm, ⟨2, _⟩ => ⟨S4096x1024, .f32⟩
  | .hbm, ⟨3, _⟩ => ⟨S1x1024, .f32⟩
  | .hbm, ⟨4, _⟩ => ⟨S1x1024, .f32⟩
  | .hbm, ⟨5, _⟩ => ⟨S4096x1024, .f32⟩
  | .hbm, ⟨6, _⟩ => ⟨S_, .f32⟩
  | .hbm, ⟨7, _⟩ => ⟨S4096, .f32⟩
  | .hbm, ⟨8, _⟩ => ⟨S4096x1, .f32⟩
  | .hbm, ⟨9, _⟩ => ⟨S_, .f32⟩
  | .hbm, ⟨10, _⟩ => ⟨S4096x1, .f32⟩
  | .hbm, ⟨11, _⟩ => ⟨S4096x1, .f32⟩
  | .hbm, ⟨12, _⟩ => ⟨S_, .f32⟩
  | .hbm, ⟨13, _⟩ => ⟨S4096x1, .f32⟩
  | .hbm, ⟨14, _⟩ => ⟨S4096x1, .f32⟩
  | .hbm, ⟨15, _⟩ => ⟨S4096x1, .f32⟩
  | .hbm, ⟨16, _⟩ => ⟨S4096x1024, .f32⟩
  | .hbm, ⟨17, _⟩ => ⟨S4096x1024, .f32⟩
  | .hbm, ⟨18, _⟩ => ⟨S4096x1024, .f32⟩
  | .hbm, ⟨19, _⟩ => ⟨S4096x1024, .f32⟩
  | .hbm, ⟨20, _⟩ => ⟨S4096x1024, .f32⟩
  | .hbm, ⟨21, _⟩ => ⟨S_, .f32⟩
  | .hbm, ⟨22, _⟩ => ⟨S4096, .f32⟩
  | .hbm, ⟨23, _⟩ => ⟨S4096x1, .f32⟩
  | .hbm, ⟨24, _⟩ => ⟨S_, .f32⟩
  | .hbm, ⟨25, _⟩ => ⟨S4096x1, .f32⟩
  | .hbm, ⟨26, _⟩ => ⟨S4096x1, .f32⟩
  | .hbm, ⟨27, _⟩ => ⟨S_, .f32⟩
  | .hbm, ⟨28, _⟩ => ⟨S4096x1, .f32⟩
  | .hbm, ⟨29, _⟩ => ⟨S4096x1, .f32⟩
  | .hbm, ⟨30, _⟩ => ⟨S4096x1, .f32⟩
  | .hbm, ⟨31, _⟩ => ⟨S4096x1024, .f32⟩
  | .hbm, ⟨32, _⟩ => ⟨S4096x1024, .f32⟩
  | .hbm, ⟨33, _⟩ => ⟨S4096x1024, .f32⟩
  | .hbm, ⟨34, _⟩ => ⟨S4096x1024, .f32⟩
  | .hbm, ⟨35, _⟩ => ⟨S4096x2048, .f32⟩
  | .hbm, ⟨36, _⟩ => ⟨S4096x1024, .f32⟩
  | .hbm, ⟨37, _⟩ => ⟨S4096x1024, .f32⟩
  | .hbm, ⟨38, _⟩ => ⟨S4096x1024, .f32⟩
  | .hbm, ⟨39, _⟩ => ⟨S_, .f32⟩
  | .hbm, ⟨40, _⟩ => ⟨S1024, .f32⟩
  | .hbm, ⟨41, _⟩ => ⟨S1x1024, .f32⟩
  | .hbm, ⟨42, _⟩ => ⟨S4096x1024, .f32⟩
  | .hbm, ⟨43, _⟩ => ⟨S_, .f32⟩
  | .hbm, ⟨44, _⟩ => ⟨S1024, .f32⟩
  | .hbm, ⟨45, _⟩ => ⟨S1x1024, .f32⟩
  | _, _ => ⟨S4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_cst_2 : Ref sig .tc := ⟨.hbm, 21, rfl⟩
abbrev main_v13 : Ref sig .tc := ⟨.hbm, 22, rfl⟩
abbrev main_v14 : Ref sig .tc := ⟨.hbm, 23, rfl⟩
abbrev main_cst_3 : Ref sig .tc := ⟨.hbm, 24, rfl⟩
abbrev main_v15 : Ref sig .tc := ⟨.hbm, 25, rfl⟩
abbrev main_v16 : Ref sig .tc := ⟨.hbm, 26, rfl⟩
abbrev main_cst_4 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_cst_5 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_cst_6 : Ref sig .tc := ⟨.hbm, 43, rfl⟩
abbrev main_v31 : Ref sig .tc := ⟨.hbm, 44, rfl⟩
abbrev main_v32 : Ref sig .tc := ⟨.hbm, 45, rfl⟩

abbrev nD : Nat := 1
abbrev τ : Topo := Topo.v7x

variable {F : FTy → Type} [FloatOps F]
-- ==== Proof.ProdSum.lean ====
module

public import Idealize.ShloMosaic.PureOps.Ideal.Laws
public import Idealize.ShloMosaic.Lib.Pipeline.ValueKit

/-! Sums of products, compared term by term and cut into stretches. -/

@[expose] public section

namespace Cert.ProdSum

/-- Two sums of products of equal factors. -/
theorem dot_congr {n : ℕ} {a a' b b' : Fin n → EReal} (ha : ∀ k, a k = a' k) (hb : ∀ k, b k = b' k) : ∑ k, a k * b k = ∑ k, a' k * b' k :=
  Finset.sum_congr rfl fun k _ => by rw [ha k, hb k]

/-- The factors of each product exchanged. -/
theorem dot_comm {n : ℕ} (a b : Fin n → EReal) : ∑ k, a k * b k = ∑ k, b k * a k :=
  Finset.sum_congr rfl fun k _ => mul_comm _ _

/-- Two sums of equal terms. -/
theorem outer_congr {n : ℕ} {a a' : Fin n → EReal} (h : ∀ k, a k = a' k) : ∑ k, a k = ∑ k, a' k :=
  Finset.sum_congr rfl fun k _ => h k

/-- A position within the whole length. -/
theorem at_lt {J n N : ℕ} (hN : J * n = N) (s : Fin J) (k : Fin n) : s.val * n + k.val < N := by
  have h1 : (s.val + 1) * n ≤ J * n := Nat.mul_le_mul_right _ s.isLt
  have h2 := k.isLt
  rw [Nat.succ_mul] at h1
  omega

/-- A sum over the whole length, one stretch after the other. -/
theorem sum_halves {J n N : ℕ} (hN : J * n = N) (f : Fin N → EReal) : ∑ s : Fin J, ∑ k : Fin n, f ⟨s.val * n + k.val, at_lt hN s k⟩ = ∑ l : Fin N, f l := by
  subst hN
  have := Fin.sum_univ_univ_mul_add J n (fun i => if h : i < J * n then f ⟨i, h⟩ else 0)
  simpa only [Fin.is_lt, at_lt, dite_true] using this

end Cert.ProdSum

end
-- ==== Proof.OfDwDown.lean ====
module

public import proofs.«01_k».proof.Defs
public import proofs.«01_k».proof.Proof.Gen.DwDownIdeal.Value
public import proofs.«01_k».proof.Proof.Gen.RefDwDownIdeal.Read
public import proofs.«01_k».proof.Proof.ProdSum
public import Idealize.ShloMosaic.Lib.Quiescent
public import Idealize.ShloMosaic.Lib.Tactic
public import Idealize.ShloMosaic.Lib.Pointwise
public import Idealize.ShloMosaic.Lib.Pipeline.ValueKit
public import Idealize.ShloMosaic.Lib.Pipeline.ReadBack

/-! The gradient of the down projection's weight: each block of the result is the sum of two partial products, one for each half
    of the rows; the first half's is kept in the scratch buffer. -/

@[expose] public section

set_option maxRecDepth 16384

noncomputable section

namespace Cert.OfDwDown

open Idealize.ShloMosaic Idealize.ShloMosaic.TcCoe Idealize.SL.Sem
open Cert.DwDownIdeal Cert.DwDownIdeal.Gen Cert.ProdSum

/-- The product of the transposed input with the gradient. -/
def prod (x : Vec Ideal S4096x8192 .bf16) (d : Vec Ideal S4096x2048 .bf16) : S1x8192x2048.Idx → EReal :=
  fun i => ∑ k : Fin 4096, x (ix2 k (i 1)) * d (ix2 k (i 2))

/-- One partial product, at an index. -/
def part (x : Vec Ideal S2048x1024 .bf16) (d : Vec Ideal S2048x1024 .bf16) : S1024x1024.Idx → EReal :=
  fun y => ∑ k : Fin 2048, x (ix2 k (y 0)) * d (ix2 k (y 1))

/-- The scratch buffer starts at zero. -/
theorem zero_apply (y : S1024x1024.Idx) : k0_pay1 (F := Ideal) y = 0 := by
  obtain ⟨r, s, rfl⟩ : ∃ r s, y = ix2 r s := ⟨y 0, y 1, eq_ix2 y⟩
  pointwise [k0_pay1]

/-- A step adds its partial product. -/
theorem step_apply (a : Vec Ideal S1024x1024 .f32) (x : Vec Ideal S2048x1024 .bf16) (d : Vec Ideal S2048x1024 .bf16) (y : S1024x1024.Idx) :
    k0_pay2 a x d y = a y + part x d y := by
  obtain ⟨r, s, rfl⟩ : ∃ r s, y = ix2 r s := ⟨y 0, y 1, eq_ix2 y⟩
  unfold part
  pointwise [k0_pay2]

/-- What is written out is what was summed. -/
theorem last_apply (a : Vec Ideal S1024x1024 .f32) (r s : Fin 1024) : k0_pay3 a (ix3 0 r s) = a (ix2 r s) := by
  pointwise [k0_pay3]

variable (m : (ℓ : Loc nD τ sig) → Buf (Elt Ideal) ℓ) (c : Dev nD)

/-- The partial product of a point. -/
def term (t : Fin cfg0.N) : S1024x1024.Idx → EReal := part (iblk m c 0 t) (iblk m c 1 t)

theorem scratch_first (t : Fin cfg0.N) (h : t.val % 2 = 0) (y : S1024x1024.Idx) :
    (outsAt0 m c t.val t.isLt).2 y = k0_pay1 (F := Ideal) y + term m c t y := by
  rw [outsAt0_A m c t h (by omega)]
  dsimp only
  unfold sout0_A_0
  frame_out
  exact step_apply _ _ _ y

theorem scratch_next (t : Fin cfg0.N) (h : ¬t.val % 2 = 0) (y : S1024x1024.Idx) :
    (outsAt0 m c t.val t.isLt).2 y = (outsAt0 m c (t.val - 1) (Nat.lt_of_le_of_lt (Nat.sub_le _ _) t.isLt)).2 y + term m c t y := by
  rw [outsAt0_B m c t h (by omega)]
  dsimp only
  unfold sout0_B_0
  frame_out
  refine (step_apply _ _ _ y).trans (congrArg (· + _) (congrFun (Memref.IsWhole.read_unread _ _) y))

/-- The block written out is the scratch buffer's. -/
theorem out_last (t : Fin cfg0.N) (h : t.val % 2 = 1) (r s : Fin 1024) :
    (outsAt0 m c t.val t.isLt).1 (ix3 0 r s) = (outsAt0 m c t.val t.isLt).2 (ix2 r s) := by
  rw [outsAt0_B m c t (by omega) h]
  dsimp only
  unfold out0_B_2 sout0_B_0
  frame_out
  exact last_apply _ r s

/-- Where each point's blocks lie. -/
theorem index : ∀ t : Fin cfg0.N, win0_0.index t = ![t.val % 2, t.val / 4] ∧ win0_1.index t = ![t.val % 2, t.val / 2 % 2] ∧ win0_2.index t = ![0, t.val / 4, t.val / 2 % 2] :=
  (by decide +kernel : ∀ t : Fin grid0.N, _)

/-- The block of the input, at an index. -/
theorem blk0 (t : Fin cfg0.N) (k : Fin 2048) (r : Fin 1024) (p q) :
    iblk m c 0 t (ix2 k r) = m ((c : Thread nD τ).loc main_arg0) (ix2 ⟨t.val % 2 * 2048 + k.val, p⟩ ⟨t.val / 4 * 1024 + r.val, q⟩) := by
  blk_ext [iblk, V_main_arg0, index t]

/-- The block of the gradient, at an index. -/
theorem blk1 (t : Fin cfg0.N) (k : Fin 2048) (s : Fin 1024) (p q) :
    iblk m c 1 t (ix2 k s) = m ((c : Thread nD τ).loc main_arg1) (ix2 ⟨t.val % 2 * 2048 + k.val, p⟩ ⟨t.val / 2 % 2 * 1024 + s.val, q⟩) := by
  blk_ext [iblk, V_main_arg1, index t]

/-- The whole result. -/
theorem array : (dats m 0 c).arrAt 2 cfg0.N = prod (m ((c : Thread nD τ).loc main_arg0)) (m ((c : Thread nD τ).loc main_arg1)) := by
  refine (dats m 0 c).arrAt_eq_of_covers 2 _ (by decide +kernel) fun t hf y => ?_
  have ht := (flush0_2 t).mp hf
  have hb : t.val < 32 := t.isLt
  blk_simp
  obtain ⟨r, s, rfl⟩ : ∃ r s, y = ix3 0 r s := ⟨y 1, y 2, (eq_ix3 y).trans (congrArg (fun z => ix3 z (y 1) (y 2)) (Fin.ext (Nat.lt_one_iff.mp (y 0).isLt)))⟩
  rw [after0_2, out_last m c t ht,
    Pipeline.eq_sum_fin_of_reset_step_apply_of_flush (fun n h => (outsAt0 m c n h).2) 2 (k0_pay1 (F := Ideal)) (term m c) (scratch_first m c) (scratch_next m c) t ht (ix2 r s),
    zero_apply, zero_add]
  have e1 : ((win0_2.blk t).view.emb (ix3 0 r s) 1).val = t.val / 4 * 1024 + r.val := by
    blk_simp [index t] <;> omega
  have e2 : ((win0_2.blk t).view.emb (ix3 0 r s) 2).val = t.val / 2 % 2 * 1024 + s.val := by
    blk_simp [index t] <;> omega
  unfold prod
  rw [show (win0_2.blk t).view.emb (ix3 0 r s) 1 = ⟨_, e1 ▸ ((win0_2.blk t).view.emb (ix3 0 r s) 1).isLt⟩ from Fin.ext e1,
    show (win0_2.blk t).view.emb (ix3 0 r s) 2 = ⟨_, e2 ▸ ((win0_2.blk t).view.emb (ix3 0 r s) 2).isLt⟩ from Fin.ext e2]
  refine Eq.trans ?_ (sum_halves (n := 2048) (J := 2) rfl _)
  unfold term part
  refine outer_congr fun p => ?_
  have hp := p.isLt
  have d2 : (2 * (t.val / 2) + p.val) % 2 = p.val := by omega
  have d4 : (2 * (t.val / 2) + p.val) / 4 = t.val / 4 := by omega
  have d22 : (2 * (t.val / 2) + p.val) / 2 % 2 = t.val / 2 % 2 := by omega
  refine dot_congr (fun k => (blk0 m c _ k r (by dsimp only; omega) (by dsimp only; omega)).trans ?_) (fun k => (blk1 m c _ k s (by dsimp only; omega) (by dsimp only; omega)).trans ?_)
  · exact congrArg _ (congrArg₂ ix2 (Fin.ext (by dsimp only; rw [d2])) (Fin.ext (by dsimp only; rw [d4])))
  · exact congrArg _ (congrArg₂ ix2 (Fin.ext (by dsimp only; rw [d2])) (Fin.ext (by dsimp only; rw [d22])))

/-- The reference, at an index. -/
theorem ref_at (x : Vec Ideal S4096x8192 .bf16) (d : Vec Ideal S4096x2048 .bf16) (r : Fin 8192) (j : Fin 2048) :
    Cert.RefDwDownIdeal.Read.val_main_v10 (F := Ideal) x d (ix3 0 r j) = ∑ k : Fin 4096, d (ix2 k j) * x (ix2 k r) := by
  pointwise [Cert.RefDwDownIdeal.Read.val_main_v10, Cert.RefDwDownIdeal.Read.val_main_v9, Cert.RefDwDownIdeal.Read.val_main_v8, Cert.RefDwDownIdeal.Read.val_main_v7,
    Cert.RefDwDownIdeal.Read.val_main_v6, Cert.RefDwDownIdeal.Read.val_main_v5, Cert.RefDwDownIdeal.Read.val_main_v1]

/-- The reference runs, leaves its arguments alone and every counter at zero. -/
theorem frameRef : Cert.quiescent_RefDwDownIdeal := fun m g _ =>
  (θ_run Cert.RefDwDownIdeal.defs _ _).mono (fun r h => ⟨fun c => (h c).2, sem_eq_zero_of_no_sems rfl _⟩) (Cert.RefDwDownIdeal.Value.run m g)

/-- The kernel's result is the reference's. -/
theorem value : Cert.algebraic_DwDownIdeal_RefDwDownIdeal := by
  intro m g m' g' _ hargs
  refine ⟨fun c => (dats m 0 c).arrAt 2 cfg0.N, Cert.DwDownIdeal.Value.run_blocks m g, ?_⟩
  refine (θ_run Cert.RefDwDownIdeal.defs _ _).mono (fun r h c => ?_) (Cert.RefDwDownIdeal.Value.run m' g')
  obtain ⟨h0, h1, h2⟩ := h c
  obtain ⟨a0, a1⟩ := hargs c
  refine ⟨h0.trans ?_, h1, h2⟩
  rw [Cert.RefDwDownIdeal.Read.val_main_v10_eq, a0, a1]
  refine Eq.trans ?_ (array m c).symm
  funext i
  obtain ⟨r, j, rfl⟩ : ∃ r j, i = ix3 0 r j := ⟨i 1, i 2, (eq_ix3 i).trans (congrArg (fun z => ix3 z (i 1) (i 2)) (Fin.ext (Nat.lt_one_iff.mp (i 0).isLt)))⟩
  rw [ref_at]
  exact dot_comm _ _

end Cert.OfDwDown

end
-- ==== Proof.OfDwUp.lean ====
module

public import proofs.«01_k».proof.Defs
public import proofs.«01_k».proof.Proof.Gen.DwUpIdeal.Value
public import proofs.«01_k».proof.Proof.Gen.RefDwUpIdeal.Read
public import proofs.«01_k».proof.Proof.ProdSum
public import Idealize.ShloMosaic.Lib.Quiescent
public import Idealize.ShloMosaic.Lib.Tactic
public import Idealize.ShloMosaic.Lib.Pointwise
public import Idealize.ShloMosaic.Lib.Pipeline.ValueKit
public import Idealize.ShloMosaic.Lib.Pipeline.ReadBack

/-! The gradient of the up projection's weight, in four shards by column: each block of the result is the sum of two partial products, one for each half
    of the rows; the first half's is kept in the scratch buffer. -/

@[expose] public section

set_option maxRecDepth 16384

noncomputable section

namespace Cert.OfDwUp

open Idealize.ShloMosaic Idealize.ShloMosaic.TcCoe Idealize.SL.Sem
open Cert.DwUpIdeal Cert.DwUpIdeal.Gen Cert.ProdSum

/-- The column of the gradient that a shard's column is. -/
def column (h : Fin 4) (j : Fin 2048) : Fin 8192 := ⟨h.val * 2048 + j.val, by omega⟩

/-- The product of the transposed input with the gradient. -/
def prod (x : Vec Ideal S4096x2048 .bf16) (d : Vec Ideal S4096x8192 .bf16) : S4x2048x2048.Idx → EReal :=
  fun i => ∑ k : Fin 4096, x (ix2 k (i 1)) * d (ix2 k (column (i 0) (i 2)))

/-- One partial product, at an index. -/
def part (x : Vec Ideal S2048x1024 .bf16) (d : Vec Ideal S2048x1024 .bf16) : S1024x1024.Idx → EReal :=
  fun y => ∑ k : Fin 2048, x (ix2 k (y 0)) * d (ix2 k (y 1))

/-- The scratch buffer starts at zero. -/
theorem zero_apply (y : S1024x1024.Idx) : k0_pay1 (F := Ideal) y = 0 := by
  obtain ⟨r, s, rfl⟩ : ∃ r s, y = ix2 r s := ⟨y 0, y 1, eq_ix2 y⟩
  pointwise [k0_pay1]

/-- A step adds its partial product. -/
theorem step_apply (a : Vec Ideal S1024x1024 .f32) (x : Vec Ideal S2048x1024 .bf16) (d : Vec Ideal S2048x1024 .bf16) (y : S1024x1024.Idx) :
    k0_pay2 a x d y = a y + part x d y := by
  obtain ⟨r, s, rfl⟩ : ∃ r s, y = ix2 r s := ⟨y 0, y 1, eq_ix2 y⟩
  unfold part
  pointwise [k0_pay2]

/-- What is written out is what was summed. -/
theorem last_apply (a : Vec Ideal S1024x1024 .f32) (r s : Fin 1024) : k0_pay3 a (ix3 0 r s) = a (ix2 r s) := by
  pointwise [k0_pay3]

variable (m : (ℓ : Loc nD τ sig) → Buf (Elt Ideal) ℓ) (c : Dev nD)

/-- The partial product of a point. -/
def term (t : Fin cfg0.N) : S1024x1024.Idx → EReal := part (iblk m c 0 t) (iblk m c 1 t)

theorem scratch_first (t : Fin cfg0.N) (h : t.val % 2 = 0) (y : S1024x1024.Idx) :
    (outsAt0 m c t.val t.isLt).2 y = k0_pay1 (F := Ideal) y + term m c t y := by
  rw [outsAt0_A m c t h (by omega)]
  dsimp only
  unfold sout0_A_0
  frame_out
  exact step_apply _ _ _ y

theorem scratch_next (t : Fin cfg0.N) (h : ¬t.val % 2 = 0) (y : S1024x1024.Idx) :
    (outsAt0 m c t.val t.isLt).2 y = (outsAt0 m c (t.val - 1) (Nat.lt_of_le_of_lt (Nat.sub_le _ _) t.isLt)).2 y + term m c t y := by
  rw [outsAt0_B m c t h (by omega)]
  dsimp only
  unfold sout0_B_0
  frame_out
  refine (step_apply _ _ _ y).trans (congrArg (· + _) (congrFun (Memref.IsWhole.read_unread _ _) y))

/-- The block written out is the scratch buffer's. -/
theorem out_last (t : Fin cfg0.N) (h : t.val % 2 = 1) (r s : Fin 1024) :
    (outsAt0 m c t.val t.isLt).1 (ix3 0 r s) = (outsAt0 m c t.val t.isLt).2 (ix2 r s) := by
  rw [outsAt0_B m c t (by omega) h]
  dsimp only
  unfold out0_B_2 sout0_B_0
  frame_out
  exact last_apply _ r s

/-- Where each point's blocks lie. -/
theorem index : ∀ t : Fin cfg0.N, win0_0.index t = ![t.val % 2, t.val / 16] ∧ win0_1.index t = ![t.val % 2, t.val / 2 % 8] ∧ win0_2.index t = ![t.val / 4 % 4, t.val / 16, t.val / 2 % 2] :=
  (by decide +kernel : ∀ t : Fin grid0.N, _)

/-- The block of the input, at an index. -/
theorem blk0 (t : Fin cfg0.N) (k : Fin 2048) (r : Fin 1024) (p q) :
    iblk m c 0 t (ix2 k r) = m ((c : Thread nD τ).loc main_arg0) (ix2 ⟨t.val % 2 * 2048 + k.val, p⟩ ⟨t.val / 16 * 1024 + r.val, q⟩) := by
  blk_ext [iblk, V_main_arg0, index t]

/-- The block of the gradient, at an index. -/
theorem blk1 (t : Fin cfg0.N) (k : Fin 2048) (s : Fin 1024) (p q) :
    iblk m c 1 t (ix2 k s) = m ((c : Thread nD τ).loc main_arg1) (ix2 ⟨t.val % 2 * 2048 + k.val, p⟩ ⟨t.val / 2 % 8 * 1024 + s.val, q⟩) := by
  blk_ext [iblk, V_main_arg1, index t]

/-- The whole result. -/
theorem array : (dats m 0 c).arrAt 2 cfg0.N = prod (m ((c : Thread nD τ).loc main_arg0)) (m ((c : Thread nD τ).loc main_arg1)) := by
  refine (dats m 0 c).arrAt_eq_of_covers 2 _ (by decide +kernel) fun t hf y => ?_
  have ht := (flush0_2 t).mp hf
  have hb : t.val < 32 := t.isLt
  blk_simp
  obtain ⟨r, s, rfl⟩ : ∃ r s, y = ix3 0 r s := ⟨y 1, y 2, (eq_ix3 y).trans (congrArg (fun z => ix3 z (y 1) (y 2)) (Fin.ext (Nat.lt_one_iff.mp (y 0).isLt)))⟩
  rw [after0_2, out_last m c t ht,
    Pipeline.eq_sum_fin_of_reset_step_apply_of_flush (fun n h => (outsAt0 m c n h).2) 2 (k0_pay1 (F := Ideal)) (term m c) (scratch_first m c) (scratch_next m c) t ht (ix2 r s),
    zero_apply, zero_add]
  have e0 : ((win0_2.blk t).view.emb (ix3 0 r s) 0).val = t.val / 4 % 4 := by
    blk_simp [index t] <;> omega
  have e1 : ((win0_2.blk t).view.emb (ix3 0 r s) 1).val = t.val / 16 * 1024 + r.val := by
    blk_simp [index t] <;> omega
  have e2 : ((win0_2.blk t).view.emb (ix3 0 r s) 2).val = t.val / 2 % 2 * 1024 + s.val := by
    blk_simp [index t] <;> omega
  unfold prod
  rw [show (win0_2.blk t).view.emb (ix3 0 r s) 0 = ⟨_, e0 ▸ ((win0_2.blk t).view.emb (ix3 0 r s) 0).isLt⟩ from Fin.ext e0, show (win0_2.blk t).view.emb (ix3 0 r s) 1 = ⟨_, e1 ▸ ((win0_2.blk t).view.emb (ix3 0 r s) 1).isLt⟩ from Fin.ext e1,
    show (win0_2.blk t).view.emb (ix3 0 r s) 2 = ⟨_, e2 ▸ ((win0_2.blk t).view.emb (ix3 0 r s) 2).isLt⟩ from Fin.ext e2]
  refine Eq.trans ?_ (sum_halves (n := 2048) (J := 2) rfl _)
  unfold term part
  refine outer_congr fun p => ?_
  have hp := p.isLt
  have d2 : (2 * (t.val / 2) + p.val) % 2 = p.val := by omega
  have d4 : (2 * (t.val / 2) + p.val) / 16 = t.val / 16 := by omega
  have d22 : (2 * (t.val / 2) + p.val) / 2 % 8 * 1024 = t.val / 4 % 4 * 2048 + t.val / 2 % 2 * 1024 := by omega
  refine dot_congr (fun k => (blk0 m c _ k r (by dsimp only; omega) (by dsimp only; omega)).trans ?_) (fun k => (blk1 m c _ k s (by dsimp only; omega) (by dsimp only; omega)).trans ?_)
  · exact congrArg _ (congrArg₂ ix2 (Fin.ext (by dsimp only; rw [d2])) (Fin.ext (by dsimp only; rw [d4])))
  · exact congrArg _ (congrArg₂ ix2 (Fin.ext (by dsimp only; rw [d2])) (Fin.ext (by dsimp only [column]; rw [d22, Nat.add_assoc])))

/-- The reference, at an index. -/
theorem ref_at (x : Vec Ideal S4096x2048 .bf16) (d : Vec Ideal S4096x8192 .bf16) (h : Fin 4) (r j : Fin 2048) :
    Cert.RefDwUpIdeal.Read.val_main_v10 (F := Ideal) x d (ix3 h r j) = ∑ k : Fin 4096, d (ix2 k (column h j)) * x (ix2 k r) := by
  pointwise [Cert.RefDwUpIdeal.Read.val_main_v10, Cert.RefDwUpIdeal.Read.val_main_v9, Cert.RefDwUpIdeal.Read.val_main_v8, Cert.RefDwUpIdeal.Read.val_main_v7,
    Cert.RefDwUpIdeal.Read.val_main_v6, Cert.RefDwUpIdeal.Read.val_main_v5, Cert.RefDwUpIdeal.Read.val_main_v1]
  rfl

/-- The reference runs, leaves its arguments alone and every counter at zero. -/
theorem frameRef : Cert.quiescent_RefDwUpIdeal := fun m g _ =>
  (θ_run Cert.RefDwUpIdeal.defs _ _).mono (fun r h => ⟨fun c => (h c).2, sem_eq_zero_of_no_sems rfl _⟩) (Cert.RefDwUpIdeal.Value.run m g)

/-- The kernel's result is the reference's. -/
theorem value : Cert.algebraic_DwUpIdeal_RefDwUpIdeal := by
  intro m g m' g' _ hargs
  refine ⟨fun c => (dats m 0 c).arrAt 2 cfg0.N, Cert.DwUpIdeal.Value.run_blocks m g, ?_⟩
  refine (θ_run Cert.RefDwUpIdeal.defs _ _).mono (fun r hr c => ?_) (Cert.RefDwUpIdeal.Value.run m' g')
  obtain ⟨h0, h1, h2⟩ := hr c
  obtain ⟨a0, a1⟩ := hargs c
  refine ⟨h0.trans ?_, h1, h2⟩
  rw [Cert.RefDwUpIdeal.Read.val_main_v10_eq, a0, a1]
  refine Eq.trans ?_ (array m c).symm
  funext i
  obtain ⟨h, r, j, rfl⟩ : ∃ h r j, i = ix3 h r j := ⟨i 0, i 1, i 2, eq_ix3 i⟩
  rw [ref_at]
  exact dot_comm _ _

end Cert.OfDwUp

end
-- ==== Proof.OfDwSq.lean ====
module

public import proofs.«01_k».proof.Defs
public import proofs.«01_k».proof.Proof.Gen.DwSqIdeal.Value
public import proofs.«01_k».proof.Proof.Gen.RefDwSqIdeal.Read
public import proofs.«01_k».proof.Proof.ProdSum
public import Idealize.ShloMosaic.Lib.Quiescent
public import Idealize.ShloMosaic.Lib.Tactic
public import Idealize.ShloMosaic.Lib.Pointwise
public import Idealize.ShloMosaic.Lib.Pipeline.ValueKit
public import Idealize.ShloMosaic.Lib.Pipeline.ReadBack

/-! The gradient of a square weight: each block of the result is the sum of two partial products, one for each half
    of the rows; the first half's is kept in the scratch buffer. -/

@[expose] public section

set_option maxRecDepth 16384

noncomputable section

namespace Cert.OfDwSq

open Idealize.ShloMosaic Idealize.ShloMosaic.TcCoe Idealize.SL.Sem
open Cert.DwSqIdeal Cert.DwSqIdeal.Gen Cert.ProdSum

/-- The product of the transposed input with the gradient. -/
def prod (x : Vec Ideal S4096x2048 .bf16) (d : Vec Ideal S4096x2048 .bf16) : S1x2048x2048.Idx → EReal :=
  fun i => ∑ k : Fin 4096, x (ix2 k (i 1)) * d (ix2 k (i 2))

/-- One partial product, at an index. -/
def part (x : Vec Ideal S2048x1024 .bf16) (d : Vec Ideal S2048x1024 .bf16) : S1024x1024.Idx → EReal :=
  fun y => ∑ k : Fin 2048, x (ix2 k (y 0)) * d (ix2 k (y 1))

/-- The scratch buffer starts at zero. -/
theorem zero_apply (y : S1024x1024.Idx) : k0_pay1 (F := Ideal) y = 0 := by
  obtain ⟨r, s, rfl⟩ : ∃ r s, y = ix2 r s := ⟨y 0, y 1, eq_ix2 y⟩
  pointwise [k0_pay1]

/-- A step adds its partial product. -/
theorem step_apply (a : Vec Ideal S1024x1024 .f32) (x : Vec Ideal S2048x1024 .bf16) (d : Vec Ideal S2048x1024 .bf16) (y : S1024x1024.Idx) :
    k0_pay2 a x d y = a y + part x d y := by
  obtain ⟨r, s, rfl⟩ : ∃ r s, y = ix2 r s := ⟨y 0, y 1, eq_ix2 y⟩
  unfold part
  pointwise [k0_pay2]

/-- What is written out is what was summed. -/
theorem last_apply (a : Vec Ideal S1024x1024 .f32) (r s : Fin 1024) : k0_pay3 a (ix3 0 r s) = a (ix2 r s) := by
  pointwise [k0_pay3]

variable (m : (ℓ : Loc nD τ sig) → Buf (Elt Ideal) ℓ) (c : Dev nD)

/-- The partial product of a point. -/
def term (t : Fin cfg0.N) : S1024x1024.Idx → EReal := part (iblk m c 0 t) (iblk m c 1 t)

theorem scratch_first (t : Fin cfg0.N) (h : t.val % 2 = 0) (y : S1024x1024.Idx) :
    (outsAt0 m c t.val t.isLt).2 y = k0_pay1 (F := Ideal) y + term m c t y := by
  rw [outsAt0_A m c t h (by omega)]
  dsimp only
  unfold sout0_A_0
  frame_out
  exact step_apply _ _ _ y

theorem scratch_next (t : Fin cfg0.N) (h : ¬t.val % 2 = 0) (y : S1024x1024.Idx) :
    (outsAt0 m c t.val t.isLt).2 y = (outsAt0 m c (t.val - 1) (Nat.lt_of_le_of_lt (Nat.sub_le _ _) t.isLt)).2 y + term m c t y := by
  rw [outsAt0_B m c t h (by omega)]
  dsimp only
  unfold sout0_B_0
  frame_out
  refine (step_apply _ _ _ y).trans (congrArg (· + _) (congrFun (Memref.IsWhole.read_unread _ _) y))

/-- The block written out is the scratch buffer's. -/
theorem out_last (t : Fin cfg0.N) (h : t.val % 2 = 1) (r s : Fin 1024) :
    (outsAt0 m c t.val t.isLt).1 (ix3 0 r s) = (outsAt0 m c t.val t.isLt).2 (ix2 r s) := by
  rw [outsAt0_B m c t (by omega) h]
  dsimp only
  unfold out0_B_2 sout0_B_0
  frame_out
  exact last_apply _ r s

/-- Where each point's blocks lie. -/
theorem index : ∀ t : Fin cfg0.N, win0_0.index t = ![t.val % 2, t.val / 4] ∧ win0_1.index t = ![t.val % 2, t.val / 2 % 2] ∧ win0_2.index t = ![0, t.val / 4, t.val / 2 % 2] :=
  (by decide +kernel : ∀ t : Fin grid0.N, _)

/-- The block of the input, at an index. -/
theorem blk0 (t : Fin cfg0.N) (k : Fin 2048) (r : Fin 1024) (p q) :
    iblk m c 0 t (ix2 k r) = m ((c : Thread nD τ).loc main_arg0) (ix2 ⟨t.val % 2 * 2048 + k.val, p⟩ ⟨t.val / 4 * 1024 + r.val, q⟩) := by
  blk_ext [iblk, V_main_arg0, index t]

/-- The block of the gradient, at an index. -/
theorem blk1 (t : Fin cfg0.N) (k : Fin 2048) (s : Fin 1024) (p q) :
    iblk m c 1 t (ix2 k s) = m ((c : Thread nD τ).loc main_arg1) (ix2 ⟨t.val % 2 * 2048 + k.val, p⟩ ⟨t.val / 2 % 2 * 1024 + s.val, q⟩) := by
  blk_ext [iblk, V_main_arg1, index t]

/-- The whole result. -/
theorem array : (dats m 0 c).arrAt 2 cfg0.N = prod (m ((c : Thread nD τ).loc main_arg0)) (m ((c : Thread nD τ).loc main_arg1)) := by
  refine (dats m 0 c).arrAt_eq_of_covers 2 _ (by decide +kernel) fun t hf y => ?_
  have ht := (flush0_2 t).mp hf
  have hb : t.val < 8 := t.isLt
  blk_simp
  obtain ⟨r, s, rfl⟩ : ∃ r s, y = ix3 0 r s := ⟨y 1, y 2, (eq_ix3 y).trans (congrArg (fun z => ix3 z (y 1) (y 2)) (Fin.ext (Nat.lt_one_iff.mp (y 0).isLt)))⟩
  rw [after0_2, out_last m c t ht,
    Pipeline.eq_sum_fin_of_reset_step_apply_of_flush (fun n h => (outsAt0 m c n h).2) 2 (k0_pay1 (F := Ideal)) (term m c) (scratch_first m c) (scratch_next m c) t ht (ix2 r s),
    zero_apply, zero_add]
  have e1 : ((win0_2.blk t).view.emb (ix3 0 r s) 1).val = t.val / 4 * 1024 + r.val := by
    blk_simp [index t] <;> omega
  have e2 : ((win0_2.blk t).view.emb (ix3 0 r s) 2).val = t.val / 2 % 2 * 1024 + s.val := by
    blk_simp [index t] <;> omega
  unfold prod
  rw [show (win0_2.blk t).view.emb (ix3 0 r s) 1 = ⟨_, e1 ▸ ((win0_2.blk t).view.emb (ix3 0 r s) 1).isLt⟩ from Fin.ext e1,
    show (win0_2.blk t).view.emb (ix3 0 r s) 2 = ⟨_, e2 ▸ ((win0_2.blk t).view.emb (ix3 0 r s) 2).isLt⟩ from Fin.ext e2]
  refine Eq.trans ?_ (sum_halves (n := 2048) (J := 2) rfl _)
  unfold term part
  refine outer_congr fun p => ?_
  have hp := p.isLt
  have d2 : (2 * (t.val / 2) + p.val) % 2 = p.val := by omega
  have d4 : (2 * (t.val / 2) + p.val) / 4 = t.val / 4 := by omega
  have d22 : (2 * (t.val / 2) + p.val) / 2 % 2 = t.val / 2 % 2 := by omega
  refine dot_congr (fun k => (blk0 m c _ k r (by dsimp only; omega) (by dsimp only; omega)).trans ?_) (fun k => (blk1 m c _ k s (by dsimp only; omega) (by dsimp only; omega)).trans ?_)
  · exact congrArg _ (congrArg₂ ix2 (Fin.ext (by dsimp only; rw [d2])) (Fin.ext (by dsimp only; rw [d4])))
  · exact congrArg _ (congrArg₂ ix2 (Fin.ext (by dsimp only; rw [d2])) (Fin.ext (by dsimp only; rw [d22])))

/-- The reference, at an index. -/
theorem ref_at (x : Vec Ideal S4096x2048 .bf16) (d : Vec Ideal S4096x2048 .bf16) (r : Fin 2048) (j : Fin 2048) :
    Cert.RefDwSqIdeal.Read.val_main_v10 (F := Ideal) x d (ix3 0 r j) = ∑ k : Fin 4096, d (ix2 k j) * x (ix2 k r) := by
  pointwise [Cert.RefDwSqIdeal.Read.val_main_v10, Cert.RefDwSqIdeal.Read.val_main_v9, Cert.RefDwSqIdeal.Read.val_main_v8, Cert.RefDwSqIdeal.Read.val_main_v7,
    Cert.RefDwSqIdeal.Read.val_main_v6, Cert.RefDwSqIdeal.Read.val_main_v5, Cert.RefDwSqIdeal.Read.val_main_v1]

/-- The reference runs, leaves its arguments alone and every counter at zero. -/
theorem frameRef : Cert.quiescent_RefDwSqIdeal := fun m g _ =>
  (θ_run Cert.RefDwSqIdeal.defs _ _).mono (fun r h => ⟨fun c => (h c).2, sem_eq_zero_of_no_sems rfl _⟩) (Cert.RefDwSqIdeal.Value.run m g)

/-- The kernel's result is the reference's. -/
theorem value : Cert.algebraic_DwSqIdeal_RefDwSqIdeal := by
  intro m g m' g' _ hargs
  refine ⟨fun c => (dats m 0 c).arrAt 2 cfg0.N, Cert.DwSqIdeal.Value.run_blocks m g, ?_⟩
  refine (θ_run Cert.RefDwSqIdeal.defs _ _).mono (fun r h c => ?_) (Cert.RefDwSqIdeal.Value.run m' g')
  obtain ⟨h0, h1, h2⟩ := h c
  obtain ⟨a0, a1⟩ := hargs c
  refine ⟨h0.trans ?_, h1, h2⟩
  rw [Cert.RefDwSqIdeal.Read.val_main_v10_eq, a0, a1]
  refine Eq.trans ?_ (array m c).symm
  funext i
  obtain ⟨r, j, rfl⟩ : ∃ r j, i = ix3 0 r j := ⟨i 1, i 2, (eq_ix3 i).trans (congrArg (fun z => ix3 z (i 1) (i 2)) (Fin.ext (Nat.lt_one_iff.mp (i 0).isLt)))⟩
  rw [ref_at]
  exact dot_comm _ _

end Cert.OfDwSq

end
-- ==== Proof.OfDwMkv.lean ====
module

public import proofs.«01_k».proof.Defs
public import proofs.«01_k».proof.Proof.Gen.DwMkvIdeal.Value
public import proofs.«01_k».proof.Proof.Gen.RefDwMkvIdeal.Read
public import proofs.«01_k».proof.Proof.ProdSum
public import Idealize.ShloMosaic.Lib.Quiescent
public import Idealize.ShloMosaic.Lib.Tactic
public import Idealize.ShloMosaic.Lib.Pointwise
public import Idealize.ShloMosaic.Lib.Pipeline.ValueKit
public import Idealize.ShloMosaic.Lib.Pipeline.ReadBack

/-! The gradient of the memory's key and value weight, in four shards by column: each block of the result is the product of the transposed
    normalised memory with a block of columns of the gradient. -/

@[expose] public section

set_option maxRecDepth 16384

noncomputable section

namespace Cert.OfDwMkv

open Idealize.ShloMosaic Idealize.ShloMosaic.TcCoe Idealize.SL.Sem
open Cert.DwMkvIdeal Cert.DwMkvIdeal.Gen Cert.ProdSum

/-- The column of the gradient that a shard's column is. -/
def column (h : Fin 4) (j : Fin 1024) : Fin 4096 := ⟨h.val * 1024 + j.val, by omega⟩

/-- The product of the transposed input with the gradient. -/
def prod (x : Vec Ideal S256x2048 .bf16) (d : Vec Ideal S256x4096 .bf16) : S4x2048x1024.Idx → EReal :=
  fun i => ∑ k : Fin 256, x (ix2 k (i 1)) * d (ix2 k (column (i 0) (i 2)))

/-- What the first, only step stores. -/
theorem zero_apply (y : S1024x1024.Idx) : k0_pay1 (F := Ideal) y = 0 := by
  obtain ⟨r, s, rfl⟩ : ∃ r s, y = ix2 r s := ⟨y 0, y 1, eq_ix2 y⟩
  pointwise [k0_pay1]

/-- A tile of the result, at an index. -/
theorem tile_apply (x : Vec Ideal S256x1024 .bf16) (d : Vec Ideal S256x1024 .bf16) (r s : Fin 1024) :
    k0_pay3 (k0_pay2 (k0_pay1 (F := Ideal)) x d) (ix3 0 r s) = ∑ k : Fin 256, x (ix2 k r) * d (ix2 k s) := by
  pointwise [k0_pay3, k0_pay2]
  rw [zero_apply, zero_add]

/-- A tile of the result. -/
def part (x : Vec Ideal S256x1024 .bf16) (d : Vec Ideal S256x1024 .bf16) (r s : Fin 1024) : EReal := ∑ k : Fin 256, x (ix2 k r) * d (ix2 k s)

variable (m : (ℓ : Loc nD τ sig) → Buf (Elt Ideal) ℓ) (c : Dev nD)

/-- What a point writes out. -/
theorem out_apply (t : Fin cfg0.N) (r s : Fin 1024) :
    outsAt0 m c t (ix3 0 r s) = part (iblk m c 0 t) (iblk m c 1 t) r s := by
  unfold outsAt0 out0_A_2
  frame_out
  exact tile_apply _ _ r s

/-- Where each point's blocks lie. -/
theorem index : ∀ t : Fin cfg0.N, win0_0.index t = ![0, t.val / 4] ∧ win0_1.index t = ![0, t.val % 4] ∧ win0_2.index t = ![t.val % 4, t.val / 4, 0] :=
  (by decide +kernel : ∀ t : Fin grid0.N, _)

/-- The block of the normalised memory, at an index. -/
theorem blk0 (t : Fin cfg0.N) (k : Fin 256) (r : Fin 1024) (q) :
    iblk m c 0 t (ix2 k r) = m ((c : Thread nD τ).loc main_arg0) (ix2 k ⟨t.val / 4 * 1024 + r.val, q⟩) := by
  blk_ext [iblk, V_main_arg0, index t]

/-- The block of the gradient, at an index. -/
theorem blk1 (t : Fin cfg0.N) (k : Fin 256) (s : Fin 1024) (q) :
    iblk m c 1 t (ix2 k s) = m ((c : Thread nD τ).loc main_arg1) (ix2 k ⟨t.val % 4 * 1024 + s.val, q⟩) := by
  blk_ext [iblk, V_main_arg1, index t]

/-- The whole result. -/
theorem array : (dats m 0 c).arrAt 2 cfg0.N = prod (m ((c : Thread nD τ).loc main_arg0)) (m ((c : Thread nD τ).loc main_arg1)) := by
  refine (dats m 0 c).arrAt_eq_of_covers 2 _ (by decide +kernel) fun t hf y => ?_
  have hb : t.val < 8 := t.isLt
  blk_simp
  obtain ⟨r, s, rfl⟩ : ∃ r s, y = ix3 0 r s := ⟨y 1, y 2, (eq_ix3 y).trans (congrArg (fun z => ix3 z (y 1) (y 2)) (Fin.ext (Nat.lt_one_iff.mp (y 0).isLt)))⟩
  rw [after0_2, out_apply]
  have e0 : ((win0_2.blk t).view.emb (ix3 0 r s) 0).val = t.val % 4 := by
    blk_simp [index t] <;> omega
  have e1 : ((win0_2.blk t).view.emb (ix3 0 r s) 1).val = t.val / 4 * 1024 + r.val := by
    blk_simp [index t] <;> omega
  have e2 : ((win0_2.blk t).view.emb (ix3 0 r s) 2).val = s.val := by
    blk_simp [index t] <;> omega
  unfold prod part
  rw [show (win0_2.blk t).view.emb (ix3 0 r s) 0 = ⟨_, e0 ▸ ((win0_2.blk t).view.emb (ix3 0 r s) 0).isLt⟩ from Fin.ext e0,
    show (win0_2.blk t).view.emb (ix3 0 r s) 1 = ⟨_, e1 ▸ ((win0_2.blk t).view.emb (ix3 0 r s) 1).isLt⟩ from Fin.ext e1,
    show (win0_2.blk t).view.emb (ix3 0 r s) 2 = s from Fin.ext e2]
  exact dot_congr (fun k => blk0 m c t k r _) (fun k => blk1 m c t k s (by omega))

/-- The reference, at an index. -/
theorem ref_at (x : Vec Ideal S256x2048 .bf16) (d : Vec Ideal S256x4096 .bf16) (h : Fin 4) (r : Fin 2048) (j : Fin 1024) :
    Cert.RefDwMkvIdeal.Read.val_main_v10 (F := Ideal) x d (ix3 h r j) = ∑ k : Fin 256, d (ix2 k (column h j)) * x (ix2 k r) := by
  pointwise [Cert.RefDwMkvIdeal.Read.val_main_v10, Cert.RefDwMkvIdeal.Read.val_main_v9, Cert.RefDwMkvIdeal.Read.val_main_v8, Cert.RefDwMkvIdeal.Read.val_main_v7,
    Cert.RefDwMkvIdeal.Read.val_main_v6, Cert.RefDwMkvIdeal.Read.val_main_v5, Cert.RefDwMkvIdeal.Read.val_main_v1]
  rfl

/-- The reference runs, leaves its arguments alone and every counter at zero. -/
theorem frameRef : Cert.quiescent_RefDwMkvIdeal := fun m g _ =>
  (θ_run Cert.RefDwMkvIdeal.defs _ _).mono (fun r h => ⟨fun c => (h c).2, sem_eq_zero_of_no_sems rfl _⟩) (Cert.RefDwMkvIdeal.Value.run m g)

/-- The kernel's result is the reference's. -/
theorem value : Cert.algebraic_DwMkvIdeal_RefDwMkvIdeal := by
  intro m g m' g' _ hargs
  refine ⟨fun c => (dats m 0 c).arrAt 2 cfg0.N, Cert.DwMkvIdeal.Value.run_blocks m g, ?_⟩
  refine (θ_run Cert.RefDwMkvIdeal.defs _ _).mono (fun r hr c => ?_) (Cert.RefDwMkvIdeal.Value.run m' g')
  obtain ⟨h0, h1, h2⟩ := hr c
  obtain ⟨a0, a1⟩ := hargs c
  refine ⟨h0.trans ?_, h1, h2⟩
  rw [Cert.RefDwMkvIdeal.Read.val_main_v10_eq, a0, a1]
  refine Eq.trans ?_ (array m c).symm
  funext i
  obtain ⟨h, r, j, rfl⟩ : ∃ h r j, i = ix3 h r j := ⟨i 0, i 1, i 2, eq_ix3 i⟩
  rw [ref_at]
  exact dot_comm _ _

end Cert.OfDwMkv

end
-- ==== Proof.OfDwIn.lean ====
module

public import proofs.«01_k».proof.Defs
public import proofs.«01_k».proof.Proof.Gen.DwInIdeal.Value
public import proofs.«01_k».proof.Proof.Gen.RefDwInIdeal.Read
public import proofs.«01_k».proof.Proof.ProdSum
public import Idealize.ShloMosaic.Lib.Quiescent
public import Idealize.ShloMosaic.Lib.Tactic
public import Idealize.ShloMosaic.Lib.Pointwise
public import Idealize.ShloMosaic.Lib.Pipeline.ValueKit
public import Idealize.ShloMosaic.Lib.Pipeline.ReadBack

/-! The gradient of the input projection's weight: each block of the result is the sum of two partial products, one for each half
    of the rows; the first half's is kept in the scratch buffer. -/

@[expose] public section

set_option maxRecDepth 16384

noncomputable section

namespace Cert.OfDwIn

open Idealize.ShloMosaic Idealize.ShloMosaic.TcCoe Idealize.SL.Sem
open Cert.DwInIdeal Cert.DwInIdeal.Gen Cert.ProdSum

/-- The product of the transposed input with the gradient. -/
def prod (x : Vec Ideal S4096x2048 .bf16) (d : Vec Ideal S4096x4352 .bf16) : S1x2048x4352.Idx → EReal :=
  fun i => ∑ k : Fin 4096, x (ix2 k (i 1)) * d (ix2 k (i 2))

/-- One partial product, at an index. -/
def part (x : Vec Ideal S2048x1024 .bf16) (d : Vec Ideal S2048x2176 .bf16) : S1024x2176.Idx → EReal :=
  fun y => ∑ k : Fin 2048, x (ix2 k (y 0)) * d (ix2 k (y 1))

/-- The scratch buffer starts at zero. -/
theorem zero_apply (y : S1024x2176.Idx) : k0_pay1 (F := Ideal) y = 0 := by
  obtain ⟨r, s, rfl⟩ : ∃ r s, y = ix2 r s := ⟨y 0, y 1, eq_ix2 y⟩
  pointwise [k0_pay1]

/-- A step adds its partial product. -/
theorem step_apply (a : Vec Ideal S1024x2176 .f32) (x : Vec Ideal S2048x1024 .bf16) (d : Vec Ideal S2048x2176 .bf16) (y : S1024x2176.Idx) :
    k0_pay2 a x d y = a y + part x d y := by
  obtain ⟨r, s, rfl⟩ : ∃ r s, y = ix2 r s := ⟨y 0, y 1, eq_ix2 y⟩
  unfold part
  pointwise [k0_pay2]

/-- What is written out is what was summed. -/
theorem last_apply (a : Vec Ideal S1024x2176 .f32) (r : Fin 1024) (s : Fin 2176) : k0_pay3 a (ix3 0 r s) = a (ix2 r s) := by
  pointwise [k0_pay3]

variable (m : (ℓ : Loc nD τ sig) → Buf (Elt Ideal) ℓ) (c : Dev nD)

/-- The partial product of a point. -/
def term (t : Fin cfg0.N) : S1024x2176.Idx → EReal := part (iblk m c 0 t) (iblk m c 1 t)

theorem scratch_first (t : Fin cfg0.N) (h : t.val % 2 = 0) (y : S1024x2176.Idx) :
    (outsAt0 m c t.val t.isLt).2 y = k0_pay1 (F := Ideal) y + term m c t y := by
  rw [outsAt0_A m c t h (by omega)]
  dsimp only
  unfold sout0_A_0
  frame_out
  exact step_apply _ _ _ y

theorem scratch_next (t : Fin cfg0.N) (h : ¬t.val % 2 = 0) (y : S1024x2176.Idx) :
    (outsAt0 m c t.val t.isLt).2 y = (outsAt0 m c (t.val - 1) (Nat.lt_of_le_of_lt (Nat.sub_le _ _) t.isLt)).2 y + term m c t y := by
  rw [outsAt0_B m c t h (by omega)]
  dsimp only
  unfold sout0_B_0
  frame_out
  refine (step_apply _ _ _ y).trans (congrArg (· + _) (congrFun (Memref.IsWhole.read_unread _ _) y))

/-- The block written out is the scratch buffer's. -/
theorem out_last (t : Fin cfg0.N) (h : t.val % 2 = 1) (r : Fin 1024) (s : Fin 2176) :
    (outsAt0 m c t.val t.isLt).1 (ix3 0 r s) = (outsAt0 m c t.val t.isLt).2 (ix2 r s) := by
  rw [outsAt0_B m c t (by omega) h]
  dsimp only
  unfold out0_B_2 sout0_B_0
  frame_out
  exact last_apply _ r s

/-- Where each point's blocks lie. -/
theorem index : ∀ t : Fin cfg0.N, win0_0.index t = ![t.val % 2, t.val / 4] ∧ win0_1.index t = ![t.val % 2, t.val / 2 % 2] ∧ win0_2.index t = ![0, t.val / 4, t.val / 2 % 2] :=
  (by decide +kernel : ∀ t : Fin grid0.N, _)

/-- The block of the input, at an index. -/
theorem blk0 (t : Fin cfg0.N) (k : Fin 2048) (r : Fin 1024) (p q) :
    iblk m c 0 t (ix2 k r) = m ((c : Thread nD τ).loc main_arg0) (ix2 ⟨t.val % 2 * 2048 + k.val, p⟩ ⟨t.val / 4 * 1024 + r.val, q⟩) := by
  blk_ext [iblk, V_main_arg0, index t]

/-- The block of the gradient, at an index. -/
theorem blk1 (t : Fin cfg0.N) (k : Fin 2048) (s : Fin 2176) (p q) :
    iblk m c 1 t (ix2 k s) = m ((c : Thread nD τ).loc main_arg1) (ix2 ⟨t.val % 2 * 2048 + k.val, p⟩ ⟨t.val / 2 % 2 * 2176 + s.val, q⟩) := by
  blk_ext [iblk, V_main_arg1, index t]

/-- The whole result. -/
theorem array : (dats m 0 c).arrAt 2 cfg0.N = prod (m ((c : Thread nD τ).loc main_arg0)) (m ((c : Thread nD τ).loc main_arg1)) := by
  refine (dats m 0 c).arrAt_eq_of_covers 2 _ (by decide +kernel) fun t hf y => ?_
  have ht := (flush0_2 t).mp hf
  have hb : t.val < 8 := t.isLt
  blk_simp
  obtain ⟨r, s, rfl⟩ : ∃ r s, y = ix3 0 r s := ⟨y 1, y 2, (eq_ix3 y).trans (congrArg (fun z => ix3 z (y 1) (y 2)) (Fin.ext (Nat.lt_one_iff.mp (y 0).isLt)))⟩
  rw [after0_2, out_last m c t ht,
    Pipeline.eq_sum_fin_of_reset_step_apply_of_flush (fun n h => (outsAt0 m c n h).2) 2 (k0_pay1 (F := Ideal)) (term m c) (scratch_first m c) (scratch_next m c) t ht (ix2 r s),
    zero_apply, zero_add]
  have e1 : ((win0_2.blk t).view.emb (ix3 0 r s) 1).val = t.val / 4 * 1024 + r.val := by
    blk_simp [index t] <;> omega
  have e2 : ((win0_2.blk t).view.emb (ix3 0 r s) 2).val = t.val / 2 % 2 * 2176 + s.val := by
    blk_simp [index t] <;> omega
  unfold prod
  rw [show (win0_2.blk t).view.emb (ix3 0 r s) 1 = ⟨_, e1 ▸ ((win0_2.blk t).view.emb (ix3 0 r s) 1).isLt⟩ from Fin.ext e1,
    show (win0_2.blk t).view.emb (ix3 0 r s) 2 = ⟨_, e2 ▸ ((win0_2.blk t).view.emb (ix3 0 r s) 2).isLt⟩ from Fin.ext e2]
  refine Eq.trans ?_ (sum_halves (n := 2048) (J := 2) rfl _)
  unfold term part
  refine outer_congr fun p => ?_
  have hp := p.isLt
  have d2 : (2 * (t.val / 2) + p.val) % 2 = p.val := by omega
  have d4 : (2 * (t.val / 2) + p.val) / 4 = t.val / 4 := by omega
  have d22 : (2 * (t.val / 2) + p.val) / 2 % 2 = t.val / 2 % 2 := by omega
  refine dot_congr (fun k => (blk0 m c _ k r (by dsimp only; omega) (by dsimp only; omega)).trans ?_) (fun k => (blk1 m c _ k s (by dsimp only; omega) (by dsimp only; omega)).trans ?_)
  · exact congrArg _ (congrArg₂ ix2 (Fin.ext (by dsimp only; rw [d2])) (Fin.ext (by dsimp only; rw [d4])))
  · exact congrArg _ (congrArg₂ ix2 (Fin.ext (by dsimp only; rw [d2])) (Fin.ext (by dsimp only; rw [d22])))

/-- The reference, at an index. -/
theorem ref_at (x : Vec Ideal S4096x2048 .bf16) (d : Vec Ideal S4096x4352 .bf16) (r : Fin 2048) (j : Fin 4352) :
    Cert.RefDwInIdeal.Read.val_main_v10 (F := Ideal) x d (ix3 0 r j) = ∑ k : Fin 4096, d (ix2 k j) * x (ix2 k r) := by
  pointwise [Cert.RefDwInIdeal.Read.val_main_v10, Cert.RefDwInIdeal.Read.val_main_v9, Cert.RefDwInIdeal.Read.val_main_v8, Cert.RefDwInIdeal.Read.val_main_v7,
    Cert.RefDwInIdeal.Read.val_main_v6, Cert.RefDwInIdeal.Read.val_main_v5, Cert.RefDwInIdeal.Read.val_main_v1]

/-- The reference runs, leaves its arguments alone and every counter at zero. -/
theorem frameRef : Cert.quiescent_RefDwInIdeal := fun m g _ =>
  (θ_run Cert.RefDwInIdeal.defs _ _).mono (fun r h => ⟨fun c => (h c).2, sem_eq_zero_of_no_sems rfl _⟩) (Cert.RefDwInIdeal.Value.run m g)

/-- The kernel's result is the reference's. -/
theorem value : Cert.algebraic_DwInIdeal_RefDwInIdeal := by
  intro m g m' g' _ hargs
  refine ⟨fun c => (dats m 0 c).arrAt 2 cfg0.N, Cert.DwInIdeal.Value.run_blocks m g, ?_⟩
  refine (θ_run Cert.RefDwInIdeal.defs _ _).mono (fun r h c => ?_) (Cert.RefDwInIdeal.Value.run m' g')
  obtain ⟨h0, h1, h2⟩ := h c
  obtain ⟨a0, a1⟩ := hargs c
  refine ⟨h0.trans ?_, h1, h2⟩
  rw [Cert.RefDwInIdeal.Read.val_main_v10_eq, a0, a1]
  refine Eq.trans ?_ (array m c).symm
  funext i
  obtain ⟨r, j, rfl⟩ : ∃ r j, i = ix3 0 r j := ⟨i 1, i 2, (eq_ix3 i).trans (congrArg (fun z => ix3 z (i 1) (i 2)) (Fin.ext (Nat.lt_one_iff.mp (i 0).isLt)))⟩
  rw [ref_at]
  exact dot_comm _ _

end Cert.OfDwIn

end
-- ==== Proof.OfDu.lean ====
module

public import proofs.«01_k».proof.Defs
public import proofs.«01_k».proof.Proof.Gen.DuIdeal.Value
public import proofs.«01_k».proof.Proof.Gen.RefDuIdeal.Read
public import proofs.«01_k».proof.Proof.ProdSum
public import Idealize.ShloMosaic.Lib.Quiescent
public import Idealize.ShloMosaic.Lib.Tactic
public import Idealize.ShloMosaic.Lib.Pointwise
public import Idealize.ShloMosaic.Lib.Pipeline.ValueKit
public import Idealize.ShloMosaic.Lib.Pipeline.ReadBack

/-! The gradient of the feed-forward block's inner values, tile by tile: each block of the kernel's result is the product of a
    block of rows of the gradient with a block of rows of the weight, times twice the positive part of the inner values; the
    reference's is the derivative of the squared positive part, written as a selection. -/

@[expose] public section

set_option maxRecDepth 16384

noncomputable section

namespace Cert.OfDu

open Idealize.ShloMosaic Idealize.ShloMosaic.TcCoe Idealize.SL.Sem
open Cert.DuIdeal Cert.DuIdeal.Gen Cert.ProdSum

/-- The number two, as the kernel prints it. -/
theorem two_eq : Ideal.ofBits .f32 0x40000000#32 = 2 := by
  rw [show (2 : EReal) = ((2 : ℝ) : EReal) by norm_cast]
  simp [Ideal.ofBits, Ideal.ieee, -EReal.coe_mul]; norm_num

/-- The derivative of the squared positive part of `u`, against `a`. -/
abbrev slope (a u : EReal) : EReal := a * (Ideal.ofBits .f32 0x40000000#32 * max u 0)

/-- The same derivative as a selection. -/
theorem slope_eq (a u : EReal) : slope a u = if 0 < u then max u 0 * a + a * max u 0 else 0 := by
  unfold slope
  rw [two_eq]
  split
  next h =>
    rw [mul_comm (max u 0) a, mul_left_comm, ← one_add_one_eq_two, EReal.right_distrib_of_nonneg zero_le_one zero_le_one, one_mul]
  next h => rw [max_eq_right (not_lt.1 h), mul_zero, mul_zero]

/-- The product of the gradient with the transposed weight, times the slope of the squared positive part. -/
def prod (x : Vec Ideal S4096x2048 .bf16) (w : Vec Ideal S1x8192x2048 .bf16) (u : Vec Ideal S4096x8192 .bf16) : S4096x8192.Idx → EReal :=
  fun i => slope (∑ k : Fin 2048, x (ix2 (i 0) k) * w (ix3 0 (i 1) k)) (u (ix2 (i 0) (i 1)))

/-- One tile of the result, at an index. -/
theorem pay_apply (x0 : Vec Ideal S1024x2048 .bf16) (x1 : Vec Ideal S1x1024x2048 .bf16) (x2 : Vec Ideal S1024x1024 .bf16) (r s : Fin 1024) :
    k0_pay1 x0 x1 x2 (ix2 r s) = slope (∑ k : Fin 2048, x0 (ix2 r k) * x1 (ix3 0 s k)) (x2 (ix2 r s)) := by
  pointwise [k0_pay1]

/-- What a point leaves in its tile, at an index. -/
theorem out_apply (x0 : Vec Ideal S1024x2048 .bf16) (x1 : Vec Ideal S1x1024x2048 .bf16) (x2 : Vec Ideal S1024x1024 .bf16) (y : S1024x1024.Idx) :
    out0_3 x0 x1 x2 y = slope (∑ k : Fin 2048, x0 (ix2 (y 0) k) * x1 (ix3 0 (y 1) k)) (x2 (ix2 (y 0) (y 1))) := by
  obtain ⟨r, s, rfl⟩ : ∃ r s, y = ix2 r s := ⟨y 0, y 1, eq_ix2 y⟩
  unfold out0_3
  frame_out
  rw [pay_apply]
  rfl

variable (m : (ℓ : Loc nD τ sig) → Buf (Elt Ideal) ℓ) (c : Dev nD)

/-- Where each point's blocks lie. -/
theorem index : ∀ t : Fin cfg0.N, win0_0.index t = ![t.val / 8, 0] ∧ win0_1.index t = ![0, t.val % 8, 0] ∧ win0_2.index t = ![t.val / 8, t.val % 8] ∧ win0_3.index t = ![t.val / 8, t.val % 8] :=
  (by decide +kernel : ∀ t : Fin grid0.N, _)

/-- The block of the gradient, at an index. -/
theorem blk0 (t : Fin cfg0.N) (r : Fin 1024) (k : Fin 2048) (p) :
    iblk m c 0 t (ix2 r k) = m ((c : Thread nD τ).loc main_arg0) (ix2 ⟨t.val / 8 * 1024 + r.val, p⟩ k) := by
  blk_ext [iblk, V_main_arg0, index t]

/-- The block of the weight, at an index. -/
theorem blk1 (t : Fin cfg0.N) (s : Fin 1024) (k : Fin 2048) (p) :
    iblk m c 1 t (ix3 0 s k) = m ((c : Thread nD τ).loc main_arg1) (ix3 0 ⟨t.val % 8 * 1024 + s.val, p⟩ k) := by
  blk_ext [iblk, V_main_arg1, index t]

/-- The block of the inner values, at an index. -/
theorem blk2 (t : Fin cfg0.N) (r s : Fin 1024) (p q) :
    iblk m c 2 t (ix2 r s) = m ((c : Thread nD τ).loc main_arg2) (ix2 ⟨t.val / 8 * 1024 + r.val, p⟩ ⟨t.val % 8 * 1024 + s.val, q⟩) := by
  blk_ext [iblk, V_main_arg2, index t]

/-- The whole result. -/
theorem array : (dats m 0 c).arrAt 3 cfg0.N = prod (m ((c : Thread nD τ).loc main_arg0)) (m ((c : Thread nD τ).loc main_arg1))
    (m ((c : Thread nD τ).loc main_arg2)) := by
  refine (dats m 0 c).arrAt_eq_of_covers 3 _ (by decide +kernel) fun t hf y => ?_
  blk_simp
  rw [after0_3, out_apply]
  have e0 : ((win0_3.blk t).view.emb y 0).val = t.val / 8 * 1024 + (y 0).val := by
    blk_simp [index t] <;> omega
  have e1 : ((win0_3.blk t).view.emb y 1).val = t.val % 8 * 1024 + (y 1).val := by
    blk_simp [index t] <;> omega
  unfold prod
  rw [show (win0_3.blk t).view.emb y 0 = ⟨_, e0 ▸ ((win0_3.blk t).view.emb y 0).isLt⟩ from Fin.ext e0,
    show (win0_3.blk t).view.emb y 1 = ⟨_, e1 ▸ ((win0_3.blk t).view.emb y 1).isLt⟩ from Fin.ext e1]
  exact congr (congrArg slope (dot_congr (fun k => blk0 m c t _ k _) (fun k => blk1 m c t _ k _))) (blk2 m c t _ _ _ _)

/-- The reference, at an index. -/
theorem ref_at (x : Vec Ideal S4096x2048 .bf16) (w : Vec Ideal S1x8192x2048 .bf16) (u : Vec Ideal S4096x8192 .bf16) (r : Fin 4096) (j : Fin 8192) :
    Cert.RefDuIdeal.Read.val_main_v16 (F := Ideal) x w u (ix2 r j) = slope (∑ k : Fin 2048, x (ix2 r k) * w (ix3 0 j k)) (u (ix2 r j)) := by
  rw [slope_eq]
  pointwise [Cert.RefDuIdeal.Read.val_main_v16, Cert.RefDuIdeal.Read.val_main_v15, Cert.RefDuIdeal.Read.val_main_v14, Cert.RefDuIdeal.Read.val_main_cst_1,
    Cert.RefDuIdeal.Read.val_main_v13, Cert.RefDuIdeal.Read.val_main_v12, Cert.RefDuIdeal.Read.val_main_v11, Cert.RefDuIdeal.Read.val_main_v10,
    Cert.RefDuIdeal.Read.val_main_v9, Cert.RefDuIdeal.Read.val_main_v7, Cert.RefDuIdeal.Read.val_main_v6, Cert.RefDuIdeal.Read.val_main_v3,
    Cert.RefDuIdeal.Read.val_main_v2, Cert.RefDuIdeal.Read.val_main_cst, Cert.RefDuIdeal.Read.val_main_v1, Cert.RefDuIdeal.Read.val_main_v0,
    Cert.RefDuIdeal.Read.val_main_call0_v0, Cert.RefDuIdeal.Read.val_main_call0_cst]

/-- The reference runs, leaves its arguments alone and every counter at zero. -/
theorem frameRef : Cert.quiescent_RefDuIdeal := fun m g _ =>
  (θ_run Cert.RefDuIdeal.defs _ _).mono (fun r h => ⟨fun c => (h c).2, sem_eq_zero_of_no_sems rfl _⟩) (Cert.RefDuIdeal.Value.run m g)

/-- The kernel's result is the reference's. -/
theorem value : Cert.algebraic_DuIdeal_RefDuIdeal := by
  intro m g m' g' _ hargs
  refine ⟨fun c => (dats m 0 c).arrAt 3 cfg0.N, Cert.DuIdeal.Value.run_blocks m g, ?_⟩
  refine (θ_run Cert.RefDuIdeal.defs _ _).mono (fun r h c => ?_) (Cert.RefDuIdeal.Value.run m' g')
  obtain ⟨h0, h1, h2, h3⟩ := h c
  obtain ⟨a0, a1, a2⟩ := hargs c
  refine ⟨h0.trans ?_, h1, h2, h3⟩
  rw [Cert.RefDuIdeal.Read.val_main_v16_eq, a0, a1, a2]
  refine Eq.trans ?_ (array m c).symm
  funext i
  obtain ⟨r, j, rfl⟩ : ∃ r j, i = ix2 r j := ⟨i 0, i 1, eq_ix2 i⟩
  rw [ref_at]
  rfl

end Cert.OfDu

end
-- ==== Proof.OfDo.lean ====
module

public import proofs.«01_k».proof.Defs
public import proofs.«01_k».proof.Proof.Gen.DoIdeal.Value
public import proofs.«01_k».proof.Proof.Gen.RefDoIdeal.Read
public import proofs.«01_k».proof.Proof.ProdSum
public import Idealize.ShloMosaic.Lib.Quiescent
public import Idealize.ShloMosaic.Lib.Tactic
public import Idealize.ShloMosaic.Lib.Pointwise
public import Idealize.ShloMosaic.Lib.Pipeline.ValueKit
public import Idealize.ShloMosaic.Lib.Pipeline.ReadBack

/-! The gradient of the input of the memory attention's output projection, tile by tile: each block of the kernel's result is the product of a
    block of rows of the gradient with a block of rows of the weight. -/

@[expose] public section

set_option maxRecDepth 16384

noncomputable section

namespace Cert.OfDo

open Idealize.ShloMosaic Idealize.ShloMosaic.TcCoe Idealize.SL.Sem
open Cert.DoIdeal Cert.DoIdeal.Gen Cert.ProdSum

/-- The product of the gradient with the transposed weight. -/
def prod (x : Vec Ideal S4096x2048 .bf16) (w : Vec Ideal S1x2048x2048 .bf16) : S4096x2048.Idx → EReal :=
  fun i => ∑ k : Fin 2048, x (ix2 (i 0) k) * w (ix3 0 (i 1) k)

/-- One tile of the result, at an index. -/
theorem pay_apply (x0 : Vec Ideal S1024x2048 .bf16) (x1 : Vec Ideal S1x1024x2048 .bf16) (r s : Fin 1024) :
    k0_pay1 x0 x1 (ix2 r s) = ∑ k : Fin 2048, x0 (ix2 r k) * x1 (ix3 0 s k) := by
  pointwise [k0_pay1]

/-- What a point leaves in its tile, at an index. -/
theorem out_apply (x0 : Vec Ideal S1024x2048 .bf16) (x1 : Vec Ideal S1x1024x2048 .bf16) (y : S1024x1024.Idx) :
    out0_2 x0 x1 y = ∑ k : Fin 2048, x0 (ix2 (y 0) k) * x1 (ix3 0 (y 1) k) := by
  obtain ⟨r, s, rfl⟩ : ∃ r s, y = ix2 r s := ⟨y 0, y 1, eq_ix2 y⟩
  unfold out0_2
  frame_out
  rw [pay_apply]
  rfl

variable (m : (ℓ : Loc nD τ sig) → Buf (Elt Ideal) ℓ) (c : Dev nD)

/-- Where each point's blocks lie. -/
theorem index : ∀ t : Fin cfg0.N, win0_0.index t = ![t.val / 2, 0] ∧ win0_1.index t = ![0, t.val % 2, 0] ∧ win0_2.index t = ![t.val / 2, t.val % 2] :=
  (by decide +kernel : ∀ t : Fin grid0.N, _)

/-- The block of the gradient, at an index. -/
theorem blk0 (t : Fin cfg0.N) (r : Fin 1024) (k : Fin 2048) (p) :
    iblk m c 0 t (ix2 r k) = m ((c : Thread nD τ).loc main_arg0) (ix2 ⟨t.val / 2 * 1024 + r.val, p⟩ k) := by
  blk_ext [iblk, V_main_arg0, index t]

/-- The block of the weight, at an index. -/
theorem blk1 (t : Fin cfg0.N) (s : Fin 1024) (k : Fin 2048) (p) :
    iblk m c 1 t (ix3 0 s k) = m ((c : Thread nD τ).loc main_arg1) (ix3 0 ⟨t.val % 2 * 1024 + s.val, p⟩ k) := by
  blk_ext [iblk, V_main_arg1, index t]

/-- The whole result. -/
theorem array : (dats m 0 c).arrAt 2 cfg0.N = prod (m ((c : Thread nD τ).loc main_arg0)) (m ((c : Thread nD τ).loc main_arg1)) := by
  refine (dats m 0 c).arrAt_eq_of_covers 2 _ (by decide +kernel) fun t hf y => ?_
  blk_simp
  rw [after0_2, out_apply]
  have e0 : ((win0_2.blk t).view.emb y 0).val = t.val / 2 * 1024 + (y 0).val := by
    blk_simp [index t] <;> omega
  have e1 : ((win0_2.blk t).view.emb y 1).val = t.val % 2 * 1024 + (y 1).val := by
    blk_simp [index t] <;> omega
  unfold prod
  rw [show (win0_2.blk t).view.emb y 0 = ⟨_, e0 ▸ ((win0_2.blk t).view.emb y 0).isLt⟩ from Fin.ext e0,
    show (win0_2.blk t).view.emb y 1 = ⟨_, e1 ▸ ((win0_2.blk t).view.emb y 1).isLt⟩ from Fin.ext e1]
  exact dot_congr (fun k => blk0 m c t _ k _) (fun k => blk1 m c t _ k _)

/-- The reference, at an index. -/
theorem ref_at (x : Vec Ideal S4096x2048 .bf16) (w : Vec Ideal S1x2048x2048 .bf16) (r : Fin 4096) (j : Fin 2048) :
    Cert.RefDoIdeal.Read.val_main_v7 (F := Ideal) x w (ix2 r j) = ∑ k : Fin 2048, x (ix2 r k) * w (ix3 0 j k) := by
  pointwise [Cert.RefDoIdeal.Read.val_main_v7, Cert.RefDoIdeal.Read.val_main_v6, Cert.RefDoIdeal.Read.val_main_v5, Cert.RefDoIdeal.Read.val_main_v3, Cert.RefDoIdeal.Read.val_main_v2,
    Cert.RefDoIdeal.Read.val_main_v1]

/-- The reference runs, leaves its arguments alone and every counter at zero. -/
theorem frameRef : Cert.quiescent_RefDoIdeal := fun m g _ =>
  (θ_run Cert.RefDoIdeal.defs _ _).mono (fun r h => ⟨fun c => (h c).2, sem_eq_zero_of_no_sems rfl _⟩) (Cert.RefDoIdeal.Value.run m g)

/-- The kernel's result is the reference's. -/
theorem value : Cert.algebraic_DoIdeal_RefDoIdeal := by
  intro m g m' g' _ hargs
  refine ⟨fun c => (dats m 0 c).arrAt 2 cfg0.N, Cert.DoIdeal.Value.run_blocks m g, ?_⟩
  refine (θ_run Cert.RefDoIdeal.defs _ _).mono (fun r h c => ?_) (Cert.RefDoIdeal.Value.run m' g')
  obtain ⟨h0, h1, h2⟩ := h c
  obtain ⟨a0, a1⟩ := hargs c
  refine ⟨h0.trans ?_, h1, h2⟩
  rw [Cert.RefDoIdeal.Read.val_main_v7_eq, a0, a1]
  refine Eq.trans ?_ (array m c).symm
  funext i
  obtain ⟨r, j, rfl⟩ : ∃ r j, i = ix2 r j := ⟨i 0, i 1, eq_ix2 i⟩
  rw [ref_at]
  rfl

end Cert.OfDo

end
-- ==== Proof.OfDymix.lean ====
module

public import proofs.«01_k».proof.Defs
public import proofs.«01_k».proof.Proof.Gen.DymixIdeal.Value
public import proofs.«01_k».proof.Proof.Gen.RefDymixIdeal.Read
public import proofs.«01_k».proof.Proof.ProdSum
public import Idealize.ShloMosaic.Lib.Quiescent
public import Idealize.ShloMosaic.Lib.Tactic
public import Idealize.ShloMosaic.Lib.Pointwise
public import Idealize.ShloMosaic.Lib.Pipeline.ValueKit
public import Idealize.ShloMosaic.Lib.Pipeline.ReadBack

/-! The gradient of the input of the output projection, tile by tile: each block of the kernel's result is the product of a
    block of rows of the gradient with a block of rows of the weight. -/

@[expose] public section

set_option maxRecDepth 16384

noncomputable section

namespace Cert.OfDymix

open Idealize.ShloMosaic Idealize.ShloMosaic.TcCoe Idealize.SL.Sem
open Cert.DymixIdeal Cert.DymixIdeal.Gen Cert.ProdSum

/-- The product of the gradient with the transposed weight. -/
def prod (x : Vec Ideal S4096x2048 .bf16) (w : Vec Ideal S1x2048x2048 .bf16) : S4096x2048.Idx → EReal :=
  fun i => ∑ k : Fin 2048, x (ix2 (i 0) k) * w (ix3 0 (i 1) k)

/-- One tile of the result, at an index. -/
theorem pay_apply (x0 : Vec Ideal S1024x2048 .bf16) (x1 : Vec Ideal S1x1024x2048 .bf16) (r s : Fin 1024) :
    k0_pay1 x0 x1 (ix2 r s) = ∑ k : Fin 2048, x0 (ix2 r k) * x1 (ix3 0 s k) := by
  pointwise [k0_pay1]

/-- What a point leaves in its tile, at an index. -/
theorem out_apply (x0 : Vec Ideal S1024x2048 .bf16) (x1 : Vec Ideal S1x1024x2048 .bf16) (y : S1024x1024.Idx) :
    out0_2 x0 x1 y = ∑ k : Fin 2048, x0 (ix2 (y 0) k) * x1 (ix3 0 (y 1) k) := by
  obtain ⟨r, s, rfl⟩ : ∃ r s, y = ix2 r s := ⟨y 0, y 1, eq_ix2 y⟩
  unfold out0_2
  frame_out
  rw [pay_apply]
  rfl

variable (m : (ℓ : Loc nD τ sig) → Buf (Elt Ideal) ℓ) (c : Dev nD)

/-- Where each point's blocks lie. -/
theorem index : ∀ t : Fin cfg0.N, win0_0.index t = ![t.val / 2, 0] ∧ win0_1.index t = ![0, t.val % 2, 0] ∧ win0_2.index t = ![t.val / 2, t.val % 2] :=
  (by decide +kernel : ∀ t : Fin grid0.N, _)

/-- The block of the gradient, at an index. -/
theorem blk0 (t : Fin cfg0.N) (r : Fin 1024) (k : Fin 2048) (p) :
    iblk m c 0 t (ix2 r k) = m ((c : Thread nD τ).loc main_arg0) (ix2 ⟨t.val / 2 * 1024 + r.val, p⟩ k) := by
  blk_ext [iblk, V_main_arg0, index t]

/-- The block of the weight, at an index. -/
theorem blk1 (t : Fin cfg0.N) (s : Fin 1024) (k : Fin 2048) (p) :
    iblk m c 1 t (ix3 0 s k) = m ((c : Thread nD τ).loc main_arg1) (ix3 0 ⟨t.val % 2 * 1024 + s.val, p⟩ k) := by
  blk_ext [iblk, V_main_arg1, index t]

/-- The whole result. -/
theorem array : (dats m 0 c).arrAt 2 cfg0.N = prod (m ((c : Thread nD τ).loc main_arg0)) (m ((c : Thread nD τ).loc main_arg1)) := by
  refine (dats m 0 c).arrAt_eq_of_covers 2 _ (by decide +kernel) fun t hf y => ?_
  blk_simp
  rw [after0_2, out_apply]
  have e0 : ((win0_2.blk t).view.emb y 0).val = t.val / 2 * 1024 + (y 0).val := by
    blk_simp [index t] <;> omega
  have e1 : ((win0_2.blk t).view.emb y 1).val = t.val % 2 * 1024 + (y 1).val := by
    blk_simp [index t] <;> omega
  unfold prod
  rw [show (win0_2.blk t).view.emb y 0 = ⟨_, e0 ▸ ((win0_2.blk t).view.emb y 0).isLt⟩ from Fin.ext e0,
    show (win0_2.blk t).view.emb y 1 = ⟨_, e1 ▸ ((win0_2.blk t).view.emb y 1).isLt⟩ from Fin.ext e1]
  exact dot_congr (fun k => blk0 m c t _ k _) (fun k => blk1 m c t _ k _)

/-- The reference, at an index. -/
theorem ref_at (x : Vec Ideal S4096x2048 .bf16) (w : Vec Ideal S1x2048x2048 .bf16) (r : Fin 4096) (j : Fin 2048) :
    Cert.RefDymixIdeal.Read.val_main_v6 (F := Ideal) x w (ix2 r j) = ∑ k : Fin 2048, x (ix2 r k) * w (ix3 0 j k) := by
  pointwise [Cert.RefDymixIdeal.Read.val_main_v6, Cert.RefDymixIdeal.Read.val_main_v5, Cert.RefDymixIdeal.Read.val_main_v3, Cert.RefDymixIdeal.Read.val_main_v2,
    Cert.RefDymixIdeal.Read.val_main_v1]

/-- The reference runs, leaves its arguments alone and every counter at zero. -/
theorem frameRef : Cert.quiescent_RefDymixIdeal := fun m g _ =>
  (θ_run Cert.RefDymixIdeal.defs _ _).mono (fun r h => ⟨fun c => (h c).2, sem_eq_zero_of_no_sems rfl _⟩) (Cert.RefDymixIdeal.Value.run m g)

/-- The kernel's result is the reference's. -/
theorem value : Cert.algebraic_DymixIdeal_RefDymixIdeal := by
  intro m g m' g' _ hargs
  refine ⟨fun c => (dats m 0 c).arrAt 2 cfg0.N, Cert.DymixIdeal.Value.run_blocks m g, ?_⟩
  refine (θ_run Cert.RefDymixIdeal.defs _ _).mono (fun r h c => ?_) (Cert.RefDymixIdeal.Value.run m' g')
  obtain ⟨h0, h1, h2⟩ := h c
  obtain ⟨a0, a1⟩ := hargs c
  refine ⟨h0.trans ?_, h1, h2⟩
  rw [Cert.RefDymixIdeal.Read.val_main_v6_eq, a0, a1]
  refine Eq.trans ?_ (array m c).symm
  funext i
  obtain ⟨r, j, rfl⟩ : ∃ r j, i = ix2 r j := ⟨i 0, i 1, eq_ix2 i⟩
  rw [ref_at]
  rfl

end Cert.OfDymix

end
-- ==== Proof.OfDx1.lean ====
module

public import proofs.«01_k».proof.Defs
public import proofs.«01_k».proof.Proof.Gen.Dx1Ideal.Value
public import proofs.«01_k».proof.Proof.Gen.RefDx1Ideal.Read
public import proofs.«01_k».proof.Proof.ProdSum
public import Idealize.ShloMosaic.Lib.Quiescent
public import Idealize.ShloMosaic.Lib.Tactic
public import Idealize.ShloMosaic.Lib.Pointwise
public import Idealize.ShloMosaic.Lib.Pipeline.ValueKit
public import Idealize.ShloMosaic.Lib.Pipeline.ReadBack

/-! The gradient of the input of the memory attention's block, tile by tile: each block of the kernel's result is the product
    of a block of rows of the gradient with a block of rows of the weight, and the scaled gradient of the sum. -/

@[expose] public section

set_option maxRecDepth 16384

noncomputable section

namespace Cert.OfDx1

open Idealize.ShloMosaic Idealize.ShloMosaic.TcCoe Idealize.SL.Sem
open Cert.Dx1Ideal Cert.Dx1Ideal.Gen Cert.ProdSum

/-- The scale of the sum, as the programs print it. -/
abbrev scale : EReal := Ideal.ofBits .f32 0x3FD744FD#32

/-- The product of the gradient with the transposed weight, and the scaled gradient of the sum. -/
def prod (x : Vec Ideal S4096x2048 .bf16) (w : Vec Ideal S1x2048x2048 .bf16) (z : Vec Ideal S4096x2048 .f32) : S4096x2048.Idx → EReal :=
  fun i => (∑ k : Fin 2048, x (ix2 (i 0) k) * w (ix3 0 (i 1) k)) + scale * z (ix2 (i 0) (i 1))

/-- One tile of the result, at an index. -/
theorem pay_apply (x0 : Vec Ideal S1024x2048 .bf16) (x1 : Vec Ideal S1x1024x2048 .bf16) (x2 : Vec Ideal S1024x1024 .f32) (r s : Fin 1024) :
    k0_pay1 x0 x1 x2 (ix2 r s) = (∑ k : Fin 2048, x0 (ix2 r k) * x1 (ix3 0 s k)) + scale * x2 (ix2 r s) := by
  pointwise [k0_pay1]

/-- What a point leaves in its tile, at an index. -/
theorem out_apply (x0 : Vec Ideal S1024x2048 .bf16) (x1 : Vec Ideal S1x1024x2048 .bf16) (x2 : Vec Ideal S1024x1024 .f32) (y : S1024x1024.Idx) :
    out0_3 x0 x1 x2 y = (∑ k : Fin 2048, x0 (ix2 (y 0) k) * x1 (ix3 0 (y 1) k)) + scale * x2 (ix2 (y 0) (y 1)) := by
  obtain ⟨r, s, rfl⟩ : ∃ r s, y = ix2 r s := ⟨y 0, y 1, eq_ix2 y⟩
  unfold out0_3
  frame_out
  rw [pay_apply]
  rfl

variable (m : (ℓ : Loc nD τ sig) → Buf (Elt Ideal) ℓ) (c : Dev nD)

/-- Where each point's blocks lie. -/
theorem index : ∀ t : Fin cfg0.N, win0_0.index t = ![t.val / 2, 0] ∧ win0_1.index t = ![0, t.val % 2, 0] ∧ win0_2.index t = ![t.val / 2, t.val % 2] ∧ win0_3.index t = ![t.val / 2, t.val % 2] :=
  (by decide +kernel : ∀ t : Fin grid0.N, _)

/-- The block of the gradient, at an index. -/
theorem blk0 (t : Fin cfg0.N) (r : Fin 1024) (k : Fin 2048) (p) :
    iblk m c 0 t (ix2 r k) = m ((c : Thread nD τ).loc main_arg0) (ix2 ⟨t.val / 2 * 1024 + r.val, p⟩ k) := by
  blk_ext [iblk, V_main_arg0, index t]

/-- The block of the weight, at an index. -/
theorem blk1 (t : Fin cfg0.N) (s : Fin 1024) (k : Fin 2048) (p) :
    iblk m c 1 t (ix3 0 s k) = m ((c : Thread nD τ).loc main_arg1) (ix3 0 ⟨t.val % 2 * 1024 + s.val, p⟩ k) := by
  blk_ext [iblk, V_main_arg1, index t]

/-- The block of the sum's gradient, at an index. -/
theorem blk2 (t : Fin cfg0.N) (r s : Fin 1024) (p q) :
    iblk m c 2 t (ix2 r s) = m ((c : Thread nD τ).loc main_arg2) (ix2 ⟨t.val / 2 * 1024 + r.val, p⟩ ⟨t.val % 2 * 1024 + s.val, q⟩) := by
  blk_ext [iblk, V_main_arg2, index t]

/-- The whole result. -/
theorem array : (dats m 0 c).arrAt 3 cfg0.N = prod (m ((c : Thread nD τ).loc main_arg0)) (m ((c : Thread nD τ).loc main_arg1))
    (m ((c : Thread nD τ).loc main_arg2)) := by
  refine (dats m 0 c).arrAt_eq_of_covers 3 _ (by decide +kernel) fun t hf y => ?_
  blk_simp
  rw [after0_3, out_apply]
  have e0 : ((win0_3.blk t).view.emb y 0).val = t.val / 2 * 1024 + (y 0).val := by
    blk_simp [index t] <;> omega
  have e1 : ((win0_3.blk t).view.emb y 1).val = t.val % 2 * 1024 + (y 1).val := by
    blk_simp [index t] <;> omega
  unfold prod
  rw [show (win0_3.blk t).view.emb y 0 = ⟨_, e0 ▸ ((win0_3.blk t).view.emb y 0).isLt⟩ from Fin.ext e0,
    show (win0_3.blk t).view.emb y 1 = ⟨_, e1 ▸ ((win0_3.blk t).view.emb y 1).isLt⟩ from Fin.ext e1]
  exact congr (congrArg HAdd.hAdd (dot_congr (fun k => blk0 m c t _ k _) (fun k => blk1 m c t _ k _))) (congrArg (scale * ·) (blk2 m c t _ _ _ _))

/-- The reference, at an index. -/
theorem ref_at (x : Vec Ideal S4096x2048 .bf16) (w : Vec Ideal S1x2048x2048 .bf16) (z : Vec Ideal S4096x2048 .f32) (r : Fin 4096) (j : Fin 2048) :
    Cert.RefDx1Ideal.Read.val_main_v11 (F := Ideal) x w z (ix2 r j) = scale * z (ix2 r j) + ∑ k : Fin 2048, x (ix2 r k) * w (ix3 0 j k) := by
  pointwise [Cert.RefDx1Ideal.Read.val_main_v11, Cert.RefDx1Ideal.Read.val_main_v10, Cert.RefDx1Ideal.Read.val_main_v9, Cert.RefDx1Ideal.Read.val_main_v8,
    Cert.RefDx1Ideal.Read.val_main_cst_1, Cert.RefDx1Ideal.Read.val_main_v7, Cert.RefDx1Ideal.Read.val_main_v3, Cert.RefDx1Ideal.Read.val_main_v2,
    Cert.RefDx1Ideal.Read.val_main_v1]

/-- The reference runs, leaves its arguments alone and every counter at zero. -/
theorem frameRef : Cert.quiescent_RefDx1Ideal := fun m g _ =>
  (θ_run Cert.RefDx1Ideal.defs _ _).mono (fun r h => ⟨fun c => (h c).2, sem_eq_zero_of_no_sems rfl _⟩) (Cert.RefDx1Ideal.Value.run m g)

/-- The kernel's result is the reference's. -/
theorem value : Cert.algebraic_Dx1Ideal_RefDx1Ideal := by
  intro m g m' g' _ hargs
  refine ⟨fun c => (dats m 0 c).arrAt 3 cfg0.N, Cert.Dx1Ideal.Value.run_blocks m g, ?_⟩
  refine (θ_run Cert.RefDx1Ideal.defs _ _).mono (fun r h c => ?_) (Cert.RefDx1Ideal.Value.run m' g')
  obtain ⟨h0, h1, h2, h3⟩ := h c
  obtain ⟨a0, a1, a2⟩ := hargs c
  refine ⟨h0.trans ?_, h1, h2, h3⟩
  rw [Cert.RefDx1Ideal.Read.val_main_v11_eq, a0, a1, a2]
  refine Eq.trans ?_ (array m c).symm
  funext i
  obtain ⟨r, j, rfl⟩ : ∃ r j, i = ix2 r j := ⟨i 0, i 1, eq_ix2 i⟩
  rw [ref_at, add_comm]
  rfl

end Cert.OfDx1

end
-- ==== Proof.OfDx2.lean ====
module

public import proofs.«01_k».proof.Defs
public import proofs.«01_k».proof.Proof.Gen.Dx2Ideal.Value
public import proofs.«01_k».proof.Proof.Gen.RefDx2Ideal.Read
public import proofs.«01_k».proof.Proof.ProdSum
public import Idealize.ShloMosaic.Lib.Quiescent
public import Idealize.ShloMosaic.Lib.Tactic
public import Idealize.ShloMosaic.Lib.Pointwise
public import Idealize.ShloMosaic.Lib.Pipeline.ValueKit
public import Idealize.ShloMosaic.Lib.Pipeline.ReadBack

/-! The gradient of the input of the up projection: each block of the result is the sum of 4 partial products and the
    scaled gradient that reaches the input past the sublayer. The running sum is kept in the scratch buffer. -/

@[expose] public section

set_option maxRecDepth 16384

noncomputable section

namespace Cert.OfDx2

open Idealize.ShloMosaic Idealize.ShloMosaic.TcCoe Idealize.SL.Sem
open Cert.Dx2Ideal Cert.Dx2Ideal.Gen Cert.ProdSum

/-- The shard a column of the weight lies in, and its place there. -/
def shard (k : Fin 8192) : Fin 4 := ⟨k.val / 2048, by omega⟩
def place (k : Fin 8192) : Fin 2048 := ⟨k.val % 2048, by omega⟩

/-- The product of the gradient with the transposed weight, and the scaled residual gradient. -/
def prod (x : Vec Ideal S4096x8192 .bf16) (w : Vec Ideal S4x2048x2048 .bf16) (z : Vec Ideal S4096x2048 .f32) : S4096x2048.Idx → EReal :=
  fun i => (∑ k : Fin 8192, x (ix2 (i 0) k) * w (ix3 (shard k) (i 1) (place k))) + Ideal.ofBits .f32 0x3FD744FD#32 * z i

/-- One partial product, at an index. -/
def part (x : Vec Ideal S1024x2048 .bf16) (w : Vec Ideal S1x1024x2048 .bf16) : S1024x1024.Idx → EReal :=
  fun y => ∑ k : Fin 2048, x (ix2 (y 0) k) * w (ix3 0 (y 1) k)

/-- The scratch buffer starts at zero. -/
theorem zero_apply (y : S1024x1024.Idx) : k0_pay1 (F := Ideal) y = 0 := by
  obtain ⟨r, s, rfl⟩ : ∃ r s, y = ix2 r s := ⟨y 0, y 1, eq_ix2 y⟩
  pointwise [k0_pay1]

/-- A step adds its partial product. -/
theorem step_apply (a : Vec Ideal S1024x1024 .f32) (x : Vec Ideal S1024x2048 .bf16) (w : Vec Ideal S1x1024x2048 .bf16) (y : S1024x1024.Idx) :
    k0_pay2 a x w y = a y + part x w y := by
  obtain ⟨r, s, rfl⟩ : ∃ r s, y = ix2 r s := ⟨y 0, y 1, eq_ix2 y⟩
  unfold part
  pointwise [k0_pay2]

/-- What is written out is what was summed and the scaled residual gradient. -/
theorem last_apply (a z : Vec Ideal S1024x1024 .f32) (y : S1024x1024.Idx) : k0_pay3 a z y = a y + Ideal.ofBits .f32 0x3FD744FD#32 * z y := by
  obtain ⟨r, s, rfl⟩ : ∃ r s, y = ix2 r s := ⟨y 0, y 1, eq_ix2 y⟩
  pointwise [k0_pay3]

variable (m : (ℓ : Loc nD τ sig) → Buf (Elt Ideal) ℓ) (c : Dev nD)

/-- The partial product of a point. -/
def term (t : Fin cfg0.N) : S1024x1024.Idx → EReal := part (iblk m c 0 t) (iblk m c 1 t)

/-- The scaled block of the residual gradient. -/
def rest (t : Fin cfg0.N) (y : S1024x1024.Idx) : EReal := Ideal.ofBits .f32 0x3FD744FD#32 * (iblk m c 2 t : Vec Ideal S1024x1024 .f32) y

theorem scratch_first (t : Fin cfg0.N) (h : t.val % 4 = 0) (y : S1024x1024.Idx) :
    (outsAt0 m c t.val t.isLt).2 y = k0_pay1 (F := Ideal) y + term m c t y := by
  rw [outsAt0_A m c t h (by omega)]
  dsimp only
  unfold sout0_A_0
  frame_out
  exact step_apply _ _ _ y

theorem scratch_next (t : Fin cfg0.N) (h : ¬t.val % 4 = 0) (y : S1024x1024.Idx) :
    (outsAt0 m c t.val t.isLt).2 y = (outsAt0 m c (t.val - 1) (Nat.lt_of_le_of_lt (Nat.sub_le _ _) t.isLt)).2 y + term m c t y := by
  by_cases h3 : t.val % 4 = 3
  · rw [outsAt0_C m c t h h3]
    dsimp only
    unfold sout0_C_0
    frame_out
    exact (step_apply _ _ _ y).trans (congrArg (· + _) (congrFun (Memref.IsWhole.read_unread _ _) y))
  · rw [outsAt0_B m c t h h3]
    dsimp only
    unfold sout0_B_0
    frame_out
    exact (step_apply _ _ _ y).trans (congrArg (· + _) (congrFun (Memref.IsWhole.read_unread _ _) y))

/-- The block written out is the scratch buffer's and the scaled residual gradient's. -/
theorem out_last (t : Fin cfg0.N) (h : t.val % 4 = 3) (y : S1024x1024.Idx) :
    (outsAt0 m c t.val t.isLt).1 y = (outsAt0 m c t.val t.isLt).2 y + rest m c t y := by
  rw [outsAt0_C m c t (by omega) h]
  dsimp only
  unfold out0_C_3 sout0_C_0
  frame_out
  exact last_apply _ _ y

/-- Where each point's blocks lie. -/
theorem index : ∀ t : Fin cfg0.N, win0_0.index t = ![t.val / 8, t.val % 4] ∧ win0_1.index t = ![t.val % 4, t.val / 4 % 2, 0] ∧ win0_2.index t = ![t.val / 8, t.val / 4 % 2] ∧ win0_3.index t = ![t.val / 8, t.val / 4 % 2] :=
  (by decide +kernel : ∀ t : Fin grid0.N, _)

/-- The block of the gradient, at an index. -/
theorem blk0 (t : Fin cfg0.N) (r : Fin 1024) (k : Fin 2048) (p q) :
    iblk m c 0 t (ix2 r k) = m ((c : Thread nD τ).loc main_arg0) (ix2 ⟨t.val / 8 * 1024 + r.val, p⟩ ⟨t.val % 4 * 2048 + k.val, q⟩) := by
  blk_ext [iblk, V_main_arg0, index t]

/-- The block of the weight, at an index. -/
theorem blk1 (t : Fin cfg0.N) (s : Fin 1024) (k : Fin 2048) (p q) :
    iblk m c 1 t (ix3 0 s k) = m ((c : Thread nD τ).loc main_arg1) (ix3 ⟨t.val % 4, q⟩ ⟨t.val / 4 % 2 * 1024 + s.val, p⟩ k) := by
  blk_ext [iblk, V_main_arg1, index t]

/-- The block of the residual gradient, at an index. -/
theorem blk2 (t : Fin cfg0.N) (r s : Fin 1024) (p q) :
    iblk m c 2 t (ix2 r s) = m ((c : Thread nD τ).loc main_arg2) (ix2 ⟨t.val / 8 * 1024 + r.val, p⟩ ⟨t.val / 4 % 2 * 1024 + s.val, q⟩) := by
  blk_ext [iblk, V_main_arg2, index t]

/-- The whole result. -/
theorem array : (dats m 0 c).arrAt 3 cfg0.N = prod (m ((c : Thread nD τ).loc main_arg0)) (m ((c : Thread nD τ).loc main_arg1)) (m ((c : Thread nD τ).loc main_arg2)) := by
  refine (dats m 0 c).arrAt_eq_of_covers 3 _ (by decide +kernel) fun t hf y => ?_
  have ht := (flush0_3 t).mp hf
  have hb : t.val < 32 := t.isLt
  blk_simp
  obtain ⟨r, s, rfl⟩ : ∃ r s, y = ix2 r s := ⟨y 0, y 1, eq_ix2 y⟩
  rw [after0_3, out_last m c t ht,
    Pipeline.eq_sum_fin_of_reset_step_apply_of_flush (fun n h => (outsAt0 m c n h).2) 4 (k0_pay1 (F := Ideal)) (term m c) (scratch_first m c) (scratch_next m c) t ht (ix2 r s),
    zero_apply, zero_add]
  have e0 : ((win0_3.blk t).view.emb (ix2 r s) 0).val = t.val / 8 * 1024 + r.val := by
    blk_simp [index t] <;> omega
  have e1 : ((win0_3.blk t).view.emb (ix2 r s) 1).val = t.val / 4 % 2 * 1024 + s.val := by
    blk_simp [index t] <;> omega
  rw [(eq_ix2 ((win0_3.blk t).view.emb (ix2 r s))).trans (congrArg₂ ix2 (Fin.ext e0 : _ = ⟨_, e0 ▸ ((win0_3.blk t).view.emb (ix2 r s) 0).isLt⟩) (Fin.ext e1 : _ = ⟨_, e1 ▸ ((win0_3.blk t).view.emb (ix2 r s) 1).isLt⟩))]
  unfold prod rest
  refine congrArg₂ (· + ·) ?_ (congrArg (Ideal.ofBits .f32 0x3FD744FD#32 * ·) (blk2 m c t r s _ _))
  refine Eq.trans ?_ (sum_halves (n := 2048) (J := 4) rfl _)
  unfold term part
  refine outer_congr fun p => ?_
  have hp := p.isLt
  have d1 : (4 * (t.val / 4) + p.val) % 4 = p.val := by omega
  have d2 : (4 * (t.val / 4) + p.val) / 8 = t.val / 8 := by omega
  have d3 : (4 * (t.val / 4) + p.val) / 4 % 2 = t.val / 4 % 2 := by omega
  refine dot_congr (fun k => (blk0 m c _ r k (by dsimp only; omega) (by dsimp only; omega)).trans ?_) (fun k => (blk1 m c _ s k (by dsimp only; omega) (by dsimp only; omega)).trans ?_)
  · exact congrArg _ (congrArg₂ ix2 (Fin.ext (by dsimp only; rw [d2]; rfl)) (Fin.ext (by dsimp only; rw [d1])))
  · refine congrArg _ ?_
    rw [show shard ⟨p.val * 2048 + k.val, at_lt rfl p k⟩ = ⟨(4 * (t.val / 4) + p.val) % 4, Nat.mod_lt _ (by decide)⟩ from Fin.ext (by dsimp only [shard]; omega),
      show place ⟨p.val * 2048 + k.val, at_lt rfl p k⟩ = k from Fin.ext (by dsimp only [place]; omega)]
    exact congrArg (ix3 _ · k) (Fin.ext (by dsimp only; rw [d3]; rfl))

/-- The reference, at an index. -/
theorem ref_at (x : Vec Ideal S4096x8192 .bf16) (w : Vec Ideal S4x2048x2048 .bf16) (z : Vec Ideal S4096x2048 .f32) (r : Fin 4096) (j : Fin 2048) :
    Cert.RefDx2Ideal.Read.val_main_v11 (F := Ideal) x w z (ix2 r j) = Ideal.ofBits .f32 0x3FD744FD#32 * z (ix2 r j) + ∑ k : Fin 8192, x (ix2 r k) * w (ix3 (shard k) j (place k)) := by
  pointwise [Cert.RefDx2Ideal.Read.val_main_v11, Cert.RefDx2Ideal.Read.val_main_v10, Cert.RefDx2Ideal.Read.val_main_v9, Cert.RefDx2Ideal.Read.val_main_v8, Cert.RefDx2Ideal.Read.val_main_cst_1, Cert.RefDx2Ideal.Read.val_main_v7,
    Cert.RefDx2Ideal.Read.val_main_v3, Cert.RefDx2Ideal.Read.val_main_v2, Cert.RefDx2Ideal.Read.val_main_v1]
  rfl

/-- The reference runs, leaves its arguments alone and every counter at zero. -/
theorem frameRef : Cert.quiescent_RefDx2Ideal := fun m g _ =>
  (θ_run Cert.RefDx2Ideal.defs _ _).mono (fun r h => ⟨fun c => (h c).2, sem_eq_zero_of_no_sems rfl _⟩) (Cert.RefDx2Ideal.Value.run m g)

/-- The kernel's result is the reference's. -/
theorem value : Cert.algebraic_Dx2Ideal_RefDx2Ideal := by
  intro m g m' g' _ hargs
  refine ⟨fun c => (dats m 0 c).arrAt 3 cfg0.N, Cert.Dx2Ideal.Value.run_blocks m g, ?_⟩
  refine (θ_run Cert.RefDx2Ideal.defs _ _).mono (fun r h c => ?_) (Cert.RefDx2Ideal.Value.run m' g')
  obtain ⟨h0, h1, h2, h3⟩ := h c
  obtain ⟨a0, a1, a2⟩ := hargs c
  refine ⟨h0.trans ?_, h1, h2, h3⟩
  rw [Cert.RefDx2Ideal.Read.val_main_v11_eq, a0, a1, a2]
  refine Eq.trans ?_ (array m c).symm
  funext i
  obtain ⟨r, j, rfl⟩ : ∃ r j, i = ix2 r j := ⟨i 0, i 1, eq_ix2 i⟩
  rw [ref_at]
  exact add_comm _ _

end Cert.OfDx2

end
-- ==== Proof.OfDx0.lean ====
module

public import proofs.«01_k».proof.Defs
public import proofs.«01_k».proof.Proof.Gen.Dx0Ideal.Value
public import proofs.«01_k».proof.Proof.Gen.RefDx0Ideal.Read
public import proofs.«01_k».proof.Proof.ProdSum
public import Idealize.ShloMosaic.Lib.Quiescent
public import Idealize.ShloMosaic.Lib.Tactic
public import Idealize.ShloMosaic.Lib.Pointwise
public import Idealize.ShloMosaic.Lib.Pipeline.ValueKit
public import Idealize.ShloMosaic.Lib.Pipeline.ReadBack

/-! The gradient of the input of the input projection: each block of the result is the sum of 2 partial products and the
    scaled gradient that reaches the input past the sublayer. The running sum is kept in the scratch buffer. -/

@[expose] public section

set_option maxRecDepth 16384

noncomputable section

namespace Cert.OfDx0

open Idealize.ShloMosaic Idealize.ShloMosaic.TcCoe Idealize.SL.Sem
open Cert.Dx0Ideal Cert.Dx0Ideal.Gen Cert.ProdSum

/-- The product of the gradient with the transposed weight, and the scaled residual gradient. -/
def prod (x : Vec Ideal S4096x4352 .bf16) (w : Vec Ideal S1x2048x4352 .bf16) (z : Vec Ideal S4096x2048 .f32) : S4096x2048.Idx → EReal :=
  fun i => (∑ k : Fin 4352, x (ix2 (i 0) k) * w (ix3 0 (i 1) k)) + Ideal.ofBits .f32 0x3FD744FD#32 * z i

/-- One partial product, at an index. -/
def part (x : Vec Ideal S1024x2176 .bf16) (w : Vec Ideal S1x1024x2176 .bf16) : S1024x1024.Idx → EReal :=
  fun y => ∑ k : Fin 2176, x (ix2 (y 0) k) * w (ix3 0 (y 1) k)

/-- The scratch buffer starts at zero. -/
theorem zero_apply (y : S1024x1024.Idx) : k0_pay1 (F := Ideal) y = 0 := by
  obtain ⟨r, s, rfl⟩ : ∃ r s, y = ix2 r s := ⟨y 0, y 1, eq_ix2 y⟩
  pointwise [k0_pay1]

/-- A step adds its partial product. -/
theorem step_apply (a : Vec Ideal S1024x1024 .f32) (x : Vec Ideal S1024x2176 .bf16) (w : Vec Ideal S1x1024x2176 .bf16) (y : S1024x1024.Idx) :
    k0_pay2 a x w y = a y + part x w y := by
  obtain ⟨r, s, rfl⟩ : ∃ r s, y = ix2 r s := ⟨y 0, y 1, eq_ix2 y⟩
  unfold part
  pointwise [k0_pay2]

/-- What is written out is what was summed and the scaled residual gradient. -/
theorem last_apply (a z : Vec Ideal S1024x1024 .f32) (y : S1024x1024.Idx) : k0_pay3 a z y = a y + Ideal.ofBits .f32 0x3FD744FD#32 * z y := by
  obtain ⟨r, s, rfl⟩ : ∃ r s, y = ix2 r s := ⟨y 0, y 1, eq_ix2 y⟩
  pointwise [k0_pay3]

variable (m : (ℓ : Loc nD τ sig) → Buf (Elt Ideal) ℓ) (c : Dev nD)

/-- The partial product of a point. -/
def term (t : Fin cfg0.N) : S1024x1024.Idx → EReal := part (iblk m c 0 t) (iblk m c 1 t)

/-- The scaled block of the residual gradient. -/
def rest (t : Fin cfg0.N) (y : S1024x1024.Idx) : EReal := Ideal.ofBits .f32 0x3FD744FD#32 * (iblk m c 2 t : Vec Ideal S1024x1024 .f32) y

theorem scratch_first (t : Fin cfg0.N) (h : t.val % 2 = 0) (y : S1024x1024.Idx) :
    (outsAt0 m c t.val t.isLt).2 y = k0_pay1 (F := Ideal) y + term m c t y := by
  rw [outsAt0_A m c t h (by omega)]
  dsimp only
  unfold sout0_A_0
  frame_out
  exact step_apply _ _ _ y

theorem scratch_next (t : Fin cfg0.N) (h : ¬t.val % 2 = 0) (y : S1024x1024.Idx) :
    (outsAt0 m c t.val t.isLt).2 y = (outsAt0 m c (t.val - 1) (Nat.lt_of_le_of_lt (Nat.sub_le _ _) t.isLt)).2 y + term m c t y := by
  rw [outsAt0_B m c t h (by omega)]
  dsimp only
  unfold sout0_B_0
  frame_out
  exact (step_apply _ _ _ y).trans (congrArg (· + _) (congrFun (Memref.IsWhole.read_unread _ _) y))

/-- The block written out is the scratch buffer's and the scaled residual gradient's. -/
theorem out_last (t : Fin cfg0.N) (h : t.val % 2 = 1) (y : S1024x1024.Idx) :
    (outsAt0 m c t.val t.isLt).1 y = (outsAt0 m c t.val t.isLt).2 y + rest m c t y := by
  rw [outsAt0_B m c t (by omega) h]
  dsimp only
  unfold out0_B_3 sout0_B_0
  frame_out
  exact last_apply _ _ y

/-- Where each point's blocks lie. -/
theorem index : ∀ t : Fin cfg0.N, win0_0.index t = ![t.val / 4, t.val % 2] ∧ win0_1.index t = ![0, t.val / 2 % 2, t.val % 2] ∧ win0_2.index t = ![t.val / 4, t.val / 2 % 2] ∧ win0_3.index t = ![t.val / 4, t.val / 2 % 2] :=
  (by decide +kernel : ∀ t : Fin grid0.N, _)

/-- The block of the gradient, at an index. -/
theorem blk0 (t : Fin cfg0.N) (r : Fin 1024) (k : Fin 2176) (p q) :
    iblk m c 0 t (ix2 r k) = m ((c : Thread nD τ).loc main_arg0) (ix2 ⟨t.val / 4 * 1024 + r.val, p⟩ ⟨t.val % 2 * 2176 + k.val, q⟩) := by
  blk_ext [iblk, V_main_arg0, index t]

/-- The block of the weight, at an index. -/
theorem blk1 (t : Fin cfg0.N) (s : Fin 1024) (k : Fin 2176) (p q) :
    iblk m c 1 t (ix3 0 s k) = m ((c : Thread nD τ).loc main_arg1) (ix3 0 ⟨t.val / 2 % 2 * 1024 + s.val, p⟩ ⟨t.val % 2 * 2176 + k.val, q⟩) := by
  blk_ext [iblk, V_main_arg1, index t]

/-- The block of the residual gradient, at an index. -/
theorem blk2 (t : Fin cfg0.N) (r s : Fin 1024) (p q) :
    iblk m c 2 t (ix2 r s) = m ((c : Thread nD τ).loc main_arg2) (ix2 ⟨t.val / 4 * 1024 + r.val, p⟩ ⟨t.val / 2 % 2 * 1024 + s.val, q⟩) := by
  blk_ext [iblk, V_main_arg2, index t]

/-- The whole result. -/
theorem array : (dats m 0 c).arrAt 3 cfg0.N = prod (m ((c : Thread nD τ).loc main_arg0)) (m ((c : Thread nD τ).loc main_arg1)) (m ((c : Thread nD τ).loc main_arg2)) := by
  refine (dats m 0 c).arrAt_eq_of_covers 3 _ (by decide +kernel) fun t hf y => ?_
  have ht := (flush0_3 t).mp hf
  have hb : t.val < 16 := t.isLt
  blk_simp
  obtain ⟨r, s, rfl⟩ : ∃ r s, y = ix2 r s := ⟨y 0, y 1, eq_ix2 y⟩
  rw [after0_3, out_last m c t ht,
    Pipeline.eq_sum_fin_of_reset_step_apply_of_flush (fun n h => (outsAt0 m c n h).2) 2 (k0_pay1 (F := Ideal)) (term m c) (scratch_first m c) (scratch_next m c) t ht (ix2 r s),
    zero_apply, zero_add]
  have e0 : ((win0_3.blk t).view.emb (ix2 r s) 0).val = t.val / 4 * 1024 + r.val := by
    blk_simp [index t] <;> omega
  have e1 : ((win0_3.blk t).view.emb (ix2 r s) 1).val = t.val / 2 % 2 * 1024 + s.val := by
    blk_simp [index t] <;> omega
  rw [(eq_ix2 ((win0_3.blk t).view.emb (ix2 r s))).trans (congrArg₂ ix2 (Fin.ext e0 : _ = ⟨_, e0 ▸ ((win0_3.blk t).view.emb (ix2 r s) 0).isLt⟩) (Fin.ext e1 : _ = ⟨_, e1 ▸ ((win0_3.blk t).view.emb (ix2 r s) 1).isLt⟩))]
  unfold prod rest
  refine congrArg₂ (· + ·) ?_ (congrArg (Ideal.ofBits .f32 0x3FD744FD#32 * ·) (blk2 m c t r s _ _))
  refine Eq.trans ?_ (sum_halves (n := 2176) (J := 2) rfl _)
  unfold term part
  refine outer_congr fun p => ?_
  have hp := p.isLt
  have d1 : (2 * (t.val / 2) + p.val) % 2 = p.val := by omega
  have d2 : (2 * (t.val / 2) + p.val) / 4 = t.val / 4 := by omega
  have d3 : (2 * (t.val / 2) + p.val) / 2 % 2 = t.val / 2 % 2 := by omega
  refine dot_congr (fun k => (blk0 m c _ r k (by dsimp only; omega) (by dsimp only; omega)).trans ?_) (fun k => (blk1 m c _ s k (by dsimp only; omega) (by dsimp only; omega)).trans ?_)
  · exact congrArg _ (congrArg₂ ix2 (Fin.ext (by dsimp only; rw [d2]; rfl)) (Fin.ext (by dsimp only; rw [d1])))
  · exact congrArg _ (congrArg₂ (ix3 0) (Fin.ext (by dsimp only; rw [d3]; rfl)) (Fin.ext (by dsimp only; rw [d1])))

/-- The reference, at an index. -/
theorem ref_at (x : Vec Ideal S4096x4352 .bf16) (w : Vec Ideal S1x2048x4352 .bf16) (z : Vec Ideal S4096x2048 .f32) (r : Fin 4096) (j : Fin 2048) :
    Cert.RefDx0Ideal.Read.val_main_v11 (F := Ideal) x w z (ix2 r j) = Ideal.ofBits .f32 0x3FD744FD#32 * z (ix2 r j) + ∑ k : Fin 4352, x (ix2 r k) * w (ix3 0 j k) := by
  pointwise [Cert.RefDx0Ideal.Read.val_main_v11, Cert.RefDx0Ideal.Read.val_main_v10, Cert.RefDx0Ideal.Read.val_main_v9, Cert.RefDx0Ideal.Read.val_main_v8, Cert.RefDx0Ideal.Read.val_main_cst_1, Cert.RefDx0Ideal.Read.val_main_v7,
    Cert.RefDx0Ideal.Read.val_main_v3, Cert.RefDx0Ideal.Read.val_main_v2, Cert.RefDx0Ideal.Read.val_main_v1]

/-- The reference runs, leaves its arguments alone and every counter at zero. -/
theorem frameRef : Cert.quiescent_RefDx0Ideal := fun m g _ =>
  (θ_run Cert.RefDx0Ideal.defs _ _).mono (fun r h => ⟨fun c => (h c).2, sem_eq_zero_of_no_sems rfl _⟩) (Cert.RefDx0Ideal.Value.run m g)

/-- The kernel's result is the reference's. -/
theorem value : Cert.algebraic_Dx0Ideal_RefDx0Ideal := by
  intro m g m' g' _ hargs
  refine ⟨fun c => (dats m 0 c).arrAt 3 cfg0.N, Cert.Dx0Ideal.Value.run_blocks m g, ?_⟩
  refine (θ_run Cert.RefDx0Ideal.defs _ _).mono (fun r h c => ?_) (Cert.RefDx0Ideal.Value.run m' g')
  obtain ⟨h0, h1, h2, h3⟩ := h c
  obtain ⟨a0, a1, a2⟩ := hargs c
  refine ⟨h0.trans ?_, h1, h2, h3⟩
  rw [Cert.RefDx0Ideal.Read.val_main_v11_eq, a0, a1, a2]
  refine Eq.trans ?_ (array m c).symm
  funext i
  obtain ⟨r, j, rfl⟩ : ∃ r j, i = ix2 r j := ⟨i 0, i 1, eq_ix2 i⟩
  rw [ref_at]
  exact add_comm _ _

end Cert.OfDx0

end
-- ==== Proof.OfHin.lean ====
module

public import proofs.«01_k».proof.Defs
public import proofs.«01_k».proof.Proof.Gen.HinIdeal.Value
public import proofs.«01_k».proof.Proof.Gen.RefHinIdeal.Read
public import proofs.«01_k».proof.Proof.ProdSum
public import Idealize.ShloMosaic.Lib.Quiescent
public import Idealize.ShloMosaic.Lib.Tactic
public import Idealize.ShloMosaic.Lib.Pointwise
public import Idealize.ShloMosaic.Lib.Pipeline.ValueKit
public import Idealize.ShloMosaic.Lib.Pipeline.ReadBack

/-! The input projection, tile by tile: each block of the result is the product of a block of rows of the input with a block of
    columns of the weight. -/

@[expose] public section

set_option maxRecDepth 16384

noncomputable section

namespace Cert.OfHin

open Idealize.ShloMosaic Idealize.ShloMosaic.TcCoe Idealize.SL.Sem
open Cert.HinIdeal Cert.HinIdeal.Gen Cert.ProdSum

/-- The product of the input with the weight. -/
def prod (x : Vec Ideal S4096x2048 .bf16) (w : Vec Ideal S1x2048x4352 .bf16) : S4096x4352.Idx → EReal :=
  fun i => ∑ k : Fin 2048, x (ix2 (i 0) k) * w (ix3 0 k (i 1))

/-- One tile of the result, at an index. -/
theorem pay_apply (x0 : Vec Ideal S1024x2048 .bf16) (x1 : Vec Ideal S1x2048x2176 .bf16) (r : Fin 1024) (s : Fin 2176) :
    k0_pay1 x0 x1 (ix2 r s) = ∑ k : Fin 2048, x0 (ix2 r k) * x1 (ix3 0 k s) := by
  pointwise [k0_pay1]

/-- What a point leaves in its tile, at an index. -/
theorem out_apply (x0 : Vec Ideal S1024x2048 .bf16) (x1 : Vec Ideal S1x2048x2176 .bf16) (y : S1024x2176.Idx) :
    out0_2 x0 x1 y = ∑ k : Fin 2048, x0 (ix2 (y 0) k) * x1 (ix3 0 k (y 1)) := by
  obtain ⟨r, s, rfl⟩ : ∃ r s, y = ix2 r s := ⟨y 0, y 1, eq_ix2 y⟩
  unfold out0_2
  frame_out
  rw [pay_apply]
  rfl

variable (m : (ℓ : Loc nD τ sig) → Buf (Elt Ideal) ℓ) (c : Dev nD)

/-- Where each point's blocks lie. -/
theorem index : ∀ t : Fin cfg0.N, win0_0.index t = ![t.val / 2, 0] ∧ win0_1.index t = ![0, 0, t.val % 2] ∧ win0_2.index t = ![t.val / 2, t.val % 2] :=
  (by decide +kernel : ∀ t : Fin grid0.N, _)

/-- The block of the input, at an index. -/
theorem blk0 (t : Fin cfg0.N) (r : Fin 1024) (k : Fin 2048) (p) :
    iblk m c 0 t (ix2 r k) = m ((c : Thread nD τ).loc main_arg0) (ix2 ⟨t.val / 2 * 1024 + r.val, p⟩ k) := by
  blk_ext [iblk, V_main_arg0, index t]

/-- The block of the weight, at an index. -/
theorem blk1 (t : Fin cfg0.N) (s : Fin 2176) (k : Fin 2048) (p) :
    iblk m c 1 t (ix3 0 k s) = m ((c : Thread nD τ).loc main_arg1) (ix3 0 k ⟨t.val % 2 * 2176 + s.val, p⟩) := by
  blk_ext [iblk, V_main_arg1, index t]

/-- The whole result. -/
theorem array : (dats m 0 c).arrAt 2 cfg0.N = prod (m ((c : Thread nD τ).loc main_arg0)) (m ((c : Thread nD τ).loc main_arg1)) := by
  refine (dats m 0 c).arrAt_eq_of_covers 2 _ (by decide +kernel) fun t hf y => ?_
  blk_simp
  rw [after0_2, out_apply]
  have e0 : ((win0_2.blk t).view.emb y 0).val = t.val / 2 * 1024 + (y 0).val := by
    blk_simp [index t] <;> omega
  have e1 : ((win0_2.blk t).view.emb y 1).val = t.val % 2 * 2176 + (y 1).val := by
    blk_simp [index t] <;> omega
  unfold prod
  rw [show (win0_2.blk t).view.emb y 0 = ⟨_, e0 ▸ ((win0_2.blk t).view.emb y 0).isLt⟩ from Fin.ext e0,
    show (win0_2.blk t).view.emb y 1 = ⟨_, e1 ▸ ((win0_2.blk t).view.emb y 1).isLt⟩ from Fin.ext e1]
  exact dot_congr (fun k => blk0 m c t _ k _) (fun k => blk1 m c t _ k _)

/-- The reference, at an index. -/
theorem ref_at (x : Vec Ideal S4096x2048 .bf16) (w : Vec Ideal S1x2048x4352 .bf16) (r : Fin 4096) (j : Fin 4352) :
    Cert.RefHinIdeal.Read.val_main_v4 (F := Ideal) x w (ix2 r j) = ∑ k : Fin 2048, x (ix2 r k) * w (ix3 0 k j) := by
  pointwise [Cert.RefHinIdeal.Read.val_main_v4, Cert.RefHinIdeal.Read.val_main_v3, Cert.RefHinIdeal.Read.val_main_v2, Cert.RefHinIdeal.Read.val_main_v1, Cert.RefHinIdeal.Read.val_main_v0]

/-- The reference runs, leaves its arguments alone and every counter at zero. -/
theorem frameRef : Cert.quiescent_RefHinIdeal := fun m g _ =>
  (θ_run Cert.RefHinIdeal.defs _ _).mono (fun r h => ⟨fun c => (h c).2, sem_eq_zero_of_no_sems rfl _⟩) (Cert.RefHinIdeal.Value.run m g)

/-- The kernel's result is the reference's. -/
theorem value : Cert.algebraic_HinIdeal_RefHinIdeal := by
  intro m g m' g' _ hargs
  refine ⟨fun c => (dats m 0 c).arrAt 2 cfg0.N, Cert.HinIdeal.Value.run_blocks m g, ?_⟩
  refine (θ_run Cert.RefHinIdeal.defs _ _).mono (fun r h c => ?_) (Cert.RefHinIdeal.Value.run m' g')
  obtain ⟨h0, h1, h2⟩ := h c
  obtain ⟨a0, a1⟩ := hargs c
  refine ⟨h0.trans ?_, h1, h2⟩
  rw [Cert.RefHinIdeal.Read.val_main_v4_eq, a0, a1]
  refine Eq.trans ?_ (array m c).symm
  funext i
  obtain ⟨r, j, rfl⟩ : ∃ r j, i = ix2 r j := ⟨i 0, i 1, eq_ix2 i⟩
  rw [ref_at]
  rfl

end Cert.OfHin

end
-- ==== Proof.OfMq.lean ====
module

public import proofs.«01_k».proof.Defs
public import proofs.«01_k».proof.Proof.Gen.MqIdeal.Value
public import proofs.«01_k».proof.Proof.Gen.RefMqIdeal.Read
public import proofs.«01_k».proof.Proof.ProdSum
public import Idealize.ShloMosaic.Lib.Quiescent
public import Idealize.ShloMosaic.Lib.Tactic
public import Idealize.ShloMosaic.Lib.Pointwise
public import Idealize.ShloMosaic.Lib.Pipeline.ValueKit
public import Idealize.ShloMosaic.Lib.Pipeline.ReadBack

/-! The memory attention's queries, tile by tile. -/

@[expose] public section

set_option maxRecDepth 16384

noncomputable section

namespace Cert.OfMq

open Idealize.ShloMosaic Idealize.ShloMosaic.TcCoe Idealize.SL.Sem
open Cert.MqIdeal Cert.MqIdeal.Gen Cert.ProdSum

/-- The product of the input with the weight. -/
def prod (x : Vec Ideal S4096x2048 .bf16) (w : Vec Ideal S1x2048x2048 .bf16) : S4096x2048.Idx → EReal :=
  fun i => ∑ k : Fin 2048, x (ix2 (i 0) k) * w (ix3 0 k (i 1))

/-- One tile of the result, at an index. -/
theorem pay_apply (x0 : Vec Ideal S1024x2048 .bf16) (x1 : Vec Ideal S1x2048x1024 .bf16) (r : Fin 1024) (s : Fin 1024) :
    k0_pay1 x0 x1 (ix2 r s) = ∑ k : Fin 2048, x0 (ix2 r k) * x1 (ix3 0 k s) := by
  pointwise [k0_pay1]

/-- What a point leaves in its tile, at an index. -/
theorem out_apply (x0 : Vec Ideal S1024x2048 .bf16) (x1 : Vec Ideal S1x2048x1024 .bf16) (y : S1024x1024.Idx) :
    out0_2 x0 x1 y = ∑ k : Fin 2048, x0 (ix2 (y 0) k) * x1 (ix3 0 k (y 1)) := by
  obtain ⟨r, s, rfl⟩ : ∃ r s, y = ix2 r s := ⟨y 0, y 1, eq_ix2 y⟩
  unfold out0_2
  frame_out
  rw [pay_apply]
  rfl

variable (m : (ℓ : Loc nD τ sig) → Buf (Elt Ideal) ℓ) (c : Dev nD)

/-- Where each point's blocks lie. -/
theorem index : ∀ t : Fin cfg0.N, win0_0.index t = ![t.val / 2, 0] ∧ win0_1.index t = ![0, 0, t.val % 2] ∧ win0_2.index t = ![t.val / 2, t.val % 2] :=
  (by decide +kernel : ∀ t : Fin grid0.N, _)

/-- The block of the input, at an index. -/
theorem blk0 (t : Fin cfg0.N) (r : Fin 1024) (k : Fin 2048) (p) :
    iblk m c 0 t (ix2 r k) = m ((c : Thread nD τ).loc main_arg0) (ix2 ⟨t.val / 2 * 1024 + r.val, p⟩ k) := by
  blk_ext [iblk, V_main_arg0, index t]

/-- The block of the weight, at an index. -/
theorem blk1 (t : Fin cfg0.N) (s : Fin 1024) (k : Fin 2048) (p) :
    iblk m c 1 t (ix3 0 k s) = m ((c : Thread nD τ).loc main_arg1) (ix3 0 k ⟨t.val % 2 * 1024 + s.val, p⟩) := by
  blk_ext [iblk, V_main_arg1, index t]

/-- The whole result. -/
theorem array : (dats m 0 c).arrAt 2 cfg0.N = prod (m ((c : Thread nD τ).loc main_arg0)) (m ((c : Thread nD τ).loc main_arg1)) := by
  refine (dats m 0 c).arrAt_eq_of_covers 2 _ (by decide +kernel) fun t hf y => ?_
  blk_simp
  rw [after0_2, out_apply]
  have e0 : ((win0_2.blk t).view.emb y 0).val = t.val / 2 * 1024 + (y 0).val := by
    blk_simp [index t] <;> omega
  have e1 : ((win0_2.blk t).view.emb y 1).val = t.val % 2 * 1024 + (y 1).val := by
    blk_simp [index t] <;> omega
  unfold prod
  rw [show (win0_2.blk t).view.emb y 0 = ⟨_, e0 ▸ ((win0_2.blk t).view.emb y 0).isLt⟩ from Fin.ext e0,
    show (win0_2.blk t).view.emb y 1 = ⟨_, e1 ▸ ((win0_2.blk t).view.emb y 1).isLt⟩ from Fin.ext e1]
  exact dot_congr (fun k => blk0 m c t _ k _) (fun k => blk1 m c t _ k _)

/-- The reference, at an index. -/
theorem ref_at (x : Vec Ideal S4096x2048 .bf16) (w : Vec Ideal S1x2048x2048 .bf16) (r : Fin 4096) (j : Fin 2048) :
    Cert.RefMqIdeal.Read.val_main_v5 (F := Ideal) x w (ix2 r j) = ∑ k : Fin 2048, x (ix2 r k) * w (ix3 0 k j) := by
  pointwise [Cert.RefMqIdeal.Read.val_main_v5, Cert.RefMqIdeal.Read.val_main_v4, Cert.RefMqIdeal.Read.val_main_v3, Cert.RefMqIdeal.Read.val_main_v2, Cert.RefMqIdeal.Read.val_main_v1, Cert.RefMqIdeal.Read.val_main_v0]

/-- The reference runs, leaves its arguments alone and every counter at zero. -/
theorem frameRef : Cert.quiescent_RefMqIdeal := fun m g _ =>
  (θ_run Cert.RefMqIdeal.defs _ _).mono (fun r h => ⟨fun c => (h c).2, sem_eq_zero_of_no_sems rfl _⟩) (Cert.RefMqIdeal.Value.run m g)

/-- The kernel's result is the reference's. -/
theorem value : Cert.algebraic_MqIdeal_RefMqIdeal := by
  intro m g m' g' _ hargs
  refine ⟨fun c => (dats m 0 c).arrAt 2 cfg0.N, Cert.MqIdeal.Value.run_blocks m g, ?_⟩
  refine (θ_run Cert.RefMqIdeal.defs _ _).mono (fun r h c => ?_) (Cert.RefMqIdeal.Value.run m' g')
  obtain ⟨h0, h1, h2⟩ := h c
  obtain ⟨a0, a1⟩ := hargs c
  refine ⟨h0.trans ?_, h1, h2⟩
  rw [Cert.RefMqIdeal.Read.val_main_v5_eq, a0, a1]
  refine Eq.trans ?_ (array m c).symm
  funext i
  obtain ⟨r, j, rfl⟩ : ∃ r j, i = ix2 r j := ⟨i 0, i 1, eq_ix2 i⟩
  rw [ref_at]
  rfl

end Cert.OfMq

end
-- ==== Proof.OfMkv.lean ====
module

public import proofs.«01_k».proof.Defs
public import proofs.«01_k».proof.Proof.Gen.MkvIdeal.Value
public import proofs.«01_k».proof.Proof.Gen.RefMkvIdeal.Read
public import proofs.«01_k».proof.Proof.ProdSum
public import Idealize.ShloMosaic.Lib.Quiescent
public import Idealize.ShloMosaic.Lib.Tactic
public import Idealize.ShloMosaic.Lib.Pointwise
public import Idealize.ShloMosaic.Lib.Pipeline.ValueKit
public import Idealize.ShloMosaic.Lib.Pipeline.ReadBack

/-! The memory attention's keys and values, tile by tile: a tile for each of the four shards of the weight's columns. -/

@[expose] public section

set_option maxRecDepth 16384

noncomputable section

namespace Cert.OfMkv

open Idealize.ShloMosaic Idealize.ShloMosaic.TcCoe Idealize.SL.Sem
open Cert.MkvIdeal Cert.MkvIdeal.Gen Cert.ProdSum

/-- The shard a column lies in, and its place there. -/
def shard (j : Fin 4096) : Fin 4 := ⟨j.val / 1024, by omega⟩
def place (j : Fin 4096) : Fin 1024 := ⟨j.val % 1024, by omega⟩

/-- The product of the input with the weight. -/
def prod (x : Vec Ideal S256x2048 .bf16) (w : Vec Ideal S4x2048x1024 .bf16) : S256x4096.Idx → EReal :=
  fun i => ∑ k : Fin 2048, x (ix2 (i 0) k) * w (ix3 (shard (i 1)) k (place (i 1)))

/-- One tile of the result, at an index. -/
theorem pay_apply (x0 : Vec Ideal S256x2048 .bf16) (x1 : Vec Ideal S1x2048x1024 .bf16) (r : Fin 256) (s : Fin 1024) :
    k0_pay1 x0 x1 (ix2 r s) = ∑ k : Fin 2048, x0 (ix2 r k) * x1 (ix3 0 k s) := by
  pointwise [k0_pay1]

/-- What a point leaves in its tile, at an index. -/
theorem out_apply (x0 : Vec Ideal S256x2048 .bf16) (x1 : Vec Ideal S1x2048x1024 .bf16) (y : S256x1024.Idx) :
    out0_2 x0 x1 y = ∑ k : Fin 2048, x0 (ix2 (y 0) k) * x1 (ix3 0 k (y 1)) := by
  obtain ⟨r, s, rfl⟩ : ∃ r s, y = ix2 r s := ⟨y 0, y 1, eq_ix2 y⟩
  unfold out0_2
  frame_out
  rw [pay_apply]
  rfl

variable (m : (ℓ : Loc nD τ sig) → Buf (Elt Ideal) ℓ) (c : Dev nD)

/-- Where each point's blocks lie. -/
theorem index : ∀ t : Fin cfg0.N, win0_0.index t = ![0, 0] ∧ win0_1.index t = ![t.val, 0, 0] ∧ win0_2.index t = ![0, t.val] :=
  (by decide +kernel : ∀ t : Fin grid0.N, _)

/-- The block of the input, at an index. -/
theorem blk0 (t : Fin cfg0.N) (r : Fin 256) (k : Fin 2048) (p) :
    iblk m c 0 t (ix2 r k) = m ((c : Thread nD τ).loc main_arg0) (ix2 ⟨0 * 256 + r.val, p⟩ k) := by
  blk_ext [iblk, V_main_arg0, index t]

/-- The block of the weight, at an index. -/
theorem blk1 (t : Fin cfg0.N) (s : Fin 1024) (k : Fin 2048) (p q) :
    iblk m c 1 t (ix3 0 k s) = m ((c : Thread nD τ).loc main_arg1) (ix3 ⟨t.val, q⟩ k ⟨0 * 1024 + s.val, p⟩) := by
  blk_ext [iblk, V_main_arg1, index t]

/-- The whole result. -/
theorem array : (dats m 0 c).arrAt 2 cfg0.N = prod (m ((c : Thread nD τ).loc main_arg0)) (m ((c : Thread nD τ).loc main_arg1)) := by
  refine (dats m 0 c).arrAt_eq_of_covers 2 _ (by decide +kernel) fun t hf y => ?_
  blk_simp
  rw [after0_2, out_apply]
  have e0 : ((win0_2.blk t).view.emb y 0).val = 0 * 256 + (y 0).val := by
    blk_simp [index t] <;> omega
  have e1 : ((win0_2.blk t).view.emb y 1).val = t.val * 1024 + (y 1).val := by
    blk_simp [index t] <;> omega
  have hy : (y 1).val < 1024 := (y 1).isLt
  have es : (shard ((win0_2.blk t).view.emb y 1)).val = t.val := by
    show ((win0_2.blk t).view.emb y 1).val / 1024 = _
    rw [e1]; omega
  have ep : (place ((win0_2.blk t).view.emb y 1)).val = 0 * 1024 + (y 1).val := by
    show ((win0_2.blk t).view.emb y 1).val % 1024 = _
    rw [e1]; omega
  unfold prod
  rw [show (win0_2.blk t).view.emb y 0 = ⟨_, e0 ▸ ((win0_2.blk t).view.emb y 0).isLt⟩ from Fin.ext e0,
    show shard ((win0_2.blk t).view.emb y 1) = ⟨_, es ▸ (shard ((win0_2.blk t).view.emb y 1)).isLt⟩ from Fin.ext es,
    show place ((win0_2.blk t).view.emb y 1) = ⟨_, ep ▸ (place ((win0_2.blk t).view.emb y 1)).isLt⟩ from Fin.ext ep]
  exact dot_congr (fun k => blk0 m c t _ k _) (fun k => blk1 m c t _ k _ _)

/-- The reference, at an index. -/
theorem ref_at (x : Vec Ideal S256x2048 .bf16) (w : Vec Ideal S4x2048x1024 .bf16) (r : Fin 256) (j : Fin 4096) :
    Cert.RefMkvIdeal.Read.val_main_v5 (F := Ideal) x w (ix2 r j) = ∑ k : Fin 2048, x (ix2 r k) * w (ix3 (shard j) k (place j)) := by
  pointwise [Cert.RefMkvIdeal.Read.val_main_v5, Cert.RefMkvIdeal.Read.val_main_v4, Cert.RefMkvIdeal.Read.val_main_v3, Cert.RefMkvIdeal.Read.val_main_v2, Cert.RefMkvIdeal.Read.val_main_v1, Cert.RefMkvIdeal.Read.val_main_v0]
  rfl

/-- The reference runs, leaves its arguments alone and every counter at zero. -/
theorem frameRef : Cert.quiescent_RefMkvIdeal := fun m g _ =>
  (θ_run Cert.RefMkvIdeal.defs _ _).mono (fun r h => ⟨fun c => (h c).2, sem_eq_zero_of_no_sems rfl _⟩) (Cert.RefMkvIdeal.Value.run m g)

/-- The kernel's result is the reference's. -/
theorem value : Cert.algebraic_MkvIdeal_RefMkvIdeal := by
  intro m g m' g' _ hargs
  refine ⟨fun c => (dats m 0 c).arrAt 2 cfg0.N, Cert.MkvIdeal.Value.run_blocks m g, ?_⟩
  refine (θ_run Cert.RefMkvIdeal.defs _ _).mono (fun r h c => ?_) (Cert.RefMkvIdeal.Value.run m' g')
  obtain ⟨h0, h1, h2⟩ := h c
  obtain ⟨a0, a1⟩ := hargs c
  refine ⟨h0.trans ?_, h1, h2⟩
  rw [Cert.RefMkvIdeal.Read.val_main_v5_eq, a0, a1]
  refine Eq.trans ?_ (array m c).symm
  funext i
  obtain ⟨r, j, rfl⟩ : ∃ r j, i = ix2 r j := ⟨i 0, i 1, eq_ix2 i⟩
  rw [ref_at]
  rfl

end Cert.OfMkv

end
-- ==== Proof.OfUp.lean ====
module

public import proofs.«01_k».proof.Defs
public import proofs.«01_k».proof.Proof.Gen.UpIdeal.Value
public import proofs.«01_k».proof.Proof.Gen.RefUpIdeal.Read
public import proofs.«01_k».proof.Proof.ProdSum
public import Idealize.ShloMosaic.Lib.Quiescent
public import Idealize.ShloMosaic.Lib.Tactic
public import Idealize.ShloMosaic.Lib.Pointwise
public import Idealize.ShloMosaic.Lib.Pipeline.ValueKit
public import Idealize.ShloMosaic.Lib.Pipeline.ReadBack

/-! The up projection, tile by tile, in four shards of the weight's columns: the product, and the square of its positive part. -/

@[expose] public section

set_option maxRecDepth 16384

noncomputable section

namespace Cert.OfUp

open Idealize.ShloMosaic Idealize.ShloMosaic.TcCoe Idealize.SL.Sem
open Cert.UpIdeal Cert.UpIdeal.Gen Cert.ProdSum

/-- The shard a column lies in, and its place there. -/
def shard (j : Fin 8192) : Fin 4 := ⟨j.val / 2048, by omega⟩
def place (j : Fin 8192) : Fin 2048 := ⟨j.val % 2048, by omega⟩

/-- The product of the input with the weight. -/
def prod (x : Vec Ideal S4096x2048 .bf16) (w : Vec Ideal S4x2048x2048 .bf16) : S4096x8192.Idx → EReal :=
  fun i => ∑ k : Fin 2048, x (ix2 (i 0) k) * w (ix3 (shard (i 1)) k (place (i 1)))

/-- The square of the positive part. -/
abbrev sq (u : EReal) : EReal := max u 0 * max u 0

/-- One tile's product, at an index. -/
theorem pay_apply (x0 : Vec Ideal S1024x2048 .bf16) (x1 : Vec Ideal S1x2048x1024 .bf16) (r s : Fin 1024) :
    k0_pay2 x0 x1 (ix2 r s) = ∑ k : Fin 2048, x0 (ix2 r k) * x1 (ix3 0 k s) := by
  pointwise [k0_pay2, k0_pay1]

/-- One tile's squares, at an index. -/
theorem pay_sq (x0 : Vec Ideal S1024x2048 .bf16) (x1 : Vec Ideal S1x2048x1024 .bf16) (r s : Fin 1024) :
    k0_pay3 x0 x1 (ix2 r s) = sq (∑ k : Fin 2048, x0 (ix2 r k) * x1 (ix3 0 k s)) := by
  pointwise [k0_pay3, k0_pay1]

/-- What a point leaves in its tile of products, at an index. -/
theorem out_apply (x0 : Vec Ideal S1024x2048 .bf16) (x1 : Vec Ideal S1x2048x1024 .bf16) (y : S1024x1024.Idx) :
    out0_2 x0 x1 y = ∑ k : Fin 2048, x0 (ix2 (y 0) k) * x1 (ix3 0 k (y 1)) := by
  obtain ⟨r, s, rfl⟩ : ∃ r s, y = ix2 r s := ⟨y 0, y 1, eq_ix2 y⟩
  unfold out0_2
  frame_out
  rw [pay_apply]
  rfl

/-- What a point leaves in its tile of squares, at an index. -/
theorem out_sq (x0 : Vec Ideal S1024x2048 .bf16) (x1 : Vec Ideal S1x2048x1024 .bf16) (y : S1024x1024.Idx) :
    out0_3 x0 x1 y = sq (∑ k : Fin 2048, x0 (ix2 (y 0) k) * x1 (ix3 0 k (y 1))) := by
  obtain ⟨r, s, rfl⟩ : ∃ r s, y = ix2 r s := ⟨y 0, y 1, eq_ix2 y⟩
  unfold out0_3
  frame_out
  rw [pay_sq]
  rfl

variable (m : (ℓ : Loc nD τ sig) → Buf (Elt Ideal) ℓ) (c : Dev nD)

/-- Where each point's blocks lie. -/
theorem index : ∀ t : Fin cfg0.N, win0_0.index t = ![t.val / 8, 0] ∧ win0_1.index t = ![t.val % 8 / 2, 0, t.val % 2] ∧ win0_2.index t = ![t.val / 8, t.val % 8] ∧ win0_3.index t = ![t.val / 8, t.val % 8] :=
  (by decide +kernel : ∀ t : Fin grid0.N, _)

/-- The block of the input, at an index. -/
theorem blk0 (t : Fin cfg0.N) (r : Fin 1024) (k : Fin 2048) (p) :
    iblk m c 0 t (ix2 r k) = m ((c : Thread nD τ).loc main_arg0) (ix2 ⟨t.val / 8 * 1024 + r.val, p⟩ k) := by
  blk_ext [iblk, V_main_arg0, index t]

/-- The block of the weight, at an index. -/
theorem blk1 (t : Fin cfg0.N) (s : Fin 1024) (k : Fin 2048) (p q) :
    iblk m c 1 t (ix3 0 k s) = m ((c : Thread nD τ).loc main_arg1) (ix3 ⟨t.val % 8 / 2, q⟩ k ⟨t.val % 2 * 1024 + s.val, p⟩) := by
  blk_ext [iblk, V_main_arg1, index t]

/-- The whole result. -/
theorem array : (dats m 0 c).arrAt 2 cfg0.N = prod (m ((c : Thread nD τ).loc main_arg0)) (m ((c : Thread nD τ).loc main_arg1)) := by
  refine (dats m 0 c).arrAt_eq_of_covers 2 _ (by decide +kernel) fun t hf y => ?_
  blk_simp
  rw [after0_2, out_apply]
  have e0 : ((win0_2.blk t).view.emb y 0).val = t.val / 8 * 1024 + (y 0).val := by
    blk_simp [index t] <;> omega
  have e1 : ((win0_2.blk t).view.emb y 1).val = t.val % 8 * 1024 + (y 1).val := by
    blk_simp [index t] <;> omega
  have hy : (y 1).val < 1024 := (y 1).isLt
  have es : (shard ((win0_2.blk t).view.emb y 1)).val = t.val % 8 / 2 := by
    show ((win0_2.blk t).view.emb y 1).val / 2048 = _
    rw [e1]; omega
  have ep : (place ((win0_2.blk t).view.emb y 1)).val = t.val % 2 * 1024 + (y 1).val := by
    show ((win0_2.blk t).view.emb y 1).val % 2048 = _
    rw [e1]; omega
  unfold prod
  rw [show (win0_2.blk t).view.emb y 0 = ⟨_, e0 ▸ ((win0_2.blk t).view.emb y 0).isLt⟩ from Fin.ext e0,
    show shard ((win0_2.blk t).view.emb y 1) = ⟨_, es ▸ (shard ((win0_2.blk t).view.emb y 1)).isLt⟩ from Fin.ext es,
    show place ((win0_2.blk t).view.emb y 1) = ⟨_, ep ▸ (place ((win0_2.blk t).view.emb y 1)).isLt⟩ from Fin.ext ep]
  exact dot_congr (fun k => blk0 m c t _ k _) (fun k => blk1 m c t _ k _ _)

/-- The whole result of squares. -/
theorem array_sq : (dats m 0 c).arrAt 3 cfg0.N = fun i => sq (prod (m ((c : Thread nD τ).loc main_arg0)) (m ((c : Thread nD τ).loc main_arg1)) i) := by
  refine (dats m 0 c).arrAt_eq_of_covers 3 _ (by decide +kernel) fun t hf y => ?_
  blk_simp
  rw [after0_3, out_sq]
  have e0 : ((win0_3.blk t).view.emb y 0).val = t.val / 8 * 1024 + (y 0).val := by
    blk_simp [index t] <;> omega
  have e1 : ((win0_3.blk t).view.emb y 1).val = t.val % 8 * 1024 + (y 1).val := by
    blk_simp [index t] <;> omega
  have hy : (y 1).val < 1024 := (y 1).isLt
  have es : (shard ((win0_3.blk t).view.emb y 1)).val = t.val % 8 / 2 := by
    show ((win0_3.blk t).view.emb y 1).val / 2048 = _
    rw [e1]; omega
  have ep : (place ((win0_3.blk t).view.emb y 1)).val = t.val % 2 * 1024 + (y 1).val := by
    show ((win0_3.blk t).view.emb y 1).val % 2048 = _
    rw [e1]; omega
  unfold prod
  rw [show (win0_3.blk t).view.emb y 0 = ⟨_, e0 ▸ ((win0_3.blk t).view.emb y 0).isLt⟩ from Fin.ext e0,
    show shard ((win0_3.blk t).view.emb y 1) = ⟨_, es ▸ (shard ((win0_3.blk t).view.emb y 1)).isLt⟩ from Fin.ext es,
    show place ((win0_3.blk t).view.emb y 1) = ⟨_, ep ▸ (place ((win0_3.blk t).view.emb y 1)).isLt⟩ from Fin.ext ep]
  exact congrArg sq <| dot_congr (fun k => blk0 m c t _ k _) (fun k => blk1 m c t _ k _ _)

/-- The reference's product, at an index. -/
theorem ref_at (x : Vec Ideal S4096x2048 .bf16) (w : Vec Ideal S4x2048x2048 .bf16) (r : Fin 4096) (j : Fin 8192) :
    Cert.RefUpIdeal.Read.val_main_v4 (F := Ideal) x w (ix2 r j) = ∑ k : Fin 2048, x (ix2 r k) * w (ix3 (shard j) k (place j)) := by
  pointwise [Cert.RefUpIdeal.Read.val_main_v4, Cert.RefUpIdeal.Read.val_main_v3, Cert.RefUpIdeal.Read.val_main_v2, Cert.RefUpIdeal.Read.val_main_v1, Cert.RefUpIdeal.Read.val_main_v0]
  rfl

/-- The reference's square, at an index. -/
theorem ref_sq (x : Vec Ideal S4096x2048 .bf16) (w : Vec Ideal S4x2048x2048 .bf16) (r : Fin 4096) (j : Fin 8192) :
    Cert.RefUpIdeal.Read.val_main_v8 (F := Ideal) x w (ix2 r j) = sq (Cert.RefUpIdeal.Read.val_main_v4 (F := Ideal) x w (ix2 r j)) := by
  pointwise [Cert.RefUpIdeal.Read.val_main_v8, Cert.RefUpIdeal.Read.val_main_v7, Cert.RefUpIdeal.Read.val_main_v5, Cert.RefUpIdeal.Read.val_main_call0_v0, Cert.RefUpIdeal.Read.val_main_call0_cst]

/-- The reference runs, leaves its arguments alone and every counter at zero. -/
theorem frameRef : Cert.quiescent_RefUpIdeal := fun m g _ =>
  (θ_run Cert.RefUpIdeal.defs _ _).mono (fun r h => ⟨fun c => (h c).2.2, sem_eq_zero_of_no_sems rfl _⟩) (Cert.RefUpIdeal.Value.run m g)

/-- The kernel's results are the reference's. -/
theorem value : Cert.algebraic_UpIdeal_RefUpIdeal := by
  intro m g m' g' _ hargs
  refine ⟨fun c => (dats m 0 c).arrAt 2 cfg0.N, fun c => (dats m 0 c).arrAt 3 cfg0.N, Cert.UpIdeal.Value.run_blocks m g, ?_⟩
  refine (θ_run Cert.RefUpIdeal.defs _ _).mono (fun r h c => ?_) (Cert.RefUpIdeal.Value.run m' g')
  obtain ⟨h0, h1, h2, h3⟩ := h c
  obtain ⟨a0, a1⟩ := hargs c
  refine ⟨h0.trans ?_, h1.trans ?_, h2, h3⟩
  · rw [Cert.RefUpIdeal.Read.val_main_v6_eq, a0, a1]
    refine Eq.trans ?_ (array m c).symm
    funext i
    obtain ⟨r, j, rfl⟩ : ∃ r j, i = ix2 r j := ⟨i 0, i 1, eq_ix2 i⟩
    exact ref_at _ _ r j
  · rw [Cert.RefUpIdeal.Read.val_main_v8_eq, a0, a1]
    refine Eq.trans ?_ (array_sq m c).symm
    funext i
    obtain ⟨r, j, rfl⟩ : ∃ r j, i = ix2 r j := ⟨i 0, i 1, eq_ix2 i⟩
    rw [ref_sq, ref_at]
    rfl

end Cert.OfUp

end
-- ==== Proof.NormMath.lean ====
module

public import Idealize.ShloMosaic.PureOps.Ideal.Laws
public import Idealize.ShloMosaic.Lib.Pipeline.ValueKit

/-! A row brought to mean zero and variance one, over the extended reals. -/

@[expose] public section

noncomputable section

namespace Cert.NormMath

open Idealize.ShloMosaic

/-- The mean of a row of 2048. -/
def mean (z : Fin 2048 → EReal) : EReal := Ideal.div (∑ k, z k) (Ideal.ofBits .f32 0x45000000#32)

/-- A row less its mean. -/
def centred (z : Fin 2048 → EReal) (j : Fin 2048) : EReal := z j - mean z

/-- What a row's deviations are divided by, inverted. -/
def scale (z : Fin 2048 → EReal) : EReal :=
  Ideal.rsqrt (mean (fun k => centred z k * centred z k) + Ideal.ofBits .f32 0x3727C5AC#32)

/-- An entry of a row, normalised, with its gain and offset. -/
def normed (z : Fin 2048 → EReal) (g b : EReal) (j : Fin 2048) : EReal := centred z j * scale z * g + b

end Cert.NormMath

end
-- ==== Proof.OfOutLn.lean ====
module

public import proofs.«01_k».proof.Defs
public import proofs.«01_k».proof.Proof.Gen.OutLnIdeal.Value
public import proofs.«01_k».proof.Proof.Gen.RefOutLnIdeal.Read
public import proofs.«01_k».proof.Proof.ProdSum
public import proofs.«01_k».proof.Proof.NormMath
public import Idealize.ShloMosaic.Lib.Quiescent
public import Idealize.ShloMosaic.Lib.Tactic
public import Idealize.ShloMosaic.Lib.Pointwise
public import Idealize.ShloMosaic.Lib.Pipeline.ValueKit
public import Idealize.ShloMosaic.Lib.Pipeline.ReadBack

/-! The output projection with the residual and the norm after it, a block of whole rows at each point. -/

@[expose] public section

set_option maxRecDepth 16384

noncomputable section

namespace Cert.OfOutLn

open Idealize.ShloMosaic Idealize.ShloMosaic.TcCoe Idealize.SL.Sem
open Cert.OutLnIdeal Cert.OutLnIdeal.Gen Cert.ProdSum Cert.NormMath

/-- The sublayer's residual, scaled, and the product. -/
def sum {n : ℕ} (x : Fin n → Fin 2048 → EReal) (w : Fin 2048 → Fin 2048 → EReal) (z : Fin n → Fin 2048 → EReal) (r : Fin n) (j : Fin 2048) : EReal :=
  Ideal.ofBits .f32 0x3FD744FD#32 * z r j + ∑ k : Fin 2048, x r k * w k j

theorem pay1_apply (x0 : Vec Ideal S256x2048 .bf16) (x1 : Vec Ideal S2048x2048 .bf16) (x2 : Vec Ideal S256x2048 .f32) (r : Fin 256) (j : Fin 2048) :
    k0_pay1 x0 x1 x2 (ix2 r j) = sum (fun r k => x0 (ix2 r k)) (fun k j => x1 (ix2 k j)) (fun r j => x2 (ix2 r j)) r j := by
  unfold sum
  pointwise [k0_pay1]

theorem pay2_apply (x0 : Vec Ideal S256x2048 .bf16) (x1 : Vec Ideal S2048x2048 .bf16) (x2 : Vec Ideal S256x2048 .f32) (x3 x4 : Vec Ideal S1x2048 .f32) (r : Fin 256) (j : Fin 2048) :
    k0_pay2 x0 x1 x2 x3 x4 (ix2 r j) = normed (fun j => k0_pay1 x0 x1 x2 (ix2 r j)) (x3 (ix2 0 j)) (x4 (ix2 0 j)) j := by
  unfold normed scale centred mean
  pointwise [k0_pay2]

theorem pay3_apply (x0 : Vec Ideal S256x2048 .bf16) (x1 : Vec Ideal S2048x2048 .bf16) (x2 : Vec Ideal S256x2048 .f32) (x3 x4 : Vec Ideal S1x2048 .f32) (y : S256x2048.Idx) :
    k0_pay3 x0 x1 x2 x3 x4 y = k0_pay2 x0 x1 x2 x3 x4 y := by
  obtain ⟨r, s, rfl⟩ : ∃ r s, y = ix2 r s := ⟨y 0, y 1, eq_ix2 y⟩
  pointwise [k0_pay3]

/-- What a point leaves in its blocks. -/
theorem out5_apply (x0 : Vec Ideal S256x2048 .bf16) (x1 : Vec Ideal S2048x2048 .bf16) (x2 : Vec Ideal S256x2048 .f32) (x3 x4 : Vec Ideal S1x2048 .f32) (y : S256x2048.Idx) :
    out0_5 x0 x1 x2 x3 x4 y = k0_pay1 x0 x1 x2 y := by
  unfold out0_5
  frame_out

theorem out6_apply (x0 : Vec Ideal S256x2048 .bf16) (x1 : Vec Ideal S2048x2048 .bf16) (x2 : Vec Ideal S256x2048 .f32) (x3 x4 : Vec Ideal S1x2048 .f32) (y : S256x2048.Idx) :
    out0_6 x0 x1 x2 x3 x4 y = k0_pay2 x0 x1 x2 x3 x4 y := by
  unfold out0_6
  frame_out

theorem out7_apply (x0 : Vec Ideal S256x2048 .bf16) (x1 : Vec Ideal S2048x2048 .bf16) (x2 : Vec Ideal S256x2048 .f32) (x3 x4 : Vec Ideal S1x2048 .f32) (y : S256x2048.Idx) :
    out0_7 x0 x1 x2 x3 x4 y = k0_pay2 x0 x1 x2 x3 x4 y := by
  unfold out0_7
  frame_out
  exact pay3_apply ..

variable (m : (ℓ : Loc nD τ sig) → Buf (Elt Ideal) ℓ) (c : Dev nD)

/-- Where each point's blocks lie. -/
theorem index : ∀ t : Fin cfg0.N, win0_0.index t = ![t.val, 0] ∧ win0_1.index t = ![0, 0] ∧ win0_2.index t = ![t.val, 0] ∧ win0_3.index t = ![0, 0] ∧ win0_4.index t = ![0, 0] ∧
    win0_5.index t = ![t.val, 0] ∧ win0_6.index t = ![t.val, 0] ∧ win0_7.index t = ![t.val, 0] :=
  (by decide +kernel : ∀ t : Fin grid0.N, _)

theorem blk0 (t : Fin cfg0.N) (r : Fin 256) (k : Fin 2048) (p) :
    iblk m c 0 t (ix2 r k) = m ((c : Thread nD τ).loc main_arg0) (ix2 ⟨t.val * 256 + r.val, p⟩ k) := by
  blk_ext [iblk, V_main_arg0, index t]

theorem blk1 (t : Fin cfg0.N) (k j : Fin 2048) :
    iblk m c 1 t (ix2 k j) = m ((c : Thread nD τ).loc main_arg1) (ix2 k j) := by
  blk_ext [iblk, V_main_arg1, index t]

theorem blk2 (t : Fin cfg0.N) (r : Fin 256) (k : Fin 2048) (p) :
    iblk m c 2 t (ix2 r k) = m ((c : Thread nD τ).loc main_arg2) (ix2 ⟨t.val * 256 + r.val, p⟩ k) := by
  blk_ext [iblk, V_main_arg2, index t]

theorem blk3 (t : Fin cfg0.N) (j : Fin 2048) :
    iblk m c 3 t (ix2 0 j) = m ((c : Thread nD τ).loc main_arg3) (ix2 0 j) := by
  blk_ext [iblk, V_main_arg3, index t]

theorem blk4 (t : Fin cfg0.N) (j : Fin 2048) :
    iblk m c 4 t (ix2 0 j) = m ((c : Thread nD τ).loc main_arg4) (ix2 0 j) := by
  blk_ext [iblk, V_main_arg4, index t]

/-- The sum before the norm, a row at a time. -/
def pre (r : Fin 4096) (j : Fin 2048) : EReal :=
  sum (n := 4096) (fun r k => m ((c : Thread nD τ).loc main_arg0) (ix2 r k)) (fun k j => m ((c : Thread nD τ).loc main_arg1) (ix2 k j))
    (fun r j => m ((c : Thread nD τ).loc main_arg2) (ix2 r j)) r j

/-- The normalised sum. -/
def post (i : S4096x2048.Idx) : EReal :=
  normed (pre m c (i 0)) (m ((c : Thread nD τ).loc main_arg3) (ix2 0 (i 1))) (m ((c : Thread nD τ).loc main_arg4) (ix2 0 (i 1))) (i 1)

/-- A row of a point's block before the norm. -/
theorem row (t : Fin cfg0.N) (r : Fin 256) (j : Fin 2048) (p) :
    k0_pay1 (iblk m c 0 t) (iblk m c 1 t) (iblk m c 2 t) (ix2 r j) = pre m c ⟨t.val * 256 + r.val, p⟩ j := by
  rw [pay1_apply]
  unfold pre sum
  exact congrArg₂ (· + ·) (congrArg _ (blk2 m c t r j p)) (dot_congr (fun k => blk0 m c t r k p) (fun k => blk1 m c t k j))

/-- An entry of a point's block after the norm. -/
theorem entry (t : Fin cfg0.N) (y : S256x2048.Idx) (p) :
    k0_pay2 (iblk m c 0 t) (iblk m c 1 t) (iblk m c 2 t) (iblk m c 3 t) (iblk m c 4 t) y = post m c (ix2 ⟨t.val * 256 + (y 0).val, p⟩ (y 1)) := by
  obtain ⟨r, j, rfl⟩ : ∃ r j, y = ix2 r j := ⟨y 0, y 1, eq_ix2 y⟩
  rw [pay2_apply, blk3, blk4, show (fun j => k0_pay1 (iblk m c 0 t) (iblk m c 1 t) (iblk m c 2 t) (ix2 r j)) = pre m c ⟨t.val * 256 + r.val, p⟩ from
    funext fun j => row m c t r j p]
  rfl

/-- The sums, whole. -/
theorem array5 : (dats m 0 c).arrAt 5 cfg0.N = fun i => pre m c (i 0) (i 1) := by
  refine (dats m 0 c).arrAt_eq_of_covers 5 _ (by decide +kernel) fun t hf y => ?_
  blk_simp
  have e0 : ((win0_5.blk t).view.emb y 0).val = t.val * 256 + (y 0).val := by
    blk_simp [index t] <;> omega
  have e1 : ((win0_5.blk t).view.emb y 1).val = (y 1).val := by
    blk_simp [index t] <;> omega
  have e : (win0_5.blk t).view.emb y = ix2 ⟨t.val * 256 + (y 0).val, e0 ▸ ((win0_5.blk t).view.emb y 0).isLt⟩ (y 1) :=
    (eq_ix2 _).trans (congrArg₂ ix2 (Fin.ext e0) (Fin.ext e1))
  rw [after0_5, out5_apply, e]
  obtain ⟨r, j, rfl⟩ : ∃ r j, y = ix2 r j := ⟨y 0, y 1, eq_ix2 y⟩
  exact row m c t r j _

/-- The normalised sums, whole. -/
theorem array6 : (dats m 0 c).arrAt 6 cfg0.N = post m c := by
  refine (dats m 0 c).arrAt_eq_of_covers 6 _ (by decide +kernel) fun t hf y => ?_
  blk_simp
  have e0 : ((win0_6.blk t).view.emb y 0).val = t.val * 256 + (y 0).val := by
    blk_simp [index t] <;> omega
  have e1 : ((win0_6.blk t).view.emb y 1).val = (y 1).val := by
    blk_simp [index t] <;> omega
  have e : (win0_6.blk t).view.emb y = ix2 ⟨t.val * 256 + (y 0).val, e0 ▸ ((win0_6.blk t).view.emb y 0).isLt⟩ (y 1) :=
    (eq_ix2 _).trans (congrArg₂ ix2 (Fin.ext e0) (Fin.ext e1))
  rw [after0_6, out6_apply, e]
  exact entry m c t y _

/-- The normalised sums in the lower precision, whole. -/
theorem array7 : (dats m 0 c).arrAt 7 cfg0.N = post m c := by
  refine (dats m 0 c).arrAt_eq_of_covers 7 _ (by decide +kernel) fun t hf y => ?_
  blk_simp
  have e0 : ((win0_7.blk t).view.emb y 0).val = t.val * 256 + (y 0).val := by
    blk_simp [index t] <;> omega
  have e1 : ((win0_7.blk t).view.emb y 1).val = (y 1).val := by
    blk_simp [index t] <;> omega
  have e : (win0_7.blk t).view.emb y = ix2 ⟨t.val * 256 + (y 0).val, e0 ▸ ((win0_7.blk t).view.emb y 0).isLt⟩ (y 1) :=
    (eq_ix2 _).trans (congrArg₂ ix2 (Fin.ext e0) (Fin.ext e1))
  rw [after0_7, out7_apply, e]
  exact entry m c t y _

/-- The reference's sum, at an index. -/
theorem ref5_at (x : Vec Ideal S4096x2048 .bf16) (w : Vec Ideal S2048x2048 .bf16) (z : Vec Ideal S4096x2048 .f32) (r : Fin 4096) (j : Fin 2048) :
    Cert.RefOutLnIdeal.Read.val_main_v5 (F := Ideal) x w z (ix2 r j) = sum (fun r k => x (ix2 r k)) (fun k j => w (ix2 k j)) (fun r j => z (ix2 r j)) r j := by
  unfold sum
  pointwise [Cert.RefOutLnIdeal.Read.val_main_v5, Cert.RefOutLnIdeal.Read.val_main_v4, Cert.RefOutLnIdeal.Read.val_main_v3, Cert.RefOutLnIdeal.Read.val_main_v2, Cert.RefOutLnIdeal.Read.val_main_v1, Cert.RefOutLnIdeal.Read.val_main_v0, Cert.RefOutLnIdeal.Read.val_main_cst]

/-- The reference's norm, at an index. -/
theorem ref27_at (x : Vec Ideal S4096x2048 .bf16) (w : Vec Ideal S2048x2048 .bf16) (z : Vec Ideal S4096x2048 .f32) (g b : Vec Ideal S1x2048 .f32) (r : Fin 4096) (j : Fin 2048) :
    Cert.RefOutLnIdeal.Read.val_main_v27 (F := Ideal) x w z g b (ix2 r j) = normed (fun j => Cert.RefOutLnIdeal.Read.val_main_v5 (F := Ideal) x w z (ix2 r j)) (g (ix2 0 j)) (b (ix2 0 j)) j := by
  unfold normed scale centred mean
  pointwise [Cert.RefOutLnIdeal.Read.val_main_v27, Cert.RefOutLnIdeal.Read.val_main_v26, Cert.RefOutLnIdeal.Read.val_main_v25, Cert.RefOutLnIdeal.Read.val_main_v24, Cert.RefOutLnIdeal.Read.val_main_v23, Cert.RefOutLnIdeal.Read.val_main_v22, Cert.RefOutLnIdeal.Read.val_main_v21, Cert.RefOutLnIdeal.Read.val_main_v20, Cert.RefOutLnIdeal.Read.val_main_v19, Cert.RefOutLnIdeal.Read.val_main_v18, Cert.RefOutLnIdeal.Read.val_main_v17, Cert.RefOutLnIdeal.Read.val_main_v16, Cert.RefOutLnIdeal.Read.val_main_v15, Cert.RefOutLnIdeal.Read.val_main_v14, Cert.RefOutLnIdeal.Read.val_main_v13, Cert.RefOutLnIdeal.Read.val_main_v12, Cert.RefOutLnIdeal.Read.val_main_v11, Cert.RefOutLnIdeal.Read.val_main_v10, Cert.RefOutLnIdeal.Read.val_main_v9, Cert.RefOutLnIdeal.Read.val_main_v8, Cert.RefOutLnIdeal.Read.val_main_v7, Cert.RefOutLnIdeal.Read.val_main_v6, Cert.RefOutLnIdeal.Read.val_main_cst_0, Cert.RefOutLnIdeal.Read.val_main_cst_1, Cert.RefOutLnIdeal.Read.val_main_cst_2, Cert.RefOutLnIdeal.Read.val_main_cst_3, Cert.RefOutLnIdeal.Read.val_main_cst_4]

/-- The reference's norm in the lower precision. -/
theorem ref28_at (x : Vec Ideal S4096x2048 .bf16) (w : Vec Ideal S2048x2048 .bf16) (z : Vec Ideal S4096x2048 .f32) (g b : Vec Ideal S1x2048 .f32) (r : Fin 4096) (j : Fin 2048) :
    Cert.RefOutLnIdeal.Read.val_main_v28 (F := Ideal) x w z g b (ix2 r j) = Cert.RefOutLnIdeal.Read.val_main_v27 (F := Ideal) x w z g b (ix2 r j) := by
  pointwise [Cert.RefOutLnIdeal.Read.val_main_v28]

/-- The reference's norm is the kernel's. -/
theorem ref_post (r : Fin 4096) (j : Fin 2048) :
    Cert.RefOutLnIdeal.Read.val_main_v27 (F := Ideal) (m ((c : Thread nD τ).loc main_arg0)) (m ((c : Thread nD τ).loc main_arg1)) (m ((c : Thread nD τ).loc main_arg2))
      (m ((c : Thread nD τ).loc main_arg3)) (m ((c : Thread nD τ).loc main_arg4)) (ix2 r j) = post m c (ix2 r j) := by
  rw [ref27_at]
  exact congrArg (fun f => normed f _ _ j) (funext fun j => ref5_at _ _ _ r j)

/-- The reference runs, leaves its arguments alone and every counter at zero. -/
theorem frameRef : Cert.quiescent_RefOutLnIdeal := fun m g _ =>
  (θ_run Cert.RefOutLnIdeal.defs _ _).mono (fun r h => ⟨fun c => (h c).2.2.2, sem_eq_zero_of_no_sems rfl _⟩) (Cert.RefOutLnIdeal.Value.run m g)

/-- The kernel's results are the reference's. -/
theorem value : Cert.algebraic_OutLnIdeal_RefOutLnIdeal := by
  intro m g m' g' _ hargs
  refine ⟨fun c => (dats m 0 c).arrAt 5 cfg0.N, fun c => (dats m 0 c).arrAt 6 cfg0.N, fun c => (dats m 0 c).arrAt 7 cfg0.N, Cert.OutLnIdeal.Value.run_blocks m g, ?_⟩
  refine (θ_run Cert.RefOutLnIdeal.defs _ _).mono (fun r h c => ?_) (Cert.RefOutLnIdeal.Value.run m' g')
  obtain ⟨h0, h1, h2, h3⟩ := h c
  obtain ⟨a0, a1, a2, a3, a4⟩ := hargs c
  refine ⟨h0.trans ?_, h1.trans ?_, h2.trans ?_, h3⟩
  · rw [Cert.RefOutLnIdeal.Read.val_main_v5_eq, a0, a1, a2]
    refine Eq.trans ?_ (array5 m c).symm
    funext i
    obtain ⟨r, j, rfl⟩ : ∃ r j, i = ix2 r j := ⟨i 0, i 1, eq_ix2 i⟩
    exact ref5_at _ _ _ r j
  · rw [Cert.RefOutLnIdeal.Read.val_main_v27_eq, a0, a1, a2, a3, a4]
    refine Eq.trans ?_ (array6 m c).symm
    funext i
    obtain ⟨r, j, rfl⟩ : ∃ r j, i = ix2 r j := ⟨i 0, i 1, eq_ix2 i⟩
    exact ref_post m c r j
  · rw [Cert.RefOutLnIdeal.Read.val_main_v28_eq, a0, a1, a2, a3, a4]
    refine Eq.trans ?_ (array7 m c).symm
    funext i
    obtain ⟨r, j, rfl⟩ : ∃ r j, i = ix2 r j := ⟨i 0, i 1, eq_ix2 i⟩
    exact (ref28_at ..).trans (ref_post m c r j)

end Cert.OfOutLn

end
-- ==== Proof.OfDownLn.lean ====
module

public import proofs.«01_k».proof.Defs
public import proofs.«01_k».proof.Proof.Gen.DownLnIdeal.Value
public import proofs.«01_k».proof.Proof.Gen.RefDownLnIdeal.Read
public import proofs.«01_k».proof.Proof.ProdSum
public import proofs.«01_k».proof.Proof.NormMath
public import Idealize.ShloMosaic.Lib.Quiescent
public import Idealize.ShloMosaic.Lib.Tactic
public import Idealize.ShloMosaic.Lib.Pointwise
public import Idealize.ShloMosaic.Lib.Pipeline.ValueKit
public import Idealize.ShloMosaic.Lib.Pipeline.ReadBack

/-! The down projection with the residual and the norm after it: eight points to a block of whole rows, each adding the product over
    1024 of the columns to the scratch buffer, the last of them normalising the rows. -/

@[expose] public section

set_option maxRecDepth 16384

noncomputable section

namespace Cert.OfDownLn

open Idealize.ShloMosaic Idealize.ShloMosaic.TcCoe Idealize.SL.Sem
open Cert.DownLnIdeal Cert.DownLnIdeal.Gen Cert.ProdSum Cert.NormMath

/-- The sublayer's residual, scaled, and the product. -/
def sum {n : ℕ} (x : Fin n → Fin 8192 → EReal) (w : Fin 8192 → Fin 2048 → EReal) (z : Fin n → Fin 2048 → EReal) (r : Fin n) (j : Fin 2048) : EReal :=
  Ideal.ofBits .f32 0x3FD744FD#32 * z r j + ∑ k : Fin 8192, x r k * w k j

/-- The whole product, at an index. -/
def dot (x : Vec Ideal S4096x8192 .bf16) (w : Vec Ideal S8192x2048 .bf16) (r : Fin 4096) (j : Fin 2048) : EReal :=
  ∑ k : Fin 8192, x (ix2 r k) * w (ix2 k j)

/-- One partial product, at an index. -/
def part (x : Vec Ideal S512x1024 .bf16) (w : Vec Ideal S1024x2048 .bf16) : S512x2048.Idx → EReal :=
  fun y => ∑ k : Fin 1024, x (ix2 (y 0) k) * w (ix2 k (y 1))

/-- The scratch buffer starts at zero. -/
theorem zero_apply (y : S512x2048.Idx) : k0_pay1 (F := Ideal) y = 0 := by
  obtain ⟨r, s, rfl⟩ : ∃ r s, y = ix2 r s := ⟨y 0, y 1, eq_ix2 y⟩
  pointwise [k0_pay1]

/-- A step adds its partial product. -/
theorem step_apply (a : Vec Ideal S512x2048 .f32) (x : Vec Ideal S512x1024 .bf16) (w : Vec Ideal S1024x2048 .bf16) (y : S512x2048.Idx) :
    k0_pay2 a x w y = a y + part x w y := by
  obtain ⟨r, s, rfl⟩ : ∃ r s, y = ix2 r s := ⟨y 0, y 1, eq_ix2 y⟩
  unfold part
  pointwise [k0_pay2]

theorem pay3_apply (a z : Vec Ideal S512x2048 .f32) (r : Fin 512) (j : Fin 2048) :
    k0_pay3 a z (ix2 r j) = Ideal.ofBits .f32 0x3FD744FD#32 * z (ix2 r j) + a (ix2 r j) := by
  pointwise [k0_pay3]

theorem pay4_apply (a z : Vec Ideal S512x2048 .f32) (g b : Vec Ideal S1x2048 .f32) (r : Fin 512) (j : Fin 2048) :
    k0_pay4 a z g b (ix2 r j) = normed (fun j => k0_pay3 a z (ix2 r j)) (g (ix2 0 j)) (b (ix2 0 j)) j := by
  unfold normed scale centred mean
  pointwise [k0_pay4]

theorem pay5_apply (a z : Vec Ideal S512x2048 .f32) (g b : Vec Ideal S1x2048 .f32) (y : S512x2048.Idx) : k0_pay5 a z g b y = k0_pay4 a z g b y := by
  obtain ⟨r, s, rfl⟩ : ∃ r s, y = ix2 r s := ⟨y 0, y 1, eq_ix2 y⟩
  pointwise [k0_pay5]

variable (m : (ℓ : Loc nD τ sig) → Buf (Elt Ideal) ℓ) (c : Dev nD)

/-- The partial product of a point. -/
def term (t : Fin cfg0.N) : S512x2048.Idx → EReal := part (iblk m c 0 t) (iblk m c 1 t)

theorem scratch_first (t : Fin cfg0.N) (h : t.val % 8 = 0) (y : S512x2048.Idx) :
    (outsAt0 m c t.val t.isLt).2.2.2 y = k0_pay1 (F := Ideal) y + term m c t y := by
  rw [outsAt0_A m c t h (by omega)]
  dsimp only
  unfold sout0_A_0
  frame_out
  exact step_apply _ _ _ y

theorem scratch_next (t : Fin cfg0.N) (h : ¬t.val % 8 = 0) (y : S512x2048.Idx) :
    (outsAt0 m c t.val t.isLt).2.2.2 y = (outsAt0 m c (t.val - 1) (Nat.lt_of_le_of_lt (Nat.sub_le _ _) t.isLt)).2.2.2 y + term m c t y := by
  by_cases h3 : t.val % 8 = 7
  · rw [outsAt0_C m c t h h3]
    dsimp only
    unfold sout0_C_0
    frame_out
    exact (step_apply _ _ _ y).trans (congrArg (· + _) (congrFun (Memref.IsWhole.read_unread _ _) y))
  · rw [outsAt0_B m c t h h3]
    dsimp only
    unfold sout0_B_0
    frame_out
    exact (step_apply _ _ _ y).trans (congrArg (· + _) (congrFun (Memref.IsWhole.read_unread _ _) y))

/-- The blocks written out, from the scratch buffer. -/
theorem last5 (t : Fin cfg0.N) (h : t.val % 8 = 7) (y : S512x2048.Idx) :
    (outsAt0 m c t.val t.isLt).1 y = k0_pay3 (outsAt0 m c t.val t.isLt).2.2.2 (iblk m c 2 t) y := by
  rw [outsAt0_C m c t (by omega) h]
  dsimp only
  unfold out0_C_5 sout0_C_0
  frame_out

theorem last6 (t : Fin cfg0.N) (h : t.val % 8 = 7) (y : S512x2048.Idx) :
    (outsAt0 m c t.val t.isLt).2.1 y = k0_pay4 (outsAt0 m c t.val t.isLt).2.2.2 (iblk m c 2 t) (iblk m c 3 t) (iblk m c 4 t) y := by
  rw [outsAt0_C m c t (by omega) h]
  dsimp only
  unfold out0_C_6 sout0_C_0
  frame_out

theorem last7 (t : Fin cfg0.N) (h : t.val % 8 = 7) (y : S512x2048.Idx) :
    (outsAt0 m c t.val t.isLt).2.2.1 y = k0_pay4 (outsAt0 m c t.val t.isLt).2.2.2 (iblk m c 2 t) (iblk m c 3 t) (iblk m c 4 t) y := by
  rw [outsAt0_C m c t (by omega) h]
  dsimp only
  unfold out0_C_7 sout0_C_0
  frame_out
  exact pay5_apply _ _ _ _ y

/-- Where each point's blocks lie. -/
theorem index : ∀ t : Fin cfg0.N, win0_0.index t = ![t.val / 8, t.val % 8] ∧ win0_1.index t = ![t.val % 8, 0] ∧ win0_2.index t = ![t.val / 8, 0] ∧ win0_3.index t = ![0, 0] ∧ win0_4.index t = ![0, 0] ∧
    win0_5.index t = ![t.val / 8, 0] ∧ win0_6.index t = ![t.val / 8, 0] ∧ win0_7.index t = ![t.val / 8, 0] :=
  (by decide +kernel : ∀ t : Fin grid0.N, _)

theorem blk0 (t : Fin cfg0.N) (r : Fin 512) (k : Fin 1024) (p q) :
    iblk m c 0 t (ix2 r k) = m ((c : Thread nD τ).loc main_arg0) (ix2 ⟨t.val / 8 * 512 + r.val, p⟩ ⟨t.val % 8 * 1024 + k.val, q⟩) := by
  blk_ext [iblk, V_main_arg0, index t]

theorem blk1 (t : Fin cfg0.N) (k : Fin 1024) (j : Fin 2048) (p) :
    iblk m c 1 t (ix2 k j) = m ((c : Thread nD τ).loc main_arg1) (ix2 ⟨t.val % 8 * 1024 + k.val, p⟩ j) := by
  blk_ext [iblk, V_main_arg1, index t]

theorem blk2 (t : Fin cfg0.N) (r : Fin 512) (k : Fin 2048) (p) :
    iblk m c 2 t (ix2 r k) = m ((c : Thread nD τ).loc main_arg2) (ix2 ⟨t.val / 8 * 512 + r.val, p⟩ k) := by
  blk_ext [iblk, V_main_arg2, index t]

theorem blk3 (t : Fin cfg0.N) (j : Fin 2048) :
    iblk m c 3 t (ix2 0 j) = m ((c : Thread nD τ).loc main_arg3) (ix2 0 j) := by
  blk_ext [iblk, V_main_arg3, index t]

theorem blk4 (t : Fin cfg0.N) (j : Fin 2048) :
    iblk m c 4 t (ix2 0 j) = m ((c : Thread nD τ).loc main_arg4) (ix2 0 j) := by
  blk_ext [iblk, V_main_arg4, index t]

/-- The sum before the norm, a row at a time. -/
def pre (r : Fin 4096) (j : Fin 2048) : EReal :=
  sum (n := 4096) (fun r k => m ((c : Thread nD τ).loc main_arg0) (ix2 r k)) (fun k j => m ((c : Thread nD τ).loc main_arg1) (ix2 k j))
    (fun r j => m ((c : Thread nD τ).loc main_arg2) (ix2 r j)) r j

/-- The normalised sum. -/
def post (i : S4096x2048.Idx) : EReal :=
  normed (pre m c (i 0)) (m ((c : Thread nD τ).loc main_arg3) (ix2 0 (i 1))) (m ((c : Thread nD τ).loc main_arg4) (ix2 0 (i 1))) (i 1)

/-- The scratch buffer at a block's last point: the whole product. -/
theorem scratch_last (t : Fin cfg0.N) (ht : t.val % 8 = 7) (r : Fin 512) (j : Fin 2048) (p) :
    (outsAt0 m c t.val t.isLt).2.2.2 (ix2 r j) = dot (m ((c : Thread nD τ).loc main_arg0)) (m ((c : Thread nD τ).loc main_arg1)) ⟨t.val / 8 * 512 + r.val, p⟩ j := by
  have hb : t.val < 64 := t.isLt
  rw [Pipeline.eq_sum_fin_of_reset_step_apply_of_flush (fun n h => (outsAt0 m c n h).2.2.2) 8 (k0_pay1 (F := Ideal)) (term m c) (scratch_first m c) (scratch_next m c) t ht (ix2 r j),
    zero_apply, zero_add]
  refine Eq.trans ?_ (sum_halves (n := 1024) (J := 8) rfl _)
  unfold term part
  refine outer_congr fun s => ?_
  have hs := s.isLt
  have d1 : (8 * (t.val / 8) + s.val) % 8 = s.val := by omega
  have d2 : (8 * (t.val / 8) + s.val) / 8 = t.val / 8 := by omega
  refine dot_congr (fun k => (blk0 m c _ r k (by dsimp only; omega) (by dsimp only; omega)).trans ?_) (fun k => (blk1 m c _ k j (by dsimp only; omega)).trans ?_)
  · exact congrArg _ (congrArg₂ ix2 (Fin.ext (by dsimp only; rw [d2])) (Fin.ext (by dsimp only; rw [d1])))
  · exact congrArg (fun z => m ((c : Thread nD τ).loc main_arg1) (ix2 z j)) (Fin.ext (by dsimp only; rw [d1]))

/-- A row of a block before the norm. -/
theorem row (t : Fin cfg0.N) (ht : t.val % 8 = 7) (r : Fin 512) (j : Fin 2048) (p) :
    k0_pay3 (outsAt0 m c t.val t.isLt).2.2.2 (iblk m c 2 t) (ix2 r j) = pre m c ⟨t.val / 8 * 512 + r.val, p⟩ j := by
  rw [pay3_apply]
  unfold pre sum
  exact congrArg₂ (· + ·) (congrArg _ (blk2 m c t r j p)) (scratch_last m c t ht r j p)

/-- An entry of a block after the norm. -/
theorem entry (t : Fin cfg0.N) (ht : t.val % 8 = 7) (y : S512x2048.Idx) (p) :
    k0_pay4 (outsAt0 m c t.val t.isLt).2.2.2 (iblk m c 2 t) (iblk m c 3 t) (iblk m c 4 t) y = post m c (ix2 ⟨t.val / 8 * 512 + (y 0).val, p⟩ (y 1)) := by
  obtain ⟨r, j, rfl⟩ : ∃ r j, y = ix2 r j := ⟨y 0, y 1, eq_ix2 y⟩
  rw [pay4_apply, blk3, blk4, show (fun j => k0_pay3 (outsAt0 m c t.val t.isLt).2.2.2 (iblk m c 2 t) (ix2 r j)) = pre m c ⟨t.val / 8 * 512 + r.val, p⟩ from
    funext fun j => row m c t ht r j p]
  rfl

/-- The sums, whole. -/
theorem array5 : (dats m 0 c).arrAt 5 cfg0.N = fun i => pre m c (i 0) (i 1) := by
  refine (dats m 0 c).arrAt_eq_of_covers 5 _ (by decide +kernel) fun t hf y => ?_
  have ht := (flush0_5 t).mp hf
  blk_simp
  have e0 : ((win0_5.blk t).view.emb y 0).val = t.val / 8 * 512 + (y 0).val := by
    blk_simp [index t] <;> omega
  have e1 : ((win0_5.blk t).view.emb y 1).val = (y 1).val := by
    blk_simp [index t] <;> omega
  have e : (win0_5.blk t).view.emb y = ix2 ⟨t.val / 8 * 512 + (y 0).val, e0 ▸ ((win0_5.blk t).view.emb y 0).isLt⟩ (y 1) :=
    (eq_ix2 _).trans (congrArg₂ ix2 (Fin.ext e0) (Fin.ext e1))
  rw [after0_5, last5 m c t ht, e]
  obtain ⟨r, j, rfl⟩ : ∃ r j, y = ix2 r j := ⟨y 0, y 1, eq_ix2 y⟩
  exact row m c t ht r j _

/-- The normalised sums, whole. -/
theorem array6 : (dats m 0 c).arrAt 6 cfg0.N = post m c := by
  refine (dats m 0 c).arrAt_eq_of_covers 6 _ (by decide +kernel) fun t hf y => ?_
  have ht := (flush0_6 t).mp hf
  blk_simp
  have e0 : ((win0_6.blk t).view.emb y 0).val = t.val / 8 * 512 + (y 0).val := by
    blk_simp [index t] <;> omega
  have e1 : ((win0_6.blk t).view.emb y 1).val = (y 1).val := by
    blk_simp [index t] <;> omega
  have e : (win0_6.blk t).view.emb y = ix2 ⟨t.val / 8 * 512 + (y 0).val, e0 ▸ ((win0_6.blk t).view.emb y 0).isLt⟩ (y 1) :=
    (eq_ix2 _).trans (congrArg₂ ix2 (Fin.ext e0) (Fin.ext e1))
  rw [after0_6, last6 m c t ht, e]
  exact entry m c t ht y _

/-- The normalised sums in the lower precision, whole. -/
theorem array7 : (dats m 0 c).arrAt 7 cfg0.N = post m c := by
  refine (dats m 0 c).arrAt_eq_of_covers 7 _ (by decide +kernel) fun t hf y => ?_
  have ht := (flush0_7 t).mp hf
  blk_simp
  have e0 : ((win0_7.blk t).view.emb y 0).val = t.val / 8 * 512 + (y 0).val := by
    blk_simp [index t] <;> omega
  have e1 : ((win0_7.blk t).view.emb y 1).val = (y 1).val := by
    blk_simp [index t] <;> omega
  have e : (win0_7.blk t).view.emb y = ix2 ⟨t.val / 8 * 512 + (y 0).val, e0 ▸ ((win0_7.blk t).view.emb y 0).isLt⟩ (y 1) :=
    (eq_ix2 _).trans (congrArg₂ ix2 (Fin.ext e0) (Fin.ext e1))
  rw [after0_7, last7 m c t ht, e]
  exact entry m c t ht y _

/-- The reference's sum, at an index. -/
theorem ref5_at (x : Vec Ideal S4096x8192 .bf16) (w : Vec Ideal S8192x2048 .bf16) (z : Vec Ideal S4096x2048 .f32) (r : Fin 4096) (j : Fin 2048) :
    Cert.RefDownLnIdeal.Read.val_main_v5 (F := Ideal) x w z (ix2 r j) = sum (fun r k => x (ix2 r k)) (fun k j => w (ix2 k j)) (fun r j => z (ix2 r j)) r j := by
  unfold sum
  pointwise [Cert.RefDownLnIdeal.Read.val_main_v5, Cert.RefDownLnIdeal.Read.val_main_v4, Cert.RefDownLnIdeal.Read.val_main_v3, Cert.RefDownLnIdeal.Read.val_main_v2, Cert.RefDownLnIdeal.Read.val_main_v1, Cert.RefDownLnIdeal.Read.val_main_v0, Cert.RefDownLnIdeal.Read.val_main_cst]

/-- The reference's norm, at an index. -/
theorem ref27_at (x : Vec Ideal S4096x8192 .bf16) (w : Vec Ideal S8192x2048 .bf16) (z : Vec Ideal S4096x2048 .f32) (g b : Vec Ideal S1x2048 .f32) (r : Fin 4096) (j : Fin 2048) :
    Cert.RefDownLnIdeal.Read.val_main_v27 (F := Ideal) x w z g b (ix2 r j) = normed (fun j => Cert.RefDownLnIdeal.Read.val_main_v5 (F := Ideal) x w z (ix2 r j)) (g (ix2 0 j)) (b (ix2 0 j)) j := by
  unfold normed scale centred mean
  pointwise [Cert.RefDownLnIdeal.Read.val_main_v27, Cert.RefDownLnIdeal.Read.val_main_v26, Cert.RefDownLnIdeal.Read.val_main_v25, Cert.RefDownLnIdeal.Read.val_main_v24, Cert.RefDownLnIdeal.Read.val_main_v23, Cert.RefDownLnIdeal.Read.val_main_v22, Cert.RefDownLnIdeal.Read.val_main_v21, Cert.RefDownLnIdeal.Read.val_main_v20, Cert.RefDownLnIdeal.Read.val_main_v19, Cert.RefDownLnIdeal.Read.val_main_v18, Cert.RefDownLnIdeal.Read.val_main_v17, Cert.RefDownLnIdeal.Read.val_main_v16, Cert.RefDownLnIdeal.Read.val_main_v15, Cert.RefDownLnIdeal.Read.val_main_v14, Cert.RefDownLnIdeal.Read.val_main_v13, Cert.RefDownLnIdeal.Read.val_main_v12, Cert.RefDownLnIdeal.Read.val_main_v11, Cert.RefDownLnIdeal.Read.val_main_v10, Cert.RefDownLnIdeal.Read.val_main_v9, Cert.RefDownLnIdeal.Read.val_main_v8, Cert.RefDownLnIdeal.Read.val_main_v7, Cert.RefDownLnIdeal.Read.val_main_v6, Cert.RefDownLnIdeal.Read.val_main_cst_0, Cert.RefDownLnIdeal.Read.val_main_cst_1, Cert.RefDownLnIdeal.Read.val_main_cst_2, Cert.RefDownLnIdeal.Read.val_main_cst_3, Cert.RefDownLnIdeal.Read.val_main_cst_4]

/-- The reference's norm in the lower precision. -/
theorem ref28_at (x : Vec Ideal S4096x8192 .bf16) (w : Vec Ideal S8192x2048 .bf16) (z : Vec Ideal S4096x2048 .f32) (g b : Vec Ideal S1x2048 .f32) (r : Fin 4096) (j : Fin 2048) :
    Cert.RefDownLnIdeal.Read.val_main_v28 (F := Ideal) x w z g b (ix2 r j) = Cert.RefDownLnIdeal.Read.val_main_v27 (F := Ideal) x w z g b (ix2 r j) := by
  pointwise [Cert.RefDownLnIdeal.Read.val_main_v28]

/-- The reference's norm is the kernel's. -/
theorem ref_post (r : Fin 4096) (j : Fin 2048) :
    Cert.RefDownLnIdeal.Read.val_main_v27 (F := Ideal) (m ((c : Thread nD τ).loc main_arg0)) (m ((c : Thread nD τ).loc main_arg1)) (m ((c : Thread nD τ).loc main_arg2))
      (m ((c : Thread nD τ).loc main_arg3)) (m ((c : Thread nD τ).loc main_arg4)) (ix2 r j) = post m c (ix2 r j) := by
  rw [ref27_at]
  exact congrArg (fun f => normed f _ _ j) (funext fun j => ref5_at _ _ _ r j)

/-- The reference runs, leaves its arguments alone and every counter at zero. -/
theorem frameRef : Cert.quiescent_RefDownLnIdeal := fun m g _ =>
  (θ_run Cert.RefDownLnIdeal.defs _ _).mono (fun r h => ⟨fun c => (h c).2.2.2, sem_eq_zero_of_no_sems rfl _⟩) (Cert.RefDownLnIdeal.Value.run m g)

/-- The kernel's results are the reference's. -/
theorem value : Cert.algebraic_DownLnIdeal_RefDownLnIdeal := by
  intro m g m' g' _ hargs
  refine ⟨fun c => (dats m 0 c).arrAt 5 cfg0.N, fun c => (dats m 0 c).arrAt 6 cfg0.N, fun c => (dats m 0 c).arrAt 7 cfg0.N, Cert.DownLnIdeal.Value.run_blocks m g, ?_⟩
  refine (θ_run Cert.RefDownLnIdeal.defs _ _).mono (fun r h c => ?_) (Cert.RefDownLnIdeal.Value.run m' g')
  obtain ⟨h0, h1, h2, h3⟩ := h c
  obtain ⟨a0, a1, a2, a3, a4⟩ := hargs c
  refine ⟨h0.trans ?_, h1.trans ?_, h2.trans ?_, h3⟩
  · rw [Cert.RefDownLnIdeal.Read.val_main_v5_eq, a0, a1, a2]
    refine Eq.trans ?_ (array5 m c).symm
    funext i
    obtain ⟨r, j, rfl⟩ : ∃ r j, i = ix2 r j := ⟨i 0, i 1, eq_ix2 i⟩
    exact ref5_at _ _ _ r j
  · rw [Cert.RefDownLnIdeal.Read.val_main_v27_eq, a0, a1, a2, a3, a4]
    refine Eq.trans ?_ (array6 m c).symm
    funext i
    obtain ⟨r, j, rfl⟩ : ∃ r j, i = ix2 r j := ⟨i 0, i 1, eq_ix2 i⟩
    exact ref_post m c r j
  · rw [Cert.RefDownLnIdeal.Read.val_main_v28_eq, a0, a1, a2, a3, a4]
    refine Eq.trans ?_ (array7 m c).symm
    funext i
    obtain ⟨r, j, rfl⟩ : ∃ r j, i = ix2 r j := ⟨i 0, i 1, eq_ix2 i⟩
    exact (ref28_at ..).trans (ref_post m c r j)

end Cert.OfDownLn

end
-- ==== Proof.MemMath.lean ====
module

public import Idealize.ShloMosaic.PureOps.Ideal
public import Idealize.ShloMosaic.Lib.Pointwise

/-! The gradient of one row of the memory attention, over the extended reals: a row of scores, its softmax, and the
    gradient of the scores. Both the kernel and the reference are read in these terms. -/

@[expose] public section

noncomputable section

namespace Cert.MemMath

open Idealize.ShloMosaic

/-- The factor the scores are multiplied by, as the printed word. -/
def scale : EReal := Ideal.ofBits .f32 0x3D3504F3#32

/-- The scores of one query row against the 256 memory rows. -/
def score (q : Fin 512 → EReal) (k : Fin 256 → Fin 512 → EReal) (m : Fin 256) : EReal := (∑ d : Fin 512, q d * k m d) * scale

/-- The greatest of a row of scores. -/
def top (s : Fin 256 → EReal) : EReal := (Finset.univ : Finset (Fin 256)).fold max ⊥ s

/-- The exponentials of a row of scores, the greatest taken away first. -/
def ex (s : Fin 256 → EReal) (m : Fin 256) : EReal := Ideal.exp (s m - top s)

/-- The sum of a row's exponentials. -/
def tot (s : Fin 256 → EReal) : EReal := ∑ m : Fin 256, ex s m

/-- The softmax of a row of scores. -/
def prob (s : Fin 256 → EReal) (m : Fin 256) : EReal := Ideal.div (ex s m) (tot s)

/-- The gradient of the softmax: one row of the output gradient against the memory rows' values. -/
def dprob (g : Fin 512 → EReal) (v : Fin 256 → Fin 512 → EReal) (m : Fin 256) : EReal := ∑ d : Fin 512, g d * v m d

/-- The gradient of a row of products `q · k`, as the kernel computes it. -/
def dscore (s g : Fin 256 → EReal) (m : Fin 256) : EReal :=
  prob s m * (g m - ∑ m' : Fin 256, g m' * prob s m') * scale

/-- The gradient of a row of products `q · k`, as the reference computes it. -/
def dscoreRef (s g : Fin 256 → EReal) (m : Fin 256) : EReal :=
  (Ideal.div (g m) (tot s) + -(∑ m' : Fin 256, g m' * Ideal.div 1 (tot s * tot s) * ex s m')) * ex s m * scale

/-- The columns of head `h` in a block of 2048 columns. -/
abbrev hd (h : Fin 4) (d : Fin 512) : Fin 2048 := ⟨512 * h.val + d.val, by omega⟩

/-- The columns of head `h` among the keys, the first half of the memory's columns. -/
abbrev hk (h : Fin 4) (d : Fin 512) : Fin 4096 := ⟨512 * h.val + d.val, by omega⟩

/-- The columns of head `h` among the values, the second half of the memory's columns. -/
abbrev hv (h : Fin 4) (d : Fin 512) : Fin 4096 := ⟨2048 + (512 * h.val + d.val), by omega⟩

/-- A column of head `h` lies in head `h`. -/
theorem hd_div (h : Fin 4) (d : Fin 512) (p) : (⟨(hd h d).val / 512, p⟩ : Fin 4) = h := Fin.ext (by simp only; omega)
/-- A key column of head `h` lies in head `h`. -/
theorem hk_div (h : Fin 4) (d : Fin 512) (p) : (⟨(hk h d).val / 512, p⟩ : Fin 4) = h := Fin.ext (by simp only; omega)
/-- A key column lies in the first half. -/
theorem hk_lt (h : Fin 4) (d : Fin 512) : (hk h d).val < 2048 := by simp only; omega
/-- A value column lies in the second half. -/
theorem hv_ge (h : Fin 4) (d : Fin 512) : ¬ (hv h d).val < 2048 := by simp only; omega
/-- A value column of head `h` lies in head `h`. -/
theorem hv_div (h : Fin 4) (d : Fin 512) (p) : (⟨((hv h d).val - 2048) / 512, p⟩ : Fin 4) = h := Fin.ext (by simp only; omega)
/-- A value column of head `h`, counted from the first value column. -/
theorem hv_sub (h : Fin 4) (d : Fin 512) (p) : (⟨(hv h d).val - 2048, p⟩ : Fin 2048) = hd h d := Fin.ext (by simp only; omega)

/-- The scores of row `r` in head `h`. -/
def S {n : ℕ} (q : (⟨2, ![n, 2048]⟩ : Shape).Idx → EReal) (kv : (⟨2, ![256, 4096]⟩ : Shape).Idx → EReal) (r : Fin n) (h : Fin 4) : Fin 256 → EReal :=
  score (fun d => q (ix2 r (hd h d))) (fun m d => kv (ix2 m (hk h d)))

/-- The gradient of the softmax of row `r` in head `h`. -/
def G {n : ℕ} (g : (⟨2, ![n, 2048]⟩ : Shape).Idx → EReal) (kv : (⟨2, ![256, 4096]⟩ : Shape).Idx → EReal) (r : Fin n) (h : Fin 4) : Fin 256 → EReal :=
  dprob (fun d => g (ix2 r (hd h d))) (fun m d => kv (ix2 m (hv h d)))

/-- The gradient of the queries, row `r` and column `j`. -/
def dq {n : ℕ} (q g : (⟨2, ![n, 2048]⟩ : Shape).Idx → EReal) (kv : (⟨2, ![256, 4096]⟩ : Shape).Idx → EReal) (r : Fin n) (j : Fin 2048) : EReal :=
  ∑ m : Fin 256, dscore (S q kv r ⟨j.val / 512, by omega⟩) (G g kv r ⟨j.val / 512, by omega⟩) m * kv (ix2 m ⟨j.val, by omega⟩)

/-- What row `r` adds to the gradient of the memory at row `m` and column `j`: the keys' gradient in the first half of the
    columns, the values' in the second. -/
def dkv {n : ℕ} (q g : (⟨2, ![n, 2048]⟩ : Shape).Idx → EReal) (kv : (⟨2, ![256, 4096]⟩ : Shape).Idx → EReal) (m : Fin 256) (j : Fin 4096) (r : Fin n) : EReal :=
  if h : j.val < 2048 then
    dscore (S q kv r ⟨j.val / 512, by omega⟩) (G g kv r ⟨j.val / 512, by omega⟩) m * q (ix2 r ⟨j.val, h⟩)
  else prob (S q kv r ⟨(j.val - 2048) / 512, by omega⟩) m * g (ix2 r ⟨j.val - 2048, by omega⟩)

/-- The keys' half of what a row adds to the memory's gradient. -/
theorem dkv_lt {n : ℕ} (q g : (⟨2, ![n, 2048]⟩ : Shape).Idx → EReal) (kv : (⟨2, ![256, 4096]⟩ : Shape).Idx → EReal) (m : Fin 256) (j : Fin 4096) (r : Fin n)
    (h : j.val < 2048) : dkv q g kv m j r = dscore (S q kv r ⟨j.val / 512, by omega⟩) (G g kv r ⟨j.val / 512, by omega⟩) m * q (ix2 r ⟨j.val, h⟩) := dif_pos h

/-- The values' half of what a row adds to the memory's gradient. -/
theorem dkv_ge {n : ℕ} (q g : (⟨2, ![n, 2048]⟩ : Shape).Idx → EReal) (kv : (⟨2, ![256, 4096]⟩ : Shape).Idx → EReal) (m : Fin 256) (j : Fin 4096) (r : Fin n)
    (h : ¬ j.val < 2048) : dkv q g kv m j r = prob (S q kv r ⟨(j.val - 2048) / 512, by omega⟩) m * g (ix2 r ⟨j.val - 2048, by omega⟩) := dif_neg h

/-- Rows of equal contents have equal gradients of the queries. -/
theorem dq_congr {n n' : ℕ} {q g : (⟨2, ![n, 2048]⟩ : Shape).Idx → EReal} {q' g' : (⟨2, ![n', 2048]⟩ : Shape).Idx → EReal}
    {kv kv' : (⟨2, ![256, 4096]⟩ : Shape).Idx → EReal} {r : Fin n} {r' : Fin n'} (hq : ∀ d, q (ix2 r d) = q' (ix2 r' d))
    (hg : ∀ d, g (ix2 r d) = g' (ix2 r' d)) (hk : ∀ m d, kv (ix2 m d) = kv' (ix2 m d)) (j : Fin 2048) : dq q g kv r j = dq q' g' kv' r' j := by
  simp only [dq, S, G, hq, hg, hk]

/-- Rows of equal contents add the same to the gradient of the memory. -/
theorem dkv_congr {n n' : ℕ} {q g : (⟨2, ![n, 2048]⟩ : Shape).Idx → EReal} {q' g' : (⟨2, ![n', 2048]⟩ : Shape).Idx → EReal}
    {kv kv' : (⟨2, ![256, 4096]⟩ : Shape).Idx → EReal} {r : Fin n} {r' : Fin n'} (hq : ∀ d, q (ix2 r d) = q' (ix2 r' d))
    (hg : ∀ d, g (ix2 r d) = g' (ix2 r' d)) (hk : ∀ m d, kv (ix2 m d) = kv' (ix2 m d)) (i : Fin 256) (j : Fin 4096) :
    dkv q g kv i j r = dkv q' g' kv' i j r' := by
  simp only [dkv, S, G, hq, hg, hk]

/-- An array read at two columns of the same number. -/
theorem at_col {n m : ℕ} (X : (⟨2, ![n, m]⟩ : Shape).Idx → EReal) (r : Fin n) {i j : Fin m} (e : i.val = j.val) :
    X (ix2 r i) = X (ix2 r j) := congrArg (fun k => X (ix2 r k)) (Fin.ext e)

end Cert.MemMath

end
-- ==== Proof.OfMemFwd.lean ====
module

public import proofs.«01_k».proof.Defs
public import proofs.«01_k».proof.Proof.Gen.MemFwdIdeal.Value
public import proofs.«01_k».proof.Proof.Gen.RefMemFwdIdeal.Read
public import proofs.«01_k».proof.Proof.MemMath
public import Idealize.ShloMosaic.Lib.Quiescent
public import Idealize.ShloMosaic.Lib.Tactic
public import Idealize.ShloMosaic.Lib.Pointwise
public import Idealize.ShloMosaic.Lib.Pipeline.ValueKit
public import Idealize.ShloMosaic.Lib.Pipeline.ReadBack

/-! The attention over the memory, forward: each point computes 512 rows of all four heads. -/

@[expose] public section

set_option maxRecDepth 65536

noncomputable section

namespace Cert.OfMemFwd

open Idealize.ShloMosaic Idealize.ShloMosaic.TcCoe Idealize.SL.Sem
open Cert.MemMath

/-- The attention's output, row `r` and column `j`. -/
def att {n : ℕ} (q : (⟨2, ![n, 2048]⟩ : Shape).Idx → EReal) (kv : (⟨2, ![256, 4096]⟩ : Shape).Idx → EReal) (r : Fin n) (j : Fin 2048) : EReal :=
  ∑ m : Fin 256, prob (S q kv r ⟨j.val / 512, by omega⟩) m * kv (ix2 m ⟨2048 + j.val, by omega⟩)

/-- Rows of equal contents have equal outputs. -/
theorem att_congr {n n' : ℕ} {q : (⟨2, ![n, 2048]⟩ : Shape).Idx → EReal} {q' : (⟨2, ![n', 2048]⟩ : Shape).Idx → EReal}
    {kv kv' : (⟨2, ![256, 4096]⟩ : Shape).Idx → EReal} {r : Fin n} {r' : Fin n'} (hq : ∀ d, q (ix2 r d) = q' (ix2 r' d))
    (hk : ∀ m d, kv (ix2 m d) = kv' (ix2 m d)) (j : Fin 2048) : att q kv r j = att q' kv' r' j := by
  simp only [att, S, hq, hk]

section refer
open Cert.RefMemFwdIdeal Cert.RefMemFwdIdeal.Gen Cert.RefMemFwdIdeal.Read

variable (q : Vec Ideal S4096x2048 .bf16) (kv : Vec Ideal S256x4096 .bf16) (h : Fin 4) (r : Fin 4096) (k : Fin 256)

/-- The reference's scores. -/
theorem v9_at : val_main_v9 (F := Ideal) q kv (ix3 h r k) = S q kv r h k := by
  pointwise [val_main_v9, val_main_v8, val_main_v7, val_main_v5, val_main_v4, val_main_v3, val_main_v1, val_main_v0, val_main_cst]
  unfold S score
  congr 1
  refine Finset.sum_congr rfl fun d _ => ?_
  congr 1 <;> exact at_col _ _ (by dsimp only; omega)

/-- The greatest element along the last axis, at an index. -/
theorem max_at (x : FVec Ideal S4x4096x256 .f32) (init : FVec Ideal S_ .f32) :
    Host.reduce FloatOps.maximumf x init reducesTo_S4x4096x256_S4x4096_d2 h_S_ (ix2 h r)
      = (Finset.univ : Finset (Fin 256)).fold max (init ix0) (fun k => x (ix3 h r k)) := by
  pointwise
  rw [show Shape.Idx.first h_S_ = ix0 from funext fun a => a.elim0]

/-- The greatest score of a row. -/
theorem v10_at : val_main_v10 (F := Ideal) q kv (ix2 h r) = top (S q kv r h) := by
  rw [val_main_v10, max_at]
  simp only [v9_at]
  rfl

/-- The greatest score of a row, against −∞. -/
theorem v12_at : val_main_v12 (F := Ideal) q kv (ix2 h r) = top (S q kv r h) := by
  refine (val_main_v12_apply ..).trans ?_
  rw [v10_at]
  exact max_eq_right bot_le

/-- The exponentials. -/
theorem v16_at : val_main_v16 (F := Ideal) q kv (ix3 h r k) = ex (S q kv r h) k := by
  pointwise [val_main_v16, val_main_v15, val_main_v14, val_main_v13]
  rw [v9_at, v12_at]
  rfl

/-- The sum of a row's exponentials. -/
theorem v17_at : val_main_v17 (F := Ideal) q kv (ix2 h r) = tot (S q kv r h) := by
  rw [val_main_v17]
  pointwise [val_main_cst_2]
  simp only [v16_at]
  rfl

/-- The softmax. -/
theorem v20_at : val_main_v20 (F := Ideal) q kv (ix3 h r k) = prob (S q kv r h) k := by
  pointwise [val_main_v20, val_main_v19, val_main_v18]
  rw [v16_at, v17_at]
  rfl

/-- The reference's output, at an index. -/
theorem v24_at (j : Fin 2048) : val_main_v24 (F := Ideal) q kv (ix2 r j) = att q kv r j := by
  pointwise [val_main_v24, val_main_v23, val_main_v22, val_main_v21, val_main_v6, val_main_v2, val_main_v0]
  unfold att
  simp only [v20_at]
  refine Finset.sum_congr rfl fun m _ => ?_
  rw [mul_comm]

end refer

open Cert.MemFwdIdeal Cert.MemFwdIdeal.Gen

/-- A head's output, at an index. -/
theorem pay2_apply (q : Vec Ideal S512x512 .bf16) (k v : Vec Ideal S256x512 .bf16) (r : Fin 512) (d : Fin 512) :
    k0_pay2 q k v (ix2 r d) = ∑ m : Fin 256, prob (score (fun d => q (ix2 r d)) (fun m d => k (ix2 m d))) m * v (ix2 m d) := by
  pointwise [k0_pay2]
  rfl

section heads
variable (q : Vec Ideal S512x512 .bf16) (k v : Vec Ideal S256x512 .bf16)
/-- Head 1 is written in the same way. -/
theorem head1 : k0_pay4 (k0_pay3 q k) v = k0_pay2 q k v := rfl
/-- Head 2 is written in the same way. -/
theorem head2 : k0_pay5 q k v = k0_pay2 q k v := rfl
/-- Head 3 is written in the same way. -/
theorem head3 : k0_pay1 (k0_pay6 q k) (k0_pay7 q k) v = k0_pay2 q k v := rfl
end heads

/-- A head's tile of the output. -/
theorem tile {q : Vec Ideal S512x512 .bf16} {k v : Vec Ideal S256x512 .bf16} {x0 : Vec Ideal S512x2048 .bf16} {x1 : Vec Ideal S256x4096 .bf16} (h : Fin 4)
    (hq : ∀ r d, q (ix2 r d) = x0 (ix2 r (hd h d))) (hK : ∀ m d, k (ix2 m d) = x1 (ix2 m (hk h d)))
    (hV : ∀ m d, v (ix2 m d) = x1 (ix2 m (hv h d))) (x : S512x512.Idx) (y : S512x2048.Idx) (e0 : (y 0).val = (x 0).val)
    (e1 : (y 1).val = 512 * h.val + (x 1).val) : k0_pay2 q k v x = att x0 x1 (y 0) (y 1) := by
  obtain ⟨r, d, rfl⟩ : ∃ r d, x = ix2 r d := ⟨x 0, x 1, eq_ix2 x⟩
  have e0' : y 0 = r := Fin.ext e0
  have e1' : y 1 = hd h d := Fin.ext e1
  rw [e0', e1', pay2_apply]
  unfold att S
  rw [hd_div]
  simp only [hq, hK, hV]

/-- What a point leaves in its block. -/
theorem out2_apply (x0 : Vec Ideal S512x2048 .bf16) (x1 : Vec Ideal S256x4096 .bf16) (y : S512x2048.Idx) : out0_2 x0 x1 y = att x0 x1 (y 0) (y 1) := by
  unfold out0_2
  canon_tiles x hx
  · refine (congrFun (head3 _ _ _) x).trans (tile 3 ?_ ?_ ?_ x y hx0 hx1) <;> (intro r d; pointwise; exact at_col _ _ (by dsimp only; omega))
  · refine (congrFun (head2 _ _ _) x).trans (tile 2 ?_ ?_ ?_ x y hx0 hx1) <;> (intro r d; pointwise; exact at_col _ _ (by dsimp only; omega))
  · refine (congrFun (head1 _ _ _) x).trans (tile 1 ?_ ?_ ?_ x y hx0 hx1) <;> (intro r d; pointwise; exact at_col _ _ (by dsimp only; omega))
  · refine tile 0 ?_ ?_ ?_ x y hx0 (hx1.trans (Nat.zero_add _).symm) <;> (intro r d; pointwise; exact at_col _ _ (by dsimp only; omega))

variable (m : (ℓ : Loc nD τ sig) → Buf (Elt Ideal) ℓ) (c : Dev nD)

/-- Where each point's blocks lie. -/
theorem index : ∀ t : Fin cfg0.N, win0_0.index t = ![t.val, 0] ∧ win0_1.index t = ![0, 0] ∧ win0_2.index t = ![t.val, 0] :=
  (by decide +kernel : ∀ t : Fin grid0.N, _)

theorem blk0 (t : Fin cfg0.N) (r : Fin 512) (k : Fin 2048) (p) :
    iblk m c 0 t (ix2 r k) = m ((c : Thread nD τ).loc main_arg0) (ix2 ⟨t.val * 512 + r.val, p⟩ k) := by
  blk_ext [iblk, V_main_arg0, index t]

theorem blk1 (t : Fin cfg0.N) (k : Fin 256) (j : Fin 4096) :
    iblk m c 1 t (ix2 k j) = m ((c : Thread nD τ).loc main_arg1) (ix2 k j) := by
  blk_ext [iblk, V_main_arg1, index t]

/-- The attention's output, whole. -/
theorem array2 : (dats m 0 c).arrAt 2 cfg0.N
    = fun i => att (n := 4096) (m ((c : Thread nD τ).loc main_arg0)) (m ((c : Thread nD τ).loc main_arg1)) (i 0) (i 1) := by
  refine (dats m 0 c).arrAt_eq_of_covers 2 _ (by decide +kernel) fun t hf y => ?_
  blk_simp
  have e0 : ((win0_2.blk t).view.emb y 0).val = t.val * 512 + (y 0).val := by
    blk_simp [index t] <;> omega
  have e1 : ((win0_2.blk t).view.emb y 1).val = (y 1).val := by
    blk_simp [index t] <;> omega
  have e : (win0_2.blk t).view.emb y = ix2 ⟨t.val * 512 + (y 0).val, e0 ▸ ((win0_2.blk t).view.emb y 0).isLt⟩ (y 1) :=
    (eq_ix2 _).trans (congrArg₂ ix2 (Fin.ext e0) (Fin.ext e1))
  rw [after0_2, out2_apply, e]
  exact att_congr (fun d => blk0 m c t _ d _) (fun k d => blk1 m c t k d) _

/-- The reference runs, leaves its arguments alone and every counter at zero. -/
theorem frameRef : Cert.quiescent_RefMemFwdIdeal := fun m g _ =>
  (θ_run Cert.RefMemFwdIdeal.defs _ _).mono (fun r h => ⟨fun c => (h c).2, sem_eq_zero_of_no_sems rfl _⟩) (Cert.RefMemFwdIdeal.Value.run m g)

/-- The kernel's result is the reference's. -/
theorem value : Cert.algebraic_MemFwdIdeal_RefMemFwdIdeal := by
  intro m g m' g' _ hargs
  refine ⟨fun c => (dats m 0 c).arrAt 2 cfg0.N, Cert.MemFwdIdeal.Value.run_blocks m g, ?_⟩
  refine (θ_run Cert.RefMemFwdIdeal.defs _ _).mono (fun r h c => ?_) (Cert.RefMemFwdIdeal.Value.run m' g')
  obtain ⟨h0, h1⟩ := h c
  obtain ⟨a0, a1⟩ := hargs c
  refine ⟨h0.trans ?_, h1⟩
  rw [Cert.RefMemFwdIdeal.Read.val_main_v24_eq, a0, a1]
  refine Eq.trans ?_ (array2 m c).symm
  funext i
  obtain ⟨r, j, rfl⟩ : ∃ r j, i = ix2 r j := ⟨i 0, i 1, eq_ix2 i⟩
  exact v24_at _ _ r j

end Cert.OfMemFwd

end
-- ==== Proof.OfRms.lean ====
module

public import proofs.«01_k».proof.Defs
public import proofs.«01_k».proof.Proof.Gen.RmsIdeal.Value
public import proofs.«01_k».proof.Proof.Gen.RefRmsIdeal.Read
public import proofs.«01_k».proof.Proof.MemMath
public import Idealize.ShloMosaic.Lib.Quiescent
public import Idealize.ShloMosaic.Lib.Tactic
public import Idealize.ShloMosaic.Lib.Pointwise
public import Idealize.ShloMosaic.Lib.Pipeline.ValueKit
public import Idealize.ShloMosaic.Lib.Pipeline.ReadBack

/-! The two branches, each divided by its root mean square, side by side: each point takes 512 rows of both. -/

@[expose] public section

set_option maxRecDepth 16384

noncomputable section

namespace Cert.OfRms

open Idealize.ShloMosaic Idealize.ShloMosaic.TcCoe Idealize.SL.Sem
open Cert.RmsIdeal Cert.RmsIdeal.Gen

/-- A row divided by its root mean square, times a gain. -/
def rms (z : Fin 1024 → EReal) (g : EReal) (j : Fin 1024) : EReal :=
  z j * Ideal.rsqrt (Ideal.div (∑ k, z k * z k) (Ideal.ofBits .f32 0x44800000#32) + Ideal.ofBits .f32 0x358637BD#32) * g

/-- Both branches side by side: the first in columns 0–1023, the second in columns 1024–2047. -/
def both {n : ℕ} (a b : (⟨2, ![n, 1024]⟩ : Shape).Idx → EReal) (g h : (⟨2, ![1, 1024]⟩ : Shape).Idx → EReal) (r : Fin n) (j : Fin 2048) : EReal :=
  if p : j.val < 1024 then rms (fun k => a (ix2 r k)) (g (ix2 0 ⟨j.val, p⟩)) ⟨j.val, p⟩
  else rms (fun k => b (ix2 r k)) (h (ix2 0 ⟨j.val - 1024, by omega⟩)) ⟨j.val - 1024, by omega⟩

theorem pay_apply (x : Vec Ideal S512x1024 .f32) (g : Vec Ideal S1x1024 .f32) (r : Fin 512) (j : Fin 1024) :
    k0_pay1 x g (ix2 r j) = rms (fun k => x (ix2 r k)) (g (ix2 0 j)) j := by
  unfold rms
  pointwise [k0_pay1]

/-- The second branch is written in the same way. -/
theorem pay2_eq (x : Vec Ideal S512x1024 .f32) (g : Vec Ideal S1x1024 .f32) : k0_pay2 x g = k0_pay1 x g := rfl

theorem tile1 (x0 x1 : Vec Ideal S512x1024 .f32) (x2 x3 : Vec Ideal S1x1024 .f32) (x : S512x1024.Idx) (y : S512x2048.Idx)
    (e0 : (y 0).val = (x 0).val) (e1 : (y 1).val = (x 1).val) : k0_pay1 x0 x2 x = both x0 x1 x2 x3 (y 0) (y 1) := by
  obtain ⟨r, j, rfl⟩ : ∃ r j, x = ix2 r j := ⟨x 0, x 1, eq_ix2 x⟩
  have e0' : y 0 = r := Fin.ext e0
  have e1' : (y 1).val = j.val := e1
  have p : (y 1).val < 1024 := by omega
  have ej : j = ⟨(y 1).val, p⟩ := Fin.ext e1'.symm
  rw [pay_apply, e0']
  unfold both
  rw [dif_pos p, ← ej]

theorem tile2 (x0 x1 : Vec Ideal S512x1024 .f32) (x2 x3 : Vec Ideal S1x1024 .f32) (x : S512x1024.Idx) (y : S512x2048.Idx)
    (e0 : (y 0).val = (x 0).val) (e1 : (y 1).val = 1024 + (x 1).val) : k0_pay1 x1 x3 x = both x0 x1 x2 x3 (y 0) (y 1) := by
  obtain ⟨r, j, rfl⟩ : ∃ r j, x = ix2 r j := ⟨x 0, x 1, eq_ix2 x⟩
  have e0' : y 0 = r := Fin.ext e0
  have e1' : (y 1).val = 1024 + j.val := e1
  have p : ¬ (y 1).val < 1024 := by omega
  have ej : j = ⟨(y 1).val - 1024, by have := (y 1).isLt; omega⟩ := Fin.ext (by dsimp only; omega)
  rw [pay_apply, e0']
  unfold both
  rw [dif_neg p, ← ej]

/-- What a point leaves in its block. -/
theorem out4_apply (x0 x1 : Vec Ideal S512x1024 .f32) (x2 x3 : Vec Ideal S1x1024 .f32) (y : S512x2048.Idx) :
    out0_4 x0 x1 x2 x3 y = both x0 x1 x2 x3 (y 0) (y 1) := by
  unfold out0_4
  rw [show View.ld x0 r0_0 = x0 from View.ld_unit_lit _ x0 (by decide), show View.ld x1 r0_0 = x1 from View.ld_unit_lit _ x1 (by decide),
    show View.ld x2 r0_1 = x2 from View.ld_unit_lit _ x2 (by decide), show View.ld x3 r0_1 = x3 from View.ld_unit_lit _ x3 (by decide)]
  canon_tiles x hx
  · exact (congrFun (pay2_eq _ _) x).trans (tile2 x0 x1 x2 x3 x y hx0 hx1)
  · exact tile1 x0 x1 x2 x3 x y hx0 hx1

variable (m : (ℓ : Loc nD τ sig) → Buf (Elt Ideal) ℓ) (c : Dev nD)

/-- Where each point's blocks lie. -/
theorem index : ∀ t : Fin cfg0.N, win0_0.index t = ![t.val, 0] ∧ win0_1.index t = ![t.val, 0] ∧ win0_2.index t = ![0, 0] ∧ win0_3.index t = ![0, 0] ∧ win0_4.index t = ![t.val, 0] :=
  (by decide +kernel : ∀ t : Fin grid0.N, _)

theorem blk0 (t : Fin cfg0.N) (r : Fin 512) (k : Fin 1024) (p) :
    iblk m c 0 t (ix2 r k) = m ((c : Thread nD τ).loc main_arg0) (ix2 ⟨t.val * 512 + r.val, p⟩ k) := by
  blk_ext [iblk, V_main_arg0, index t]

theorem blk1 (t : Fin cfg0.N) (r : Fin 512) (k : Fin 1024) (p) :
    iblk m c 1 t (ix2 r k) = m ((c : Thread nD τ).loc main_arg1) (ix2 ⟨t.val * 512 + r.val, p⟩ k) := by
  blk_ext [iblk, V_main_arg1, index t]

theorem blk2 (t : Fin cfg0.N) (j : Fin 1024) :
    iblk m c 2 t (ix2 0 j) = m ((c : Thread nD τ).loc main_arg2) (ix2 0 j) := by
  blk_ext [iblk, V_main_arg2, index t]

theorem blk3 (t : Fin cfg0.N) (j : Fin 1024) :
    iblk m c 3 t (ix2 0 j) = m ((c : Thread nD τ).loc main_arg3) (ix2 0 j) := by
  blk_ext [iblk, V_main_arg3, index t]

/-- Rows of equal contents give equal rows. -/
theorem both_congr {n n' : ℕ} {a b : (⟨2, ![n, 1024]⟩ : Shape).Idx → EReal} {a' b' : (⟨2, ![n', 1024]⟩ : Shape).Idx → EReal}
    {g h g' h' : (⟨2, ![1, 1024]⟩ : Shape).Idx → EReal} {r : Fin n} {r' : Fin n'} (ha : ∀ k, a (ix2 r k) = a' (ix2 r' k))
    (hb : ∀ k, b (ix2 r k) = b' (ix2 r' k)) (hg : ∀ k, g (ix2 0 k) = g' (ix2 0 k)) (hh : ∀ k, h (ix2 0 k) = h' (ix2 0 k)) (j : Fin 2048) :
    both a b g h r j = both a' b' g' h' r' j := by
  simp only [both, ha, hb, hg, hh]

/-- Both branches, whole. -/
theorem array4 : (dats m 0 c).arrAt 4 cfg0.N
    = fun i => both (n := 4096) (m ((c : Thread nD τ).loc main_arg0)) (m ((c : Thread nD τ).loc main_arg1)) (m ((c : Thread nD τ).loc main_arg2))
        (m ((c : Thread nD τ).loc main_arg3)) (i 0) (i 1) := by
  refine (dats m 0 c).arrAt_eq_of_covers 4 _ (by decide +kernel) fun t hf y => ?_
  blk_simp
  have e0 : ((win0_4.blk t).view.emb y 0).val = t.val * 512 + (y 0).val := by
    blk_simp [index t] <;> omega
  have e1 : ((win0_4.blk t).view.emb y 1).val = (y 1).val := by
    blk_simp [index t] <;> omega
  have e : (win0_4.blk t).view.emb y = ix2 ⟨t.val * 512 + (y 0).val, e0 ▸ ((win0_4.blk t).view.emb y 0).isLt⟩ (y 1) :=
    (eq_ix2 _).trans (congrArg₂ ix2 (Fin.ext e0) (Fin.ext e1))
  rw [after0_4, out4_apply, e]
  exact both_congr (fun k => blk0 m c t _ k _) (fun k => blk1 m c t _ k _) (fun k => blk2 m c t k) (fun k => blk3 m c t k) _

section refer
open Cert.RefRmsIdeal.Read

variable (a b : Vec Ideal S4096x1024 .f32) (g h : Vec Ideal S1x1024 .f32) (r : Fin 4096)

/-- The reference's first branch, at an index. -/
theorem v11_at (j : Fin 1024) : val_main_v11 (F := Ideal) a g (ix2 r j) = rms (fun k => a (ix2 r k)) (g (ix2 0 j)) j := by
  unfold rms
  pointwise [val_main_v11, val_main_v10, val_main_v9, val_main_v8, val_main_v7, val_main_v6, val_main_v5, val_main_v4, val_main_v3, val_main_v2, val_main_v1, val_main_v0,
    val_main_cst, val_main_cst_0, val_main_cst_1]

/-- The reference's second branch, at an index. -/
theorem v23_at (j : Fin 1024) : val_main_v23 (F := Ideal) b h (ix2 r j) = rms (fun k => b (ix2 r k)) (h (ix2 0 j)) j := by
  unfold rms
  pointwise [val_main_v23, val_main_v22, val_main_v21, val_main_v20, val_main_v19, val_main_v18, val_main_v17, val_main_v16, val_main_v15, val_main_v14, val_main_v13,
    val_main_v12, val_main_cst_2, val_main_cst_3, val_main_cst_4]

/-- The reference's result, at an index. -/
theorem v25_at (j : Fin 2048) : val_main_v25 (F := Ideal) a b g h (ix2 r j) = both a b g h r j := by
  unfold both
  pointwise [val_main_v25, val_main_v24]
  split
  · exact v11_at a g r _
  · exact v23_at b h r _

end refer

/-- The reference runs, leaves its arguments alone and every counter at zero. -/
theorem frameRef : Cert.quiescent_RefRmsIdeal := fun m g _ =>
  (θ_run Cert.RefRmsIdeal.defs _ _).mono (fun r h => ⟨fun c => (h c).2, sem_eq_zero_of_no_sems rfl _⟩) (Cert.RefRmsIdeal.Value.run m g)

/-- The kernel's result is the reference's. -/
theorem value : Cert.algebraic_RmsIdeal_RefRmsIdeal := by
  intro m g m' g' _ hargs
  refine ⟨fun c => (dats m 0 c).arrAt 4 cfg0.N, Cert.RmsIdeal.Value.run_blocks m g, ?_⟩
  refine (θ_run Cert.RefRmsIdeal.defs _ _).mono (fun r h c => ?_) (Cert.RefRmsIdeal.Value.run m' g')
  obtain ⟨h0, h1⟩ := h c
  obtain ⟨a0, a1, a2, a3⟩ := hargs c
  refine ⟨h0.trans ?_, h1⟩
  rw [Cert.RefRmsIdeal.Read.val_main_v25_eq, a0, a1, a2, a3]
  refine Eq.trans ?_ (array4 m c).symm
  funext i
  obtain ⟨r, j, rfl⟩ : ∃ r j, i = ix2 r j := ⟨i 0, i 1, eq_ix2 i⟩
  exact v25_at _ _ _ _ r j

end Cert.OfRms

end
-- ==== Proof.MemEq.lean ====
module

public import proofs.«01_k».proof.Pre_scores_finite
public import proofs.«01_k».proof.Proof.MemMath
public import Idealize.ShloMosaic.Lib.Pointwise
public import Idealize.ShloMosaic.Lib.IdealHost

/-! On finite queries and keys the kernel's gradient of the scores is the reference's: the row's normaliser is then a
positive real, over which products distribute whatever the other factors are. -/

@[expose] public section

noncomputable section

namespace Cert.MemMath

open Idealize.ShloMosaic

/-- The score scale is a real number. -/
theorem scale_real : ∃ c : ℝ, scale = (c : EReal) := by
  unfold scale
  simp [Ideal.ofBits, Ideal.ieee, -EReal.coe_mul]

/-- A sum of real numbers is real. -/
theorem sum_real {ι : Type} (s : Finset ι) (f : ι → ℝ) : ∑ i ∈ s, ((f i : ℝ) : EReal) = ((∑ i ∈ s, f i : ℝ) : EReal) := by
  classical
  induction s using Finset.induction_on with
  | empty => simp
  | insert i s hi ih => rw [Finset.sum_insert hi, Finset.sum_insert hi, ih, EReal.coe_add]

/-- A positive real factor moves into a sum of any extended reals. -/
theorem mul_sum_real {ι : Type} (s : Finset ι) (f : ι → EReal) {a : ℝ} (ha : 0 ≤ a) : (a : EReal) * ∑ i ∈ s, f i = ∑ i ∈ s, (a : EReal) * f i := by
  classical
  induction s using Finset.induction_on with
  | empty => simp
  | insert i s hi ih =>
    rw [Finset.sum_insert hi, Finset.sum_insert hi, EReal.left_distrib_of_nonneg_of_ne_top (EReal.coe_nonneg.mpr ha) (EReal.coe_ne_top a), ih]

/-- The scores of real queries and keys are real. -/
theorem score_real (q : Fin 512 → EReal) (k : Fin 256 → Fin 512 → EReal) (hq : ∀ d, ∃ a : ℝ, q d = a) (hk : ∀ m d, ∃ a : ℝ, k m d = a) :
    ∃ x : Fin 256 → ℝ, score q k = fun m => (x m : EReal) := by
  choose a ha using hq
  choose b hb using hk
  obtain ⟨c, hc⟩ := scale_real
  refine ⟨fun m => (∑ d, a d * b m d) * c, funext fun m => ?_⟩
  unfold score
  simp only [ha, hb, hc, ← EReal.coe_mul]
  rw [sum_real, ← EReal.coe_mul]

/-- The greatest of a row is one of its entries. -/
theorem top_mem (s : Fin 256 → EReal) : ∃ m, top s = s m := by
  obtain ⟨m, -, h⟩ := Finset.exists_mem_eq_sup (Finset.univ : Finset (Fin 256)) Finset.univ_nonempty s
  exact ⟨m, h⟩

/-- The rule of the two forms, over one entry's factors: `a` is the reciprocal of the normaliser, `e` the exponential. -/
theorem forms_eq (a e : ℝ) (ha : 0 ≤ a) (g c : EReal) (f : Fin 256 → EReal) (x : Fin 256 → ℝ) :
    (g * (a : EReal) + -(∑ k, f k * ((a * a : ℝ) : EReal) * (x k : EReal))) * (e : EReal) * c
      = (e : EReal) * (a : EReal) * (g - ∑ k, f k * ((x k : EReal) * (a : EReal))) * c := by
  have hsum : (∑ k, f k * ((a * a : ℝ) : EReal) * (x k : EReal)) = (a : EReal) * ∑ k, f k * ((x k : EReal) * (a : EReal)) := by
    rw [mul_sum_real _ _ ha]
    refine Finset.sum_congr rfl fun k _ => ?_
    rw [EReal.coe_mul, mul_comm (x k : EReal), ← mul_assoc (f k), ← mul_assoc (f k), ← mul_assoc (a : EReal), mul_comm (a : EReal) (f k * a), ]
  rw [hsum]
  generalize (∑ k, f k * ((x k : EReal) * (a : EReal))) = T
  rw [← mul_neg, mul_comm g (a : EReal), ← EReal.left_distrib_of_nonneg_of_ne_top (EReal.coe_nonneg.mpr ha) (EReal.coe_ne_top a), ← sub_eq_add_neg,
    mul_comm ((a : EReal) * (g - T)) (e : EReal), mul_assoc (e : EReal) (a : EReal)]

/-- The exponentials of real scores, taken from the greatest, are real and positive. -/
theorem ex_real (x : Fin 256 → ℝ) : ∃ y : Fin 256 → ℝ, (∀ m, 0 < y m) ∧ ∀ m, ex (fun m => (x m : EReal)) m = (y m : EReal) := by
  obtain ⟨t, ht⟩ := top_mem fun m => (x m : EReal)
  refine ⟨fun m => Real.exp (x m - x t), fun m => Real.exp_pos _, fun m => ?_⟩
  unfold ex
  rw [ht, ← EReal.coe_sub, Ideal.exp_coe]

/-- On real scores the two forms of the gradient of the scores agree. -/
theorem dscoreRef_eq {s : Fin 256 → EReal} (hs : ∃ x : Fin 256 → ℝ, s = fun m => (x m : EReal)) (g : Fin 256 → EReal) (m : Fin 256) :
    dscoreRef s g m = dscore s g m := by
  obtain ⟨x, rfl⟩ := hs
  obtain ⟨y, hy, he⟩ := ex_real x
  have hpos : 0 < ∑ m, y m := Finset.sum_pos (fun m _ => hy m) Finset.univ_nonempty
  have htot : tot (fun m => (x m : EReal)) = ((∑ m, y m : ℝ) : EReal) := by
    unfold tot; rw [← sum_real]; exact Finset.sum_congr rfl fun m _ => he m
  generalize (∑ m, y m) = Z at hpos htot
  have h1 : (1 / (Z * Z) : ℝ) = 1 / Z * (1 / Z) := by rw [one_div_mul_one_div]
  have h2 : ∀ k, prob (fun m => (x m : EReal)) k = (y k : EReal) * ((1 / Z : ℝ) : EReal) := fun k => by
    unfold prob; rw [he, htot, Ideal.div_coe hpos.ne']
  unfold dscoreRef dscore
  simp only [h2]
  rw [htot, he, Ideal.div_coe hpos.ne', ← EReal.coe_mul, Ideal.div_coe (mul_pos hpos hpos).ne', one_mul, h1]
  simp only [he]
  exact forms_eq (1 / Z) (y m) (one_div_pos.mpr hpos).le (g m) scale g y

/-- A value whose absolute value is below +∞ is a real number. -/
theorem real_of_abs {x : EReal} (h : BitVec.ofBool (decide (max x (-x) < Ideal.ofBits .f32 0x7F800000#32)) = 1#1) : ∃ a : ℝ, x = a := by
  have ht : Ideal.ofBits .f32 0x7F800000#32 = ⊤ := rfl
  rw [ht] at h
  have h' : max x (-x) < ⊤ := by
    by_contra hn
    rw [decide_eq_false hn] at h
    exact absurd h (by decide)
  induction x with
  | bot => exact absurd h' (by simp)
  | top => exact absurd h' (by simp)
  | coe a => exact ⟨a, rfl⟩

variable [Cert.Pre_scores_finite.Facts]

/-- Under the precondition every query is real. -/
theorem pre_q {q : FVec Ideal ⟨2, ![4096, 2048]⟩ .bf16} {kv : FVec Ideal ⟨2, ![256, 4096]⟩ .bf16} {g : FVec Ideal ⟨2, ![4096, 2048]⟩ .bf16}
    (h : (Cert.Pre_scores_finite.fn (F := Ideal) q kv g).1 = fun _ => 1#1) (r : Fin 4096) (j : Fin 2048) : ∃ a : ℝ, (q (ix2 r j) : EReal) = a := by
  have := congrFun h (ix2 r j)
  revert this
  dsimp only [Cert.Pre_scores_finite.fn]
  pointwise
  exact real_of_abs

/-- Under the precondition every key is real. -/
theorem pre_k {q : FVec Ideal ⟨2, ![4096, 2048]⟩ .bf16} {kv : FVec Ideal ⟨2, ![256, 4096]⟩ .bf16} {g : FVec Ideal ⟨2, ![4096, 2048]⟩ .bf16}
    (h : (Cert.Pre_scores_finite.fn (F := Ideal) q kv g).2 = fun _ => 1#1) (m : Fin 256) (j : Fin 2048) :
    ∃ a : ℝ, (kv (ix2 m ⟨j.val, by omega⟩) : EReal) = a := by
  have := congrFun h (ix2 m j)
  revert this
  dsimp only [Cert.Pre_scores_finite.fn]
  pointwise
  exact real_of_abs

end Cert.MemMath

end
-- ==== Proof.GradMath.lean ====
module

public import proofs.«01_k».proof.Proof.NormMath
public import proofs.«01_k».proof.Proof.MemEq
public import Idealize.ShloMosaic.Lib.Pointwise

/-! The gradients of the two norms, a row at a time: the form in which the kernels compute them and the form that the derivative of the
    norm's lines takes. On real rows the two agree. -/

@[expose] public section

noncomputable section

namespace Cert.GradMath

open Idealize.ShloMosaic Cert.NormMath

/-! ## Over the reals -/

/-- The layernorm's gradient, over the reals: `c` the centred row, `s` the reciprocal of the square root of `v`, `a` the row of gradients times gains. -/
theorem ln_real {n : ℕ} (N : ℝ) (a c : Fin n → ℝ) (s v : ℝ) (hc : ∑ k, c k = 0) (hs : s * s = 1 / v) (j : Fin n) :
    a j * s + (∑ k, c k * a k) * (-(1 / 2) * (s * (1 / v))) * (1 / N) * (2 * c j)
        + (∑ k, -(a k * s) + ∑ k, -((∑ k, c k * a k) * (-(1 / 2) * (s * (1 / v))) * (1 / N) * (2 * c k))) * (1 / N)
      = s * (a j - (∑ k, a k) * (1 / N) - c j * s * ((∑ k, a k * (c k * s)) * (1 / N))) := by
  have h1 : ∑ k, a k * (c k * s) = s * ∑ k, c k * a k := by
    rw [Finset.mul_sum]; exact Finset.sum_congr rfl fun k _ => by ring
  have h2 : ∑ k, -(a k * s) = -(s * ∑ k, a k) := by
    rw [Finset.mul_sum, ← Finset.sum_neg_distrib]; exact Finset.sum_congr rfl fun k _ => by ring
  have h3 : ∑ k, -((∑ k, c k * a k) * (-(1 / 2) * (s * (1 / v))) * (1 / N) * (2 * c k)) = 0 := by
    rw [Finset.sum_neg_distrib, ← Finset.mul_sum, ← Finset.mul_sum, hc]; ring
  rw [h1, h2, h3, ← hs]
  ring

/-! ## The words of the constants -/

theorem word_2048 : Ideal.ofBits .f32 0x45000000#32 = ((2048 : ℝ) : EReal) := by
  simp [Ideal.ofBits, Ideal.ieee, -EReal.coe_mul]; norm_num

theorem word_1024 : Ideal.ofBits .f32 0x44800000#32 = ((1024 : ℝ) : EReal) := by
  simp [Ideal.ofBits, Ideal.ieee, -EReal.coe_mul]; norm_num

theorem word_two : Ideal.ofBits .f32 0x40000000#32 = ((2 : ℝ) : EReal) := by
  simp [Ideal.ofBits, Ideal.ieee, -EReal.coe_mul]; norm_num

theorem word_neg_half : Ideal.ofBits .f32 0xBF000000#32 = ((-(1 / 2) : ℝ) : EReal) := by
  simp [Ideal.ofBits, Ideal.ieee, -EReal.coe_mul]; norm_num

theorem word_half : Ideal.ofBits .f32 0x3F000000#32 = ((1 / 2 : ℝ) : EReal) := by
  simp [Ideal.ofBits, Ideal.ieee, -EReal.coe_mul]; norm_num

theorem word_inv_2048 : Ideal.ofBits .f32 0x3A000000#32 = ((1 / 2048 : ℝ) : EReal) := by
  simp [Ideal.ofBits, Ideal.ieee, -EReal.coe_mul]; norm_num

theorem word_ln_eps : ∃ e : ℝ, 0 < e ∧ Ideal.ofBits .f32 0x3727C5AC#32 = (e : EReal) := by
  refine ⟨_, ?_, by simp [Ideal.ofBits, Ideal.ieee, -EReal.coe_mul]; rfl⟩
  norm_num

theorem word_rms_eps : ∃ e : ℝ, 0 < e ∧ Ideal.ofBits .f32 0x358637BD#32 = (e : EReal) := by
  refine ⟨_, ?_, by simp [Ideal.ofBits, Ideal.ieee, -EReal.coe_mul]; rfl⟩
  norm_num

/-- Half of the derivative of a square, over 2048. -/
theorem loss_grad (e : EReal) : Ideal.div (Ideal.ofBits .f32 0x3F000000#32) (Ideal.ofBits .f32 0x45000000#32) * (Ideal.ofBits .f32 0x40000000#32 * e)
    = e * Ideal.ofBits .f32 0x3A000000#32 := by
  rw [word_half, word_2048, word_two, word_inv_2048, Ideal.div_coe (by norm_num), ← mul_assoc, ← EReal.coe_mul, ← EReal.coe_mul, mul_comm]
  congr 2
  norm_num

/-! ## Infinite entries -/

/-- A sum that is a real number has real terms only. -/
theorem real_of_sum {n : ℕ} {f : Fin n → EReal} {r : ℝ} (h : ∑ k, f k = (r : EReal)) (k : Fin n) : ∃ x : ℝ, f k = x := by
  rw [← Finset.add_sum_erase _ _ (Finset.mem_univ k)] at h
  generalize f k = x at h ⊢
  generalize ∑ i ∈ Finset.univ.erase k, f i = y at h
  induction x with
  | bot => simp at h
  | top => induction y <;> simp at h
  | coe x => exact ⟨x, rfl⟩

/-- A square is nowhere below zero. -/
theorem sq_nonneg (x : EReal) : 0 ≤ x * x := by
  induction x with
  | bot => simp
  | top => simp
  | coe x => exact_mod_cast mul_self_nonneg x

/-- A square that is a real number is a real number's. -/
theorem real_of_sq {x : EReal} {r : ℝ} (h : x * x = (r : EReal)) : ∃ y : ℝ, x = y := by
  induction x with
  | bot => simp at h
  | top => simp at h
  | coe x => exact ⟨x, rfl⟩

/-- The mean of the squares of a row, with a small positive constant: a positive real number when the row is real, and +∞ when not. -/
theorem mean_sq {n : ℕ} {w e : ℝ} (hw : 0 < w) (he : 0 < e) (c : Fin n → EReal) :
    ((∀ k, ∃ x : ℝ, c k = x) ∧ ∃ v : ℝ, 0 < v ∧ Ideal.div (∑ k, c k * c k) w + e = (v : EReal)) ∨ Ideal.div (∑ k, c k * c k) w + e = ⊤ := by
  have h0 : 0 ≤ ∑ k, c k * c k := Finset.sum_nonneg fun k _ => sq_nonneg _
  rw [Ideal.div_coe hw.ne']
  generalize hS : ∑ k, c k * c k = S at h0 ⊢
  induction S with
  | bot => simp at h0
  | top =>
    right
    rw [EReal.top_mul_coe_of_pos (by positivity), EReal.top_add_coe]
  | coe S =>
    left
    refine ⟨fun k => ?_, S * (1 / w) + e, ?_, by norm_cast⟩
    · obtain ⟨x, hx⟩ := real_of_sum hS k
      exact real_of_sq hx
    · have : 0 ≤ S := by exact_mod_cast h0
      positivity

/-- What a row is scaled by: a real number whose square is the reciprocal. -/
theorem rsqrt_pos {v : ℝ} (hv : 0 < v) : ∃ s : ℝ, 0 < s ∧ s * s = 1 / v ∧ Ideal.rsqrt v = (s : EReal) := by
  refine ⟨(√v)⁻¹, by positivity, ?_, ?_⟩
  · rw [← mul_inv, Real.mul_self_sqrt hv.le, one_div]
  · rw [Ideal.rsqrt_coe, if_neg (not_lt.2 hv.le), if_neg hv.ne']

/-! ## The layernorm's gradient -/

/-- The gradient of a row under the layernorm, as the kernel computes it: `a` the row of gradients times gains. -/
def lnGrad (z a : Fin 2048 → EReal) (j : Fin 2048) : EReal :=
  scale z * (a j - mean a - centred z j * scale z * mean fun k => a k * (centred z k * scale z))

/-- The variance of a row, with its small constant. -/
def var (z : Fin 2048 → EReal) : EReal := mean (fun k => centred z k * centred z k) + Ideal.ofBits .f32 0x3727C5AC#32

/-- The gradient of the row's squared deviations, each alike. -/
def lnShare (z a : Fin 2048 → EReal) : EReal :=
  Ideal.div ((∑ k, centred z k * a k) * (Ideal.ofBits .f32 0xBF000000#32 * Ideal.div (scale z) (var z))) (Ideal.ofBits .f32 0x45000000#32)

/-- The gradient of a row under the layernorm, as the derivative of its lines. -/
def lnDeriv (z a : Fin 2048 → EReal) (j : Fin 2048) : EReal :=
  a j * scale z + lnShare z a * (Ideal.ofBits .f32 0x40000000#32 * centred z j)
    + Ideal.div (∑ k, -(a k * scale z) + ∑ k, -(lnShare z a * (Ideal.ofBits .f32 0x40000000#32 * centred z k))) (Ideal.ofBits .f32 0x45000000#32)

theorem scale_eq (z : Fin 2048 → EReal) : scale z = Ideal.rsqrt (var z) := rfl

/-- A real row's deviations are real and add up to zero. -/
theorem centred_real {z : Fin 2048 → EReal} (h : ∀ k, ∃ x : ℝ, centred z k = x) : ∃ c : Fin 2048 → ℝ, (∀ k, centred z k = c k) ∧ ∑ k, c k = 0 := by
  have hz : ∃ x : Fin 2048 → ℝ, ∀ k, z k = x k := by
    suffices hz : ∀ k, ∃ x : ℝ, z k = x from Classical.axiom_of_choice hz
    intro k
    obtain ⟨y, hy⟩ := h k
    unfold centred at hy
    generalize mean z = μ at hy
    generalize z k = w at hy ⊢
    induction w with
    | bot => simp at hy
    | top => induction μ <;> simp at hy
    | coe x => exact ⟨x, rfl⟩
  obtain ⟨x, hx⟩ := hz
  refine ⟨fun k => x k - (∑ k, x k) * (1 / 2048), fun k => ?_, ?_⟩
  · unfold centred mean
    simp only [hx, word_2048, MemMath.sum_real, Ideal.div_coe (show (2048 : ℝ) ≠ 0 by norm_num)]
    norm_cast
  · rw [Finset.sum_sub_distrib, Finset.sum_const, Finset.card_univ, Fintype.card_fin, nsmul_eq_mul]
    push_cast
    ring

/-- The two forms agree on a row whose gradients times gains are real. -/
theorem lnDeriv_eq (z a : Fin 2048 → EReal) (ha : ∀ k, ∃ x : ℝ, a k = x) (j : Fin 2048) : lnDeriv z a j = lnGrad z a j := by
  obtain ⟨e, he, hE⟩ := word_ln_eps
  have hvar : var z = Ideal.div (∑ k, centred z k * centred z k) ((2048 : ℝ) : EReal) + e := by
    unfold var mean
    rw [word_2048, hE]
  rcases mean_sq (by norm_num : (0 : ℝ) < 2048) he (centred z) with ⟨hc, v, hv, hV⟩ | hV
  · obtain ⟨c, hc, hc0⟩ := centred_real hc
    obtain ⟨a', ha⟩ := Classical.axiom_of_choice ha
    obtain ⟨s, -, hss, hs⟩ := rsqrt_pos hv
    rw [← hvar] at hV
    have hs' : scale z = s := by rw [scale_eq, hV, hs]
    have H := ln_real 2048 a' c s v hc0 hss j
    unfold lnDeriv lnShare lnGrad mean
    simp only [hc, ha, hs', hV, word_2048, word_two, word_neg_half, Ideal.div_coe hv.ne', Ideal.div_coe (show (2048 : ℝ) ≠ 0 by norm_num)]
    simp only [← EReal.coe_mul, ← EReal.coe_neg, MemMath.sum_real, ← EReal.coe_add, ← EReal.coe_sub]
    exact congrArg _ H
  · rw [← hvar] at hV
    have hs : scale z = 0 := by rw [scale_eq, hV, Ideal.rsqrt_top]
    have hd : ∀ x : ℝ, x ≠ 0 → Ideal.div 0 x = 0 := fun x h => by rw [Ideal.div_coe h, zero_mul]
    have ht : Ideal.div 0 ⊤ = 0 := by simp [Ideal.div]
    simp [lnDeriv, lnShare, lnGrad, hs, hV, ht, word_2048, hd]

/-! ## The root-mean-square norm's gradient -/

/-- The mean square of a row, with its small constant. -/
def msq (z : Fin 1024 → EReal) : EReal := Ideal.div (∑ k, z k * z k) (Ideal.ofBits .f32 0x44800000#32) + Ideal.ofBits .f32 0x358637BD#32

/-- What a row is scaled by. -/
def rinv (z : Fin 1024 → EReal) : EReal := Ideal.rsqrt (msq z)

/-- The gradient of a row under the norm, as the kernel computes it: `a` the row of gradients times gains. -/
def rmsGrad (z a : Fin 1024 → EReal) (j : Fin 1024) : EReal :=
  rinv z * (a j - z j * rinv z * Ideal.div (∑ k, a k * (z k * rinv z)) (Ideal.ofBits .f32 0x44800000#32))

/-- The gradient of the row's squares, each alike. -/
def rmsShare (z a : Fin 1024 → EReal) : EReal :=
  Ideal.div ((∑ k, z k * a k) * (Ideal.ofBits .f32 0xBF000000#32 * Ideal.div (rinv z) (msq z))) (Ideal.ofBits .f32 0x44800000#32)

/-- The gradient of a row under the norm, as the derivative of its lines. -/
def rmsDeriv (z a : Fin 1024 → EReal) (j : Fin 1024) : EReal := a j * rinv z + z j * rmsShare z a + rmsShare z a * z j

/-- The same multiple of a value twice. -/
theorem twice (r : ℝ) (x : EReal) : r * x + r * x = ((2 * r : ℝ) : EReal) * x := by
  have h : ∀ y : EReal, y + y = ((2 : ℝ) : EReal) * y := fun y => by
    induction y with
    | bot => rw [EReal.coe_mul_bot_of_pos (by norm_num)]; rfl
    | top => rw [EReal.coe_mul_top_of_pos (by norm_num)]; rfl
    | coe y => norm_cast; ring
  rw [h, ← mul_assoc, ← EReal.coe_mul]

/-- The two forms agree, whatever the gradients. -/
theorem rmsDeriv_eq (z a : Fin 1024 → EReal) (j : Fin 1024) : rmsDeriv z a j = rmsGrad z a j := by
  obtain ⟨e, he, hE⟩ := word_rms_eps
  have hmsq : msq z = Ideal.div (∑ k, z k * z k) ((1024 : ℝ) : EReal) + e := by
    unfold msq
    rw [word_1024, hE]
  rcases mean_sq (by norm_num : (0 : ℝ) < 1024) he z with ⟨hz, v, hv, hV⟩ | hV
  · obtain ⟨z', hz⟩ := Classical.axiom_of_choice hz
    obtain ⟨s, hs0, hss, hs⟩ := rsqrt_pos hv
    rw [← hmsq] at hV
    have hs' : rinv z = s := by rw [rinv, hV, hs]
    have h1 : ∑ k, a k * (z k * (s : EReal)) = s * ∑ k, z k * a k := by
      rw [MemMath.mul_sum_real _ _ hs0.le]
      exact Finset.sum_congr rfl fun k _ => by rw [← mul_assoc, mul_comm (a k), mul_comm]
    unfold rmsDeriv rmsShare rmsGrad
    simp only [hs', hV, word_1024, word_neg_half, Ideal.div_coe hv.ne', Ideal.div_coe (show (1024 : ℝ) ≠ 0 by norm_num), h1]
    generalize ∑ k, z k * a k = P
    rw [hz j]
    have hl : a j * s + z' j * (P * (((-(1 / 2) : ℝ) : EReal) * (s * ((1 / v : ℝ) : EReal))) * ((1 / 1024 : ℝ) : EReal))
          + P * (((-(1 / 2) : ℝ) : EReal) * (s * ((1 / v : ℝ) : EReal))) * ((1 / 1024 : ℝ) : EReal) * z' j
        = s * a j + ((s * (-(z' j * s * (s * (1 / 1024)))) : ℝ) : EReal) * P := by
      have hx : ∀ w : EReal, P * (((-(1 / 2) : ℝ) : EReal) * (s * ((1 / v : ℝ) : EReal))) * ((1 / 1024 : ℝ) : EReal) = ((-(1 / 2) * (s * (1 / v)) * (1 / 1024) : ℝ) : EReal) * P := fun _ => by
        rw [← EReal.coe_mul, ← EReal.coe_mul, mul_assoc, ← EReal.coe_mul, mul_comm]
      rw [hx 0, mul_comm _ (z' j : EReal), ← mul_assoc, ← EReal.coe_mul, add_assoc, twice, mul_comm (a j), ← hss]
      congr 3
      ring
    have hr : (s : EReal) * (a j - z' j * s * (s * P * ((1 / 1024 : ℝ) : EReal))) = s * a j + ((s * (-(z' j * s * (s * (1 / 1024)))) : ℝ) : EReal) * P := by
      have hq : (z' j : EReal) * s * (s * P * ((1 / 1024 : ℝ) : EReal)) = ((z' j * s * (s * (1 / 1024)) : ℝ) : EReal) * P := by
        rw [mul_right_comm (s : EReal) P, ← EReal.coe_mul, ← EReal.coe_mul, ← mul_assoc, ← EReal.coe_mul]
      rw [hq, sub_eq_add_neg, ← EReal.neg_mul, ← EReal.coe_neg,
        EReal.left_distrib_of_nonneg_of_ne_top (by exact_mod_cast hs0.le) (EReal.coe_ne_top _), ← mul_assoc, ← EReal.coe_mul]
    rw [hl, hr]
  · rw [← hmsq] at hV
    have hs : rinv z = 0 := by rw [rinv, hV, Ideal.rsqrt_top]
    have hd : ∀ x : ℝ, x ≠ 0 → Ideal.div 0 x = 0 := fun x h => by rw [Ideal.div_coe h, zero_mul]
    have ht : Ideal.div 0 ⊤ = 0 := by simp [Ideal.div]
    simp [rmsDeriv, rmsShare, rmsGrad, hs, hV, ht, word_1024, hd]

end Cert.GradMath

end
-- ==== Proof.OfLnGrad.lean ====
module

public import proofs.«01_k».proof.Defs
public import proofs.«01_k».proof.Proof.Gen.LnGradIdeal.Value
public import proofs.«01_k».proof.Proof.Gen.RefLnGradIdeal.Read
public import proofs.«01_k».proof.Proof.GradMath
public import proofs.«01_k».proof.Proof.ProdSum
public import Idealize.ShloMosaic.Lib.Quiescent
public import Idealize.ShloMosaic.Lib.Tactic
public import Idealize.ShloMosaic.Lib.Pointwise
public import Idealize.ShloMosaic.Lib.Pipeline.ValueKit
public import Idealize.ShloMosaic.Lib.Pipeline.ReadBack

/-! The gradients of the rows, the gains and the offsets under the layernorm: each point takes 256 rows. -/

@[expose] public section

set_option maxRecDepth 16384

noncomputable section

namespace Cert.OfLnGrad

open Idealize.ShloMosaic Idealize.ShloMosaic.TcCoe Idealize.SL.Sem
open Cert.NormMath Cert.GradMath

/-- The gradient of an entry of the rows. -/
def row {n : ℕ} (d z : (⟨2, ![n, 2048]⟩ : Shape).Idx → EReal) (g : (⟨2, ![1, 2048]⟩ : Shape).Idx → EReal) (r : Fin n) (j : Fin 2048) : EReal :=
  lnGrad (fun k => z (ix2 r k)) (fun k => d (ix2 r k) * g (ix2 0 k)) j

/-- A row's part in a gain's gradient. -/
def gain {n : ℕ} (d z : (⟨2, ![n, 2048]⟩ : Shape).Idx → EReal) (r : Fin n) (j : Fin 2048) : EReal :=
  d (ix2 r j) * (centred (fun k => z (ix2 r k)) j * scale fun k => z (ix2 r k))

theorem row_congr {n n' : ℕ} {d z : (⟨2, ![n, 2048]⟩ : Shape).Idx → EReal} {d' z' : (⟨2, ![n', 2048]⟩ : Shape).Idx → EReal}
    {g g' : (⟨2, ![1, 2048]⟩ : Shape).Idx → EReal} {r : Fin n} {r' : Fin n'}
    (hd : ∀ k, d (ix2 r k) = d' (ix2 r' k)) (hz : ∀ k, z (ix2 r k) = z' (ix2 r' k)) (hg : ∀ k, g (ix2 0 k) = g' (ix2 0 k)) (j : Fin 2048) :
    row d z g r j = row d' z' g' r' j := by
  simp only [row, hd, hz, hg]

theorem gain_congr {n n' : ℕ} {d z : (⟨2, ![n, 2048]⟩ : Shape).Idx → EReal} {d' z' : (⟨2, ![n', 2048]⟩ : Shape).Idx → EReal} {r : Fin n} {r' : Fin n'}
    (hd : ∀ k, d (ix2 r k) = d' (ix2 r' k)) (hz : ∀ k, z (ix2 r k) = z' (ix2 r' k)) (j : Fin 2048) : gain d z r j = gain d' z' r' j := by
  simp only [gain, hd, hz]

/-- A row's part in an offset's gradient. -/
def offset {n : ℕ} (d : (⟨2, ![n, 2048]⟩ : Shape).Idx → EReal) (r : Fin n) (j : Fin 2048) : EReal :=
  d (ix2 r j)

/-- The shape facts of the precondition. -/
instance preFacts : Cert.Pre_products_finite.Facts where
  bcast_S1x2048_S4096x2048_0_1 := by decide
  bcast_S_S4096x2048 := by decide

/-- Under the precondition the gradients times the gains are real. -/
theorem pre_real {d z : FVec Ideal ⟨2, ![4096, 2048]⟩ .f32} {g : FVec Ideal ⟨2, ![1, 2048]⟩ .f32}
    (h : Cert.Pre_products_finite.fn (F := Ideal) d z g = fun _ => 1#1) (r : Fin 4096) (j : Fin 2048) : ∃ a : ℝ, (d (ix2 r j) * g (ix2 0 j) : EReal) = a := by
  have := congrFun h (ix2 r j)
  revert this
  dsimp only [Cert.Pre_products_finite.fn]
  pointwise
  exact MemMath.real_of_abs

section refer
open Cert.RefLnGradIdeal Cert.RefLnGradIdeal.Gen Cert.RefLnGradIdeal.Read

variable (d z : Vec Ideal S4096x2048 .f32) (g : Vec Ideal S1x2048 .f32) (p : Fin 512) (q : Fin 8) (j : Fin 2048)

/-- The reference's deviations. -/
theorem v8_at : val_main_v8 (F := Ideal) z (ix3 p q j) = centred (fun k => z (ix2 ⟨p.val * 8 + q.val, by omega⟩ k)) j := by
  unfold centred mean
  pointwise [val_main_v8, val_main_v7, val_main_v6, val_main_v5, val_main_v4, val_main_v3, val_main_v2, val_main_cst_0, val_main_cst_1]

theorem v17_eq : val_main_v17 (F := Ideal) z = val_main_v8 z := rfl

/-- The reference's variances. -/
theorem v19_at : val_main_v19 (F := Ideal) z (ix3 p q 0) = var fun k => z (ix2 ⟨p.val * 8 + q.val, by omega⟩ k) := by
  unfold var mean
  pointwise [val_main_v19, val_main_v18, val_main_v15, val_main_v14, val_main_v13, val_main_v12, val_main_v9, val_main_cst_2, val_main_cst_3, val_main_cst_4, val_main_cst_5]
  simp only [v8_at]

/-- The gradients, times the gains. -/
theorem v41_at : val_main_v41 (F := Ideal) d g (ix3 p q j) = d (ix2 ⟨p.val * 8 + q.val, by omega⟩ j) * g (ix2 0 j) := by
  pointwise [val_main_v41, val_main_v40, val_main_v33, val_main_v26, val_main_v0]

theorem v54_at : val_main_v54 (F := Ideal) d z g (ix2 p q)
    = lnShare (fun k => z (ix2 ⟨p.val * 8 + q.val, by omega⟩ k)) fun k => d (ix2 ⟨p.val * 8 + q.val, by omega⟩ k) * g (ix2 0 k) := by
  unfold lnShare
  simp only [scale_eq]
  pointwise [val_main_v54, val_main_v53, val_main_v52, val_main_v48, val_main_v45, val_main_v44, val_main_v43, val_main_v23, val_main_v22, val_main_v21, val_main_v20,
    val_main_cst_6, val_main_cst_11, val_main_cst_13, val_main_cst_14]
  rw [Finset.univ_unique, Finset.sum_singleton]
  simp only [v17_eq, v41_at, v8_at]
  rw [show (default : Fin 1) = 0 from rfl, v19_at]

theorem v56_at : val_main_v56 (F := Ideal) d z g (ix3 p q j)
    = lnShare (fun k => z (ix2 ⟨p.val * 8 + q.val, by omega⟩ k)) (fun k => d (ix2 ⟨p.val * 8 + q.val, by omega⟩ k) * g (ix2 0 k))
      * (Ideal.ofBits .f32 0x40000000#32 * centred (fun k => z (ix2 ⟨p.val * 8 + q.val, by omega⟩ k)) j) := by
  pointwise [val_main_v56, val_main_v55, val_main_v11, val_main_v10, val_main_cst_2]
  rw [v54_at, v8_at]

theorem v47_at : val_main_v47 (F := Ideal) d z g (ix3 p q j)
    = d (ix2 ⟨p.val * 8 + q.val, by omega⟩ j) * g (ix2 0 j) * scale (fun k => z (ix2 ⟨p.val * 8 + q.val, by omega⟩ k)) := by
  simp only [scale_eq]
  pointwise [val_main_v47, val_main_v46, val_main_v20]
  rw [v41_at, v19_at]

theorem v66_at : val_main_v66 (F := Ideal) d z g (ix3 p q j)
    = lnDeriv (fun k => z (ix2 ⟨p.val * 8 + q.val, by omega⟩ k)) (fun k => d (ix2 ⟨p.val * 8 + q.val, by omega⟩ k) * g (ix2 0 k)) j := by
  unfold lnDeriv
  pointwise [val_main_v66, val_main_v65, val_main_v64, val_main_v63, val_main_v62, val_main_v61, val_main_v60, val_main_v59, val_main_v58, val_main_v57, val_main_v51, val_main_v50, val_main_v49,
    val_main_cst_12, val_main_cst_15, val_main_cst_16, val_main_cst_17]
  rw [Finset.univ_unique, Finset.sum_singleton]
  simp only [v47_at, v56_at]

theorem v67_at (ha : ∀ r k, ∃ x : ℝ, (d (ix2 r k) * g (ix2 0 k) : EReal) = x) (r : Fin 4096) : val_main_v67 (F := Ideal) d z g (ix2 r j) = row d z g r j := by
  unfold row
  pointwise [val_main_v67]
  rw [v66_at, lnDeriv_eq _ _ fun k => ha _ k]
  have e : (⟨r.val / 8 * 8 + r.val % 8, by omega⟩ : Fin 4096) = r := Fin.ext (by dsimp only; omega)
  simp only [e]

/-- The gradient of the gains: eight partial sums. -/
theorem v42_at (r : Fin 8) : val_main_v42 (F := Ideal) d z (ix2 r j) = ∑ k : Fin 512, gain d z ⟨k.val * 8 + r.val, by omega⟩ j := by
  unfold gain
  simp only [scale_eq]
  pointwise [val_main_v42, val_main_v39, val_main_v38, val_main_v37, val_main_v33, val_main_v25, val_main_v24, val_main_v20, val_main_cst_9, val_main_cst_10]
  rw [Finset.univ_unique, Finset.sum_singleton]
  simp only [v17_eq, v19_at, v8_at]
  exact Finset.sum_congr rfl fun k _ => mul_comm _ _

/-- The gradient of the offsets: eight partial sums. -/
theorem v36_at (r : Fin 8) : val_main_v36 (F := Ideal) d (ix2 r j) = ∑ k : Fin 512, d (ix2 ⟨k.val * 8 + r.val, by omega⟩ j) := by
  pointwise [val_main_v36, val_main_v35, val_main_v34, val_main_v33, val_main_cst_7, val_main_cst_8]
  rw [Finset.univ_unique, Finset.sum_singleton]

end refer

section ker
open Cert.LnGradIdeal Cert.LnGradIdeal.Gen

section pays
variable (v0 v1 : Vec Ideal S256x2048 .f32) (v18 : Vec Ideal S1x2048 .f32) (w : Vec Ideal S8x2048 .f32)

theorem pay5_apply (r : Fin 256) (j : Fin 2048) : k0_pay5 v0 (ix2 r j) = centred (fun k => v0 (ix2 r k)) j := by
  unfold centred mean
  pointwise [k0_pay5]

theorem pay6_apply (r : Fin 256) : k0_pay6 v0 (ix2 r 0) = scale fun k => v0 (ix2 r k) := by
  unfold scale mean
  pointwise [k0_pay6]
  simp only [pay5_apply]

theorem pay7_apply (r : Fin 256) (j : Fin 2048) : k0_pay7 v0 (ix2 r j) = centred (fun k => v0 (ix2 r k)) j * scale fun k => v0 (ix2 r k) := by
  pointwise [k0_pay7]
  rw [pay5_apply, pay6_apply]

/-- The rows' gradient. -/
theorem pay8_apply (y : S256x2048.Idx) : k0_pay8 v0 v1 v18 y = row (n := 256) v1 v0 v18 (y 0) (y 1) := by
  obtain ⟨r, j, rfl⟩ : ∃ r j, y = ix2 r j := ⟨y 0, y 1, eq_ix2 y⟩
  show _ = row (n := 256) v1 v0 v18 r j
  unfold row lnGrad mean
  pointwise [k0_pay8]
  simp only [pay7_apply, pay6_apply]

/-- The part of 256 rows in the partial sums of the gains' gradient. -/
def partG (y : S8x2048.Idx) : EReal :=
  ∑ k : Fin 32, gain (n := 256) v1 v0 ⟨k.val * 8 + (y 0).val, by have := (y 0).isLt; dsimp at this; omega⟩ (y 1)

/-- The part of 256 rows in the partial sums of the offsets' gradient. -/
def partB (y : S8x2048.Idx) : EReal :=
  ∑ k : Fin 32, v1 (ix2 ⟨k.val * 8 + (y 0).val, by have := (y 0).isLt; dsimp at this; omega⟩ (y 1))

theorem pay3_apply (y : S8x2048.Idx) : k0_pay3 v1 (k0_pay7 v0) w y = w y + partG v0 v1 y := by
  obtain ⟨r, j, rfl⟩ : ∃ r j, y = ix2 r j := ⟨y 0, y 1, eq_ix2 y⟩
  pointwise [k0_pay3]
  simp only [pay7_apply]
  rfl

theorem pay4_apply (y : S8x2048.Idx) : k0_pay4 v1 w y = w y + partB v1 y := by
  obtain ⟨r, j, rfl⟩ : ∃ r j, y = ix2 r j := ⟨y 0, y 1, eq_ix2 y⟩
  pointwise [k0_pay4]
  rfl

/-- The partial sums start at zero. -/
theorem pay1_apply (y : S8x2048.Idx) : k0_pay1 (F := Ideal) y = 0 := by
  pointwise [k0_pay1]

/-- The partial sums start at zero. -/
theorem pay2_apply (y : S8x2048.Idx) : k0_pay2 (F := Ideal) y = 0 := by
  pointwise [k0_pay2]

end pays

variable (m : (ℓ : Loc nD τ sig) → Buf (Elt Ideal) ℓ) (c : Dev nD)

/-- Every point leaves its rows' gradient. -/
theorem outs3 (t : Fin cfg0.N) (y : S256x2048.Idx) :
    (outsAt0 m c t.val t.isLt).1 y = row (n := 256) (iblk m c 0 t) (iblk m c 1 t) (iblk m c 2 t) (y 0) (y 1) := by
  by_cases h : t.val % 16 = 0
  · rw [outsAt0_A m c t h]
    dsimp only
    unfold out0_A_3
    frame_out
    exact pay8_apply _ _ _ y
  · rw [outsAt0_B m c t h]
    dsimp only
    unfold out0_B_3
    frame_out
    exact pay8_apply _ _ _ y

/-- Every point leaves its rows' gradient a second time. -/
theorem outs4 (t : Fin cfg0.N) (y : S256x2048.Idx) :
    (outsAt0 m c t.val t.isLt).2.1 y = row (n := 256) (iblk m c 0 t) (iblk m c 1 t) (iblk m c 2 t) (y 0) (y 1) := by
  by_cases h : t.val % 16 = 0
  · rw [outsAt0_A m c t h]
    dsimp only
    unfold out0_A_4
    frame_out
    exact pay8_apply _ _ _ y
  · rw [outsAt0_B m c t h]
    dsimp only
    unfold out0_B_4
    frame_out
    exact pay8_apply _ _ _ y

theorem sum5_first (t : Fin cfg0.N) (h : t.val % 16 = 0) (y : S8x2048.Idx) :
    (outsAt0 m c t.val t.isLt).2.2.1 y = k0_pay1 (F := Ideal) y + partG (iblk m c 1 t) (iblk m c 0 t) y := by
  rw [outsAt0_A m c t h]
  dsimp only
  unfold out0_A_5
  frame_out
  exact pay3_apply _ _ _ y

theorem sum5_next (t : Fin cfg0.N) (h : ¬ t.val % 16 = 0) (y : S8x2048.Idx) :
    (outsAt0 m c t.val t.isLt).2.2.1 y = (outsAt0 m c (t.val - 1) (Nat.lt_of_le_of_lt (Nat.sub_le _ _) t.isLt)).2.2.1 y + partG (iblk m c 1 t) (iblk m c 0 t) y := by
  rw [outsAt0_B m c t h]
  dsimp only
  unfold out0_B_5
  frame_out
  exact pay3_apply _ _ _ y

theorem sum6_first (t : Fin cfg0.N) (h : t.val % 16 = 0) (y : S8x2048.Idx) :
    (outsAt0 m c t.val t.isLt).2.2.2 y = k0_pay2 (F := Ideal) y + partB (iblk m c 0 t) y := by
  rw [outsAt0_A m c t h]
  dsimp only
  unfold out0_A_6
  frame_out
  exact pay4_apply _ _ y

theorem sum6_next (t : Fin cfg0.N) (h : ¬ t.val % 16 = 0) (y : S8x2048.Idx) :
    (outsAt0 m c t.val t.isLt).2.2.2 y = (outsAt0 m c (t.val - 1) (Nat.lt_of_le_of_lt (Nat.sub_le _ _) t.isLt)).2.2.2 y + partB (iblk m c 0 t) y := by
  rw [outsAt0_B m c t h]
  dsimp only
  unfold out0_B_6
  frame_out
  exact pay4_apply _ _ y

/-- Where each point's blocks lie. -/
theorem index : ∀ t : Fin cfg0.N, win0_0.index t = ![t.val, 0] ∧ win0_1.index t = ![t.val, 0] ∧ win0_2.index t = ![0, 0] ∧ win0_3.index t = ![t.val, 0] ∧ win0_4.index t = ![t.val, 0] :=
  (by decide +kernel : ∀ t : Fin grid0.N, _)

theorem blk0 (t : Fin cfg0.N) (r : Fin 256) (k : Fin 2048) (R : Fin 4096) (h : R.val = t.val * 256 + r.val) :
    iblk m c 0 t (ix2 r k) = m ((c : Thread nD τ).loc main_arg0) (ix2 R k) := by
  obtain ⟨R, p⟩ := R
  obtain rfl : R = t.val * 256 + r.val := h
  blk_ext [iblk, V_main_arg0, index t]

theorem blk1 (t : Fin cfg0.N) (r : Fin 256) (k : Fin 2048) (R : Fin 4096) (h : R.val = t.val * 256 + r.val) :
    iblk m c 1 t (ix2 r k) = m ((c : Thread nD τ).loc main_arg1) (ix2 R k) := by
  obtain ⟨R, p⟩ := R
  obtain rfl : R = t.val * 256 + r.val := h
  blk_ext [iblk, V_main_arg1, index t]

theorem blk2 (t : Fin cfg0.N) (k : Fin 2048) : iblk m c 2 t (ix2 0 k) = m ((c : Thread nD τ).loc main_arg2) (ix2 0 k) := by
  blk_ext [iblk, V_main_arg2, index t]

/-- The rows' gradient, whole. -/
theorem array3 : (dats m 0 c).arrAt 3 cfg0.N
    = fun i => row (n := 4096) (m ((c : Thread nD τ).loc main_arg0)) (m ((c : Thread nD τ).loc main_arg1)) (m ((c : Thread nD τ).loc main_arg2)) (i 0) (i 1) := by
  refine (dats m 0 c).arrAt_eq_of_covers 3 _ (by decide +kernel) fun t hf y => ?_
  blk_simp
  have e0 : ((win0_3.blk t).view.emb y 0).val = t.val * 256 + (y 0).val := by
    blk_simp [index t] <;> omega
  have e1 : (win0_3.blk t).view.emb y 1 = y 1 := Fin.ext (by blk_simp [index t])
  rw [after0_3, outs3, e1]
  exact row_congr (fun k => blk0 m c t _ k _ e0) (fun k => blk1 m c t _ k _ e0) (fun k => blk2 m c t k) _

/-- The rows' gradient a second time, whole. -/
theorem array4 : (dats m 0 c).arrAt 4 cfg0.N
    = fun i => row (n := 4096) (m ((c : Thread nD τ).loc main_arg0)) (m ((c : Thread nD τ).loc main_arg1)) (m ((c : Thread nD τ).loc main_arg2)) (i 0) (i 1) := by
  refine (dats m 0 c).arrAt_eq_of_covers 4 _ (by decide +kernel) fun t hf y => ?_
  blk_simp
  have e0 : ((win0_4.blk t).view.emb y 0).val = t.val * 256 + (y 0).val := by
    blk_simp [index t] <;> omega
  have e1 : (win0_4.blk t).view.emb y 1 = y 1 := Fin.ext (by blk_simp [index t])
  rw [after0_4, outs4, e1]
  exact row_congr (fun k => blk0 m c t _ k _ e0) (fun k => blk1 m c t _ k _ e0) (fun k => blk2 m c t k) _

/-- The gains' gradient, whole. -/
theorem array5 : (dats m 0 c).arrAt 5 cfg0.N
    = fun i : S8x2048.Idx => ∑ k : Fin 512, gain (n := 4096) (m ((c : Thread nD τ).loc main_arg0)) (m ((c : Thread nD τ).loc main_arg1))
        ⟨k.val * 8 + (i 0).val, by have := (i 0).isLt; dsimp at this; omega⟩ (i 1) := by
  refine (dats m 0 c).arrAt_eq_of_after_last 5 t0_15 (by decide +kernel) _ fun y => ?_
  blk_simp
  rw [after0_5]
  refine (Pipeline.eq_sum_fin_of_reset_step_apply_last (fun n h => (outsAt0 m c n h).2.2.1) 16 (k0_pay1 (F := Ideal)) (fun t => partG (iblk m c 1 t) (iblk m c 0 t))
    (sum5_first m c) (sum5_next m c) (by decide) t0_15 rfl y).trans ?_
  rw [pay1_apply, zero_add]
  obtain ⟨r, j, rfl⟩ : ∃ r j, y = ix2 r j := ⟨y 0, y 1, eq_ix2 y⟩
  refine Eq.trans ?_ (ProdSum.sum_halves (n := 32) (J := 16) rfl fun k : Fin 512 =>
    gain (n := 4096) (m ((c : Thread nD τ).loc main_arg0)) (m ((c : Thread nD τ).loc main_arg1)) ⟨k.val * 8 + r.val, by omega⟩ j)
  refine Finset.sum_congr rfl fun t _ => Finset.sum_congr rfl fun k _ => ?_
  have e : (t.val * 32 + k.val) * 8 + r.val = t.val * 256 + (k.val * 8 + r.val) := by omega
  exact gain_congr (fun i => blk0 m c t _ i _ e) (fun i => blk1 m c t _ i _ e) j

/-- The offsets' gradient, whole. -/
theorem array6 : (dats m 0 c).arrAt 6 cfg0.N
    = fun i : S8x2048.Idx => ∑ k : Fin 512, offset (n := 4096) (m ((c : Thread nD τ).loc main_arg0)) ⟨k.val * 8 + (i 0).val, by have := (i 0).isLt; dsimp at this; omega⟩ (i 1) := by
  refine (dats m 0 c).arrAt_eq_of_after_last 6 t0_15 (by decide +kernel) _ fun y => ?_
  blk_simp
  rw [after0_6]
  refine (Pipeline.eq_sum_fin_of_reset_step_apply_last (fun n h => (outsAt0 m c n h).2.2.2) 16 (k0_pay2 (F := Ideal)) (fun t => partB (iblk m c 0 t))
    (sum6_first m c) (sum6_next m c) (by decide) t0_15 rfl y).trans ?_
  rw [pay2_apply, zero_add]
  obtain ⟨r, j, rfl⟩ : ∃ r j, y = ix2 r j := ⟨y 0, y 1, eq_ix2 y⟩
  refine Eq.trans ?_ (ProdSum.sum_halves (n := 32) (J := 16) rfl fun k : Fin 512 => offset (n := 4096) (m ((c : Thread nD τ).loc main_arg0)) ⟨k.val * 8 + r.val, by omega⟩ j)
  refine Finset.sum_congr rfl fun t _ => Finset.sum_congr rfl fun k _ => ?_
  have e : (t.val * 32 + k.val) * 8 + r.val = t.val * 256 + (k.val * 8 + r.val) := by omega
  exact blk0 m c t _ j _ e

end ker

/-- The reference runs, leaves its arguments alone and every counter at zero. -/
theorem frameRef : Cert.quiescent_RefLnGradIdeal := fun m g _ =>
  (θ_run Cert.RefLnGradIdeal.defs _ _).mono (fun r h => ⟨fun c => (h c).2.2.2.2, sem_eq_zero_of_no_sems rfl _⟩) (Cert.RefLnGradIdeal.Value.run m g)

open Cert.LnGradIdeal Cert.LnGradIdeal.Gen in
/-- The kernel's results are the reference's. -/
theorem value : Cert.algebraic_LnGradIdeal_RefLnGradIdeal_pre_products_finite := by
  intro m g m' g' hpre hargs
  have hr := fun c => pre_real (hpre c)
  refine ⟨fun c => (dats m 0 c).arrAt 3 cfg0.N, fun c => (dats m 0 c).arrAt 4 cfg0.N, fun c => (dats m 0 c).arrAt 5 cfg0.N, fun c => (dats m 0 c).arrAt 6 cfg0.N,
    Cert.LnGradIdeal.Value.run_blocks m g, ?_⟩
  refine (θ_run Cert.RefLnGradIdeal.defs _ _).mono (fun r h c => ?_) (Cert.RefLnGradIdeal.Value.run m' g')
  obtain ⟨h0, h1, h2, h3, h4⟩ := h c
  obtain ⟨a0, a1, a2⟩ := hargs c
  refine ⟨h0.trans ?_, h1.trans ?_, h2.trans ?_, h3.trans ?_, h4⟩
  · rw [Cert.RefLnGradIdeal.Read.val_main_v67_eq, a0, a1, a2]
    refine Eq.trans ?_ (array3 m c).symm
    funext i
    obtain ⟨r, j, rfl⟩ : ∃ r j, i = ix2 r j := ⟨i 0, i 1, eq_ix2 i⟩
    exact v67_at _ _ _ j (hr c) r
  · rw [Cert.RefLnGradIdeal.Read.val_main_v68_eq, a0, a1, a2]
    refine Eq.trans ?_ (array4 m c).symm
    funext i
    obtain ⟨r, j, rfl⟩ : ∃ r j, i = ix2 r j := ⟨i 0, i 1, eq_ix2 i⟩
    exact v67_at _ _ _ j (hr c) r
  · rw [Cert.RefLnGradIdeal.Read.val_main_v42_eq, a0, a1]
    refine Eq.trans ?_ (array5 m c).symm
    funext i
    obtain ⟨r, j, rfl⟩ : ∃ r j, i = ix2 r j := ⟨i 0, i 1, eq_ix2 i⟩
    exact v42_at _ _ j r
  · rw [Cert.RefLnGradIdeal.Read.val_main_v36_eq, a0]
    refine Eq.trans ?_ (array6 m c).symm
    funext i
    obtain ⟨r, j, rfl⟩ : ∃ r j, i = ix2 r j := ⟨i 0, i 1, eq_ix2 i⟩
    exact v36_at _ j r

end Cert.OfLnGrad

end
-- ==== Proof.OfRmsGrad.lean ====
module

public import proofs.«01_k».proof.Defs
public import proofs.«01_k».proof.Proof.Gen.RmsGradIdeal.Value
public import proofs.«01_k».proof.Proof.Gen.RefRmsGradIdeal.Read
public import proofs.«01_k».proof.Proof.GradMath
public import proofs.«01_k».proof.Proof.ProdSum
public import Idealize.ShloMosaic.Lib.Quiescent
public import Idealize.ShloMosaic.Lib.Tactic
public import Idealize.ShloMosaic.Lib.Pointwise
public import Idealize.ShloMosaic.Lib.Pipeline.ValueKit
public import Idealize.ShloMosaic.Lib.Pipeline.ReadBack

/-! The gradients of the two branches and of their gains under the root-mean-square norm: each point takes 512 rows of both. -/

@[expose] public section

set_option maxRecDepth 16384

noncomputable section

namespace Cert.OfRmsGrad

open Idealize.ShloMosaic Idealize.ShloMosaic.TcCoe Idealize.SL.Sem
open Cert.GradMath

/-- The first branch's columns among both. -/
abbrev lo (j : Fin 1024) : Fin 2048 := ⟨j.val, by omega⟩

/-- The second branch's columns among both. -/
abbrev hi (j : Fin 1024) : Fin 2048 := ⟨1024 + j.val, by omega⟩

/-- The gradient of a branch, whose columns among both are at `col`. -/
def branch (col : Fin 1024 → Fin 2048) {n : ℕ} (d : (⟨2, ![n, 2048]⟩ : Shape).Idx → EReal) (z : (⟨2, ![n, 1024]⟩ : Shape).Idx → EReal)
    (g : (⟨2, ![1, 1024]⟩ : Shape).Idx → EReal) (r : Fin n) (j : Fin 1024) : EReal :=
  rmsGrad (fun k => z (ix2 r k)) (fun k => d (ix2 r (col k)) * g (ix2 0 k)) j

/-- A row's part in a gain's gradient. -/
def gain (col : Fin 1024 → Fin 2048) {n : ℕ} (d : (⟨2, ![n, 2048]⟩ : Shape).Idx → EReal) (z : (⟨2, ![n, 1024]⟩ : Shape).Idx → EReal)
    (r : Fin n) (j : Fin 1024) : EReal :=
  z (ix2 r j) * rinv (fun k => z (ix2 r k)) * d (ix2 r (col j))

theorem branch_congr {col : Fin 1024 → Fin 2048} {n n' : ℕ} {d : (⟨2, ![n, 2048]⟩ : Shape).Idx → EReal} {z : (⟨2, ![n, 1024]⟩ : Shape).Idx → EReal}
    {d' : (⟨2, ![n', 2048]⟩ : Shape).Idx → EReal} {z' : (⟨2, ![n', 1024]⟩ : Shape).Idx → EReal} {g g' : (⟨2, ![1, 1024]⟩ : Shape).Idx → EReal} {r : Fin n} {r' : Fin n'}
    (hd : ∀ k, d (ix2 r k) = d' (ix2 r' k)) (hz : ∀ k, z (ix2 r k) = z' (ix2 r' k)) (hg : ∀ k, g (ix2 0 k) = g' (ix2 0 k)) (j : Fin 1024) :
    branch col d z g r j = branch col d' z' g' r' j := by
  simp only [branch, hd, hz, hg]

theorem gain_congr {col : Fin 1024 → Fin 2048} {n n' : ℕ} {d : (⟨2, ![n, 2048]⟩ : Shape).Idx → EReal} {z : (⟨2, ![n, 1024]⟩ : Shape).Idx → EReal}
    {d' : (⟨2, ![n', 2048]⟩ : Shape).Idx → EReal} {z' : (⟨2, ![n', 1024]⟩ : Shape).Idx → EReal} {r : Fin n} {r' : Fin n'}
    (hd : ∀ k, d (ix2 r k) = d' (ix2 r' k)) (hz : ∀ k, z (ix2 r k) = z' (ix2 r' k)) (j : Fin 1024) :
    gain col d z r j = gain col d' z' r' j := by
  simp only [gain, hd, hz]

section refer
open Cert.RefRmsGradIdeal Cert.RefRmsGradIdeal.Gen Cert.RefRmsGradIdeal.Read

variable (d : Vec Ideal S4096x2048 .f32) (a b : Vec Ideal S4096x1024 .f32) (g h : Vec Ideal S1x1024 .f32) (p : Fin 512) (q : Fin 8) (j : Fin 1024)

/-- The first branch's mean squares. -/
theorem v9_at : val_main_v9 (F := Ideal) a (ix3 p q 0) = msq fun k => a (ix2 ⟨p.val * 8 + q.val, by omega⟩ k) := by
  unfold msq
  pointwise [val_main_v9, val_main_v8, val_main_v7, val_main_v6, val_main_v5, val_main_v4, val_main_v3, val_main_v2, val_main_cst, val_main_cst_0, val_main_cst_1]

/-- The first branch's gradients, times its gains. -/
theorem v66_at : val_main_v66 (F := Ideal) d g (ix3 p q j) = d (ix2 ⟨p.val * 8 + q.val, by omega⟩ (lo j)) * g (ix2 0 j) := by
  pointwise [val_main_v66, val_main_v65, val_main_v39, val_main_v38, val_main_v16, val_main_v0]

theorem v76_at : val_main_v76 (F := Ideal) d a g (ix2 p q)
    = rmsShare (fun k => a (ix2 ⟨p.val * 8 + q.val, by omega⟩ k)) fun k => d (ix2 ⟨p.val * 8 + q.val, by omega⟩ (lo k)) * g (ix2 0 k) := by
  unfold rmsShare rinv
  pointwise [val_main_v76, val_main_v75, val_main_v74, val_main_v73, val_main_v70, val_main_v69, val_main_v68, val_main_v13, val_main_v12, val_main_v11, val_main_v10,
    val_main_v2, val_main_cst_2, val_main_cst_14, val_main_cst_15, val_main_cst_16]
  rw [Finset.univ_unique, Finset.sum_singleton]
  simp only [v66_at]
  rw [show (default : Fin 1) = 0 from rfl, v9_at]

theorem v81_at : val_main_v81 (F := Ideal) d a g (ix3 p q j)
    = rmsDeriv (fun k => a (ix2 ⟨p.val * 8 + q.val, by omega⟩ k)) (fun k => d (ix2 ⟨p.val * 8 + q.val, by omega⟩ (lo k)) * g (ix2 0 k)) j := by
  unfold rmsDeriv rinv
  pointwise [val_main_v81, val_main_v80, val_main_v79, val_main_v78, val_main_v77, val_main_v72, val_main_v71, val_main_v10, val_main_v2]
  rw [v66_at, v76_at, v9_at]

theorem v82_at (r : Fin 4096) : val_main_v82 (F := Ideal) d a g (ix2 r j) = branch lo d a g r j := by
  unfold branch
  pointwise [val_main_v82]
  rw [v81_at, rmsDeriv_eq]
  have e : (⟨r.val / 8 * 8 + r.val % 8, by omega⟩ : Fin 4096) = r := Fin.ext (by dsimp only; omega)
  simp only [e]

/-- The gradient of the first branch's gains: eight partial sums. -/
theorem v67_at (r : Fin 8) : val_main_v67 (F := Ideal) d a (ix2 r j) = ∑ k : Fin 512, gain lo d a ⟨k.val * 8 + r.val, by omega⟩ j := by
  unfold gain rinv
  pointwise [val_main_v67, val_main_v64, val_main_v63, val_main_v62, val_main_v15, val_main_v39, val_main_v38, val_main_v14, val_main_v10, val_main_v2, val_main_cst_12, val_main_cst_13]
  rw [Finset.univ_unique, Finset.sum_singleton]
  simp only [v9_at]

/-- The two branches' columns exchanged. -/
def swap (d : Vec Ideal S4096x2048 .f32) : Vec Ideal S4096x2048 .f32 := fun i => d (ix2 (i 0) ⟨((i 1).val + 1024) % 2048, by omega⟩)

theorem swap_lo (r : Fin 4096) (k : Fin 1024) : swap d (ix2 r (lo k)) = d (ix2 r (hi k)) :=
  congrArg d (congrArg (ix2 r) (Fin.ext (show (k.val + 1024) % 2048 = 1024 + k.val by omega)))

/-- The second branch's columns are the first's with the two exchanged. -/
theorem v40_eq : val_main_v40 (F := Ideal) d = val_main_v39 (swap d) := by
  funext i
  obtain ⟨p, q, j, rfl⟩ : ∃ p q j, i = ix3 p q j := ⟨i 0, i 1, i 2, eq_ix3 i⟩
  pointwise [val_main_v40, val_main_v39, val_main_v38]
  exact (swap_lo d _ j).symm

/-- The second branch's gradient is written as the first's. -/
theorem v61_eq : val_main_v61 (F := Ideal) d b h = val_main_v82 (swap d) b h := by
  unfold val_main_v61 val_main_v60 val_main_v59 val_main_v58 val_main_v57 val_main_v56 val_main_v55 val_main_v54 val_main_v52 val_main_v51 val_main_v49 val_main_v48
    val_main_v47 val_main_v45
  rw [v40_eq]
  rfl

/-- The gradient of the second branch's gains is written as the first's. -/
theorem v46_eq : val_main_v46 (F := Ideal) d b = val_main_v67 (swap d) b := by
  unfold val_main_v46 val_main_v43 val_main_v42 val_main_v41
  rw [v40_eq]
  rfl

theorem v61_at (r : Fin 4096) : val_main_v61 (F := Ideal) d b h (ix2 r j) = branch hi d b h r j := by
  rw [v61_eq, v82_at]
  simp only [branch, swap_lo]

theorem v46_at (r : Fin 8) : val_main_v46 (F := Ideal) d b (ix2 r j) = ∑ k : Fin 512, gain hi d b ⟨k.val * 8 + r.val, by omega⟩ j := by
  rw [v46_eq, v67_at]
  simp only [gain, swap_lo]

end refer

section ker
open Cert.RmsGradIdeal Cert.RmsGradIdeal.Gen

theorem pay7_apply (v3 : Vec Ideal S512x1024 .f32) (r : Fin 512) : k0_pay7 v3 (ix2 r 0) = rinv fun k => v3 (ix2 r k) := by
  unfold rinv msq
  pointwise [k0_pay7]

theorem pay9_apply (v3 v4 : Vec Ideal S512x1024 .f32) (v15 : Vec Ideal S1x1024 .f32) (r : Fin 512) (j : Fin 1024) :
    k0_pay9 v3 v4 v15 (ix2 r j) = rmsGrad (fun k => v3 (ix2 r k)) (fun k => v4 (ix2 r k) * v15 (ix2 0 k)) j := by
  unfold rmsGrad
  pointwise [k0_pay9, k0_pay8]
  simp only [pay7_apply]

theorem pay10_apply (v3 v4 : Vec Ideal S512x1024 .f32) (v29 : Vec Ideal S8x1024 .f32) (r : Fin 8) (j : Fin 1024) :
    k0_pay10 v3 v4 v29 (ix2 r j) = v29 (ix2 r j)
      + ∑ k : Fin 64, v3 (ix2 ⟨k.val * 8 + r.val, by omega⟩ j) * rinv (fun i => v3 (ix2 ⟨k.val * 8 + r.val, by omega⟩ i)) * v4 (ix2 ⟨k.val * 8 + r.val, by omega⟩ j) := by
  pointwise [k0_pay10, k0_pay8]
  simp only [pay7_apply]
  exact congrArg _ (Finset.sum_congr rfl fun k _ => mul_comm _ _)

/-- The second branch is written in the same way. -/
theorem pay3_eq (v3 v4 : Vec Ideal S512x1024 .f32) (v15 : Vec Ideal S1x1024 .f32) : k0_pay3 v3 v4 v15 = k0_pay9 v3 v4 v15 := rfl

/-- The gradient of the second branch's gains is written in the same way. -/
theorem pay4_eq (v3 v4 : Vec Ideal S512x1024 .f32) (v29 : Vec Ideal S8x1024 .f32) : k0_pay4 v3 v4 v29 = k0_pay10 v3 v4 v29 := rfl

/-- The partial sums start at zero. -/
theorem pay5_apply (y : S8x1024.Idx) : k0_pay5 (F := Ideal) y = 0 := by
  pointwise [k0_pay5]

/-- The partial sums start at zero. -/
theorem pay6_apply (y : S8x1024.Idx) : k0_pay6 (F := Ideal) y = 0 := by
  pointwise [k0_pay6]

/-- The first branch's columns of a block. -/
theorem ld_lo (X : Vec Ideal S512x2048 .f32) (inb) (r : Fin 512) (k : Fin 1024) :
    View.ld X (Rect.unit ![0, 0] ![512, 1024] inb) (ix2 r k) = X (ix2 r (lo k)) := by
  pointwise

/-- The second branch's columns of a block. -/
theorem ld_hi (X : Vec Ideal S512x2048 .f32) (inb) (r : Fin 512) (k : Fin 1024) :
    View.ld X (Rect.unit ![0, 1024] ![512, 1024] inb) (ix2 r k) = X (ix2 r (hi k)) := by
  pointwise

variable (x0 : Vec Ideal S512x2048 .f32) (z : Vec Ideal S512x1024 .f32) (g : Vec Ideal S1x1024 .f32) (w : Vec Ideal S8x1024 .f32)

theorem branch_of {col : Fin 1024 → Fin 2048} {v4 : Vec Ideal S512x1024 .f32} (hv : ∀ r k, v4 (ix2 r k) = x0 (ix2 r (col k))) (y : S512x1024.Idx) :
    k0_pay9 z v4 g y = branch col (n := 512) x0 z g (y 0) (y 1) := by
  obtain ⟨r, j, rfl⟩ : ∃ r j, y = ix2 r j := ⟨y 0, y 1, eq_ix2 y⟩
  rw [pay9_apply]
  simp only [hv]
  rfl

/-- The part of 512 rows in the partial sums of a gain's gradient. -/
def part (col : Fin 1024 → Fin 2048) (x0 : Vec Ideal S512x2048 .f32) (z : Vec Ideal S512x1024 .f32) (y : S8x1024.Idx) : EReal :=
  ∑ k : Fin 64, gain col (n := 512) x0 z ⟨k.val * 8 + (y 0).val, by have := (y 0).isLt; dsimp at this; omega⟩ (y 1)

theorem gain_of {col : Fin 1024 → Fin 2048} {v4 : Vec Ideal S512x1024 .f32} (hv : ∀ r k, v4 (ix2 r k) = x0 (ix2 r (col k))) (y : S8x1024.Idx) :
    k0_pay10 z v4 w y = w y + part col x0 z y := by
  obtain ⟨r, j, rfl⟩ : ∃ r j, y = ix2 r j := ⟨y 0, y 1, eq_ix2 y⟩
  rw [pay10_apply]
  simp only [hv]
  rfl

variable (m : (ℓ : Loc nD τ sig) → Buf (Elt Ideal) ℓ) (c : Dev nD)

/-- Every point leaves its rows' gradient of the first branch. -/
theorem outs5 (t : Fin cfg0.N) (y : S512x1024.Idx) :
    (outsAt0 m c t.val t.isLt).1 y = branch lo (n := 512) (iblk m c 0 t) (iblk m c 1 t) (iblk m c 3 t) (y 0) (y 1) := by
  by_cases h : t.val % 8 = 0
  · rw [outsAt0_A m c t h]
    dsimp only
    unfold out0_A_5
    frame_out
    exact branch_of _ _ _ (ld_lo _ _) y
  · rw [outsAt0_B m c t h]
    dsimp only
    unfold out0_B_5
    frame_out
    exact branch_of _ _ _ (ld_lo _ _) y

/-- Every point leaves its rows' gradient of the second branch. -/
theorem outs6 (t : Fin cfg0.N) (y : S512x1024.Idx) :
    (outsAt0 m c t.val t.isLt).2.1 y = branch hi (n := 512) (iblk m c 0 t) (iblk m c 2 t) (iblk m c 4 t) (y 0) (y 1) := by
  by_cases h : t.val % 8 = 0
  · rw [outsAt0_A m c t h]
    dsimp only
    unfold out0_A_6
    frame_out
    exact (congrFun (pay3_eq _ _ _) y).trans (branch_of _ _ _ (ld_hi _ _) y)
  · rw [outsAt0_B m c t h]
    dsimp only
    unfold out0_B_6
    frame_out
    exact (congrFun (pay3_eq _ _ _) y).trans (branch_of _ _ _ (ld_hi _ _) y)

theorem sum7_first (t : Fin cfg0.N) (h : t.val % 8 = 0) (y : S8x1024.Idx) :
    (outsAt0 m c t.val t.isLt).2.2.1 y = k0_pay5 (F := Ideal) y + part lo (iblk m c 0 t) (iblk m c 1 t) y := by
  rw [outsAt0_A m c t h]
  dsimp only
  unfold out0_A_7
  frame_out
  exact gain_of _ _ _ (ld_lo _ _) y

theorem sum7_next (t : Fin cfg0.N) (h : ¬ t.val % 8 = 0) (y : S8x1024.Idx) :
    (outsAt0 m c t.val t.isLt).2.2.1 y = (outsAt0 m c (t.val - 1) (Nat.lt_of_le_of_lt (Nat.sub_le _ _) t.isLt)).2.2.1 y + part lo (iblk m c 0 t) (iblk m c 1 t) y := by
  rw [outsAt0_B m c t h]
  dsimp only
  unfold out0_B_7
  frame_out
  exact gain_of _ _ _ (ld_lo _ _) y

theorem sum8_first (t : Fin cfg0.N) (h : t.val % 8 = 0) (y : S8x1024.Idx) :
    (outsAt0 m c t.val t.isLt).2.2.2 y = k0_pay6 (F := Ideal) y + part hi (iblk m c 0 t) (iblk m c 2 t) y := by
  rw [outsAt0_A m c t h]
  dsimp only
  unfold out0_A_8
  frame_out
  exact (congrFun (pay4_eq _ _ _) y).trans (gain_of _ _ _ (ld_hi _ _) y)

theorem sum8_next (t : Fin cfg0.N) (h : ¬ t.val % 8 = 0) (y : S8x1024.Idx) :
    (outsAt0 m c t.val t.isLt).2.2.2 y = (outsAt0 m c (t.val - 1) (Nat.lt_of_le_of_lt (Nat.sub_le _ _) t.isLt)).2.2.2 y + part hi (iblk m c 0 t) (iblk m c 2 t) y := by
  rw [outsAt0_B m c t h]
  dsimp only
  unfold out0_B_8
  frame_out
  exact (congrFun (pay4_eq _ _ _) y).trans (gain_of _ _ _ (ld_hi _ _) y)

/-- Where each point's blocks lie. -/
theorem index : ∀ t : Fin cfg0.N, win0_0.index t = ![t.val, 0] ∧ win0_1.index t = ![t.val, 0] ∧ win0_2.index t = ![t.val, 0] ∧ win0_3.index t = ![0, 0] ∧ win0_4.index t = ![0, 0]
    ∧ win0_5.index t = ![t.val, 0] ∧ win0_6.index t = ![t.val, 0] :=
  (by decide +kernel : ∀ t : Fin grid0.N, _)

theorem blk0 (t : Fin cfg0.N) (r : Fin 512) (k : Fin 2048) (R : Fin 4096) (h : R.val = t.val * 512 + r.val) :
    iblk m c 0 t (ix2 r k) = m ((c : Thread nD τ).loc main_arg0) (ix2 R k) := by
  obtain ⟨R, p⟩ := R
  obtain rfl : R = t.val * 512 + r.val := h
  blk_ext [iblk, V_main_arg0, index t]

theorem blk1 (t : Fin cfg0.N) (r : Fin 512) (k : Fin 1024) (R : Fin 4096) (h : R.val = t.val * 512 + r.val) :
    iblk m c 1 t (ix2 r k) = m ((c : Thread nD τ).loc main_arg1) (ix2 R k) := by
  obtain ⟨R, p⟩ := R
  obtain rfl : R = t.val * 512 + r.val := h
  blk_ext [iblk, V_main_arg1, index t]

theorem blk2 (t : Fin cfg0.N) (r : Fin 512) (k : Fin 1024) (R : Fin 4096) (h : R.val = t.val * 512 + r.val) :
    iblk m c 2 t (ix2 r k) = m ((c : Thread nD τ).loc main_arg2) (ix2 R k) := by
  obtain ⟨R, p⟩ := R
  obtain rfl : R = t.val * 512 + r.val := h
  blk_ext [iblk, V_main_arg2, index t]

theorem blk3 (t : Fin cfg0.N) (k : Fin 1024) : iblk m c 3 t (ix2 0 k) = m ((c : Thread nD τ).loc main_arg3) (ix2 0 k) := by
  blk_ext [iblk, V_main_arg3, index t]

theorem blk4 (t : Fin cfg0.N) (k : Fin 1024) : iblk m c 4 t (ix2 0 k) = m ((c : Thread nD τ).loc main_arg4) (ix2 0 k) := by
  blk_ext [iblk, V_main_arg4, index t]

/-- The first branch's gradient, whole. -/
theorem array5 : (dats m 0 c).arrAt 5 cfg0.N
    = fun i => branch lo (n := 4096) (m ((c : Thread nD τ).loc main_arg0)) (m ((c : Thread nD τ).loc main_arg1)) (m ((c : Thread nD τ).loc main_arg3)) (i 0) (i 1) := by
  refine (dats m 0 c).arrAt_eq_of_covers 5 _ (by decide +kernel) fun t hf y => ?_
  blk_simp
  have e0 : ((win0_5.blk t).view.emb y 0).val = t.val * 512 + (y 0).val := by
    blk_simp [index t] <;> omega
  have e1 : (win0_5.blk t).view.emb y 1 = y 1 := Fin.ext (by blk_simp [index t])
  rw [after0_5, outs5, e1]
  exact branch_congr (fun k => blk0 m c t _ k _ e0) (fun k => blk1 m c t _ k _ e0) (fun k => blk3 m c t k) _

/-- The second branch's gradient, whole. -/
theorem array6 : (dats m 0 c).arrAt 6 cfg0.N
    = fun i => branch hi (n := 4096) (m ((c : Thread nD τ).loc main_arg0)) (m ((c : Thread nD τ).loc main_arg2)) (m ((c : Thread nD τ).loc main_arg4)) (i 0) (i 1) := by
  refine (dats m 0 c).arrAt_eq_of_covers 6 _ (by decide +kernel) fun t hf y => ?_
  blk_simp
  have e0 : ((win0_6.blk t).view.emb y 0).val = t.val * 512 + (y 0).val := by
    blk_simp [index t] <;> omega
  have e1 : (win0_6.blk t).view.emb y 1 = y 1 := Fin.ext (by blk_simp [index t])
  rw [after0_6, outs6, e1]
  exact branch_congr (fun k => blk0 m c t _ k _ e0) (fun k => blk2 m c t _ k _ e0) (fun k => blk4 m c t k) _

/-- The points' partial sums together are the rows'. -/
theorem parts (col : Fin 1024 → Fin 2048) (d : S4096x2048.Idx → EReal) (z : S4096x1024.Idx → EReal) (X : Fin 8 → Vec Ideal S512x2048 .f32) (Z : Fin 8 → Vec Ideal S512x1024 .f32)
    (hX : ∀ t (r : Fin 512) k (R : Fin 4096), R.val = t.val * 512 + r.val → X t (ix2 r k) = d (ix2 R k))
    (hZ : ∀ t (r : Fin 512) k (R : Fin 4096), R.val = t.val * 512 + r.val → Z t (ix2 r k) = z (ix2 R k)) (y : S8x1024.Idx) :
    ∑ t : Fin 8, part col (X t) (Z t) y = ∑ k : Fin 512, gain col (n := 4096) d z ⟨k.val * 8 + (y 0).val, by have := (y 0).isLt; dsimp at this; omega⟩ (y 1) := by
  obtain ⟨r, j, rfl⟩ : ∃ r j, y = ix2 r j := ⟨y 0, y 1, eq_ix2 y⟩
  refine Eq.trans ?_ (ProdSum.sum_halves (n := 64) (J := 8) rfl fun k : Fin 512 => gain col (n := 4096) d z ⟨k.val * 8 + r.val, by omega⟩ j)
  refine Finset.sum_congr rfl fun t _ => Finset.sum_congr rfl fun k _ => ?_
  have e : (t.val * 64 + k.val) * 8 + r.val = t.val * 512 + (k.val * 8 + r.val) := by omega
  exact gain_congr (fun i => hX t _ i _ e) (fun i => hZ t _ i _ e) j

/-- The gradient of the first branch's gains, whole. -/
theorem array7 : (dats m 0 c).arrAt 7 cfg0.N
    = fun i : S8x1024.Idx => ∑ k : Fin 512, gain lo (n := 4096) (m ((c : Thread nD τ).loc main_arg0)) (m ((c : Thread nD τ).loc main_arg1))
        ⟨k.val * 8 + (i 0).val, by have := (i 0).isLt; dsimp at this; omega⟩ (i 1) := by
  refine (dats m 0 c).arrAt_eq_of_after_last 7 t0_7 (by decide +kernel) _ fun y => ?_
  blk_simp
  rw [after0_7]
  refine (Pipeline.eq_sum_fin_of_reset_step_apply_last (fun n h => (outsAt0 m c n h).2.2.1) 8 (k0_pay5 (F := Ideal)) (fun t => part lo (iblk m c 0 t) (iblk m c 1 t))
    (sum7_first m c) (sum7_next m c) (by decide) t0_7 rfl y).trans ?_
  rw [pay5_apply, zero_add]
  exact parts lo _ _ (fun t => iblk m c 0 t) (fun t => iblk m c 1 t) (blk0 m c) (blk1 m c) y

/-- The gradient of the second branch's gains, whole. -/
theorem array8 : (dats m 0 c).arrAt 8 cfg0.N
    = fun i : S8x1024.Idx => ∑ k : Fin 512, gain hi (n := 4096) (m ((c : Thread nD τ).loc main_arg0)) (m ((c : Thread nD τ).loc main_arg2))
        ⟨k.val * 8 + (i 0).val, by have := (i 0).isLt; dsimp at this; omega⟩ (i 1) := by
  refine (dats m 0 c).arrAt_eq_of_after_last 8 t0_7 (by decide +kernel) _ fun y => ?_
  blk_simp
  rw [after0_8]
  refine (Pipeline.eq_sum_fin_of_reset_step_apply_last (fun n h => (outsAt0 m c n h).2.2.2) 8 (k0_pay6 (F := Ideal)) (fun t => part hi (iblk m c 0 t) (iblk m c 2 t))
    (sum8_first m c) (sum8_next m c) (by decide) t0_7 rfl y).trans ?_
  rw [pay6_apply, zero_add]
  exact parts hi _ _ (fun t => iblk m c 0 t) (fun t => iblk m c 2 t) (blk0 m c) (blk2 m c) y

end ker

/-- The reference runs, leaves its arguments alone and every counter at zero. -/
theorem frameRef : Cert.quiescent_RefRmsGradIdeal := fun m g _ =>
  (θ_run Cert.RefRmsGradIdeal.defs _ _).mono (fun r h => ⟨fun c => (h c).2.2.2.2, sem_eq_zero_of_no_sems rfl _⟩) (Cert.RefRmsGradIdeal.Value.run m g)

open Cert.RmsGradIdeal Cert.RmsGradIdeal.Gen in
/-- The kernel's results are the reference's. -/
theorem value : Cert.algebraic_RmsGradIdeal_RefRmsGradIdeal := by
  intro m g m' g' _ hargs
  refine ⟨fun c => (dats m 0 c).arrAt 5 cfg0.N, fun c => (dats m 0 c).arrAt 6 cfg0.N, fun c => (dats m 0 c).arrAt 7 cfg0.N, fun c => (dats m 0 c).arrAt 8 cfg0.N,
    Cert.RmsGradIdeal.Value.run_blocks m g, ?_⟩
  refine (θ_run Cert.RefRmsGradIdeal.defs _ _).mono (fun r h c => ?_) (Cert.RefRmsGradIdeal.Value.run m' g')
  obtain ⟨h0, h1, h2, h3, h4⟩ := h c
  obtain ⟨a0, a1, a2, a3, a4⟩ := hargs c
  refine ⟨h0.trans ?_, h1.trans ?_, h2.trans ?_, h3.trans ?_, h4⟩
  · rw [Cert.RefRmsGradIdeal.Read.val_main_v82_eq, a0, a1, a3]
    refine Eq.trans ?_ (array5 m c).symm
    funext i
    obtain ⟨r, j, rfl⟩ : ∃ r j, i = ix2 r j := ⟨i 0, i 1, eq_ix2 i⟩
    exact v82_at _ _ _ j r
  · rw [Cert.RefRmsGradIdeal.Read.val_main_v61_eq, a0, a2, a4]
    refine Eq.trans ?_ (array6 m c).symm
    funext i
    obtain ⟨r, j, rfl⟩ : ∃ r j, i = ix2 r j := ⟨i 0, i 1, eq_ix2 i⟩
    exact v61_at _ _ _ j r
  · rw [Cert.RefRmsGradIdeal.Read.val_main_v67_eq, a0, a1]
    refine Eq.trans ?_ (array7 m c).symm
    funext i
    obtain ⟨r, j, rfl⟩ : ∃ r j, i = ix2 r j := ⟨i 0, i 1, eq_ix2 i⟩
    exact v67_at _ _ j r
  · rw [Cert.RefRmsGradIdeal.Read.val_main_v46_eq, a0, a2]
    refine Eq.trans ?_ (array8 m c).symm
    funext i
    obtain ⟨r, j, rfl⟩ : ∃ r j, i = ix2 r j := ⟨i 0, i 1, eq_ix2 i⟩
    exact v46_at _ _ j r

end Cert.OfRmsGrad

end
-- ==== Proof.OfLoss.lean ====
module

public import proofs.«01_k».proof.Defs
public import proofs.«01_k».proof.Proof.Gen.LossIdeal.Value
public import proofs.«01_k».proof.Proof.Gen.RefLossIdeal.Read
public import proofs.«01_k».proof.Proof.GradMath
public import proofs.«01_k».proof.Proof.ProdSum
public import Idealize.ShloMosaic.Lib.Quiescent
public import Idealize.ShloMosaic.Lib.Tactic
public import Idealize.ShloMosaic.Lib.Pointwise
public import Idealize.ShloMosaic.Lib.Pipeline.ValueKit
public import Idealize.ShloMosaic.Lib.Pipeline.ReadBack

/-! The loss's gradient and its terms in eight partial sums: each point takes 512 rows. -/

@[expose] public section

set_option maxRecDepth 16384

noncomputable section

namespace Cert.OfLoss

open Idealize.ShloMosaic Idealize.ShloMosaic.TcCoe Idealize.SL.Sem
open Cert.LossIdeal Cert.LossIdeal.Gen

/-- The gradient at an entry. -/
def grad (y t : EReal) : EReal := (y - t) * Ideal.ofBits .f32 0x3A000000#32

/-- The squared error of an entry. -/
def sq (y t : EReal) : EReal := (y - t) * (y - t)

theorem pay3_apply (v3 v4 : Vec Ideal S512x2048 .f32) (i : S512x2048.Idx) : k0_pay3 v3 v4 i = grad (v3 i) (v4 i) := by
  unfold grad
  pointwise [k0_pay3, k0_pay2]

theorem pay4_apply (v3 v4 : Vec Ideal S512x2048 .f32) (v9 : Vec Ideal S8x2048 .f32) (y : S8x2048.Idx) :
    k0_pay4 v3 v4 v9 y = v9 y + ∑ k : Fin 64, sq (v3 (ix2 ⟨k.val * 8 + (y 0).val, by have := (y 0).isLt; dsimp at this; omega⟩ (y 1))) (v4 (ix2 ⟨k.val * 8 + (y 0).val, by have := (y 0).isLt; dsimp at this; omega⟩ (y 1))) := by
  obtain ⟨r, s, rfl⟩ : ∃ r s, y = ix2 r s := ⟨y 0, y 1, eq_ix2 y⟩
  unfold sq
  pointwise [k0_pay4, k0_pay2]

theorem pay1_apply (y : S8x2048.Idx) : k0_pay1 (F := Ideal) y = 0 := by
  pointwise [k0_pay1]

variable (m : (ℓ : Loc nD τ sig) → Buf (Elt Ideal) ℓ) (c : Dev nD)

/-- Where each point's blocks lie. -/
theorem index : ∀ t : Fin cfg0.N, win0_0.index t = ![t.val, 0] ∧ win0_1.index t = ![t.val, 0] ∧ win0_2.index t = ![t.val, 0] ∧ win0_3.index t = ![0, 0] :=
  (by decide +kernel : ∀ t : Fin grid0.N, _)

theorem blk0 (t : Fin cfg0.N) (r : Fin 512) (k : Fin 2048) (R : Fin 4096) (h : R.val = t.val * 512 + r.val) :
    iblk m c 0 t (ix2 r k) = m ((c : Thread nD τ).loc main_arg0) (ix2 R k) := by
  obtain ⟨R, p⟩ := R
  obtain rfl : R = t.val * 512 + r.val := h
  blk_ext [iblk, V_main_arg0, index t]

theorem blk1 (t : Fin cfg0.N) (r : Fin 512) (k : Fin 2048) (R : Fin 4096) (h : R.val = t.val * 512 + r.val) :
    iblk m c 1 t (ix2 r k) = m ((c : Thread nD τ).loc main_arg1) (ix2 R k) := by
  obtain ⟨R, p⟩ := R
  obtain rfl : R = t.val * 512 + r.val := h
  blk_ext [iblk, V_main_arg1, index t]

/-- Every point leaves its rows' gradient. -/
theorem outs2 (t : Fin cfg0.N) (y : S512x2048.Idx) :
    (outsAt0 m c t.val t.isLt).1 y = grad (iblk m c 0 t y) (iblk m c 1 t y) := by
  by_cases h : t.val % 8 = 0
  · rw [outsAt0_A m c t h]
    dsimp only
    unfold out0_A_2
    frame_out
    exact pay3_apply _ _ y
  · rw [outsAt0_B m c t h]
    dsimp only
    unfold out0_B_2
    frame_out
    exact pay3_apply _ _ y

/-- The part of one point's rows in the partial sums. -/
def part (t : Fin cfg0.N) (y : S8x2048.Idx) : EReal :=
  ∑ k : Fin 64, sq (iblk m c 0 t (ix2 ⟨k.val * 8 + (y 0).val, by have := (y 0).isLt; dsimp at this; omega⟩ (y 1)))
    (iblk m c 1 t (ix2 ⟨k.val * 8 + (y 0).val, by have := (y 0).isLt; dsimp at this; omega⟩ (y 1)))

theorem sum_first (t : Fin cfg0.N) (h : t.val % 8 = 0) (y : S8x2048.Idx) :
    (outsAt0 m c t.val t.isLt).2 y = k0_pay1 (F := Ideal) y + part m c t y := by
  rw [outsAt0_A m c t h]
  dsimp only
  unfold out0_A_3
  frame_out
  exact pay4_apply _ _ _ y

theorem sum_next (t : Fin cfg0.N) (h : ¬ t.val % 8 = 0) (y : S8x2048.Idx) :
    (outsAt0 m c t.val t.isLt).2 y = (outsAt0 m c (t.val - 1) (Nat.lt_of_le_of_lt (Nat.sub_le _ _) t.isLt)).2 y + part m c t y := by
  rw [outsAt0_B m c t h]
  dsimp only
  unfold out0_B_3
  frame_out
  exact pay4_apply _ _ _ y

/-- The gradient, whole. -/
theorem array2 : (dats m 0 c).arrAt 2 cfg0.N
    = fun i => grad (m ((c : Thread nD τ).loc main_arg0) i) (m ((c : Thread nD τ).loc main_arg1) i) := by
  refine (dats m 0 c).arrAt_eq_of_covers 2 _ (by decide +kernel) fun t hf y => ?_
  blk_simp
  have e0 : ((win0_2.blk t).view.emb y 0).val = t.val * 512 + (y 0).val := by
    blk_simp [index t] <;> omega
  have e1 : ((win0_2.blk t).view.emb y 1).val = (y 1).val := by
    blk_simp [index t] <;> omega
  have e : (win0_2.blk t).view.emb y = ix2 ⟨t.val * 512 + (y 0).val, e0 ▸ ((win0_2.blk t).view.emb y 0).isLt⟩ (y 1) :=
    (eq_ix2 _).trans (congrArg₂ ix2 (Fin.ext e0) (Fin.ext e1))
  rw [after0_2, outs2, e]
  conv_lhs => rw [eq_ix2 y]
  exact congrArg₂ grad (blk0 m c t _ _ _ rfl) (blk1 m c t _ _ _ rfl)

/-- The partial sums, whole. -/
theorem array3 : (dats m 0 c).arrAt 3 cfg0.N
    = fun i : S8x2048.Idx => ∑ k : Fin 512, sq (m ((c : Thread nD τ).loc main_arg0) (ix2 ⟨k.val * 8 + (i 0).val, by have := (i 0).isLt; dsimp at this; omega⟩ (i 1)))
        (m ((c : Thread nD τ).loc main_arg1) (ix2 ⟨k.val * 8 + (i 0).val, by have := (i 0).isLt; dsimp at this; omega⟩ (i 1))) := by
  refine (dats m 0 c).arrAt_eq_of_after_last 3 t0_7 (by decide +kernel) _ fun y => ?_
  blk_simp
  rw [after0_3]
  refine (Pipeline.eq_sum_fin_of_reset_step_apply_last (fun n h => (outsAt0 m c n h).2) 8 (k0_pay1 (F := Ideal)) (part m c)
    (sum_first m c) (sum_next m c) (by decide) t0_7 rfl y).trans ?_
  rw [pay1_apply, zero_add]
  refine Eq.trans (Finset.sum_congr rfl fun t _ => Finset.sum_congr rfl fun k _ => ?_) (ProdSum.sum_halves (n := 64) (J := 8) rfl _)
  exact congrArg₂ sq (blk0 m c t _ _ _ (by dsimp only; omega)) (blk1 m c t _ _ _ (by dsimp only; omega))

section refer
open Cert.RefLossIdeal.Read

variable (y t : Vec Ideal S4096x2048 .f32)

/-- The reference's gradient, at an index. -/
theorem v14_at (r : Fin 4096) (s : Fin 2048) : val_main_v14 (F := Ideal) y t (ix2 r s) = grad (y (ix2 r s)) (t (ix2 r s)) := by
  unfold grad
  pointwise [val_main_v14, val_main_v13, val_main_v12, val_main_v11, val_main_v10, val_main_v9, val_main_v3, val_main_v2, val_main_v0, val_main_cst, val_main_cst_4,
    val_main_cst_5, val_main_cst_6]
  exact GradMath.loss_grad _

/-- The reference's partial sums, at an index. -/
theorem v18_at (r : Fin 8) (s : Fin 2048) : val_main_v18 (F := Ideal) y t (ix2 r s)
    = ∑ k : Fin 512, sq (y (ix2 ⟨k.val * 8 + r.val, by omega⟩ s)) (t (ix2 ⟨k.val * 8 + r.val, by omega⟩ s)) := by
  unfold sq
  rw [val_main_v18]
  pointwise [val_main_v17, val_main_v16, val_main_v15, val_main_cst_7]

end refer

/-- The reference runs, leaves its arguments alone and every counter at zero. -/
theorem frameRef : Cert.quiescent_RefLossIdeal := fun m g _ =>
  (θ_run Cert.RefLossIdeal.defs _ _).mono (fun r h => ⟨fun c => (h c).2.2, sem_eq_zero_of_no_sems rfl _⟩) (Cert.RefLossIdeal.Value.run m g)

/-- The kernel's results are the reference's. -/
theorem value : Cert.algebraic_LossIdeal_RefLossIdeal := by
  intro m g m' g' _ hargs
  refine ⟨fun c => (dats m 0 c).arrAt 2 cfg0.N, fun c => (dats m 0 c).arrAt 3 cfg0.N, Cert.LossIdeal.Value.run_blocks m g, ?_⟩
  refine (θ_run Cert.RefLossIdeal.defs _ _).mono (fun r h c => ?_) (Cert.RefLossIdeal.Value.run m' g')
  obtain ⟨h0, h1, h2⟩ := h c
  obtain ⟨a0, a1⟩ := hargs c
  refine ⟨h0.trans ?_, h1.trans ?_, h2⟩
  · rw [Cert.RefLossIdeal.Read.val_main_v14_eq, a0, a1]
    refine Eq.trans ?_ (array2 m c).symm
    funext i
    obtain ⟨r, j, rfl⟩ : ∃ r j, i = ix2 r j := ⟨i 0, i 1, eq_ix2 i⟩
    exact v14_at _ _ r j
  · rw [Cert.RefLossIdeal.Read.val_main_v18_eq, a0, a1]
    refine Eq.trans ?_ (array3 m c).symm
    funext i
    obtain ⟨r, j, rfl⟩ : ∃ r j, i = ix2 r j := ⟨i 0, i 1, eq_ix2 i⟩
    exact v18_at _ _ r j

end Cert.OfLoss

end
-- ==== Proof.OfLossSum.lean ====
module

public import proofs.«01_k».proof.Defs
public import proofs.«01_k».proof.Proof.Gen.LossSum.Frame
public import proofs.«01_k».proof.Proof.Gen.LossSumIdeal.Run
public import proofs.«01_k».proof.Proof.Gen.LossSumIdeal.Read
public import proofs.«01_k».proof.Proof.Gen.RefLossSumIdeal.Read
public import proofs.«01_k».proof.Proof.GradMath
public import proofs.«01_k».proof.Proof.ProdSum
public import Idealize.ShloMosaic.Lib.Quiescent
public import Idealize.ShloMosaic.Lib.Tactic
public import Idealize.ShloMosaic.Lib.Pointwise
public import Idealize.ShloMosaic.Lib.Pipeline.ValueKit
public import Idealize.ShloMosaic.Lib.Pipeline.ReadBack

/-! The loss and its gradient: each point takes 512 rows, leaving their gradient and adding their terms to eight partial sums, which the step's own line sums and scales. -/

@[expose] public section

set_option maxRecDepth 16384

noncomputable section

namespace Cert.OfLossSum

open Idealize.ShloMosaic Idealize.ShloMosaic.TcCoe Idealize.SL.Sem
open Cert.LossSumIdeal Cert.LossSumIdeal.Gen

/-- The gradient at an entry. -/
def grad (y t : EReal) : EReal := (y - t) * Ideal.ofBits .f32 0x3A000000#32

/-- The squared error of an entry. -/
def sq (y t : EReal) : EReal := (y - t) * (y - t)

theorem pay3_apply (v3 v4 : Vec Ideal S512x2048 .f32) (i : S512x2048.Idx) : k0_pay3 v3 v4 i = grad (v3 i) (v4 i) := by
  unfold grad
  pointwise [k0_pay3, k0_pay2]

theorem pay4_apply (v3 v4 : Vec Ideal S512x2048 .f32) (v9 : Vec Ideal S8x2048 .f32) (y : S8x2048.Idx) :
    k0_pay4 v3 v4 v9 y = v9 y + ∑ k : Fin 64, sq (v3 (ix2 ⟨k.val * 8 + (y 0).val, by have := (y 0).isLt; dsimp at this; omega⟩ (y 1))) (v4 (ix2 ⟨k.val * 8 + (y 0).val, by have := (y 0).isLt; dsimp at this; omega⟩ (y 1))) := by
  obtain ⟨r, s, rfl⟩ : ∃ r s, y = ix2 r s := ⟨y 0, y 1, eq_ix2 y⟩
  unfold sq
  pointwise [k0_pay4, k0_pay2]

theorem pay1_apply (y : S8x2048.Idx) : k0_pay1 (F := Ideal) y = 0 := by
  pointwise [k0_pay1]

/-- A real factor taken out of a sum of numbers that are not negative. -/
theorem sum_mul_real {n : ℕ} (f : Fin n → EReal) (hf : ∀ k, 0 ≤ f k) {a : ℝ} (ha : 0 ≤ a) : ∑ k, f k * (a : EReal) = (∑ k, f k) * a := by
  induction n with
  | zero => simp
  | succ n ih =>
    rw [Fin.sum_univ_succ, Fin.sum_univ_succ, ih _ fun k => hf _, EReal.right_distrib_of_nonneg (hf 0) (Finset.sum_nonneg fun k _ => hf _)]

/-- The loss of an example from the squared errors of its entries: their sum over twice the width. -/
def total (f : Fin 4096 → Fin 2048 → EReal) : EReal := Ideal.ofBits .f32 0x39800000#32 * ∑ r, ∑ s, f r s

theorem word_inv_4096 : Ideal.ofBits .f32 0x39800000#32 = ((1 / 4096 : ℝ) : EReal) := by
  simp [Ideal.ofBits, Ideal.ieee, -EReal.coe_mul]; norm_num

/-- The same by rows: half of the sum of the means. -/
theorem total_rows (f : Fin 4096 → Fin 2048 → EReal) (hf : ∀ r s, 0 ≤ f r s) :
    total f = Ideal.ofBits .f32 0x3F000000#32 * ∑ r, Ideal.div (∑ s, f r s) (Ideal.ofBits .f32 0x45000000#32) := by
  unfold total
  simp only [GradMath.word_half, GradMath.word_2048, word_inv_4096, Ideal.div_coe (show (2048 : ℝ) ≠ 0 by norm_num)]
  rw [sum_mul_real _ (fun r => Finset.sum_nonneg fun s _ => hf r s) (by norm_num), mul_comm _ ((1 / 2048 : ℝ) : EReal), ← mul_assoc, ← EReal.coe_mul]
  congr 2
  norm_num

/-- The same from the eight partial sums of each column. -/
theorem total_parts (f : Fin 4096 → Fin 2048 → EReal) :
    total f = Ideal.ofBits .f32 0x39800000#32 * ∑ r : Fin 8, ∑ s : Fin 2048, ∑ k : Fin 512, f ⟨k.val * 8 + r.val, by omega⟩ s := by
  unfold total
  congr 1
  rw [← ProdSum.sum_halves (n := 8) (J := 512) (by norm_num : 512 * 8 = 4096) fun r => ∑ s, f r s, Finset.sum_comm]
  exact Finset.sum_congr rfl fun r _ => Finset.sum_comm

variable (m : (ℓ : Loc nD τ sig) → Buf (Elt Ideal) ℓ) (c : Dev nD)

/-- Where each point's blocks lie. -/
theorem index : ∀ t : Fin cfg0.N, win0_0.index t = ![t.val, 0] ∧ win0_1.index t = ![t.val, 0] ∧ win0_2.index t = ![t.val, 0] ∧ win0_3.index t = ![0, 0] :=
  (by decide +kernel : ∀ t : Fin grid0.N, _)

theorem blk0 (t : Fin cfg0.N) (r : Fin 512) (k : Fin 2048) (R : Fin 4096) (h : R.val = t.val * 512 + r.val) :
    iblk m c 0 t (ix2 r k) = m ((c : Thread nD τ).loc main_arg0) (ix2 R k) := by
  obtain ⟨R, p⟩ := R
  obtain rfl : R = t.val * 512 + r.val := h
  blk_ext [iblk, V_main_arg0, index t]

theorem blk1 (t : Fin cfg0.N) (r : Fin 512) (k : Fin 2048) (R : Fin 4096) (h : R.val = t.val * 512 + r.val) :
    iblk m c 1 t (ix2 r k) = m ((c : Thread nD τ).loc main_arg1) (ix2 R k) := by
  obtain ⟨R, p⟩ := R
  obtain rfl : R = t.val * 512 + r.val := h
  blk_ext [iblk, V_main_arg1, index t]

/-- Every point leaves its rows' gradient. -/
theorem outs2 (t : Fin cfg0.N) (y : S512x2048.Idx) :
    (outsAt0 m c t.val t.isLt).1 y = grad (iblk m c 0 t y) (iblk m c 1 t y) := by
  by_cases h : t.val % 8 = 0
  · rw [outsAt0_A m c t h]
    dsimp only
    unfold out0_A_2
    frame_out
    exact pay3_apply _ _ y
  · rw [outsAt0_B m c t h]
    dsimp only
    unfold out0_B_2
    frame_out
    exact pay3_apply _ _ y

/-- The part of one point's rows in the partial sums. -/
def part (t : Fin cfg0.N) (y : S8x2048.Idx) : EReal :=
  ∑ k : Fin 64, sq (iblk m c 0 t (ix2 ⟨k.val * 8 + (y 0).val, by have := (y 0).isLt; dsimp at this; omega⟩ (y 1)))
    (iblk m c 1 t (ix2 ⟨k.val * 8 + (y 0).val, by have := (y 0).isLt; dsimp at this; omega⟩ (y 1)))

theorem sum_first (t : Fin cfg0.N) (h : t.val % 8 = 0) (y : S8x2048.Idx) :
    (outsAt0 m c t.val t.isLt).2 y = k0_pay1 (F := Ideal) y + part m c t y := by
  rw [outsAt0_A m c t h]
  dsimp only
  unfold out0_A_3
  frame_out
  exact pay4_apply _ _ _ y

theorem sum_next (t : Fin cfg0.N) (h : ¬ t.val % 8 = 0) (y : S8x2048.Idx) :
    (outsAt0 m c t.val t.isLt).2 y = (outsAt0 m c (t.val - 1) (Nat.lt_of_le_of_lt (Nat.sub_le _ _) t.isLt)).2 y + part m c t y := by
  rw [outsAt0_B m c t h]
  dsimp only
  unfold out0_B_3
  frame_out
  exact pay4_apply _ _ _ y

/-- The gradient, whole. -/
theorem array2 : (dats m 0 c).arrAt 2 cfg0.N
    = fun i => grad (m ((c : Thread nD τ).loc main_arg0) i) (m ((c : Thread nD τ).loc main_arg1) i) := by
  refine (dats m 0 c).arrAt_eq_of_covers 2 _ (by decide +kernel) fun t hf y => ?_
  blk_simp
  have e0 : ((win0_2.blk t).view.emb y 0).val = t.val * 512 + (y 0).val := by
    blk_simp [index t] <;> omega
  have e1 : ((win0_2.blk t).view.emb y 1).val = (y 1).val := by
    blk_simp [index t] <;> omega
  have e : (win0_2.blk t).view.emb y = ix2 ⟨t.val * 512 + (y 0).val, e0 ▸ ((win0_2.blk t).view.emb y 0).isLt⟩ (y 1) :=
    (eq_ix2 _).trans (congrArg₂ ix2 (Fin.ext e0) (Fin.ext e1))
  rw [after0_2, outs2, e]
  conv_lhs => rw [eq_ix2 y]
  exact congrArg₂ grad (blk0 m c t _ _ _ rfl) (blk1 m c t _ _ _ rfl)

/-- The partial sums, whole. -/
theorem array3 : (dats m 0 c).arrAt 3 cfg0.N
    = fun i : S8x2048.Idx => ∑ k : Fin 512, sq (m ((c : Thread nD τ).loc main_arg0) (ix2 ⟨k.val * 8 + (i 0).val, by have := (i 0).isLt; dsimp at this; omega⟩ (i 1)))
        (m ((c : Thread nD τ).loc main_arg1) (ix2 ⟨k.val * 8 + (i 0).val, by have := (i 0).isLt; dsimp at this; omega⟩ (i 1))) := by
  refine (dats m 0 c).arrAt_eq_of_after_last 3 t0_7 (by decide +kernel) _ fun y => ?_
  blk_simp
  rw [after0_3]
  refine (Pipeline.eq_sum_fin_of_reset_step_apply_last (fun n h => (outsAt0 m c n h).2) 8 (k0_pay1 (F := Ideal)) (part m c)
    (sum_first m c) (sum_next m c) (by decide) t0_7 rfl y).trans ?_
  rw [pay1_apply, zero_add]
  refine Eq.trans (Finset.sum_congr rfl fun t _ => Finset.sum_congr rfl fun k _ => ?_) (ProdSum.sum_halves (n := 64) (J := 8) rfl _)
  exact congrArg₂ sq (blk0 m c t _ _ _ (by dsimp only; omega)) (blk1 m c t _ _ _ (by dsimp only; omega))

section refer
open Cert.RefLossSumIdeal.Read

variable (y t : Vec Ideal S4096x2048 .f32)

/-- The reference's gradient, at an index. -/
theorem v14_at (r : Fin 4096) (s : Fin 2048) : val_main_v14 (F := Ideal) y t (ix2 r s) = grad (y (ix2 r s)) (t (ix2 r s)) := by
  unfold grad
  pointwise [val_main_v14, val_main_v13, val_main_v12, val_main_v11, val_main_v10, val_main_v9, val_main_v3, val_main_v2, val_main_v0, val_main_cst, val_main_cst_4,
    val_main_cst_5, val_main_cst_6]
  exact GradMath.loss_grad _

/-- The reference's mean of a row. -/
theorem v19_at (r : Fin 4096) : val_main_v19 (F := Ideal) y t (ix1 r) = Ideal.div (∑ s : Fin 2048, sq (y (ix2 r s)) (t (ix2 r s))) (Ideal.ofBits .f32 0x45000000#32) := by
  rw [val_main_v19_apply, val_main_v17_apply, val_main_v18_apply, val_main_cst_8_apply, val_main_cst_7_apply]
  refine congrArg₂ Ideal.div ?_ rfl
  refine (congrArg₂ (fun a b : EReal => a + b) (by simp [FloatOps.ofBits] : _ = (0 : EReal)) (Finset.sum_congr rfl fun s _ => ?_)).trans (zero_add _)
  rw [val_main_v16_apply, val_main_v15_apply, show idx_main_v17 (ix1 r) s = ix2 r s from eq_ix2 _]
  rfl

/-- The reference's loss: half of the sum of the rows' means. -/
theorem v21_at (i : Cert.RefLossSumIdeal.S_.Idx) : val_main_v21 (F := Ideal) y t i = total fun r s => sq (y (ix2 r s)) (t (ix2 r s)) := by
  rw [val_main_v21_apply, val_main_v20_apply]
  refine Eq.trans ?_ (total_rows _ fun r s => GradMath.sq_nonneg _).symm
  rw [val_main_cst_10_apply, val_main_cst_9_apply]
  refine congrArg₂ (fun a b : EReal => a * b) rfl ?_
  have h := v19_at y t
  generalize val_main_v19 (F := Ideal) y t = z at h
  refine (congrArg₂ (fun a b : EReal => a + b) (by simp [FloatOps.ofBits] : _ = (0 : EReal)) ((sum_idx1 (n0 := 4096) z).trans ?_)).trans (zero_add _)
  exact Finset.sum_congr rfl fun r _ => h r

end refer

/-- The reference runs, leaves its arguments alone and every counter at zero. -/
theorem frameRef : Cert.quiescent_RefLossSumIdeal := fun m g _ =>
  (θ_run Cert.RefLossSumIdeal.defs _ _).mono (fun r h => ⟨fun c => (h c).2.2, sem_eq_zero_of_no_sems rfl _⟩) (Cert.RefLossSumIdeal.Value.run m g)

/-- The step's line on the partial sums. -/
theorem loss_at (i : S_.Idx) : Cert.LossSumIdeal.Read.val_main_v2 (F := Ideal) ((dats m 0 c).arrAt 3 cfg0.N) i
    = total fun r s => sq (m ((c : Thread nD τ).loc main_arg0) (ix2 r s)) (m ((c : Thread nD τ).loc main_arg1) (ix2 r s)) := by
  rw [Cert.LossSumIdeal.Read.val_main_v2_apply, Cert.LossSumIdeal.Read.val_main_v1_apply, array3, total_parts]
  refine congrArg₂ (fun a b : EReal => a * b) rfl ?_
  rw [Cert.LossSumIdeal.Read.val_main_cst_apply]
  refine Eq.trans (congrArg₂ (fun a b : EReal => a + b) (by simp [FloatOps.ofBits] : _ = (0 : EReal)) (sum_idx2 _)) ?_
  exact zero_add _

/-- The kernel's results are the reference's. -/
theorem value : Cert.algebraic_LossSumIdeal_RefLossSumIdeal := by
  intro m g m' g' _ hargs
  refine ⟨fun c => (dats m 0 c).arrAt 2 cfg0.N, fun c => Cert.LossSumIdeal.Read.val_main_v2 (F := Ideal) ((dats m 0 c).arrAt 3 cfg0.N), Cert.LossSumIdeal.Value.run m g, ?_⟩
  refine (θ_run Cert.RefLossSumIdeal.defs _ _).mono (fun r h c => ?_) (Cert.RefLossSumIdeal.Value.run m' g')
  obtain ⟨h0, h1, h2⟩ := h c
  obtain ⟨a0, a1⟩ := hargs c
  refine ⟨h0.trans ?_, h1.trans ?_, h2⟩
  · rw [Cert.RefLossSumIdeal.Read.val_main_v14_eq, a0, a1]
    refine Eq.trans ?_ (array2 m c).symm
    funext i
    obtain ⟨r, j, rfl⟩ : ∃ r j, i = ix2 r j := ⟨i 0, i 1, eq_ix2 i⟩
    exact v14_at _ _ r j
  · rw [Cert.RefLossSumIdeal.Read.val_main_v21_eq, a0, a1]
    funext i
    exact (v21_at _ _ i).trans (loss_at m c i).symm

end Cert.OfLossSum

end
-- ==== Proof.OfLossAllIdealRun.lean ====
/- The loss kernel of every device, then the host's sum over the eight devices: the run of @main, with what every buffer ends with. -/
module

public import proofs.«01_k».proof.Defs
public import proofs.«01_k».proof.Proof.Gen.LossAllIdeal.Skeleton
public import proofs.«01_k».proof.Proof.Gen.LossAllIdeal.Launch
public import proofs.«01_k».proof.Proof.Gen.LossAllIdeal.Points
public import Idealize.ShloMosaic.Lib.Pipeline.FrameBody
public import Idealize.ShloMosaic.Lib.Pipeline.FrameSuffix
public import Idealize.ShloMosaic.Lib.Pipeline.FrameTail
public import Idealize.ShloMosaic.Lib.Pipeline.RegionArrays
public import Idealize.ShloMosaic.Lib.Pipeline.CollectiveSegs
public import Idealize.ShloMosaic.Lib.StableHlo.CollectiveRules
public import Idealize.ShloMosaic.Lib.Ring
public import Idealize.ShloMosaic.Lib.Tactic
public import Idealize.ShloMosaic.Lib.WordCmp

@[expose] public section

set_option maxRecDepth 16384

noncomputable section

namespace Cert.OfLossAllIdealRun

open Cert.LossAllIdeal Cert.LossAllIdeal.Gen
open Cert.LossAllIdeal.Gen.Sites (L lv)
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-- The pipeline library's component beside the all-reduce's. -/
abbrev UU : Type := UR sig nD τ × Sites.UC

local notation "𝕄" => MT nD τ sig ℕ (Elt F) ℕ UU ℕ

abbrev EP : Emb (UR sig nD τ) (MT nD τ sig ℕ (Elt F) ℕ UU ℕ) := embL
abbrev EC : Emb Sites.UC (MT nD τ sig ℕ (Elt F) ℕ UU ℕ) := embR

variable (m : (ℓ : Loc nD τ sig) → Buf (Elt F) ℓ) (ρ : Dev nD → PrngReg)

/-- Core `c`'s buffers at launch, as a valuation, and read at a TensorCore reference. -/
abbrev V0 (c : Dev nD) : Valuation τ sig (Elt F) := fun b => m (c, b)
abbrev V (c : Dev nD) (b : Ref sig .tc) : Buf (Elt F) ((c : Thread nD τ).loc b) := V0 m c (Proc.devRef .tc b)

/-! ## The windows' blocks -/

/-- Window `w`'s block at point `t`, read off its array as the region finds it (`V`). -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- Input window 0's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_0_of {c : Dev nD} (dat : Dat τ (Elt F) ℕ ℕ UU ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
/-- Input window 1's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_1_of {c : Dev nD} (dat : Dat τ (Elt F) ℕ ℕ UU ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)

/-! ## The body's branch conditions -/

/-- The condition of the body's `scf.if` 0 (`k0_h1`), from the grid coordinates (the skeleton's scalar
    chain substituted). -/
abbrev cond0_0 (i : grid0.Coords) : Prop := (Scalar.cmpi .ne (Scalar.extui (Scalar.cmpi .eq (BitVec.ofNat 32 (i 0).val) 0#32)) 0#32) = 1#1
/-- It holds at the first point only — by arithmetic of the point. -/
theorem hcond0_0 : ∀ t : Fin cfg0.N, cond0_0 (grid0.coords t) ↔ t.val % 8 = 0 :=
  (fun t => by
    have ht : t.val < 8 := Nat.lt_of_lt_of_eq t.isLt N_0
    have e0 : (grid0.coords t 0).val = t.val / 1 % 8 := Pipeline.Grid.coords_val t 0 (by decide) rfl
    simp only [cond0_0, e0]
    word_cmp
   : ∀ t : Fin grid0.N, cond0_0 (grid0.coords t) ↔ t.val % 8 = 0)

/-! ## The kernel body on any staging memrefs: a subtype the run finds -/

/-- One staging buffer of output window 2, through which its contents are stated (`View.read_writes_of_cover`: the
    choice does not matter). -/
abbrev VO0_2 : View sig .tc .vmem S512x2048 .f32 := (Memref.whole cc0_stg2_0 : Memref sig .tc .vmem S512x2048 .f32).view
/-- One staging buffer of output window 3, through which its contents are stated (`View.read_writes_of_cover`: the
    choice does not matter). -/
abbrev VO0_3 : View sig .tc .vmem S8x2048 .f32 := (Memref.whole cc0_stg3_0 : Memref sig .tc .vmem S8x2048 .f32).view
/-- Each window's current staging memref at point `t`, spelled as the pipeline passes it (`bodyAt0`), and its wholeness. -/
abbrev ms0_0 (t : Fin cfg0.N) : Memref sig .tc .vmem S512x2048 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S512x2048 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S512x2048 .f32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S8x2048 .f32 := win0_3.stage (cfg0.slots t 3)
abbrev hs0_3 (t : Fin cfg0.N) : (ms0_3 t).IsWhole := hstage0_3 ((cfg0.slots t 3).cast nbuf0_3)

-- (the run's proof term is large: the definition's epilogue — `abstractNestedProofs` — walks it past the default budget)
set_option maxHeartbeats 1000000 in
/-- What the body's stores leave in each output's staging memref, as pieces (last first) IN CASE A (`scf.if` 0 taken: points 0), WITH the
    proof that on whole staging memrefs — the inputs' at their contents, the other outputs' at
    anything, the body runs to the continuation holding the inputs' as they were,
    each output's buffer with its pieces written: the printed functions are their skeletons
    (`Gen.*_eq_skeleton`), which `sl_exec` runs (Lib/Exec.lean) — each `scf.if` decided by the case's hypotheses `hc·`; the pieces are
    the witness that run finds (assigned when `iexact` hands the buffer to the continuation). -/
noncomputable def kernelRun0_A (c : Dev nD) (i : grid0.Coords) (arg1 : Memref sig .tc .vmem S512x2048 .f32) (harg1 : arg1.IsWhole) (arg2 : Memref sig .tc .vmem S512x2048 .f32) (harg2 : arg2.IsWhole) (arg3 : Memref sig .tc .vmem S512x2048 .f32) (harg3 : arg3.IsWhole) (arg4 : Memref sig .tc .vmem S8x2048 .f32) (harg4 : arg4.IsWhole) (hc0 : cond0_0 i)
    (x0 : Vec F S512x2048 .f32) (x1 : Vec F S512x2048 .f32) :
    Σ' (L2 : List (View.Piece (Elt F) S512x2048 .f32)), { L3 : List (View.Piece (Elt F) S8x2048 .f32) //
      ∀ (E : Set ℕ) (K : PUnit → sProp 𝕄),
        iprop(owns (c : Thread nD τ) arg1 fullShare x0 ∗ owns (c : Thread nD τ) arg2 fullShare x1 ∗ (∃ d, owns (c : Thread nD τ) arg3 fullShare d) ∗ (∃ d, owns (c : Thread nD τ) arg4 fullShare d)
            ∗ (iprop(owns (c : Thread nD τ) arg1 fullShare x0 ∗ owns (c : Thread nD τ) arg2 fullShare x1 ∗ (∃ f, arg3.view.loc (c : Thread nD τ) ↦[arg3.view.set]{fullShare} arg3.view.writes (Elt F) f L2) ∗ (∃ f, arg4.view.loc (c : Thread nD τ) ↦[arg4.view.set]{fullShare} arg4.view.writes (Elt F) f L3)) -∗ K ⟨⟩))
          ⊢ wp frame (wpE (defs₀ (F := F)) Variants.none c none) E (cc0_loss i arg1 harg1 arg2 harg2 arg3 harg3 arg4 harg4) K } := by
  refine ⟨?_, ?_, fun E K => ?run⟩
  case run =>
    simp only [cc0_loss_eq_skeleton]; unfold cc0_loss_skel
    unfold owns
    iintro ⟨⟨%f0, %hf0, H0⟩, ⟨%f1, %hf1, H1⟩, ⟨%d2, %f2, -, H2⟩, ⟨%d3, %f3, -, H3⟩, Hk⟩
    obtain rfl := harg1.eq_unread hf0; obtain rfl := harg2.eq_unread hf1
    sl_exec (disch := first | sl_exact hc0)
    sl_step
    iapply Hk
    isplitl [H0]
    · iexists _; isplitr; · ipureintro; exact harg1.read_unread _
      iexact H0
    isplitl [H1]
    · iexists _; isplitr; · ipureintro; exact harg2.read_unread _
      iexact H1
    isplitl [H2]; · iexists _; iexact H2
    iexists _; iexact H3

-- (the run's proof term is large: the definition's epilogue — `abstractNestedProofs` — walks it past the default budget)
set_option maxHeartbeats 1000000 in
/-- What the body's stores leave in each output's staging memref, as pieces (last first) IN CASE B (`scf.if` 0 not taken: points 1, 2, … 7: 7 of 8), WITH the
    proof that on whole staging memrefs — the inputs' at their contents, the outputs it reads before covering (3) at their running contents `xo·`, the other outputs' at
    anything, the body runs to the continuation holding the inputs' as they were,
    each output's buffer with its pieces written: the printed functions are their skeletons
    (`Gen.*_eq_skeleton`), which `sl_exec` runs (Lib/Exec.lean) — each `scf.if` decided by the case's hypotheses `hc·`; the pieces are
    the witness that run finds (assigned when `iexact` hands the buffer to the continuation). -/
noncomputable def kernelRun0_B (c : Dev nD) (i : grid0.Coords) (arg1 : Memref sig .tc .vmem S512x2048 .f32) (harg1 : arg1.IsWhole) (arg2 : Memref sig .tc .vmem S512x2048 .f32) (harg2 : arg2.IsWhole) (arg3 : Memref sig .tc .vmem S512x2048 .f32) (harg3 : arg3.IsWhole) (arg4 : Memref sig .tc .vmem S8x2048 .f32) (harg4 : arg4.IsWhole) (hc0 : ¬cond0_0 i)
    (x0 : Vec F S512x2048 .f32) (x1 : Vec F S512x2048 .f32) (xo3 : Vec F S8x2048 .f32) :
    Σ' (L2 : List (View.Piece (Elt F) S512x2048 .f32)), { L3 : List (View.Piece (Elt F) S8x2048 .f32) //
      ∀ (E : Set ℕ) (K : PUnit → sProp 𝕄),
        iprop(owns (c : Thread nD τ) arg1 fullShare x0 ∗ owns (c : Thread nD τ) arg2 fullShare x1 ∗ (∃ d, owns (c : Thread nD τ) arg3 fullShare d) ∗ owns (c : Thread nD τ) arg4 fullShare xo3
            ∗ (iprop(owns (c : Thread nD τ) arg1 fullShare x0 ∗ owns (c : Thread nD τ) arg2 fullShare x1 ∗ (∃ f, arg3.view.loc (c : Thread nD τ) ↦[arg3.view.set]{fullShare} arg3.view.writes (Elt F) f L2) ∗ (∃ f, arg4.view.loc (c : Thread nD τ) ↦[arg4.view.set]{fullShare} arg4.view.writes (Elt F) f L3)) -∗ K ⟨⟩))
          ⊢ wp frame (wpE (defs₀ (F := F)) Variants.none c none) E (cc0_loss i arg1 harg1 arg2 harg2 arg3 harg3 arg4 harg4) K } := by
  refine ⟨?_, ?_, fun E K => ?run⟩
  case run =>
    simp only [cc0_loss_eq_skeleton]; unfold cc0_loss_skel
    unfold owns
    iintro ⟨⟨%f0, %hf0, H0⟩, ⟨%f1, %hf1, H1⟩, ⟨%d2, %f2, -, H2⟩, ⟨%f3, %hf3, H3⟩, Hk⟩
    obtain rfl := harg1.eq_unread hf0; obtain rfl := harg2.eq_unread hf1; obtain rfl := harg4.eq_unread hf3
    sl_exec (disch := first | sl_exact hc0)
    sl_step
    iapply Hk
    isplitl [H0]
    · iexists _; isplitr; · ipureintro; exact harg1.read_unread _
      iexact H0
    isplitl [H1]
    · iexists _; isplitr; · ipureintro; exact harg2.read_unread _
      iexact H1
    isplitl [H2]; · iexists _; iexact H2
    iexists _; iexact H3

/-- Case A's pieces for output 2 tile its block (1 store of `S512x2048`, checked by the kernel's evaluation: `Piece.tiledL`, linear in the pieces, through a loop's `@[irreducible]` trip theorem too), so they cover it. -/
theorem cover0_A_2 (c : Dev nD) (i : grid0.Coords) (arg1 : Memref sig .tc .vmem S512x2048 .f32) (harg1 : arg1.IsWhole) (arg2 : Memref sig .tc .vmem S512x2048 .f32) (harg2 : arg2.IsWhole) (arg3 : Memref sig .tc .vmem S512x2048 .f32) (harg3 : arg3.IsWhole) (arg4 : Memref sig .tc .vmem S8x2048 .f32) (harg4 : arg4.IsWhole) (hc0 : cond0_0 i)
    (x0 : Vec F S512x2048 .f32) (x1 : Vec F S512x2048 .f32) (y : S512x2048.Idx) :
    ∃ pc ∈ (kernelRun0_A c i arg1 harg1 arg2 harg2 arg3 harg3 arg4 harg4 hc0 x0 x1).1, y ∈ pc.1.set :=
  View.cover_of_tiledL (kernelRun0_A c i arg1 harg1 arg2 harg2 arg3 harg3 arg4 harg4 hc0 x0 x1).1 S512x2048.size (by sl_kernel_rfl) y

/-- What case A leaves in output 2's staging buffer: its pieces read back over junk. -/
def out0_A_2 (c : Dev nD) (i : grid0.Coords) (arg1 : Memref sig .tc .vmem S512x2048 .f32) (harg1 : arg1.IsWhole) (arg2 : Memref sig .tc .vmem S512x2048 .f32) (harg2 : arg2.IsWhole) (arg3 : Memref sig .tc .vmem S512x2048 .f32) (harg3 : arg3.IsWhole) (arg4 : Memref sig .tc .vmem S8x2048 .f32) (harg4 : arg4.IsWhole) (hc0 : cond0_0 i)
    (x0 : Vec F S512x2048 .f32) (x1 : Vec F S512x2048 .f32) : Vec F S512x2048 .f32 :=
  VO0_2.read (Elt F) (VO0_2.writes (Elt F) VO0_2.junk (kernelRun0_A c i arg1 harg1 arg2 harg2 arg3 harg3 arg4 harg4 hc0 x0 x1).1)

/-- Case A's pieces for output 3 tile its block (2 stores of `S8x2048`, checked by the kernel's evaluation: `Piece.tiledL`, linear in the pieces, through a loop's `@[irreducible]` trip theorem too), so they cover it. -/
theorem cover0_A_3 (c : Dev nD) (i : grid0.Coords) (arg1 : Memref sig .tc .vmem S512x2048 .f32) (harg1 : arg1.IsWhole) (arg2 : Memref sig .tc .vmem S512x2048 .f32) (harg2 : arg2.IsWhole) (arg3 : Memref sig .tc .vmem S512x2048 .f32) (harg3 : arg3.IsWhole) (arg4 : Memref sig .tc .vmem S8x2048 .f32) (harg4 : arg4.IsWhole) (hc0 : cond0_0 i)
    (x0 : Vec F S512x2048 .f32) (x1 : Vec F S512x2048 .f32) (y : S8x2048.Idx) :
    ∃ pc ∈ (kernelRun0_A c i arg1 harg1 arg2 harg2 arg3 harg3 arg4 harg4 hc0 x0 x1).2.1, y ∈ pc.1.set :=
  View.cover_of_tiledL (kernelRun0_A c i arg1 harg1 arg2 harg2 arg3 harg3 arg4 harg4 hc0 x0 x1).2.1 S8x2048.size (by sl_kernel_rfl) y

/-- What case A leaves in output 3's staging buffer: its pieces read back over junk. -/
def out0_A_3 (c : Dev nD) (i : grid0.Coords) (arg1 : Memref sig .tc .vmem S512x2048 .f32) (harg1 : arg1.IsWhole) (arg2 : Memref sig .tc .vmem S512x2048 .f32) (harg2 : arg2.IsWhole) (arg3 : Memref sig .tc .vmem S512x2048 .f32) (harg3 : arg3.IsWhole) (arg4 : Memref sig .tc .vmem S8x2048 .f32) (harg4 : arg4.IsWhole) (hc0 : cond0_0 i)
    (x0 : Vec F S512x2048 .f32) (x1 : Vec F S512x2048 .f32) : Vec F S8x2048 .f32 :=
  VO0_3.read (Elt F) (VO0_3.writes (Elt F) VO0_3.junk (kernelRun0_A c i arg1 harg1 arg2 harg2 arg3 harg3 arg4 harg4 hc0 x0 x1).2.1)

/-- Case B's pieces for output 2 tile its block (1 store of `S512x2048`, checked by the kernel's evaluation: `Piece.tiledL`, linear in the pieces, through a loop's `@[irreducible]` trip theorem too), so they cover it. -/
theorem cover0_B_2 (c : Dev nD) (i : grid0.Coords) (arg1 : Memref sig .tc .vmem S512x2048 .f32) (harg1 : arg1.IsWhole) (arg2 : Memref sig .tc .vmem S512x2048 .f32) (harg2 : arg2.IsWhole) (arg3 : Memref sig .tc .vmem S512x2048 .f32) (harg3 : arg3.IsWhole) (arg4 : Memref sig .tc .vmem S8x2048 .f32) (harg4 : arg4.IsWhole) (hc0 : ¬cond0_0 i)
    (x0 : Vec F S512x2048 .f32) (x1 : Vec F S512x2048 .f32) (xo3 : Vec F S8x2048 .f32) (y : S512x2048.Idx) :
    ∃ pc ∈ (kernelRun0_B c i arg1 harg1 arg2 harg2 arg3 harg3 arg4 harg4 hc0 x0 x1 xo3).1, y ∈ pc.1.set :=
  View.cover_of_tiledL (kernelRun0_B c i arg1 harg1 arg2 harg2 arg3 harg3 arg4 harg4 hc0 x0 x1 xo3).1 S512x2048.size (by sl_kernel_rfl) y

/-- What case B leaves in output 2's staging buffer: its pieces read back over junk. -/
def out0_B_2 (c : Dev nD) (i : grid0.Coords) (arg1 : Memref sig .tc .vmem S512x2048 .f32) (harg1 : arg1.IsWhole) (arg2 : Memref sig .tc .vmem S512x2048 .f32) (harg2 : arg2.IsWhole) (arg3 : Memref sig .tc .vmem S512x2048 .f32) (harg3 : arg3.IsWhole) (arg4 : Memref sig .tc .vmem S8x2048 .f32) (harg4 : arg4.IsWhole) (hc0 : ¬cond0_0 i)
    (x0 : Vec F S512x2048 .f32) (x1 : Vec F S512x2048 .f32) (xo3 : Vec F S8x2048 .f32) : Vec F S512x2048 .f32 :=
  VO0_2.read (Elt F) (VO0_2.writes (Elt F) VO0_2.junk (kernelRun0_B c i arg1 harg1 arg2 harg2 arg3 harg3 arg4 harg4 hc0 x0 x1 xo3).1)

/-- Case B's pieces for output 3 tile its block (1 store of `S8x2048`, checked by the kernel's evaluation: `Piece.tiledL`, linear in the pieces, through a loop's `@[irreducible]` trip theorem too), so they cover it. -/
theorem cover0_B_3 (c : Dev nD) (i : grid0.Coords) (arg1 : Memref sig .tc .vmem S512x2048 .f32) (harg1 : arg1.IsWhole) (arg2 : Memref sig .tc .vmem S512x2048 .f32) (harg2 : arg2.IsWhole) (arg3 : Memref sig .tc .vmem S512x2048 .f32) (harg3 : arg3.IsWhole) (arg4 : Memref sig .tc .vmem S8x2048 .f32) (harg4 : arg4.IsWhole) (hc0 : ¬cond0_0 i)
    (x0 : Vec F S512x2048 .f32) (x1 : Vec F S512x2048 .f32) (xo3 : Vec F S8x2048 .f32) (y : S8x2048.Idx) :
    ∃ pc ∈ (kernelRun0_B c i arg1 harg1 arg2 harg2 arg3 harg3 arg4 harg4 hc0 x0 x1 xo3).2.1, y ∈ pc.1.set :=
  View.cover_of_tiledL (kernelRun0_B c i arg1 harg1 arg2 harg2 arg3 harg3 arg4 harg4 hc0 x0 x1 xo3).2.1 S8x2048.size (by sl_kernel_rfl) y

/-- What case B leaves in output 3's staging buffer: its pieces read back over junk. -/
def out0_B_3 (c : Dev nD) (i : grid0.Coords) (arg1 : Memref sig .tc .vmem S512x2048 .f32) (harg1 : arg1.IsWhole) (arg2 : Memref sig .tc .vmem S512x2048 .f32) (harg2 : arg2.IsWhole) (arg3 : Memref sig .tc .vmem S512x2048 .f32) (harg3 : arg3.IsWhole) (arg4 : Memref sig .tc .vmem S8x2048 .f32) (harg4 : arg4.IsWhole) (hc0 : ¬cond0_0 i)
    (x0 : Vec F S512x2048 .f32) (x1 : Vec F S512x2048 .f32) (xo3 : Vec F S8x2048 .f32) : Vec F S8x2048 .f32 :=
  VO0_3.read (Elt F) (VO0_3.writes (Elt F) VO0_3.junk (kernelRun0_B c i arg1 harg1 arg2 harg2 arg3 harg3 arg4 harg4 hc0 x0 x1 xo3).2.1)

/-! ## What the outputs hold after each point -/

/-- THE ACCUMULATION. What the outputs' staging buffers hold after the body at position `n` (a tuple, in window order):
    the case the closed forms select at `n`, run at the point's memrefs and input blocks, an output it reads before covering
    at what this leaves at `n - 1` (its buffer is not written back between: `before0_W_κ`). An assignment of the conditions no point meets is no case (`False.elim`). -/
def outsAt0 (c : Dev nD) : (n : ℕ) → n < cfg0.N → Vec F S512x2048 .f32 × Vec F S8x2048 .f32
  | 0, hn => (out0_A_2 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) ((hcond0_0 ⟨0, hn⟩).mpr (Nat.zero_mod _)) (iblk m c 0 ⟨0, hn⟩) (iblk m c 1 ⟨0, hn⟩), out0_A_3 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) ((hcond0_0 ⟨0, hn⟩).mpr (Nat.zero_mod _)) (iblk m c 0 ⟨0, hn⟩) (iblk m c 1 ⟨0, hn⟩))
  | n + 1, hn =>
    if h0 : (n + 1) % 8 = 0 then
      (out0_A_2 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) ((hcond0_0 ⟨n + 1, hn⟩).mpr h0) (iblk m c 0 ⟨n + 1, hn⟩) (iblk m c 1 ⟨n + 1, hn⟩), out0_A_3 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) ((hcond0_0 ⟨n + 1, hn⟩).mpr h0) (iblk m c 0 ⟨n + 1, hn⟩) (iblk m c 1 ⟨n + 1, hn⟩))
    else
      (out0_B_2 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (fun h => h0 ((hcond0_0 ⟨n + 1, hn⟩).mp h)) (iblk m c 0 ⟨n + 1, hn⟩) (iblk m c 1 ⟨n + 1, hn⟩) (outsAt0 c n (Nat.lt_of_succ_lt hn)).2, out0_B_3 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (fun h => h0 ((hcond0_0 ⟨n + 1, hn⟩).mp h)) (iblk m c 0 ⟨n + 1, hn⟩) (iblk m c 1 ⟨n + 1, hn⟩) (outsAt0 c n (Nat.lt_of_succ_lt hn)).2)

/-- `outsAt0` at a point of case A: that case's contents. -/
theorem outsAt0_A (c : Dev nD) (t : Fin cfg0.N) (h0 : t.val % 8 = 0) :
    outsAt0 m c t.val t.isLt = (out0_A_2 c (grid0.coords t) (ms0_0 t) (hs0_0 t) (ms0_1 t) (hs0_1 t) (ms0_2 t) (hs0_2 t) (ms0_3 t) (hs0_3 t) ((hcond0_0 t).mpr h0) (iblk m c 0 t) (iblk m c 1 t), out0_A_3 c (grid0.coords t) (ms0_0 t) (hs0_0 t) (ms0_1 t) (hs0_1 t) (ms0_2 t) (hs0_2 t) (ms0_3 t) (hs0_3 t) ((hcond0_0 t).mpr h0) (iblk m c 0 t) (iblk m c 1 t)) := by
  obtain ⟨n, hn⟩ := t
  cases n with
  | zero => exact rfl
  | succ n => exact (dif_pos h0).trans rfl

/-- `outsAt0` at a point of case B: that case's contents, over what the point before left. -/
theorem outsAt0_B (c : Dev nD) (t : Fin cfg0.N) (h0 : ¬t.val % 8 = 0) :
    outsAt0 m c t.val t.isLt = (out0_B_2 c (grid0.coords t) (ms0_0 t) (hs0_0 t) (ms0_1 t) (hs0_1 t) (ms0_2 t) (hs0_2 t) (ms0_3 t) (hs0_3 t) (fun h => h0 ((hcond0_0 t).mp h)) (iblk m c 0 t) (iblk m c 1 t) (outsAt0 m c (t.val - 1) (Nat.lt_of_le_of_lt (Nat.sub_le _ _) t.isLt)).2, out0_B_3 c (grid0.coords t) (ms0_0 t) (hs0_0 t) (ms0_1 t) (hs0_1 t) (ms0_2 t) (hs0_2 t) (ms0_3 t) (hs0_3 t) (fun h => h0 ((hcond0_0 t).mp h)) (iblk m c 0 t) (iblk m c 1 t) (outsAt0 m c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans rfl

/-! ## The pipeline's proof data -/

/-- The proof data of the one pipeline on core `c`: the arrays as the region finds them (`V`); after the body at
    point `t` each input's buffer at its block and the outputs' at `outsAt0`; the invariant the class's
    (`ΦA`: the scoped rest and the generator register); the all-reduce's dues owed; full shares. -/
def dats (_ : Fin 1) (c : Dev nD) : Dat τ (Elt F) ℕ ℕ UU ℕ cfg0 c where
  A w := V m c (Pipeline.arrRef spec0 w)
  after w t := match w with
    | ⟨0, _⟩ => iblk m c 0 t
    | ⟨1, _⟩ => iblk m c 1 t
    | ⟨2, _⟩ => (outsAt0 m c t.val t.isLt).1
    | ⟨3, _⟩ => (outsAt0 m c t.val t.isLt).2
  Φ _ := iprop(Pipeline.scopedRest spec0 c ∗ ∃ r, prngReg c r)
  q _ := fullShare
  owed _ := Sites.O0 (F := F) c

/-- The proof data's arrays are the region-entry contents: the proof data's definition projected (`dsimp`), so that
    `V` — a fold over @main's host prefix, long for some programs — is never unfolded to check it. -/
theorem A_eq (c : Dev nD) (w : Fin cfg0.W) : (dats m 0 c).A w = V m c (Pipeline.arrRef spec0 w) := by
  dsimp only [dats]

/-- What the body leaves, window by window (the proof data's `match` reduced by `dsimp`). -/
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = (outsAt0 m c t.val t.isLt).1 := by dsimp only [dats]
theorem after0_3 (c : Dev nD) (t : Fin cfg0.N) : (dats m 0 c).after 3 t = (outsAt0 m c t.val t.isLt).2 := by dsimp only [dats]

/-- Each input's current staging buffer holds its block at every point, fetched there or not (`beforeK_W_of`). -/
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
/-- At a point of case B output 3's current staging buffer holds what the body left at the point before: the point is
    not the first, the buffer was not written back between (`flush0_3`), the window is live and uncut (Lib/Pipeline/Frame.lean
    `Dat.before_out_kept`). -/
theorem before0_3_B (c : Dev nD) (t : Fin cfg0.N) (h0 : ¬t.val % 8 = 0) (d) :
    (dats m 0 c).before 3 t d = (outsAt0 m c (t.val - 1) (Nat.lt_of_le_of_lt (Nat.sub_le _ _) t.isLt)).2 := by
  have hN : t.val < 8 := lt_of_lt_of_eq t.isLt (show cfg0.N = 8 from N_0)
  rw [Dat.before_out_kept _ 3 rfl t (by omega) (Bool.eq_false_iff.mpr fun h => by have := (flush0_3 _).mp h; dsimp only at this; omega)
    (fun _ => rfl) (fun _ _ => rfl)]
  dsimp only [dats]

/-! ## The body obligation, at a generic point -/

/-- What the body is called with at point `t` (`BodyObligation`'s precondition, the windows one by one), -/
def bodyPre (c : Dev nD) (t : Fin cfg0.N) : sProp 𝕄 :=
  iprop((dats m 0 c).Φ t.castSucc ∗ (dats m 0 c).owesAt 0 t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d)))

/-- and what it returns. -/
def bodyPost (c : Dev nD) (t : Fin cfg0.N) : sProp 𝕄 :=
  iprop((dats m 0 c).Φ t.succ ∗ (dats m 0 c).owesAt 0 t.succ
    ∗ owns (c : Thread nD τ) (ms0_0 t) fullShare ((dats m 0 c).after 0 t)
    ∗ owns (c : Thread nD τ) (ms0_1 t) fullShare ((dats m 0 c).after 1 t)
    ∗ owns (c : Thread nD τ) (ms0_2 t) fullShare ((dats m 0 c).after 2 t)
    ∗ owns (c : Thread nD τ) (ms0_3 t) fullShare ((dats m 0 c).after 3 t))

set_option maxHeartbeats 800000 in
/-- The body at any point: the inputs' memrefs hold their blocks (`before0_W`); the closed forms say which case the point is in (`by_cases`), an output the case reads before covering holds what the point before left (`before0_W_κ`); so the
    run applies; the invariant passes through unread; what the core owes passes through. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1]
  rw [show (dats m 0 c).Φ t.succ = (dats m 0 c).Φ t.castSucc from rfl,
    show (dats m 0 c).owesAt 0 t.succ = (dats m 0 c).owesAt 0 t.castSucc from rfl,
    after0_0, after0_1, after0_2, after0_3]
  have hN : t.val < 8 := lt_of_lt_of_eq t.isLt (show cfg0.N = 8 from N_0)
  by_cases h0 : t.val % 8 = 0
  · rw [outsAt0_A m c t h0]
    unfold out0_A_2 out0_A_3; (try dsimp only)
    iintro ⟨HΦ, Ho, ⟨%d0, H0⟩, ⟨%d1, H1⟩, ⟨%d2, H2⟩, ⟨%d3, H3⟩⟩
    iapply ((kernelRun0_A c (grid0.coords t) _ _ _ _ _ _ _ _ ((hcond0_0 t).mpr h0) (iblk m c 0 t) (iblk m c 1 t)).2.2 Set.univ _)
    isplitl [H0]; · iexact H0
    isplitl [H1]; · iexact H1
    isplitl [H2]; · iexists _; iexact H2
    isplitl [H3]; · iexists _; iexact H3
    iintro ⟨H0, H1, ⟨%e2, H2⟩, ⟨%e3, H3⟩⟩
    isplitl [HΦ]; · iexact HΦ
    isplitl [Ho]; · iexact Ho
    isplitl [H0]; · iexact H0
    isplitl [H1]; · iexact H1
    isplitl [H2]
    · unfold owns; iexists _; isplitr
      swap; · iexact H2
      ipureintro; exact View.read_writes_of_cover _ _ _ _ _ (cover0_A_2 c _ _ _ _ _ _ _ _ _ _ _ _)
    unfold owns; iexists _; isplitr
    swap; · iexact H3
    ipureintro; exact View.read_writes_of_cover _ _ _ _ _ (cover0_A_3 c _ _ _ _ _ _ _ _ _ _ _ _)
  · rw [outsAt0_B m c t h0]
    simp only [before0_3_B m c t h0]
    unfold out0_B_2 out0_B_3; (try dsimp only)
    iintro ⟨HΦ, Ho, ⟨%d0, H0⟩, ⟨%d1, H1⟩, ⟨%d2, H2⟩, ⟨%d3, H3⟩⟩
    iapply ((kernelRun0_B c (grid0.coords t) _ _ _ _ _ _ _ _ (fun h => h0 ((hcond0_0 t).mp h)) (iblk m c 0 t) (iblk m c 1 t) _).2.2 Set.univ _)
    isplitl [H0]; · iexact H0
    isplitl [H1]; · iexact H1
    isplitl [H2]; · iexists _; iexact H2
    isplitl [H3]; · iexact H3
    iintro ⟨H0, H1, ⟨%e2, H2⟩, ⟨%e3, H3⟩⟩
    isplitl [HΦ]; · iexact HΦ
    isplitl [Ho]; · iexact Ho
    isplitl [H0]; · iexact H0
    isplitl [H1]; · iexact H1
    isplitl [H2]
    · unfold owns; iexists _; isplitr
      swap; · iexact H2
      ipureintro; exact View.read_writes_of_cover _ _ _ _ _ (cover0_B_2 c _ _ _ _ _ _ _ _ _ _ _ _ _)
    unfold owns; iexists _; isplitr
    swap; · iexact H3
    ipureintro; exact View.read_writes_of_cover _ _ _ _ _ (cover0_B_3 c _ _ _ _ _ _ _ _ _ _ _ _ _)

/-- The body table's row at point `t`'s slots is the body as `bodyAt0` spells it. -/
theorem defs₀_row (t : Fin cfg0.N) :
    defs₀ (F := F) .tc cfg0.body (cfg0.bodyArgs t (cfg0.slots t)) = bodyAt0 t := by
  unfold defs₀; rw [Defs.onTc_tc]

/-- The library's body obligation, at every point: the body's triple restated (`triple_restated`). -/
theorem body_obligation (c : Dev nD) : BodyObligation (dats (F := F) m 0 c) (defs₀ (F := F)) Variants.none 0 Set.univ := fun t => by
  rw [bigSep_W0, bigSep_W0, defs₀_row]
  exact triple_restated (sound_body m c t) rfl .rfl fun _ => .rfl

/-! ## The region, the host's lines and the all-reduce as segments of @main -/

abbrev 𝒱₀ : Variants := Variants.none

/-- The proof data over the pinned configuration. -/
abbrev adm : (p : Fin 1) → (pcfgs (F := F) p).Adm := fun p => (cfgs p).toPCfg_adm
abbrev pdats : (p : Fin 1) → (c : Dev nD) → Pipeline.Dat τ (Elt F) ℕ ℕ UU ℕ (Pipeline.pin (pcfgs (F := F)) adm p) c :=
  fun | 0 => fun c => dats m 0 c | ⟨_ + 1, h⟩ => absurd h (Nat.not_lt.2 (Nat.le_add_left _ _))

/-- The buffers after the region, after the host's lines, and after the all-reduce. -/
def Vr (c : Dev nD) : Valuation τ sig (Elt F) := Pipeline.withArrays spec0 c (V0 m c) (fun w => (dats m 0 c).arrAt w cfg0.N)
def V₁ (c : Dev nD) : Valuation τ sig (Elt F) := StableHlo.after (hostOps1 (F := F)) (Vr m c)
def V₂ (c : Dev nD) : Valuation τ sig (Elt F) := (ar0 (F := F)).after₀ (V₁ m) c

theorem Vr_arr (c : Dev nD) (w : Fin cfg0.W) : Vr m c (Proc.devRef .tc (Pipeline.arrRef spec0 w)) = (dats m 0 c).arrAt w cfg0.N :=
  Pipeline.withArrays_arr spec0 launch0.win.arr_inj c (V0 m c) (fun w => (dats m 0 c).arrAt w cfg0.N) w

abbrev RgA (c : Dev nD) : sProp 𝕄 := Sites.rides0 EC (V₁ m) c
abbrev invsA : sProp 𝕄 := iprop(∃ κ, (AllReduce.Dat.once (ar0 (F := F)) (V₁ m)).cellInvs (Sites.E0 EC) κ)

theorem cut0 : Pipeline.LevelCut (pcfgs (F := F)) adm 0 L lv 0 (fun c => Sites.O0 (F := F) c) (fun _ => 0) :=
  ⟨fun _ _ _ => Sites.mem_L _ _ (by decide), fun _ _ _ => le_refl _, fun _ _ _ hg => ⟨(Sites.O0_pos hg).1, (Sites.O0_pos hg).2⟩⟩

/-- What bypasses the region: every other unscoped buffer, and what rides to the all-reduce. -/
abbrev restR (c : Dev nD) : sProp 𝕄 :=
  iprop(StableHlo.held (c : Thread nD τ) (Pipeline.ucRefs τ sig \ Pipeline.arrRefs (τ := τ) spec0) (V0 m c) ∗ RgA m c)

local notation "ℍ" => Pipeline.HostSeg (Name := ℕ) (U := UU) (pcfgs (F := F)) defs₀ 𝒱₀ L lv
local notation "ℝ𝕊" => Pipeline.RegionSeg (pcfgs (F := F)) adm (pdats m) 0 defs₀ 𝒱₀ L lv

set_option maxHeartbeats 800000 in
/-- The kernel's region, every buffer held. -/
def reg0 : ℝ𝕊 0 :=
  Pipeline.RegionSeg.ofHeld (pcfgs (F := F)) adm (pdats m) 0 defs₀ 𝒱₀ L lv 0 (fun c => Sites.O0 (F := F) c)
    (fun c => iprop(∃ r, prngReg c r)) (fun c => iprop(∃ r, prngReg c r)) launch0.toP rfl
    (fun c => (body_obligation m c).loose) (fun _ _ => rfl) (fun _ => rfl) (fun c => (dats m 0 c).share_full fun _ => rfl)
    (fun c => BI.Entails.refl _) (fun c => BI.Entails.refl _) (fun _ => 0) cut0 (restR m) (V0 m) (Vr m)
    (fun c w => rfl) (fun c w => (Vr_arr m c w).symm)

theorem ops1_sub : ∀ op ∈ (hostOps1 : List (HloOp τ sig (Elt F))), op.bufs ⊆ Pipeline.ucRefs τ sig := fun op hop =>
  Pipeline.sub_ucRefs op ((List.forall_iff_forall_mem.mp hostOps1_sub) op hop)
theorem hostOps1_fresh : (hostOps1 : List (HloOp τ sig (Elt F))).Forall fun op => op.fresh = ∅ := by
  simp only [List.Forall]; repeat' constructor
theorem ops1_fresh : ∀ op ∈ (hostOps1 : List (HloOp τ sig (Elt F))), op.fresh = ∅ := fun op hop =>
  (List.forall_iff_forall_mem.mp hostOps1_fresh) op hop

/-- The host's lines, every unscoped buffer held. -/
def seg1 : ℍ := Pipeline.HostSeg.ofOps _ _ _ _ _ (Pipeline.ucRefs τ sig) (hostOps1 (F := F)) ops1_sub ops1_fresh (Vr m) (Sites.Es EC (V₁ m) 0)

/-- The all-reduce. -/
def seg2 : ℍ := Sites.seg0 EC 𝒱₀ (V₁ m) (Sites.Rest0 (V₁ m) fun _ => invsA m)

def segs : List (Pipeline.Seg (pcfgs (F := F)) adm (pdats m) 0 defs₀ 𝒱₀ L lv) := [.region (reg0 m), .host (seg1 m), .host (seg2 m)]

theorem main_eq (c : Dev nD) : main (F := F) c = Pipeline.Seg.run (segs m) :=
  main_segs adm (pdats m) 0 𝒱₀ L lv (seg1 m) (seg2 m) (reg0 m) rfl rfl c

/-! ### The thread states -/

abbrev T₀ (c : Dev nD) : sProp 𝕄 := iprop(StableHlo.held (c : Thread nD τ) (Pipeline.ucRefs τ sig) (V0 m c) ∗ Sites.Es EC (V₁ m) 0 c)
abbrev Tₙ (c : Dev nD) : sProp 𝕄 :=
  iprop(StableHlo.held (c : Thread nD τ) (Pipeline.ucRefs τ sig) (V₂ m c) ∗ (invsA m ∗ (ar0 (F := F)).ghostAfter (Sites.E0 EC) c 0))

theorem arrs_sub : Pipeline.arrRefs (τ := τ) spec0 ⊆ Pipeline.ucRefs τ sig :=
  Pipeline.arrRefs_sub_ucRefs spec0 launch0.win.arr_unscoped

theorem T₀_reg0 (c : Dev nD) : T₀ m c ⊢ (reg0 (F := F) m).pre c := by
  show _ ⊢ iprop(StableHlo.held (c : Thread nD τ) (Pipeline.arrRefs (τ := τ) spec0) (V0 m c) ∗ (∃ r, prngReg c r) ∗ restR m c
    ∗ ∃ W, owes (c : Thread nD τ) (Sites.O0 (F := F) c) W)
  unfold T₀ restR
  rw [Sites.Es_0, StableHlo.held_sub_split (c : Thread nD τ) arrs_sub (V0 m c)]
  iintro ⟨⟨Ha, Hu⟩, HO, Hp, Hr⟩
  isplitl [Ha]; · iexact Ha
  isplitl [Hp]; · iexact Hp
  isplitl [Hu Hr]; · isplitl [Hu] <;> iassumption
  iexact HO

theorem Vr_off (c : Dev nD) (b : DevRef τ sig) (hb : b ∈ Pipeline.ucRefs τ sig \ Pipeline.arrRefs (τ := τ) spec0) : Vr m c b = V0 m c b := by
  unfold Vr Pipeline.withArrays
  rw [dif_neg]
  rintro ⟨w, e⟩
  exact (Finset.mem_sdiff.mp hb).2 (Finset.mem_map.mpr ⟨_, Finset.mem_image.mpr ⟨w, Finset.mem_univ _, rfl⟩, e⟩)

theorem reg0_seg1 (c : Dev nD) : (reg0 m).post c ⊢ (seg1 (F := F) m).pre c := by
  show iprop(StableHlo.held (c : Thread nD τ) (Pipeline.arrRefs (τ := τ) spec0) (Vr m c) ∗ (∃ r, prngReg c r) ∗ restR m c
    ∗ ∃ W, owes (c : Thread nD τ) (Sites.O0 (F := F) c) W)
    ⊢ iprop(StableHlo.held (c : Thread nD τ) (Pipeline.ucRefs τ sig) (Vr m c) ∗ Sites.Es EC (V₁ m) 0 c)
  unfold restR
  rw [Sites.Es_0, StableHlo.held_sub_split (c : Thread nD τ) arrs_sub (Vr m c),
    StableHlo.held_congr (c : Thread nD τ) (S := Pipeline.ucRefs τ sig \ Pipeline.arrRefs (τ := τ) spec0) (V := Vr m c) (V' := V0 m c) (Vr_off m c)]
  iintro ⟨Ha, Hp, ⟨Hu, Hr⟩, HO⟩
  isplitl [Ha Hu]; · isplitl [Ha] <;> iassumption
  isplitl [HO]; · iexact HO
  isplitl [Hp] <;> iassumption

theorem seg1_seg2 (c : Dev nD) : (seg1 m).post c ⊢ (seg2 (F := F) m).pre c := by
  refine BIBase.Entails.trans ?_ (Sites.pre0 EC 𝒱₀ (V₁ m) (fun _ => invsA m) c)
  show iprop(StableHlo.held (c : Thread nD τ) (Pipeline.ucRefs τ sig) (V₁ m c) ∗ Sites.Es EC (V₁ m) 0 c) ⊢ _
  rw [Sites.Es_0]
  iintro ⟨Hh, HO, Hp, Hr⟩
  ihave #Hia := (show (AllReduce.Dat.once (ar0 (F := F)) (V₁ m)).rides (Sites.E0 EC) c 1 2 ⊢ invsA m from by unfold AllReduce.Dat.rides; iintro ⟨Hi, -⟩; iexact Hi) $$ Hr
  isplitl [Hh]; · iexact Hh
  isplitl [HO Hp Hr]
  · isplitl [HO]; · iexact HO
    isplitl [Hp] <;> iassumption
  iexact Hia

theorem seg2_Tₙ (c : Dev nD) : (seg2 m).post c ⊢ iprop(Tₙ m c ∗ ∃ W, owes (c : Thread nD τ) (0 : CellTallies nD τ sig ℕ) W) := by
  refine BIBase.Entails.trans (Sites.post0 EC 𝒱₀ (V₁ m) (fun _ => invsA m) c) ?_
  show iprop(StableHlo.held (c : Thread nD τ) (Pipeline.ucRefs τ sig) (V₂ m c) ∗ (Sites.Es EC (V₁ m) 1 c ∗ (Sites.Ghost0 EC c ∗ invsA m))) ⊢ _
  iintro ⟨Hh, HE, Hg, Hi⟩
  isplitr [HE]
  · isplitl [Hh]; · iexact Hh
    isplitl [Hi] <;> iassumption
  · iapply (Sites.hE_last EC (V₁ m) c); iexact HE

/-! ## The launch -/

def u₀ : UU :=
  (initOf (Pipeline.cells (Pipeline.pin (pcfgs (F := F)) adm) cellOf_inj) (Pipeline.launchToks (Pipeline.pin (pcfgs (F := F)) adm) cellOf_inj),
    Sites.uC (U := UU) (V₁ m))

theorem init :
    iprop((bigSep Finset.univ fun c : Dev nD => iprop(unscopedBufs c (fun b => m ((c : Thread nD τ).loc b)) ∗ unscopedSems0 c
          ∗ owes (c : Thread nD τ) (Sites.O0 (F := F) c) ∅ ∗ Pipeline.launchCred (Sites.O0 (F := F)) c ∗ prngReg c (ρ c) ∗ Sites.G EC (V₁ m) c)) ∗ levAts L lv)
      ⊢ (|={Set.univ}=> bigSep Finset.univ (T₀ m) : sProp 𝕄) := by
  have hsplit : (bigSep Finset.univ fun c : Dev nD => iprop(unscopedBufs c (fun b => m ((c : Thread nD τ).loc b)) ∗ unscopedSems0 c
          ∗ owes (c : Thread nD τ) (Sites.O0 (F := F) c) ∅ ∗ Pipeline.launchCred (Sites.O0 (F := F)) c ∗ prngReg c (ρ c) ∗ Sites.G EC (V₁ m) c))
        ⊢ (iprop((bigSep Finset.univ fun c : Dev nD => StableHlo.held (c : Thread nD τ) (Pipeline.ucRefs τ sig) (V0 m c))
            ∗ bigSep Finset.univ fun c : Dev nD => iprop(unscopedSems0 c ∗ owes (c : Thread nD τ) (Sites.O0 (F := F) c) ∅
              ∗ Pipeline.launchCred (Sites.O0 (F := F)) c ∗ prngReg c (ρ c) ∗ Sites.G EC (V₁ m) c)) : sProp 𝕄) := by
    rw [← bigSep_sep']
    exact bigSep_mono fun c _ => by rw [← Pipeline.unscopedBufs_held (Ix := ℕ) (Name := ℕ) (U := UU) (Lvl := ℕ) c (V0 m c)]; exact BI.Entails.refl _
  iintro ⟨H, Hla⟩
  ihave H' := hsplit $$ H
  icases H' with ⟨Hh, Hr⟩
  imod (Sites.hE0 EC (V₁ m) ρ) $$ [Hr Hla] with HE
  · isplitl [Hr]; · iexact Hr
    iexact Hla
  imodintro
  unfold T₀
  rw [bigSep_sep']
  isplitl [Hh]; · iexact Hh
  iexact HE

set_option backward.isDefEq.respectTransparency.types false in
set_option maxHeartbeats 800000 in
/-- THE RUN: every unscoped buffer of every device ends as the all-reduce leaves it, and every counter at zero. -/
theorem run_main : θ_run defs (onTc (τ := τ) (main (F := F))) ⟨m, fun _ => 0, ρ⟩
    (fun r => (∀ c : Dev nD, ∀ b ∈ Pipeline.ucRefs τ sig, r.2.mem (c, b) = V₂ m c b) ∧ r.2.sem = fun _ => 0) :=
  Pipeline.θ_run_regions_kit_sems (pcfgs (F := F)) adm (pdats m) 0 cellOf_inj EP defs₀ 𝒱₀ L lv m ρ main (segs m)
    (fun c Q => by rw [main_eq m c])
    (by simp only [segs, Pipeline.Seg.pipes_host, Pipeline.Seg.pipes_region, Pipeline.Seg.pipes_nil]; decide)
    (O₀ := Sites.O0 (F := F)) (hL := Sites.hL) (G := Sites.G EC (V₁ m)) (u₀ := u₀ m)
    (hu₀ := by
      unfold u₀
      iintro Hu
      ihave H := (ownU_pair _ _) $$ Hu
      icases H with ⟨HP, HX⟩
      imodintro
      isplitl [HP]; · iexact HP
      rw [Sites.bigSep_G]; iexact HX)
    (T₀ := T₀ m) (Tₙ := Tₙ m)
    (hch := ⟨T₀_reg0 m, reg0_seg1 m, seg1_seg2 m, seg2_Tₙ m⟩)
    (hinit := init m ρ)
    (QY := fun c s => (∀ b ∈ Pipeline.ucRefs τ sig, s.mem (c, b) = V₂ m c b)
      ∧ (s.sem ((ar0 (F := F)).barrierCell c) = 0 ∧ s.sem ((ar0 (F := F)).recvCell c) = 0 ∧ s.sem ((ar0 (F := F)).sendCell c) = 0))
    (hfin := fun c s' => by
      unfold Tₙ StableHlo.held
      iintro ⟨⟨Hh, Hea⟩, HSI⟩
      ihave Hr := (pointsTo_read_all (Pipeline.ucRefs τ sig) (fun b => ((c : Thread nD τ).1, b)) (V₂ m c) s') $$ [Hh HSI]
      · isplitl [Hh] <;> iassumption
      icases Hr with ⟨%h, HSI⟩
      imod ((AllReduce.Dat.once (ar0 (F := F)) (V₁ m)).ghostAfter_read (Sites.E0 EC) c (k := 0) le_rfl s') $$ [Hea HSI] with ⟨%ha, HSI⟩
      · isplitl [Hea] <;> iassumption
      imodintro
      isplitr; · ipureintro; exact ⟨h, ha⟩
      iexact HSI)
    (hQ := fun s h hs => ⟨fun c => (h c).1, sem_eq_zero hs fun c sm hsm => by
      have hl : ∀ sm : SemLoc sig, sm.isScoped .tc = false → sm = .reg ar0_barrier ∨ sm = .dma ar0_recv ∨ sm = .dma ar0_send := by decide
      rcases hl sm hsm with rfl | rfl | rfl
      exacts [(h c).2.1, (h c).2.2.1, (h c).2.2.2]⟩)

/-! ## What the buffers end with -/

/-- The all-reduce writes its result and its slots only. -/
theorem V₂_off (c : Dev nD) (b : Ref sig .tc) (h : b ≠ main_v4 ∧ b ≠ main_v4_s0 ∧ b ≠ main_v4_s1 ∧ b ≠ main_v4_s2 ∧ b ≠ main_v4_s3 ∧ b ≠ main_v4_s4 ∧ b ≠ main_v4_s5
    ∧ b ≠ main_v4_s6 ∧ b ≠ main_v4_s7) : V₂ m c (Proc.devRef .tc b) = V₁ m c (Proc.devRef .tc b) := by
  obtain ⟨h, h0, h1, h2, h3, h4, h5, h6, h7⟩ := h
  refine (ar0 (F := F)).after₀_of_notMem (V₁ m) c (b := Proc.devRef .tc b) fun hb => ?_
  rcases Finset.mem_insert.mp hb with hb | hb
  · exact h (Proc.devRef_injective _ hb)
  · obtain ⟨j, hj⟩ := (ar0 (F := F)).mem_stageRefs.mp hb
    have e := Proc.devRef_injective _ hj
    fin_cases j
    exacts [h0 e, h1 e, h2 e, h3 e, h4 e, h5 e, h6 e, h7 e]

theorem V₁_arg0 (c : Dev nD) : V₁ m c (Proc.devRef .tc main_arg0) = Vr m c (Proc.devRef .tc main_arg0) := by
  unfold V₁ hostOps1
  after_results
theorem V₁_arg1 (c : Dev nD) : V₁ m c (Proc.devRef .tc main_arg1) = Vr m c (Proc.devRef .tc main_arg1) := by
  unfold V₁ hostOps1
  after_results
theorem V₁_v1_0 (c : Dev nD) : V₁ m c (Proc.devRef .tc main_v1_0) = Vr m c (Proc.devRef .tc main_v1_0) := by
  unfold V₁ hostOps1
  after_results
theorem V₁_v3 (c : Dev nD) : V₁ m c (Proc.devRef .tc main_v3)
    = mulf (constant S_ .f32 0x39800000#32) (Host.reduceAdd (Vr m c (Proc.devRef .tc main_v1_1)) (constant S_ .f32 0x00000000#32) reducesTo_S8x2048_S_d0_1 h_S_) := by
  unfold V₁ hostOps1
  after_results

theorem end_arg0 (c : Dev nD) : V₂ m c (Proc.devRef .tc main_arg0) = m ((c : Thread nD τ).loc main_arg0) :=
  (V₂_off m c main_arg0 (by decide)).trans ((V₁_arg0 m c).trans ((Vr_arr m c 0).trans ((dats m 0 c).arrAt_in 0 rfl _)))
theorem end_arg1 (c : Dev nD) : V₂ m c (Proc.devRef .tc main_arg1) = m ((c : Thread nD τ).loc main_arg1) :=
  (V₂_off m c main_arg1 (by decide)).trans ((V₁_arg1 m c).trans ((Vr_arr m c 1).trans ((dats m 0 c).arrAt_in 1 rfl _)))
theorem end_v1_0 (c : Dev nD) : V₂ m c (Proc.devRef .tc main_v1_0) = (dats m 0 c).arrAt 2 cfg0.N :=
  (V₂_off m c main_v1_0 (by decide)).trans ((V₁_v1_0 m c).trans (Vr_arr m c 2))

/-- The program runs; its results end with these values, its arguments as they began, every counter at zero. -/
theorem run : θ_run defs (onTc (τ := τ) (main (F := F))) ⟨m, fun _ => 0, ρ⟩
    (fun r => (∀ c : Dev nD, r.2.mem ((c.tc : Thread nD τ).loc main_v1_0) = (dats m 0 c).arrAt 2 cfg0.N
      ∧ r.2.mem ((c.tc : Thread nD τ).loc main_v4) = V₂ m c (Proc.devRef .tc main_v4)
      ∧ r.2.mem ((c.tc : Thread nD τ).loc main_arg0) = m ((c.tc : Thread nD τ).loc main_arg0)
      ∧ r.2.mem ((c.tc : Thread nD τ).loc main_arg1) = m ((c.tc : Thread nD τ).loc main_arg1)) ∧ r.2.sem = fun _ => 0) :=
  (θ_run defs _ _).mono (fun r h => ⟨fun c => ⟨(h.1 c _ (Pipeline.devRef_mem_ucRefs (b := main_v1_0) rfl)).trans (end_v1_0 m c),
      h.1 c _ (Pipeline.devRef_mem_ucRefs (b := main_v4) rfl),
      (h.1 c _ (Pipeline.devRef_mem_ucRefs (b := main_arg0) rfl)).trans (end_arg0 m c),
      (h.1 c _ (Pipeline.devRef_mem_ucRefs (b := main_arg1) rfl)).trans (end_arg1 m c)⟩, h.2⟩) (run_main m ρ)

end Cert.OfLossAllIdealRun

end
-- ==== Proof.OfLossAll.lean ====
module

public import proofs.«01_k».proof.Defs
public import proofs.«01_k».proof.Proof.OfLossSum
public import proofs.«01_k».proof.Proof.OfLossAllRun
public import proofs.«01_k».proof.Proof.OfLossAllIdealRun
public import proofs.«01_k».proof.Proof.Gen.RefLossAllIdeal.Read
public import Idealize.ShloMosaic.Lib.Quiescent
public import Idealize.ShloMosaic.Lib.Layout

/-! The loss over the eight devices: every device's gradient and loss as on one device, the losses then summed; the same as the loss of all the rows together. -/

@[expose] public section

set_option maxRecDepth 16384

noncomputable section

namespace Cert.OfLossAll

open Idealize.ShloMosaic Idealize.ShloMosaic.TcCoe Idealize.SL.Sem
open Cert.LossAllIdeal Cert.LossAllIdeal.Gen Cert.OfLossAllIdealRun
open Cert.OfLossSum (grad sq total total_parts word_inv_4096 sum_mul_real)

theorem pay3_apply (v3 v4 : Vec Ideal S512x2048 .f32) (i : S512x2048.Idx) : k0_pay3 v3 v4 i = grad (v3 i) (v4 i) := by
  unfold grad
  pointwise [k0_pay3, k0_pay2]

theorem pay4_apply (v3 v4 : Vec Ideal S512x2048 .f32) (v9 : Vec Ideal S8x2048 .f32) (y : S8x2048.Idx) :
    k0_pay4 v3 v4 v9 y = v9 y + ∑ k : Fin 64, sq (v3 (ix2 ⟨k.val * 8 + (y 0).val, by have := (y 0).isLt; dsimp at this; omega⟩ (y 1))) (v4 (ix2 ⟨k.val * 8 + (y 0).val, by have := (y 0).isLt; dsimp at this; omega⟩ (y 1))) := by
  obtain ⟨r, s, rfl⟩ : ∃ r s, y = ix2 r s := ⟨y 0, y 1, eq_ix2 y⟩
  unfold OfLossSum.sq
  pointwise [k0_pay4, k0_pay2]

theorem pay1_apply (y : S8x2048.Idx) : k0_pay1 (F := Ideal) y = 0 := by
  pointwise [k0_pay1]

/-- Half of the sum of the rows' means, as a share of the sum of all the entries. -/
theorem rows {n : ℕ} (f : Fin n → Fin 2048 → EReal) (hf : ∀ r s, 0 ≤ f r s) :
    Ideal.ofBits .f32 0x3F000000#32 * ∑ r, Ideal.div (∑ s, f r s) (Ideal.ofBits .f32 0x45000000#32) = Ideal.ofBits .f32 0x39800000#32 * ∑ r, ∑ s, f r s := by
  simp only [GradMath.word_half, GradMath.word_2048, word_inv_4096, Ideal.div_coe (show (2048 : ℝ) ≠ 0 by norm_num)]
  rw [sum_mul_real _ (fun r => Finset.sum_nonneg fun s _ => hf r s) (by norm_num), mul_comm _ ((1 / 2048 : ℝ) : EReal), ← mul_assoc, ← EReal.coe_mul]
  congr 2
  norm_num

/-- The row of the whole arrays that is a device's row. -/
def row (d : Fin 8) (r : Fin 4096) : Fin 32768 := ⟨d.val * 4096 + r.val, by omega⟩

/-- The devices' losses add up to the loss of all the rows. -/
theorem total_devices (f : Fin 32768 → Fin 2048 → EReal) (hf : ∀ r s, 0 ≤ f r s) :
    ∑ d : Fin 8, total (fun r s => f (row d r) s) = Ideal.ofBits .f32 0x39800000#32 * ∑ r, ∑ s, f r s := by
  unfold total
  rw [word_inv_4096, ← ProdSum.sum_halves (n := 4096) (J := 8) (by norm_num : 8 * 4096 = 32768) fun r => ∑ s, f r s, mul_comm _ (∑ _, _),
    ← sum_mul_real _ (fun d => Finset.sum_nonneg fun r _ => Finset.sum_nonneg fun s _ => hf _ _) (by norm_num)]
  exact Finset.sum_congr rfl fun d _ => mul_comm _ _

/-- A device's rows of a whole array. -/
theorem block_at (v : Vec Ideal ⟨2, ![32768, 2048]⟩ .f32) (c : Fin 8) (r : Fin 4096) (s : Fin 2048) :
    (Layout.block ⟨2, ![4096, 2048]⟩ ⟨2, ![32768, 2048]⟩ 0 8 c v : Vec Ideal ⟨2, ![4096, 2048]⟩ .f32) (ix2 r s) = v (ix2 (row c r) s) := by
  rw [Layout.block_apply]
  refine congrArg v ((eq_ix2 _).trans (congrArg₂ ix2 (Fin.ext ?_) (Fin.ext ?_))) <;> rfl

variable (m : (ℓ : Loc nD τ sig) → Buf (Elt Ideal) ℓ) (c : Dev nD)

/-- Where each point's blocks lie. -/
theorem index : ∀ t : Fin cfg0.N, win0_0.index t = ![t.val, 0] ∧ win0_1.index t = ![t.val, 0] ∧ win0_2.index t = ![t.val, 0] ∧ win0_3.index t = ![0, 0] :=
  (by decide +kernel : ∀ t : Fin grid0.N, _)

theorem blk0 (t : Fin cfg0.N) (r : Fin 512) (k : Fin 2048) (R : Fin 4096) (h : R.val = t.val * 512 + r.val) :
    iblk m c 0 t (ix2 r k) = m ((c : Thread nD τ).loc main_arg0) (ix2 R k) := by
  obtain ⟨R, p⟩ := R
  obtain rfl : R = t.val * 512 + r.val := h
  blk_ext [iblk, index t]

theorem blk1 (t : Fin cfg0.N) (r : Fin 512) (k : Fin 2048) (R : Fin 4096) (h : R.val = t.val * 512 + r.val) :
    iblk m c 1 t (ix2 r k) = m ((c : Thread nD τ).loc main_arg1) (ix2 R k) := by
  obtain ⟨R, p⟩ := R
  obtain rfl : R = t.val * 512 + r.val := h
  blk_ext [iblk, index t]

/-- Every point leaves its rows' gradient. -/
theorem outs2 (t : Fin cfg0.N) (y : S512x2048.Idx) :
    (outsAt0 m c t.val t.isLt).1 y = grad (iblk m c 0 t y) (iblk m c 1 t y) := by
  by_cases h : t.val % 8 = 0
  · rw [outsAt0_A m c t h]
    dsimp only
    unfold out0_A_2
    frame_out
    exact pay3_apply _ _ y
  · rw [outsAt0_B m c t h]
    dsimp only
    unfold out0_B_2
    frame_out
    exact pay3_apply _ _ y

/-- The part of one point's rows in the partial sums. -/
def part (t : Fin cfg0.N) (y : S8x2048.Idx) : EReal :=
  ∑ k : Fin 64, sq (iblk m c 0 t (ix2 ⟨k.val * 8 + (y 0).val, by have := (y 0).isLt; dsimp at this; omega⟩ (y 1)))
    (iblk m c 1 t (ix2 ⟨k.val * 8 + (y 0).val, by have := (y 0).isLt; dsimp at this; omega⟩ (y 1)))

theorem sum_first (t : Fin cfg0.N) (h : t.val % 8 = 0) (y : S8x2048.Idx) :
    (outsAt0 m c t.val t.isLt).2 y = k0_pay1 (F := Ideal) y + part m c t y := by
  rw [outsAt0_A m c t h]
  dsimp only
  unfold out0_A_3
  frame_out
  exact pay4_apply _ _ _ y

theorem sum_next (t : Fin cfg0.N) (h : ¬ t.val % 8 = 0) (y : S8x2048.Idx) :
    (outsAt0 m c t.val t.isLt).2 y = (outsAt0 m c (t.val - 1) (Nat.lt_of_le_of_lt (Nat.sub_le _ _) t.isLt)).2 y + part m c t y := by
  rw [outsAt0_B m c t h]
  dsimp only
  unfold out0_B_3
  frame_out
  exact pay4_apply _ _ _ y

/-- The gradient, whole. -/
theorem array2 : (dats m 0 c).arrAt 2 cfg0.N
    = fun i => grad (m ((c : Thread nD τ).loc main_arg0) i) (m ((c : Thread nD τ).loc main_arg1) i) := by
  refine (dats m 0 c).arrAt_eq_of_covers 2 _ (by decide +kernel) fun t hf y => ?_
  blk_simp
  have e0 : ((win0_2.blk t).view.emb y 0).val = t.val * 512 + (y 0).val := by
    blk_simp [index t] <;> omega
  have e1 : ((win0_2.blk t).view.emb y 1).val = (y 1).val := by
    blk_simp [index t] <;> omega
  have e : (win0_2.blk t).view.emb y = ix2 ⟨t.val * 512 + (y 0).val, e0 ▸ ((win0_2.blk t).view.emb y 0).isLt⟩ (y 1) :=
    (eq_ix2 _).trans (congrArg₂ ix2 (Fin.ext e0) (Fin.ext e1))
  rw [after0_2, outs2, e]
  conv_lhs => rw [eq_ix2 y]
  exact congrArg₂ grad (blk0 m c t _ _ _ rfl) (blk1 m c t _ _ _ rfl)

/-- The partial sums, whole. -/
theorem array3 : (dats m 0 c).arrAt 3 cfg0.N
    = fun i : S8x2048.Idx => ∑ k : Fin 512, sq (m ((c : Thread nD τ).loc main_arg0) (ix2 ⟨k.val * 8 + (i 0).val, by have := (i 0).isLt; dsimp at this; omega⟩ (i 1)))
        (m ((c : Thread nD τ).loc main_arg1) (ix2 ⟨k.val * 8 + (i 0).val, by have := (i 0).isLt; dsimp at this; omega⟩ (i 1))) := by
  refine (dats m 0 c).arrAt_eq_of_after_last 3 t0_7 (by decide +kernel) _ fun y => ?_
  blk_simp
  rw [after0_3]
  refine (Pipeline.eq_sum_fin_of_reset_step_apply_last (fun n h => (outsAt0 m c n h).2) 8 (k0_pay1 (F := Ideal)) (part m c)
    (sum_first m c) (sum_next m c) (by decide) t0_7 rfl y).trans ?_
  rw [pay1_apply, zero_add]
  refine Eq.trans (Finset.sum_congr rfl fun t _ => Finset.sum_congr rfl fun k _ => ?_) (ProdSum.sum_halves (n := 64) (J := 8) rfl _)
  exact congrArg₂ sq (blk0 m c t _ _ _ (by dsimp only; omega)) (blk1 m c t _ _ _ (by dsimp only; omega))

section refer
open Cert.RefLossAllIdeal.Read

variable (y t : Vec Ideal Cert.RefLossAllIdeal.S32768x2048 .f32)

/-- The reference's gradient, at an index. -/
theorem v14_at (r : Fin 32768) (s : Fin 2048) : val_main_v14 (F := Ideal) y t (ix2 r s) = grad (y (ix2 r s)) (t (ix2 r s)) := by
  unfold grad
  pointwise [val_main_v14, val_main_v13, val_main_v12, val_main_v11, val_main_v10, val_main_v9, val_main_v3, val_main_v2, val_main_v0, val_main_cst, val_main_cst_4,
    val_main_cst_5, val_main_cst_6]
  exact GradMath.loss_grad _

/-- The reference's mean of a row. -/
theorem v19_at (r : Fin 32768) : val_main_v19 (F := Ideal) y t (ix1 r) = Ideal.div (∑ s : Fin 2048, sq (y (ix2 r s)) (t (ix2 r s))) (Ideal.ofBits .f32 0x45000000#32) := by
  rw [val_main_v19_apply, val_main_v17_apply, val_main_v18_apply, val_main_cst_8_apply, val_main_cst_7_apply]
  refine congrArg₂ Ideal.div ?_ rfl
  refine (congrArg₂ (fun a b : EReal => a + b) (by simp [FloatOps.ofBits] : _ = (0 : EReal)) (Finset.sum_congr rfl fun s _ => ?_)).trans (zero_add _)
  rw [val_main_v16_apply, val_main_v15_apply, show idx_main_v17 (ix1 r) s = ix2 r s from eq_ix2 _]
  rfl

/-- The reference's loss. -/
theorem v21_at (i : Cert.RefLossAllIdeal.S_.Idx) :
    val_main_v21 (F := Ideal) y t i = Ideal.ofBits .f32 0x39800000#32 * ∑ r : Fin 32768, ∑ s : Fin 2048, sq (y (ix2 r s)) (t (ix2 r s)) := by
  rw [val_main_v21_apply, val_main_v20_apply]
  refine Eq.trans ?_ (rows _ fun r s => GradMath.sq_nonneg _)
  rw [val_main_cst_10_apply, val_main_cst_9_apply]
  refine congrArg₂ (fun a b : EReal => a * b) rfl ?_
  have h := v19_at y t
  generalize val_main_v19 (F := Ideal) y t = z at h
  refine (congrArg₂ (fun a b : EReal => a + b) (by simp [FloatOps.ofBits] : _ = (0 : EReal)) ((sum_idx1 (n0 := 32768) z).trans ?_)).trans (zero_add _)
  exact Finset.sum_congr rfl fun r _ => h r

end refer

/-- The program runs, leaves its arguments alone and every counter at zero. -/
theorem frame : Cert.quiescent_LossAll := fun m g _ =>
  (θ_run Cert.LossAll.defs _ _).mono (fun r h => ⟨fun c => (h.1 c).2.2, h.2⟩) (Cert.OfLossAllRun.run m g)
theorem frameIdeal : Cert.quiescent_LossAllIdeal := fun m g _ =>
  (θ_run Cert.LossAllIdeal.defs _ _).mono (fun r h => ⟨fun c => (h.1 c).2.2, h.2⟩) (Cert.OfLossAllIdealRun.run m g)

/-- The reference runs, leaves its arguments alone and every counter at zero. -/
theorem frameRef : Cert.quiescent_RefLossAllIdeal := fun m g _ =>
  (θ_run Cert.RefLossAllIdeal.defs _ _).mono (fun r h => ⟨fun c => (h c).2.2, sem_eq_zero_of_no_sems rfl _⟩) (Cert.RefLossAllIdeal.Value.run m g)

/-- A device's loss before the sum over the devices. -/
def own (c : Dev nD) : Vec Ideal S_ .f32 := V₁ m c (Proc.devRef .tc main_v3)

theorem loss_at (i : S_.Idx) : own m c i
    = total fun r s => sq (m ((c : Thread nD τ).loc main_arg0) (ix2 r s)) (m ((c : Thread nD τ).loc main_arg1) (ix2 r s)) := by
  have e : Vr m c (Proc.devRef .tc main_v1_1) = (dats m 0 c).arrAt 3 cfg0.N := Vr_arr m c 3
  unfold own
  rw [V₁_v3, e, array3, total_parts]
  refine congrArg₂ (fun a b : EReal => a * b) rfl ?_
  refine Eq.trans (Cert.LossSumIdeal.Read.val_main_v1_apply _ i) ?_
  rw [Cert.LossSumIdeal.Read.val_main_cst_apply]
  refine Eq.trans (congrArg₂ (fun a b : EReal => a + b) (by simp [FloatOps.ofBits] : _ = (0 : EReal)) (sum_idx2 _)) ?_
  exact zero_add _

theorem peer : ∀ (c : Dev nD) (j : Fin 8), (ar0 (F := Ideal)).peer c j = j := by
  decide

/-- The sum over the devices. -/
theorem sum_fold : (V₂ m c (Proc.devRef .tc main_v4) : Vec Ideal S_ .f32)
    = (ar0 (F := Ideal)).foldGroup fun j => own m ((ar0 (F := Ideal)).peer c j) := by
  have h : V₂ m c (Proc.devRef .tc main_v4) = (ar0 (F := Ideal)).toResult ((ar0 (F := Ideal)).foldGroup fun j => own m ((ar0 (F := Ideal)).peer c j)) :=
    (ar0 (F := Ideal)).after₀_result (V₁ m) c
  exact h.trans (eq_of_heq (cast_heq _ _))

theorem fold_at (v : Fin 8 → Vec Ideal S_ .f32) (i : S_.Idx) : (ar0 (F := Ideal)).foldGroup v i = ∑ d : Fin 8, (v d i : EReal) := by
  have h : (ar0 (F := Ideal)).foldGroup v i = ((List.finRange 8).drop 1).foldl (fun (a : EReal) j => a + v j i) (v 0 i) := rfl
  rw [h]
  exact (Fin.sum_univ_eight (fun d => (v d i : EReal))).symm

theorem sum_at (i : S_.Idx) : (V₂ m c (Proc.devRef .tc main_v4) : Vec Ideal S_ .f32) i = ∑ d : Fin 8, (own m d i : EReal) := by
  have e : ∑ d : Fin 8, (own m ((ar0 (F := Ideal)).peer c d) i : EReal) = ∑ d : Fin 8, (own m d i : EReal) :=
    Finset.sum_congr rfl fun d _ => by rw [peer]
  rw [sum_fold]
  exact (fold_at _ i).trans e

/-- The kernel's results are the reference's: of the gradient every device its rows, of the loss every device the whole. -/
theorem value : Cert.algebraic_LossAllIdeal_RefLossAllIdeal := by
  intro m g m' g' _ hargs
  refine ⟨Cert.RefLossAllIdeal.Read.val_main_v14 (F := Ideal) (m' (((0 : Dev Cert.RefLossAllIdeal.nD).tc : Thread Cert.RefLossAllIdeal.nD Cert.RefLossAllIdeal.τ).loc Cert.RefLossAllIdeal.main_arg0))
      (m' (((0 : Dev Cert.RefLossAllIdeal.nD).tc : Thread Cert.RefLossAllIdeal.nD Cert.RefLossAllIdeal.τ).loc Cert.RefLossAllIdeal.main_arg1)),
    Cert.RefLossAllIdeal.Read.val_main_v21 (F := Ideal) (m' (((0 : Dev Cert.RefLossAllIdeal.nD).tc : Thread Cert.RefLossAllIdeal.nD Cert.RefLossAllIdeal.τ).loc Cert.RefLossAllIdeal.main_arg0))
      (m' (((0 : Dev Cert.RefLossAllIdeal.nD).tc : Thread Cert.RefLossAllIdeal.nD Cert.RefLossAllIdeal.τ).loc Cert.RefLossAllIdeal.main_arg1)), ?_, ?_⟩
  · have e0 : ∀ (c : Dev nD) (r : Fin 4096) (s : Fin 2048), m ((c : Thread nD τ).loc main_arg0) (ix2 r s)
        = m' (((0 : Dev Cert.RefLossAllIdeal.nD).tc : Thread Cert.RefLossAllIdeal.nD Cert.RefLossAllIdeal.τ).loc Cert.RefLossAllIdeal.main_arg0) (ix2 (row c r) s) := fun c r s => by
      rw [(hargs c).1, block_at]
    have e1 : ∀ (c : Dev nD) (r : Fin 4096) (s : Fin 2048), m ((c : Thread nD τ).loc main_arg1) (ix2 r s)
        = m' (((0 : Dev Cert.RefLossAllIdeal.nD).tc : Thread Cert.RefLossAllIdeal.nD Cert.RefLossAllIdeal.τ).loc Cert.RefLossAllIdeal.main_arg1) (ix2 (row c r) s) := fun c r s => by
      rw [(hargs c).2, block_at]
    clear hargs
    generalize m' (((0 : Dev Cert.RefLossAllIdeal.nD).tc : Thread Cert.RefLossAllIdeal.nD Cert.RefLossAllIdeal.τ).loc Cert.RefLossAllIdeal.main_arg0) = y at e0 ⊢
    generalize m' (((0 : Dev Cert.RefLossAllIdeal.nD).tc : Thread Cert.RefLossAllIdeal.nD Cert.RefLossAllIdeal.τ).loc Cert.RefLossAllIdeal.main_arg1) = t at e1 ⊢
    refine (θ_run Cert.LossAllIdeal.defs _ _).mono (fun r h c => ?_) (Cert.OfLossAllIdealRun.run m g)
    obtain ⟨h0, h1, h2⟩ := h.1 c
    refine ⟨h0.trans ?_, h1.trans ?_, h2⟩
    · rw [array2]
      funext i
      obtain ⟨r, j, rfl⟩ : ∃ r j, i = ix2 r j := ⟨i 0, i 1, eq_ix2 i⟩
      exact (congrArg₂ grad (e0 c r j) (e1 c r j)).trans ((v14_at y t (row c r) j).symm.trans (block_at _ c r j).symm)
    · funext i
      have e : ∑ d : Fin 8, (own m d i : EReal) = ∑ d : Fin 8, total fun r s => OfLossSum.sq (y (ix2 (row d r) s)) (t (ix2 (row d r) s)) :=
        Finset.sum_congr rfl fun d _ => (loss_at m d i).trans
          (congrArg total (funext fun r => funext fun s => congrArg₂ OfLossSum.sq (e0 d r s) (e1 d r s)))
      exact (sum_at m c i).trans (e.trans ((total_devices (fun r s => OfLossSum.sq (y (ix2 r s)) (t (ix2 r s))) fun r s => GradMath.sq_nonneg _).trans
        (v21_at y t i).symm))
  · refine (θ_run Cert.RefLossAllIdeal.defs _ _).mono (fun r h => ?_) (Cert.RefLossAllIdeal.Value.run m' g')
    obtain ⟨h0, h1, h2⟩ := h 0
    exact ⟨h0.trans (Cert.RefLossAllIdeal.Read.val_main_v14_eq _ _), h1.trans (Cert.RefLossAllIdeal.Read.val_main_v21_eq _ _), h2⟩

end Cert.OfLossAll

end
-- ==== Proof.OfLnGains.lean ====
module

public import proofs.«01_k».proof.Defs
public import proofs.«01_k».proof.Proof.OfLnGrad
public import proofs.«01_k».proof.Proof.Gen.LnGains.Frame
public import proofs.«01_k».proof.Proof.Gen.LnGainsIdeal.Run
public import proofs.«01_k».proof.Proof.Gen.LnGainsIdeal.Read
public import proofs.«01_k».proof.Proof.Gen.RefLnGainsIdeal.Read
public import Idealize.ShloMosaic.Lib.Quiescent
public import Idealize.ShloMosaic.Lib.Tactic
public import Idealize.ShloMosaic.Lib.Pointwise
public import Idealize.ShloMosaic.Lib.Pipeline.ValueKit
public import Idealize.ShloMosaic.Lib.Pipeline.ReadBack

/-! The gradients of the layernorm's gains and offsets: the kernel's eight partial sums, added by the step. -/

@[expose] public section

set_option maxRecDepth 16384

noncomputable section

namespace Cert.OfLnGains

open Idealize.ShloMosaic Idealize.ShloMosaic.TcCoe Idealize.SL.Sem
open Cert.NormMath Cert.GradMath
open Cert.OfLnGrad (gain offset gain_congr partG partB)

/-- Eight partial sums, of every eighth row each, together are the sum of all the rows. -/
theorem eight (f : Fin 4096 → EReal) : ∑ r : Fin 8, ∑ k : Fin 512, f ⟨k.val * 8 + r.val, by omega⟩ = ∑ R, f R := by
  rw [Finset.sum_comm]
  exact ProdSum.sum_halves (n := 8) (J := 512) rfl f

section refer
open Cert.RefLnGainsIdeal Cert.RefLnGainsIdeal.Gen Cert.RefLnGainsIdeal.Read

variable (d z : Vec Ideal S4096x2048 .f32) (r : Fin 4096) (j : Fin 2048)

/-- The reference's deviations. -/
theorem v6_at : val_main_v6 (F := Ideal) z (ix2 r j) = centred (fun k => z (ix2 r k)) j := by
  unfold centred mean
  pointwise [val_main_v6, val_main_v5, val_main_v4, val_main_v3, val_main_v2, val_main_v1, val_main_cst_0, val_main_cst_1]

theorem v13_eq : val_main_v13 (F := Ideal) z = val_main_v6 z := rfl

/-- The reference's variances, with the small constant added. -/
theorem v15_at : val_main_v15 (F := Ideal) z (ix2 r 0) = var fun k => z (ix2 r k) := by
  unfold var mean
  pointwise [val_main_v15, val_main_v14, val_main_cst_4, val_main_v11, val_main_v10, val_main_v9, val_main_v8, val_main_v7, val_main_cst_2, val_main_cst_3]
  simp only [v6_at]

/-- A row's part in the gains' gradient. -/
theorem v26_at : val_main_v26 (F := Ideal) d z (ix2 r j) = gain (n := 4096) d z r j := by
  unfold gain
  simp only [scale_eq]
  pointwise [val_main_v26, val_main_v23, val_main_v18, val_main_v17, val_main_v16]
  simp only [v13_eq, v15_at, v6_at]
  exact mul_comm (_ : EReal) _

/-- The reference's gradient of the gains. -/
theorem v28_at : val_main_v28 (F := Ideal) d z (ix2 0 j) = ∑ R : Fin 4096, gain (n := 4096) d z R j := by
  pointwise [val_main_v28, val_main_v27, val_main_cst_6]
  simp only [v26_at]

/-- The reference's gradient of the offsets. -/
theorem v25_at : val_main_v25 (F := Ideal) d (ix2 0 j) = ∑ R : Fin 4096, offset (n := 4096) d R j := by
  unfold offset
  pointwise [val_main_v25, val_main_v24, val_main_cst_5]

end refer

section ker
open Cert.LnGainsIdeal Cert.LnGainsIdeal.Gen

variable (m : (ℓ : Loc nD τ sig) → Buf (Elt Ideal) ℓ) (c : Dev nD)

theorem sum5_first (t : Fin cfg0.N) (h : t.val % 16 = 0) (y : S8x2048.Idx) :
    (outsAt0 m c t.val t.isLt).2.2.1 y = k0_pay1 (F := Ideal) y + partG (iblk m c 1 t) (iblk m c 0 t) y := by
  rw [outsAt0_A m c t h]
  dsimp only
  unfold out0_A_5
  frame_out
  exact Cert.OfLnGrad.pay3_apply _ _ _ y

theorem sum5_next (t : Fin cfg0.N) (h : ¬ t.val % 16 = 0) (y : S8x2048.Idx) :
    (outsAt0 m c t.val t.isLt).2.2.1 y = (outsAt0 m c (t.val - 1) (Nat.lt_of_le_of_lt (Nat.sub_le _ _) t.isLt)).2.2.1 y + partG (iblk m c 1 t) (iblk m c 0 t) y := by
  rw [outsAt0_B m c t h]
  dsimp only
  unfold out0_B_5
  frame_out
  exact Cert.OfLnGrad.pay3_apply _ _ _ y

theorem sum6_first (t : Fin cfg0.N) (h : t.val % 16 = 0) (y : S8x2048.Idx) :
    (outsAt0 m c t.val t.isLt).2.2.2 y = k0_pay2 (F := Ideal) y + partB (iblk m c 0 t) y := by
  rw [outsAt0_A m c t h]
  dsimp only
  unfold out0_A_6
  frame_out
  exact Cert.OfLnGrad.pay4_apply _ _ y

theorem sum6_next (t : Fin cfg0.N) (h : ¬ t.val % 16 = 0) (y : S8x2048.Idx) :
    (outsAt0 m c t.val t.isLt).2.2.2 y = (outsAt0 m c (t.val - 1) (Nat.lt_of_le_of_lt (Nat.sub_le _ _) t.isLt)).2.2.2 y + partB (iblk m c 0 t) y := by
  rw [outsAt0_B m c t h]
  dsimp only
  unfold out0_B_6
  frame_out
  exact Cert.OfLnGrad.pay4_apply _ _ y

/-- Where each point's blocks lie. -/
theorem index : ∀ t : Fin cfg0.N, win0_0.index t = ![t.val, 0] ∧ win0_1.index t = ![t.val, 0] :=
  (by decide +kernel : ∀ t : Fin grid0.N, _)

theorem blk0 (t : Fin cfg0.N) (r : Fin 256) (k : Fin 2048) (R : Fin 4096) (h : R.val = t.val * 256 + r.val) :
    iblk m c 0 t (ix2 r k) = m ((c : Thread nD τ).loc main_arg0) (ix2 R k) := by
  obtain ⟨R, p⟩ := R
  obtain rfl : R = t.val * 256 + r.val := h
  blk_ext [iblk, V_main_arg0, index t]

theorem blk1 (t : Fin cfg0.N) (r : Fin 256) (k : Fin 2048) (R : Fin 4096) (h : R.val = t.val * 256 + r.val) :
    iblk m c 1 t (ix2 r k) = m ((c : Thread nD τ).loc main_arg1) (ix2 R k) := by
  obtain ⟨R, p⟩ := R
  obtain rfl : R = t.val * 256 + r.val := h
  blk_ext [iblk, V_main_arg1, index t]

/-- The gains' gradient, in eight partial sums. -/
theorem array5 : (dats m 0 c).arrAt 5 cfg0.N
    = fun i : S8x2048.Idx => ∑ k : Fin 512, gain (n := 4096) (m ((c : Thread nD τ).loc main_arg0)) (m ((c : Thread nD τ).loc main_arg1))
        ⟨k.val * 8 + (i 0).val, by have := (i 0).isLt; dsimp at this; omega⟩ (i 1) := by
  refine (dats m 0 c).arrAt_eq_of_after_last 5 t0_15 (by decide +kernel) _ fun y => ?_
  blk_simp
  rw [after0_5]
  refine (Pipeline.eq_sum_fin_of_reset_step_apply_last (fun n h => (outsAt0 m c n h).2.2.1) 16 (k0_pay1 (F := Ideal)) (fun t => partG (iblk m c 1 t) (iblk m c 0 t))
    (sum5_first m c) (sum5_next m c) (by decide) t0_15 rfl y).trans ?_
  rw [show k0_pay1 (F := Ideal) y = 0 from Cert.OfLnGrad.pay1_apply y, zero_add]
  obtain ⟨r, j, rfl⟩ : ∃ r j, y = ix2 r j := ⟨y 0, y 1, eq_ix2 y⟩
  refine Eq.trans ?_ (ProdSum.sum_halves (n := 32) (J := 16) rfl fun k : Fin 512 =>
    gain (n := 4096) (m ((c : Thread nD τ).loc main_arg0)) (m ((c : Thread nD τ).loc main_arg1)) ⟨k.val * 8 + r.val, by omega⟩ j)
  refine Finset.sum_congr rfl fun t _ => Finset.sum_congr rfl fun k _ => ?_
  have e : (t.val * 32 + k.val) * 8 + r.val = t.val * 256 + (k.val * 8 + r.val) := by omega
  exact gain_congr (fun i => blk0 m c t _ i _ e) (fun i => blk1 m c t _ i _ e) j

/-- The offsets' gradient, in eight partial sums. -/
theorem array6 : (dats m 0 c).arrAt 6 cfg0.N
    = fun i : S8x2048.Idx => ∑ k : Fin 512, offset (n := 4096) (m ((c : Thread nD τ).loc main_arg0)) ⟨k.val * 8 + (i 0).val, by have := (i 0).isLt; dsimp at this; omega⟩ (i 1) := by
  refine (dats m 0 c).arrAt_eq_of_after_last 6 t0_15 (by decide +kernel) _ fun y => ?_
  blk_simp
  rw [after0_6]
  refine (Pipeline.eq_sum_fin_of_reset_step_apply_last (fun n h => (outsAt0 m c n h).2.2.2) 16 (k0_pay2 (F := Ideal)) (fun t => partB (iblk m c 0 t))
    (sum6_first m c) (sum6_next m c) (by decide) t0_15 rfl y).trans ?_
  rw [show k0_pay2 (F := Ideal) y = 0 from Cert.OfLnGrad.pay2_apply y, zero_add]
  obtain ⟨r, j, rfl⟩ : ∃ r j, y = ix2 r j := ⟨y 0, y 1, eq_ix2 y⟩
  refine Eq.trans ?_ (ProdSum.sum_halves (n := 32) (J := 16) rfl fun k : Fin 512 => offset (n := 4096) (m ((c : Thread nD τ).loc main_arg0)) ⟨k.val * 8 + r.val, by omega⟩ j)
  refine Finset.sum_congr rfl fun t _ => Finset.sum_congr rfl fun k _ => ?_
  have e : (t.val * 32 + k.val) * 8 + r.val = t.val * 256 + (k.val * 8 + r.val) := by omega
  exact blk0 m c t _ j _ e

/-- The step's sum of eight partial sums. -/
theorem sum2_at (w : Vec Ideal S8x2048 .f32) (j : Fin 2048) : Cert.LnGainsIdeal.Read.val_main_v2 (F := Ideal) w (ix2 0 j) = ∑ r : Fin 8, w (ix2 r j) := by
  pointwise [Cert.LnGainsIdeal.Read.val_main_v2, Cert.LnGainsIdeal.Read.val_main_v1, Cert.LnGainsIdeal.Read.val_main_cst]

theorem sum4_at (w : Vec Ideal S8x2048 .f32) (j : Fin 2048) : Cert.LnGainsIdeal.Read.val_main_v4 (F := Ideal) w (ix2 0 j) = ∑ r : Fin 8, w (ix2 r j) := by
  pointwise [Cert.LnGainsIdeal.Read.val_main_v4, Cert.LnGainsIdeal.Read.val_main_v3, Cert.LnGainsIdeal.Read.val_main_cst_0]

end ker

/-- The reference runs, leaves its arguments alone and every counter at zero. -/
theorem frameRef : Cert.quiescent_RefLnGainsIdeal := fun m g _ =>
  (θ_run Cert.RefLnGainsIdeal.defs _ _).mono (fun r h => ⟨fun c => (h c).2.2, sem_eq_zero_of_no_sems rfl _⟩) (Cert.RefLnGainsIdeal.Value.run m g)

open Cert.LnGainsIdeal Cert.LnGainsIdeal.Gen in
/-- The kernel's results are the reference's. -/
theorem value : Cert.algebraic_LnGainsIdeal_RefLnGainsIdeal := by
  intro m g m' g' _ hargs
  refine ⟨fun c => Cert.LnGainsIdeal.Read.val_main_v2 (F := Ideal) ((dats m 0 c).arrAt 5 cfg0.N), fun c => Cert.LnGainsIdeal.Read.val_main_v4 (F := Ideal) ((dats m 0 c).arrAt 6 cfg0.N),
    Cert.LnGainsIdeal.Value.run m g, ?_⟩
  refine (θ_run Cert.RefLnGainsIdeal.defs _ _).mono (fun r h c => ?_) (Cert.RefLnGainsIdeal.Value.run m' g')
  obtain ⟨h0, h1, h2⟩ := h c
  obtain ⟨a0, a1, a2⟩ := hargs c
  refine ⟨h0.trans ?_, h1.trans ?_, h2⟩
  · refine (Cert.RefLnGainsIdeal.Read.val_main_v28_eq (F := Ideal) _ _).trans ?_
    rw [a0, a1]
    refine Eq.trans ?_ (congrArg (Cert.LnGainsIdeal.Read.val_main_v2 (F := Ideal)) (array5 m c)).symm
    funext i
    obtain ⟨j, rfl⟩ : ∃ j, i = ix2 0 j := ⟨i 1, (eq_ix2 i).trans (congrArg (ix2 · (i 1)) (Subsingleton.elim _ _))⟩
    refine (v28_at _ _ j).trans (Eq.trans ?_ (sum2_at _ j).symm)
    exact (eight fun R => gain (n := 4096) _ _ R j).symm
  · rw [Cert.RefLnGainsIdeal.Read.val_main_v25_eq, a0]
    refine Eq.trans ?_ (congrArg (Cert.LnGainsIdeal.Read.val_main_v4 (F := Ideal)) (array6 m c)).symm
    funext i
    obtain ⟨j, rfl⟩ : ∃ j, i = ix2 0 j := ⟨i 1, (eq_ix2 i).trans (congrArg (ix2 · (i 1)) (Subsingleton.elim _ _))⟩
    refine (v25_at _ j).trans (Eq.trans ?_ (sum4_at _ j).symm)
    exact (eight fun R => offset (n := 4096) _ R j).symm

end Cert.OfLnGains

end
-- ==== Proof.OfRmsGains.lean ====
module

public import proofs.«01_k».proof.Defs
public import proofs.«01_k».proof.Proof.OfRmsGrad
public import proofs.«01_k».proof.Proof.OfLnGains
public import proofs.«01_k».proof.Proof.Gen.RmsGains.Frame
public import proofs.«01_k».proof.Proof.Gen.RmsGainsIdeal.Run
public import proofs.«01_k».proof.Proof.Gen.RmsGainsIdeal.Read
public import proofs.«01_k».proof.Proof.Gen.RefRmsGainsIdeal.Read
public import Idealize.ShloMosaic.Lib.Quiescent
public import Idealize.ShloMosaic.Lib.Tactic
public import Idealize.ShloMosaic.Lib.Pointwise
public import Idealize.ShloMosaic.Lib.Pipeline.ValueKit
public import Idealize.ShloMosaic.Lib.Pipeline.ReadBack

/-! The gradients of the gains of the two branches' root-mean-square norms: the kernel's eight partial sums, added by the step. -/

@[expose] public section

set_option maxRecDepth 16384

noncomputable section

namespace Cert.OfRmsGains

open Idealize.ShloMosaic Idealize.ShloMosaic.TcCoe Idealize.SL.Sem
open Cert.GradMath
open Cert.OfRmsGrad (lo hi gain part parts gain_of ld_lo ld_hi)

section refer
open Cert.RefRmsGainsIdeal Cert.RefRmsGainsIdeal.Gen Cert.RefRmsGainsIdeal.Read

variable (d : Vec Ideal S4096x2048 .f32) (a b : Vec Ideal S4096x1024 .f32) (r : Fin 4096) (j : Fin 1024)

/-- The first branch's mean squares, with the small constant added. -/
theorem v6_at : val_main_v6 (F := Ideal) a (ix2 r 0) = msq fun k => a (ix2 r k) := by
  unfold msq
  pointwise [val_main_v6, val_main_v5, val_main_cst_1, val_main_v4, val_main_v3, val_main_v2, val_main_v1, val_main_v0, val_main_cst, val_main_cst_0]

/-- The second branch's mean squares, with the small constant added. -/
theorem v18_at : val_main_v18 (F := Ideal) b (ix2 r 0) = msq fun k => b (ix2 r k) := by
  unfold msq
  pointwise [val_main_v18, val_main_v17, val_main_cst_4, val_main_v16, val_main_v15, val_main_v14, val_main_v13, val_main_v12, val_main_cst_2, val_main_cst_3]

/-- A row's part in the gradient of the first branch's gains. -/
theorem v30_at : val_main_v30 (F := Ideal) d a (ix2 r j) = gain lo (n := 4096) d a r j := by
  unfold gain rinv
  pointwise [val_main_v30, val_main_v25, val_main_v9, val_main_v8, val_main_v7]
  rw [v6_at]

/-- A row's part in the gradient of the second branch's gains. -/
theorem v27_at : val_main_v27 (F := Ideal) d b (ix2 r j) = gain hi (n := 4096) d b r j := by
  unfold gain rinv
  pointwise [val_main_v27, val_main_v26, val_main_v21, val_main_v20, val_main_v19]
  rw [v18_at]

/-- The reference's gradient of the first branch's gains. -/
theorem v32_at : val_main_v32 (F := Ideal) d a (ix2 0 j) = ∑ R : Fin 4096, gain lo (n := 4096) d a R j := by
  pointwise [val_main_v32, val_main_v31, val_main_cst_6]
  simp only [v30_at]

/-- The reference's gradient of the second branch's gains. -/
theorem v29_at : val_main_v29 (F := Ideal) d b (ix2 0 j) = ∑ R : Fin 4096, gain hi (n := 4096) d b R j := by
  pointwise [val_main_v29, val_main_v28, val_main_cst_5]
  simp only [v27_at]

end refer

section ker
open Cert.RmsGainsIdeal Cert.RmsGainsIdeal.Gen

variable (m : (ℓ : Loc nD τ sig) → Buf (Elt Ideal) ℓ) (c : Dev nD)

theorem sum7_first (t : Fin cfg0.N) (h : t.val % 8 = 0) (y : S8x1024.Idx) :
    (outsAt0 m c t.val t.isLt).2.2.1 y = k0_pay5 (F := Ideal) y + part lo (iblk m c 0 t) (iblk m c 1 t) y := by
  rw [outsAt0_A m c t h]
  dsimp only
  unfold out0_A_7
  frame_out
  exact gain_of _ _ _ (ld_lo _ _) y

theorem sum7_next (t : Fin cfg0.N) (h : ¬ t.val % 8 = 0) (y : S8x1024.Idx) :
    (outsAt0 m c t.val t.isLt).2.2.1 y = (outsAt0 m c (t.val - 1) (Nat.lt_of_le_of_lt (Nat.sub_le _ _) t.isLt)).2.2.1 y + part lo (iblk m c 0 t) (iblk m c 1 t) y := by
  rw [outsAt0_B m c t h]
  dsimp only
  unfold out0_B_7
  frame_out
  exact gain_of _ _ _ (ld_lo _ _) y

theorem sum8_first (t : Fin cfg0.N) (h : t.val % 8 = 0) (y : S8x1024.Idx) :
    (outsAt0 m c t.val t.isLt).2.2.2 y = k0_pay6 (F := Ideal) y + part hi (iblk m c 0 t) (iblk m c 2 t) y := by
  rw [outsAt0_A m c t h]
  dsimp only
  unfold out0_A_8
  frame_out
  exact (congrFun (Cert.OfRmsGrad.pay4_eq _ _ _) y).trans (gain_of _ _ _ (ld_hi _ _) y)

theorem sum8_next (t : Fin cfg0.N) (h : ¬ t.val % 8 = 0) (y : S8x1024.Idx) :
    (outsAt0 m c t.val t.isLt).2.2.2 y = (outsAt0 m c (t.val - 1) (Nat.lt_of_le_of_lt (Nat.sub_le _ _) t.isLt)).2.2.2 y + part hi (iblk m c 0 t) (iblk m c 2 t) y := by
  rw [outsAt0_B m c t h]
  dsimp only
  unfold out0_B_8
  frame_out
  exact (congrFun (Cert.OfRmsGrad.pay4_eq _ _ _) y).trans (gain_of _ _ _ (ld_hi _ _) y)

/-- Where each point's blocks lie. -/
theorem index : ∀ t : Fin cfg0.N, win0_0.index t = ![t.val, 0] ∧ win0_1.index t = ![t.val, 0] ∧ win0_2.index t = ![t.val, 0] :=
  (by decide +kernel : ∀ t : Fin grid0.N, _)

theorem blk0 (t : Fin cfg0.N) (r : Fin 512) (k : Fin 2048) (R : Fin 4096) (h : R.val = t.val * 512 + r.val) :
    iblk m c 0 t (ix2 r k) = m ((c : Thread nD τ).loc main_arg0) (ix2 R k) := by
  obtain ⟨R, p⟩ := R
  obtain rfl : R = t.val * 512 + r.val := h
  blk_ext [iblk, V_main_arg0, index t]

theorem blk1 (t : Fin cfg0.N) (r : Fin 512) (k : Fin 1024) (R : Fin 4096) (h : R.val = t.val * 512 + r.val) :
    iblk m c 1 t (ix2 r k) = m ((c : Thread nD τ).loc main_arg1) (ix2 R k) := by
  obtain ⟨R, p⟩ := R
  obtain rfl : R = t.val * 512 + r.val := h
  blk_ext [iblk, V_main_arg1, index t]

theorem blk2 (t : Fin cfg0.N) (r : Fin 512) (k : Fin 1024) (R : Fin 4096) (h : R.val = t.val * 512 + r.val) :
    iblk m c 2 t (ix2 r k) = m ((c : Thread nD τ).loc main_arg2) (ix2 R k) := by
  obtain ⟨R, p⟩ := R
  obtain rfl : R = t.val * 512 + r.val := h
  blk_ext [iblk, V_main_arg2, index t]

/-- The gradient of the first branch's gains, in eight partial sums. -/
theorem array7 : (dats m 0 c).arrAt 7 cfg0.N
    = fun i : S8x1024.Idx => ∑ k : Fin 512, gain lo (n := 4096) (m ((c : Thread nD τ).loc main_arg0)) (m ((c : Thread nD τ).loc main_arg1))
        ⟨k.val * 8 + (i 0).val, by have := (i 0).isLt; dsimp at this; omega⟩ (i 1) := by
  refine (dats m 0 c).arrAt_eq_of_after_last 7 t0_7 (by decide +kernel) _ fun y => ?_
  blk_simp
  rw [after0_7]
  refine (Pipeline.eq_sum_fin_of_reset_step_apply_last (fun n h => (outsAt0 m c n h).2.2.1) 8 (k0_pay5 (F := Ideal)) (fun t => part lo (iblk m c 0 t) (iblk m c 1 t))
    (sum7_first m c) (sum7_next m c) (by decide) t0_7 rfl y).trans ?_
  rw [show k0_pay5 (F := Ideal) y = 0 from Cert.OfRmsGrad.pay5_apply y, zero_add]
  exact parts lo _ _ (fun t => iblk m c 0 t) (fun t => iblk m c 1 t) (blk0 m c) (blk1 m c) y

/-- The gradient of the second branch's gains, in eight partial sums. -/
theorem array8 : (dats m 0 c).arrAt 8 cfg0.N
    = fun i : S8x1024.Idx => ∑ k : Fin 512, gain hi (n := 4096) (m ((c : Thread nD τ).loc main_arg0)) (m ((c : Thread nD τ).loc main_arg2))
        ⟨k.val * 8 + (i 0).val, by have := (i 0).isLt; dsimp at this; omega⟩ (i 1) := by
  refine (dats m 0 c).arrAt_eq_of_after_last 8 t0_7 (by decide +kernel) _ fun y => ?_
  blk_simp
  rw [after0_8]
  refine (Pipeline.eq_sum_fin_of_reset_step_apply_last (fun n h => (outsAt0 m c n h).2.2.2) 8 (k0_pay6 (F := Ideal)) (fun t => part hi (iblk m c 0 t) (iblk m c 2 t))
    (sum8_first m c) (sum8_next m c) (by decide) t0_7 rfl y).trans ?_
  rw [show k0_pay6 (F := Ideal) y = 0 from Cert.OfRmsGrad.pay6_apply y, zero_add]
  exact parts hi _ _ (fun t => iblk m c 0 t) (fun t => iblk m c 2 t) (blk0 m c) (blk2 m c) y

/-- The step's sum of eight partial sums. -/
theorem sum2_at (w : Vec Ideal S8x1024 .f32) (j : Fin 1024) : Cert.RmsGainsIdeal.Read.val_main_v2 (F := Ideal) w (ix2 0 j) = ∑ r : Fin 8, w (ix2 r j) := by
  pointwise [Cert.RmsGainsIdeal.Read.val_main_v2, Cert.RmsGainsIdeal.Read.val_main_v1, Cert.RmsGainsIdeal.Read.val_main_cst]

theorem sum4_at (w : Vec Ideal S8x1024 .f32) (j : Fin 1024) : Cert.RmsGainsIdeal.Read.val_main_v4 (F := Ideal) w (ix2 0 j) = ∑ r : Fin 8, w (ix2 r j) := by
  pointwise [Cert.RmsGainsIdeal.Read.val_main_v4, Cert.RmsGainsIdeal.Read.val_main_v3, Cert.RmsGainsIdeal.Read.val_main_cst_0]

end ker

/-- The reference runs, leaves its arguments alone and every counter at zero. -/
theorem frameRef : Cert.quiescent_RefRmsGainsIdeal := fun m g _ =>
  (θ_run Cert.RefRmsGainsIdeal.defs _ _).mono (fun r h => ⟨fun c => (h c).2.2, sem_eq_zero_of_no_sems rfl _⟩) (Cert.RefRmsGainsIdeal.Value.run m g)

open Cert.RmsGainsIdeal Cert.RmsGainsIdeal.Gen in
/-- The kernel's results are the reference's. -/
theorem value : Cert.algebraic_RmsGainsIdeal_RefRmsGainsIdeal := by
  intro m g m' g' _ hargs
  refine ⟨fun c => Cert.RmsGainsIdeal.Read.val_main_v2 (F := Ideal) ((dats m 0 c).arrAt 7 cfg0.N), fun c => Cert.RmsGainsIdeal.Read.val_main_v4 (F := Ideal) ((dats m 0 c).arrAt 8 cfg0.N),
    Cert.RmsGainsIdeal.Value.run m g, ?_⟩
  refine (θ_run Cert.RefRmsGainsIdeal.defs _ _).mono (fun r h c => ?_) (Cert.RefRmsGainsIdeal.Value.run m' g')
  obtain ⟨h0, h1, h2⟩ := h c
  obtain ⟨a0, a1, a2, a3, a4⟩ := hargs c
  refine ⟨h0.trans ?_, h1.trans ?_, h2⟩
  · refine (Cert.RefRmsGainsIdeal.Read.val_main_v32_eq (F := Ideal) _ _).trans ?_
    rw [a0, a1]
    refine Eq.trans ?_ (congrArg (Cert.RmsGainsIdeal.Read.val_main_v2 (F := Ideal)) (array7 m c)).symm
    funext i
    obtain ⟨j, rfl⟩ : ∃ j, i = ix2 0 j := ⟨i 1, (eq_ix2 i).trans (congrArg (ix2 · (i 1)) (Subsingleton.elim _ _))⟩
    refine (v32_at _ _ j).trans (Eq.trans ?_ (sum2_at _ j).symm)
    exact (OfLnGains.eight fun R => gain lo (n := 4096) _ _ R j).symm
  · refine (Cert.RefRmsGainsIdeal.Read.val_main_v29_eq (F := Ideal) _ _).trans ?_
    rw [a0, a2]
    refine Eq.trans ?_ (congrArg (Cert.RmsGainsIdeal.Read.val_main_v4 (F := Ideal)) (array8 m c)).symm
    funext i
    obtain ⟨j, rfl⟩ : ∃ j, i = ix2 0 j := ⟨i 1, (eq_ix2 i).trans (congrArg (ix2 · (i 1)) (Subsingleton.elim _ _))⟩
    refine (v29_at _ _ j).trans (Eq.trans ?_ (sum4_at _ j).symm)
    exact (OfLnGains.eight fun R => gain hi (n := 4096) _ _ R j).symm

end Cert.OfRmsGains

end
-- ==== Proof.AdamMath.lean ====
module

public import Idealize.ShloMosaic.Lib.Tactic
public import Idealize.ShloMosaic.PureOps.Ideal

/-! The optimiser's step at one entry, over the extended reals. -/

@[expose] public section

noncomputable section

namespace Cert.AdamMath

open Idealize.ShloMosaic

/-- The new first moment, of a gradient and the old one. -/
def first (g m : EReal) : EReal := Ideal.ofBits .f32 0x3F666666#32 * m + Ideal.ofBits .f32 0x3DCCCCCD#32 * g

/-- The new second moment, of a gradient and the old one. -/
def second (g v : EReal) : EReal := Ideal.ofBits .f32 0x3F7FBE77#32 * v + Ideal.ofBits .f32 0x3A83126F#32 * (g * g)

/-- The weight's change, from the moments after their corrections. -/
def change (m v w : EReal) : EReal :=
  Ideal.ofBits .f32 0xBA83126F#32 * (Ideal.div m (Ideal.sqrt v + Ideal.ofBits .f32 0x322BCC77#32) + Ideal.ofBits .f32 0x3C23D70A#32 * w)

/-- The first moment's correction. -/
theorem left_1 (x : EReal) : Ideal.div x (Ideal.ofBits .f32 0x3F26BD02#32) = x * ((8388608 / 5463681 : ℝ) : EReal) := by
  have h : Ideal.ofBits .f32 0x3F26BD02#32 = ((5463681 / 8388608 : ℝ) : EReal) := by
    simp [Ideal.ofBits, Ideal.ieee, -EReal.coe_mul]; norm_num
  rw [h, Ideal.div_coe (by norm_num)]
  norm_num

/-- The second moment's correction. -/
theorem left_2 (x : EReal) : Ideal.div x (Ideal.ofBits .f32 0x3C231ACC#32) = x * ((268435456 / 2672307 : ℝ) : EReal) := by
  have h : Ideal.ofBits .f32 0x3C231ACC#32 = ((2672307 / 268435456 : ℝ) : EReal) := by
    simp [Ideal.ofBits, Ideal.ieee, -EReal.coe_mul]; norm_num
  rw [h, Ideal.div_coe (by norm_num)]
  norm_num

end Cert.AdamMath

end
-- ==== Proof.OfAdamIn.lean ====
module

public import proofs.«01_k».proof.Defs
public import proofs.«01_k».proof.Proof.Gen.AdamInIdeal.Value
public import proofs.«01_k».proof.Proof.Gen.RefAdamInIdeal.Read
public import proofs.«01_k».proof.Proof.AdamMath
public import Idealize.ShloMosaic.Lib.Quiescent
public import Idealize.ShloMosaic.Lib.Tactic
public import Idealize.ShloMosaic.Lib.Pointwise
public import Idealize.ShloMosaic.Lib.Pipeline.ValueKit
public import Idealize.ShloMosaic.Lib.Pipeline.ReadBack

/-! The optimiser's step of the projection in. -/

@[expose] public section

set_option maxRecDepth 16384

noncomputable section

namespace Cert.OfAdamIn

open Idealize.ShloMosaic Idealize.ShloMosaic.TcCoe Idealize.SL.Sem
open Cert.AdamMath

/-- The two corrections are the named reciprocals. -/
theorem preserves : Cert.preserves_AdamIn_AdamInIdeal :=
  ⟨IdealRules.named_const.statement _ _ _ _ _ rfl, IdealRules.named_const.statement _ _ _ _ _ rfl⟩

section ker
open Cert.AdamInIdeal Cert.AdamInIdeal.Gen

theorem pay3_apply (g m v w : Vec Ideal S256x1088 .f32) (y : S256x1088.Idx) :
    k0_pay3 g m v w y = change (Ideal.div (first (g y) (m y)) (Ideal.ofBits .f32 0x3F26BD02#32)) (Ideal.div (second (g y) (v y)) (Ideal.ofBits .f32 0x3C231ACC#32)) (w y) := by
  rw [left_1, left_2]
  rfl

variable (m : (ℓ : Loc nD τ sig) → Buf (Elt Ideal) ℓ) (c : Dev nD)

/-- The changes, whole. -/
theorem array4 : (dats m 0 c).arrAt 4 cfg0.N = fun i : S8192x1088.Idx =>
    change (Ideal.div (first (m ((c : Thread nD τ).loc main_arg1) i) (m ((c : Thread nD τ).loc main_arg2) i)) (Ideal.ofBits .f32 0x3F26BD02#32))
      (Ideal.div (second (m ((c : Thread nD τ).loc main_arg1) i) (m ((c : Thread nD τ).loc main_arg3) i)) (Ideal.ofBits .f32 0x3C231ACC#32)) (m ((c : Thread nD τ).loc main_arg0) i) := by
  refine (dats m 0 c).arrAt_eq_of_covers 4 _ (by decide +kernel) fun t hf y => ?_
  rw [after0_4]
  unfold out0_4
  frame_out
  refine (pay3_apply _ _ _ _ y).trans ?_
  rfl

/-- The first moments, whole. -/
theorem array5 : (dats m 0 c).arrAt 5 cfg0.N = fun i : S8192x1088.Idx => first (m ((c : Thread nD τ).loc main_arg1) i) (m ((c : Thread nD τ).loc main_arg2) i) := by
  refine (dats m 0 c).arrAt_eq_of_covers 5 _ (by decide +kernel) fun t hf y => ?_
  rw [after0_5]
  unfold out0_5
  frame_out
  rfl

/-- The second moments, whole. -/
theorem array6 : (dats m 0 c).arrAt 6 cfg0.N = fun i : S8192x1088.Idx => second (m ((c : Thread nD τ).loc main_arg1) i) (m ((c : Thread nD τ).loc main_arg3) i) := by
  refine (dats m 0 c).arrAt_eq_of_covers 6 _ (by decide +kernel) fun t hf y => ?_
  rw [after0_6]
  unfold out0_6
  frame_out
  rfl

/-- The gradients again, whole. -/
theorem array7 : (dats m 0 c).arrAt 7 cfg0.N = m ((c : Thread nD τ).loc main_arg1) := by
  refine (dats m 0 c).arrAt_eq_of_covers 7 _ (by decide +kernel) fun t hf y => ?_
  rw [after0_7]
  unfold out0_7
  frame_out
  rfl

end ker

/-- The reference runs, leaves its arguments alone and every counter at zero. -/
theorem frameRef : Cert.quiescent_RefAdamInIdeal := fun m g _ =>
  (θ_run Cert.RefAdamInIdeal.defs _ _).mono (fun r h => ⟨fun c => (h c).2.2.2.2, sem_eq_zero_of_no_sems rfl _⟩) (Cert.RefAdamInIdeal.Value.run m g)

open Cert.AdamInIdeal Cert.AdamInIdeal.Gen in
/-- The kernel's results are the reference's. -/
theorem value : Cert.algebraic_AdamInIdeal_RefAdamInIdeal := by
  intro m g m' g' _ hargs
  refine ⟨fun c => (dats m 0 c).arrAt 4 cfg0.N, fun c => (dats m 0 c).arrAt 5 cfg0.N, fun c => (dats m 0 c).arrAt 6 cfg0.N, fun c => (dats m 0 c).arrAt 7 cfg0.N,
    Cert.AdamInIdeal.Value.run_blocks m g, ?_⟩
  refine (θ_run Cert.RefAdamInIdeal.defs _ _).mono (fun r h c => ?_) (Cert.RefAdamInIdeal.Value.run m' g')
  obtain ⟨h0, h1, h2, h3, h4⟩ := h c
  obtain ⟨a0, a1, a2, a3⟩ := hargs c
  refine ⟨h0.trans ?_, h1.trans ?_, h2.trans ?_, h3.trans ?_, h4⟩
  · rw [a0, a1, a2, a3]
    exact (array4 m c).symm
  · rw [a1, a2]
    exact (array5 m c).symm
  · rw [a1, a3]
    exact (array6 m c).symm
  · rw [a1]
    exact (array7 m c).symm

end Cert.OfAdamIn

end
-- ==== Proof.OfAdamSq.lean ====
module

public import proofs.«01_k».proof.Defs
public import proofs.«01_k».proof.Proof.Gen.AdamSqIdeal.Value
public import proofs.«01_k».proof.Proof.Gen.RefAdamSqIdeal.Read
public import proofs.«01_k».proof.Proof.AdamMath
public import Idealize.ShloMosaic.Lib.Quiescent
public import Idealize.ShloMosaic.Lib.Tactic
public import Idealize.ShloMosaic.Lib.Pointwise
public import Idealize.ShloMosaic.Lib.Pipeline.ValueKit
public import Idealize.ShloMosaic.Lib.Pipeline.ReadBack

/-! The optimiser's step of the square matrices. -/

@[expose] public section

set_option maxRecDepth 16384

noncomputable section

namespace Cert.OfAdamSq

open Idealize.ShloMosaic Idealize.ShloMosaic.TcCoe Idealize.SL.Sem
open Cert.AdamMath

/-- The two corrections are the named reciprocals. -/
theorem preserves : Cert.preserves_AdamSq_AdamSqIdeal :=
  ⟨IdealRules.named_const.statement _ _ _ _ _ rfl, IdealRules.named_const.statement _ _ _ _ _ rfl⟩

section ker
open Cert.AdamSqIdeal Cert.AdamSqIdeal.Gen

theorem pay3_apply (g m v w : Vec Ideal S256x2048 .f32) (y : S256x2048.Idx) :
    k0_pay3 g m v w y = change (Ideal.div (first (g y) (m y)) (Ideal.ofBits .f32 0x3F26BD02#32)) (Ideal.div (second (g y) (v y)) (Ideal.ofBits .f32 0x3C231ACC#32)) (w y) := by
  rw [left_1, left_2]
  rfl

variable (m : (ℓ : Loc nD τ sig) → Buf (Elt Ideal) ℓ) (c : Dev nD)

/-- The changes, whole. -/
theorem array4 : (dats m 0 c).arrAt 4 cfg0.N = fun i : S2048x2048.Idx =>
    change (Ideal.div (first (m ((c : Thread nD τ).loc main_arg1) i) (m ((c : Thread nD τ).loc main_arg2) i)) (Ideal.ofBits .f32 0x3F26BD02#32))
      (Ideal.div (second (m ((c : Thread nD τ).loc main_arg1) i) (m ((c : Thread nD τ).loc main_arg3) i)) (Ideal.ofBits .f32 0x3C231ACC#32)) (m ((c : Thread nD τ).loc main_arg0) i) := by
  refine (dats m 0 c).arrAt_eq_of_covers 4 _ (by decide +kernel) fun t hf y => ?_
  rw [after0_4]
  unfold out0_4
  frame_out
  refine (pay3_apply _ _ _ _ y).trans ?_
  rfl

/-- The first moments, whole. -/
theorem array5 : (dats m 0 c).arrAt 5 cfg0.N = fun i : S2048x2048.Idx => first (m ((c : Thread nD τ).loc main_arg1) i) (m ((c : Thread nD τ).loc main_arg2) i) := by
  refine (dats m 0 c).arrAt_eq_of_covers 5 _ (by decide +kernel) fun t hf y => ?_
  rw [after0_5]
  unfold out0_5
  frame_out
  rfl

/-- The second moments, whole. -/
theorem array6 : (dats m 0 c).arrAt 6 cfg0.N = fun i : S2048x2048.Idx => second (m ((c : Thread nD τ).loc main_arg1) i) (m ((c : Thread nD τ).loc main_arg3) i) := by
  refine (dats m 0 c).arrAt_eq_of_covers 6 _ (by decide +kernel) fun t hf y => ?_
  rw [after0_6]
  unfold out0_6
  frame_out
  rfl

/-- The gradients again, whole. -/
theorem array7 : (dats m 0 c).arrAt 7 cfg0.N = m ((c : Thread nD τ).loc main_arg1) := by
  refine (dats m 0 c).arrAt_eq_of_covers 7 _ (by decide +kernel) fun t hf y => ?_
  rw [after0_7]
  unfold out0_7
  frame_out
  rfl

end ker

/-- The reference runs, leaves its arguments alone and every counter at zero. -/
theorem frameRef : Cert.quiescent_RefAdamSqIdeal := fun m g _ =>
  (θ_run Cert.RefAdamSqIdeal.defs _ _).mono (fun r h => ⟨fun c => (h c).2.2.2.2, sem_eq_zero_of_no_sems rfl _⟩) (Cert.RefAdamSqIdeal.Value.run m g)

open Cert.AdamSqIdeal Cert.AdamSqIdeal.Gen in
/-- The kernel's results are the reference's. -/
theorem value : Cert.algebraic_AdamSqIdeal_RefAdamSqIdeal := by
  intro m g m' g' _ hargs
  refine ⟨fun c => (dats m 0 c).arrAt 4 cfg0.N, fun c => (dats m 0 c).arrAt 5 cfg0.N, fun c => (dats m 0 c).arrAt 6 cfg0.N, fun c => (dats m 0 c).arrAt 7 cfg0.N,
    Cert.AdamSqIdeal.Value.run_blocks m g, ?_⟩
  refine (θ_run Cert.RefAdamSqIdeal.defs _ _).mono (fun r h c => ?_) (Cert.RefAdamSqIdeal.Value.run m' g')
  obtain ⟨h0, h1, h2, h3, h4⟩ := h c
  obtain ⟨a0, a1, a2, a3⟩ := hargs c
  refine ⟨h0.trans ?_, h1.trans ?_, h2.trans ?_, h3.trans ?_, h4⟩
  · rw [a0, a1, a2, a3]
    exact (array4 m c).symm
  · rw [a1, a2]
    exact (array5 m c).symm
  · rw [a1, a3]
    exact (array6 m c).symm
  · rw [a1]
    exact (array7 m c).symm

end Cert.OfAdamSq

end
-- ==== Proof.OfAdamMkv.lean ====
module

public import proofs.«01_k».proof.Defs
public import proofs.«01_k».proof.Proof.Gen.AdamMkvIdeal.Value
public import proofs.«01_k».proof.Proof.Gen.RefAdamMkvIdeal.Read
public import proofs.«01_k».proof.Proof.AdamMath
public import Idealize.ShloMosaic.Lib.Quiescent
public import Idealize.ShloMosaic.Lib.Tactic
public import Idealize.ShloMosaic.Lib.Pointwise
public import Idealize.ShloMosaic.Lib.Pipeline.ValueKit
public import Idealize.ShloMosaic.Lib.Pipeline.ReadBack

/-! The optimiser's step of the memory's keys and values. -/

@[expose] public section

set_option maxRecDepth 16384

noncomputable section

namespace Cert.OfAdamMkv

open Idealize.ShloMosaic Idealize.ShloMosaic.TcCoe Idealize.SL.Sem
open Cert.AdamMath

/-- The two corrections are the named reciprocals. -/
theorem preserves : Cert.preserves_AdamMkv_AdamMkvIdeal :=
  ⟨IdealRules.named_const.statement _ _ _ _ _ rfl, IdealRules.named_const.statement _ _ _ _ _ rfl⟩

section ker
open Cert.AdamMkvIdeal Cert.AdamMkvIdeal.Gen

theorem pay3_apply (g m v w : Vec Ideal S512x1024 .f32) (y : S512x1024.Idx) :
    k0_pay3 g m v w y = change (Ideal.div (first (g y) (m y)) (Ideal.ofBits .f32 0x3F26BD02#32)) (Ideal.div (second (g y) (v y)) (Ideal.ofBits .f32 0x3C231ACC#32)) (w y) := by
  rw [left_1, left_2]
  rfl

variable (m : (ℓ : Loc nD τ sig) → Buf (Elt Ideal) ℓ) (c : Dev nD)

/-- The changes, whole. -/
theorem array4 : (dats m 0 c).arrAt 4 cfg0.N = fun i : S8192x1024.Idx =>
    change (Ideal.div (first (m ((c : Thread nD τ).loc main_arg1) i) (m ((c : Thread nD τ).loc main_arg2) i)) (Ideal.ofBits .f32 0x3F26BD02#32))
      (Ideal.div (second (m ((c : Thread nD τ).loc main_arg1) i) (m ((c : Thread nD τ).loc main_arg3) i)) (Ideal.ofBits .f32 0x3C231ACC#32)) (m ((c : Thread nD τ).loc main_arg0) i) := by
  refine (dats m 0 c).arrAt_eq_of_covers 4 _ (by decide +kernel) fun t hf y => ?_
  rw [after0_4]
  unfold out0_4
  frame_out
  refine (pay3_apply _ _ _ _ y).trans ?_
  rfl

/-- The first moments, whole. -/
theorem array5 : (dats m 0 c).arrAt 5 cfg0.N = fun i : S8192x1024.Idx => first (m ((c : Thread nD τ).loc main_arg1) i) (m ((c : Thread nD τ).loc main_arg2) i) := by
  refine (dats m 0 c).arrAt_eq_of_covers 5 _ (by decide +kernel) fun t hf y => ?_
  rw [after0_5]
  unfold out0_5
  frame_out
  rfl

/-- The second moments, whole. -/
theorem array6 : (dats m 0 c).arrAt 6 cfg0.N = fun i : S8192x1024.Idx => second (m ((c : Thread nD τ).loc main_arg1) i) (m ((c : Thread nD τ).loc main_arg3) i) := by
  refine (dats m 0 c).arrAt_eq_of_covers 6 _ (by decide +kernel) fun t hf y => ?_
  rw [after0_6]
  unfold out0_6
  frame_out
  rfl

/-- The gradients again, whole. -/
theorem array7 : (dats m 0 c).arrAt 7 cfg0.N = m ((c : Thread nD τ).loc main_arg1) := by
  refine (dats m 0 c).arrAt_eq_of_covers 7 _ (by decide +kernel) fun t hf y => ?_
  rw [after0_7]
  unfold out0_7
  frame_out
  rfl

end ker

/-- The reference runs, leaves its arguments alone and every counter at zero. -/
theorem frameRef : Cert.quiescent_RefAdamMkvIdeal := fun m g _ =>
  (θ_run Cert.RefAdamMkvIdeal.defs _ _).mono (fun r h => ⟨fun c => (h c).2.2.2.2, sem_eq_zero_of_no_sems rfl _⟩) (Cert.RefAdamMkvIdeal.Value.run m g)

open Cert.AdamMkvIdeal Cert.AdamMkvIdeal.Gen in
/-- The kernel's results are the reference's. -/
theorem value : Cert.algebraic_AdamMkvIdeal_RefAdamMkvIdeal := by
  intro m g m' g' _ hargs
  refine ⟨fun c => (dats m 0 c).arrAt 4 cfg0.N, fun c => (dats m 0 c).arrAt 5 cfg0.N, fun c => (dats m 0 c).arrAt 6 cfg0.N, fun c => (dats m 0 c).arrAt 7 cfg0.N,
    Cert.AdamMkvIdeal.Value.run_blocks m g, ?_⟩
  refine (θ_run Cert.RefAdamMkvIdeal.defs _ _).mono (fun r h c => ?_) (Cert.RefAdamMkvIdeal.Value.run m' g')
  obtain ⟨h0, h1, h2, h3, h4⟩ := h c
  obtain ⟨a0, a1, a2, a3⟩ := hargs c
  refine ⟨h0.trans ?_, h1.trans ?_, h2.trans ?_, h3.trans ?_, h4⟩
  · rw [a0, a1, a2, a3]
    exact (array4 m c).symm
  · rw [a1, a2]
    exact (array5 m c).symm
  · rw [a1, a3]
    exact (array6 m c).symm
  · rw [a1]
    exact (array7 m c).symm

end Cert.OfAdamMkv

end
-- ==== Proof.OfAdamUp.lean ====
module

public import proofs.«01_k».proof.Defs
public import proofs.«01_k».proof.Proof.Gen.AdamUpIdeal.Value
public import proofs.«01_k».proof.Proof.Gen.RefAdamUpIdeal.Read
public import proofs.«01_k».proof.Proof.AdamMath
public import Idealize.ShloMosaic.Lib.Quiescent
public import Idealize.ShloMosaic.Lib.Tactic
public import Idealize.ShloMosaic.Lib.Pointwise
public import Idealize.ShloMosaic.Lib.Pipeline.ValueKit
public import Idealize.ShloMosaic.Lib.Pipeline.ReadBack

/-! The optimiser's step of the products up and down. -/

@[expose] public section

set_option maxRecDepth 16384

noncomputable section

namespace Cert.OfAdamUp

open Idealize.ShloMosaic Idealize.ShloMosaic.TcCoe Idealize.SL.Sem
open Cert.AdamMath

/-- The two corrections are the named reciprocals. -/
theorem preserves : Cert.preserves_AdamUp_AdamUpIdeal :=
  ⟨IdealRules.named_const.statement _ _ _ _ _ rfl, IdealRules.named_const.statement _ _ _ _ _ rfl⟩

section ker
open Cert.AdamUpIdeal Cert.AdamUpIdeal.Gen

theorem pay3_apply (g m v w : Vec Ideal S256x2048 .f32) (y : S256x2048.Idx) :
    k0_pay3 g m v w y = change (Ideal.div (first (g y) (m y)) (Ideal.ofBits .f32 0x3F26BD02#32)) (Ideal.div (second (g y) (v y)) (Ideal.ofBits .f32 0x3C231ACC#32)) (w y) := by
  rw [left_1, left_2]
  rfl

variable (m : (ℓ : Loc nD τ sig) → Buf (Elt Ideal) ℓ) (c : Dev nD)

/-- The changes, whole. -/
theorem array4 : (dats m 0 c).arrAt 4 cfg0.N = fun i : S8192x2048.Idx =>
    change (Ideal.div (first (m ((c : Thread nD τ).loc main_arg1) i) (m ((c : Thread nD τ).loc main_arg2) i)) (Ideal.ofBits .f32 0x3F26BD02#32))
      (Ideal.div (second (m ((c : Thread nD τ).loc main_arg1) i) (m ((c : Thread nD τ).loc main_arg3) i)) (Ideal.ofBits .f32 0x3C231ACC#32)) (m ((c : Thread nD τ).loc main_arg0) i) := by
  refine (dats m 0 c).arrAt_eq_of_covers 4 _ (by decide +kernel) fun t hf y => ?_
  rw [after0_4]
  unfold out0_4
  frame_out
  refine (pay3_apply _ _ _ _ y).trans ?_
  rfl

/-- The first moments, whole. -/
theorem array5 : (dats m 0 c).arrAt 5 cfg0.N = fun i : S8192x2048.Idx => first (m ((c : Thread nD τ).loc main_arg1) i) (m ((c : Thread nD τ).loc main_arg2) i) := by
  refine (dats m 0 c).arrAt_eq_of_covers 5 _ (by decide +kernel) fun t hf y => ?_
  rw [after0_5]
  unfold out0_5
  frame_out
  rfl

/-- The second moments, whole. -/
theorem array6 : (dats m 0 c).arrAt 6 cfg0.N = fun i : S8192x2048.Idx => second (m ((c : Thread nD τ).loc main_arg1) i) (m ((c : Thread nD τ).loc main_arg3) i) := by
  refine (dats m 0 c).arrAt_eq_of_covers 6 _ (by decide +kernel) fun t hf y => ?_
  rw [after0_6]
  unfold out0_6
  frame_out
  rfl

/-- The gradients again, whole. -/
theorem array7 : (dats m 0 c).arrAt 7 cfg0.N = m ((c : Thread nD τ).loc main_arg1) := by
  refine (dats m 0 c).arrAt_eq_of_covers 7 _ (by decide +kernel) fun t hf y => ?_
  rw [after0_7]
  unfold out0_7
  frame_out
  rfl

end ker

/-- The reference runs, leaves its arguments alone and every counter at zero. -/
theorem frameRef : Cert.quiescent_RefAdamUpIdeal := fun m g _ =>
  (θ_run Cert.RefAdamUpIdeal.defs _ _).mono (fun r h => ⟨fun c => (h c).2.2.2.2, sem_eq_zero_of_no_sems rfl _⟩) (Cert.RefAdamUpIdeal.Value.run m g)

open Cert.AdamUpIdeal Cert.AdamUpIdeal.Gen in
/-- The kernel's results are the reference's. -/
theorem value : Cert.algebraic_AdamUpIdeal_RefAdamUpIdeal := by
  intro m g m' g' _ hargs
  refine ⟨fun c => (dats m 0 c).arrAt 4 cfg0.N, fun c => (dats m 0 c).arrAt 5 cfg0.N, fun c => (dats m 0 c).arrAt 6 cfg0.N, fun c => (dats m 0 c).arrAt 7 cfg0.N,
    Cert.AdamUpIdeal.Value.run_blocks m g, ?_⟩
  refine (θ_run Cert.RefAdamUpIdeal.defs _ _).mono (fun r h c => ?_) (Cert.RefAdamUpIdeal.Value.run m' g')
  obtain ⟨h0, h1, h2, h3, h4⟩ := h c
  obtain ⟨a0, a1, a2, a3⟩ := hargs c
  refine ⟨h0.trans ?_, h1.trans ?_, h2.trans ?_, h3.trans ?_, h4⟩
  · rw [a0, a1, a2, a3]
    exact (array4 m c).symm
  · rw [a1, a2]
    exact (array5 m c).symm
  · rw [a1, a3]
    exact (array6 m c).symm
  · rw [a1]
    exact (array7 m c).symm

end Cert.OfAdamUp

end
-- ==== Proof.OfAdamSmall.lean ====
module

public import proofs.«01_k».proof.Defs
public import proofs.«01_k».proof.Proof.Gen.AdamSmallIdeal.Value
public import proofs.«01_k».proof.Proof.Gen.RefAdamSmallIdeal.Read
public import proofs.«01_k».proof.Proof.AdamMath
public import Idealize.ShloMosaic.Lib.Quiescent
public import Idealize.ShloMosaic.Lib.Tactic
public import Idealize.ShloMosaic.Lib.Pointwise
public import Idealize.ShloMosaic.Lib.Pipeline.ValueKit
public import Idealize.ShloMosaic.Lib.Pipeline.ReadBack

/-! The optimiser's step of the gains, offsets and sinks, packed. -/

@[expose] public section

set_option maxRecDepth 16384

noncomputable section

namespace Cert.OfAdamSmall

open Idealize.ShloMosaic Idealize.ShloMosaic.TcCoe Idealize.SL.Sem
open Cert.AdamMath

/-- The two corrections are the named reciprocals. -/
theorem preserves : Cert.preserves_AdamSmall_AdamSmallIdeal :=
  ⟨IdealRules.named_const.statement _ _ _ _ _ rfl, IdealRules.named_const.statement _ _ _ _ _ rfl⟩

section ker
open Cert.AdamSmallIdeal Cert.AdamSmallIdeal.Gen

theorem pay3_apply (g m v w : Vec Ideal S36x2048 .f32) (y : S36x2048.Idx) :
    k0_pay3 g m v w y = change (Ideal.div (first (g y) (m y)) (Ideal.ofBits .f32 0x3F26BD02#32)) (Ideal.div (second (g y) (v y)) (Ideal.ofBits .f32 0x3C231ACC#32)) (w y) := by
  rw [left_1, left_2]
  rfl

variable (m : (ℓ : Loc nD τ sig) → Buf (Elt Ideal) ℓ) (c : Dev nD)

/-- The changes, whole. -/
theorem array4 : (dats m 0 c).arrAt 4 cfg0.N = fun i : S36x2048.Idx =>
    change (Ideal.div (first (m ((c : Thread nD τ).loc main_arg1) i) (m ((c : Thread nD τ).loc main_arg2) i)) (Ideal.ofBits .f32 0x3F26BD02#32))
      (Ideal.div (second (m ((c : Thread nD τ).loc main_arg1) i) (m ((c : Thread nD τ).loc main_arg3) i)) (Ideal.ofBits .f32 0x3C231ACC#32)) (m ((c : Thread nD τ).loc main_arg0) i) := by
  refine (dats m 0 c).arrAt_eq_of_covers 4 _ (by decide +kernel) fun t hf y => ?_
  rw [after0_4]
  unfold out0_4
  frame_out
  refine (pay3_apply _ _ _ _ y).trans ?_
  rfl

/-- The first moments, whole. -/
theorem array5 : (dats m 0 c).arrAt 5 cfg0.N = fun i : S36x2048.Idx => first (m ((c : Thread nD τ).loc main_arg1) i) (m ((c : Thread nD τ).loc main_arg2) i) := by
  refine (dats m 0 c).arrAt_eq_of_covers 5 _ (by decide +kernel) fun t hf y => ?_
  rw [after0_5]
  unfold out0_5
  frame_out
  rfl

/-- The second moments, whole. -/
theorem array6 : (dats m 0 c).arrAt 6 cfg0.N = fun i : S36x2048.Idx => second (m ((c : Thread nD τ).loc main_arg1) i) (m ((c : Thread nD τ).loc main_arg3) i) := by
  refine (dats m 0 c).arrAt_eq_of_covers 6 _ (by decide +kernel) fun t hf y => ?_
  rw [after0_6]
  unfold out0_6
  frame_out
  rfl

end ker

/-- The reference runs, leaves its arguments alone and every counter at zero. -/
theorem frameRef : Cert.quiescent_RefAdamSmallIdeal := fun m g _ =>
  (θ_run Cert.RefAdamSmallIdeal.defs _ _).mono (fun r h => ⟨fun c => (h c).2.2.2, sem_eq_zero_of_no_sems rfl _⟩) (Cert.RefAdamSmallIdeal.Value.run m g)

open Cert.AdamSmallIdeal Cert.AdamSmallIdeal.Gen in
/-- The kernel's results are the reference's. -/
theorem value : Cert.algebraic_AdamSmallIdeal_RefAdamSmallIdeal := by
  intro m g m' g' _ hargs
  refine ⟨fun c => (dats m 0 c).arrAt 4 cfg0.N, fun c => (dats m 0 c).arrAt 5 cfg0.N, fun c => (dats m 0 c).arrAt 6 cfg0.N,
    Cert.AdamSmallIdeal.Value.run_blocks m g, ?_⟩
  refine (θ_run Cert.RefAdamSmallIdeal.defs _ _).mono (fun r h c => ?_) (Cert.RefAdamSmallIdeal.Value.run m' g')
  obtain ⟨h0, h1, h2, h3⟩ := h c
  obtain ⟨a0, a1, a2, a3⟩ := hargs c
  refine ⟨h0.trans ?_, h1.trans ?_, h2.trans ?_, h3⟩
  · rw [a0, a1, a2, a3]
    exact (array4 m c).symm
  · rw [a1, a2]
    exact (array5 m c).symm
  · rw [a1, a3]
    exact (array6 m c).symm

end Cert.OfAdamSmall

end
-- ==== Proof.WindowMath.lean ====
module

public import Idealize.ShloMosaic.PureOps.Ideal
public import Idealize.ShloMosaic.Lib.Pointwise

/-! One row of an attention with a sink, over the extended reals: a row of scores, its softmax against a sink's score
    beside them, and what of it a window of the keys sees. -/

@[expose] public section

noncomputable section

namespace Cert.WindowMath

open Idealize.ShloMosaic

variable {n N : ℕ}

/-- The greatest of a row of scores. -/
def top (s : Fin n → EReal) : EReal := (Finset.univ : Finset (Fin n)).fold max ⊥ s

/-- The exponentials of a row of scores, the greatest taken away first. -/
def ex (s : Fin n → EReal) (k : Fin n) : EReal := Ideal.exp (s k - top s)

/-- The greatest of the row and of the sink. -/
def top2 (s : Fin n → EReal) (σ : EReal) : EReal := max (top s) σ

/-- What rescales the row's exponentials when the sink is taken in. -/
def rescale (s : Fin n → EReal) (σ : EReal) : EReal := Ideal.exp (top s - top2 s σ)

/-- The sum of the exponentials, the sink's among them. -/
def den (s : Fin n → EReal) (σ : EReal) : EReal := (∑ k : Fin n, ex s k) * rescale s σ + Ideal.exp (σ - top2 s σ)

/-- The row's output against one column of the values. -/
def out (s v : Fin n → EReal) (σ : EReal) : EReal := (∑ k : Fin n, ex s k * v k) * Ideal.div (rescale s σ) (den s σ)

/-- The logarithm of the sum of the exponentials. -/
def lse (s : Fin n → EReal) (σ : EReal) : EReal := top2 s σ + Ideal.log (den s σ)

/-- The exponential of what is −∞ less anything is nothing. -/
theorem exp_bot_sub (x : EReal) : Ideal.exp (⊥ - x) = 0 := by
  rw [show (⊥ : EReal) - x = ⊥ from by rw [sub_eq_add_neg]; exact EReal.bot_add _]
  rfl

section window
variable {s : Fin n → EReal} {S : Fin N → EReal} (f : Fin n → Fin N) (hf : Function.Injective f) (hs : ∀ k, s k = S (f k))
  (hS : ∀ j, (∀ k, f k ≠ j) → S j = ⊥)
include hs hS

/-- A window's greatest score is the row's, the other scores being −∞. -/
theorem top_window : top s = top S := by
  apply le_antisymm
  · refine (Finset.fold_max_le _).2 ⟨bot_le, fun k _ => ?_⟩
    rw [hs]
    exact (Finset.le_fold_max _).2 (Or.inr ⟨f k, Finset.mem_univ _, le_rfl⟩)
  · refine (Finset.fold_max_le _).2 ⟨bot_le, fun j _ => ?_⟩
    by_cases h : ∃ k, f k = j
    · obtain ⟨k, rfl⟩ := h
      rw [← hs]
      exact (Finset.le_fold_max _).2 (Or.inr ⟨k, Finset.mem_univ _, le_rfl⟩)
    · rw [hS j fun k hk => h ⟨k, hk⟩]
      exact bot_le

/-- A window's exponentials are the row's. -/
theorem ex_window (k : Fin n) : ex s k = ex S (f k) := by rw [ex, ex, hs, top_window f hs hS]

/-- Off the window the exponentials are nothing. -/
theorem ex_off (j : Fin N) (h : ∀ k, f k ≠ j) : ex S j = 0 := by rw [ex, hS j h, exp_bot_sub]

include hf

/-- A sum over the row of products with the exponentials is the window's. -/
theorem sum_window (v : Fin n → EReal) (V : Fin N → EReal) (hv : ∀ k, v k = V (f k)) :
    ∑ k : Fin n, ex s k * v k = ∑ j : Fin N, ex S j * V j := by
  refine Finset.sum_of_injOn f hf.injOn (fun _ _ => Finset.mem_univ _) (fun j _ hj => ?_) (fun k _ => ?_)
  · rw [ex_off f hs hS j fun k hk => hj ⟨k, Finset.mem_univ _, hk⟩, zero_mul]
  · rw [ex_window f hs hS, hv]

/-- The sum of the exponentials is the window's. -/
theorem total_window : ∑ k : Fin n, ex s k = ∑ j : Fin N, ex S j := by
  simpa only [mul_one] using sum_window f hf hs hS (fun _ => 1) (fun _ => 1) (fun _ => rfl)

/-- The denominators agree. -/
theorem den_window (σ : EReal) : den s σ = den S σ := by
  rw [den, den, total_window f hf hs hS, rescale, rescale, top2, top2, top_window f hs hS]

/-- The logarithms of the sums agree. -/
theorem lse_window (σ : EReal) : lse s σ = lse S σ := by
  rw [lse, lse, den_window f hf hs hS, top2, top2, top_window f hs hS]

/-- The outputs agree. -/
theorem out_window (v : Fin n → EReal) (V : Fin N → EReal) (hv : ∀ k, v k = V (f k)) (σ : EReal) : out s v σ = out S V σ := by
  rw [out, out, sum_window f hf hs hS v V hv, den_window f hf hs hS, rescale, rescale, top2, top2, top_window f hs hS]

end window

end Cert.WindowMath

end
-- ==== Proof.OfWindowTile.lean ====
module

public import proofs.«01_k».proof.Defs
public import proofs.«01_k».proof.Proof.Gen.WindowIdeal.Value
public import proofs.«01_k».proof.Proof.WindowMath
public import Idealize.ShloMosaic.Lib.Quiescent
public import Idealize.ShloMosaic.Lib.Tactic
public import Idealize.ShloMosaic.Lib.Pointwise
public import Idealize.ShloMosaic.Lib.Pipeline.ValueKit
public import Idealize.ShloMosaic.Lib.Pipeline.ReadBack

/-! What one trip of the windowed attention computes: 128 rows of two heads against a window of 256 keys. -/

@[expose] public section

set_option maxRecDepth 65536

noncomputable section

namespace Cert.OfWindow

open Idealize.ShloMosaic Idealize.ShloMosaic.TcCoe Idealize.SL.Sem
open Cert.WindowIdeal Cert.WindowIdeal.Gen Cert.WindowMath

/-- Whether a lane lies in the first half, as the kernel's word. -/
theorem half_word : ∀ l : Fin 128, IntOp.cmpi .slt (BitVec.ofNat 32 l.val) 64#32 = if l.val < 64 then 1#1 else 0#1 := by decide +kernel

/-- A choice by the half of a lane. -/
theorem half_sel {α : Type} (l : Fin 128) (a b : α) :
    Scalar.select (IntOp.cmpi .slt (BitVec.ofNat 32 l.val) 64#32) a b = if l.val < 64 then a else b := by
  rw [half_word]
  by_cases h : l.val < 64
  · rw [if_pos h, if_pos h]; rfl
  · rw [if_neg h, if_neg h]; rfl

/-- The two heads' queries stacked, each with the other's lanes emptied. -/
def stack (q : S128x128.Idx → EReal) (r : Fin 256) (x : Fin 128) : EReal :=
  if h : r.val < 128 then (if x.val < 64 then q (ix2 ⟨r.val, h⟩ x) else 0)
  else (if x.val < 64 then 0 else q (ix2 ⟨r.val - 128, by omega⟩ x))

/-- The scores of a tile. -/
def tileScore (q : S128x128.Idx → EReal) (w : S256x128.Idx → EReal) (b : S1x256x256.Idx → EReal) (r k : Fin 256) : EReal :=
  (∑ x : Fin 128, stack q r x * w (ix2 k x)) * Ideal.ofBits .f32 0x3E000000#32 + b (ix3 0 r k)

/-- The sink of a tile's row. -/
def tileSink (s0 s1 : S1x1.Idx → EReal) (r : Fin 256) : EReal := if r.val < 128 then s0 (ix2 0 0) else s1 (ix2 0 0)

/-- The stacked row a lane of an output row is taken from. -/
def rowOf (r l : Fin 128) : Fin 256 := if l.val < 64 then ⟨r.val, by omega⟩ else ⟨128 + r.val, by omega⟩

section
variable (q : Vec Ideal S128x128 .f32) (w v : Vec Ideal S256x128 .f32) (b : Vec Ideal S1x256x256 .f32) (s0 s1 : FVec Ideal S1x1 .f32)

theorem pay6_at (r k : Fin 256) : k0_pay6 (k0_pay4 q w) (k0_pay5 b) (ix2 r k) = tileScore q w b r k := by
  pointwise [k0_pay6, k0_pay4, k0_pay5]
  simp only [half_sel]
  rfl

theorem neg_inf : Ideal.ofBits .f32 0xFF800000#32 = ⊥ := by
  simp [Ideal.ofBits, Ideal.ieee]

theorem pay8_at (r : Fin 256) : k0_pay8 (k0_pay4 q w) (k0_pay5 b) (ix2 r 0) = top (tileScore q w b r) := by
  pointwise [k0_pay8]
  simp only [pay6_at]
  rw [neg_inf]
  rfl

theorem pay10_at (r k : Fin 256) : k0_pay10 (k0_pay4 q w) (k0_pay5 b) (ix2 r k) = ex (tileScore q w b r) k := by
  pointwise [k0_pay10]
  rw [pay6_at, pay8_at]
  rfl

theorem pay12_at (r : Fin 256) : k0_pay12 (k0_pay4 q w) (k0_pay5 b) (ix2 r 0) = ∑ k, ex (tileScore q w b r) k := by
  pointwise [k0_pay12]
  simp only [pay10_at]

theorem pay14_at (r : Fin 256) (l : Fin 128) : k0_pay14 (k0_pay4 q w) (k0_pay5 b) v (ix2 r l) = ∑ k, ex (tileScore q w b r) k * v (ix2 k l) := by
  pointwise [k0_pay14]
  simp only [pay10_at]

theorem pay1_at (r : Fin 256) : k0_pay1 s0 s1 (ix2 r 0) = tileSink s0 s1 r := by
  pointwise [k0_pay1]
  rfl

section
variable (A C D : FVec Ideal S256x1 .f32) (s : Fin 256 → EReal) (σ : EReal) (r : Fin 256) (hA : A (ix2 r 0) = σ) (hC : C (ix2 r 0) = top s)
include hA hC

theorem pay16_at : k0_pay16 A C (ix2 r 0) = top2 s σ := by
  pointwise [k0_pay16]
  rw [hA, hC]
  rfl

theorem pay17_at : k0_pay17 A C (ix2 r 0) = rescale s σ := by
  pointwise [k0_pay17]
  rw [hC, pay16_at A C s σ r hA hC]
  rfl

theorem pay18_at (hD : D (ix2 r 0) = ∑ k, ex s k) : k0_pay18 A C D (ix2 r 0) = den s σ := by
  pointwise [k0_pay18]
  rw [pay17_at A C s σ r hA hC, hD, hA, pay16_at A C s σ r hA hC]
  rfl
end

/-- The outputs one tile stores. -/
def tileY : FVec Ideal S128x128 .f32 :=
  k0_pay19 (k0_pay1 s0 s1) (k0_pay8 (k0_pay4 q w) (k0_pay5 b)) (k0_pay12 (k0_pay4 q w) (k0_pay5 b)) (k0_pay14 (k0_pay4 q w) (k0_pay5 b) v)

/-- The logarithms one tile stores. -/
def tileL : FVec Ideal S128x128 .f32 :=
  k0_pay20 (k0_pay1 s0 s1) (k0_pay8 (k0_pay4 q w) (k0_pay5 b)) (k0_pay12 (k0_pay4 q w) (k0_pay5 b))

theorem tileY_at (r l : Fin 128) :
    tileY q w v b s0 s1 (ix2 r l) = out (tileScore q w b (rowOf r l)) (fun k => v (ix2 k l)) (tileSink s0 s1 (rowOf r l)) := by
  unfold tileY
  pointwise [k0_pay19]
  simp only [half_sel, rowOf, pay14_at]
  split <;>
    rw [pay17_at _ _ _ _ _ (pay1_at s0 s1 _) (pay8_at q w b _), pay18_at _ _ _ _ _ _ (pay1_at s0 s1 _) (pay8_at q w b _) (pay12_at q w b _)] <;>
    rfl

theorem tileL_at (r l : Fin 128) :
    tileL q w b s0 s1 (ix2 r l) = lse (tileScore q w b (rowOf r l)) (tileSink s0 s1 (rowOf r l)) := by
  unfold tileL
  pointwise [k0_pay20]
  simp only [half_sel, rowOf]
  split <;>
    rw [pay16_at _ _ _ _ _ (pay1_at s0 s1 _) (pay8_at q w b _), pay18_at _ _ _ _ _ _ (pay1_at s0 s1 _) (pay8_at q w b _) (pay12_at q w b _)] <;>
    rfl
end

section trip
variable (c : Dev nD) (i : grid0.Coords)
  (a1 : Memref sig .tc .vmem S4096x128 .f32) (h1 : a1.IsWhole) (a2 : Memref sig .tc .vmem S4096x128 .f32) (h2 : a2.IsWhole)
  (a3 : Memref sig .tc .vmem S4096x128 .f32) (h3 : a3.IsWhole) (a4 : Memref sig .tc .vmem S4096x128 .f32) (h4 : a4.IsWhole)
  (a5 : Memref sig .tc .vmem S4096x128 .f32) (h5 : a5.IsWhole) (a6 : Memref sig .tc .vmem S16x128 .f32) (h6 : a6.IsWhole)
  (a7 : Memref sig .tc .vmem S4096x128 .f32) (h7 : a7.IsWhole) (a8 : Memref sig .tc .vmem S4096x128 .f32) (h8 : a8.IsWhole)
  (a9 : Memref sig .tc .vmem S4096x128 .f32) (h9 : a9.IsWhole) (a10 : Memref sig .tc .vmem S4096x128 .f32) (h10 : a10.IsWhole)
  (a11 : Memref sig .tc .vmem S4096x128 .f32) (h11 : a11.IsWhole) (a12 : Memref sig .tc .vmem S2x256x256 .f32) (h12 : a12.IsWhole)
  (s0 s1 : FVec Ideal S1x1 .f32) (X9 : BufTy.Contents (Elt Ideal) a9.view.ty) (X10 : BufTy.Contents (Elt Ideal) a10.view.ty)
  (X11 : BufTy.Contents (Elt Ideal) a11.view.ty) (X12 : BufTy.Contents (Elt Ideal) a12.view.ty) (k : Fin k0_t1_loop.trips)

/-- The window of rows a trip's block `u` reads of a buffer. -/
abbrev win3 (u : BitVec 32) (hu : ∀ a, k0_off3 k u a + S128x128.size a ≤ S4096x128.size a) (X : Vec Ideal S4096x128 .f32) : Vec Ideal S128x128 .f32 :=
  View.ld X (Rect.unit (s := S4096x128) (k0_off3 k u) S128x128.size hu)
/-- The window of keys a trip's block `u` reads of a buffer. -/
abbrev win4 (u : BitVec 32) (hu : ∀ a, k0_off4 k u a + S256x128.size a ≤ S4096x128.size a) (X : Vec Ideal S4096x128 .f32) : Vec Ideal S256x128 .f32 :=
  View.ld X (Rect.unit (s := S4096x128) (k0_off4 k u) S256x128.size hu)
/-- The masks a trip's block `u` reads. -/
abbrev win5 (u : BitVec 32) (hu : ∀ a, k0_off5 k u a + S1x256x256.size a ≤ S2x256x256.size a) (X : Vec Ideal S2x256x256 .f32) : Vec Ideal S1x256x256 .f32 :=
  View.ld X (Rect.unit (s := S2x256x256) (k0_off5 k u) S1x256x256.size hu)

/-- What one trip stores into the outputs. -/
theorem trip_y : (trip_k0_t1 (F := Ideal) Variants.none c none i a1 h1 a2 h2 a3 h3 a4 h4 a5 h5 a6 h6 a7 h7 a8 h8 a9 h9 a10 h10 a11 h11 a12 h12 s0 s1 X9 X10 X11 X12 k).1 =
    [⟨Rect.unit (s := S4096x128) (k0_off3 k 1#32) S128x128.size (k0_off3_inb k 1),
        tileY (win3 k _ (k0_off3_inb k 1) (a9.view.read (Elt Ideal) X9)) (win4 k _ (k0_off4_inb k 1) (a10.view.read (Elt Ideal) X10))
          (win4 k _ (k0_off4_inb k 1) (a11.view.read (Elt Ideal) X11)) (win5 k _ (k0_off5_inb k 1) (a12.view.read (Elt Ideal) X12)) s0 s1⟩,
     ⟨Rect.unit (s := S4096x128) (k0_off3 k 0#32) S128x128.size (k0_off3_inb k 0),
        tileY (win3 k _ (k0_off3_inb k 0) (a9.view.read (Elt Ideal) X9)) (win4 k _ (k0_off4_inb k 0) (a10.view.read (Elt Ideal) X10))
          (win4 k _ (k0_off4_inb k 0) (a11.view.read (Elt Ideal) X11)) (win5 k _ (k0_off5_inb k 0) (a12.view.read (Elt Ideal) X12)) s0 s1⟩] := by
  unfold trip_k0_t1
  rfl

/-- What one trip stores into the logarithms. -/
theorem trip_l : (trip_k0_t1 (F := Ideal) Variants.none c none i a1 h1 a2 h2 a3 h3 a4 h4 a5 h5 a6 h6 a7 h7 a8 h8 a9 h9 a10 h10 a11 h11 a12 h12 s0 s1 X9 X10 X11 X12 k).2.1 =
    [⟨Rect.unit (s := S4096x128) (k0_off3 k 1#32) S128x128.size (k0_off3_inb k 1),
        tileL (win3 k _ (k0_off3_inb k 1) (a9.view.read (Elt Ideal) X9)) (win4 k _ (k0_off4_inb k 1) (a10.view.read (Elt Ideal) X10))
          (win5 k _ (k0_off5_inb k 1) (a12.view.read (Elt Ideal) X12)) s0 s1⟩,
     ⟨Rect.unit (s := S4096x128) (k0_off3 k 0#32) S128x128.size (k0_off3_inb k 0),
        tileL (win3 k _ (k0_off3_inb k 0) (a9.view.read (Elt Ideal) X9)) (win4 k _ (k0_off4_inb k 0) (a10.view.read (Elt Ideal) X10))
          (win5 k _ (k0_off5_inb k 0) (a12.view.read (Elt Ideal) X12)) s0 s1⟩] := by
  unfold trip_k0_t1
  rfl
end trip
end Cert.OfWindow

end
-- ==== Proof.OfWindowLoop.lean ====
module

public import proofs.«01_k».proof.Defs
public import proofs.«01_k».proof.Proof.Gen.WindowIdeal.Value
public import proofs.«01_k».proof.Proof.OfWindowTile
public import Idealize.ShloMosaic.Lib.Quiescent
public import Idealize.ShloMosaic.Lib.Tactic
public import Idealize.ShloMosaic.Lib.Pointwise
public import Idealize.ShloMosaic.Lib.Pipeline.ValueKit
public import Idealize.ShloMosaic.Lib.Pipeline.ReadBack

/-! What the trips of a point store together: every row of two heads, in terms of the point's buffers. -/

@[expose] public section

set_option maxRecDepth 65536

noncomputable section

namespace Cert.OfWindow

open Idealize.ShloMosaic Idealize.ShloMosaic.TcCoe Idealize.SL.Sem
open Cert.WindowIdeal Cert.WindowIdeal.Gen Cert.WindowMath

/-- The keys a row's window holds. -/
def keyOf (i : Fin 4096) (k : Fin 256) : Fin 4096 := ⟨(i.val / 128 - 1) * 128 + k.val, by omega⟩

/-- The row's place among the 128 of its block. -/
def inBlock (i : Fin 4096) : Fin 128 := ⟨i.val % 128, by omega⟩

/-- Which of the two masks a row takes. -/
def maskOf (i : Fin 4096) : Fin 2 := ⟨min (i.val / 128) 1, by omega⟩

section
variable (q kg vg : S4096x128.Idx → EReal) (b : S2x256x256.Idx → EReal) (s0 s1 : S1x1.Idx → EReal)

/-- The scores of row `i`, in the head lane `l` belongs to. -/
def pScore (i : Fin 4096) (l : Fin 128) (k : Fin 256) : EReal :=
  (∑ x : Fin 128, (if l.val < 64 then (if x.val < 64 then q (ix2 i x) else 0) else (if x.val < 64 then 0 else q (ix2 i x))) * kg (ix2 (keyOf i k) x))
    * Ideal.ofBits .f32 0x3E000000#32 + b (ix3 (maskOf i) (rowOf (inBlock i) l) k)

/-- The sink of the head lane `l` belongs to. -/
def pSink (l : Fin 128) : EReal := if l.val < 64 then s0 (ix2 0 0) else s1 (ix2 0 0)

/-- A point's outputs. -/
def pY (y : S4096x128.Idx) : EReal := out (pScore q kg b (y 0) (y 1)) (fun k => vg (ix2 (keyOf (y 0) k) (y 1))) (pSink s0 s1 (y 1))

/-- A point's logarithms. -/
def pL (y : S4096x128.Idx) : EReal := lse (pScore q kg b (y 0) (y 1)) (pSink s0 s1 (y 1))
end

theorem stack_rowOf (q : S128x128.Idx → EReal) (r l x : Fin 128) :
    stack q (rowOf r l) x = if l.val < 64 then (if x.val < 64 then q (ix2 r x) else 0) else (if x.val < 64 then 0 else q (ix2 r x)) := by
  unfold stack rowOf
  by_cases h : l.val < 64
  · rw [if_pos h, if_pos h, dif_pos r.isLt]
  · rw [if_neg h, if_neg h, dif_neg (by show ¬ 128 + r.val < 128; omega)]
    congr 3
    exact Fin.ext (by show 128 + r.val - 128 = r.val; omega)

theorem sink_rowOf (s0 s1 : S1x1.Idx → EReal) (r l : Fin 128) : tileSink s0 s1 (rowOf r l) = pSink s0 s1 l := by
  unfold tileSink rowOf pSink
  by_cases h : l.val < 64
  · rw [if_pos h, if_pos h]; exact if_pos r.isLt
  · rw [if_neg h, if_neg h]; exact if_neg (by show ¬ 128 + r.val < 128; omega)

section tile
variable (n : ℕ) (hn : n < 32) (o3 o4 : Fin 2 → ℕ) (o5 : Fin 3 → ℕ) (h3 : o3 = ![128 * n, 0]) (h4 : o4 = ![(n - 1) * 128, 0]) (h5 : o5 = ![min n 1, 0, 0])
  (i3 : ∀ a, o3 a + S128x128.size a ≤ S4096x128.size a) (i4 : ∀ a, o4 a + S256x128.size a ≤ S4096x128.size a)
  (i5 : ∀ a, o5 a + S1x256x256.size a ≤ S2x256x256.size a)
  (q kg vg : Vec Ideal S4096x128 .f32) (b : Vec Ideal S2x256x256 .f32) (s0 s1 : FVec Ideal S1x1 .f32)
include h3 h4 h5 hn

theorem tile_score (r l : Fin 128) :
    tileScore (View.ld q (Rect.unit (s := S4096x128) o3 S128x128.size i3)) (View.ld kg (Rect.unit (s := S4096x128) o4 S256x128.size i4))
      (View.ld b (Rect.unit (s := S2x256x256) o5 S1x256x256.size i5)) (rowOf r l) = pScore q kg b ⟨128 * n + r.val, by omega⟩ l := by
  subst h3 h4 h5
  funext k
  unfold tileScore pScore
  congr 1
  · congr 1
    refine Finset.sum_congr rfl fun x _ => ?_
    rw [stack_rowOf]
    have e1 : View.ld q (Rect.unit (s := S4096x128) ![128 * n, 0] S128x128.size i3) (ix2 r x) = q (ix2 ⟨128 * n + r.val, by omega⟩ x) :=
      View.ld_unit_apply_of _ _ _ _ _ _ (Fin.forall_fin_two.2 ⟨rfl, (Nat.zero_add _).symm⟩)
    have e2 : View.ld kg (Rect.unit (s := S4096x128) ![(n - 1) * 128, 0] S256x128.size i4) (ix2 k x)
        = kg (ix2 (keyOf ⟨128 * n + r.val, by omega⟩ k) x) :=
      View.ld_unit_apply_of _ _ _ _ _ _ (Fin.forall_fin_two.2 ⟨by
        show ((128 * n + r.val) / 128 - 1) * 128 + k.val = (n - 1) * 128 + k.val
        congr 3; omega, (Nat.zero_add _).symm⟩)
    rw [e1, e2]
  · refine View.ld_unit_apply_of _ _ _ _ _ _ fun a => ?_
    match a with
    | ⟨0, _⟩ => show min ((128 * n + r.val) / 128) 1 = min n 1 + 0; congr 1; omega
    | ⟨1, _⟩ =>
      show (rowOf ⟨(128 * n + r.val) % 128, _⟩ l).val = 0 + (rowOf r l).val
      rw [Nat.zero_add]; congr 2; exact Fin.ext (by show (128 * n + r.val) % 128 = r.val; omega)
    | ⟨2, _⟩ => exact (Nat.zero_add _).symm

theorem emb_tile (r l : Fin 128) : (Rect.unit (s := S4096x128) o3 S128x128.size i3).emb (ix2 r l) = ix2 ⟨128 * n + r.val, by omega⟩ l := by
  subst h3
  refine funext fun a => Fin.ext ?_
  match a with
  | ⟨0, _⟩ => exact (Rect.idx_unit_val ..).trans rfl
  | ⟨1, _⟩ => exact (Rect.idx_unit_val ..).trans (Nat.zero_add _)

/-- A tile's outputs are the point's. -/
theorem tile_y (x : S128x128.Idx) :
    tileY (View.ld q (Rect.unit (s := S4096x128) o3 S128x128.size i3)) (View.ld kg (Rect.unit (s := S4096x128) o4 S256x128.size i4))
      (View.ld vg (Rect.unit (s := S4096x128) o4 S256x128.size i4)) (View.ld b (Rect.unit (s := S2x256x256) o5 S1x256x256.size i5)) s0 s1 x
      = pY q kg vg b s0 s1 ((Rect.unit (s := S4096x128) o3 S128x128.size i3).emb x) := by
  obtain ⟨r, l, rfl⟩ : ∃ r l, x = ix2 r l := ⟨x 0, x 1, eq_ix2 x⟩
  rw [tileY_at, tile_score n hn o3 o4 o5 h3 h4 h5 i3 i4 i5, sink_rowOf, emb_tile n hn o3 o4 o5 h3 h4 h5 i3]
  unfold pY
  congr 1
  funext k
  subst h4
  exact View.ld_unit_apply_of _ _ _ _ _ _ (Fin.forall_fin_two.2 ⟨by
    show ((128 * n + r.val) / 128 - 1) * 128 + k.val = (n - 1) * 128 + k.val
    congr 3; omega, (Nat.zero_add _).symm⟩)

/-- A tile's logarithms are the point's. -/
theorem tile_l (x : S128x128.Idx) :
    tileL (View.ld q (Rect.unit (s := S4096x128) o3 S128x128.size i3)) (View.ld kg (Rect.unit (s := S4096x128) o4 S256x128.size i4))
      (View.ld b (Rect.unit (s := S2x256x256) o5 S1x256x256.size i5)) s0 s1 x
      = pL q kg b s0 s1 ((Rect.unit (s := S4096x128) o3 S128x128.size i3).emb x) := by
  obtain ⟨r, l, rfl⟩ : ∃ r l, x = ix2 r l := ⟨x 0, x 1, eq_ix2 x⟩
  rw [tileL_at, tile_score n hn o3 o4 o5 h3 h4 h5 i3 i4 i5, sink_rowOf, emb_tile n hn o3 o4 o5 h3 h4 h5 i3]
  rfl
end tile

theorem off3_at : ∀ k : Fin k0_t1_loop.trips, k0_off3 k 0#32 = ![128 * (2 * k.val), 0] ∧ k0_off3 k 1#32 = ![128 * (2 * k.val + 1), 0] := by decide +kernel
theorem off4_at : ∀ k : Fin k0_t1_loop.trips, k0_off4 k 0#32 = ![(2 * k.val - 1) * 128, 0] ∧ k0_off4 k 1#32 = ![(2 * k.val + 1 - 1) * 128, 0] := by decide +kernel
theorem off5_at : ∀ k : Fin k0_t1_loop.trips, k0_off5 k 0#32 = ![min (2 * k.val) 1, 0, 0] ∧ k0_off5 k 1#32 = ![min (2 * k.val + 1) 1, 0, 0] := by decide +kernel
theorem trips_lt : ∀ k : Fin k0_t1_loop.trips, k.val < 16 := by decide +kernel

section trip
variable (c : Dev nD) (i : grid0.Coords)
  (a1 : Memref sig .tc .vmem S4096x128 .f32) (h1 : a1.IsWhole) (a2 : Memref sig .tc .vmem S4096x128 .f32) (h2 : a2.IsWhole)
  (a3 : Memref sig .tc .vmem S4096x128 .f32) (h3 : a3.IsWhole) (a4 : Memref sig .tc .vmem S4096x128 .f32) (h4 : a4.IsWhole)
  (a5 : Memref sig .tc .vmem S4096x128 .f32) (h5 : a5.IsWhole) (a6 : Memref sig .tc .vmem S16x128 .f32) (h6 : a6.IsWhole)
  (a7 : Memref sig .tc .vmem S4096x128 .f32) (h7 : a7.IsWhole) (a8 : Memref sig .tc .vmem S4096x128 .f32) (h8 : a8.IsWhole)
  (a9 : Memref sig .tc .vmem S4096x128 .f32) (h9 : a9.IsWhole) (a10 : Memref sig .tc .vmem S4096x128 .f32) (h10 : a10.IsWhole)
  (a11 : Memref sig .tc .vmem S4096x128 .f32) (h11 : a11.IsWhole) (a12 : Memref sig .tc .vmem S2x256x256 .f32) (h12 : a12.IsWhole)
  (s0 s1 : FVec Ideal S1x1 .f32) (X9 : BufTy.Contents (Elt Ideal) a9.view.ty) (X10 : BufTy.Contents (Elt Ideal) a10.view.ty)
  (X11 : BufTy.Contents (Elt Ideal) a11.view.ty) (X12 : BufTy.Contents (Elt Ideal) a12.view.ty)
  (q kg vg : Vec Ideal S4096x128 .f32) (b : Vec Ideal S2x256x256 .f32)
  (e9 : a9.view.read (Elt Ideal) X9 = q) (e10 : a10.view.read (Elt Ideal) X10 = kg) (e11 : a11.view.read (Elt Ideal) X11 = vg)
  (e12 : a12.view.read (Elt Ideal) X12 = b)
include e9 e10 e11 e12

/-- Every piece the trips store into the outputs holds the point's outputs. -/
theorem pieces_y (j : ℕ) (hj : j ≤ k0_t1_loop.trips) :
    ∀ p ∈ (pb_k0_t1 (F := Ideal) Variants.none c none i a1 h1 a2 h2 a3 h3 a4 h4 a5 h5 a6 h6 a7 h7 a8 h8 a9 h9 a10 h10 a11 h11 a12 h12 s0 s1 X9 X10 X11 X12 j).1,
      ∀ x : p.1.shape.Idx, p.2 x = pY q kg vg b s0 s1 (p.1.emb x) := by
  subst e9 e10 e11 e12
  induction j with
  | zero => intro p hp; rw [pb_k0_t1.eq_1] at hp; simp at hp
  | succ j ih =>
    intro p hp
    rw [pb_k0_t1_succ Variants.none c none i a1 h1 a2 h2 a3 h3 a4 h4 a5 h5 a6 h6 a7 h7 a8 h8 a9 h9 a10 h10 a11 h11 a12 h12 s0 s1 X9 X10 X11 X12 ⟨j, hj⟩] at hp
    dsimp only [tripL_k0_t1] at hp
    rw [trip_y] at hp
    have hl := trips_lt ⟨j, hj⟩
    rcases List.mem_append.1 hp with hp | hp
    · rcases List.mem_cons.1 hp with rfl | hp
      · exact tile_y (2 * j + 1) (by dsimp only at hl; omega) _ _ _ (off3_at ⟨j, hj⟩).2 (off4_at ⟨j, hj⟩).2 (off5_at ⟨j, hj⟩).2 _ _ _ _ _ _ _ _ _
      · obtain rfl := List.mem_singleton.1 hp
        exact tile_y (2 * j) (by dsimp only at hl; omega) _ _ _ (off3_at ⟨j, hj⟩).1 (off4_at ⟨j, hj⟩).1 (off5_at ⟨j, hj⟩).1 _ _ _ _ _ _ _ _ _
    · exact ih (Nat.le_of_succ_le hj) p hp

/-- Every piece the trips store into the logarithms holds the point's logarithms. -/
theorem pieces_l (j : ℕ) (hj : j ≤ k0_t1_loop.trips) :
    ∀ p ∈ (pb_k0_t1 (F := Ideal) Variants.none c none i a1 h1 a2 h2 a3 h3 a4 h4 a5 h5 a6 h6 a7 h7 a8 h8 a9 h9 a10 h10 a11 h11 a12 h12 s0 s1 X9 X10 X11 X12 j).2,
      ∀ x : p.1.shape.Idx, p.2 x = pL q kg b s0 s1 (p.1.emb x) := by
  subst e9 e10 e11 e12
  induction j with
  | zero => intro p hp; rw [pb_k0_t1.eq_1] at hp; simp at hp
  | succ j ih =>
    intro p hp
    rw [pb_k0_t1_succ Variants.none c none i a1 h1 a2 h2 a3 h3 a4 h4 a5 h5 a6 h6 a7 h7 a8 h8 a9 h9 a10 h10 a11 h11 a12 h12 s0 s1 X9 X10 X11 X12 ⟨j, hj⟩] at hp
    dsimp only [tripL_k0_t1] at hp
    rw [trip_l] at hp
    have hl := trips_lt ⟨j, hj⟩
    rcases List.mem_append.1 hp with hp | hp
    · rcases List.mem_cons.1 hp with rfl | hp
      · exact tile_l (2 * j + 1) (by dsimp only at hl; omega) _ _ _ (off3_at ⟨j, hj⟩).2 (off4_at ⟨j, hj⟩).2 (off5_at ⟨j, hj⟩).2 _ _ _ _ _ _ _ _
      · obtain rfl := List.mem_singleton.1 hp
        exact tile_l (2 * j) (by dsimp only at hl; omega) _ _ _ (off3_at ⟨j, hj⟩).1 (off4_at ⟨j, hj⟩).1 (off5_at ⟨j, hj⟩).1 _ _ _ _ _ _ _ _
    · exact ih (Nat.le_of_succ_le hj) p hp
end trip
end Cert.OfWindow

end
-- ==== Proof.OfWindowPoint.lean ====
module

public import proofs.«01_k».proof.Defs
public import proofs.«01_k».proof.Proof.Gen.WindowIdeal.Value
public import proofs.«01_k».proof.Proof.OfWindowLoop
public import Idealize.ShloMosaic.Lib.Quiescent
public import Idealize.ShloMosaic.Lib.Tactic
public import Idealize.ShloMosaic.Lib.Pointwise
public import Idealize.ShloMosaic.Lib.Pipeline.ValueKit
public import Idealize.ShloMosaic.Lib.Pipeline.ReadBack

@[expose] public section

set_option maxRecDepth 65536

noncomputable section

namespace Cert.OfWindow

open Idealize.ShloMosaic Idealize.ShloMosaic.TcCoe Idealize.SL.Sem
open Cert.WindowIdeal Cert.WindowIdeal.Gen Cert.WindowMath

variable (m : (ℓ : Loc nD τ sig) → Buf (Elt Ideal) ℓ) (c : Dev nD)

/-- The queries of a point, turned. -/
def qAt (t : Fin cfg0.N) : Vec Ideal S4096x128 .f32 := k0_pay28 (iblk m c 0 t) (k0_pay25 (iblk m c 4 t)) (k0_pay26 (iblk m c 0 t) (iblk m c 3 t)) k0_pay27
/-- The first sink of a point. -/
def sink0 (t : Fin cfg0.N) : FVec Ideal S1x1 .f32 := k0_pay32 (View.ld (iblk m c 5 t) (Rect.unit (s := S16x128) (k0_off1 (grid0.coords t)) ![1, 128] (by revert t; decide +kernel)))
/-- The second sink of a point. -/
def sink1 (t : Fin cfg0.N) : FVec Ideal S1x1 .f32 := k0_pay33 (View.ld (iblk m c 5 t) (Rect.unit (s := S16x128) (k0_off2 (grid0.coords t)) ![1, 128] (by revert t; decide +kernel)))
/-- The keys held after a point. -/
def kAt (t : Fin cfg0.N) : Vec Ideal S4096x128 .f32 := (outsAt0 m c t.val t.isLt).2.2.1
/-- The values held after a point. -/
def vAt (t : Fin cfg0.N) : Vec Ideal S4096x128 .f32 := (outsAt0 m c t.val t.isLt).2.2.2.1
/-- The masks held after a point. -/
def bAt (t : Fin cfg0.N) : Vec Ideal S2x256x256 .f32 := (outsAt0 m c t.val t.isLt).2.2.2.2

theorem y_B (t : Fin cfg0.N) (h0 : ¬ t.val % 4 = 0) (h1 : ¬ t.val % 8 = 0) (y : S4096x128.Idx) :
    (outsAt0 m c t.val t.isLt).1 y = pY (qAt m c t) (kAt m c t) (vAt m c t) (bAt m c t) (sink0 m c t) (sink1 m c t) y := by
  unfold kAt vAt bAt
  rw [outsAt0_B m c t h0 h1]
  dsimp only
  unfold out0_B_6 sout0_B_1 sout0_B_2 sout0_B_3
  refine (congrFun (View.read_writes_junk_eq_canon VO0_6 _) y).trans ?_
  refine View.canon_apply_of_pieces (Val := Elt Ideal) (pY (qAt m c t) _ _ _ (sink0 m c t) (sink1 m c t)) _ ?_ y (cover0_B_6 ..)
  unfold kernelRun0_B
  dsimp only
  rw [show kernelRun0_B.sl.r_3 c (grid0.coords t) (ms0_5 t) (hs0_5 t) (iblk m c 5 t) = sink0 m c t by frame_out; rfl,
    show kernelRun0_B.sl.r_4 c (grid0.coords t) (ms0_5 t) (hs0_5 t) (iblk m c 5 t) = sink1 m c t by frame_out; rfl]
  refine pieces_y _ _ _ _ _ _ _ _ _ _ _ _ _ _ _ _ _ _ _ _ _ _ _ _ _ _ _ _ _ _ _ _ _ _ _ _ ?_ ((Memref.isWhole_whole _).read_unread _) ((Memref.isWhole_whole _).read_unread _) ((Memref.isWhole_whole _).read_unread _) _ le_rfl
  show (View.whole cc0_scratch0).read (Elt Ideal) _ = _
  rw [View.read_writes_junk_eq_canon (View.whole cc0_scratch0)]
  frame_out
  exact View.canon_cons_unit_lit' (Val := Elt Ideal) (S := S4096x128) _ _ _ (Fin.forall_fin_two.2 ⟨rfl, rfl⟩)
theorem l_B (t : Fin cfg0.N) (h0 : ¬ t.val % 4 = 0) (h1 : ¬ t.val % 8 = 0) (y : S4096x128.Idx) :
    (outsAt0 m c t.val t.isLt).2.1 y = pL (qAt m c t) (kAt m c t) (bAt m c t) (sink0 m c t) (sink1 m c t) y := by
  unfold kAt bAt
  rw [outsAt0_B m c t h0 h1]
  dsimp only
  unfold out0_B_7 sout0_B_1 sout0_B_3
  refine (congrFun (View.read_writes_junk_eq_canon VO0_7 _) y).trans ?_
  refine View.canon_apply_of_pieces (Val := Elt Ideal) (pL (qAt m c t) _ _ (sink0 m c t) (sink1 m c t)) _ ?_ y (cover0_B_7 ..)
  unfold kernelRun0_B
  dsimp only
  rw [show kernelRun0_B.sl.r_3 c (grid0.coords t) (ms0_5 t) (hs0_5 t) (iblk m c 5 t) = sink0 m c t by frame_out; rfl,
    show kernelRun0_B.sl.r_4 c (grid0.coords t) (ms0_5 t) (hs0_5 t) (iblk m c 5 t) = sink1 m c t by frame_out; rfl]
  refine pieces_l _ _ _ _ _ _ _ _ _ _ _ _ _ _ _ _ _ _ _ _ _ _ _ _ _ _ _ _ _ _ _ _ _ _ _ _ ?_ ((Memref.isWhole_whole _).read_unread _) ((Memref.isWhole_whole _).read_unread _) ((Memref.isWhole_whole _).read_unread _) _ le_rfl
  show (View.whole cc0_scratch0).read (Elt Ideal) _ = _
  rw [View.read_writes_junk_eq_canon (View.whole cc0_scratch0)]
  frame_out
  exact View.canon_cons_unit_lit' (Val := Elt Ideal) (S := S4096x128) _ _ _ (Fin.forall_fin_two.2 ⟨rfl, rfl⟩)
theorem y_C (t : Fin cfg0.N) (h0 : t.val % 4 = 0) (h1 : ¬ t.val % 8 = 0) (y : S4096x128.Idx) :
    (outsAt0 m c t.val t.isLt).1 y = pY (qAt m c t) (kAt m c t) (vAt m c t) (bAt m c t) (sink0 m c t) (sink1 m c t) y := by
  unfold kAt vAt bAt
  rw [outsAt0_C m c t h0 h1]
  dsimp only
  unfold out0_C_6 sout0_C_1 sout0_C_2 sout0_C_3
  refine (congrFun (View.read_writes_junk_eq_canon VO0_6 _) y).trans ?_
  refine View.canon_apply_of_pieces (Val := Elt Ideal) (pY (qAt m c t) _ _ _ (sink0 m c t) (sink1 m c t)) _ ?_ y (cover0_C_6 ..)
  unfold kernelRun0_C
  dsimp only
  rw [show kernelRun0_C.sl.r_3 c (grid0.coords t) (ms0_5 t) (hs0_5 t) (iblk m c 5 t) = sink0 m c t by frame_out; rfl,
    show kernelRun0_C.sl.r_4 c (grid0.coords t) (ms0_5 t) (hs0_5 t) (iblk m c 5 t) = sink1 m c t by frame_out; rfl]
  refine pieces_y _ _ _ _ _ _ _ _ _ _ _ _ _ _ _ _ _ _ _ _ _ _ _ _ _ _ _ _ _ _ _ _ _ _ _ _ ?_ (rfl) (rfl) ((Memref.isWhole_whole _).read_unread _) _ le_rfl
  show (View.whole cc0_scratch0).read (Elt Ideal) _ = _
  rw [View.read_writes_junk_eq_canon (View.whole cc0_scratch0)]
  frame_out
  exact View.canon_cons_unit_lit' (Val := Elt Ideal) (S := S4096x128) _ _ _ (Fin.forall_fin_two.2 ⟨rfl, rfl⟩)
theorem l_C (t : Fin cfg0.N) (h0 : t.val % 4 = 0) (h1 : ¬ t.val % 8 = 0) (y : S4096x128.Idx) :
    (outsAt0 m c t.val t.isLt).2.1 y = pL (qAt m c t) (kAt m c t) (bAt m c t) (sink0 m c t) (sink1 m c t) y := by
  unfold kAt bAt
  rw [outsAt0_C m c t h0 h1]
  dsimp only
  unfold out0_C_7 sout0_C_1 sout0_C_3
  refine (congrFun (View.read_writes_junk_eq_canon VO0_7 _) y).trans ?_
  refine View.canon_apply_of_pieces (Val := Elt Ideal) (pL (qAt m c t) _ _ (sink0 m c t) (sink1 m c t)) _ ?_ y (cover0_C_7 ..)
  unfold kernelRun0_C
  dsimp only
  rw [show kernelRun0_C.sl.r_3 c (grid0.coords t) (ms0_5 t) (hs0_5 t) (iblk m c 5 t) = sink0 m c t by frame_out; rfl,
    show kernelRun0_C.sl.r_4 c (grid0.coords t) (ms0_5 t) (hs0_5 t) (iblk m c 5 t) = sink1 m c t by frame_out; rfl]
  refine pieces_l _ _ _ _ _ _ _ _ _ _ _ _ _ _ _ _ _ _ _ _ _ _ _ _ _ _ _ _ _ _ _ _ _ _ _ _ ?_ (rfl) (rfl) ((Memref.isWhole_whole _).read_unread _) _ le_rfl
  show (View.whole cc0_scratch0).read (Elt Ideal) _ = _
  rw [View.read_writes_junk_eq_canon (View.whole cc0_scratch0)]
  frame_out
  exact View.canon_cons_unit_lit' (Val := Elt Ideal) (S := S4096x128) _ _ _ (Fin.forall_fin_two.2 ⟨rfl, rfl⟩)
theorem y_A (t : Fin cfg0.N) (h0 : t.val % 4 = 0) (h1 : t.val % 8 = 0) (y : S4096x128.Idx) :
    (outsAt0 m c t.val t.isLt).1 y = pY (qAt m c t) (kAt m c t) (vAt m c t) (bAt m c t) (sink0 m c t) (sink1 m c t) y := by
  unfold kAt vAt bAt
  rw [outsAt0_A m c t h0 h1]
  dsimp only
  unfold out0_A_6 sout0_A_1 sout0_A_2 sout0_A_3
  refine (congrFun (View.read_writes_junk_eq_canon VO0_6 _) y).trans ?_
  refine View.canon_apply_of_pieces (Val := Elt Ideal) (pY (qAt m c t) _ _ _ (sink0 m c t) (sink1 m c t)) _ ?_ y (cover0_A_6 ..)
  unfold kernelRun0_A
  dsimp only
  rw [show kernelRun0_A.sl.r_3 c (grid0.coords t) (ms0_5 t) (hs0_5 t) (iblk m c 5 t) = sink0 m c t by frame_out; rfl,
    show kernelRun0_A.sl.r_4 c (grid0.coords t) (ms0_5 t) (hs0_5 t) (iblk m c 5 t) = sink1 m c t by frame_out; rfl]
  refine pieces_y _ _ _ _ _ _ _ _ _ _ _ _ _ _ _ _ _ _ _ _ _ _ _ _ _ _ _ _ _ _ _ _ _ _ _ _ ?_ (rfl) (rfl) (rfl) _ le_rfl
  show (View.whole cc0_scratch0).read (Elt Ideal) _ = _
  rw [View.read_writes_junk_eq_canon (View.whole cc0_scratch0)]
  frame_out
  exact View.canon_cons_unit_lit' (Val := Elt Ideal) (S := S4096x128) _ _ _ (Fin.forall_fin_two.2 ⟨rfl, rfl⟩)
theorem l_A (t : Fin cfg0.N) (h0 : t.val % 4 = 0) (h1 : t.val % 8 = 0) (y : S4096x128.Idx) :
    (outsAt0 m c t.val t.isLt).2.1 y = pL (qAt m c t) (kAt m c t) (bAt m c t) (sink0 m c t) (sink1 m c t) y := by
  unfold kAt bAt
  rw [outsAt0_A m c t h0 h1]
  dsimp only
  unfold out0_A_7 sout0_A_1 sout0_A_3
  refine (congrFun (View.read_writes_junk_eq_canon VO0_7 _) y).trans ?_
  refine View.canon_apply_of_pieces (Val := Elt Ideal) (pL (qAt m c t) _ _ (sink0 m c t) (sink1 m c t)) _ ?_ y (cover0_A_7 ..)
  unfold kernelRun0_A
  dsimp only
  rw [show kernelRun0_A.sl.r_3 c (grid0.coords t) (ms0_5 t) (hs0_5 t) (iblk m c 5 t) = sink0 m c t by frame_out; rfl,
    show kernelRun0_A.sl.r_4 c (grid0.coords t) (ms0_5 t) (hs0_5 t) (iblk m c 5 t) = sink1 m c t by frame_out; rfl]
  refine pieces_l _ _ _ _ _ _ _ _ _ _ _ _ _ _ _ _ _ _ _ _ _ _ _ _ _ _ _ _ _ _ _ _ _ _ _ _ ?_ (rfl) (rfl) (rfl) _ le_rfl
  show (View.whole cc0_scratch0).read (Elt Ideal) _ = _
  rw [View.read_writes_junk_eq_canon (View.whole cc0_scratch0)]
  frame_out
  exact View.canon_cons_unit_lit' (Val := Elt Ideal) (S := S4096x128) _ _ _ (Fin.forall_fin_two.2 ⟨rfl, rfl⟩)

/-- The group of heads a point serves, as the kernel writes it. -/
def word (t : Fin cfg0.N) : BitVec 32 := BitVec.ofNat 32 (t.val / 4)

/-- The same, as the point works it out. -/
def half (t : Fin cfg0.N) : BitVec 32 :=
  Scalar.select (Scalar.andi (Scalar.cmpi CmpIPredicate.ne
      (Scalar.subi (Scalar.extui (Scalar.cmpi CmpIPredicate.sgt (BitVec.ofNat 32 ↑(grid0.coords t 0)) 0#32))
        (Scalar.extui (Scalar.cmpi CmpIPredicate.slt (BitVec.ofNat 32 ↑(grid0.coords t 0)) 0#32))) 1#32)
      (Scalar.cmpi CmpIPredicate.ne (Scalar.remsi (BitVec.ofNat 32 ↑(grid0.coords t 0)) 4#32) 0#32))
    (Scalar.subi (Scalar.divsi (BitVec.ofNat 32 ↑(grid0.coords t 0)) 4#32) 1#32) (Scalar.divsi (BitVec.ofNat 32 ↑(grid0.coords t 0)) 4#32)

theorem half_eq : ∀ t : Fin cfg0.N, half t = word t := by decide +kernel

theorem k_A (t : Fin cfg0.N) (h0 : t.val % 4 = 0) (h1 : t.val % 8 = 0) : kAt m c t = k0_pay29 (k0_pay3 (word t) (iblk m c 1 t) (iblk m c 3 t) (iblk m c 4 t)) := by
  unfold kAt
  rw [outsAt0_A m c t h0 h1]
  dsimp only
  unfold sout0_A_1
  frame_out
  show k0_pay29 (k0_pay3 (half t) (iblk m c 1 t) (iblk m c 3 t) (iblk m c 4 t)) = _
  rw [half_eq]
theorem v_A (t : Fin cfg0.N) (h0 : t.val % 4 = 0) (h1 : t.val % 8 = 0) : vAt m c t = k0_pay30 (word t) (iblk m c 2 t) := by
  unfold vAt
  rw [outsAt0_A m c t h0 h1]
  dsimp only
  unfold sout0_A_2
  frame_out
  show k0_pay30 (half t) (iblk m c 2 t) = _
  rw [half_eq]
theorem k_C (t : Fin cfg0.N) (h0 : t.val % 4 = 0) (h1 : ¬ t.val % 8 = 0) : kAt m c t = k0_pay29 (k0_pay3 (word t) (iblk m c 1 t) (iblk m c 3 t) (iblk m c 4 t)) := by
  unfold kAt
  rw [outsAt0_C m c t h0 h1]
  dsimp only
  unfold sout0_C_1
  frame_out
  show k0_pay29 (k0_pay3 (half t) (iblk m c 1 t) (iblk m c 3 t) (iblk m c 4 t)) = _
  rw [half_eq]
theorem v_C (t : Fin cfg0.N) (h0 : t.val % 4 = 0) (h1 : ¬ t.val % 8 = 0) : vAt m c t = k0_pay30 (word t) (iblk m c 2 t) := by
  unfold vAt
  rw [outsAt0_C m c t h0 h1]
  dsimp only
  unfold sout0_C_2
  frame_out
  show k0_pay30 (half t) (iblk m c 2 t) = _
  rw [half_eq]
theorem b_A (t : Fin cfg0.N) (h0 : t.val % 4 = 0) (h1 : t.val % 8 = 0) : bAt m c t = k0_pay31 (F := Ideal) := by
  unfold bAt
  rw [outsAt0_A m c t h0 h1]
  dsimp only
  unfold sout0_A_3
  frame_out
theorem b_C (t : Fin cfg0.N) (h0 : t.val % 4 = 0) (h1 : ¬ t.val % 8 = 0) : bAt m c t = bAt m c ⟨t.val - 1, Nat.lt_of_le_of_lt (Nat.sub_le _ _) t.isLt⟩ := by
  unfold bAt
  rw [outsAt0_C m c t h0 h1]
  rfl
theorem b_B (t : Fin cfg0.N) (h0 : ¬ t.val % 4 = 0) (h1 : ¬ t.val % 8 = 0) : bAt m c t = bAt m c ⟨t.val - 1, Nat.lt_of_le_of_lt (Nat.sub_le _ _) t.isLt⟩ := by
  unfold bAt
  rw [outsAt0_B m c t h0 h1]
  rfl
theorem k_B (t : Fin cfg0.N) (h0 : ¬ t.val % 4 = 0) (h1 : ¬ t.val % 8 = 0) : kAt m c t = kAt m c ⟨t.val - 1, Nat.lt_of_le_of_lt (Nat.sub_le _ _) t.isLt⟩ := by
  unfold kAt
  rw [outsAt0_B m c t h0 h1]
  rfl
theorem v_B (t : Fin cfg0.N) (h0 : ¬ t.val % 4 = 0) (h1 : ¬ t.val % 8 = 0) : vAt m c t = vAt m c ⟨t.val - 1, Nat.lt_of_le_of_lt (Nat.sub_le _ _) t.isLt⟩ := by
  unfold vAt
  rw [outsAt0_B m c t h0 h1]
  rfl
end Cert.OfWindow

end
-- ==== Proof.OfWindowHost.lean ====
module

public import proofs.«01_k».proof.Defs
public import proofs.«01_k».proof.Proof.Gen.WindowIdeal.Value
public import Idealize.ShloMosaic.Lib.StableHlo.ReadAt
public import proofs.«01_k».proof.Proof.Gen.RefWindowIdeal.Read
public import Idealize.ShloMosaic.Lib.Quiescent
public import Idealize.ShloMosaic.Lib.Tactic
public import Idealize.ShloMosaic.Lib.Pointwise
public import Idealize.ShloMosaic.Lib.Pipeline.ValueKit
public import Idealize.ShloMosaic.Lib.Pipeline.ReadBack

@[expose] public section

set_option maxRecDepth 65536

noncomputable section

namespace Cert.OfWindow

open Idealize.ShloMosaic Idealize.ShloMosaic.TcCoe Idealize.SL.Sem
open Cert.WindowIdeal Cert.WindowIdeal.Gen

variable (m : (ℓ : Loc nD τ sig) → Buf (Elt Ideal) ℓ) (c : Dev nD)

/-- The positions. -/
def pos : Vec Ideal S4096 .i32 := m ((c : Thread nD τ).loc main_arg1)
/-- The activations. -/
def act : Vec Ideal S4096x4352 .f32 := m ((c : Thread nD τ).loc main_arg0)
/-- The sinks. -/
def snk : Vec Ideal S16 .f32 := m ((c : Thread nD τ).loc main_arg2)
/-- The cosine of row `r`'s angle `f`. -/
def cosOf (p : Vec Ideal S4096 .i32) (r : Fin 4096) (f : Fin 8) : EReal := RefWindowIdeal.Read.val_main_v16 (F := Ideal) p (ix2 r f)
/-- The sine of row `r`'s angle `f`. -/
def sinOf (p : Vec Ideal S4096 .i32) (r : Fin 4096) (f : Fin 8) : EReal := RefWindowIdeal.Read.val_main_v18 (F := Ideal) p (ix2 r f)

/-- The table the rows are multiplied by. -/
def tabC : S4096x128.Idx → EReal := V m c main_v26
/-- The table the shifted rows are multiplied by. -/
def tabS : S4096x128.Idx → EReal := V m c main_v29
/-- The sinks, one to a row. -/
def tabK : S16x128.Idx → EReal := V m c main_v31

theorem tabC_at (r : Fin 4096) (l : Fin 128) : tabC m c (ix2 r l) =
    if h : l.val % 64 < 8 then cosOf (pos m c) r ⟨l.val % 64, h⟩
    else if h' : l.val % 64 - 8 < 8 then cosOf (pos m c) r ⟨l.val % 64 - 8, h'⟩ else 1 := by
  unfold tabC V
  after_reads_at
  split
  · after_reads_simp
    rfl
  · split
    · after_reads_simp
      rfl
    · after_reads_at
theorem tabS_at (r : Fin 4096) (l : Fin 128) : tabS m c (ix2 r l) =
    if h : l.val % 64 < 8 then - sinOf (pos m c) r ⟨l.val % 64, h⟩
    else if h' : l.val % 64 - 8 < 8 then sinOf (pos m c) r ⟨l.val % 64 - 8, h'⟩ else 0 := by
  unfold tabS V
  after_reads_at
  split
  · after_reads_simp
    rfl
  · split
    · after_reads_simp
      rfl
    · after_reads_at
theorem tabK_at (r : Fin 16) (l : Fin 128) : tabK m c (ix2 r l) = snk m c (ix1 r) := by
  unfold tabK V
  after_reads_at
  rfl
end Cert.OfWindow

end
-- ==== Proof.OfWindowTurn.lean ====
module

public import proofs.«01_k».proof.Defs
public import proofs.«01_k».proof.Proof.Gen.WindowIdeal.Value
public import Idealize.ShloMosaic.Lib.Quiescent
public import Idealize.ShloMosaic.Lib.Tactic
public import Idealize.ShloMosaic.Lib.Pointwise
public import Idealize.ShloMosaic.Lib.Pipeline.ValueKit
public import Idealize.ShloMosaic.Lib.Pipeline.ReadBack

@[expose] public section

set_option maxRecDepth 65536

noncomputable section

namespace Cert.OfWindow

open Idealize.ShloMosaic Idealize.ShloMosaic.TcCoe Idealize.SL.Sem
open Cert.WindowIdeal Cert.WindowIdeal.Gen

section
variable (x cc ss : S4096x128.Idx → EReal)

/-- A row turned, by the two tables. -/
def rot (r : Fin 4096) (l : Fin 128) : EReal :=
  x (ix2 r l) * cc (ix2 r l) + (if l.val % 64 < 8 then x (ix2 r ⟨(l.val + 8) % 128, by omega⟩) else x (ix2 r ⟨(l.val + 120) % 128, by omega⟩)) * ss (ix2 r l)

/-- The lane the group's values come from. -/
def laneOf (g : ℕ) (l : Fin 128) : Fin 128 := ⟨(g * 64 + l.val % 64) % 128, by omega⟩

/-- Whether a lane is below the eighth of its head, as the kernel works it out. -/
def early (w : BitVec 32) : BitVec 1 :=
  IntOp.cmpi CmpIPredicate.slt
    (Scalar.select
      (IntOp.andi
        (IntOp.xori
          (IntOp.cmpi CmpIPredicate.slt (IntOp.remsi ArithUnit.vector w (Scalar.select (Scalar.cmpi CmpIPredicate.eq 64#32 0#32) 1#32 64#32)) 0#32)
          (Scalar.cmpi CmpIPredicate.slt (Scalar.select (Scalar.cmpi CmpIPredicate.eq 64#32 0#32) 1#32 64#32) 0#32))
        (IntOp.cmpi CmpIPredicate.ne (IntOp.remsi ArithUnit.vector w (Scalar.select (Scalar.cmpi CmpIPredicate.eq 64#32 0#32) 1#32 64#32)) 0#32))
      (IntOp.addi (IntOp.remsi ArithUnit.vector w (Scalar.select (Scalar.cmpi CmpIPredicate.eq 64#32 0#32) 1#32 64#32))
        (Scalar.select (Scalar.cmpi CmpIPredicate.eq 64#32 0#32) 1#32 64#32))
      (IntOp.remsi ArithUnit.vector w (Scalar.select (Scalar.cmpi CmpIPredicate.eq 64#32 0#32) 1#32 64#32)))
    8#32

theorem early_eq : ∀ l : Fin 128, early (BitVec.ofNat 32 l.val) = if l.val % 64 < 8 then 1#1 else 0#1 := by decide +kernel

/-- A row turned, as the kernel works it out. -/
def rotW (r : Fin 4096) (l : Fin 128) : EReal :=
  x (ix2 r l) * cc (ix2 r l) + Scalar.select (early (BitVec.ofNat 32 l.val)) (x (ix2 r ⟨(l.val + 128 - 120) % 128, by omega⟩))
    (x (ix2 r ⟨(l.val + 128 - 8) % 128, by omega⟩)) * ss (ix2 r l)

theorem rotW_eq (r : Fin 4096) (l : Fin 128) : rotW x cc ss r l = rot x cc ss r l := by
  unfold rotW rot
  congr 2
  rw [early_eq]
  by_cases h : l.val % 64 < 8
  · rw [if_pos h, if_pos h]; rfl
  · rw [if_neg h, if_neg h]; rfl

theorem turned (r : Fin 4096) (l : Fin 128) :
    (k0_pay28 x (k0_pay25 ss) (k0_pay26 x cc) k0_pay27 : FVec Ideal S4096x128 .f32) (ix2 r l) = rot x cc ss r l := by
  rw [← rotW_eq]
  pointwise [k0_pay28, k0_pay25, k0_pay26, k0_pay27]
  rfl

/-- Whether a lane keeps its own, as the kernel works it out. -/
def keeps (g l : BitVec 32) : BitVec 1 :=
  IntOp.xori (IntOp.xori (IntOp.cmpi CmpIPredicate.slt l 64#32) (Scalar.cmpi CmpIPredicate.eq g 0#32)) 1#1

theorem keeps_eq : ∀ (g : Fin 2) (l : Fin 128), (keeps (BitVec.ofNat 32 g.val) (BitVec.ofNat 32 l.val) = 1#1 ∧ laneOf g.val l = l) ∨
    (keeps (BitVec.ofNat 32 g.val) (BitVec.ofNat 32 l.val) = 0#1 ∧ laneOf g.val l = ⟨(l.val + 128 - 64) % 128, by omega⟩) := by decide +kernel

theorem keeps_sel (g : Fin 2) (l : Fin 128) (f : Fin 128 → EReal) :
    Scalar.select (keeps (BitVec.ofNat 32 g.val) (BitVec.ofNat 32 l.val)) (f l) (f ⟨(l.val + 128 - 64) % 128, by omega⟩) = f (laneOf g.val l) := by
  rcases keeps_eq g l with ⟨h, e⟩ | ⟨h, e⟩ <;> rw [h, e] <;> rfl

theorem keys (g : Fin 2) (r : Fin 4096) (l : Fin 128) :
    (k0_pay29 (k0_pay3 (BitVec.ofNat 32 g.val) x cc ss) : FVec Ideal S4096x128 .f32) (ix2 r l) = rot x cc ss r (laneOf g.val l) := by
  rw [← rotW_eq, ← keeps_sel g l (rotW x cc ss r)]
  pointwise [k0_pay29, k0_pay3]
  rfl
theorem vals (g : Fin 2) (r : Fin 4096) (l : Fin 128) :
    (k0_pay30 (BitVec.ofNat 32 g.val) x : FVec Ideal S4096x128 .f32) (ix2 r l) = x (ix2 r (laneOf g.val l)) := by
  rw [← keeps_sel g l (fun l => x (ix2 r l))]
  pointwise [k0_pay30]
  rfl
end

/-- What the kernel adds to a score: nothing where the row sees the key, the named constant elsewhere. -/
def maskVal (w : Fin 2) (r k : Fin 256) : EReal :=
  if (w.val = 0 ∧ k.val < 128 ∧ k.val % 128 ≤ r.val % 128) ∨
    (w.val = 1 ∧ ((k.val < 128 ∧ r.val % 128 < k.val % 128) ∨ (¬ k.val < 128 ∧ k.val % 128 ≤ r.val % 128))) then 0 else ⊥

theorem key_word : ∀ k : Fin 256, Scalar.select (IntOp.cmpi CmpIPredicate.slt (BitVec.ofNat 32 k.val) 128#32) (BitVec.ofNat 32 k.val)
    (IntOp.subi (BitVec.ofNat 32 k.val) 128#32) = BitVec.ofNat 32 (k.val % 128) := by decide +kernel

theorem mask_bot : ((Named.named (F := Ideal) κ "mask" 4048155338#32 : Ideal .f32) : EReal) = ⊥ :=
  IdealRules.named_const.ideal_named_scalar _ _ _ _ rfl

/-- The masks of a row `q` of a block. -/
theorem mask_row (w : Fin 2) (q : ℕ) (hq : q < 128) (r k : Fin 256) (hr : r.val % 128 = q) :
    (if h : w.val < 1 then
      Scalar.select (IntOp.andi (IntOp.cmpi CmpIPredicate.slt (BitVec.ofNat 32 k.val) 128#32)
        (IntOp.cmpi CmpIPredicate.sle (Scalar.select (IntOp.cmpi CmpIPredicate.slt (BitVec.ofNat 32 k.val) 128#32) (BitVec.ofNat 32 k.val)
          (IntOp.subi (BitVec.ofNat 32 k.val) 128#32)) (BitVec.ofNat 32 q))) (0 : EReal) ⊥
    else
      Scalar.select (IntOp.ori (IntOp.andi (IntOp.cmpi CmpIPredicate.slt (BitVec.ofNat 32 k.val) 128#32)
          (IntOp.cmpi CmpIPredicate.sgt (Scalar.select (IntOp.cmpi CmpIPredicate.slt (BitVec.ofNat 32 k.val) 128#32) (BitVec.ofNat 32 k.val)
            (IntOp.subi (BitVec.ofNat 32 k.val) 128#32)) (BitVec.ofNat 32 q)))
        (IntOp.andi (IntOp.xori (IntOp.cmpi CmpIPredicate.slt (BitVec.ofNat 32 k.val) 128#32) 1#1)
          (IntOp.cmpi CmpIPredicate.sle (Scalar.select (IntOp.cmpi CmpIPredicate.slt (BitVec.ofNat 32 k.val) 128#32) (BitVec.ofNat 32 k.val)
            (IntOp.subi (BitVec.ofNat 32 k.val) 128#32)) (BitVec.ofNat 32 q)))) 0 ⊥) = maskVal w r k := by
  rw [key_word, WordCmp.cmpi_sle_ofNat (by omega) (by omega), WordCmp.cmpi_sgt_ofNat (by omega) (by omega), WordCmp.cmpi_slt_ofNat (by omega) (by omega)]
  unfold maskVal
  rw [hr]
  have hw := w.isLt
  rcases Nat.lt_or_ge w.val 1 with h | h
  · rw [dif_pos h]
    by_cases a : k.val < 128 <;> by_cases b : k.val % 128 ≤ q <;>
      simp [a, b, Scalar.select, IntOp.andi, show w.val = 0 by omega]
  · rw [dif_neg (by omega)]
    by_cases a : k.val < 128 <;> by_cases b : k.val % 128 ≤ q <;> by_cases d : q < k.val % 128 <;>
      simp [a, b, d, Scalar.select, IntOp.andi, IntOp.ori, IntOp.xori, show w.val = 1 by omega]

theorem masks (w : Fin 2) (r k : Fin 256) : (k0_pay31 : FVec Ideal S2x256x256 .f32) (ix3 w r k) = maskVal w r k := by
  by_cases h : r.val < 128
  · rw [← mask_row w r.val h r k (by omega), ← mask_bot]
    pointwise [k0_pay31]
    rw [dif_pos h]
  · rw [← mask_row w (r.val - 128) (by omega) r k (by omega), ← mask_bot]
    pointwise [k0_pay31]
    rw [dif_neg h]
end Cert.OfWindow

end
-- ==== Proof.OfWindowScore.lean ====
module

public import proofs.«01_k».proof.Defs
public import proofs.«01_k».proof.Proof.Gen.WindowIdeal.Value
public import proofs.«01_k».proof.Proof.OfWindowPoint
public import proofs.«01_k».proof.Proof.OfWindowHost
public import proofs.«01_k».proof.Proof.OfWindowTurn
public import Idealize.ShloMosaic.Lib.Quiescent
public import Idealize.ShloMosaic.Lib.Tactic
public import Idealize.ShloMosaic.Lib.Pointwise
public import Idealize.ShloMosaic.Lib.Pipeline.ValueKit
public import Idealize.ShloMosaic.Lib.Pipeline.ReadBack

@[expose] public section

set_option maxRecDepth 65536

noncomputable section

namespace Cert.OfWindow

open Idealize.ShloMosaic Idealize.ShloMosaic.TcCoe Idealize.SL.Sem
open Cert.WindowIdeal Cert.WindowIdeal.Gen Cert.WindowMath

/-- The first sixteen entries of a head turned by the angles: the pairs eight apart. -/
def rope (a : Fin 64 → EReal) (C S : Fin 8 → EReal) (d : Fin 64) : EReal :=
  if h : d.val < 8 then a d * C ⟨d.val, h⟩ - a ⟨d.val + 8, by omega⟩ * S ⟨d.val, h⟩
  else if h' : d.val - 8 < 8 then a d * C ⟨d.val - 8, h'⟩ + a ⟨d.val - 8, by omega⟩ * S ⟨d.val - 8, h'⟩ else a d

section spec
variable (x : S4096x4352.Idx → EReal) (p : Vec Ideal S4096 .i32) (s : S16.Idx → EReal)

/-- The queries: row `i`, head `h`. -/
def qOf (i : Fin 4096) (h : Fin 16) : Fin 64 → EReal := rope (fun d => x (ix2 i ⟨3072 + 64 * h.val + d.val, by omega⟩)) (cosOf p i) (sinOf p i)
/-- The keys: row `j`, group `g`. -/
def kOf (j : Fin 4096) (g : Fin 2) : Fin 64 → EReal := rope (fun d => x (ix2 j ⟨4096 + 64 * g.val + d.val, by omega⟩)) (cosOf p j) (sinOf p j)
/-- The values: row `j`, group `g`. -/
def vOf (j : Fin 4096) (g : Fin 2) (d : Fin 64) : EReal := x (ix2 j ⟨4224 + 64 * g.val + d.val, by omega⟩)
/-- The group a head belongs to. -/
def grp (h : Fin 16) : Fin 2 := ⟨h.val / 8, by omega⟩
/-- The score of row `i` against row `j`. -/
def score (h : Fin 16) (i j : Fin 4096) : EReal := (∑ d : Fin 64, qOf x p i h d * kOf x p j (grp h) d) * Ideal.ofBits .f32 0x3E000000#32
/-- The scores of row `i`: −∞ at the rows outside its window. -/
def scores (h : Fin 16) (i j : Fin 4096) : EReal := if j.val ≤ i.val ∧ i.val ≤ j.val + 127 then score x p h i j else ⊥
/-- The attention's output. -/
def attY (h : Fin 16) (i : Fin 4096) (d : Fin 64) : EReal := out (scores x p h i) (fun j => vOf x j (grp h) d) (s (ix1 h))
/-- The logarithm of the attention's denominator. -/
def attL (h : Fin 16) (i : Fin 4096) : EReal := lse (scores x p h i) (s (ix1 h))

theorem rot_eq (y cc ss : S4096x128.Idx → EReal) (r : Fin 4096) (l : Fin 128) (C S : Fin 8 → EReal)
    (hC : cc (ix2 r l) = if h : l.val % 64 < 8 then C ⟨l.val % 64, h⟩ else if h' : l.val % 64 - 8 < 8 then C ⟨l.val % 64 - 8, h'⟩ else 1)
    (hS : ss (ix2 r l) = if h : l.val % 64 < 8 then - S ⟨l.val % 64, h⟩ else if h' : l.val % 64 - 8 < 8 then S ⟨l.val % 64 - 8, h'⟩ else 0) :
    rot y cc ss r l = rope (fun d => y (ix2 r ⟨64 * (l.val / 64) + d.val, by omega⟩)) C S ⟨l.val % 64, by omega⟩ := by
  unfold rot rope
  have e : l = ⟨64 * (l.val / 64) + l.val % 64, by omega⟩ := Fin.ext (by dsimp only; omega)
  rw [hC, hS]
  dsimp only
  rw [← e]
  by_cases h : l.val % 64 < 8
  · rw [dif_pos h, dif_pos h, dif_pos h, if_pos h, mul_neg, ← sub_eq_add_neg]
    congr 5
    omega
  · rw [dif_neg h, dif_neg h, dif_neg h, if_neg h]
    by_cases h' : l.val % 64 - 8 < 8
    · rw [dif_pos h', dif_pos h', dif_pos h']
      congr 4
      exact Fin.ext (by dsimp only; omega)
    · rw [dif_neg h', dif_neg h', dif_neg h', mul_one, mul_zero, add_zero]
end spec

variable (m : (ℓ : Loc nD τ sig) → Buf (Elt Ideal) ℓ) (c : Dev nD)

/-- Where each point's blocks lie. -/
theorem index : ∀ t : Fin cfg0.N, win0_0.index t = ![0, 24 + t.val] ∧ win0_1.index t = ![0, 32] ∧ win0_2.index t = ![0, 33] ∧ win0_3.index t = ![0, 0] ∧
    win0_4.index t = ![0, 0] ∧ win0_5.index t = ![0, 0] ∧ win0_6.index t = ![0, t.val] ∧ win0_7.index t = ![0, t.val] :=
  (by decide +kernel : ∀ t : Fin grid0.N, _)

theorem blk0 (t : Fin cfg0.N) (r : Fin 4096) (l : Fin 128) (q) : iblk m c 0 t (ix2 r l) = act m c (ix2 r ⟨(24 + t.val) * 128 + l.val, q⟩) := by
  unfold act
  blk_ext [iblk, V_main_arg0, index t]
theorem blk1 (t : Fin cfg0.N) (r : Fin 4096) (l : Fin 128) : iblk m c 1 t (ix2 r l) = act m c (ix2 r ⟨4096 + l.val, by omega⟩) := by
  unfold act
  blk_ext [iblk, V_main_arg0, index t]
theorem blk2 (t : Fin cfg0.N) (r : Fin 4096) (l : Fin 128) : iblk m c 2 t (ix2 r l) = act m c (ix2 r ⟨4224 + l.val, by omega⟩) := by
  unfold act
  blk_ext [iblk, V_main_arg0, index t]
theorem blk3 (t : Fin cfg0.N) (r : Fin 4096) (l : Fin 128) : iblk m c 3 t (ix2 r l) = tabC m c (ix2 r l) := by
  unfold tabC
  blk_ext [iblk, index t]
theorem blk4 (t : Fin cfg0.N) (r : Fin 4096) (l : Fin 128) : iblk m c 4 t (ix2 r l) = tabS m c (ix2 r l) := by
  unfold tabS
  blk_ext [iblk, index t]
theorem blk5 (t : Fin cfg0.N) (r : Fin 16) (l : Fin 128) : iblk m c 5 t (ix2 r l) = tabK m c (ix2 r l) := by
  unfold tabK
  blk_ext [iblk, index t]

theorem rot_blk (y : S4096x128.Idx → EReal) (t : Fin cfg0.N) (r : Fin 4096) (l : Fin 128) :
    rot y (iblk m c 3 t) (iblk m c 4 t) r l
      = rope (fun d => y (ix2 r ⟨64 * (l.val / 64) + d.val, by omega⟩)) (cosOf (pos m c) r) (sinOf (pos m c) r) ⟨l.val % 64, by omega⟩ :=
  rot_eq y _ _ r l _ _ ((blk3 m c t r l).trans (tabC_at m c r l)) ((blk4 m c t r l).trans (tabS_at m c r l))

/-- The group a point serves. -/
def gAt (t : Fin cfg0.N) : Fin 2 := ⟨t.val / 4, by have h := t.isLt; have e : cfg0.N = 8 := N_0; omega⟩
/-- The head a lane belongs to. -/
def hAt (t : Fin cfg0.N) (l : Fin 128) : Fin 16 := ⟨2 * t.val + l.val / 64, by have h := t.isLt; have e : cfg0.N = 8 := N_0; omega⟩
/-- A lane's place in its head. -/
def dAt (l : Fin 128) : Fin 64 := ⟨l.val % 64, by omega⟩

theorem grp_hAt (t : Fin cfg0.N) (l : Fin 128) : grp (hAt t l) = gAt t := Fin.ext (by show (2 * t.val + l.val / 64) / 8 = t.val / 4; omega)

theorem q_at (t : Fin cfg0.N) (r : Fin 4096) (l : Fin 128) : qAt m c t (ix2 r l) = qOf (act m c) (pos m c) r (hAt t l) (dAt l) := by
  have hN : cfg0.N = 8 := N_0
  have ht := t.isLt
  refine (turned _ _ _ r l).trans ((rot_blk m c _ t r l).trans ?_)
  unfold qOf
  congr 1
  funext d
  refine (blk0 m c t r _ (by dsimp only; omega)).trans (congrArg (fun z => act m c (ix2 r z)) (Fin.ext ?_))
  show (24 + t.val) * 128 + (64 * (l.val / 64) + d.val) = 3072 + 64 * (2 * t.val + l.val / 64) + d.val
  omega

/-- What the keys' buffer holds when group `g` is served. -/
def keyBuf (g : Fin 2) (y : S4096x128.Idx) : EReal := kOf (act m c) (pos m c) (y 0) g (dAt (y 1))
/-- What the values' buffer holds when group `g` is served. -/
def valBuf (g : Fin 2) (y : S4096x128.Idx) : EReal := vOf (act m c) (y 0) g (dAt (y 1))

theorem key_new (t : Fin cfg0.N) : (k0_pay29 (k0_pay3 (word t) (iblk m c 1 t) (iblk m c 3 t) (iblk m c 4 t)) : FVec Ideal S4096x128 .f32) = keyBuf m c (gAt t) := by
  funext y
  obtain ⟨r, l, rfl⟩ : ∃ r l, y = ix2 r l := ⟨y 0, y 1, eq_ix2 y⟩
  refine (keys _ _ _ (gAt t) r l).trans ((rot_blk m c _ t r _).trans ?_)
  unfold keyBuf kOf
  have hg := (gAt t).isLt
  have e : (laneOf (gAt t).val l).val = (gAt t).val * 64 + l.val % 64 := by unfold laneOf; dsimp only; omega
  congr 1
  · funext d
    refine (blk1 m c t r _).trans (congrArg (fun z => act m c (ix2 r z)) (Fin.ext ?_))
    dsimp only
    omega
  · refine Fin.ext ?_
    show (laneOf (gAt t).val l).val % 64 = l.val % 64
    omega

theorem val_new (t : Fin cfg0.N) : (k0_pay30 (word t) (iblk m c 2 t) : FVec Ideal S4096x128 .f32) = valBuf m c (gAt t) := by
  funext y
  obtain ⟨r, l, rfl⟩ : ∃ r l, y = ix2 r l := ⟨y 0, y 1, eq_ix2 y⟩
  refine (vals _ (gAt t) r l).trans ((blk2 m c t r _).trans (congrArg (fun z => act m c (ix2 r z)) (Fin.ext ?_)))
  have hg := (gAt t).isLt
  show 4224 + ((gAt t).val * 64 + l.val % 64) % 128 = 4224 + 64 * (gAt t).val + l.val % 64
  omega

theorem held (n : ℕ) (hn : n < cfg0.N) : kAt m c ⟨n, hn⟩ = keyBuf m c (gAt ⟨n, hn⟩) ∧ vAt m c ⟨n, hn⟩ = valBuf m c (gAt ⟨n, hn⟩) ∧
    bAt m c ⟨n, hn⟩ = k0_pay31 (F := Ideal) := by
  induction n with
  | zero => exact ⟨(k_A m c _ rfl rfl).trans (key_new m c _), (v_A m c _ rfl rfl).trans (val_new m c _), b_A m c _ rfl rfl⟩
  | succ n ih =>
    obtain ⟨i1, i2, i3⟩ := ih (Nat.lt_of_succ_lt hn)
    have hN : cfg0.N = 8 := N_0
    by_cases h0 : (n + 1) % 4 = 0
    · have h1 : ¬ (n + 1) % 8 = 0 := by omega
      exact ⟨(k_C m c ⟨n + 1, hn⟩ h0 h1).trans (key_new m c _), (v_C m c ⟨n + 1, hn⟩ h0 h1).trans (val_new m c _), (b_C m c ⟨n + 1, hn⟩ h0 h1).trans i3⟩
    · have h1 : ¬ (n + 1) % 8 = 0 := by omega
      have e : gAt ⟨n + 1, hn⟩ = gAt ⟨n, Nat.lt_of_succ_lt hn⟩ := Fin.ext (by show (n + 1) / 4 = n / 4; omega)
      rw [e]
      exact ⟨(k_B m c ⟨n + 1, hn⟩ h0 h1).trans i1, (v_B m c ⟨n + 1, hn⟩ h0 h1).trans i2, (b_B m c ⟨n + 1, hn⟩ h0 h1).trans i3⟩

theorem out_y (t : Fin cfg0.N) (y : S4096x128.Idx) :
    (outsAt0 m c t.val t.isLt).1 y = pY (qAt m c t) (keyBuf m c (gAt t)) (valBuf m c (gAt t)) (k0_pay31 (F := Ideal)) (sink0 m c t) (sink1 m c t) y := by
  obtain ⟨i1, i2, i3⟩ := held m c t.val t.isLt
  rw [← i1, ← i2, ← i3]
  by_cases h0 : t.val % 4 = 0
  · by_cases h1 : t.val % 8 = 0
    · exact y_A m c t h0 h1 y
    · exact y_C m c t h0 h1 y
  · exact y_B m c t h0 (by omega) y
theorem out_l (t : Fin cfg0.N) (y : S4096x128.Idx) :
    (outsAt0 m c t.val t.isLt).2.1 y = pL (qAt m c t) (keyBuf m c (gAt t)) (k0_pay31 (F := Ideal)) (sink0 m c t) (sink1 m c t) y := by
  obtain ⟨i1, i2, i3⟩ := held m c t.val t.isLt
  rw [← i1, ← i3]
  by_cases h0 : t.val % 4 = 0
  · by_cases h1 : t.val % 8 = 0
    · exact l_A m c t h0 h1 y
    · exact l_C m c t h0 h1 y
  · exact l_B m c t h0 (by omega) y

/-- A sum over the lanes of two heads, one of them masked out. -/
theorem half_sum (f g : Fin 128 → EReal) (l : Fin 128) :
    (∑ x : Fin 128, (if l.val < 64 then (if x.val < 64 then f x else 0) else (if x.val < 64 then 0 else f x)) * g x)
      = ∑ d : Fin 64, f ⟨64 * (l.val / 64) + d.val, by omega⟩ * g ⟨64 * (l.val / 64) + d.val, by omega⟩ := by
  rw [show (∑ x : Fin 128, (if l.val < 64 then (if x.val < 64 then f x else 0) else (if x.val < 64 then 0 else f x)) * g x)
    = _ from Fin.sum_univ_add (a := 64) (b := 64) _]
  by_cases h : l.val < 64
  · have e : l.val / 64 = 0 := by omega
    simp only [h, if_true, Fin.val_castAdd, Fin.val_natAdd, Fin.is_lt]
    rw [Finset.sum_eq_zero (s := Finset.univ) (f := fun i : Fin 64 => (if 64 + i.val < 64 then f (Fin.natAdd 64 i) else 0) * g (Fin.natAdd 64 i))
      fun d _ => by rw [if_neg (by omega), zero_mul], add_zero]
    refine Finset.sum_congr rfl fun d _ => ?_
    congr 2 <;> exact Fin.ext (by show d.val = 64 * (l.val / 64) + d.val; omega)
  · have e : l.val / 64 = 1 := by omega
    simp only [h, if_false, Fin.val_castAdd, Fin.val_natAdd, Fin.is_lt, if_true, zero_mul, Finset.sum_const_zero, zero_add]
    refine Finset.sum_congr rfl fun d _ => ?_
    rw [if_neg (by omega)]
    congr 2 <;> exact Fin.ext (by show 64 + d.val = 64 * (l.val / 64) + d.val; omega)

theorem pscore_at (t : Fin cfg0.N) (i : Fin 4096) (l : Fin 128) (k : Fin 256) :
    pScore (qAt m c t) (keyBuf m c (gAt t)) (k0_pay31 (F := Ideal)) i l k = scores (act m c) (pos m c) (hAt t l) i (keyOf i k) := by
  have hN : cfg0.N = 8 := N_0
  have ht := t.isLt
  unfold pScore
  rw [half_sum (fun x => qAt m c t (ix2 i x)) (fun x => keyBuf m c (gAt t) (ix2 (keyOf i k) x)), masks]
  have e : (∑ d : Fin 64, qAt m c t (ix2 i ⟨64 * (l.val / 64) + d.val, by omega⟩) * keyBuf m c (gAt t) (ix2 (keyOf i k) ⟨64 * (l.val / 64) + d.val, by omega⟩))
      = ∑ d : Fin 64, qOf (act m c) (pos m c) i (hAt t l) d * kOf (act m c) (pos m c) (keyOf i k) (grp (hAt t l)) d := by
    refine Finset.sum_congr rfl fun d _ => ?_
    have ed : dAt ⟨64 * (l.val / 64) + d.val, by omega⟩ = d := Fin.ext (by show (64 * (l.val / 64) + d.val) % 64 = d.val; omega)
    have eh : hAt t ⟨64 * (l.val / 64) + d.val, by omega⟩ = hAt t l :=
      Fin.ext (by show 2 * t.val + (64 * (l.val / 64) + d.val) / 64 = 2 * t.val + l.val / 64; omega)
    rw [q_at, grp_hAt, ed, eh]
    show _ * kOf (act m c) (pos m c) (keyOf i k) (gAt t) (dAt ⟨64 * (l.val / 64) + d.val, _⟩) = _
    rw [ed]
  refine (congrArg (fun z => z * Ideal.ofBits .f32 0x3E000000#32 + maskVal (maskOf i) (rowOf (inBlock i) l) k) e).trans ?_
  show score (act m c) (pos m c) (hAt t l) i (keyOf i k) + _ = _
  unfold scores maskVal
  have hr : (rowOf (inBlock i) l).val % 128 = i.val % 128 := by
    unfold rowOf inBlock
    split <;> (dsimp only; omega)
  have hm : (maskOf i).val = min (i.val / 128) 1 := rfl
  have hk : (keyOf i k).val = (i.val / 128 - 1) * 128 + k.val := rfl
  rw [hr, hm, hk]
  have hi := i.isLt
  have hk' := k.isLt
  by_cases h : (i.val / 128 - 1) * 128 + k.val ≤ i.val ∧ i.val ≤ (i.val / 128 - 1) * 128 + k.val + 127
  · rw [if_pos h, if_pos (by omega), add_zero]
  · rw [if_neg h, if_neg (by omega), EReal.add_bot]

theorem sink_at (t : Fin cfg0.N) (l : Fin 128) : pSink (sink0 m c t) (sink1 m c t) l = snk m c (ix1 (hAt t l)) := by
  have hN : cfg0.N = 8 := N_0
  have ht := t.isLt
  have o : ∀ t : Fin cfg0.N, k0_off1 (grid0.coords t) = ![2 * t.val, 0] ∧ k0_off2 (grid0.coords t) = ![2 * t.val + 1, 0] := by decide +kernel
  unfold pSink
  by_cases h : l.val < 64
  · rw [if_pos h]
    unfold sink0
    pointwise [k0_pay32]
    refine (blk5 m c t _ _).trans ((tabK_at m c _ _).trans (congrArg (fun z => snk m c (ix1 z)) (Fin.ext ?_)))
    show k0_off1 (grid0.coords t) 0 = 2 * t.val + l.val / 64
    rw [(o t).1]
    show 2 * t.val = 2 * t.val + l.val / 64
    omega
  · rw [if_neg h]
    unfold sink1
    pointwise [k0_pay33]
    refine (blk5 m c t _ _).trans ((tabK_at m c _ _).trans (congrArg (fun z => snk m c (ix1 z)) (Fin.ext ?_)))
    show k0_off2 (grid0.coords t) 0 = 2 * t.val + l.val / 64
    rw [(o t).2]
    show 2 * t.val + 1 = 2 * t.val + l.val / 64
    omega

theorem key_inj (i : Fin 4096) : Function.Injective (keyOf i) := fun a b h => by
  have := congrArg Fin.val h
  refine Fin.ext ?_
  unfold keyOf at this
  dsimp only at this
  omega

theorem off_window (x : S4096x4352.Idx → EReal) (p : Vec Ideal S4096 .i32) (h : Fin 16) (i j : Fin 4096) (hj : ∀ k, keyOf i k ≠ j) :
    scores x p h i j = ⊥ := by
  refine if_neg fun ⟨a, b⟩ => ?_
  have hi := i.isLt
  refine hj ⟨j.val - (i.val / 128 - 1) * 128, by omega⟩ (Fin.ext ?_)
  show (i.val / 128 - 1) * 128 + (j.val - (i.val / 128 - 1) * 128) = j.val
  omega

theorem y_at (t : Fin cfg0.N) (i : Fin 4096) (l : Fin 128) :
    (outsAt0 m c t.val t.isLt).1 (ix2 i l) = attY (act m c) (pos m c) (snk m c) (hAt t l) i (dAt l) := by
  refine (out_y m c t (ix2 i l)).trans ?_
  have h := out_window (keyOf i) (key_inj i) (pscore_at m c t i l) (off_window (act m c) (pos m c) (hAt t l) i)
    (fun k => vOf (act m c) (keyOf i k) (gAt t) (dAt l)) (fun j => vOf (act m c) j (gAt t) (dAt l)) (fun k => rfl) (snk m c (ix1 (hAt t l)))
  unfold attY
  rw [grp_hAt, ← h, ← sink_at]
  rfl
theorem l_at (t : Fin cfg0.N) (i : Fin 4096) (l : Fin 128) :
    (outsAt0 m c t.val t.isLt).2.1 (ix2 i l) = attL (act m c) (pos m c) (snk m c) (hAt t l) i := by
  refine (out_l m c t (ix2 i l)).trans ?_
  have h := lse_window (keyOf i) (key_inj i) (pscore_at m c t i l) (off_window (act m c) (pos m c) (hAt t l) i) (snk m c (ix1 (hAt t l)))
  unfold attL
  rw [← h, ← sink_at]
  rfl
end Cert.OfWindow

end
-- ==== Proof.OfWindow.lean ====
module

public import proofs.«01_k».proof.Defs
public import proofs.«01_k».proof.Proof.Gen.WindowIdeal.Value
public import proofs.«01_k».proof.Proof.OfWindowScore
public import proofs.«01_k».proof.Proof.Gen.RefWindowIdeal.Read
public import Idealize.ShloMosaic.Lib.Quiescent
public import Idealize.ShloMosaic.Lib.Tactic
public import Idealize.ShloMosaic.Lib.Pointwise
public import Idealize.ShloMosaic.Lib.Pipeline.ValueKit
public import Idealize.ShloMosaic.Lib.Pipeline.ReadBack

@[expose] public section

set_option maxRecDepth 65536

noncomputable section

namespace Cert.OfWindow

open Idealize.ShloMosaic Idealize.ShloMosaic.TcCoe Idealize.SL.Sem
open Cert.WindowMath

section refer
open Cert.RefWindowIdeal Cert.RefWindowIdeal.Gen Cert.RefWindowIdeal.Read

variable (x : Vec Ideal S4096x4352 .f32) (p : Vec Ideal S4096 .i32) (s : Vec Ideal S16 .f32)

theorem col (i : Fin 4096) {a b : Fin 4352} (h : a.val = b.val) : x (ix2 i a) = x (ix2 i b) := by rw [Fin.ext h]

/-- The reference's queries. -/
theorem v35_at (i : Fin 4096) (h : Fin 16) (d : Fin 64) : val_main_v35 (F := Ideal) x p (ix3 i h d) = qOf x p i h d := by
  pointwise [val_main_v35, val_main_v29, val_main_v34, val_main_v24, val_main_v26, val_main_v28, val_main_v31, val_main_v33, val_main_v22, val_main_v23,
    val_main_v25, val_main_v27, val_main_v30, val_main_v32, val_main_v17, val_main_v19, val_main_v21, val_main_v20]
  unfold qOf rope
  by_cases h8 : d.val < 8
  · rw [dif_pos h8, dif_pos h8]
    refine congrArg₂ (fun a b => a * cosOf p _ _ - b * sinOf p _ _) (col x _ ?_) (col x _ ?_) <;> (dsimp only; omega)
  · rw [dif_neg h8, dif_neg h8]
    by_cases h16 : d.val - 8 < 8
    · rw [dif_pos h16, dif_pos h16]
      refine congrArg₂ (fun a b => a * cosOf p _ _ + b * sinOf p _ _) (col x _ ?_) (col x _ ?_) <;> (dsimp only; omega)
    · rw [dif_neg h16, dif_neg h16]
      exact col x _ (by dsimp only; omega)

/-- The head of a group. -/
def hd (g : Fin 2) (r : Fin 8) : Fin 16 := ⟨g.val * 8 + r.val, by omega⟩
theorem grp_hd (g : Fin 2) (r : Fin 8) : grp (hd g r) = g := Fin.ext (by show (g.val * 8 + r.val) / 8 = g.val; omega)

theorem v36_at (i : Fin 4096) (g : Fin 2) (r : Fin 8) (d : Fin 64) : val_main_v36 (F := Ideal) x p (ix4 i g r d) = qOf x p i (hd g r) d := by
  rw [← v35_at]
  pointwise [val_main_v36]
  rfl

/-- The reference's keys. -/
theorem v52_at (j : Fin 4096) (g : Fin 2) (d : Fin 64) : val_main_v52 (F := Ideal) x p (ix3 j g d) = kOf x p j g d := by
  pointwise [val_main_v52, val_main_v46, val_main_v51, val_main_v43, val_main_v45, val_main_v48, val_main_v50, val_main_v39, val_main_v40, val_main_v41,
    val_main_v42, val_main_v44, val_main_v47, val_main_v49, val_main_v17, val_main_v19, val_main_v38, val_main_v37]
  unfold kOf rope
  by_cases h8 : d.val < 8
  · rw [dif_pos h8, dif_pos h8]
    refine congrArg₂ (fun a b => a * cosOf p _ _ - b * sinOf p _ _) (col x _ ?_) (col x _ ?_) <;> (dsimp only; omega)
  · rw [dif_neg h8, dif_neg h8]
    by_cases h16 : d.val - 8 < 8
    · rw [dif_pos h16, dif_pos h16]
      refine congrArg₂ (fun a b => a * cosOf p _ _ + b * sinOf p _ _) (col x _ ?_) (col x _ ?_) <;> (dsimp only; omega)
    · rw [dif_neg h16, dif_neg h16]
      exact col x _ (by dsimp only; omega)

/-- The reference's values. -/
theorem v54_at (j : Fin 4096) (g : Fin 2) (d : Fin 64) : val_main_v54 (F := Ideal) x (ix3 j g d) = vOf x j g d := by
  pointwise [val_main_v54, val_main_v53]
  unfold vOf
  exact col x _ (by dsimp only; omega)

/-- How far apart two rows are. -/
theorem apart (i j : Fin 4096) : (IntOp.subi (BitVec.ofNat 32 i.val) (BitVec.ofNat 32 j.val)).toInt = (i.val : ℤ) - j.val := by
  have hi := i.isLt
  have hj := j.isLt
  show (BitVec.ofNat 32 i.val - BitVec.ofNat 32 j.val).toInt = _
  rw [BitVec.toInt_sub, BitVec.toInt_ofNat', BitVec.toInt_ofNat']
  simp only [Int.bmod_def]
  omega

/-- Which rows the reference lets a row see. -/
theorem v70_at (i j : Fin 4096) : val_main_v70 (F := Ideal) (ix2 i j) = if j.val ≤ i.val ∧ i.val ≤ j.val + 127 then 1#1 else 0#1 := by
  pointwise [val_main_v70, val_main_v69, val_main_v67, val_main_v61, val_main_v60, val_main_v59, val_main_v56, val_main_v55, val_main_v57, val_main_v58, val_main_v66, val_main_v68, val_main_c, val_main_c_4]
  rw [WordCmp.cmpi_sge_eq, WordCmp.cmpi_sle_eq, apart, show (0#32 : BitVec 32).toInt = 0 from rfl, show (127#32 : BitVec 32).toInt = 127 from rfl]
  rw [show decide ((0 : ℤ) ≤ (i.val : ℤ) - j.val) = decide (j.val ≤ i.val) from decide_eq_decide.2 (by omega),
    show decide ((i.val : ℤ) - j.val ≤ 127) = decide (i.val ≤ j.val + 127) from decide_eq_decide.2 (by omega)]
  by_cases a : j.val ≤ i.val <;> by_cases b : i.val ≤ j.val + 127 <;>
    simp [a, b, IntOp.andi]

/-- The reference's scores. -/
theorem v71_at (g : Fin 2) (r : Fin 8) (i j : Fin 4096) : val_main_v71 (F := Ideal) x p (ix4 g r i j) = scores x p (hd g r) i j := by
  have e : val_main_v65 (F := Ideal) x p (ix4 g r i j) = score x p (hd g r) i j := by
    pointwise [val_main_v65, val_main_v64, val_main_v63, val_main_v62, val_main_cst_3]
    unfold score
    congr 1
    refine Finset.sum_congr rfl fun d _ => ?_
    rw [v36_at, v52_at, grp_hd, mul_comm]
  pointwise [val_main_v71, val_main_call0_v1, val_main_call0_v2, val_main_call0_v0, val_main_cst_5]
  rw [e, v70_at, show id (constant (F := Ideal) S_ .f32 0xFF800000#32) ix0 = (⊥ : EReal) from neg_inf]
  unfold scores
  split <;> rfl

/-- The greatest element along the last axis, at an index. -/
theorem max_at (x : FVec Ideal S2x8x4096x4096 .f32) (init : FVec Ideal S_ .f32) (g : Fin 2) (r : Fin 8) (i : Fin 4096) :
    Host.reduce FloatOps.maximumf x init reducesTo_S2x8x4096x4096_S2x8x4096_d3 h_S_ (ix3 g r i)
      = (Finset.univ : Finset (Fin 4096)).fold max (init ix0) (fun k => x (ix4 g r i k)) := by
  pointwise
  rw [show Shape.Idx.first h_S_ = ix0 from funext fun a => a.elim0]

section row
variable (g : Fin 2) (r : Fin 8) (i : Fin 4096)

/-- The greatest score of a row. -/
theorem v72_at : val_main_v72 (F := Ideal) x p (ix3 g r i) = top (scores x p (hd g r) i) := by
  rw [val_main_v72, max_at]
  simp only [v71_at]
  rw [show val_main_cst_6 (F := Ideal) ix0 = (⊥ : EReal) from neg_inf]
  rfl

/-- The exponentials. -/
theorem v76_at (k : Fin 4096) : val_main_v76 (F := Ideal) x p (ix4 g r i k) = ex (scores x p (hd g r) i) k := by
  pointwise [val_main_v76, val_main_v75, val_main_v74, val_main_v73]
  rw [v71_at, v72_at]
  unfold ex
  generalize top (scores x p (hd g r) i) = a
  rfl

/-- The sum of a row's exponentials. -/
theorem v77_at : val_main_v77 (F := Ideal) x p (ix3 g r i) = ∑ k, ex (scores x p (hd g r) i) k := by
  rw [val_main_v77]
  pointwise [val_main_cst_7]
  simp only [v76_at]

/-- The sink. -/
theorem v81_at : val_main_v81 (F := Ideal) s (ix3 g r 0) = s (ix1 (hd g r)) := by
  pointwise [val_main_v81, val_main_v80]
  rfl

/-- The sink, broadcast. -/
theorem v82_at : val_main_v82 (F := Ideal) s (ix3 g r i) = s (ix1 (hd g r)) := by
  pointwise [val_main_v82, val_main_v81, val_main_v80]
  rfl

/-- The sink, broadcast once more. -/
theorem v87_at : val_main_v87 (F := Ideal) s (ix3 g r i) = s (ix1 (hd g r)) := by
  pointwise [val_main_v87, val_main_v81, val_main_v80]
  rfl

/-- The greatest of the row and of the sink. -/
theorem v83_at : val_main_v83 (F := Ideal) x p s (ix3 g r i) = top2 (scores x p (hd g r) i) (s (ix1 (hd g r))) := by
  rw [val_main_v83_apply, v72_at, v82_at]
  unfold top2
  generalize top (scores x p (hd g r) i) = a
  rfl

/-- What rescales the row. -/
theorem v85_at : val_main_v85 (F := Ideal) x p s (ix3 g r i) = rescale (scores x p (hd g r) i) (s (ix1 (hd g r))) := by
  rw [val_main_v85_apply, val_main_v84_apply, v72_at, v83_at]
  unfold rescale
  generalize top (scores x p (hd g r) i) = a
  generalize top2 (scores x p (hd g r) i) (s (ix1 (hd g r))) = b
  rfl

/-- The sum of the exponentials, the sink's among them. -/
theorem v90_at : val_main_v90 (F := Ideal) x p s (ix3 g r i) = den (scores x p (hd g r) i) (s (ix1 (hd g r))) := by
  rw [val_main_v90_apply, val_main_v86_apply, val_main_v89_apply, val_main_v88_apply, v87_at, v77_at, v85_at, v83_at]
  unfold den
  generalize (∑ k, ex (scores x p (hd g r) i) k) = a
  generalize rescale (scores x p (hd g r) i) (s (ix1 (hd g r))) = d
  generalize top2 (scores x p (hd g r) i) (s (ix1 (hd g r))) = b
  rfl

/-- The share of the row's own, by group and head. -/
theorem v91_at : val_main_v91 (F := Ideal) x p s (ix3 g r i)
    = Ideal.div (rescale (scores x p (hd g r) i) (s (ix1 (hd g r)))) (den (scores x p (hd g r) i) (s (ix1 (hd g r)))) := by
  rw [val_main_v91_apply, v85_at, v90_at]
  generalize rescale (scores x p (hd g r) i) (s (ix1 (hd g r))) = b
  generalize den (scores x p (hd g r) i) (s (ix1 (hd g r))) = a
  rfl

/-- The values' sum, by group, head and column. -/
theorem v79_at (d : Fin 64) : val_main_v79 (F := Ideal) x p (ix4 i g r d) = ∑ k, ex (scores x p (hd g r) i) k * vOf x k g d := by
  pointwise [val_main_v79, val_main_v78]
  refine Finset.sum_congr rfl fun k _ => ?_
  rw [v76_at, v54_at, mul_comm]

theorem v94_at (d : Fin 64) : val_main_v94 (F := Ideal) x p s (ix4 i g r d) = val_main_v91 (F := Ideal) x p s (ix3 g r i) := by
  pointwise [val_main_v94, val_main_v93, val_main_v92]

/-- The output, by group, head and column. -/
theorem v95_at (d : Fin 64) : val_main_v95 (F := Ideal) x p s (ix4 i g r d) = attY x p s (hd g r) i d := by
  rw [val_main_v95_apply, v79_at, v94_at, v91_at]
  unfold attY out
  rw [grp_hd]
  generalize (∑ k, ex (scores x p (hd g r) i) k * vOf x k g d) = a
  generalize Ideal.div (rescale (scores x p (hd g r) i) (s (ix1 (hd g r)))) (den (scores x p (hd g r) i) (s (ix1 (hd g r)))) = b
  rfl

/-- The logarithm, by group and head. -/
theorem v98_at : val_main_v98 (F := Ideal) x p s (ix3 g r i) = attL x p s (hd g r) i := by
  rw [val_main_v98_apply, val_main_v97_apply, v83_at, v90_at]
  unfold attL lse
  generalize top2 (scores x p (hd g r) i) (s (ix1 (hd g r))) = b
  generalize den (scores x p (hd g r) i) (s (ix1 (hd g r))) = a
  rfl

/-- The logarithm, by group, head and column. -/
theorem v101_at (d : Fin 64) : val_main_v101 (F := Ideal) x p s (ix4 i g r d) = attL x p s (hd g r) i := by
  rw [← v98_at]
  pointwise [val_main_v101, val_main_v100, val_main_v99]
end row

/-- The reference's first result, at an index. -/
theorem v96_at (i : Fin 4096) (j : Fin 1024) : val_main_v96 (F := Ideal) x p s (ix2 i j) = attY x p s ⟨j.val / 64, by omega⟩ i ⟨j.val % 64, by omega⟩ := by
  have e : hd ⟨j.val / 512, by omega⟩ ⟨j.val / 64 % 8, by omega⟩ = ⟨j.val / 64, by omega⟩ := Fin.ext (by show j.val / 512 * 8 + j.val / 64 % 8 = j.val / 64; omega)
  pointwise [val_main_v96]
  rw [← e]
  exact v95_at x p s _ _ i _
/-- The reference's second result, at an index. -/
theorem v102_at (i : Fin 4096) (j : Fin 1024) : val_main_v102 (F := Ideal) x p s (ix2 i j) = attL x p s ⟨j.val / 64, by omega⟩ i := by
  have e : hd ⟨j.val / 512, by omega⟩ ⟨j.val / 64 % 8, by omega⟩ = ⟨j.val / 64, by omega⟩ := Fin.ext (by show j.val / 512 * 8 + j.val / 64 % 8 = j.val / 64; omega)
  pointwise [val_main_v102]
  rw [← e]
  exact v101_at x p s _ _ i _
end refer

open Cert.WindowIdeal Cert.WindowIdeal.Gen

variable (m : (ℓ : Loc nD τ sig) → Buf (Elt Ideal) ℓ) (c : Dev nD)

/-- The attention's output, whole. -/
theorem array6 : (dats m 0 c).arrAt 6 cfg0.N
    = fun y => attY (act m c) (pos m c) (snk m c) ⟨(y 1).val / 64, by have h : (y 1).val < 1024 := (y 1).isLt; omega⟩ (y 0) ⟨(y 1).val % 64, by omega⟩ := by
  refine (dats m 0 c).arrAt_eq_of_covers 6 _ (by decide +kernel) fun t hf y => ?_
  blk_simp
  have e0 : ((win0_6.blk t).view.emb y 0).val = (y 0).val := by
    blk_simp [index t] <;> omega
  have e1 : ((win0_6.blk t).view.emb y 1).val = t.val * 128 + (y 1).val := by
    blk_simp [index t] <;> omega
  obtain ⟨r, l, rfl⟩ : ∃ r l, y = ix2 r l := ⟨y 0, y 1, eq_ix2 y⟩
  have e2 : win0_6.index t 1 * 128 + l.val = t.val * 128 + l.val := by rw [(index t).2.2.2.2.2.2.1]; rfl
  have e3 : r = (win0_6.blk t).view.emb (ix2 r l) 0 := Fin.ext e0.symm
  rw [after0_6, y_at]
  refine congr (congrArg₂ (attY (act m c) (pos m c) (snk m c)) (Fin.ext ?_) e3) (Fin.ext ?_)
  · show 2 * t.val + l.val / 64 = (win0_6.index t 1 * 128 + l.val) / 64
    omega
  · show l.val % 64 = (win0_6.index t 1 * 128 + l.val) % 64
    omega

/-- The logarithms, whole. -/
theorem array7 : (dats m 0 c).arrAt 7 cfg0.N
    = fun y => attL (act m c) (pos m c) (snk m c) ⟨(y 1).val / 64, by have h : (y 1).val < 1024 := (y 1).isLt; omega⟩ (y 0) := by
  refine (dats m 0 c).arrAt_eq_of_covers 7 _ (by decide +kernel) fun t hf y => ?_
  blk_simp
  have e0 : ((win0_7.blk t).view.emb y 0).val = (y 0).val := by
    blk_simp [index t] <;> omega
  have e1 : ((win0_7.blk t).view.emb y 1).val = t.val * 128 + (y 1).val := by
    blk_simp [index t] <;> omega
  obtain ⟨r, l, rfl⟩ : ∃ r l, y = ix2 r l := ⟨y 0, y 1, eq_ix2 y⟩
  have e2 : win0_7.index t 1 * 128 + l.val = t.val * 128 + l.val := by rw [(index t).2.2.2.2.2.2.2]; rfl
  have e3 : r = (win0_7.blk t).view.emb (ix2 r l) 0 := Fin.ext e0.symm
  rw [after0_7, l_at]
  refine congrArg₂ (attL (act m c) (pos m c) (snk m c)) (Fin.ext ?_) e3
  show 2 * t.val + l.val / 64 = (win0_7.index t 1 * 128 + l.val) / 64
  omega

/-- The constant the kernel masks with stands for −∞. -/
theorem preserves : Cert.preserves_Window_WindowIdeal :=
  IdealRules.named_const.statement _ _ _ _ _ rfl

/-- The reference runs, leaves its arguments alone and every counter at zero. -/
theorem frameRef : Cert.quiescent_RefWindowIdeal := fun m g _ =>
  (θ_run Cert.RefWindowIdeal.defs _ _).mono (fun r h => ⟨fun c => (h c).2.2, sem_eq_zero_of_no_sems rfl _⟩) (Cert.RefWindowIdeal.Value.run m g)

/-- The kernel's results are the reference's. -/
theorem value : Cert.algebraic_WindowIdeal_RefWindowIdeal := by
  intro m g m' g' _ hargs
  refine ⟨fun c => (dats m 0 c).arrAt 6 cfg0.N, fun c => (dats m 0 c).arrAt 7 cfg0.N, Cert.WindowIdeal.Value.run_blocks m g, ?_⟩
  refine (θ_run Cert.RefWindowIdeal.defs _ _).mono (fun r h c => ?_) (Cert.RefWindowIdeal.Value.run m' g')
  obtain ⟨h0, h1, h2⟩ := h c
  obtain ⟨a0, a1, a2⟩ := hargs c
  refine ⟨h0.trans ?_, h1.trans ?_, h2⟩
  · rw [Cert.RefWindowIdeal.Read.val_main_v96_eq, a0, a1, a2]
    refine Eq.trans ?_ (array6 m c).symm
    funext y
    obtain ⟨i, j, rfl⟩ : ∃ i j, y = ix2 i j := ⟨y 0, y 1, eq_ix2 y⟩
    exact v96_at _ _ _ i j
  · rw [Cert.RefWindowIdeal.Read.val_main_v102_eq, a0, a1, a2]
    refine Eq.trans ?_ (array7 m c).symm
    funext y
    obtain ⟨i, j, rfl⟩ : ∃ i j, y = ix2 i j := ⟨y 0, y 1, eq_ix2 y⟩
    exact v102_at _ _ _ i j
end Cert.OfWindow

end
-- ==== Proof.MemTile.lean ====
module

public import proofs.«01_k».proof.Proof.Gen.MemIdeal.Frame
public import Idealize.ShloMosaic.Lib.Pipeline.Value
public import Idealize.ShloMosaic.Lib.Tactic
public import Idealize.ShloMosaic.Lib.Pointwise
public import Idealize.ShloMosaic.Lib.Pipeline.ValueKit
public import Idealize.ShloMosaic.Lib.Pipeline.ReadBack
public import proofs.«01_k».proof.Proof.MemMath

/-! What the kernel computes for one head of one block of rows, read at an index: the four heads are written in different
    pieces but are one computation. -/

@[expose] public section

set_option maxRecDepth 16384

noncomputable section

open Idealize.ShloMosaic Idealize.ShloMosaic.TcCoe Idealize.SL.Sem
open Idealize.ShloMosaic.Pipeline (Dat)

namespace Cert.MemIdeal.Block

open Cert.MemIdeal Cert.MemIdeal.Gen Cert.MemMath

/-- The probabilities of a head, at an index. -/
theorem pay7_apply (q : Vec Ideal S512x512 .bf16) (k : Vec Ideal S256x512 .bf16) (r : Fin 512) (m : Fin 256) :
    k0_pay7 q k (ix2 r m) = prob (score (fun d => q (ix2 r d)) (fun m d => k (ix2 m d))) m := by
  pointwise [k0_pay7]
  rfl

/-- The gradient of the scores of a head, at an index. -/
theorem pay8_apply (q : Vec Ideal S512x512 .bf16) (k v : Vec Ideal S256x512 .bf16) (g : Vec Ideal S512x512 .bf16) (r : Fin 512) (m : Fin 256) :
    k0_pay8 q k v g (ix2 r m) = dscore (score (fun d => q (ix2 r d)) (fun m d => k (ix2 m d)))
      (dprob (fun d => g (ix2 r d)) (fun m d => v (ix2 m d))) m := by
  pointwise [k0_pay8]
  simp only [pay7_apply]
  rfl

/-- The gradient of the queries of a head, at an index. -/
theorem pay9_apply (q : Vec Ideal S512x512 .bf16) (k v : Vec Ideal S256x512 .bf16) (g : Vec Ideal S512x512 .bf16) (r : Fin 512) (d : Fin 512) :
    k0_pay9 q k v g (ix2 r d) = ∑ m : Fin 256, dscore (score (fun d => q (ix2 r d)) (fun m d => k (ix2 m d)))
      (dprob (fun d => g (ix2 r d)) (fun m d => v (ix2 m d))) m * k (ix2 m d) := by
  pointwise [k0_pay9]
  simp only [pay8_apply]

/-- A head's addition to the gradient of the keys, at an index. -/
theorem pay16_apply (q : Vec Ideal S512x512 .bf16) (w : Vec Ideal S512x256 .bf16) (a : Vec Ideal S256x512 .f32) (m : Fin 256) (d : Fin 512) :
    k0_pay16 q w a (ix2 m d) = a (ix2 m d) + ∑ r : Fin 512, w (ix2 r m) * q (ix2 r d) := by
  pointwise [k0_pay16]

/-- A head's addition to the gradient of the values, at an index. -/
theorem pay17_apply (g : Vec Ideal S512x512 .bf16) (p : FVec Ideal S512x256 .f32) (a : Vec Ideal S256x512 .f32) (m : Fin 256) (d : Fin 512) :
    k0_pay17 g p a (ix2 m d) = a (ix2 m d) + ∑ r : Fin 512, p (ix2 r m) * g (ix2 r d) := by
  pointwise [k0_pay17]

variable (q : Vec Ideal S512x512 .bf16) (k v : Vec Ideal S256x512 .bf16) (g : Vec Ideal S512x512 .bf16) (a : Vec Ideal S256x512 .f32)

/-- The queries' gradient of head 1 is written in the same way. -/
theorem dq1 : k0_pay15 k (k0_pay14 q k v g) (constant S512x512 .f32 0x00000000#32) = k0_pay9 q k v g := rfl
/-- The queries' gradient of head 2 is written in the same way. -/
theorem dq2 : k0_pay22 k (k0_pay18 q k) (k0_pay19 v g) (k0_pay20 q k v g) = k0_pay9 q k v g := rfl
/-- The queries' gradient of head 3 is written in the same way. -/
theorem dq3 : k0_pay3 k v g (k0_pay25 q k) (k0_pay26 q k) = k0_pay9 q k v g := rfl
/-- The keys' gradient of head 0 is written in the same way. -/
theorem dk0 : k0_pay11 q (k0_pay8 q k v g) (k0_pay10 a) (constant S256x512 .f32 0x00000000#32) = k0_pay16 q (k0_pay8 q k v g) a := rfl
/-- The keys' gradient of head 1 is written in the same way. -/
theorem dk1 : k0_pay16 q (k0_pay14 q k v g) a = k0_pay16 q (k0_pay8 q k v g) a := rfl
/-- The keys' gradient of head 2 is written in the same way. -/
theorem dk2 : k0_pay23 q (k0_pay18 q k) (k0_pay19 v g) (k0_pay20 q k v g) a = k0_pay16 q (k0_pay8 q k v g) a := rfl
/-- The keys' gradient of head 3 is written in the same way. -/
theorem dk3 : k0_pay4 q v g (k0_pay25 q k) (k0_pay26 q k) a = k0_pay16 q (k0_pay8 q k v g) a := rfl
/-- The values' gradient of head 0 is written in the same way. -/
theorem dv0 : k0_pay12 g (k0_pay7 q k) a = k0_pay17 g (k0_pay7 q k) a := rfl
/-- The values' gradient of head 1 is written in the same way. -/
theorem dv1 : k0_pay17 g (k0_pay13 q k) a = k0_pay17 g (k0_pay7 q k) a := rfl
/-- The values' gradient of head 2 is written in the same way. -/
theorem dv2 : k0_pay24 g (k0_pay18 q k) a = k0_pay17 g (k0_pay7 q k) a := rfl
/-- The values' gradient of head 3 is written in the same way. -/
theorem dv3 : k0_pay5 g (k0_pay25 q k) (k0_pay26 q k) a = k0_pay17 g (k0_pay7 q k) a := rfl

section tiles
variable {q k v g} {x0 x2 : Vec Ideal S512x2048 .bf16} {x1 : Vec Ideal S256x4096 .bf16} (h : Fin 4)
  (hq : ∀ r d, q (ix2 r d) = x0 (ix2 r (hd h d))) (hK : ∀ m d, k (ix2 m d) = x1 (ix2 m (hk h d)))
  (hV : ∀ m d, v (ix2 m d) = x1 (ix2 m (hv h d))) (hg : ∀ r d, g (ix2 r d) = x2 (ix2 r (hd h d)))
include hq hK

/-- A head's tile of the queries' gradient. -/
theorem dq_tile (x : S512x512.Idx) (y : S512x2048.Idx) (e0 : (y 0).val = (x 0).val) (e1 : (y 1).val = 512 * h.val + (x 1).val)
    (hV : ∀ m d, v (ix2 m d) = x1 (ix2 m (hv h d))) (hg : ∀ r d, g (ix2 r d) = x2 (ix2 r (hd h d))) :
    k0_pay9 q k v g x = dq x0 x2 x1 (y 0) (y 1) := by
  obtain ⟨xr, xc, rfl⟩ : ∃ (a : Fin _) (b : Fin 512), x = ix2 a b := ⟨x 0, x 1, eq_ix2 x⟩
  obtain ⟨yr, yc, rfl⟩ : ∃ (a : Fin _) (b : Fin _), y = ix2 a b := ⟨y 0, y 1, eq_ix2 y⟩
  obtain rfl : yr = xr := Fin.ext e0
  obtain rfl : yc = hd h xc := Fin.ext e1
  rw [pay9_apply]
  simp only [hq, hK, hV, hg]
  show _ = dq x0 x2 x1 yr (hd h xc)
  unfold dq
  rw [hd_div]
  rfl

/-- A head's tile of the keys' gradient: what the block held and what its rows add. -/
theorem dk_tile (x : S256x512.Idx) (y : S256x4096.Idx) (e0 : (y 0).val = (x 0).val) (e1 : (y 1).val = 512 * h.val + (x 1).val)
    (hV : ∀ m d, v (ix2 m d) = x1 (ix2 m (hv h d))) (hg : ∀ r d, g (ix2 r d) = x2 (ix2 r (hd h d))) (a : Vec Ideal S256x512 .f32) :
    k0_pay16 q (k0_pay8 q k v g) a x = a x + ∑ r : Fin 512, dkv x0 x2 x1 (y 0) (y 1) r := by
  obtain ⟨xr, xc, rfl⟩ : ∃ (a : Fin _) (b : Fin 512), x = ix2 a b := ⟨x 0, x 1, eq_ix2 x⟩
  obtain ⟨yr, yc, rfl⟩ : ∃ (a : Fin _) (b : Fin _), y = ix2 a b := ⟨y 0, y 1, eq_ix2 y⟩
  obtain rfl : yr = xr := Fin.ext e0
  obtain rfl : yc = hk h xc := Fin.ext e1
  rw [pay16_apply]
  simp only [pay8_apply, hq, hK, hV, hg]
  refine congrArg _ (Finset.sum_congr rfl fun r _ => ?_)
  show _ = dkv x0 x2 x1 yr (hk h xc) r
  unfold dkv
  rw [dif_pos (hk_lt h xc), hk_div]
  rfl

/-- A head's tile of the values' gradient: what the block held and what its rows add. -/
theorem dv_tile (x : S256x512.Idx) (y : S256x4096.Idx) (e0 : (y 0).val = (x 0).val) (e1 : (y 1).val = 2048 + 512 * h.val + (x 1).val)
    (hg : ∀ r d, g (ix2 r d) = x2 (ix2 r (hd h d))) (a : Vec Ideal S256x512 .f32) :
    k0_pay17 g (k0_pay7 q k) a x = a x + ∑ r : Fin 512, dkv x0 x2 x1 (y 0) (y 1) r := by
  obtain ⟨xr, xc, rfl⟩ : ∃ (a : Fin _) (b : Fin 512), x = ix2 a b := ⟨x 0, x 1, eq_ix2 x⟩
  obtain ⟨yr, yc, rfl⟩ : ∃ (a : Fin _) (b : Fin _), y = ix2 a b := ⟨y 0, y 1, eq_ix2 y⟩
  obtain rfl : yr = xr := Fin.ext e0
  obtain rfl : yc = hv h xc := Fin.ext (e1.trans (Nat.add_assoc _ _ _))
  rw [pay17_apply]
  simp only [pay7_apply, hq, hK, hg]
  refine congrArg _ (Finset.sum_congr rfl fun r _ => ?_)
  show _ = dkv x0 x2 x1 yr (hv h xc) r
  unfold dkv
  rw [dif_neg (hv_ge h xc), hv_div, hv_sub]
  rfl
end tiles

end Cert.MemIdeal.Block

end
-- ==== Proof.MemBlock.lean ====
module

public import proofs.«01_k».proof.Proof.MemTile
public import Idealize.ShloMosaic.Lib.Pipeline.Value
public import Idealize.ShloMosaic.Lib.Tactic
public import Idealize.ShloMosaic.Lib.Pointwise
public import Idealize.ShloMosaic.Lib.Pipeline.ValueKit
public import Idealize.ShloMosaic.Lib.Pipeline.ReadBack

/-! What one block of rows leaves in the kernel's two outputs, read at an index. -/

@[expose] public section

set_option maxRecDepth 16384

noncomputable section

open Idealize.ShloMosaic Idealize.ShloMosaic.TcCoe Idealize.SL.Sem
open Idealize.ShloMosaic.Pipeline (Dat)

namespace Cert.MemIdeal.Block

open Cert.MemIdeal Cert.MemIdeal.Gen Cert.MemMath

/-- A tile of 512 columns of a block, read at an index of the block. -/
theorem ld_at (X : Vec Ideal S256x4096 .f32) (o : ℕ) (inb) (x : S256x512.Idx) (y : S256x4096.Idx) (e0 : (y 0).val = (x 0).val)
    (e1 : (y 1).val = o + (x 1).val) : View.ld X (Rect.unit ![0, o] ![256, 512] inb) x = X y := by
  refine View.ld_unit_apply_of _ _ _ _ _ _ fun a => ?_
  match a with
  | ⟨0, _⟩ => exact e0.trans (Nat.zero_add _).symm
  | ⟨1, _⟩ => exact e1

/-- What a store of a tile of 512 columns leaves, from its columns in the block. -/
theorem piece (o : ℕ) (inb) (P : S256x512.Idx → EReal) (G : S256x4096.Idx → EReal)
    (H : ∀ (x : S256x512.Idx) (y : S256x4096.Idx), (y 0).val = (x 0).val → (y 1).val = o + (x 1).val → P x = G y) (x : S256x512.Idx) :
    P x = G ((Rect.unit (s := S256x4096) ![0, o] ![256, 512] inb).emb x) :=
  H x _ ((Rect.idx_unit_val _ _ inb x 0).trans (Nat.zero_add _)) (Rect.idx_unit_val _ _ inb x 1)

variable (c : Dev nD) (i : grid0.Coords) (a1 : Memref sig .tc .vmem S512x2048 .bf16) (h1 : a1.IsWhole) (a2 : Memref sig .tc .vmem S256x4096 .bf16)
  (h2 : a2.IsWhole) (a3 : Memref sig .tc .vmem S512x2048 .bf16) (h3 : a3.IsWhole) (a4 : Memref sig .tc .vmem S512x2048 .bf16) (h4 : a4.IsWhole)
  (a5 : Memref sig .tc .vmem S256x4096 .f32) (h5 : a5.IsWhole) (x0 : Vec Ideal S512x2048 .bf16) (x1 : Vec Ideal S256x4096 .bf16)
  (x2 : Vec Ideal S512x2048 .bf16) (xo : Vec Ideal S256x4096 .f32)

/-- The first block leaves the queries' gradient of its rows. -/
theorem out3_A (hc) (y : S512x2048.Idx) :
    out0_A_3 (F := Ideal) c i a1 h1 a2 h2 a3 h3 a4 h4 a5 h5 hc x0 x1 x2 y = dq x0 x2 x1 (y 0) (y 1) := by
  unfold out0_A_3
  rw [View.read_writes_eq_canon _ _ _ (cover0_A_3 c i a1 h1 a2 h2 a3 h3 a4 h4 a5 h5 hc x0 x1 x2)]
  unfold kernelRun0_A
  dsimp only
  sl_unfold_words
  simp only [View.readAt_eq_ld, h1.read_unread, h2.read_unread, h3.read_unread]
  canon_tiles x hx
  · refine (congrFun (dq3 _ _ _ _) x).trans (dq_tile 3 ?_ ?_ x y hx0 hx1 ?_ ?_) <;> (intro r d; pointwise; exact at_col _ _ (by dsimp only; omega))
  · refine (congrFun (dq2 _ _ _ _) x).trans (dq_tile 2 ?_ ?_ x y hx0 hx1 ?_ ?_) <;> (intro r d; pointwise; exact at_col _ _ (by dsimp only; omega))
  · refine (congrFun (dq1 _ _ _ _) x).trans (dq_tile 1 ?_ ?_ x y hx0 hx1 ?_ ?_) <;> (intro r d; pointwise; exact at_col _ _ (by dsimp only; omega))
  · refine dq_tile 0 ?_ ?_ x y hx0 (hx1.trans (Nat.zero_add _).symm) ?_ ?_ <;> (intro r d; pointwise; exact at_col _ _ (by dsimp only; omega))

/-- A later block leaves the queries' gradient of its rows. -/
theorem out3_B (hc) (y : S512x2048.Idx) :
    out0_B_3 (F := Ideal) c i a1 h1 a2 h2 a3 h3 a4 h4 a5 h5 hc x0 x1 x2 xo y = dq x0 x2 x1 (y 0) (y 1) := by
  unfold out0_B_3
  rw [View.read_writes_eq_canon _ _ _ (cover0_B_3 c i a1 h1 a2 h2 a3 h3 a4 h4 a5 h5 hc x0 x1 x2 xo)]
  unfold kernelRun0_B
  dsimp only
  sl_unfold_words
  simp only [View.readAt_eq_ld, h1.read_unread, h2.read_unread, h3.read_unread]
  canon_tiles x hx
  · refine (congrFun (dq3 _ _ _ _) x).trans (dq_tile 3 ?_ ?_ x y hx0 hx1 ?_ ?_) <;> (intro r d; pointwise; exact at_col _ _ (by dsimp only; omega))
  · refine (congrFun (dq2 _ _ _ _) x).trans (dq_tile 2 ?_ ?_ x y hx0 hx1 ?_ ?_) <;> (intro r d; pointwise; exact at_col _ _ (by dsimp only; omega))
  · refine (congrFun (dq1 _ _ _ _) x).trans (dq_tile 1 ?_ ?_ x y hx0 hx1 ?_ ?_) <;> (intro r d; pointwise; exact at_col _ _ (by dsimp only; omega))
  · refine dq_tile 0 ?_ ?_ x y hx0 (hx1.trans (Nat.zero_add _).symm) ?_ ?_ <;> (intro r d; pointwise; exact at_col _ _ (by dsimp only; omega))

/-- A later block adds its rows' part to the gradient of the memory. -/
theorem out4_B (hc) (y : S256x4096.Idx) :
    out0_B_4 (F := Ideal) c i a1 h1 a2 h2 a3 h3 a4 h4 a5 h5 hc x0 x1 x2 xo y = xo y + ∑ r : Fin 512, dkv x0 x2 x1 (y 0) (y 1) r := by
  unfold out0_B_4
  rw [View.read_writes_eq_canon _ _ _ (cover0_B_4 c i a1 h1 a2 h2 a3 h3 a4 h4 a5 h5 hc x0 x1 x2 xo)]
  unfold kernelRun0_B
  dsimp only
  sl_unfold_words
  simp only [View.readAt_eq_ld, h1.read_unread, h2.read_unread, h3.read_unread, h5.read_unread]
  canon_tiles x hx
  · refine ((congrFun (dv3 _ _ _ _) x).trans (dv_tile 3 ?_ ?_ x y hx0 hx1 ?_ _)).trans (congrArg (· + _) (ld_at _ _ _ x y hx0 hx1)) <;> (intro r d; pointwise; exact at_col _ _ (by dsimp only; omega))
  · refine ((congrFun (dk3 _ _ _ _ _) x).trans (dk_tile 3 ?_ ?_ x y hx0 hx1 ?_ ?_ _)).trans (congrArg (· + _) (ld_at _ _ _ x y hx0 hx1)) <;> (intro r d; pointwise; exact at_col _ _ (by dsimp only; omega))
  · refine ((congrFun (dv2 _ _ _ _) x).trans (dv_tile 2 ?_ ?_ x y hx0 hx1 ?_ _)).trans (congrArg (· + _) (ld_at _ _ _ x y hx0 hx1)) <;> (intro r d; pointwise; exact at_col _ _ (by dsimp only; omega))
  · refine ((congrFun (dk2 _ _ _ _ _) x).trans (dk_tile 2 ?_ ?_ x y hx0 hx1 ?_ ?_ _)).trans (congrArg (· + _) (ld_at _ _ _ x y hx0 hx1)) <;> (intro r d; pointwise; exact at_col _ _ (by dsimp only; omega))
  · refine ((congrFun (dv1 _ _ _ _) x).trans (dv_tile 1 ?_ ?_ x y hx0 hx1 ?_ _)).trans (congrArg (· + _) (ld_at _ _ _ x y hx0 hx1)) <;> (intro r d; pointwise; exact at_col _ _ (by dsimp only; omega))
  · refine ((congrFun (dk1 _ _ _ _ _) x).trans (dk_tile 1 ?_ ?_ x y hx0 hx1 ?_ ?_ _)).trans (congrArg (· + _) (ld_at _ _ _ x y hx0 hx1)) <;> (intro r d; pointwise; exact at_col _ _ (by dsimp only; omega))
  · refine ((congrFun (dv0 _ _ _ _) x).trans (dv_tile 0 ?_ ?_ x y hx0 hx1 ?_ _)).trans (congrArg (· + _) (ld_at _ _ _ x y hx0 hx1)) <;> (intro r d; pointwise; exact at_col _ _ (by dsimp only; omega))
  · refine ((congrFun (dk0 _ _ _ _ _) x).trans (dk_tile 0 ?_ ?_ x y hx0 (hx1.trans (Nat.zero_add _).symm) ?_ ?_ _)).trans (congrArg (· + _) (ld_at _ _ _ x y hx0 (hx1.trans (Nat.zero_add _).symm))) <;> (intro r d; pointwise; exact at_col _ _ (by dsimp only; omega))

/-- The first block leaves its rows' part of the gradient of the memory. -/
theorem out4_A (hc) (y : S256x4096.Idx) :
    out0_A_4 (F := Ideal) c i a1 h1 a2 h2 a3 h3 a4 h4 a5 h5 hc x0 x1 x2 y = k0_pay6 (F := Ideal) y + ∑ r : Fin 512, dkv x0 x2 x1 (y 0) (y 1) r := by
  unfold out0_A_4
  rw [View.read_writes_eq_canon _ _ _ (cover0_A_4 c i a1 h1 a2 h2 a3 h3 a4 h4 a5 h5 hc x0 x1 x2)]
  unfold kernelRun0_A
  dsimp only
  sl_unfold_words
  simp only [View.readAt_eq_ld, h1.read_unread, h2.read_unread, h3.read_unread]
  simp (disch := decide) only [↓ View.readCov_skip, ↓ View.readCov_cons_toLoadRect, ↓ View.readCov_fill]
  refine View.canon_append_of_piecesOf (Val := Elt Ideal) (s := S256x4096) (e := .f32) (fun y => k0_pay6 (F := Ideal) y + ∑ r : Fin 512, dkv x0 x2 x1 (y 0) (y 1) r) [_] [_, _, _, _, _, _, _, _]
    ⟨?_, ?_, ?_, ?_, ?_, ?_, ?_, ?_, trivial⟩ y (View.cover_of_tiledL (s := S256x4096) _ ![256, 512] (by sl_kernel_rfl) y)
  · refine fun x => piece 3584 inb_S256x4096_S256x512_0_3584 _ (fun y => k0_pay6 (F := Ideal) y + ∑ r : Fin 512, dkv x0 x2 x1 (y 0) (y 1) r) (fun x y hx0 hx1 => ?_) x
    refine ((congrFun (dv3 _ _ _ _) x).trans (dv_tile 3 ?_ ?_ x y hx0 hx1 ?_ _)).trans (congrArg (· + _) (ld_at _ _ _ x y hx0 hx1)) <;> (intro r d; pointwise; exact at_col _ _ (by dsimp only; omega))
  · refine fun x => piece 1536 inb_S256x4096_S256x512_0_1536 _ (fun y => k0_pay6 (F := Ideal) y + ∑ r : Fin 512, dkv x0 x2 x1 (y 0) (y 1) r) (fun x y hx0 hx1 => ?_) x
    refine ((congrFun (dk3 _ _ _ _ _) x).trans (dk_tile 3 ?_ ?_ x y hx0 hx1 ?_ ?_ _)).trans (congrArg (· + _) (ld_at _ _ _ x y hx0 hx1)) <;> (intro r d; pointwise; exact at_col _ _ (by dsimp only; omega))
  · refine fun x => piece 3072 inb_S256x4096_S256x512_0_3072 _ (fun y => k0_pay6 (F := Ideal) y + ∑ r : Fin 512, dkv x0 x2 x1 (y 0) (y 1) r) (fun x y hx0 hx1 => ?_) x
    refine ((congrFun (dv2 _ _ _ _) x).trans (dv_tile 2 ?_ ?_ x y hx0 hx1 ?_ _)).trans (congrArg (· + _) (ld_at _ _ _ x y hx0 hx1)) <;> (intro r d; pointwise; exact at_col _ _ (by dsimp only; omega))
  · refine fun x => piece 1024 inb_S256x4096_S256x512_0_1024 _ (fun y => k0_pay6 (F := Ideal) y + ∑ r : Fin 512, dkv x0 x2 x1 (y 0) (y 1) r) (fun x y hx0 hx1 => ?_) x
    refine ((congrFun (dk2 _ _ _ _ _) x).trans (dk_tile 2 ?_ ?_ x y hx0 hx1 ?_ ?_ _)).trans (congrArg (· + _) (ld_at _ _ _ x y hx0 hx1)) <;> (intro r d; pointwise; exact at_col _ _ (by dsimp only; omega))
  · refine fun x => piece 2560 inb_S256x4096_S256x512_0_2560 _ (fun y => k0_pay6 (F := Ideal) y + ∑ r : Fin 512, dkv x0 x2 x1 (y 0) (y 1) r) (fun x y hx0 hx1 => ?_) x
    refine ((congrFun (dv1 _ _ _ _) x).trans (dv_tile 1 ?_ ?_ x y hx0 hx1 ?_ _)).trans (congrArg (· + _) (ld_at _ _ _ x y hx0 hx1)) <;> (intro r d; pointwise; exact at_col _ _ (by dsimp only; omega))
  · refine fun x => piece 512 inb_S256x4096_S256x512_0_512 _ (fun y => k0_pay6 (F := Ideal) y + ∑ r : Fin 512, dkv x0 x2 x1 (y 0) (y 1) r) (fun x y hx0 hx1 => ?_) x
    refine ((congrFun (dk1 _ _ _ _ _) x).trans (dk_tile 1 ?_ ?_ x y hx0 hx1 ?_ ?_ _)).trans (congrArg (· + _) (ld_at _ _ _ x y hx0 hx1)) <;> (intro r d; pointwise; exact at_col _ _ (by dsimp only; omega))
  · refine fun x => piece 2048 inb_S256x4096_S256x512_0_2048 _ (fun y => k0_pay6 (F := Ideal) y + ∑ r : Fin 512, dkv x0 x2 x1 (y 0) (y 1) r) (fun x y hx0 hx1 => ?_) x
    refine ((congrFun (dv0 _ _ _ _) x).trans (dv_tile 0 ?_ ?_ x y hx0 hx1 ?_ _)).trans (congrArg (· + _) (ld_at _ _ _ x y hx0 hx1)) <;> (intro r d; pointwise; exact at_col _ _ (by dsimp only; omega))
  · refine fun x => piece 0 inb_S256x4096_S256x512_0_0 _ (fun y => k0_pay6 (F := Ideal) y + ∑ r : Fin 512, dkv x0 x2 x1 (y 0) (y 1) r) (fun x y hx0 hx1 => ?_) x
    refine ((congrFun (dk0 _ _ _ _ _) x).trans (dk_tile 0 ?_ ?_ x y hx0 hx1 ?_ ?_ _)).trans (congrArg (· + _) (ld_at _ _ _ x y hx0 hx1)) <;> (intro r d; pointwise; exact at_col _ _ (by dsimp only; omega))

end Cert.MemIdeal.Block

end
-- ==== Proof.MemArray.lean ====
module

public import proofs.«01_k».proof.Proof.MemBlock

/-! What the kernel's two results hold after the run: the gradient of the queries, and the gradient of the memory as a sum
    over all 4096 rows. -/

@[expose] public section

set_option maxRecDepth 16384

noncomputable section

open Idealize.ShloMosaic Idealize.ShloMosaic.TcCoe Idealize.SL.Sem
open Idealize.ShloMosaic.Pipeline (Dat)

namespace Cert.MemIdeal.Block

open Cert.MemIdeal Cert.MemIdeal.Gen Cert.MemMath

variable (m : (ℓ : Loc nD τ sig) → Buf (Elt Ideal) ℓ)

/-- Where each point's blocks lie. -/
theorem index : ∀ t : Fin cfg0.N, win0_0.index t = ![t.val, 0] ∧ win0_1.index t = ![0, 0] ∧ win0_2.index t = ![t.val, 0] ∧ win0_3.index t = ![t.val, 0] :=
  (by decide +kernel : ∀ t : Fin grid0.N, _)

/-- The queries' block of a point, read at an index. -/
theorem blk0 (c : Dev nD) (t : Fin cfg0.N) (r : Fin 512) (d : Fin 2048) (p) :
    iblk m c 0 t (ix2 r d) = m ((c : Thread nD τ).loc main_arg0) (ix2 ⟨512 * t.val + r.val, p⟩ d) := by
  blk_ext [iblk, V_main_arg0, index t]

/-- The memory's block of a point is the whole memory. -/
theorem blk1 (c : Dev nD) (t : Fin cfg0.N) (r : Fin 256) (d : Fin 4096) :
    iblk m c 1 t (ix2 r d) = m ((c : Thread nD τ).loc main_arg1) (ix2 r d) := by
  blk_ext [iblk, V_main_arg1, index t]

/-- The block of the output's gradient of a point, read at an index. -/
theorem blk2 (c : Dev nD) (t : Fin cfg0.N) (r : Fin 512) (d : Fin 2048) (p) :
    iblk m c 2 t (ix2 r d) = m ((c : Thread nD τ).loc main_arg2) (ix2 ⟨512 * t.val + r.val, p⟩ d) := by
  blk_ext [iblk, V_main_arg2, index t]

/-- Every point leaves its rows' part of the queries' gradient. -/
theorem outs3 (c : Dev nD) (t : Fin cfg0.N) (y : S512x2048.Idx) :
    (outsAt0 m c t.val t.isLt).1 y = dq (iblk m c 0 t) (iblk m c 2 t) (iblk m c 1 t) (y 0) (y 1) := by
  by_cases h : t.val % 8 = 0
  · rw [outsAt0_A m c t h]
    dsimp only
    rw [out3_A]
  · rw [outsAt0_B m c t h]
    dsimp only
    rw [out3_B]

/-- The first result holds the queries' gradient, row by row. -/
theorem array3 (c : Dev nD) : (dats m 0 c).arrAt 3 cfg0.N = fun i : S4096x2048.Idx =>
    dq (m ((c : Thread nD τ).loc main_arg0)) (m ((c : Thread nD τ).loc main_arg2)) (m ((c : Thread nD τ).loc main_arg1)) (i 0) (i 1) := by
  refine (dats m 0 c).arrAt_eq_of_covers 3 _ (by decide +kernel) fun t hf y => ?_
  blk_simp
  rw [after0_3, outs3]
  have e0 : ((win0_3.blk t).view.emb y 0).val = 512 * t.val + (y 0).val := by
    blk_simp [index t]; omega
  have e1 : ((win0_3.blk t).view.emb y 1) = y 1 := Fin.ext (by blk_simp [index t])
  rw [e1, show (win0_3.blk t).view.emb y 0 = ⟨512 * t.val + (y 0).val, e0 ▸ ((win0_3.blk t).view.emb y 0).isLt⟩ from Fin.ext e0]
  exact dq_congr (fun d => blk0 m c t _ d _) (fun d => blk2 m c t _ d _) (fun r d => blk1 m c t r d) _

/-- The second result holds the memory's gradient, summed over all rows. -/
theorem array4 (c : Dev nD) : (dats m 0 c).arrAt 4 cfg0.N = fun i : S256x4096.Idx =>
    ∑ r : Fin 4096, dkv (m ((c : Thread nD τ).loc main_arg0)) (m ((c : Thread nD τ).loc main_arg2)) (m ((c : Thread nD τ).loc main_arg1)) (i 0) (i 1) r := by
  refine (dats m 0 c).arrAt_eq_of_after_last 4 t0_7 (by decide +kernel) _ fun j => ?_
  blk_simp
  rw [after0_4]
  refine (Pipeline.eq_sum_fin_of_reset_step_apply_last (fun n h => (outsAt0 m c n h).2) 8 (fun j => k0_pay6 (F := Ideal) j)
    (fun t j => ∑ r : Fin 512, dkv (iblk m c 0 t) (iblk m c 2 t) (iblk m c 1 t) (j 0) (j 1) r) ?_ ?_ ?_ t0_7 rfl j).trans ?_
  · intro t h j
    rw [outsAt0_A m c t h]
    dsimp only
    rw [out4_A]
  · intro t h j
    rw [outsAt0_B m c t h]
    dsimp only
    rw [out4_B]
  · decide
  · have hz : k0_pay6 (F := Ideal) j = 0 := by pointwise [k0_pay6]
    rw [hz, zero_add]
    refine Fin.sum_mul_add_congr (n := 512) fun t r h => ?_
    rw [show (⟨t.val * 512 + r.val, h⟩ : Fin 4096) = ⟨512 * t.val + r.val, by omega⟩ from Fin.ext (by simp only; omega)]
    exact dkv_congr (fun d => blk0 m c t _ d _) (fun d => blk2 m c t _ d _) (fun r d => blk1 m c t r d) _ _

end Cert.MemIdeal.Block

end
-- ==== Proof.MemRefer.lean ====
module

public import proofs.«01_k».proof.Proof.Gen.RefMemIdeal.Read
public import proofs.«01_k».proof.Proof.MemMath
public import Idealize.ShloMosaic.Lib.Pointwise
public import Idealize.ShloMosaic.Lib.Tactic

/-! What the reference computes, read at an index, stage by stage. -/

@[expose] public section

set_option maxRecDepth 16384

noncomputable section

open Idealize.ShloMosaic Idealize.ShloMosaic.TcCoe Idealize.SL.Sem

namespace Cert.RefMemIdeal.At

open Cert.RefMemIdeal Cert.RefMemIdeal.Gen Cert.RefMemIdeal.Read Cert.MemMath

variable (q g : Vec Ideal S4096x2048 .bf16) (kv : Vec Ideal S256x4096 .bf16) (h : Fin 4) (r : Fin 4096) (m : Fin 256) (d : Fin 512)

/-- The scores. -/
theorem v9_at : val_main_v9 (F := Ideal) q kv (ix3 h r m) = S q kv r h m := by
  pointwise [val_main_v9, val_main_v8, val_main_v7, val_main_v5, val_main_v4, val_main_v2, val_main_v1, val_main_v0, val_main_cst]
  unfold S score
  congr 1
  refine Finset.sum_congr rfl fun d _ => ?_
  congr 1 <;> exact at_col _ _ (by dsimp only; omega)

/-- The one index of a value of no axes. -/
theorem first_eq : Shape.Idx.first h_S_ = ix0 := funext fun a => a.elim0

/-- The greatest element along the last axis, at an index. -/
theorem max_at (x : FVec Ideal S4x4096x256 .f32) (init : FVec Ideal S_ .f32) :
    Host.reduce FloatOps.maximumf x init reducesTo_S4x4096x256_S4x4096_d2 h_S_ (ix2 h r)
      = (Finset.univ : Finset (Fin 256)).fold max (init ix0) (fun k => x (ix3 h r k)) := by
  pointwise
  rw [first_eq]

/-- The greatest score of a row. -/
theorem v10_at : val_main_v10 (F := Ideal) q kv (ix2 h r) = top (S q kv r h) := by
  rw [val_main_v10, max_at]
  simp only [v9_at]
  rfl

/-- The greatest score of a row, against −∞. -/
theorem v17_at : val_main_v17 (F := Ideal) q kv (ix2 h r) = top (S q kv r h) := by
  refine (val_main_v17_apply ..).trans ?_
  rw [v10_at]
  exact max_eq_right bot_le

/-- The exponentials. -/
theorem v30_at : val_main_v30 (F := Ideal) q kv (ix3 h r m) = ex (S q kv r h) m := by
  pointwise [val_main_v30, val_main_v29, val_main_v28, val_main_v27]
  rw [v9_at, v17_at]
  rfl

/-- The sum of a row's exponentials. -/
theorem v31_at : val_main_v31 (F := Ideal) q kv (ix2 h r) = tot (S q kv r h) := by
  rw [val_main_v31]
  pointwise [val_main_cst_8]
  simp only [v30_at]
  rfl

/-- The softmax. -/
theorem v34_at : val_main_v34 (F := Ideal) q kv (ix3 h r m) = prob (S q kv r h) m := by
  pointwise [val_main_v34, val_main_v33, val_main_v32]
  rw [v30_at, v31_at]
  rfl

/-- The gradient of the softmax. -/
theorem v44_at : val_main_v44 (F := Ideal) kv g (ix3 h r m) = G g kv r h m := by
  pointwise [val_main_v44, val_main_v43, val_main_v42, val_main_v41, val_main_v6, val_main_v3, val_main_v1]
  unfold G dprob
  refine Finset.sum_congr rfl fun d _ => ?_
  congr 1 <;> exact at_col _ _ (by dsimp only; omega)

/-- The gradient of the scores. -/
theorem v60_at : val_main_v60 (F := Ideal) q kv g (ix3 h r m) = dscoreRef (S q kv r h) (G g kv r h) m := by
  pointwise [val_main_v60, val_main_v59, val_main_v58, val_main_v57, val_main_v56, val_main_v55, val_main_v54, val_main_v53, val_main_v52, val_main_v51, val_main_v50,
    val_main_v49, val_main_v48, val_main_v47, val_main_v37, val_main_v36, val_main_v35, val_main_v32]
  simp only [v44_at, v30_at, v31_at]
  have h11 : val_main_cst_11 (F := Ideal) (Shape.Idx.first h_S_) = 0 := Ideal.ofBits_zero_f32
  have h10 : val_main_cst_10 (F := Ideal) (Shape.Idx.first h_S_) = 0 := Ideal.ofBits_zero_f32
  have h9 : val_main_cst_9 (F := Ideal) ix0 = 1 := Ideal.ofBits_one_f32
  rw [h9, h10, h11]
  simp only [zero_add, Finset.univ_unique, Finset.sum_singleton]
  rfl

/-- The gradient of the queries. -/
theorem v69_at (j : Fin 2048) : val_main_v69 (F := Ideal) q kv g (ix2 r j)
    = ∑ m, dscoreRef (S q kv r ⟨j.val / 512, by omega⟩) (G g kv r ⟨j.val / 512, by omega⟩) m * kv (ix2 m ⟨j.val, by omega⟩) := by
  pointwise [val_main_v69, val_main_v67, val_main_v64, val_main_v63, val_main_v5, val_main_v2, val_main_v1]
  simp only [v60_at]

/-- The gradient of the memory: the keys' half and the values' half. -/
theorem v68_at (j : Fin 4096) : val_main_v68 (F := Ideal) q kv g (ix2 m j)
    = if e : j.val < 2048 then
        ∑ r, dscoreRef (S q kv r ⟨j.val / 512, by omega⟩) (G g kv r ⟨j.val / 512, by omega⟩) m * q (ix2 r ⟨j.val, e⟩)
      else ∑ r, prob (S q kv r ⟨(j.val - 2048) / 512, by omega⟩) m * g (ix2 r ⟨j.val - 2048, by omega⟩) := by
  rw [val_main_v68]
  pointwise
  split
  · pointwise [val_main_v66, val_main_v62, val_main_v61, val_main_v4, val_main_v0]
    simp only [v60_at]
    refine Finset.sum_congr rfl fun x _ => ?_
    congr 1
    exact at_col _ _ (by dsimp only; omega)
  · pointwise [val_main_v65, val_main_v46, val_main_v45, val_main_v43, val_main_v42, val_main_v41]
    simp only [v34_at]
    refine Finset.sum_congr rfl fun x _ => ?_
    rw [mul_comm]
    congr 1
    exact at_col _ _ (by dsimp only; omega)

end Cert.RefMemIdeal.At

end
-- ==== Proof.MemClaim.lean ====
module

public import proofs.«01_k».proof.Defs
public import proofs.«01_k».proof.Proof.MemArray
public import proofs.«01_k».proof.Proof.MemRefer
public import proofs.«01_k».proof.Proof.MemEq
public import proofs.«01_k».proof.Proof.Gen.Mem.Frame
public import proofs.«01_k».proof.Proof.Gen.MemIdeal.Value
public import proofs.«01_k».proof.Proof.Gen.RefMemIdeal.Run
public import Idealize.ShloMosaic.Lib.Quiescent

/-! The claims of the memory attention's gradient: the reference's frame, and the kernel's two results against the
reference's. -/

@[expose] public section

set_option maxRecDepth 16384

noncomputable section

namespace Cert.MemClaim

open Idealize.ShloMosaic Idealize.ShloMosaic.TcCoe Idealize.SL.Sem Cert.MemMath

/-- The shape facts of the precondition. -/
instance preFacts : Cert.Pre_scores_finite.Facts where
  slices_S256x4096_S256x2048_0_0 := by decide
  bitsLt_bf16_f32 := by decide
  bcast_S_S4096x2048 := by decide
  bcast_S_S256x2048 := by decide

/-- The reference runs, leaves its arguments alone and every counter at zero. -/
theorem frameRef : Cert.quiescent_RefMemIdeal := fun m g _ =>
  (θ_run Cert.RefMemIdeal.defs _ _).mono (fun r h => ⟨fun c => (h c).2.2, sem_eq_zero_of_no_sems rfl _⟩) (Cert.RefMemIdeal.Value.run m g)

/-- Row by row the reference's gradient of the scores is the kernel's, for real queries and keys. -/
theorem ds_eq {q g : (⟨2, ![4096, 2048]⟩ : Shape).Idx → EReal} {kv : (⟨2, ![256, 4096]⟩ : Shape).Idx → EReal}
    (hq : ∀ r j, ∃ a : ℝ, q (ix2 r j) = a) (hk : ∀ m (j : Fin 2048), ∃ a : ℝ, kv (ix2 m ⟨j.val, by omega⟩) = a) (r : Fin 4096) (h : Fin 4) (m : Fin 256) :
    dscoreRef (S q kv r h) (G g kv r h) m = dscore (S q kv r h) (G g kv r h) m :=
  dscoreRef_eq (score_real _ _ (fun d => hq r (hd h d)) fun m d => hk m (hd h d)) _ _

/-- The kernel's two results are the reference's. -/
theorem value : Cert.algebraic_MemIdeal_RefMemIdeal_pre_scores_finite := by
  intro m g m' g' hpre hargs
  have hq := fun c => pre_q (hpre c).1
  have hk := fun c => pre_k (hpre c).2
  refine ⟨fun c => (Cert.MemIdeal.Gen.dats m 0 c).arrAt 3 Cert.MemIdeal.cfg0.N, fun c => (Cert.MemIdeal.Gen.dats m 0 c).arrAt 4 Cert.MemIdeal.cfg0.N,
    Cert.MemIdeal.Value.run_blocks m g, ?_⟩
  refine (θ_run Cert.RefMemIdeal.defs _ _).mono (fun r h c => ?_) (Cert.RefMemIdeal.Value.run m' g')
  obtain ⟨h0, h1, h2, h3, h4⟩ := h c
  obtain ⟨a0, a1, a2⟩ := hargs c
  refine ⟨h0.trans ?_, h1.trans ?_, h2, h3, h4⟩
  · rw [Cert.RefMemIdeal.Read.val_main_v69_eq, a0, a1, a2]
    refine Eq.trans ?_ (Cert.MemIdeal.Block.array3 m c).symm
    funext i
    obtain ⟨r, j, rfl⟩ : ∃ r j, i = ix2 r j := ⟨i 0, i 1, eq_ix2 i⟩
    rw [Cert.RefMemIdeal.At.v69_at]
    exact Finset.sum_congr rfl fun k _ => congrArg (· * _) (ds_eq (hq c) (hk c) ..)
  · rw [Cert.RefMemIdeal.Read.val_main_v68_eq, a0, a1, a2]
    refine Eq.trans ?_ (Cert.MemIdeal.Block.array4 m c).symm
    funext i
    obtain ⟨k, j, rfl⟩ : ∃ r j, i = ix2 r j := ⟨i 0, i 1, eq_ix2 i⟩
    rw [Cert.RefMemIdeal.At.v68_at]
    split
    next e => exact Finset.sum_congr rfl fun r _ => (congrArg (· * _) (ds_eq (hq c) (hk c) ..)).trans (dkv_lt _ _ _ _ _ _ e).symm
    next e => exact Finset.sum_congr rfl fun r _ => (dkv_ge _ _ _ _ _ _ e).symm

end Cert.MemClaim

end
-- ==== Proof.lean ====
module

public import proofs.«01_k».proof.Defs
public import proofs.«01_k».proof.Proof.Gen.Mem
public import proofs.«01_k».proof.Proof.Gen.Mem.Skeleton
public import proofs.«01_k».proof.Proof.Gen.Mem.Launch
public import proofs.«01_k».proof.Proof.Gen.Mem.Points
public import proofs.«01_k».proof.Proof.Gen.Mem.Frame
public import proofs.«01_k».proof.Proof.Gen.MemIdeal
public import proofs.«01_k».proof.Proof.Gen.MemIdeal.Skeleton
public import proofs.«01_k».proof.Proof.Gen.MemIdeal.Launch
public import proofs.«01_k».proof.Proof.Gen.MemIdeal.Points
public import proofs.«01_k».proof.Proof.Gen.MemIdeal.Frame
public import proofs.«01_k».proof.Proof.Gen.RefMemIdeal
public import proofs.«01_k».proof.Proof.Gen.MemIdeal.Value
public import proofs.«01_k».proof.Proof.Gen.RefMemIdeal.Run
public import proofs.«01_k».proof.Proof.Gen.RefMemIdeal.Read
public import proofs.«01_k».proof.Proof.Gen.DwDown.Frame
public import proofs.«01_k».proof.Proof.Gen.DwDownIdeal.Frame
public import proofs.«01_k».proof.Proof.Gen.DwDownIdeal.Value
public import proofs.«01_k».proof.Proof.Gen.RefDwDownIdeal.Run
public import proofs.«01_k».proof.Proof.Gen.RefDwDownIdeal.Read
public import proofs.«01_k».proof.Proof.Gen.DwUp.Frame
public import proofs.«01_k».proof.Proof.Gen.DwUpIdeal.Frame
public import proofs.«01_k».proof.Proof.Gen.DwUpIdeal.Value
public import proofs.«01_k».proof.Proof.Gen.RefDwUpIdeal.Run
public import proofs.«01_k».proof.Proof.Gen.RefDwUpIdeal.Read
public import proofs.«01_k».proof.Proof.Gen.DwSq.Frame
public import proofs.«01_k».proof.Proof.Gen.DwSqIdeal.Frame
public import proofs.«01_k».proof.Proof.Gen.DwSqIdeal.Value
public import proofs.«01_k».proof.Proof.Gen.RefDwSqIdeal.Run
public import proofs.«01_k».proof.Proof.Gen.RefDwSqIdeal.Read
public import proofs.«01_k».proof.Proof.Gen.DwMkv.Frame
public import proofs.«01_k».proof.Proof.Gen.DwMkvIdeal.Frame
public import proofs.«01_k».proof.Proof.Gen.DwMkvIdeal.Value
public import proofs.«01_k».proof.Proof.Gen.RefDwMkvIdeal.Run
public import proofs.«01_k».proof.Proof.Gen.RefDwMkvIdeal.Read
public import proofs.«01_k».proof.Proof.Gen.DwIn.Frame
public import proofs.«01_k».proof.Proof.Gen.DwInIdeal.Frame
public import proofs.«01_k».proof.Proof.Gen.DwInIdeal.Value
public import proofs.«01_k».proof.Proof.Gen.RefDwInIdeal.Run
public import proofs.«01_k».proof.Proof.Gen.RefDwInIdeal.Read
public import proofs.«01_k».proof.Proof.Gen.Du.Frame
public import proofs.«01_k».proof.Proof.Gen.DuIdeal.Frame
public import proofs.«01_k».proof.Proof.Gen.DuIdeal.Value
public import proofs.«01_k».proof.Proof.Gen.RefDuIdeal.Run
public import proofs.«01_k».proof.Proof.Gen.RefDuIdeal.Read
public import proofs.«01_k».proof.Proof.Gen.Do.Frame
public import proofs.«01_k».proof.Proof.Gen.DoIdeal.Frame
public import proofs.«01_k».proof.Proof.Gen.DoIdeal.Value
public import proofs.«01_k».proof.Proof.Gen.RefDoIdeal.Run
public import proofs.«01_k».proof.Proof.Gen.RefDoIdeal.Read
public import proofs.«01_k».proof.Proof.Gen.Dymix.Frame
public import proofs.«01_k».proof.Proof.Gen.DymixIdeal.Frame
public import proofs.«01_k».proof.Proof.Gen.DymixIdeal.Value
public import proofs.«01_k».proof.Proof.Gen.RefDymixIdeal.Run
public import proofs.«01_k».proof.Proof.Gen.RefDymixIdeal.Read
public import proofs.«01_k».proof.Proof.Gen.Dx1.Frame
public import proofs.«01_k».proof.Proof.Gen.Dx1Ideal.Frame
public import proofs.«01_k».proof.Proof.Gen.Dx1Ideal.Value
public import proofs.«01_k».proof.Proof.Gen.RefDx1Ideal.Run
public import proofs.«01_k».proof.Proof.Gen.RefDx1Ideal.Read
public import proofs.«01_k».proof.Proof.Gen.Dx2.Frame
public import proofs.«01_k».proof.Proof.Gen.Dx2Ideal.Frame
public import proofs.«01_k».proof.Proof.Gen.Dx2Ideal.Value
public import proofs.«01_k».proof.Proof.Gen.RefDx2Ideal.Run
public import proofs.«01_k».proof.Proof.Gen.RefDx2Ideal.Read
public import proofs.«01_k».proof.Proof.Gen.Dx0.Frame
public import proofs.«01_k».proof.Proof.Gen.Dx0Ideal.Frame
public import proofs.«01_k».proof.Proof.Gen.Dx0Ideal.Value
public import proofs.«01_k».proof.Proof.Gen.RefDx0Ideal.Run
public import proofs.«01_k».proof.Proof.Gen.RefDx0Ideal.Read
public import proofs.«01_k».proof.Proof.OfDwDown
public import proofs.«01_k».proof.Proof.OfDwUp
public import proofs.«01_k».proof.Proof.OfDwSq
public import proofs.«01_k».proof.Proof.OfDwMkv
public import proofs.«01_k».proof.Proof.OfDwIn
public import proofs.«01_k».proof.Proof.OfDu
public import proofs.«01_k».proof.Proof.OfDo
public import proofs.«01_k».proof.Proof.OfDymix
public import proofs.«01_k».proof.Proof.OfDx1
public import proofs.«01_k».proof.Proof.OfDx2
public import proofs.«01_k».proof.Proof.OfDx0
public import proofs.«01_k».proof.Proof.Gen.Hin.Frame
public import proofs.«01_k».proof.Proof.Gen.HinIdeal.Frame
public import proofs.«01_k».proof.Proof.Gen.HinIdeal.Value
public import proofs.«01_k».proof.Proof.Gen.RefHinIdeal.Run
public import proofs.«01_k».proof.Proof.Gen.RefHinIdeal.Read
public import proofs.«01_k».proof.Proof.OfHin
public import proofs.«01_k».proof.Proof.Gen.Mq.Frame
public import proofs.«01_k».proof.Proof.Gen.MqIdeal.Frame
public import proofs.«01_k».proof.Proof.Gen.MqIdeal.Value
public import proofs.«01_k».proof.Proof.Gen.RefMqIdeal.Run
public import proofs.«01_k».proof.Proof.Gen.RefMqIdeal.Read
public import proofs.«01_k».proof.Proof.OfMq
public import proofs.«01_k».proof.Proof.Gen.Mkv.Frame
public import proofs.«01_k».proof.Proof.Gen.MkvIdeal.Frame
public import proofs.«01_k».proof.Proof.Gen.MkvIdeal.Value
public import proofs.«01_k».proof.Proof.Gen.RefMkvIdeal.Run
public import proofs.«01_k».proof.Proof.Gen.RefMkvIdeal.Read
public import proofs.«01_k».proof.Proof.OfMkv
public import proofs.«01_k».proof.Proof.Gen.Up.Frame
public import proofs.«01_k».proof.Proof.Gen.UpIdeal.Frame
public import proofs.«01_k».proof.Proof.Gen.UpIdeal.Value
public import proofs.«01_k».proof.Proof.Gen.RefUpIdeal.Run
public import proofs.«01_k».proof.Proof.Gen.RefUpIdeal.Read
public import proofs.«01_k».proof.Proof.OfUp
public import proofs.«01_k».proof.Proof.Gen.OutLn.Frame
public import proofs.«01_k».proof.Proof.Gen.OutLnIdeal.Frame
public import proofs.«01_k».proof.Proof.Gen.OutLnIdeal.Value
public import proofs.«01_k».proof.Proof.Gen.RefOutLnIdeal.Run
public import proofs.«01_k».proof.Proof.Gen.RefOutLnIdeal.Read
public import proofs.«01_k».proof.Proof.OfOutLn
public import proofs.«01_k».proof.Proof.Gen.DownLn.Frame
public import proofs.«01_k».proof.Proof.Gen.DownLnIdeal.Frame
public import proofs.«01_k».proof.Proof.Gen.DownLnIdeal.Value
public import proofs.«01_k».proof.Proof.Gen.RefDownLnIdeal.Run
public import proofs.«01_k».proof.Proof.Gen.RefDownLnIdeal.Read
public import proofs.«01_k».proof.Proof.OfDownLn
public import proofs.«01_k».proof.Proof.Gen.MemFwd.Frame
public import proofs.«01_k».proof.Proof.Gen.MemFwdIdeal.Frame
public import proofs.«01_k».proof.Proof.Gen.MemFwdIdeal.Value
public import proofs.«01_k».proof.Proof.Gen.RefMemFwdIdeal.Run
public import proofs.«01_k».proof.Proof.Gen.RefMemFwdIdeal.Read
public import proofs.«01_k».proof.Proof.OfMemFwd
public import proofs.«01_k».proof.Proof.Gen.Rms.Frame
public import proofs.«01_k».proof.Proof.Gen.RmsIdeal.Frame
public import proofs.«01_k».proof.Proof.Gen.RmsIdeal.Value
public import proofs.«01_k».proof.Proof.Gen.RefRmsIdeal.Run
public import proofs.«01_k».proof.Proof.Gen.RefRmsIdeal.Read
public import proofs.«01_k».proof.Proof.OfRms
public import proofs.«01_k».proof.Proof.Gen.LnGrad.Frame
public import proofs.«01_k».proof.Proof.Gen.LnGradIdeal.Frame
public import proofs.«01_k».proof.Proof.Gen.LnGradIdeal.Value
public import proofs.«01_k».proof.Proof.Gen.RefLnGradIdeal.Run
public import proofs.«01_k».proof.Proof.Gen.RefLnGradIdeal.Read
public import proofs.«01_k».proof.Proof.OfLnGrad
public import proofs.«01_k».proof.Proof.Gen.RmsGrad.Frame
public import proofs.«01_k».proof.Proof.Gen.RmsGradIdeal.Frame
public import proofs.«01_k».proof.Proof.Gen.RmsGradIdeal.Value
public import proofs.«01_k».proof.Proof.Gen.RefRmsGradIdeal.Run
public import proofs.«01_k».proof.Proof.Gen.RefRmsGradIdeal.Read
public import proofs.«01_k».proof.Proof.OfRmsGrad
public import proofs.«01_k».proof.Proof.Gen.Loss.Frame
public import proofs.«01_k».proof.Proof.Gen.LossIdeal.Frame
public import proofs.«01_k».proof.Proof.Gen.LossIdeal.Value
public import proofs.«01_k».proof.Proof.Gen.RefLossIdeal.Run
public import proofs.«01_k».proof.Proof.Gen.RefLossIdeal.Read
public import proofs.«01_k».proof.Proof.OfLoss
public import proofs.«01_k».proof.Proof.OfLossSum
public import proofs.«01_k».proof.Proof.OfLossAll
public import proofs.«01_k».proof.Proof.OfRmsGains
public import proofs.«01_k».proof.Proof.OfLnGains
public import proofs.«01_k».proof.Proof.Gen.LossSum.Frame
public import proofs.«01_k».proof.Proof.Gen.AdamIn.Frame
public import proofs.«01_k».proof.Proof.Gen.AdamInIdeal.Frame
public import proofs.«01_k».proof.Proof.Gen.AdamInIdeal.Value
public import proofs.«01_k».proof.Proof.Gen.RefAdamInIdeal.Run
public import proofs.«01_k».proof.Proof.Gen.RefAdamInIdeal.Read
public import proofs.«01_k».proof.Proof.OfAdamIn
public import proofs.«01_k».proof.Proof.Gen.AdamSq.Frame
public import proofs.«01_k».proof.Proof.Gen.AdamSqIdeal.Frame
public import proofs.«01_k».proof.Proof.Gen.AdamSqIdeal.Value
public import proofs.«01_k».proof.Proof.Gen.RefAdamSqIdeal.Run
public import proofs.«01_k».proof.Proof.Gen.RefAdamSqIdeal.Read
public import proofs.«01_k».proof.Proof.OfAdamSq
public import proofs.«01_k».proof.Proof.Gen.AdamMkv.Frame
public import proofs.«01_k».proof.Proof.Gen.AdamMkvIdeal.Frame
public import proofs.«01_k».proof.Proof.Gen.AdamMkvIdeal.Value
public import proofs.«01_k».proof.Proof.Gen.RefAdamMkvIdeal.Run
public import proofs.«01_k».proof.Proof.Gen.RefAdamMkvIdeal.Read
public import proofs.«01_k».proof.Proof.OfAdamMkv
public import proofs.«01_k».proof.Proof.Gen.AdamUp.Frame
public import proofs.«01_k».proof.Proof.Gen.AdamUpIdeal.Frame
public import proofs.«01_k».proof.Proof.Gen.AdamUpIdeal.Value
public import proofs.«01_k».proof.Proof.Gen.RefAdamUpIdeal.Run
public import proofs.«01_k».proof.Proof.Gen.RefAdamUpIdeal.Read
public import proofs.«01_k».proof.Proof.OfAdamUp
public import proofs.«01_k».proof.Proof.Gen.AdamSmall.Frame
public import proofs.«01_k».proof.Proof.Gen.AdamSmallIdeal.Frame
public import proofs.«01_k».proof.Proof.Gen.AdamSmallIdeal.Value
public import proofs.«01_k».proof.Proof.Gen.RefAdamSmallIdeal.Run
public import proofs.«01_k».proof.Proof.Gen.RefAdamSmallIdeal.Read
public import proofs.«01_k».proof.Proof.OfAdamSmall
public import proofs.«01_k».proof.Proof.OfWindow
public import proofs.«01_k».proof.Proof.Gen.Window.Frame
public import proofs.«01_k».proof.Proof.Gen.WindowIdeal.Frame
public import proofs.«01_k».proof.Proof.Gen.WindowIdeal.Value
public import proofs.«01_k».proof.Proof.Gen.RefWindowIdeal.Run
public import proofs.«01_k».proof.Proof.Gen.RefWindowIdeal.Read
public import proofs.«01_k».proof.Proof.MemClaim
public import Idealize.ShloMosaic.Adequacy
public import Idealize.ShloMosaic.Init

@[expose] public section

noncomputable section

namespace Cert.Proof

open Idealize.ShloMosaic Idealize.SL.Sem Cert.Mem

theorem claim : Cert.Claim :=
  ⟨Cert.Mem.Gen.facts, Cert.MemIdeal.Gen.facts, Cert.RefMemIdeal.Gen.facts,
    Cert.DwDown.Gen.facts, Cert.DwDownIdeal.Gen.facts, Cert.RefDwDownIdeal.Gen.facts,
    Cert.DwUp.Gen.facts, Cert.DwUpIdeal.Gen.facts, Cert.RefDwUpIdeal.Gen.facts,
    Cert.DwSq.Gen.facts, Cert.DwSqIdeal.Gen.facts, Cert.RefDwSqIdeal.Gen.facts,
    Cert.DwMkv.Gen.facts, Cert.DwMkvIdeal.Gen.facts, Cert.RefDwMkvIdeal.Gen.facts,
    Cert.DwIn.Gen.facts, Cert.DwInIdeal.Gen.facts, Cert.RefDwInIdeal.Gen.facts,
    Cert.Du.Gen.facts, Cert.DuIdeal.Gen.facts, Cert.RefDuIdeal.Gen.facts,
    Cert.Do.Gen.facts, Cert.DoIdeal.Gen.facts, Cert.RefDoIdeal.Gen.facts,
    Cert.Dymix.Gen.facts, Cert.DymixIdeal.Gen.facts, Cert.RefDymixIdeal.Gen.facts,
    Cert.Dx1.Gen.facts, Cert.Dx1Ideal.Gen.facts, Cert.RefDx1Ideal.Gen.facts,
    Cert.Dx2.Gen.facts, Cert.Dx2Ideal.Gen.facts, Cert.RefDx2Ideal.Gen.facts,
    Cert.Dx0.Gen.facts, Cert.Dx0Ideal.Gen.facts, Cert.RefDx0Ideal.Gen.facts,
    Cert.Hin.Gen.facts, Cert.HinIdeal.Gen.facts, Cert.RefHinIdeal.Gen.facts,
    Cert.Mq.Gen.facts, Cert.MqIdeal.Gen.facts, Cert.RefMqIdeal.Gen.facts,
    Cert.Mkv.Gen.facts, Cert.MkvIdeal.Gen.facts, Cert.RefMkvIdeal.Gen.facts,
    Cert.Up.Gen.facts, Cert.UpIdeal.Gen.facts, Cert.RefUpIdeal.Gen.facts,
    Cert.OutLn.Gen.facts, Cert.OutLnIdeal.Gen.facts, Cert.RefOutLnIdeal.Gen.facts,
    Cert.DownLn.Gen.facts, Cert.DownLnIdeal.Gen.facts, Cert.RefDownLnIdeal.Gen.facts,
    Cert.MemFwd.Gen.facts, Cert.MemFwdIdeal.Gen.facts, Cert.RefMemFwdIdeal.Gen.facts,
    Cert.Rms.Gen.facts, Cert.RmsIdeal.Gen.facts, Cert.RefRmsIdeal.Gen.facts,
    Cert.LnGrad.Gen.facts, Cert.LnGradIdeal.Gen.facts, Cert.RefLnGradIdeal.Gen.facts,
    Cert.RmsGrad.Gen.facts, Cert.RmsGradIdeal.Gen.facts, Cert.RefRmsGradIdeal.Gen.facts,
    Cert.Loss.Gen.facts, Cert.LossIdeal.Gen.facts, Cert.RefLossIdeal.Gen.facts,
    Cert.AdamIn.Gen.facts, Cert.AdamInIdeal.Gen.facts, Cert.RefAdamInIdeal.Gen.facts,
    Cert.AdamSq.Gen.facts, Cert.AdamSqIdeal.Gen.facts, Cert.RefAdamSqIdeal.Gen.facts,
    Cert.AdamMkv.Gen.facts, Cert.AdamMkvIdeal.Gen.facts, Cert.RefAdamMkvIdeal.Gen.facts,
    Cert.AdamUp.Gen.facts, Cert.AdamUpIdeal.Gen.facts, Cert.RefAdamUpIdeal.Gen.facts,
    Cert.AdamSmall.Gen.facts, Cert.AdamSmallIdeal.Gen.facts, Cert.RefAdamSmallIdeal.Gen.facts,
    Cert.Window.Gen.facts, Cert.WindowIdeal.Gen.facts, Cert.RefWindowIdeal.Gen.facts,
    Cert.LossSum.Gen.facts, Cert.LossSumIdeal.Gen.facts, Cert.RefLossSumIdeal.Gen.facts,
    Cert.LossAll.Gen.facts, Cert.LossAllIdeal.Gen.facts, Cert.RefLossAllIdeal.Gen.facts,
    Cert.LnGains.Gen.facts, Cert.LnGainsIdeal.Gen.facts, Cert.RefLnGainsIdeal.Gen.facts,
    Cert.RmsGains.Gen.facts, Cert.RmsGainsIdeal.Gen.facts, Cert.RefRmsGainsIdeal.Gen.facts,
    Cert.MemClaim.preFacts, Cert.OfLnGrad.preFacts,
    fun m g _ => Cert.Mem.Gen.frame m g, fun m g _ => Cert.MemIdeal.Gen.frame m g, fun m g _ => Cert.MemIdeal.Gen.frame m g,
    Cert.MemClaim.frameRef, fun m g _ => Cert.MemClaim.frameRef m g trivial,
    fun m g _ => Cert.DwDown.Gen.frame m g, fun m g _ => Cert.DwDownIdeal.Gen.frame m g, Cert.OfDwDown.frameRef,
    fun m g _ => Cert.DwUp.Gen.frame m g, fun m g _ => Cert.DwUpIdeal.Gen.frame m g, Cert.OfDwUp.frameRef,
    fun m g _ => Cert.DwSq.Gen.frame m g, fun m g _ => Cert.DwSqIdeal.Gen.frame m g, Cert.OfDwSq.frameRef,
    fun m g _ => Cert.DwMkv.Gen.frame m g, fun m g _ => Cert.DwMkvIdeal.Gen.frame m g, Cert.OfDwMkv.frameRef,
    fun m g _ => Cert.DwIn.Gen.frame m g, fun m g _ => Cert.DwInIdeal.Gen.frame m g, Cert.OfDwIn.frameRef,
    fun m g _ => Cert.Du.Gen.frame m g, fun m g _ => Cert.DuIdeal.Gen.frame m g, Cert.OfDu.frameRef,
    fun m g _ => Cert.Do.Gen.frame m g, fun m g _ => Cert.DoIdeal.Gen.frame m g, Cert.OfDo.frameRef,
    fun m g _ => Cert.Dymix.Gen.frame m g, fun m g _ => Cert.DymixIdeal.Gen.frame m g, Cert.OfDymix.frameRef,
    fun m g _ => Cert.Dx1.Gen.frame m g, fun m g _ => Cert.Dx1Ideal.Gen.frame m g, Cert.OfDx1.frameRef,
    fun m g _ => Cert.Dx2.Gen.frame m g, fun m g _ => Cert.Dx2Ideal.Gen.frame m g, Cert.OfDx2.frameRef,
    fun m g _ => Cert.Dx0.Gen.frame m g, fun m g _ => Cert.Dx0Ideal.Gen.frame m g, Cert.OfDx0.frameRef,
    fun m g _ => Cert.Hin.Gen.frame m g, fun m g _ => Cert.HinIdeal.Gen.frame m g, Cert.OfHin.frameRef,
    fun m g _ => Cert.Mq.Gen.frame m g, fun m g _ => Cert.MqIdeal.Gen.frame m g, Cert.OfMq.frameRef,
    fun m g _ => Cert.Mkv.Gen.frame m g, fun m g _ => Cert.MkvIdeal.Gen.frame m g, Cert.OfMkv.frameRef,
    fun m g _ => Cert.Up.Gen.frame m g, fun m g _ => Cert.UpIdeal.Gen.frame m g, Cert.OfUp.frameRef,
    fun m g _ => Cert.OutLn.Gen.frame m g, fun m g _ => Cert.OutLnIdeal.Gen.frame m g, Cert.OfOutLn.frameRef,
    fun m g _ => Cert.DownLn.Gen.frame m g, fun m g _ => Cert.DownLnIdeal.Gen.frame m g, Cert.OfDownLn.frameRef,
    fun m g _ => Cert.MemFwd.Gen.frame m g, fun m g _ => Cert.MemFwdIdeal.Gen.frame m g, Cert.OfMemFwd.frameRef,
    fun m g _ => Cert.Rms.Gen.frame m g, fun m g _ => Cert.RmsIdeal.Gen.frame m g, Cert.OfRms.frameRef,
    fun m g _ => Cert.LnGrad.Gen.frame m g, fun m g _ => Cert.LnGradIdeal.Gen.frame m g, fun m g _ => Cert.LnGradIdeal.Gen.frame m g,
    Cert.OfLnGrad.frameRef, fun m g _ => Cert.OfLnGrad.frameRef m g trivial,
    fun m g _ => Cert.RmsGrad.Gen.frame m g, fun m g _ => Cert.RmsGradIdeal.Gen.frame m g, Cert.OfRmsGrad.frameRef,
    fun m g _ => Cert.Loss.Gen.frame m g, fun m g _ => Cert.LossIdeal.Gen.frame m g, Cert.OfLoss.frameRef,
    fun m g _ => Cert.AdamIn.Gen.frame m g, fun m g _ => Cert.AdamInIdeal.Gen.frame m g, Cert.OfAdamIn.frameRef,
    fun m g _ => Cert.AdamSq.Gen.frame m g, fun m g _ => Cert.AdamSqIdeal.Gen.frame m g, Cert.OfAdamSq.frameRef,
    fun m g _ => Cert.AdamMkv.Gen.frame m g, fun m g _ => Cert.AdamMkvIdeal.Gen.frame m g, Cert.OfAdamMkv.frameRef,
    fun m g _ => Cert.AdamUp.Gen.frame m g, fun m g _ => Cert.AdamUpIdeal.Gen.frame m g, Cert.OfAdamUp.frameRef,
    fun m g _ => Cert.AdamSmall.Gen.frame m g, fun m g _ => Cert.AdamSmallIdeal.Gen.frame m g, Cert.OfAdamSmall.frameRef,
    fun m g _ => Cert.Window.Gen.frame m g, fun m g _ => Cert.WindowIdeal.Gen.frame m g, Cert.OfWindow.frameRef,
    fun m g _ => Cert.LossSum.Gen.frame m g, fun m g _ => Cert.LossSumIdeal.Gen.frame m g, Cert.OfLossSum.frameRef,
    Cert.OfLossAll.frame, Cert.OfLossAll.frameIdeal, Cert.OfLossAll.frameRef,
    fun m g _ => Cert.LnGains.Gen.frame m g, fun m g _ => Cert.LnGainsIdeal.Gen.frame m g, Cert.OfLnGains.frameRef,
    fun m g _ => Cert.RmsGains.Gen.frame m g, fun m g _ => Cert.RmsGainsIdeal.Gen.frame m g, Cert.OfRmsGains.frameRef,
    trivial, Cert.MemClaim.value,
    trivial, Cert.OfDwDown.value,
    trivial, Cert.OfDwUp.value,
    trivial, Cert.OfDwSq.value,
    trivial, Cert.OfDwMkv.value,
    trivial, Cert.OfDwIn.value,
    trivial, Cert.OfDu.value,
    trivial, Cert.OfDo.value,
    trivial, Cert.OfDymix.value,
    trivial, Cert.OfDx1.value,
    trivial, Cert.OfDx2.value,
    trivial, Cert.OfDx0.value,
    trivial, Cert.OfHin.value,
    trivial, Cert.OfMq.value,
    trivial, Cert.OfMkv.value,
    trivial, Cert.OfUp.value,
    trivial, Cert.OfOutLn.value,
    trivial, Cert.OfDownLn.value,
    trivial, Cert.OfMemFwd.value,
    trivial, Cert.OfRms.value,
    trivial, Cert.OfLnGrad.value,
    trivial, Cert.OfRmsGrad.value,
    trivial, Cert.OfLoss.value,
    Cert.OfAdamIn.preserves, Cert.OfAdamIn.value,
    Cert.OfAdamSq.preserves, Cert.OfAdamSq.value,
    Cert.OfAdamMkv.preserves, Cert.OfAdamMkv.value,
    Cert.OfAdamUp.preserves, Cert.OfAdamUp.value,
    Cert.OfAdamSmall.preserves, Cert.OfAdamSmall.value,
    Cert.OfWindow.preserves, Cert.OfWindow.value,
    trivial, Cert.OfLossSum.value,
    trivial, Cert.OfLossAll.value,
    trivial, Cert.OfLnGains.value,
    trivial, Cert.OfRmsGains.value⟩

end Cert.Proof

end
